-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_gradient_lanes_pre_finite [hKernelIdeal : Cert.KernelIdeal.Facts] [hReferenceIdeal : Cert.ReferenceIdeal.Facts] [hPre_finite : Cert.Pre_finite.Facts] [hOn_gradient_lanes : Cert.On_gradient_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v108_0)) (v1 : (c : Dev Cert.KernelIdeal.nD) → Buf (Elt Ideal) ((c.tc : Thread Cert.KernelIdeal.nD Cert.KernelIdeal.τ).loc Cert.KernelIdeal.main_v108_1)) (v2 : (c : Dev Cert.KernelIdeal.nD) → Buf (Elt Ideal) ((c.tc : Thread Cert.KernelIdeal.nD Cert.KernelIdeal.τ).loc Cert.KernelIdeal.main_v108_2)) (v3 : (c : Dev Cert.KernelIdeal.nD) → Buf (Elt Ideal) ((c.tc : Thread Cert.KernelIdeal.nD Cert.KernelIdeal.τ).loc Cert.KernelIdeal.main_v108_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 128, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v108_0) i = v0 c i)
          ∧ (∀ i : (⟨3, ![8, 128, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v108_1) i = v1 c i)
          ∧ (∀ i : (⟨3, ![8, 128, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v108_2) i = v2 c i)
          ∧ (∀ i : (⟨3, ![8, 1, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v108_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 128, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v96) i = v0 c i)
          ∧ (∀ i : (⟨3, ![8, 128, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v100) i = v1 c i)
          ∧ (∀ i : (⟨3, ![8, 128, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v104) i = v2 c i)
          ∧ (∀ i : (⟨3, ![8, 1, 4096]⟩ : Shape).Idx, (Cert.On_gradient_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v106) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_on_small_rows_pre_finite2 [hKernel2Ideal : Cert.Kernel2Ideal.Facts] [hReference2Ideal : Cert.Reference2Ideal.Facts] [hPre_finite2 : Cert.Pre_finite2.Facts] [hOn_small_rows : Cert.On_small_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)) (v3 : (c : Dev Cert.Kernel2Ideal.nD) → Buf (Elt Ideal) ((c.tc : Thread Cert.Kernel2Ideal.nD Cert.Kernel2Ideal.τ).loc Cert.Kernel2Ideal.main_v40_3)) (v4 : (c : Dev Cert.Kernel2Ideal.nD) → Buf (Elt Ideal) ((c.tc : Thread Cert.Kernel2Ideal.nD Cert.Kernel2Ideal.τ).loc Cert.Kernel2Ideal.main_v40_4)) (v5 : (c : Dev Cert.Kernel2Ideal.nD) → Buf (Elt Ideal) ((c.tc : Thread Cert.Kernel2Ideal.nD Cert.Kernel2Ideal.τ).loc Cert.Kernel2Ideal.main_v40_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 1024]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).1 i = 1#1 → r.2.mem ((c.tc : Thread Cert.Kernel2Ideal.nD Cert.Kernel2Ideal.τ).loc Cert.Kernel2Ideal.main_v40_0) i = v0 c i)
          ∧ (∀ i : (⟨2, ![4096, 1536]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.1 i = 1#1 → r.2.mem ((c.tc : Thread Cert.Kernel2Ideal.nD Cert.Kernel2Ideal.τ).loc Cert.Kernel2Ideal.main_v40_1) i = v1 c i)
          ∧ (∀ i : (⟨2, ![128, 1024]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.1 i = 1#1 → r.2.mem ((c.tc : Thread Cert.Kernel2Ideal.nD Cert.Kernel2Ideal.τ).loc Cert.Kernel2Ideal.main_v40_2) i = v2 c i)
          ∧ (∀ i : (⟨2, ![8, 3072]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.1 i = 1#1 → r.2.mem ((c.tc : Thread Cert.Kernel2Ideal.nD Cert.Kernel2Ideal.τ).loc Cert.Kernel2Ideal.main_v40_3) i = v3 c i)
          ∧ (∀ i : (⟨2, ![8, 128]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.1 i = 1#1 → r.2.mem ((c.tc : Thread Cert.Kernel2Ideal.nD Cert.Kernel2Ideal.τ).loc Cert.Kernel2Ideal.main_v40_4) i = v4 c i)
          ∧ (∀ i : (⟨2, ![8, 1024]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2 i = 1#1 → r.2.mem ((c.tc : Thread Cert.Kernel2Ideal.nD Cert.Kernel2Ideal.τ).loc Cert.Kernel2Ideal.main_v40_5) i = v5 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 1024]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).1 i = 1#1 → r.2.mem ((c.tc : Thread Cert.Reference2Ideal.nD Cert.Reference2Ideal.τ).loc Cert.Reference2Ideal.main_v153) i = v0 c i)
          ∧ (∀ i : (⟨2, ![4096, 1536]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.1 i = 1#1 → r.2.mem ((c.tc : Thread Cert.Reference2Ideal.nD Cert.Reference2Ideal.τ).loc Cert.Reference2Ideal.main_v155) i = v1 c i)
          ∧ (∀ i : (⟨2, ![128, 1024]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.1 i = 1#1 → r.2.mem ((c.tc : Thread Cert.Reference2Ideal.nD Cert.Reference2Ideal.τ).loc Cert.Reference2Ideal.main_v146) i = v2 c i)
          ∧ (∀ i : (⟨2, ![8, 3072]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.1 i = 1#1 → r.2.mem ((c.tc : Thread Cert.Reference2Ideal.nD Cert.Reference2Ideal.τ).loc Cert.Reference2Ideal.main_v156) i = v3 c i)
          ∧ (∀ i : (⟨2, ![8, 128]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.1 i = 1#1 → r.2.mem ((c.tc : Thread Cert.Reference2Ideal.nD Cert.Reference2Ideal.τ).loc Cert.Reference2Ideal.main_v157) i = v4 c i)
          ∧ (∀ i : (⟨2, ![8, 1024]⟩ : Shape).Idx, (Cert.On_small_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2.2.2 i = 1#1 → r.2.mem ((c.tc : Thread Cert.Reference2Ideal.nD Cert.Reference2Ideal.τ).loc Cert.Reference2Ideal.main_v159) i = v5 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v44_0)) (v1 : (c : Dev Cert.Kernel4Ideal.nD) → Buf (Elt Ideal) ((c.tc : Thread Cert.Kernel4Ideal.nD Cert.Kernel4Ideal.τ).loc Cert.Kernel4Ideal.main_v44_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_0) = v0 c
          ∧ r.2.mem ((c.tc : Thread Cert.Kernel4Ideal.nD Cert.Kernel4Ideal.τ).loc Cert.Kernel4Ideal.main_v44_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v80) = v0 c
          ∧ r.2.mem ((c.tc : Thread Cert.Reference4Ideal.nD Cert.Reference4Ideal.τ).loc Cert.Reference4Ideal.main_v82) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)) (v5 : (c : Dev Cert.Kernel5Ideal.nD) → Buf (Elt Ideal) ((c.tc : Thread Cert.Kernel5Ideal.nD Cert.Kernel5Ideal.τ).loc Cert.Kernel5Ideal.main_v18_5)) (v6 : (c : Dev Cert.Kernel5Ideal.nD) → Buf (Elt Ideal) ((c.tc : Thread Cert.Kernel5Ideal.nD Cert.Kernel5Ideal.τ).loc Cert.Kernel5Ideal.main_v18_6)) (v7 : (c : Dev Cert.Kernel5Ideal.nD) → Buf (Elt Ideal) ((c.tc : Thread Cert.Kernel5Ideal.nD Cert.Kernel5Ideal.τ).loc Cert.Kernel5Ideal.main_v18_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_v18_5) = v5 c
          ∧ r.2.mem ((c.tc : Thread Cert.Kernel5Ideal.nD Cert.Kernel5Ideal.τ).loc Cert.Kernel5Ideal.main_v18_6) = v6 c
          ∧ r.2.mem ((c.tc : Thread Cert.Kernel5Ideal.nD Cert.Kernel5Ideal.τ).loc Cert.Kernel5Ideal.main_v18_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v44) = v2 c
          ∧ r.2.mem ((c.tc : Thread Cert.Reference5Ideal.nD Cert.Reference5Ideal.τ).loc Cert.Reference5Ideal.main_v45) = v3 c
          ∧ r.2.mem ((c.tc : Thread Cert.Reference5Ideal.nD Cert.Reference5Ideal.τ).loc Cert.Reference5Ideal.main_v14) = v4 c
          ∧ r.2.mem ((c.tc : Thread Cert.Reference5Ideal.nD Cert.Reference5Ideal.τ).loc Cert.Reference5Ideal.main_v15) = v5 c
          ∧ r.2.mem ((c.tc : Thread Cert.Reference5Ideal.nD Cert.Reference5Ideal.τ).loc Cert.Reference5Ideal.main_v16) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite4 : Cert.Pre_finite4.Facts) (hPre_finite5 : Cert.Pre_finite5.Facts) (hOn_gradient_lanes : Cert.On_gradient_lanes.Facts) (hOn_small_rows : Cert.On_small_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_on_gradient_lanes_pre_finite (hKernelIdeal := hKernelIdeal) (hReferenceIdeal := hReferenceIdeal) (hPre_finite := hPre_finite) (hOn_gradient_lanes := hOn_gradient_lanes)
    ∧ preserves_Kernel2_Kernel2Ideal
    ∧ algebraic_Kernel2Ideal_Reference2Ideal_on_small_rows_pre_finite2 (hKernel2Ideal := hKernel2Ideal) (hReference2Ideal := hReference2Ideal) (hPre_finite2 := hPre_finite2) (hOn_small_rows := hOn_small_rows)
    ∧ preserves_Kernel3_Kernel3Ideal
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== On_gradient_lanes.lean ====
abbrev S4096x512 : Shape := ⟨2, ![4096, 512]⟩
abbrev S4096x8 : Shape := ⟨2, ![4096, 8]⟩
abbrev S8x128x4096 : Shape := ⟨3, ![8, 128, 4096]⟩
abbrev S_ : Shape := ⟨0, ![]⟩
abbrev S8x1x4096 : Shape := ⟨3, ![8, 1, 4096]⟩

class Facts : Prop where
  bcast_S_S8x128x4096 : S_.BroadcastsInDim S8x128x4096 (![] : Fin 0 → Fin S8x128x4096.rank)
  bcast_S_S8x1x4096 : S_.BroadcastsInDim S8x1x4096 (![] : Fin 0 → Fin S8x1x4096.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S8x128x4096 1 × IVec S8x128x4096 1 × IVec S8x128x4096 1 × IVec S8x1x4096 1 :=
  let main_v0 : IVec S8x128x4096 32 := iotaInDim S8x128x4096 32 1
  let main_c : IVec S_ 32 := constantI S_ 32 64#32
  let main_v1 : IVec S8x128x4096 32 := broadcastInDim S8x128x4096 ![] bcast_S_S8x128x4096 main_c
  let main_v2 : IVec S8x128x4096 1 := cmpi .slt main_v0 main_v1
  let main_c_0 : IVec S_ 1 := constantI S_ 1 1#1
  let main_v3 : IVec S8x1x4096 1 := broadcastInDim S8x1x4096 ![] bcast_S_S8x1x4096 main_c_0
  (main_v2, main_v2, main_v2, main_v3)
-- ==== On_small_rows.lean ====
abbrev S4096x1024 : Shape := ⟨2, ![4096, 1024]⟩
abbrev S1x1024 : Shape := ⟨2, ![1, 1024]⟩
abbrev S1024x3080 : Shape := ⟨2, ![1024, 3080]⟩
abbrev S3080 : Shape := ⟨1, ![3080]⟩
abbrev S4096x512 : Shape := ⟨2, ![4096, 512]⟩
abbrev S4096x8 : Shape := ⟨2, ![4096, 8]⟩
abbrev S_ : Shape := ⟨0, ![]⟩
abbrev S4096x1536 : Shape := ⟨2, ![4096, 1536]⟩
abbrev S128x1024 : Shape := ⟨2, ![128, 1024]⟩
abbrev S8x3072 : Shape := ⟨2, ![8, 3072]⟩
abbrev S8x128 : Shape := ⟨2, ![8, 128]⟩
abbrev S8x1024 : Shape := ⟨2, ![8, 1024]⟩

class Facts : Prop where
  bcast_S_S4096x1024 : S_.BroadcastsInDim S4096x1024 (![] : Fin 0 → Fin S4096x1024.rank)
  bcast_S_S4096x1536 : S_.BroadcastsInDim S4096x1536 (![] : Fin 0 → Fin S4096x1536.rank)
  bcast_S_S128x1024 : S_.BroadcastsInDim S128x1024 (![] : Fin 0 → Fin S128x1024.rank)
  bcast_S_S8x3072 : S_.BroadcastsInDim S8x3072 (![] : Fin 0 → Fin S8x3072.rank)
  bcast_S_S8x128 : S_.BroadcastsInDim S8x128 (![] : Fin 0 → Fin S8x128.rank)
  bcast_S_S8x1024 : S_.BroadcastsInDim S8x1024 (![] : Fin 0 → Fin S8x1024.rank)

variable [Facts]

def fn {F : FTy → Type} [FloatOps F] (main_arg0 : FVec F S4096x1024 .f32) (main_arg1 : FVec F S1x1024 .f32) (main_arg2 : FVec F S1x1024 .f32) (main_arg3 : FVec F S1024x3080 .f32) (main_arg4 : FVec F S3080 .f32) (main_arg5 : FVec F S4096x512 .f32) (main_arg6 : FVec F S4096x512 .f32) (main_arg7 : FVec F S4096x512 .f32) (main_arg8 : FVec F S4096x8 .f32) (main_arg9 : FVec F S4096x512 .f32) (main_arg10 : FVec F S4096x512 .f32) (main_arg11 : FVec F S4096x512 .f32) (main_arg12 : FVec F S4096x1024 .f32) : IVec S4096x1024 1 × IVec S4096x1536 1 × IVec S128x1024 1 × IVec S8x3072 1 × IVec S8x128 1 × IVec S8x1024 1 :=
  let main_c : IVec S_ 1 := constantI S_ 1 1#1
  let main_v0 : IVec S4096x1024 1 := broadcastInDim S4096x1024 ![] bcast_S_S4096x1024 main_c
  let main_c_0 : IVec S_ 1 := constantI S_ 1 1#1
  let main_v1 : IVec S4096x1536 1 := broadcastInDim S4096x1536 ![] bcast_S_S4096x1536 main_c_0
  let main_c_1 : IVec S_ 1 := constantI S_ 1 1#1
  let main_v2 : IVec S128x1024 1 := broadcastInDim S128x1024 ![] bcast_S_S128x1024 main_c_1
  let main_v3 : IVec S8x3072 32 := iotaInDim S8x3072 32 0
  let main_c_2 : IVec S_ 32 := constantI S_ 32 1#32
  let main_v4 : IVec S8x3072 32 := broadcastInDim S8x3072 ![] bcast_S_S8x3072 main_c_2
  let main_v5 : IVec S8x3072 1 := cmpi .slt main_v3 main_v4
  let main_v6 : IVec S8x128 32 := iotaInDim S8x128 32 0
  let main_c_3 : IVec S_ 32 := constantI S_ 32 1#32
  let main_v7 : IVec S8x128 32 := broadcastInDim S8x128 ![] bcast_S_S8x128 main_c_3
  let main_v8 : IVec S8x128 1 := cmpi .slt main_v6 main_v7
  let main_v9 : IVec S8x1024 32 := iotaInDim S8x1024 32 0
  let main_c_4 : IVec S_ 32 := constantI S_ 32 2#32
  let main_v10 : IVec S8x1024 32 := broadcastInDim S8x1024 ![] bcast_S_S8x1024 main_c_4
  let main_v11 : IVec S8x1024 1 := cmpi .slt main_v9 main_v10
  (main_v0, main_v1, main_v2, main_v5, main_v8, main_v11)
-- ==== Pre_finite.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x512 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Pre_finite2.lean ====
abbrev S4096x1024 : Shape := ⟨2, ![4096, 1024]⟩
abbrev S1x1024 : Shape := ⟨2, ![1, 1024]⟩
abbrev S1024x3080 : Shape := ⟨2, ![1024, 3080]⟩
abbrev S3080 : Shape := ⟨1, ![3080]⟩
abbrev S4096x512 : Shape := ⟨2, ![4096, 512]⟩
abbrev S4096x8 : Shape := ⟨2, ![4096, 8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3080 : S_.BroadcastsInDim S1024x3080 (![] : Fin 0 → Fin S1024x3080.rank)
  reducesTo_S1024x3080_S_d0_1 : S1024x3080.ReducesTo [0, 1] S_
  bcast_S_S3080 : S_.BroadcastsInDim S3080 (![] : Fin 0 → Fin S3080.rank)
  reducesTo_S3080_S_d0 : S3080.ReducesTo [0] S_
  bcast_S_S4096x512 : S_.BroadcastsInDim S4096x512 (![] : Fin 0 → Fin S4096x512.rank)
  reducesTo_S4096x512_S_d0_1 : S4096x512.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part3 {F : FTy → Type} [FloatOps F] (main_arg12 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S4096x1024 .f32 := Host.absf main_arg12
  let main_cst_22 : FVec F S_ .f32 := constant S_ .f32 0x7F800000#32
  let main_v49 : FVec F S4096x1024 .f32 := broadcastInDim S4096x1024 ![] bcast_S_S4096x1024 main_cst_22
  let main_v50 : IVec S4096x1024 1 := cmpf .olt main_v48 main_v49
  let main_c_23 : IVec S_ 1 := constantI S_ 1 1#1
  let main_v51 : IVec S_ 1 := (fun x v => Host.reduce IntOp.andi x v reducesTo_S4096x1024_S_d0_1 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg8 : FVec F S4096x8 .f32) (main_arg9 : FVec F S4096x512 .f32) (main_arg10 : FVec F S4096x512 .f32) (main_arg11 : FVec F S4096x512 .f32) (main_arg12 : FVec F S4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4096x8 .f32 := Host.absf main_arg8
  let main_cst_14 : FVec F S_ .f32 := constant S_ .f32 0x7F800000#32
  let main_v33 : FVec F S4096x8 .f32 := broadcastInDim S4096x8 ![] bcast_S_S4096x8 main_cst_14
  let main_v34 : IVec S4096x8 1 := cmpf .olt main_v32 main_v33
  let main_c_15 : IVec S_ 1 := constantI S_ 1 1#1
  let main_v35 : IVec S_ 1 := (fun x v => Host.reduce IntOp.andi x v reducesTo_S4096x8_S_d0_1 h_S_) main_v34 main_c_15
  let main_v36 : FVec F S4096x512 .f32 := Host.absf main_arg9
  let main_cst_16 : FVec F S_ .f32 := constant S_ .f32 0x7F800000#32
  let main_v37 : FVec F S4096x512 .f32 := broadcastInDim S4096x512 ![] bcast_S_S4096x512 main_cst_16
  let main_v38 : IVec S4096x512 1 := cmpf .olt main_v36 main_v37
  let main_c_17 : IVec S_ 1 := constantI S_ 1 1#1
  let main_v39 : IVec S_ 1 := (fun x v => Host.reduce IntOp.andi x v reducesTo_S4096x512_S_d0_1 h_S_) main_v38 main_c_17
  let main_v40 : FVec F S4096x512 .f32 := Host.absf main_arg10
  let main_cst_18 : FVec F S_ .f32 := constant S_ .f32 0x7F800000#32
  let main_v41 : FVec F S4096x512 .f32 := broadcastInDim S4096x512 ![] bcast_S_S4096x512 main_cst_18
  let main_v42 : IVec S4096x512 1 := cmpf .olt main_v40 main_v41
  let main_c_19 : IVec S_ 1 := constantI S_ 1 1#1
  let main_v43 : IVec S_ 1 := (fun x v => Host.reduce IntOp.andi x v reducesTo_S4096x512_S_d0_1 h_S_) main_v42 main_c_19
  let main_v44 : FVec F S4096x512 .f32 := Host.absf main_arg11
  let main_cst_20 : FVec F S_ .f32 := constant S_ .f32 0x7F800000#32
  let main_v45 : FVec F S4096x512 .f32 := broadcastInDim S4096x512 ![] bcast_S_S4096x512 main_cst_20
  let main_v46 : IVec S4096x512 1 := cmpf .olt main_v44 main_v45
  let main_c_21 : IVec S_ 1 := constantI S_ 1 1#1
  let main_v47 : IVec S_ 1 := (fun x v => Host.reduce IntOp.andi x v reducesTo_S4096x512_S_d0_1 h_S_) main_v46 main_c_21
  fn_part3 (F := F) main_arg12 main_v3 main_v7 main_v11 main_v15 main_v19 main_v23 main_v27 main_v31 main_v35 main_v39 main_v43 main_v47

def fn_part1 {F : FTy → Type} [FloatOps F] (main_arg4 : FVec F S3080 .f32) (main_arg5 : FVec F S4096x512 .f32) (main_arg6 : FVec F S4096x512 .f32) (main_arg7 : FVec F S4096x512 .f32) (main_arg8 : FVec F S4096x8 .f32) (main_arg9 : FVec F S4096x512 .f32) (main_arg10 : FVec F S4096x512 .f32) (main_arg11 : FVec F S4096x512 .f32) (main_arg12 : FVec F S4096x1024 .f32) (main_v3 : IVec S_ 1) (main_v7 : IVec S_ 1) (main_v11 : IVec S_ 1) (main_v15 : IVec S_ 1) : IVec S_ 1 :=
  let main_v16 : FVec F S3080 .f32 := Host.absf main_arg4
  let main_cst_6 : FVec F S_ .f32 := constant S_ .f32 0x7F800000#32
  let main_v17 : FVec F S3080 .f32 := broadcastInDim S3080 ![] bcast_S_S3080 main_cst_6
  let main_v18 : IVec S3080 1 := cmpf .olt main_v16 main_v17
  let main_c_7 : IVec S_ 1 := constantI S_ 1 1#1
  let main_v19 : IVec S_ 1 := (fun x v => Host.reduce IntOp.andi x v reducesTo_S3080_S_d0 h_S_) main_v18 main_c_7
  let main_v20 : FVec F S4096x512 .f32 := Host.absf main_arg5
  let main_cst_8 : FVec F S_ .f32 := constant S_ .f32 0x7F800000#32
  let main_v21 : FVec F S4096x512 .f32 := broadcastInDim S4096x512 ![] bcast_S_S4096x512 main_cst_8
  let main_v22 : IVec S4096x512 1 := cmpf .olt main_v20 main_v21
  let main_c_9 : IVec S_ 1 := constantI S_ 1 1#1
  let main_v23 : IVec S_ 1 := (fun x v => Host.reduce IntOp.andi x v reducesTo_S4096x512_S_d0_1 h_S_) main_v22 main_c_9
  let main_v24 : FVec F S4096x512 .f32 := Host.absf main_arg6
  let main_cst_10 : FVec F S_ .f32 := constant S_ .f32 0x7F800000#32
  let main_v25 : FVec F S4096x512 .f32 := broadcastInDim S4096x512 ![] bcast_S_S4096x512 main_cst_10
  let main_v26 : IVec S4096x512 1 := cmpf .olt main_v24 main_v25
  let main_c_11 : IVec S_ 1 := constantI S_ 1 1#1
  let main_v27 : IVec S_ 1 := (fun x v => Host.reduce IntOp.andi x v reducesTo_S4096x512_S_d0_1 h_S_) main_v26 main_c_11
  let main_v28 : FVec F S4096x512 .f32 := Host.absf main_arg7
  let main_cst_12 : FVec F S_ .f32 := constant S_ .f32 0x7F800000#32
  let main_v29 : FVec F S4096x512 .f32 := broadcastInDim S4096x512 ![] bcast_S_S4096x512 main_cst_12
  let main_v30 : IVec S4096x512 1 := cmpf .olt main_v28 main_v29
  let main_c_13 : IVec S_ 1 := constantI S_ 1 1#1
  let main_v31 : IVec S_ 1 := (fun x v => Host.reduce IntOp.andi x v reducesTo_S4096x512_S_d0_1 h_S_) main_v30 main_c_13
  fn_part2 (F := F) main_arg8 main_arg9 main_arg10 main_arg11 main_arg12 main_v3 main_v7 main_v11 main_v15 main_v19 main_v23 main_v27 main_v31

def fn {F : FTy → Type} [FloatOps F] (main_arg0 : FVec F S4096x1024 .f32) (main_arg1 : FVec F S1x1024 .f32) (main_arg2 : FVec F S1x1024 .f32) (main_arg3 : FVec F S1024x3080 .f32) (main_arg4 : FVec F S3080 .f32) (main_arg5 : FVec F S4096x512 .f32) (main_arg6 : FVec F S4096x512 .f32) (main_arg7 : FVec F S4096x512 .f32) (main_arg8 : FVec F S4096x8 .f32) (main_arg9 : FVec F S4096x512 .f32) (main_arg10 : FVec F S4096x512 .f32) (main_arg11 : FVec F S4096x512 .f32) (main_arg12 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x3080 .f32 := Host.absf main_arg3
  let main_cst_4 : FVec F S_ .f32 := constant S_ .f32 0x7F800000#32
  let main_v13 : FVec F S1024x3080 .f32 := broadcastInDim S1024x3080 ![] bcast_S_S1024x3080 main_cst_4
  let main_v14 : IVec S1024x3080 1 := cmpf .olt main_v12 main_v13
  let main_c_5 : IVec S_ 1 := constantI S_ 1 1#1
  let main_v15 : IVec S_ 1 := (fun x v => Host.reduce IntOp.andi x v reducesTo_S1024x3080_S_d0_1 h_S_) main_v14 main_c_5
  fn_part1 (F := F) main_arg4 main_arg5 main_arg6 main_arg7 main_arg8 main_arg9 main_arg10 main_arg11 main_arg12 main_v3 main_v7 main_v11 main_v15
-- ==== Pre_finite4.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x8 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_v13 main_v16
-- ==== Pre_finite5.lean ====
abbrev S4096x1024 : Shape := ⟨2, ![4096, 1024]⟩
abbrev S1x1024 : Shape := ⟨2, ![1, 1024]⟩
abbrev S1024x3080 : Shape := ⟨2, ![1024, 3080]⟩
abbrev S3080 : Shape := ⟨1, ![3080]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3080 : S_.BroadcastsInDim S1024x3080 (![] : Fin 0 → Fin S1024x3080.rank)
  reducesTo_S1024x3080_S_d0_1 : S1024x3080.ReducesTo [0, 1] S_
  bcast_S_S3080 : S_.BroadcastsInDim S3080 (![] : Fin 0 → Fin S3080.rank)
  reducesTo_S3080_S_d0 : S3080.ReducesTo [0] S_

variable [Facts]

def fn_part1 {F : FTy → Type} [FloatOps F] (main_arg4 : FVec F S3080 .f32) (main_v3 : IVec S_ 1) (main_v7 : IVec S_ 1) (main_v11 : IVec S_ 1) (main_v15 : IVec S_ 1) : IVec S_ 1 :=
  let main_v16 : FVec F S3080 .f32 := Host.absf main_arg4
  let main_cst_6 : FVec F S_ .f32 := constant S_ .f32 0x7F800000#32
  let main_v17 : FVec F S3080 .f32 := broadcastInDim S3080 ![] bcast_S_S3080 main_cst_6
  let main_v18 : IVec S3080 1 := cmpf .olt main_v16 main_v17
  let main_c_7 : IVec S_ 1 := constantI S_ 1 1#1
  let main_v19 : IVec S_ 1 := (fun x v => Host.reduce IntOp.andi x v reducesTo_S3080_S_d0 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S1x1024 .f32) (main_arg2 : FVec F S1x1024 .f32) (main_arg3 : FVec F S1024x3080 .f32) (main_arg4 : FVec F S3080 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x3080 .f32 := Host.absf main_arg3
  let main_cst_4 : FVec F S_ .f32 := constant S_ .f32 0x7F800000#32
  let main_v13 : FVec F S1024x3080 .f32 := broadcastInDim S1024x3080 ![] bcast_S_S1024x3080 main_cst_4
  let main_v14 : IVec S1024x3080 1 := cmpf .olt main_v12 main_v13
  let main_c_5 : IVec S_ 1 := constantI S_ 1 1#1
  let main_v15 : IVec S_ 1 := (fun x v => Host.reduce IntOp.andi x v reducesTo_S1024x3080_S_d0_1 h_S_) main_v14 main_c_5
  fn_part1 (F := F) main_arg4 main_v3 main_v7 main_v11 main_v15
-- ==== Kernel.lean ====
abbrev S4096x512 : Shape := ⟨2, ![4096, 512]⟩
abbrev S4096x8 : Shape := ⟨2, ![4096, 8]⟩
abbrev S_ : Shape := ⟨0, ![]⟩
abbrev S4096x8x64 : Shape := ⟨3, ![4096, 8, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096x64 : Shape := ⟨3, ![8, 4096, 64]⟩
abbrev S8x4096x3 : Shape := ⟨3, ![8, 4096, 3]⟩
abbrev S8x4096x55 : Shape := ⟨3, ![8, 4096, 55]⟩
abbrev S8x4096x128 : Shape := ⟨3, ![8, 4096, 128]⟩
abbrev S8x4096x61 : Shape := ⟨3, ![8, 4096, 61]⟩
abbrev S8x128x4096 : Shape := ⟨3, ![8, 128, 4096]⟩
abbrev S2x128x4096 : Shape := ⟨3, ![2, 128, 4096]⟩
abbrev S2x4096x128 : Shape := ⟨3, ![2, 4096, 128]⟩
abbrev S2x1x4096 : Shape := ⟨3, ![2, 1, 4096]⟩
abbrev S2x128x512 : Shape := ⟨3, ![2, 128, 512]⟩
abbrev S512x512 : Shape := ⟨2, ![512, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x512 : Shape := ⟨2, ![1, 512]⟩
abbrev S1x1x512 : Shape := ⟨3, ![1, 1, 512]⟩
abbrev S1x128x4096 : Shape := ⟨3, ![1, 128, 4096]⟩
abbrev S128x4096 : Shape := ⟨2, ![128, 4096]⟩
abbrev S1x1x4096 : Shape := ⟨3, ![1, 1, 4096]⟩

abbrev nBuf : Space → Nat
  | .hbm => 148
  | .vmem => 19
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x512, .f32⟩
  | 5 => ⟨S4096x8, .f32⟩
  | 6 => ⟨S_, .f32⟩
  | 7 => ⟨S4096x8, .f32⟩
  | 8 => ⟨S4096x8, .f32⟩
  | 9 => ⟨S4096x8, .f32⟩
  | 10 => ⟨S4096x8, .f32⟩
  | 11 => ⟨S4096x8, .i1⟩
  | 12 => ⟨S4096x8, .f32⟩
  | 13 => ⟨S4096x8, .f32⟩
  | 14 => ⟨S4096x8, .f32⟩
  | 15 => ⟨S4096x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S_, .f32⟩
  | 22 => ⟨S_, .f32⟩
  | 23 => ⟨S4096x8, .f32⟩
  | 24 => ⟨S4096x8x64, .f32⟩
  | 25 => ⟨S4096x8x64, .f32⟩
  | 26 => ⟨S8x4096x4096, .f32⟩
  | 27 => ⟨S_, .f32⟩
  | 28 => ⟨S8x4096x4096, .f32⟩
  | 29 => ⟨S8x4096x4096, .f32⟩
  | 30 => ⟨S8x4096, .f32⟩
  | 31 => ⟨S8x4096x1, .f32⟩
  | 32 => ⟨S8x4096x4096, .f32⟩
  | 33 => ⟨S8x4096x4096, .f32⟩
  | 34 => ⟨S8x4096, .f32⟩
  | 35 => ⟨S8x1x4096, .f32⟩
  | 36 => ⟨S8x4096x4096, .f32⟩
  | 37 => ⟨S8x4096x4096, .f32⟩
  | 38 => ⟨S4096, .i32⟩
  | 39 => ⟨S1x4096, .i32⟩
  | 40 => ⟨S4096, .i32⟩
  | 41 => ⟨S4096x1, .i32⟩
  | 42 => ⟨S4096x4096, .i32⟩
  | 43 => ⟨S4096x4096, .i32⟩
  | 44 => ⟨S4096x4096, .i1⟩
  | 45 => ⟨S1x4096x4096, .i1⟩
  | 46 => ⟨S_, .f32⟩
  | 47 => ⟨S_, .f32⟩
  | 48 => ⟨S8x4096x4096, .i1⟩
  | 49 => ⟨S8x4096x4096, .f32⟩
  | 50 => ⟨S8x4096x4096, .f32⟩
  | 51 => ⟨S_, .f32⟩
  | 52 => ⟨S8x4096, .f32⟩
  | 53 => ⟨S8x4096x1, .f32⟩
  | 54 => ⟨S8x4096x4096, .f32⟩
  | 55 => ⟨S8x4096x4096, .f32⟩
  | 56 => ⟨S8x4096x4096, .f32⟩
  | 57 => ⟨S_, .f32⟩
  | 58 => ⟨S8x4096, .f32⟩
  | 59 => ⟨S8x4096, .f32⟩
  | 60 => ⟨S8x4096, .f32⟩
  | 61 => ⟨S4096x8x64, .f32⟩
  | 62 => ⟨S8x4096x64, .f32⟩
  | 63 => ⟨S4096x8x64, .f32⟩
  | 64 => ⟨S8x4096x64, .f32⟩
  | 65 => ⟨S8x4096x1, .f32⟩
  | 66 => ⟨S8x4096x4096, .f32⟩
  | 67 => ⟨S8x4096x4096, .f32⟩
  | 68 => ⟨S8x4096x64, .f32⟩
  | 69 => ⟨S8x4096x64, .f32⟩
  | 70 => ⟨S_, .f32⟩
  | 71 => ⟨S8x4096, .f32⟩
  | 72 => ⟨S_, .bf16⟩
  | 73 => ⟨S8x4096x3, .bf16⟩
  | 74 => ⟨S4096x8x64, .f32⟩
  | 75 => ⟨S8x4096x64, .f32⟩
  | 76 => ⟨S_, .f32⟩
  | 77 => ⟨S8x4096x64, .f32⟩
  | 78 => ⟨S8x4096x64, .f32⟩
  | 79 => ⟨S8x4096x64, .bf16⟩
  | 80 => ⟨S8x4096, .f32⟩
  | 81 => ⟨S8x4096, .bf16⟩
  | 82 => ⟨S8x4096, .f32⟩
  | 83 => ⟨S8x4096, .f32⟩
  | 84 => ⟨S8x4096, .bf16⟩
  | 85 => ⟨S8x4096, .f32⟩
  | 86 => ⟨S8x4096, .f32⟩
  | 87 => ⟨S8x4096, .bf16⟩
  | 88 => ⟨S8x4096x1, .bf16⟩
  | 89 => ⟨S8x4096x1, .bf16⟩
  | 90 => ⟨S8x4096x1, .bf16⟩
  | 91 => ⟨S8x4096, .f32⟩
  | 92 => ⟨S8x4096, .bf16⟩
  | 93 => ⟨S8x4096, .f32⟩
  | 94 => ⟨S8x4096, .f32⟩
  | 95 => ⟨S8x4096, .bf16⟩
  | 96 => ⟨S8x4096, .f32⟩
  | 97 => ⟨S8x4096, .f32⟩
  | 98 => ⟨S8x4096, .bf16⟩
  | 99 => ⟨S8x4096x1, .bf16⟩
  | 100 => ⟨S8x4096x1, .bf16⟩
  | 101 => ⟨S8x4096x1, .bf16⟩
  | 102 => ⟨S_, .bf16⟩
  | 103 => ⟨S8x4096x55, .bf16⟩
  | 104 => ⟨S8x4096x128, .bf16⟩
  | 105 => ⟨S4096x8x64, .f32⟩
  | 106 => ⟨S8x4096x64, .f32⟩
  | 107 => ⟨S8x4096x64, .bf16⟩
  | 108 => ⟨S8x4096, .f32⟩
  | 109 => ⟨S8x4096, .f32⟩
  | 110 => ⟨S8x4096, .bf16⟩
  | 111 => ⟨S8x4096, .f32⟩
  | 112 => ⟨S8x4096, .f32⟩
  | 113 => ⟨S8x4096, .bf16⟩
  | 114 => ⟨S8x4096, .f32⟩
  | 115 => ⟨S8x4096, .f32⟩
  | 116 => ⟨S8x4096, .bf16⟩
  | 117 => ⟨S8x4096x1, .bf16⟩
  | 118 => ⟨S8x4096x1, .bf16⟩
  | 119 => ⟨S8x4096x1, .bf16⟩
  | 120 => ⟨S_, .bf16⟩
  | 121 => ⟨S8x4096x55, .bf16⟩
  | 122 => ⟨S8x4096x128, .bf16⟩
  | 123 => ⟨S8x4096x64, .bf16⟩
  | 124 => ⟨S8x4096x3, .bf16⟩
  | 125 => ⟨S_, .bf16⟩
  | 126 => ⟨S8x4096x61, .bf16⟩
  | 127 => ⟨S8x4096x128, .bf16⟩
  | _ => ⟨S4096x512, .f32⟩

abbrev hbmTy0_1 (i : Nat) : BufTy := match i % 128 with
  | 0 => ⟨S8x4096x64, .bf16⟩
  | 1 => ⟨S8x4096, .bf16⟩
  | 2 => ⟨S8x4096, .f32⟩
  | 3 => ⟨S8x4096, .f32⟩
  | 4 => ⟨S8x4096, .bf16⟩
  | 5 => ⟨S8x4096, .f32⟩
  | 6 => ⟨S8x4096, .f32⟩
  | 7 => ⟨S8x4096, .bf16⟩
  | 8 => ⟨S8x4096x1, .bf16⟩
  | 9 => ⟨S8x4096x1, .bf16⟩
  | 10 => ⟨S8x4096x1, .bf16⟩
  | 11 => ⟨S_, .bf16⟩
  | 12 => ⟨S8x4096x61, .bf16⟩
  | 13 => ⟨S8x4096x128, .bf16⟩
  | 14 => ⟨S8x128x4096, .bf16⟩
  | 15 => ⟨S8x128x4096, .bf16⟩
  | 16 => ⟨S8x128x4096, .bf16⟩
  | 17 => ⟨S8x128x4096, .bf16⟩
  | 18 => ⟨S8x128x4096, .bf16⟩
  | 19 => ⟨S8x1x4096, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S2x128x4096, .bf16⟩
  | .local _ .vmem, ⟨1, _⟩ => ⟨S2x128x4096, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x4096x128, .bf16⟩
  | .local _ .vmem, ⟨5, _⟩ => ⟨S2x4096x128, .bf16⟩
  | .local _ .vmem, ⟨6, _⟩ => ⟨S2x128x4096, .bf16⟩
  | .local _ .vmem, ⟨7, _⟩ => ⟨S2x128x4096, .bf16⟩
  | .local _ .vmem, ⟨8, _⟩ => ⟨S2x128x4096, .bf16⟩
  | .local _ .vmem, ⟨9, _⟩ => ⟨S2x128x4096, .bf16⟩
  | .local _ .vmem, ⟨10, _⟩ => ⟨S2x128x4096, .bf16⟩
  | .local _ .vmem, ⟨11, _⟩ => ⟨S2x128x4096, .bf16⟩
  | .local _ .vmem, ⟨12, _⟩ => ⟨S2x128x4096, .bf16⟩
  | .local _ .vmem, ⟨13, _⟩ => ⟨S2x128x4096, .bf16⟩
  | .local _ .vmem, ⟨14, _⟩ => ⟨S2x1x4096, .f32⟩
  | .local _ .vmem, ⟨15, _⟩ => ⟨S2x1x4096, .f32⟩
  | .local _ .vmem, ⟨16, _⟩ => ⟨S2x128x4096, .f32⟩
  | .local _ .vmem, ⟨17, _⟩ => ⟨S2x128x512, .f32⟩
  | .local _ .vmem, ⟨18, _⟩ => ⟨S2x128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v23 : Ref sig .tc := ⟨.hbm, 50, rfl⟩
abbrev main_cst_1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_cst_4 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_6 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_7 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_8 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_9 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108_0 : Ref sig .tc := ⟨.hbm, 144, rfl⟩
abbrev main_v108_1 : Ref sig .tc := ⟨.hbm, 145, rfl⟩
abbrev main_v108_2 : Ref sig .tc := ⟨.hbm, 146, rfl⟩
abbrev main_v108_3 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v37 : BitVec 32 := Scalar.muli arg12 c512_i32
  v37
def k0_off1 (k0_t1 : Fin k0_t1_loop.trips) : Fin 3 → Nat :=
  let c0_28 : Index := 0#32
  let c0_i32 : BitVec 32 := 0#32
  let c1_i32 : BitVec 32 := 1#32
  let arg12 : BitVec 32 := Scf.iv c0_i32 c1_i32 k0_t1
  let c512_i32 : BitVec 32 := 512#32
  let v37 : BitVec 32 := Scalar.muli arg12 c512_i32
  let v38 : BitVec 32 := v37
  let v39 : Index := Scalar.indexCast v38
  let c0_29 : Index := 0#32
  ![0, v39.toNat, 0]
def k0_off2 (k0_t1 : Fin k0_t1_loop.trips) : Fin 3 → Nat :=
  let c1_30 : Index := 1#32
  let c0_i32 : BitVec 32 := 0#32
  let c1_i32 : BitVec 32 := 1#32
  let arg12 : BitVec 32 := Scf.iv c0_i32 c1_i32 k0_t1
  let c512_i32 : BitVec 32 := 512#32
  let v37 : BitVec 32 := Scalar.muli arg12 c512_i32
  let v38 : BitVec 32 := v37
  let v42 : Index := Scalar.indexCast v38
  let c0_31 : Index := 0#32
  ![1, v42.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32_36 : BitVec 32 := 512#32
  let v53 : BitVec 32 := Scalar.muli arg12 c512_i32_36
  v53
def k0_off3 (k0_t1 : Fin k0_t1_loop.trips) : Fin 3 → Nat :=
  let c0_37 : Index := 0#32
  let c0_38 : Index := 0#32
  let c0_i32 : BitVec 32 := 0#32
  let c1_i32 : BitVec 32 := 1#32
  let arg12 : BitVec 32 := Scf.iv c0_i32 c1_i32 k0_t1
  let c512_i32_36 : BitVec 32 := 512#32
  let v53 : BitVec 32 := Scalar.muli arg12 c512_i32_36
  let v54 : BitVec 32 := v53
  let v55 : Index := Scalar.indexCast v54
  ![0, 0, v55.toNat]
def k0_off4 (k0_t1 : Fin k0_t1_loop.trips) : Fin 3 → Nat :=
  let c1_57 : Index := 1#32
  let c0_58 : Index := 0#32
  let c0_i32 : BitVec 32 := 0#32
  let c1_i32 : BitVec 32 := 1#32
  let arg12 : BitVec 32 := Scf.iv c0_i32 c1_i32 k0_t1
  let c512_i32_36 : BitVec 32 := 512#32
  let v53 : BitVec 32 := Scalar.muli arg12 c512_i32_36
  let v54 : BitVec 32 := v53
  let v87 : Index := Scalar.indexCast v54
  ![1, 0, v87.toNat]
@[reducible] def k0_t2_loop (k0_t1 : Fin k0_t1_loop.trips) : Scf.Loop 32 :=
  let c0_i32_83 : BitVec 32 := 0#32
  let c7_i32 : BitVec 32 := 7#32
  let c0_i32 : BitVec 32 := 0#32
  let c1_i32 : BitVec 32 := 1#32
  let arg12 : BitVec 32 := Scf.iv c0_i32 c1_i32 k0_t1
  let v119 : BitVec 32 := Scalar.subi c7_i32 arg12
  let c0_i32_77 : BitVec 32 := 0#32
  let v121 : BitVec 1 := Scalar.cmpi .sgt v119 c0_i32_77
  let v122 : BitVec 32 := Scalar.extui v121
  let c0_i32_78 : BitVec 32 := 0#32
  let v123 : BitVec 1 := Scalar.cmpi .slt v119 c0_i32_78
  let v124 : BitVec 32 := Scalar.extui v123
  let v125 : BitVec 32 := Scalar.subi v122 v124
  let c2_i32 : BitVec 32 := 2#32
  let c0_i32_79 : BitVec 32 := 0#32
  let v126 : BitVec 1 := Scalar.cmpi .sgt c2_i32 c0_i32_79
  let v127 : BitVec 32 := Scalar.extui v126
  let c0_i32_80 : BitVec 32 := 0#32
  let v128 : BitVec 1 := Scalar.cmpi .slt c2_i32 c0_i32_80
  let v129 : BitVec 32 := Scalar.extui v128
  let v130 : BitVec 32 := Scalar.subi v127 v129
  let v131 : BitVec 1 := Scalar.cmpi .ne v125 v130
  let v132 : BitVec 32 := Scalar.remsi v119 c2_i32
  let c0_i32_81 : BitVec 32 := 0#32
  let v133 : BitVec 1 := Scalar.cmpi .ne v132 c0_i32_81
  let v134 : BitVec 1 := Scalar.andi v131 v133
  let v120 : BitVec 32 := Scalar.divsi v119 c2_i32
  let c1_i32_82 : BitVec 32 := 1#32
  let v135 : BitVec 32 := Scalar.subi v120 c1_i32_82
  let v136 : BitVec 32 := Scalar.select v134 v135 v120
  let v137 : BitVec 32 := Scalar.subi v136 c0_i32_83
  let c1_i32_85 : BitVec 32 := 1#32
  let v139 : BitVec 32 := Scalar.divsi v137 c1_i32_85
  let v140 : BitVec 32 := Scalar.muli v139 c1_i32_85
  let v141 : BitVec 32 := Scalar.addi c0_i32_83 v140
  let c1_i32_86 : BitVec 32 := 1#32
  ⟨c0_i32_83, v141, c1_i32_86⟩
def k0_mult3 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c1_i32_122 : BitVec 32 := 1#32
  let v199 : BitVec 32 := Scalar.addi arg12 c1_i32_122
  let c2_i32_123 : BitVec 32 := 2#32
  let c0_i32_83 : BitVec 32 := 0#32
  let c1_i32_86 : BitVec 32 := 1#32
  let arg13 : BitVec 32 := Scf.iv c0_i32_83 c1_i32_86 k0_t2
  let v200 : BitVec 32 := Scalar.muli c2_i32_123 arg13
  let v201 : BitVec 32 := Scalar.addi v199 v200
  let c512_i32_124 : BitVec 32 := 512#32
  let v202 : BitVec 32 := Scalar.muli v201 c512_i32_124
  v202
def k0_off5 (k0_t1 : Fin k0_t1_loop.trips) (k0_t2 : Fin (k0_t2_loop k0_t1).trips) (c1_i32_122 : BitVec 32) : Fin 3 → Nat :=
  let c0_125 : Index := 0#32
  let c0_126 : Index := 0#32
  let c0_i32 : BitVec 32 := 0#32
  let c1_i32 : BitVec 32 := 1#32
  let arg12 : BitVec 32 := Scf.iv c0_i32 c1_i32 k0_t1
  let v199 : BitVec 32 := Scalar.addi arg12 c1_i32_122
  let c2_i32_123 : BitVec 32 := 2#32
  let c0_i32_83 : BitVec 32 := 0#32
  let c1_i32_86 : BitVec 32 := 1#32
  let arg13 : BitVec 32 := Scf.iv c0_i32_83 c1_i32_86 k0_t2
  let v200 : BitVec 32 := Scalar.muli c2_i32_123 arg13
  let v201 : BitVec 32 := Scalar.addi v199 v200
  let c512_i32_124 : BitVec 32 := 512#32
  let v202 : BitVec 32 := Scalar.muli v201 c512_i32_124
  let v203 : BitVec 32 := v202
  let v204 : Index := Scalar.indexCast v203
  ![0, 0, v204.toNat]
def k0_off6 (k0_t1 : Fin k0_t1_loop.trips) (k0_t2 : Fin (k0_t2_loop k0_t1).trips) (c1_i32_122 : BitVec 32) : Fin 3 → Nat :=
  let c1_150 : Index := 1#32
  let c0_151 : Index := 0#32
  let c0_i32 : BitVec 32 := 0#32
  let c1_i32 : BitVec 32 := 1#32
  let arg12 : BitVec 32 := Scf.iv c0_i32 c1_i32 k0_t1
  let v199 : BitVec 32 := Scalar.addi arg12 c1_i32_122
  let c2_i32_123 : BitVec 32 := 2#32
  let c0_i32_83 : BitVec 32 := 0#32
  let c1_i32_86 : BitVec 32 := 1#32
  let arg13 : BitVec 32 := Scf.iv c0_i32_83 c1_i32_86 k0_t2
  let v200 : BitVec 32 := Scalar.muli c2_i32_123 arg13
  let v201 : BitVec 32 := Scalar.addi v199 v200
  let c512_i32_124 : BitVec 32 := 512#32
  let v202 : BitVec 32 := Scalar.muli v201 c512_i32_124
  let v203 : BitVec 32 := v202
  let v239 : Index := Scalar.indexCast v203
  ![1, 0, v239.toNat]
def k0_mult4 (k0_t1 : Fin k0_t1_loop.trips) (k0_t2 : Fin (k0_t2_loop k0_t1).trips) : BitVec 32 :=
  let c0_i32 : BitVec 32 := 0#32
  let c1_i32 : BitVec 32 := 1#32
  let arg12 : BitVec 32 := Scf.iv c0_i32 c1_i32 k0_t1
  let c2_i32_175 : BitVec 32 := 2#32
  let v274 : BitVec 32 := Scalar.addi arg12 c2_i32_175
  let c2_i32_176 : BitVec 32 := 2#32
  let c0_i32_83 : BitVec 32 := 0#32
  let c1_i32_86 : BitVec 32 := 1#32
  let arg13 : BitVec 32 := Scf.iv c0_i32_83 c1_i32_86 k0_t2
  let v275 : BitVec 32 := Scalar.muli c2_i32_176 arg13
  let v276 : BitVec 32 := Scalar.addi v274 v275
  let c512_i32_177 : BitVec 32 := 512#32
  let v277 : BitVec 32 := Scalar.muli v276 c512_i32_177
  v277
@[reducible] def k0_t3_loop (k0_t1 : Fin k0_t1_loop.trips) : Scf.Loop 32 :=
  let c0_i32_83 : BitVec 32 := 0#32
  let c7_i32 : BitVec 32 := 7#32
  let c0_i32 : BitVec 32 := 0#32
  let c1_i32 : BitVec 32 := 1#32
  let arg12 : BitVec 32 := Scf.iv c0_i32 c1_i32 k0_t1
  let v119 : BitVec 32 := Scalar.subi c7_i32 arg12
  let c0_i32_77 : BitVec 32 := 0#32
  let v121 : BitVec 1 := Scalar.cmpi .sgt v119 c0_i32_77
  let v122 : BitVec 32 := Scalar.extui v121
  let c0_i32_78 : BitVec 32 := 0#32
  let v123 : BitVec 1 := Scalar.cmpi .slt v119 c0_i32_78
  let v124 : BitVec 32 := Scalar.extui v123
  let v125 : BitVec 32 := Scalar.subi v122 v124
  let c2_i32 : BitVec 32 := 2#32
  let c0_i32_79 : BitVec 32 := 0#32
  let v126 : BitVec 1 := Scalar.cmpi .sgt c2_i32 c0_i32_79
  let v127 : BitVec 32 := Scalar.extui v126
  let c0_i32_80 : BitVec 32 := 0#32
  let v128 : BitVec 1 := Scalar.cmpi .slt c2_i32 c0_i32_80
  let v129 : BitVec 32 := Scalar.extui v128
  let v130 : BitVec 32 := Scalar.subi v127 v129
  let v131 : BitVec 1 := Scalar.cmpi .ne v125 v130
  let v132 : BitVec 32 := Scalar.remsi v119 c2_i32
  let c0_i32_81 : BitVec 32 := 0#32
  let v133 : BitVec 1 := Scalar.cmpi .ne v132 c0_i32_81
  let v134 : BitVec 1 := Scalar.andi v131 v133
  let v120 : BitVec 32 := Scalar.divsi v119 c2_i32
  let c1_i32_82 : BitVec 32 := 1#32
  let v135 : BitVec 32 := Scalar.subi v120 c1_i32_82
  let v136 : BitVec 32 := Scalar.select v134 v135 v120
  let v137 : BitVec 32 := Scalar.subi v136 c0_i32_83
  let c1_i32_85 : BitVec 32 := 1#32
  let v139 : BitVec 32 := Scalar.divsi v137 c1_i32_85
  let v140 : BitVec 32 := Scalar.muli v139 c1_i32_85
  let v141 : BitVec 32 := Scalar.addi c0_i32_83 v140
  let v138 : BitVec 32 := Scalar.addi c0_i32_83 v137
  let c1_i32_87 : BitVec 32 := 1#32
  ⟨v141, v138, c1_i32_87⟩
def k0_mult5 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c1_i32_122 : BitVec 32 := 1#32
  let v199 : BitVec 32 := Scalar.addi arg12 c1_i32_122
  let c2_i32_123 : BitVec 32 := 2#32
  let c0_i32_83 : BitVec 32 := 0#32
  let c7_i32 : BitVec 32 := 7#32
  let v119 : BitVec 32 := Scalar.subi c7_i32 arg12
  let c0_i32_77 : BitVec 32 := 0#32
  let v121 : BitVec 1 := Scalar.cmpi .sgt v119 c0_i32_77
  let v122 : BitVec 32 := Scalar.extui v121
  let c0_i32_78 : BitVec 32 := 0#32
  let v123 : BitVec 1 := Scalar.cmpi .slt v119 c0_i32_78
  let v124 : BitVec 32 := Scalar.extui v123
  let v125 : BitVec 32 := Scalar.subi v122 v124
  let c2_i32 : BitVec 32 := 2#32
  let c0_i32_79 : BitVec 32 := 0#32
  let v126 : BitVec 1 := Scalar.cmpi .sgt c2_i32 c0_i32_79
  let v127 : BitVec 32 := Scalar.extui v126
  let c0_i32_80 : BitVec 32 := 0#32
  let v128 : BitVec 1 := Scalar.cmpi .slt c2_i32 c0_i32_80
  let v129 : BitVec 32 := Scalar.extui v128
  let v130 : BitVec 32 := Scalar.subi v127 v129
  let v131 : BitVec 1 := Scalar.cmpi .ne v125 v130
  let v132 : BitVec 32 := Scalar.remsi v119 c2_i32
  let c0_i32_81 : BitVec 32 := 0#32
  let v133 : BitVec 1 := Scalar.cmpi .ne v132 c0_i32_81
  let v134 : BitVec 1 := Scalar.andi v131 v133
  let v120 : BitVec 32 := Scalar.divsi v119 c2_i32
  let c1_i32_82 : BitVec 32 := 1#32
  let v135 : BitVec 32 := Scalar.subi v120 c1_i32_82
  let v136 : BitVec 32 := Scalar.select v134 v135 v120
  let v137 : BitVec 32 := Scalar.subi v136 c0_i32_83
  let c1_i32_85 : BitVec 32 := 1#32
  let v139 : BitVec 32 := Scalar.divsi v137 c1_i32_85
  let v140 : BitVec 32 := Scalar.muli v139 c1_i32_85
  let v141 : BitVec 32 := Scalar.addi c0_i32_83 v140
  let c1_i32_87 : BitVec 32 := 1#32
  let arg13 : BitVec 32 := Scf.iv v141 c1_i32_87 k0_t3
  let v200 : BitVec 32 := Scalar.muli c2_i32_123 arg13
  let v201 : BitVec 32 := Scalar.addi v199 v200
  let c512_i32_124 : BitVec 32 := 512#32
  let v202 : BitVec 32 := Scalar.muli v201 c512_i32_124
  v202
def k0_off7 (k0_t1 : Fin k0_t1_loop.trips) (k0_t3 : Fin (k0_t3_loop k0_t1).trips) (c1_i32_122 : BitVec 32) : Fin 3 → Nat :=
  let c0_125 : Index := 0#32
  let c0_126 : Index := 0#32
  let c0_i32 : BitVec 32 := 0#32
  let c1_i32 : BitVec 32 := 1#32
  let arg12 : BitVec 32 := Scf.iv c0_i32 c1_i32 k0_t1
  let v199 : BitVec 32 := Scalar.addi arg12 c1_i32_122
  let c2_i32_123 : BitVec 32 := 2#32
  let c0_i32_83 : BitVec 32 := 0#32
  let c7_i32 : BitVec 32 := 7#32
  let v119 : BitVec 32 := Scalar.subi c7_i32 arg12
  let c0_i32_77 : BitVec 32 := 0#32
  let v121 : BitVec 1 := Scalar.cmpi .sgt v119 c0_i32_77
  let v122 : BitVec 32 := Scalar.extui v121
  let c0_i32_78 : BitVec 32 := 0#32
  let v123 : BitVec 1 := Scalar.cmpi .slt v119 c0_i32_78
  let v124 : BitVec 32 := Scalar.extui v123
  let v125 : BitVec 32 := Scalar.subi v122 v124
  let c2_i32 : BitVec 32 := 2#32
  let c0_i32_79 : BitVec 32 := 0#32
  let v126 : BitVec 1 := Scalar.cmpi .sgt c2_i32 c0_i32_79
  let v127 : BitVec 32 := Scalar.extui v126
  let c0_i32_80 : BitVec 32 := 0#32
  let v128 : BitVec 1 := Scalar.cmpi .slt c2_i32 c0_i32_80
  let v129 : BitVec 32 := Scalar.extui v128
  let v130 : BitVec 32 := Scalar.subi v127 v129
  let v131 : BitVec 1 := Scalar.cmpi .ne v125 v130
  let v132 : BitVec 32 := Scalar.remsi v119 c2_i32
  let c0_i32_81 : BitVec 32 := 0#32
  let v133 : BitVec 1 := Scalar.cmpi .ne v132 c0_i32_81
  let v134 : BitVec 1 := Scalar.andi v131 v133
  let v120 : BitVec 32 := Scalar.divsi v119 c2_i32
  let c1_i32_82 : BitVec 32 := 1#32
  let v135 : BitVec 32 := Scalar.subi v120 c1_i32_82
  let v136 : BitVec 32 := Scalar.select v134 v135 v120
  let v137 : BitVec 32 := Scalar.subi v136 c0_i32_83
  let c1_i32_85 : BitVec 32 := 1#32
  let v139 : BitVec 32 := Scalar.divsi v137 c1_i32_85
  let v140 : BitVec 32 := Scalar.muli v139 c1_i32_85
  let v141 : BitVec 32 := Scalar.addi c0_i32_83 v140
  let c1_i32_87 : BitVec 32 := 1#32
  let arg13 : BitVec 32 := Scf.iv v141 c1_i32_87 k0_t3
  let v200 : BitVec 32 := Scalar.muli c2_i32_123 arg13
  let v201 : BitVec 32 := Scalar.addi v199 v200
  let c512_i32_124 : BitVec 32 := 512#32
  let v202 : BitVec 32 := Scalar.muli v201 c512_i32_124
  let v203 : BitVec 32 := v202
  let v204 : Index := Scalar.indexCast v203
  ![0, 0, v204.toNat]
def k0_off8 (k0_t1 : Fin k0_t1_loop.trips) (k0_t3 : Fin (k0_t3_loop k0_t1).trips) (c1_i32_122 : BitVec 32) : Fin 3 → Nat :=
  let c1_150 : Index := 1#32
  let c0_151 : Index := 0#32
  let c0_i32 : BitVec 32 := 0#32
  let c1_i32 : BitVec 32 := 1#32
  let arg12 : BitVec 32 := Scf.iv c0_i32 c1_i32 k0_t1
  let v199 : BitVec 32 := Scalar.addi arg12 c1_i32_122
  let c2_i32_123 : BitVec 32 := 2#32
  let c0_i32_83 : BitVec 32 := 0#32
  let c7_i32 : BitVec 32 := 7#32
  let v119 : BitVec 32 := Scalar.subi c7_i32 arg12
  let c0_i32_77 : BitVec 32 := 0#32
  let v121 : BitVec 1 := Scalar.cmpi .sgt v119 c0_i32_77
  let v122 : BitVec 32 := Scalar.extui v121
  let c0_i32_78 : BitVec 32 := 0#32
  let v123 : BitVec 1 := Scalar.cmpi .slt v119 c0_i32_78
  let v124 : BitVec 32 := Scalar.extui v123
  let v125 : BitVec 32 := Scalar.subi v122 v124
  let c2_i32 : BitVec 32 := 2#32
  let c0_i32_79 : BitVec 32 := 0#32
  let v126 : BitVec 1 := Scalar.cmpi .sgt c2_i32 c0_i32_79
  let v127 : BitVec 32 := Scalar.extui v126
  let c0_i32_80 : BitVec 32 := 0#32
  let v128 : BitVec 1 := Scalar.cmpi .slt c2_i32 c0_i32_80
  let v129 : BitVec 32 := Scalar.extui v128
  let v130 : BitVec 32 := Scalar.subi v127 v129
  let v131 : BitVec 1 := Scalar.cmpi .ne v125 v130
  let v132 : BitVec 32 := Scalar.remsi v119 c2_i32
  let c0_i32_81 : BitVec 32 := 0#32
  let v133 : BitVec 1 := Scalar.cmpi .ne v132 c0_i32_81
  let v134 : BitVec 1 := Scalar.andi v131 v133
  let v120 : BitVec 32 := Scalar.divsi v119 c2_i32
  let c1_i32_82 : BitVec 32 := 1#32
  let v135 : BitVec 32 := Scalar.subi v120 c1_i32_82
  let v136 : BitVec 32 := Scalar.select v134 v135 v120
  let v137 : BitVec 32 := Scalar.subi v136 c0_i32_83
  let c1_i32_85 : BitVec 32 := 1#32
  let v139 : BitVec 32 := Scalar.divsi v137 c1_i32_85
  let v140 : BitVec 32 := Scalar.muli v139 c1_i32_85
  let v141 : BitVec 32 := Scalar.addi c0_i32_83 v140
  let c1_i32_87 : BitVec 32 := 1#32
  let arg13 : BitVec 32 := Scf.iv v141 c1_i32_87 k0_t3
  let v200 : BitVec 32 := Scalar.muli c2_i32_123 arg13
  let v201 : BitVec 32 := Scalar.addi v199 v200
  let c512_i32_124 : BitVec 32 := 512#32
  let v202 : BitVec 32 := Scalar.muli v201 c512_i32_124
  let v203 : BitVec 32 := v202
  let v239 : Index := Scalar.indexCast v203
  ![1, 0, v239.toNat]
def k0_mult6 (k0_t1 : Fin k0_t1_loop.trips) (k0_t3 : Fin (k0_t3_loop k0_t1).trips) : BitVec 32 :=
  let c0_i32 : BitVec 32 := 0#32
  let c1_i32 : BitVec 32 := 1#32
  let arg12 : BitVec 32 := Scf.iv c0_i32 c1_i32 k0_t1
  let c2_i32_175 : BitVec 32 := 2#32
  let v274 : BitVec 32 := Scalar.addi arg12 c2_i32_175
  let c2_i32_176 : BitVec 32 := 2#32
  let c0_i32_83 : BitVec 32 := 0#32
  let c7_i32 : BitVec 32 := 7#32
  let v119 : BitVec 32 := Scalar.subi c7_i32 arg12
  let c0_i32_77 : BitVec 32 := 0#32
  let v121 : BitVec 1 := Scalar.cmpi .sgt v119 c0_i32_77
  let v122 : BitVec 32 := Scalar.extui v121
  let c0_i32_78 : BitVec 32 := 0#32
  let v123 : BitVec 1 := Scalar.cmpi .slt v119 c0_i32_78
  let v124 : BitVec 32 := Scalar.extui v123
  let v125 : BitVec 32 := Scalar.subi v122 v124
  let c2_i32 : BitVec 32 := 2#32
  let c0_i32_79 : BitVec 32 := 0#32
  let v126 : BitVec 1 := Scalar.cmpi .sgt c2_i32 c0_i32_79
  let v127 : BitVec 32 := Scalar.extui v126
  let c0_i32_80 : BitVec 32 := 0#32
  let v128 : BitVec 1 := Scalar.cmpi .slt c2_i32 c0_i32_80
  let v129 : BitVec 32 := Scalar.extui v128
  let v130 : BitVec 32 := Scalar.subi v127 v129
  let v131 : BitVec 1 := Scalar.cmpi .ne v125 v130
  let v132 : BitVec 32 := Scalar.remsi v119 c2_i32
  let c0_i32_81 : BitVec 32 := 0#32
  let v133 : BitVec 1 := Scalar.cmpi .ne v132 c0_i32_81
  let v134 : BitVec 1 := Scalar.andi v131 v133
  let v120 : BitVec 32 := Scalar.divsi v119 c2_i32
  let c1_i32_82 : BitVec 32 := 1#32
  let v135 : BitVec 32 := Scalar.subi v120 c1_i32_82
  let v136 : BitVec 32 := Scalar.select v134 v135 v120
  let v137 : BitVec 32 := Scalar.subi v136 c0_i32_83
  let c1_i32_85 : BitVec 32 := 1#32
  let v139 : BitVec 32 := Scalar.divsi v137 c1_i32_85
  let v140 : BitVec 32 := Scalar.muli v139 c1_i32_85
  let v141 : BitVec 32 := Scalar.addi c0_i32_83 v140
  let c1_i32_87 : BitVec 32 := 1#32
  let arg13 : BitVec 32 := Scf.iv v141 c1_i32_87 k0_t3
  let v275 : BitVec 32 := Scalar.muli c2_i32_176 arg13
  let v276 : BitVec 32 := Scalar.addi v274 v275
  let c512_i32_177 : BitVec 32 := 512#32
  let v277 : BitVec 32 := Scalar.muli v276 c512_i32_177
  v277
def k0_cond1 (k0_t1 : Fin k0_t1_loop.trips) : BitVec 1 :=
  let c7_i32 : BitVec 32 := 7#32
  let c0_i32 : BitVec 32 := 0#32
  let c1_i32 : BitVec 32 := 1#32
  let arg12 : BitVec 32 := Scf.iv c0_i32 c1_i32 k0_t1
  let v119 : BitVec 32 := Scalar.subi c7_i32 arg12
  let c2_i32_88 : BitVec 32 := 2#32
  let c0_i32_89 : BitVec 32 := 0#32
  let v144 : BitVec 1 := Scalar.cmpi .eq c2_i32_88 c0_i32_89
  let c1_i32_90 : BitVec 32 := 1#32
  let v145 : BitVec 32 := Scalar.select v144 c1_i32_90 c2_i32_88
  let v146 : BitVec 32 := Scalar.remsi v119 v145
  let c0_i32_92 : BitVec 32 := 0#32
  let v148 : BitVec 1 := Scalar.cmpi .slt v146 c0_i32_92
  let c0_i32_93 : BitVec 32 := 0#32
  let v149 : BitVec 1 := Scalar.cmpi .slt v145 c0_i32_93
  let v150 : BitVec 1 := Scalar.xori v148 v149
  let c0_i32_91 : BitVec 32 := 0#32
  let v147 : BitVec 1 := Scalar.cmpi .ne v146 c0_i32_91
  let v151 : BitVec 1 := Scalar.andi v150 v147
  let v152 : BitVec 32 := Scalar.addi v146 v145
  let v153 : BitVec 32 := Scalar.select v151 v152 v146
  let c1_i32_94 : BitVec 32 := 1#32
  let v154 : BitVec 1 := Scalar.cmpi .eq v153 c1_i32_94
  let v155 : BitVec 32 := Scalar.extui v154
  let c0_i32_95 : BitVec 32 := 0#32
  let v156 : BitVec 1 := Scalar.cmpi .ne v155 c0_i32_95
  v156

def k0_mult7 : BitVec 32 :=
  let c3584_i32 : BitVec 32 := 3584#32
  c3584_i32
def k0_off9 (k0_t1 : Fin k0_t1_loop.trips) : Fin 3 → Nat :=
  let c0_107 : Index := 0#32
  let c0_108 : Index := 0#32
  let c0_i32 : BitVec 32 := 0#32
  let c1_i32 : BitVec 32 := 1#32
  let arg12 : BitVec 32 := Scf.iv c0_i32 c1_i32 k0_t1
  let c512_i32 : BitVec 32 := 512#32
  let v37 : BitVec 32 := Scalar.muli arg12 c512_i32
  let v38 : BitVec 32 := v37
  let v174 : Index := Scalar.indexCast v38
  ![0, 0, v174.toNat]
def k0_off10 (k0_t1 : Fin k0_t1_loop.trips) : Fin 3 → Nat :=
  let c1_120 : Index := 1#32
  let c0_121 : Index := 0#32
  let c0_i32 : BitVec 32 := 0#32
  let c1_i32 : BitVec 32 := 1#32
  let arg12 : BitVec 32 := Scf.iv c0_i32 c1_i32 k0_t1
  let c512_i32 : BitVec 32 := 512#32
  let v37 : BitVec 32 := Scalar.muli arg12 c512_i32
  let v38 : BitVec 32 := v37
  let v195 : Index := Scalar.indexCast v38
  ![1, 0, v195.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S4096x8 : Shape := ⟨2, ![4096, 8]⟩
abbrev S_ : Shape := ⟨0, ![]⟩
abbrev S4096x8x64 : Shape := ⟨3, ![4096, 8, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x64x4096 : Shape := ⟨3, ![8, 64, 4096]⟩
abbrev S8x4096x64 : Shape := ⟨3, ![8, 4096, 64]⟩
abbrev S8x128x4096 : Shape := ⟨3, ![8, 128, 4096]⟩

abbrev nBuf : Space → Nat
  | .hbm => 161
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x512, .f32⟩
  | 5 => ⟨S4096x8, .f32⟩
  | 6 => ⟨S_, .f32⟩
  | 7 => ⟨S4096x8, .f32⟩
  | 8 => ⟨S4096x8, .f32⟩
  | 9 => ⟨S4096x8, .f32⟩
  | 10 => ⟨S4096x8, .f32⟩
  | 11 => ⟨S4096x8, .i1⟩
  | 12 => ⟨S4096x8, .f32⟩
  | 13 => ⟨S4096x8, .f32⟩
  | 14 => ⟨S4096x8, .f32⟩
  | 15 => ⟨S4096x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S_, .f32⟩
  | 22 => ⟨S_, .f32⟩
  | 23 => ⟨S4096x8, .f32⟩
  | 24 => ⟨S4096x8x64, .f32⟩
  | 25 => ⟨S4096x8x64, .f32⟩
  | 26 => ⟨S8x4096x4096, .f32⟩
  | 27 => ⟨S_, .f32⟩
  | 28 => ⟨S8x4096x4096, .f32⟩
  | 29 => ⟨S8x4096x4096, .f32⟩
  | 30 => ⟨S8x4096, .f32⟩
  | 31 => ⟨S8x4096x1, .f32⟩
  | 32 => ⟨S8x4096x4096, .f32⟩
  | 33 => ⟨S8x4096x4096, .f32⟩
  | 34 => ⟨S8x4096, .f32⟩
  | 35 => ⟨S8x1x4096, .f32⟩
  | 36 => ⟨S8x4096x4096, .f32⟩
  | 37 => ⟨S8x4096x4096, .f32⟩
  | 38 => ⟨S4096, .i32⟩
  | 39 => ⟨S1x4096, .i32⟩
  | 40 => ⟨S4096, .i32⟩
  | 41 => ⟨S4096x1, .i32⟩
  | 42 => ⟨S4096x4096, .i32⟩
  | 43 => ⟨S4096x4096, .i32⟩
  | 44 => ⟨S4096x4096, .i1⟩
  | 45 => ⟨S1x4096x4096, .i1⟩
  | 46 => ⟨S_, .f32⟩
  | 47 => ⟨S_, .f32⟩
  | 48 => ⟨S8x4096x4096, .i1⟩
  | 49 => ⟨S8x4096x4096, .f32⟩
  | 50 => ⟨S8x4096x4096, .f32⟩
  | 51 => ⟨S_, .f32⟩
  | 52 => ⟨S8x4096x4096, .f32⟩
  | 53 => ⟨S_, .f32⟩
  | 54 => ⟨S8x4096, .f32⟩
  | 55 => ⟨S8x4096x1, .f32⟩
  | 56 => ⟨S8x4096x4096, .f32⟩
  | 57 => ⟨S8x4096x4096, .i1⟩
  | 58 => ⟨S8x4096x4096, .f32⟩
  | 59 => ⟨S_, .f32⟩
  | 60 => ⟨S8x4096, .f32⟩
  | 61 => ⟨S_, .f32⟩
  | 62 => ⟨S8x4096, .f32⟩
  | 63 => ⟨S8x4096, .f32⟩
  | 64 => ⟨S_, .f32⟩
  | 65 => ⟨S8x4096, .f32⟩
  | 66 => ⟨S8x4096, .i1⟩
  | 67 => ⟨S_, .f32⟩
  | 68 => ⟨S8x4096, .f32⟩
  | 69 => ⟨S8x4096, .i1⟩
  | 70 => ⟨S_, .f32⟩
  | 71 => ⟨S8x4096, .f32⟩
  | 72 => ⟨S_, .f32⟩
  | 73 => ⟨S8x4096, .f32⟩
  | 74 => ⟨S_, .f32⟩
  | 75 => ⟨S8x4096, .f32⟩
  | 76 => ⟨S8x4096, .f32⟩
  | 77 => ⟨S8x4096, .f32⟩
  | 78 => ⟨S8x4096x1, .f32⟩
  | 79 => ⟨S8x4096x4096, .f32⟩
  | 80 => ⟨S8x4096x4096, .f32⟩
  | 81 => ⟨S8x4096x4096, .f32⟩
  | 82 => ⟨S_, .f32⟩
  | 83 => ⟨S8x4096, .f32⟩
  | 84 => ⟨S8x4096x1, .f32⟩
  | 85 => ⟨S8x4096x4096, .f32⟩
  | 86 => ⟨S8x4096x4096, .f32⟩
  | 87 => ⟨S8x4096x1, .f32⟩
  | 88 => ⟨S_, .f32⟩
  | 89 => ⟨S8x4096x1, .f32⟩
  | 90 => ⟨S8x4096x1, .f32⟩
  | 91 => ⟨S4096x8x64, .f32⟩
  | 92 => ⟨S8x64x4096, .f32⟩
  | 93 => ⟨S4096x8x64, .f32⟩
  | 94 => ⟨S4096x512, .f32⟩
  | 95 => ⟨S4096x8x64, .f32⟩
  | 96 => ⟨S8x64x4096, .f32⟩
  | 97 => ⟨S8x4096x4096, .f32⟩
  | 98 => ⟨S8x64x4096, .f32⟩
  | 99 => ⟨S4096x8x64, .f32⟩
  | 100 => ⟨S4096x512, .f32⟩
  | 101 => ⟨S8x4096x4096, .f32⟩
  | 102 => ⟨S8x4096x4096, .f32⟩
  | 103 => ⟨S8x4096x4096, .f32⟩
  | 104 => ⟨S_, .f32⟩
  | 105 => ⟨S8x4096, .f32⟩
  | 106 => ⟨S8x4096x1, .f32⟩
  | 107 => ⟨S8x4096x1, .f32⟩
  | 108 => ⟨S8x4096x4096, .f32⟩
  | 109 => ⟨S8x4096x4096, .f32⟩
  | 110 => ⟨S_, .f32⟩
  | 111 => ⟨S8x4096, .f32⟩
  | 112 => ⟨S8x4096x4096, .f32⟩
  | 113 => ⟨S8x4096x4096, .f32⟩
  | 114 => ⟨S8x4096x4096, .f32⟩
  | 115 => ⟨S_, .f32⟩
  | 116 => ⟨S8x4096x4096, .f32⟩
  | 117 => ⟨S8x4096x4096, .f32⟩
  | 118 => ⟨S8x4096x4096, .f32⟩
  | 119 => ⟨S_, .f32⟩
  | 120 => ⟨S8x4096, .f32⟩
  | 121 => ⟨S8x1x4096, .f32⟩
  | 122 => ⟨S_, .f32⟩
  | 123 => ⟨S8x4096, .f32⟩
  | 124 => ⟨S4096x8, .f32⟩
  | 125 => ⟨S_, .f32⟩
  | 126 => ⟨S8x4096, .f32⟩
  | 127 => ⟨S8x4096x1, .f32⟩
  | _ => ⟨S4096x512, .f32⟩

abbrev hbmTy0_1 (i : Nat) : BufTy := match i % 128 with
  | 0 => ⟨S_, .f32⟩
  | 1 => ⟨S8x4096, .f32⟩
  | 2 => ⟨S4096x8, .f32⟩
  | 3 => ⟨S4096x8, .f32⟩
  | 4 => ⟨S_, .f32⟩
  | 5 => ⟨S8x4096x4096, .f32⟩
  | 6 => ⟨S8x4096x4096, .f32⟩
  | 7 => ⟨S8x4096x64, .f32⟩
  | 8 => ⟨S4096x8x64, .f32⟩
  | 9 => ⟨S8x4096x64, .f32⟩
  | 10 => ⟨S4096x8x64, .f32⟩
  | 11 => ⟨S4096x512, .f32⟩
  | 12 => ⟨S4096x512, .f32⟩
  | 13 => ⟨S4096x8x64, .f32⟩
  | 14 => ⟨S8x64x4096, .f32⟩
  | 15 => ⟨S_, .i32⟩
  | 16 => ⟨S_, .f32⟩
  | 17 => ⟨S8x128x4096, .f32⟩
  | 18 => ⟨S8x128x4096, .bf16⟩
  | 19 => ⟨S4096x8x64, .f32⟩
  | 20 => ⟨S8x64x4096, .f32⟩
  | 21 => ⟨S_, .i32⟩
  | 22 => ⟨S_, .f32⟩
  | 23 => ⟨S8x128x4096, .f32⟩
  | 24 => ⟨S8x128x4096, .bf16⟩
  | 25 => ⟨S4096x8x64, .f32⟩
  | 26 => ⟨S8x64x4096, .f32⟩
  | 27 => ⟨S_, .i32⟩
  | 28 => ⟨S_, .f32⟩
  | 29 => ⟨S8x128x4096, .f32⟩
  | 30 => ⟨S8x128x4096, .bf16⟩
  | 31 => ⟨S8x4096, .f32⟩
  | 32 => ⟨S8x1x4096, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_call2_v0 : Ref sig .tc := ⟨.hbm, 47, rfl⟩
abbrev main_v23_1 : Ref sig .tc := ⟨.hbm, 48, rfl⟩
abbrev main_call2_v2 : Ref sig .tc := ⟨.hbm, 49, rfl⟩
abbrev main_v23_0 : Ref sig .tc := ⟨.hbm, 50, rfl⟩
abbrev main_call2_cst : Ref sig .tc := ⟨.hbm, 51, rfl⟩
abbrev main_v23_2 : Ref sig .tc := ⟨.hbm, 52, rfl⟩
abbrev main_cst_1 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_2 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_cst_4 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_cst_7 : Ref sig .tc := ⟨.hbm, 72, rfl⟩
abbrev main_v37 : Ref sig .tc := ⟨.hbm, 73, rfl⟩
abbrev main_cst_8 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_9 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_10 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_11 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_12 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call3_cst : Ref sig .tc := ⟨.hbm, 115, rfl⟩
abbrev main_call3_v0 : Ref sig .tc := ⟨.hbm, 116, rfl⟩
abbrev main_v74 : Ref sig .tc := ⟨.hbm, 117, rfl⟩
abbrev main_v75 : Ref sig .tc := ⟨.hbm, 118, rfl⟩
abbrev main_cst_13 : Ref sig .tc := ⟨.hbm, 119, rfl⟩
abbrev main_v76 : Ref sig .tc := ⟨.hbm, 120, rfl⟩
abbrev main_v77 : Ref sig .tc := ⟨.hbm, 121, rfl⟩
abbrev main_cst_14 : Ref sig .tc := ⟨.hbm, 122, rfl⟩
abbrev main_v78 : Ref sig .tc := ⟨.hbm, 123, rfl⟩
abbrev main_v79 : Ref sig .tc := ⟨.hbm, 124, rfl⟩
abbrev main_cst_15 : Ref sig .tc := ⟨.hbm, 125, rfl⟩
abbrev main_v80 : Ref sig .tc := ⟨.hbm, 126, rfl⟩
abbrev main_v81 : Ref sig .tc := ⟨.hbm, 127, rfl⟩
abbrev main_cst_16 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_17 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c : Ref sig .tc := ⟨.hbm, 143, rfl⟩
abbrev main_call4_v0 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_18 : Ref sig .tc := ⟨.hbm, 149, rfl⟩
abbrev main_call5_v0 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_19 : Ref sig .tc := ⟨.hbm, 155, rfl⟩
abbrev main_call6_v0 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x3080 : Shape := ⟨2, ![1024, 3080]⟩
abbrev S3080 : Shape := ⟨1, ![3080]⟩
abbrev S4096x512 : Shape := ⟨2, ![4096, 512]⟩
abbrev S4096x8 : Shape := ⟨2, ![4096, 8]⟩
abbrev S_ : Shape := ⟨0, ![]⟩
abbrev S1024x8 : Shape := ⟨2, ![1024, 8]⟩
abbrev S8 : Shape := ⟨1, ![8]⟩
abbrev S1x8 : Shape := ⟨2, ![1, 8]⟩
abbrev S6x1024 : Shape := ⟨2, ![6, 1024]⟩
abbrev S8x1024 : Shape := ⟨2, ![8, 1024]⟩
abbrev S3080x1024 : Shape := ⟨2, ![3080, 1024]⟩
abbrev S1536x1024 : Shape := ⟨2, ![1536, 1024]⟩
abbrev S3072x1024 : Shape := ⟨2, ![3072, 1024]⟩
abbrev S128x1024 : Shape := ⟨2, ![128, 1024]⟩
abbrev S4096x8x64 : Shape := ⟨3, ![4096, 8, 64]⟩
abbrev S8x64x4096 : Shape := ⟨3, ![8, 64, 4096]⟩
abbrev S8x128x4096 : Shape := ⟨3, ![8, 128, 4096]⟩
abbrev S8x4096 : Shape := ⟨2, ![8, 4096]⟩
abbrev S8x1x4096 : Shape := ⟨3, ![8, 1, 4096]⟩
abbrev S4096x128 : Shape := ⟨2, ![4096, 128]⟩
abbrev S4096x1536 : Shape := ⟨2, ![4096, 1536]⟩
abbrev S8x3072 : Shape := ⟨2, ![8, 3072]⟩
abbrev S8x128 : Shape := ⟨2, ![8, 128]⟩
abbrev S8x128x256 : Shape := ⟨3, ![8, 128, 256]⟩
abbrev S8x1x256 : Shape := ⟨3, ![8, 1, 256]⟩
abbrev S256x128 : Shape := ⟨2, ![256, 128]⟩
abbrev S256x512 : Shape := ⟨2, ![256, 512]⟩
abbrev S16x512 : Shape := ⟨2, ![16, 512]⟩
abbrev S256x1024 : Shape := ⟨2, ![256, 1024]⟩
abbrev S256x1536 : Shape := ⟨2, ![256, 1536]⟩
abbrev S8x256 : Shape := ⟨2, ![8, 256]⟩
abbrev S8x64x256 : Shape := ⟨3, ![8, 64, 256]⟩
abbrev S512x256 : Shape := ⟨2, ![512, 256]⟩
abbrev S8x512 : Shape := ⟨2, ![8, 512]⟩
abbrev S512x1024 : Shape := ⟨2, ![512, 1024]⟩
abbrev S256x1 : Shape := ⟨2, ![256, 1]⟩
abbrev S16x128 : Shape := ⟨2, ![16, 128]⟩
abbrev S256x256 : Shape := ⟨2, ![256, 256]⟩
abbrev S16x16 : Shape := ⟨2, ![16, 16]⟩
abbrev S16x256 : Shape := ⟨2, ![16, 256]⟩
abbrev S240x128 : Shape := ⟨2, ![240, 128]⟩
abbrev S1x512 : Shape := ⟨2, ![1, 512]⟩
abbrev S512 : Shape := ⟨1, ![512]⟩
abbrev S8x1 : Shape := ⟨2, ![8, 1]⟩
abbrev S128x256 : Shape := ⟨2, ![128, 256]⟩
abbrev S120x256 : Shape := ⟨2, ![120, 256]⟩
abbrev S1024 : Shape := ⟨1, ![1024]⟩

abbrev nBuf : Space → Nat
  | .hbm => 72
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3080, .f32⟩
  | .hbm, ⟨4, _⟩ => ⟨S3080, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x8, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x8, .f32⟩
  | .hbm, ⟨21, _⟩ => ⟨S4096x8, .f32⟩
  | .hbm, ⟨22, _⟩ => ⟨S8, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S6x1024, .f32⟩
  | .hbm, ⟨31, _⟩ => ⟨S8x1024, .f32⟩
  | .hbm, ⟨32, _⟩ => ⟨S3080x1024, .f32⟩
  | .hbm, ⟨33, _⟩ => ⟨S1536x1024, .f32⟩
  | .hbm, ⟨34, _⟩ => ⟨S1536x1024, .f32⟩
  | .hbm, ⟨35, _⟩ => ⟨S3072x1024, .f32⟩
  | .hbm, ⟨36, _⟩ => ⟨S8x1024, .f32⟩
  | .hbm, ⟨37, _⟩ => ⟨S_, .i32⟩
  | .hbm, ⟨38, _⟩ => ⟨S_, .f32⟩
  | .hbm, ⟨39, _⟩ => ⟨S128x1024, .f32⟩
  | .hbm, ⟨40, _⟩ => ⟨S4096x8x64, .f32⟩
  | .hbm, ⟨41, _⟩ => ⟨S8x64x4096, .f32⟩
  | .hbm, ⟨42, _⟩ => ⟨S_, .i32⟩
  | .hbm, ⟨43, _⟩ => ⟨S_, .f32⟩
  | .hbm, ⟨44, _⟩ => ⟨S8x128x4096, .f32⟩
  | .hbm, ⟨45, _⟩ => ⟨S8x128x4096, .bf16⟩
  | .hbm, ⟨46, _⟩ => ⟨S4096x8x64, .f32⟩
  | .hbm, ⟨47, _⟩ => ⟨S8x64x4096, .f32⟩
  | .hbm, ⟨48, _⟩ => ⟨S_, .i32⟩
  | .hbm, ⟨49, _⟩ => ⟨S_, .f32⟩
  | .hbm, ⟨50, _⟩ => ⟨S8x128x4096, .f32⟩
  | .hbm, ⟨51, _⟩ => ⟨S8x128x4096, .bf16⟩
  | .hbm, ⟨52, _⟩ => ⟨S4096x8x64, .f32⟩
  | .hbm, ⟨53, _⟩ => ⟨S8x64x4096, .f32⟩
  | .hbm, ⟨54, _⟩ => ⟨S_, .i32⟩
  | .hbm, ⟨55, _⟩ => ⟨S_, .f32⟩
  | .hbm, ⟨56, _⟩ => ⟨S8x128x4096, .f32⟩
  | .hbm, ⟨57, _⟩ => ⟨S8x128x4096, .bf16⟩
  | .hbm, ⟨58, _⟩ => ⟨S8x4096, .f32⟩
  | .hbm, ⟨59, _⟩ => ⟨S8x1x4096, .f32⟩
  | .hbm, ⟨60, _⟩ => ⟨S_, .i32⟩
  | .hbm, ⟨61, _⟩ => ⟨S_, .f32⟩
  | .hbm, ⟨62, _⟩ => ⟨S4096x128, .f32⟩
  | .hbm, ⟨63, _⟩ => ⟨S4096x1024, .bf16⟩
  | .hbm, ⟨64, _⟩ => ⟨S3072x1024, .bf16⟩
  | .hbm, ⟨65, _⟩ => ⟨S128x1024, .bf16⟩
  | .hbm, ⟨66, _⟩ => ⟨S4096x1024, .f32⟩
  | .hbm, ⟨67, _⟩ => ⟨S4096x1536, .bf16⟩
  | .hbm, ⟨68, _⟩ => ⟨S128x1024, .f32⟩
  | .hbm, ⟨69, _⟩ => ⟨S8x3072, .f32⟩
  | .hbm, ⟨70, _⟩ => ⟨S8x128, .f32⟩
  | .hbm, ⟨71, _⟩ => ⟨S8x1024, .f32⟩
  | .local _ .vmem, ⟨0, _⟩ => ⟨S8x128x256, .bf16⟩
  | .local _ .vmem, ⟨1, _⟩ => ⟨S8x128x256, .bf16⟩
  | .local _ .vmem, ⟨2, _⟩ => ⟨S8x128x256, .bf16⟩
  | .local _ .vmem, ⟨3, _⟩ => ⟨S8x128x256, .bf16⟩
  | .local _ .vmem, ⟨4, _⟩ => ⟨S8x128x256, .bf16⟩
  | .local _ .vmem, ⟨5, _⟩ => ⟨S8x128x256, .bf16⟩
  | .local _ .vmem, ⟨6, _⟩ => ⟨S8x1x256, .f32⟩
  | .local _ .vmem, ⟨7, _⟩ => ⟨S8x1x256, .f32⟩
  | .local _ .vmem, ⟨8, _⟩ => ⟨S256x128, .f32⟩
  | .local _ .vmem, ⟨9, _⟩ => ⟨S256x128, .f32⟩
  | .local _ .vmem, ⟨10, _⟩ => ⟨S256x512, .f32⟩
  | .local _ .vmem, ⟨11, _⟩ => ⟨S256x512, .f32⟩
  | .local _ .vmem, ⟨12, _⟩ => ⟨S16x512, .f32⟩
  | .local _ .vmem, ⟨13, _⟩ => ⟨S16x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S8x1024, .f32⟩
  | .local _ .vmem, ⟨25, _⟩ => ⟨S3072x1024, .bf16⟩
  | .local _ .vmem, ⟨26, _⟩ => ⟨S128x1024, .bf16⟩
  | .local _ .vmem, ⟨27, _⟩ => ⟨S256x1024, .f32⟩
  | .local _ .vmem, ⟨28, _⟩ => ⟨S256x1024, .f32⟩
  | .local _ .vmem, ⟨29, _⟩ => ⟨S256x1536, .bf16⟩
  | .local _ .vmem, ⟨30, _⟩ => ⟨S256x1536, .bf16⟩
  | .local _ .vmem, ⟨31, _⟩ => ⟨S128x1024, .f32⟩
  | .local _ .vmem, ⟨32, _⟩ => ⟨S8x3072, .f32⟩
  | .local _ .vmem, ⟨33, _⟩ => ⟨S8x128, .f32⟩
  | .local _ .vmem, ⟨34, _⟩ => ⟨S8x1024, .f32⟩
  | .local _ .vmem, ⟨35, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_call0_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_2 : Ref sig .tc := ⟨.hbm, 42, rfl⟩
abbrev main_call1_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_3 : Ref sig .tc := ⟨.hbm, 48, rfl⟩
abbrev main_call2_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_call3_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_call4_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40_0 : Ref sig .tc := ⟨.hbm, 66, rfl⟩
abbrev main_v40_1 : Ref sig .tc := ⟨.hbm, 67, rfl⟩
abbrev main_v40_2 : Ref sig .tc := ⟨.hbm, 68, rfl⟩
abbrev main_v40_3 : Ref sig .tc := ⟨.hbm, 69, rfl⟩
abbrev main_v40_4 : Ref sig .tc := ⟨.hbm, 70, rfl⟩
abbrev main_v40_5 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem18_0 : DmaSem sig := 32
abbrev cc0_sem19_0 : DmaSem sig := 33
abbrev cc0_sem20_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let v1 : BitVec 32 := Scalar.addi v0 c1_i32
  let c16_i32 : BitVec 32 := 16#32
  let v2 : BitVec 32 := Scalar.muli v1 c16_i32
  let c255_i32 : BitVec 32 := 255#32
  let v3 : BitVec 32 := Scalar.minsi v2 c255_i32
  let c0_i32 : BitVec 32 := 0#32
  let c0_i32_0 : BitVec 32 := 0#32
  ![v3.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3072x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x3072 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference2Ideal.lean ====
abbrev S4096x1024 : Shape := ⟨2, ![4096, 1024]⟩
abbrev S1x1024 : Shape := ⟨2, ![1, 1024]⟩
abbrev S1024x3080 : Shape := ⟨2, ![1024, 3080]⟩
abbrev S3080 : Shape := ⟨1, ![3080]⟩
abbrev S4096x512 : Shape := ⟨2, ![4096, 512]⟩
abbrev S4096x8 : Shape := ⟨2, ![4096, 8]⟩
abbrev S_ : Shape := ⟨0, ![]⟩
abbrev S4096x3080 : Shape := ⟨2, ![4096, 3080]⟩
abbrev S1x3080 : Shape := ⟨2, ![1, 3080]⟩
abbrev S4096 : Shape := ⟨1, ![4096]⟩
abbrev S2x128 : Shape := ⟨2, ![2, 128]⟩
abbrev S4094x128 : Shape := ⟨2, ![4094, 128]⟩
abbrev S4096x128 : Shape := ⟨2, ![4096, 128]⟩
abbrev S4096x1 : Shape := ⟨2, ![4096, 1]⟩
abbrev S4x128 : Shape := ⟨2, ![4, 128]⟩
abbrev S4092x128 : Shape := ⟨2, ![4092, 128]⟩
abbrev S8x128 : Shape := ⟨2, ![8, 128]⟩
abbrev S4088x128 : Shape := ⟨2, ![4088, 128]⟩
abbrev S16x128 : Shape := ⟨2, ![16, 128]⟩
abbrev S4080x128 : Shape := ⟨2, ![4080, 128]⟩
abbrev S3080x1024 : Shape := ⟨2, ![3080, 1024]⟩
abbrev S1024 : Shape := ⟨1, ![1024]⟩
abbrev S1024x8 : Shape := ⟨2, ![1024, 8]⟩
abbrev S8x1024 : Shape := ⟨2, ![8, 1024]⟩
abbrev S128x1024 : Shape := ⟨2, ![128, 1024]⟩
abbrev S1x1536 : Shape := ⟨2, ![1, 1536]⟩
abbrev S1x3072 : Shape := ⟨2, ![1, 3072]⟩
abbrev S1x8 : Shape := ⟨2, ![1, 8]⟩
abbrev S1x128 : Shape := ⟨2, ![1, 128]⟩
abbrev S4096x1536 : Shape := ⟨2, ![4096, 1536]⟩
abbrev S8x3072 : Shape := ⟨2, ![8, 3072]⟩
abbrev S2x1024 : Shape := ⟨2, ![2, 1024]⟩

abbrev nBuf : Space → Nat
  | .hbm => 270
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1024x3080, .f32⟩
  | 4 => ⟨S3080, .f32⟩
  | 5 => ⟨S4096x512, .f32⟩
  | 6 => ⟨S4096x512, .f32⟩
  | 7 => ⟨S4096x512, .f32⟩
  | 8 => ⟨S4096x8, .f32⟩
  | 9 => ⟨S4096x512, .f32⟩
  | 10 => ⟨S4096x512, .f32⟩
  | 11 => ⟨S4096x512, .f32⟩
  | 12 => ⟨S4096x1024, .f32⟩
  | 13 => ⟨S_, .f32⟩
  | 14 => ⟨S1x1024, .f32⟩
  | 15 => ⟨S1x1024, .f32⟩
  | 16 => ⟨S4096x1024, .f32⟩
  | 17 => ⟨S4096x1024, .f32⟩
  | 18 => ⟨S4096x1024, .f32⟩
  | 19 => ⟨S4096x1024, .f32⟩
  | 20 => ⟨S4096x3080, .f32⟩
  | 21 => ⟨S1x3080, .f32⟩
  | 22 => ⟨S4096x3080, .f32⟩
  | 23 => ⟨S4096x3080, .f32⟩
  | 24 => ⟨S4096x512, .f32⟩
  | 25 => ⟨S4096x512, .f32⟩
  | 26 => ⟨S4096x512, .f32⟩
  | 27 => ⟨S4096x8, .f32⟩
  | 28 => ⟨S4096x512, .f32⟩
  | 29 => ⟨S4096x512, .f32⟩
  | 30 => ⟨S4096x512, .f32⟩
  | 31 => ⟨S4096x8, .f32⟩
  | 32 => ⟨S_, .f32⟩
  | 33 => ⟨S4096x8, .f32⟩
  | 34 => ⟨S4096x8, .f32⟩
  | 35 => ⟨S4096x8, .f32⟩
  | 36 => ⟨S4096x8, .f32⟩
  | 37 => ⟨S4096x8, .i1⟩
  | 38 => ⟨S4096x8, .f32⟩
  | 39 => ⟨S4096x8, .f32⟩
  | 40 => ⟨S4096x8, .f32⟩
  | 41 => ⟨S4096x8, .f32⟩
  | 42 => ⟨S4096x8, .f32⟩
  | 43 => ⟨S4096x8, .f32⟩
  | 44 => ⟨S4096x8, .f32⟩
  | 45 => ⟨S4096x8, .f32⟩
  | 46 => ⟨S_, .f32⟩
  | 47 => ⟨S4096x8, .f32⟩
  | 48 => ⟨S4096x8, .i1⟩
  | 49 => ⟨S_, .f32⟩
  | 50 => ⟨S4096x8, .f32⟩
  | 51 => ⟨S4096x8, .f32⟩
  | 52 => ⟨S_, .f32⟩
  | 53 => ⟨S4096x8, .f32⟩
  | 54 => ⟨S4096x8, .i1⟩
  | 55 => ⟨S_, .f32⟩
  | 56 => ⟨S4096x8, .f32⟩
  | 57 => ⟨S4096x8, .f32⟩
  | 58 => ⟨S4096x8, .f32⟩
  | 59 => ⟨S4096x8, .f32⟩
  | 60 => ⟨S_, .f32⟩
  | 61 => ⟨S_, .f32⟩
  | 62 => ⟨S_, .i1⟩
  | 63 => ⟨S_, .f32⟩
  | 64 => ⟨S_, .f32⟩
  | 65 => ⟨S_, .f32⟩
  | 66 => ⟨S_, .f32⟩
  | 67 => ⟨S4096x8, .f32⟩
  | 68 => ⟨S4096x8, .i1⟩
  | 69 => ⟨S_, .f32⟩
  | 70 => ⟨S4096x8, .f32⟩
  | 71 => ⟨S4096x8, .f32⟩
  | 72 => ⟨S4096x8, .f32⟩
  | 73 => ⟨S4096x8, .f32⟩
  | 74 => ⟨S4096x8, .f32⟩
  | 75 => ⟨S_, .f32⟩
  | 76 => ⟨S4096x8, .f32⟩
  | 77 => ⟨S4096x8, .f32⟩
  | 78 => ⟨S4096x8, .f32⟩
  | 79 => ⟨S_, .f32⟩
  | 80 => ⟨S_, .f32⟩
  | 81 => ⟨S4096x8, .f32⟩
  | 82 => ⟨S_, .f32⟩
  | 83 => ⟨S_, .f32⟩
  | 84 => ⟨S4096x512, .f32⟩
  | 85 => ⟨S4096, .f32⟩
  | 86 => ⟨S_, .f32⟩
  | 87 => ⟨S4096, .f32⟩
  | 88 => ⟨S4096, .f32⟩
  | 89 => ⟨S_, .f32⟩
  | 90 => ⟨S2x128, .f32⟩
  | 91 => ⟨S4094x128, .f32⟩
  | 92 => ⟨S4096x128, .f32⟩
  | 93 => ⟨S_, .f32⟩
  | 94 => ⟨S2x128, .f32⟩
  | 95 => ⟨S4096x128, .f32⟩
  | 96 => ⟨S4096x128, .f32⟩
  | 97 => ⟨S_, .f32⟩
  | 98 => ⟨S4096, .f32⟩
  | 99 => ⟨S4096, .f32⟩
  | 100 => ⟨S4096x1, .f32⟩
  | 101 => ⟨S4096x128, .f32⟩
  | 102 => ⟨S4096x128, .f32⟩
  | 103 => ⟨S4096x128, .f32⟩
  | 104 => ⟨S4096x128, .f32⟩
  | 105 => ⟨S_, .f32⟩
  | 106 => ⟨S4x128, .f32⟩
  | 107 => ⟨S4092x128, .f32⟩
  | 108 => ⟨S4096x128, .f32⟩
  | 109 => ⟨S_, .f32⟩
  | 110 => ⟨S4x128, .f32⟩
  | 111 => ⟨S4096x128, .f32⟩
  | 112 => ⟨S4096x128, .f32⟩
  | 113 => ⟨S_, .f32⟩
  | 114 => ⟨S4096, .f32⟩
  | 115 => ⟨S4096, .f32⟩
  | 116 => ⟨S4096x1, .f32⟩
  | 117 => ⟨S4096x128, .f32⟩
  | 118 => ⟨S4096x128, .f32⟩
  | 119 => ⟨S4096x128, .f32⟩
  | 120 => ⟨S4096x128, .f32⟩
  | 121 => ⟨S_, .f32⟩
  | 122 => ⟨S8x128, .f32⟩
  | 123 => ⟨S4088x128, .f32⟩
  | 124 => ⟨S4096x128, .f32⟩
  | 125 => ⟨S_, .f32⟩
  | 126 => ⟨S8x128, .f32⟩
  | 127 => ⟨S4096x128, .f32⟩
  | _ => ⟨S4096x1024, .f32⟩

abbrev hbmTy0_1 (i : Nat) : BufTy := match i % 128 with
  | 0 => ⟨S4096x128, .f32⟩
  | 1 => ⟨S_, .f32⟩
  | 2 => ⟨S4096, .f32⟩
  | 3 => ⟨S4096, .f32⟩
  | 4 => ⟨S4096x1, .f32⟩
  | 5 => ⟨S4096x128, .f32⟩
  | 6 => ⟨S4096x128, .f32⟩
  | 7 => ⟨S4096x128, .f32⟩
  | 8 => ⟨S4096x128, .f32⟩
  | 9 => ⟨S_, .f32⟩
  | 10 => ⟨S16x128, .f32⟩
  | 11 => ⟨S4080x128, .f32⟩
  | 12 => ⟨S4096x128, .f32⟩
  | 13 => ⟨S_, .f32⟩
  | 14 => ⟨S16x128, .f32⟩
  | 15 => ⟨S4096x128, .f32⟩
  | 16 => ⟨S4096x128, .f32⟩
  | 17 => ⟨S_, .f32⟩
  | 18 => ⟨S4096, .f32⟩
  | 19 => ⟨S4096, .f32⟩
  | 20 => ⟨S4096x1, .f32⟩
  | 21 => ⟨S4096x128, .f32⟩
  | 22 => ⟨S4096x128, .f32⟩
  | 23 => ⟨S4096x128, .f32⟩
  | 24 => ⟨S4096x128, .f32⟩
  | 25 => ⟨S4096x512, .f32⟩
  | 26 => ⟨S4096x128, .f32⟩
  | 27 => ⟨S4096x128, .f32⟩
  | 28 => ⟨S4096x128, .f32⟩
  | 29 => ⟨S4096x128, .f32⟩
  | 30 => ⟨S4096x128, .f32⟩
  | 31 => ⟨S_, .f32⟩
  | 32 => ⟨S4096x512, .f32⟩
  | 33 => ⟨S4096x128, .f32⟩
  | 34 => ⟨S4096x128, .f32⟩
  | 35 => ⟨S4096x128, .f32⟩
  | 36 => ⟨S_, .f32⟩
  | 37 => ⟨S4096x512, .f32⟩
  | 38 => ⟨S16x128, .f32⟩
  | 39 => ⟨S4080x128, .f32⟩
  | 40 => ⟨S_, .f32⟩
  | 41 => ⟨S4096x512, .f32⟩
  | 42 => ⟨S4096x512, .f32⟩
  | 43 => ⟨S4096x128, .f32⟩
  | 44 => ⟨S_, .f32⟩
  | 45 => ⟨S4096x512, .f32⟩
  | 46 => ⟨S4096x512, .f32⟩
  | 47 => ⟨S4096x128, .f32⟩
  | 48 => ⟨S4096x128, .f32⟩
  | 49 => ⟨S4096x128, .f32⟩
  | 50 => ⟨S_, .f32⟩
  | 51 => ⟨S4096x512, .f32⟩
  | 52 => ⟨S4096x512, .f32⟩
  | 53 => ⟨S8x128, .f32⟩
  | 54 => ⟨S4088x128, .f32⟩
  | 55 => ⟨S_, .f32⟩
  | 56 => ⟨S4096x512, .f32⟩
  | 57 => ⟨S4096x512, .f32⟩
  | 58 => ⟨S4096x128, .f32⟩
  | 59 => ⟨S_, .f32⟩
  | 60 => ⟨S4096x512, .f32⟩
  | 61 => ⟨S4096x512, .f32⟩
  | 62 => ⟨S4096x128, .f32⟩
  | 63 => ⟨S4096x128, .f32⟩
  | 64 => ⟨S4096x128, .f32⟩
  | 65 => ⟨S_, .f32⟩
  | 66 => ⟨S4096x512, .f32⟩
  | 67 => ⟨S4096x512, .f32⟩
  | 68 => ⟨S4x128, .f32⟩
  | 69 => ⟨S4092x128, .f32⟩
  | 70 => ⟨S_, .f32⟩
  | 71 => ⟨S4096x512, .f32⟩
  | 72 => ⟨S4096x512, .f32⟩
  | 73 => ⟨S4096x128, .f32⟩
  | 74 => ⟨S_, .f32⟩
  | 75 => ⟨S4096x512, .f32⟩
  | 76 => ⟨S4096x512, .f32⟩
  | 77 => ⟨S4096x128, .f32⟩
  | 78 => ⟨S4096x128, .f32⟩
  | 79 => ⟨S4096x128, .f32⟩
  | 80 => ⟨S_, .f32⟩
  | 81 => ⟨S4096x512, .f32⟩
  | 82 => ⟨S4096x512, .f32⟩
  | 83 => ⟨S2x128, .f32⟩
  | 84 => ⟨S4094x128, .f32⟩
  | 85 => ⟨S_, .f32⟩
  | 86 => ⟨S4096x512, .f32⟩
  | 87 => ⟨S4096x512, .f32⟩
  | 88 => ⟨S_, .f32⟩
  | 89 => ⟨S_, .f32⟩
  | 90 => ⟨S4096x512, .f32⟩
  | 91 => ⟨S4096x512, .f32⟩
  | 92 => ⟨S_, .f32⟩
  | 93 => ⟨S_, .f32⟩
  | 94 => ⟨S4096x8, .f32⟩
  | 95 => ⟨S4096x8, .f32⟩
  | 96 => ⟨S4096x8, .f32⟩
  | 97 => ⟨S4096x8, .f32⟩
  | 98 => ⟨S4096x3080, .f32⟩
  | 99 => ⟨S_, .f32⟩
  | 100 => ⟨S3080, .f32⟩
  | 101 => ⟨S1x3080, .f32⟩
  | 102 => ⟨S_, .f32⟩
  | 103 => ⟨S3080, .f32⟩
  | 104 => ⟨S3080x1024, .f32⟩
  | 105 => ⟨S1024x3080, .f32⟩
  | 106 => ⟨S4096x1024, .f32⟩
  | 107 => ⟨S_, .f32⟩
  | 108 => ⟨S1024, .f32⟩
  | 109 => ⟨S1x1024, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S4096x1024, .f32⟩
  | 116 => ⟨S1024x8, .f32⟩
  | 117 => ⟨S8x1024, .f32⟩
  | 118 => ⟨S_, .i32⟩
  | 119 => ⟨S_, .f32⟩
  | 120 => ⟨S128x1024, .f32⟩
  | 121 => ⟨S1x3080, .f32⟩
  | 122 => ⟨S1x1536, .f32⟩
  | 123 => ⟨S1x1536, .f32⟩
  | 124 => ⟨S1x3072, .f32⟩
  | 125 => ⟨S1x8, .f32⟩
  | 126 => ⟨S_, .i32⟩
  | 127 => ⟨S_, .f32⟩
  | _ => ⟨S4096x1024, .f32⟩

abbrev hbmTy0_2 (i : Nat) : BufTy := match i % 128 with
  | 0 => ⟨S1x128, .f32⟩
  | 1 => ⟨S4096x1024, .f32⟩
  | 2 => ⟨S4096x1536, .f32⟩
  | 3 => ⟨S4096x1536, .bf16⟩
  | 4 => ⟨S_, .i32⟩
  | 5 => ⟨S_, .f32⟩
  | 6 => ⟨S8x3072, .f32⟩
  | 7 => ⟨S_, .i32⟩
  | 8 => ⟨S_, .f32⟩
  | 9 => ⟨S8x128, .f32⟩
  | 10 => ⟨S2x1024, .f32⟩
  | 11 => ⟨S_, .i32⟩
  | 12 => ⟨S_, .f32⟩
  | 13 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1_0 : Ref sig .tc := ⟨.hbm, 45, rfl⟩
abbrev main_call0_call0_cst_0 : Ref sig .tc := ⟨.hbm, 46, rfl⟩
abbrev main_call0_call0_v13 : Ref sig .tc := ⟨.hbm, 47, rfl⟩
abbrev main_call0_call0_v14 : Ref sig .tc := ⟨.hbm, 48, rfl⟩
abbrev main_call0_call0_cst_1 : Ref sig .tc := ⟨.hbm, 49, rfl⟩
abbrev main_call0_call0_v15 : Ref sig .tc := ⟨.hbm, 50, rfl⟩
abbrev main_call0_call0_v16 : Ref sig .tc := ⟨.hbm, 51, rfl⟩
abbrev main_call0_call0_cst_2 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_cst_3 : Ref sig .tc := ⟨.hbm, 55, rfl⟩
abbrev main_call0_call0_v19 : Ref sig .tc := ⟨.hbm, 56, rfl⟩
abbrev main_call0_call0_v20 : Ref sig .tc := ⟨.hbm, 57, rfl⟩
abbrev main_call0_call0_v21 : Ref sig .tc := ⟨.hbm, 58, rfl⟩
abbrev main_v17_1 : Ref sig .tc := ⟨.hbm, 59, rfl⟩
abbrev main_call0_call0_cst_4 : Ref sig .tc := ⟨.hbm, 60, rfl⟩
abbrev main_call0_call0_cst_5 : Ref sig .tc := ⟨.hbm, 61, rfl⟩
abbrev main_call0_call0_v23 : Ref sig .tc := ⟨.hbm, 62, rfl⟩
abbrev main_call0_call0_cst_6 : Ref sig .tc := ⟨.hbm, 63, rfl⟩
abbrev main_call0_call0_cst_7 : Ref sig .tc := ⟨.hbm, 64, rfl⟩
abbrev main_call0_call0_v24 : Ref sig .tc := ⟨.hbm, 65, rfl⟩
abbrev main_call0_call0_cst_8 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_cst_9 : Ref sig .tc := ⟨.hbm, 69, rfl⟩
abbrev main_call0_call0_v27 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_v30 : Ref sig .tc := ⟨.hbm, 73, rfl⟩
abbrev main_call0_call0_v31 : Ref sig .tc := ⟨.hbm, 74, rfl⟩
abbrev main_call0_call0_cst_10 : Ref sig .tc := ⟨.hbm, 75, rfl⟩
abbrev main_call0_call0_v32 : Ref sig .tc := ⟨.hbm, 76, rfl⟩
abbrev main_v17_2 : Ref sig .tc := ⟨.hbm, 77, rfl⟩
abbrev main_v17_0 : Ref sig .tc := ⟨.hbm, 78, rfl⟩
abbrev main_call1_call0_cst : Ref sig .tc := ⟨.hbm, 79, rfl⟩
abbrev main_call1_call0_v0 : Ref sig .tc := ⟨.hbm, 80, rfl⟩
abbrev main_v18 : Ref sig .tc := ⟨.hbm, 81, rfl⟩
abbrev main_call2_call0_cst : Ref sig .tc := ⟨.hbm, 82, rfl⟩
abbrev main_call2_call0_v0 : Ref sig .tc := ⟨.hbm, 83, rfl⟩
abbrev main_v19 : Ref sig .tc := ⟨.hbm, 84, rfl⟩
abbrev main_v20 : Ref sig .tc := ⟨.hbm, 85, rfl⟩
abbrev main_cst_0 : Ref sig .tc := ⟨.hbm, 86, rfl⟩
abbrev main_v21 : Ref sig .tc := ⟨.hbm, 87, rfl⟩
abbrev main_v22 : Ref sig .tc := ⟨.hbm, 88, rfl⟩
abbrev main_cst_1 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_cst_2 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_cst_3 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_cst_4 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_cst_5 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_cst_6 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_cst_7 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_cst_8 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_cst_9 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_cst_10 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_cst_11 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_cst_12 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_13 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_cst_14 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_cst_15 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_cst_16 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_cst_17 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_cst_18 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_cst_19 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_cst_20 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_21 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_22 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_cst_23 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_cst_24 : Ref sig .tc := ⟨.hbm, 213, rfl⟩
abbrev main_v124 : Ref sig .tc := ⟨.hbm, 214, rfl⟩
abbrev main_v125 : Ref sig .tc := ⟨.hbm, 215, rfl⟩
abbrev main_call3_call0_cst : Ref sig .tc := ⟨.hbm, 216, rfl⟩
abbrev main_call3_call0_v0 : Ref sig .tc := ⟨.hbm, 217, rfl⟩
abbrev main_v126 : Ref sig .tc := ⟨.hbm, 218, rfl⟩
abbrev main_v127 : Ref sig .tc := ⟨.hbm, 219, rfl⟩
abbrev main_call4_call0_cst : Ref sig .tc := ⟨.hbm, 220, rfl⟩
abbrev main_call4_call0_v0 : Ref sig .tc := ⟨.hbm, 221, rfl⟩
abbrev main_v128 : Ref sig .tc := ⟨.hbm, 222, rfl⟩
abbrev main_call5_v0 : Ref sig .tc := ⟨.hbm, 223, rfl⟩
abbrev main_call5_v1 : Ref sig .tc := ⟨.hbm, 224, rfl⟩
abbrev main_v129 : Ref sig .tc := ⟨.hbm, 225, rfl⟩
abbrev main_v130 : Ref sig .tc := ⟨.hbm, 226, rfl⟩
abbrev main_cst_25 : Ref sig .tc := ⟨.hbm, 227, rfl⟩
abbrev main_v131 : Ref sig .tc := ⟨.hbm, 228, rfl⟩
abbrev main_v132 : Ref sig .tc := ⟨.hbm, 229, rfl⟩
abbrev main_cst_26 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_cst_27 : Ref sig .tc := ⟨.hbm, 235, rfl⟩
abbrev main_v137 : Ref sig .tc := ⟨.hbm, 236, rfl⟩
abbrev main_v138 : Ref sig .tc := ⟨.hbm, 237, rfl⟩
abbrev main_v139 : Ref sig .tc := ⟨.hbm, 238, rfl⟩
abbrev main_cst_28 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_c : Ref sig .tc := ⟨.hbm, 246, rfl⟩
abbrev main_call6_v0 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_c_29 : Ref sig .tc := ⟨.hbm, 254, rfl⟩
abbrev main_call7_v0 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_c_30 : Ref sig .tc := ⟨.hbm, 260, rfl⟩
abbrev main_call8_v0 : Ref sig .tc := ⟨.hbm, 261, rfl⟩
abbrev main_v156 : Ref sig .tc := ⟨.hbm, 262, rfl⟩
abbrev main_c_31 : Ref sig .tc := ⟨.hbm, 263, rfl⟩
abbrev main_call9_v0 : Ref sig .tc := ⟨.hbm, 264, rfl⟩
abbrev main_v157 : Ref sig .tc := ⟨.hbm, 265, rfl⟩
abbrev main_v158 : Ref sig .tc := ⟨.hbm, 266, rfl⟩
abbrev main_c_32 : Ref sig .tc := ⟨.hbm, 267, rfl⟩
abbrev main_call10_v0 : Ref sig .tc := ⟨.hbm, 268, rfl⟩
abbrev main_v159 : Ref sig .tc := ⟨.hbm, 269, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S1x1024 : Shape := ⟨2, ![1, 1024]⟩
abbrev S4x128 : Shape := ⟨2, ![4, 128]⟩
abbrev S1x512 : Shape := ⟨2, ![1, 512]⟩
abbrev S1024x1024 : Shape := ⟨2, ![1024, 1024]⟩
abbrev S4x128x128 : Shape := ⟨3, ![4, 128, 128]⟩
abbrev S_ : Shape := ⟨0, ![]⟩
abbrev S4x1024 : Shape := ⟨2, ![4, 1024]⟩
abbrev S8x1024 : Shape := ⟨2, ![8, 1024]⟩
abbrev S6x512 : Shape := ⟨2, ![6, 512]⟩
abbrev S8x512 : Shape := ⟨2, ![8, 512]⟩
abbrev S8x128x4096 : Shape := ⟨3, ![8, 128, 4096]⟩
abbrev S256x1024 : Shape := ⟨2, ![256, 1024]⟩
abbrev S256x512 : Shape := ⟨2, ![256, 512]⟩
abbrev S16x512 : Shape := ⟨2, ![16, 512]⟩
abbrev S8x128x256 : Shape := ⟨3, ![8, 128, 256]⟩
abbrev S256x1 : Shape := ⟨2, ![256, 1]⟩
abbrev S256x128 : Shape := ⟨2, ![256, 128]⟩
abbrev S16x128 : Shape := ⟨2, ![16, 128]⟩
abbrev S256x256 : Shape := ⟨2, ![256, 256]⟩
abbrev S16x16 : Shape := ⟨2, ![16, 16]⟩
abbrev S16x256 : Shape := ⟨2, ![16, 256]⟩
abbrev S240x128 : Shape := ⟨2, ![240, 128]⟩
abbrev S1x128x128 : Shape := ⟨3, ![1, 128, 128]⟩
abbrev S128x128 : Shape := ⟨2, ![128, 128]⟩
abbrev S1x128 : Shape := ⟨2, ![1, 128]⟩
abbrev S256 : Shape := ⟨1, ![256]⟩
abbrev S1 : Shape := ⟨1, ![1]⟩
abbrev S1x1 : Shape := ⟨2, ![1, 1]⟩
abbrev S1024 : Shape := ⟨1, ![1024]⟩
abbrev S1024x256 : Shape := ⟨2, ![1024, 256]⟩
abbrev S512x256 : Shape := ⟨2, ![512, 256]⟩
abbrev S64x256 : Shape := ⟨2, ![64, 256]⟩
abbrev S1x256 : Shape := ⟨2, ![1, 256]⟩
abbrev S128x256 : Shape := ⟨2, ![128, 256]⟩
abbrev S1x128x256 : Shape := ⟨3, ![1, 128, 256]⟩
abbrev S512 : Shape := ⟨1, ![512]⟩

abbrev nBuf : Space → Nat
  | .hbm => 31
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4x128, .f32⟩
  | .hbm, ⟨11, _⟩ => ⟨S1x512, .f32⟩
  | .hbm, ⟨12, _⟩ => ⟨S1024x1024, .f32⟩
  | .hbm, ⟨13, _⟩ => ⟨S4x128x128, .f32⟩
  | .hbm, ⟨14, _⟩ => ⟨S_, .f32⟩
  | .hbm, ⟨15, _⟩ => ⟨S4x1024, .f32⟩
  | .hbm, ⟨16, _⟩ => ⟨S8x1024, .f32⟩
  | .hbm, ⟨17, _⟩ => ⟨S1x512, .f32⟩
  | .hbm, ⟨18, _⟩ => ⟨S_, .f32⟩
  | .hbm, ⟨19, _⟩ => ⟨S6x512, .f32⟩
  | .hbm, ⟨20, _⟩ => ⟨S8x512, .f32⟩
  | .hbm, ⟨21, _⟩ => ⟨S1024x1024, .bf16⟩
  | .hbm, ⟨22, _⟩ => ⟨S4x128x128, .bf16⟩
  | .hbm, ⟨23, _⟩ => ⟨S4096x1024, .f32⟩
  | .hbm, ⟨24, _⟩ => ⟨S8x128x4096, .bf16⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S1024x1024, .bf16⟩
  | .hbm, ⟨29, _⟩ => ⟨S4x128x128, .f32⟩
  | .hbm, ⟨30, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S16x512, .f32⟩
  | .local _ .vmem, ⟨13, _⟩ => ⟨S16x512, .f32⟩
  | .local _ .vmem, ⟨14, _⟩ => ⟨S8x1024, .f32⟩
  | .local _ .vmem, ⟨15, _⟩ => ⟨S8x512, .f32⟩
  | .local _ .vmem, ⟨16, _⟩ => ⟨S1024x1024, .bf16⟩
  | .local _ .vmem, ⟨17, _⟩ => ⟨S4x128x128, .bf16⟩
  | .local _ .vmem, ⟨18, _⟩ => ⟨S256x1024, .f32⟩
  | .local _ .vmem, ⟨19, _⟩ => ⟨S256x1024, .f32⟩
  | .local _ .vmem, ⟨20, _⟩ => ⟨S8x128x256, .bf16⟩
  | .local _ .vmem, ⟨21, _⟩ => ⟨S8x128x256, .bf16⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S1024x1024, .bf16⟩
  | .local _ .vmem, ⟨29, _⟩ => ⟨S4x128x128, .f32⟩
  | .local _ .vmem, ⟨30, _⟩ => ⟨S8x1024, .f32⟩
  | .local _ .vmem, ⟨31, _⟩ => ⟨S1024x1024, .f32⟩
  | .local _ .vmem, ⟨32, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev main_v7_5 : Ref sig .tc := ⟨.hbm, 28, rfl⟩
abbrev main_v7_6 : Ref sig .tc := ⟨.hbm, 29, rfl⟩
abbrev main_v7_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v780 : BitVec 1 := Scalar.cmpi .eq arg0 c15_i32
  let v781 : BitVec 32 := Scalar.extui v780
  let c0_i32_245 : BitVec 32 := 0#32
  let v782 : BitVec 1 := Scalar.cmpi .ne v781 c0_i32_245
  v782

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Kernel4.lean ====
abbrev S4096x512 : Shape := ⟨2, ![4096, 512]⟩
abbrev S4096x8 : Shape := ⟨2, ![4096, 8]⟩
abbrev S_ : Shape := ⟨0, ![]⟩
abbrev S8x4096x3 : Shape := ⟨3, ![8, 4096, 3]⟩
abbrev S4096x8x64 : Shape := ⟨3, ![4096, 8, 64]⟩
abbrev S8x4096x64 : Shape := ⟨3, ![8, 4096, 64]⟩
abbrev S8x4096 : Shape := ⟨2, ![8, 4096]⟩
abbrev S8x4096x1 : Shape := ⟨3, ![8, 4096, 1]⟩
abbrev S8x4096x58 : Shape := ⟨3, ![8, 4096, 58]⟩
abbrev S8x4096x128 : Shape := ⟨3, ![8, 4096, 128]⟩
abbrev S8x4096x55 : Shape := ⟨3, ![8, 4096, 55]⟩
abbrev S8x4096x61 : Shape := ⟨3, ![8, 4096, 61]⟩
abbrev S8x128x4096 : Shape := ⟨3, ![8, 128, 4096]⟩
abbrev S2x512x128 : Shape := ⟨3, ![2, 512, 128]⟩
abbrev S2x4096x128 : Shape := ⟨3, ![2, 4096, 128]⟩
abbrev S512x128 : Shape := ⟨2, ![512, 128]⟩
abbrev S2x128x512 : Shape := ⟨3, ![2, 128, 512]⟩
abbrev S2x512x512 : Shape := ⟨3, ![2, 512, 512]⟩
abbrev S2x8x512 : Shape := ⟨3, ![2, 8, 512]⟩
abbrev S128x512 : Shape := ⟨2, ![128, 512]⟩
abbrev S512x512 : Shape := ⟨2, ![512, 512]⟩
abbrev S1x512x128 : Shape := ⟨3, ![1, 512, 128]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S64x512 : Shape := ⟨2, ![64, 512]⟩

abbrev nBuf : Space → Nat
  | .hbm => 72
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x8, .f32⟩
  | .hbm, ⟨5, _⟩ => ⟨S_, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S4096x8, .i1⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S_, .f32⟩
  | .hbm, ⟨22, _⟩ => ⟨S4096x8, .f32⟩
  | .hbm, ⟨23, _⟩ => ⟨S_, .bf16⟩
  | .hbm, ⟨24, _⟩ => ⟨S8x4096x3, .bf16⟩
  | .hbm, ⟨25, _⟩ => ⟨S4096x8x64, .f32⟩
  | .hbm, ⟨26, _⟩ => ⟨S8x4096x64, .f32⟩
  | .hbm, ⟨27, _⟩ => ⟨S_, .f32⟩
  | .hbm, ⟨28, _⟩ => ⟨S8x4096x64, .f32⟩
  | .hbm, ⟨29, _⟩ => ⟨S8x4096x64, .f32⟩
  | .hbm, ⟨30, _⟩ => ⟨S8x4096x64, .bf16⟩
  | .hbm, ⟨31, _⟩ => ⟨S8x4096, .f32⟩
  | .hbm, ⟨32, _⟩ => ⟨S8x4096, .bf16⟩
  | .hbm, ⟨33, _⟩ => ⟨S8x4096, .f32⟩
  | .hbm, ⟨34, _⟩ => ⟨S8x4096, .f32⟩
  | .hbm, ⟨35, _⟩ => ⟨S8x4096, .bf16⟩
  | .hbm, ⟨36, _⟩ => ⟨S8x4096, .f32⟩
  | .hbm, ⟨37, _⟩ => ⟨S8x4096, .f32⟩
  | .hbm, ⟨38, _⟩ => ⟨S8x4096, .bf16⟩
  | .hbm, ⟨39, _⟩ => ⟨S8x4096x1, .bf16⟩
  | .hbm, ⟨40, _⟩ => ⟨S8x4096x1, .bf16⟩
  | .hbm, ⟨41, _⟩ => ⟨S8x4096x1, .bf16⟩
  | .hbm, ⟨42, _⟩ => ⟨S_, .bf16⟩
  | .hbm, ⟨43, _⟩ => ⟨S8x4096x58, .bf16⟩
  | .hbm, ⟨44, _⟩ => ⟨S8x4096x128, .bf16⟩
  | .hbm, ⟨45, _⟩ => ⟨S4096x8x64, .f32⟩
  | .hbm, ⟨46, _⟩ => ⟨S8x4096x64, .f32⟩
  | .hbm, ⟨47, _⟩ => ⟨S8x4096x64, .bf16⟩
  | .hbm, ⟨48, _⟩ => ⟨S8x4096, .f32⟩
  | .hbm, ⟨49, _⟩ => ⟨S8x4096, .f32⟩
  | .hbm, ⟨50, _⟩ => ⟨S8x4096, .bf16⟩
  | .hbm, ⟨51, _⟩ => ⟨S8x4096, .f32⟩
  | .hbm, ⟨52, _⟩ => ⟨S8x4096, .f32⟩
  | .hbm, ⟨53, _⟩ => ⟨S8x4096, .bf16⟩
  | .hbm, ⟨54, _⟩ => ⟨S8x4096, .f32⟩
  | .hbm, ⟨55, _⟩ => ⟨S8x4096, .f32⟩
  | .hbm, ⟨56, _⟩ => ⟨S8x4096, .bf16⟩
  | .hbm, ⟨57, _⟩ => ⟨S8x4096x1, .bf16⟩
  | .hbm, ⟨58, _⟩ => ⟨S8x4096x1, .bf16⟩
  | .hbm, ⟨59, _⟩ => ⟨S8x4096x1, .bf16⟩
  | .hbm, ⟨60, _⟩ => ⟨S_, .bf16⟩
  | .hbm, ⟨61, _⟩ => ⟨S8x4096x55, .bf16⟩
  | .hbm, ⟨62, _⟩ => ⟨S8x4096x128, .bf16⟩
  | .hbm, ⟨63, _⟩ => ⟨S4096x8x64, .f32⟩
  | .hbm, ⟨64, _⟩ => ⟨S8x4096x64, .f32⟩
  | .hbm, ⟨65, _⟩ => ⟨S8x4096x64, .bf16⟩
  | .hbm, ⟨66, _⟩ => ⟨S8x4096x3, .bf16⟩
  | .hbm, ⟨67, _⟩ => ⟨S_, .bf16⟩
  | .hbm, ⟨68, _⟩ => ⟨S8x4096x61, .bf16⟩
  | .hbm, ⟨69, _⟩ => ⟨S8x4096x128, .bf16⟩
  | .hbm, ⟨70, _⟩ => ⟨S4096x512, .f32⟩
  | .hbm, ⟨71, _⟩ => ⟨S8x128x4096, .bf16⟩
  | .local _ .vmem, ⟨0, _⟩ => ⟨S2x512x128, .bf16⟩
  | .local _ .vmem, ⟨1, _⟩ => ⟨S2x512x128, .bf16⟩
  | .local _ .vmem, ⟨2, _⟩ => ⟨S2x4096x128, .bf16⟩
  | .local _ .vmem, ⟨3, _⟩ => ⟨S2x4096x128, .bf16⟩
  | .local _ .vmem, ⟨4, _⟩ => ⟨S2x4096x128, .bf16⟩
  | .local _ .vmem, ⟨5, _⟩ => ⟨S2x4096x128, .bf16⟩
  | .local _ .vmem, ⟨6, _⟩ => ⟨S512x128, .f32⟩
  | .local _ .vmem, ⟨7, _⟩ => ⟨S512x128, .f32⟩
  | .local _ .vmem, ⟨8, _⟩ => ⟨S2x128x512, .bf16⟩
  | .local _ .vmem, ⟨9, _⟩ => ⟨S2x128x512, .bf16⟩
  | .local _ .vmem, ⟨10, _⟩ => ⟨S2x512x512, .f32⟩
  | .local _ .vmem, ⟨11, _⟩ => ⟨S2x512x512, .f32⟩
  | .local _ .vmem, ⟨12, _⟩ => ⟨S2x8x512, .f32⟩
  | .local _ .vmem, ⟨13, _⟩ => ⟨S2x128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_call1_call0_cst : Ref sig .tc := ⟨.hbm, 20, rfl⟩
abbrev main_call1_call0_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  c0_i32
@[reducible] def k0_t1_loop (i : grid0.Coords) : Scf.Loop 32 :=
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_31 : BitVec 32 := 1#32
  ⟨c0_i32_28, v51, c1_i32_31⟩
def k0_mult2 (i : grid0.Coords) (k0_t1 : Fin (k0_t1_loop i).trips) : BitVec 32 :=
  let c2_i32_68 : BitVec 32 := 2#32
  let c0_i32_28 : BitVec 32 := 0#32
  let c1_i32_31 : BitVec 32 := 1#32
  let arg11 : BitVec 32 := Scf.iv c0_i32_28 c1_i32_31 k0_t1
  let v160 : BitVec 32 := Scalar.muli c2_i32_68 arg11
  let c1_i32_69 : BitVec 32 := 1#32
  let v161 : BitVec 32 := Scalar.addi v160 c1_i32_69
  let c512_i32 : BitVec 32 := 512#32
  let v162 : BitVec 32 := Scalar.muli v161 c512_i32
  v162
def k0_off1 (i : grid0.Coords) (k0_t1 : Fin (k0_t1_loop i).trips) (c1_i32_69 : BitVec 32) : Fin 3 → Nat :=
  let c0_70 : Index := 0#32
  let c2_i32_68 : BitVec 32 := 2#32
  let c0_i32_28 : BitVec 32 := 0#32
  let c1_i32_31 : BitVec 32 := 1#32
  let arg11 : BitVec 32 := Scf.iv c0_i32_28 c1_i32_31 k0_t1
  let v160 : BitVec 32 := Scalar.muli c2_i32_68 arg11
  let v161 : BitVec 32 := Scalar.addi v160 c1_i32_69
  let c512_i32 : BitVec 32 := 512#32
  let v162 : BitVec 32 := Scalar.muli v161 c512_i32
  let v163 : BitVec 32 := v162
  let v164 : Index := Scalar.indexCast v163
  let c0_71 : Index := 0#32
  ![0, v164.toNat, 0]
def k0_off2 (i : grid0.Coords) (k0_t1 : Fin (k0_t1_loop i).trips) (c1_i32_69 : BitVec 32) : Fin 3 → Nat :=
  let c1_76 : Index := 1#32
  let c2_i32_68 : BitVec 32 := 2#32
  let c0_i32_28 : BitVec 32 := 0#32
  let c1_i32_31 : BitVec 32 := 1#32
  let arg11 : BitVec 32 := Scf.iv c0_i32_28 c1_i32_31 k0_t1
  let v160 : BitVec 32 := Scalar.muli c2_i32_68 arg11
  let v161 : BitVec 32 := Scalar.addi v160 c1_i32_69
  let c512_i32 : BitVec 32 := 512#32
  let v162 : BitVec 32 := Scalar.muli v161 c512_i32
  let v163 : BitVec 32 := v162
  let v171 : Index := Scalar.indexCast v163
  let c0_77 : Index := 0#32
  ![1, v171.toNat, 0]
def k0_mult3 (i : grid0.Coords) (k0_t1 : Fin (k0_t1_loop i).trips) : BitVec 32 :=
  let c2_i32_82 : BitVec 32 := 2#32
  let c0_i32_28 : BitVec 32 := 0#32
  let c1_i32_31 : BitVec 32 := 1#32
  let arg11 : BitVec 32 := Scf.iv c0_i32_28 c1_i32_31 k0_t1
  let v178 : BitVec 32 := Scalar.muli c2_i32_82 arg11
  let c512_i32_83 : BitVec 32 := 512#32
  let v179 : BitVec 32 := Scalar.muli v178 c512_i32_83
  v179
def k0_off3 (i : grid0.Coords) (k0_t1 : Fin (k0_t1_loop i).trips) : Fin 3 → Nat :=
  let c0_94 : Index := 0#32
  let c2_i32_82 : BitVec 32 := 2#32
  let c0_i32_28 : BitVec 32 := 0#32
  let c1_i32_31 : BitVec 32 := 1#32
  let arg11 : BitVec 32 := Scf.iv c0_i32_28 c1_i32_31 k0_t1
  let v178 : BitVec 32 := Scalar.muli c2_i32_82 arg11
  let c512_i32_83 : BitVec 32 := 512#32
  let v179 : BitVec 32 := Scalar.muli v178 c512_i32_83
  let v180 : BitVec 32 := v179
  let v198 : Index := Scalar.indexCast v180
  let c0_95 : Index := 0#32
  ![0, v198.toNat, 0]
def k0_off4 (i : grid0.Coords) (k0_t1 : Fin (k0_t1_loop i).trips) : Fin 3 → Nat :=
  let c1_113 : Index := 1#32
  let c2_i32_82 : BitVec 32 := 2#32
  let c0_i32_28 : BitVec 32 := 0#32
  let c1_i32_31 : BitVec 32 := 1#32
  let arg11 : BitVec 32 := Scf.iv c0_i32_28 c1_i32_31 k0_t1
  let v178 : BitVec 32 := Scalar.muli c2_i32_82 arg11
  let c512_i32_83 : BitVec 32 := 512#32
  let v179 : BitVec 32 := Scalar.muli v178 c512_i32_83
  let v180 : BitVec 32 := v179
  let v226 : Index := Scalar.indexCast v180
  let c0_114 : Index := 0#32
  ![1, v226.toNat, 0]
def k0_mult4 (i : grid0.Coords) (k0_t1 : Fin (k0_t1_loop i).trips) : BitVec 32 :=
  let c2_i32_122 : BitVec 32 := 2#32
  let c0_i32_28 : BitVec 32 := 0#32
  let c1_i32_31 : BitVec 32 := 1#32
  let arg11 : BitVec 32 := Scf.iv c0_i32_28 c1_i32_31 k0_t1
  let v237 : BitVec 32 := Scalar.muli c2_i32_122 arg11
  let c2_i32_123 : BitVec 32 := 2#32
  let v238 : BitVec 32 := Scalar.addi v237 c2_i32_123
  let c512_i32_124 : BitVec 32 := 512#32
  let v239 : BitVec 32 := Scalar.muli v238 c512_i32_124
  v239
def k0_mult5 (i : grid0.Coords) (k0_t1 : Fin (k0_t1_loop i).trips) : BitVec 32 :=
  let c2_i32_137 : BitVec 32 := 2#32
  let c0_i32_28 : BitVec 32 := 0#32
  let c1_i32_31 : BitVec 32 := 1#32
  let arg11 : BitVec 32 := Scf.iv c0_i32_28 c1_i32_31 k0_t1
  let v255 : BitVec 32 := Scalar.muli c2_i32_137 arg11
  let c1_i32_138 : BitVec 32 := 1#32
  let v256 : BitVec 32 := Scalar.addi v255 c1_i32_138
  let c512_i32_139 : BitVec 32 := 512#32
  let v257 : BitVec 32 := Scalar.muli v256 c512_i32_139
  v257
@[reducible] def k0_t2_loop (i : grid0.Coords) : Scf.Loop 32 :=
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let v48 : BitVec 32 := Scalar.addi c0_i32_28 v47
  let c1_i32_32 : BitVec 32 := 1#32
  ⟨v51, v48, c1_i32_32⟩
def k0_mult6 (i : grid0.Coords) (k0_t2 : Fin (k0_t2_loop i).trips) : BitVec 32 :=
  let c2_i32_68 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v160 : BitVec 32 := Scalar.muli c2_i32_68 arg11
  let c1_i32_69 : BitVec 32 := 1#32
  let v161 : BitVec 32 := Scalar.addi v160 c1_i32_69
  let c512_i32 : BitVec 32 := 512#32
  let v162 : BitVec 32 := Scalar.muli v161 c512_i32
  v162
def k0_off5 (i : grid0.Coords) (k0_t2 : Fin (k0_t2_loop i).trips) (c1_i32_69 : BitVec 32) : Fin 3 → Nat :=
  let c0_70 : Index := 0#32
  let c2_i32_68 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v160 : BitVec 32 := Scalar.muli c2_i32_68 arg11
  let v161 : BitVec 32 := Scalar.addi v160 c1_i32_69
  let c512_i32 : BitVec 32 := 512#32
  let v162 : BitVec 32 := Scalar.muli v161 c512_i32
  let v163 : BitVec 32 := v162
  let v164 : Index := Scalar.indexCast v163
  let c0_71 : Index := 0#32
  ![0, v164.toNat, 0]
def k0_off6 (i : grid0.Coords) (k0_t2 : Fin (k0_t2_loop i).trips) (c1_i32_69 : BitVec 32) : Fin 3 → Nat :=
  let c1_76 : Index := 1#32
  let c2_i32_68 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v160 : BitVec 32 := Scalar.muli c2_i32_68 arg11
  let v161 : BitVec 32 := Scalar.addi v160 c1_i32_69
  let c512_i32 : BitVec 32 := 512#32
  let v162 : BitVec 32 := Scalar.muli v161 c512_i32
  let v163 : BitVec 32 := v162
  let v171 : Index := Scalar.indexCast v163
  let c0_77 : Index := 0#32
  ![1, v171.toNat, 0]
def k0_mult7 (i : grid0.Coords) (k0_t2 : Fin (k0_t2_loop i).trips) : BitVec 32 :=
  let c2_i32_82 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v178 : BitVec 32 := Scalar.muli c2_i32_82 arg11
  let c512_i32_83 : BitVec 32 := 512#32
  let v179 : BitVec 32 := Scalar.muli v178 c512_i32_83
  v179
def k0_off7 (i : grid0.Coords) (k0_t2 : Fin (k0_t2_loop i).trips) : Fin 3 → Nat :=
  let c0_94 : Index := 0#32
  let c2_i32_82 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v178 : BitVec 32 := Scalar.muli c2_i32_82 arg11
  let c512_i32_83 : BitVec 32 := 512#32
  let v179 : BitVec 32 := Scalar.muli v178 c512_i32_83
  let v180 : BitVec 32 := v179
  let v198 : Index := Scalar.indexCast v180
  let c0_95 : Index := 0#32
  ![0, v198.toNat, 0]
def k0_off8 (i : grid0.Coords) (k0_t2 : Fin (k0_t2_loop i).trips) : Fin 3 → Nat :=
  let c1_113 : Index := 1#32
  let c2_i32_82 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v178 : BitVec 32 := Scalar.muli c2_i32_82 arg11
  let c512_i32_83 : BitVec 32 := 512#32
  let v179 : BitVec 32 := Scalar.muli v178 c512_i32_83
  let v180 : BitVec 32 := v179
  let v226 : Index := Scalar.indexCast v180
  let c0_114 : Index := 0#32
  ![1, v226.toNat, 0]
def k0_mult8 (i : grid0.Coords) (k0_t2 : Fin (k0_t2_loop i).trips) : BitVec 32 :=
  let c2_i32_122 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v237 : BitVec 32 := Scalar.muli c2_i32_122 arg11
  let c2_i32_123 : BitVec 32 := 2#32
  let v238 : BitVec 32 := Scalar.addi v237 c2_i32_123
  let c512_i32_124 : BitVec 32 := 512#32
  let v239 : BitVec 32 := Scalar.muli v238 c512_i32_124
  v239
def k0_mult9 (i : grid0.Coords) (k0_t2 : Fin (k0_t2_loop i).trips) : BitVec 32 :=
  let c2_i32_137 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_30 : BitVec 32 := 1#32
  let v49 : BitVec 32 := Scalar.divsi v47 c1_i32_30
  let v50 : BitVec 32 := Scalar.muli v49 c1_i32_30
  let v51 : BitVec 32 := Scalar.addi c0_i32_28 v50
  let c1_i32_32 : BitVec 32 := 1#32
  let arg11 : BitVec 32 := Scf.iv v51 c1_i32_32 k0_t2
  let v255 : BitVec 32 := Scalar.muli c2_i32_137 arg11
  let c1_i32_138 : BitVec 32 := 1#32
  let v256 : BitVec 32 := Scalar.addi v255 c1_i32_138
  let c512_i32_139 : BitVec 32 := 512#32
  let v257 : BitVec 32 := Scalar.muli v256 c512_i32_139
  v257
def k0_cond1 (i : grid0.Coords) : BitVec 1 :=
  let arg1 : BitVec 32 := BitVec.ofNat 32 (i 1).val
  let c2_i32_33 : BitVec 32 := 2#32
  let c0_i32_34 : BitVec 32 := 0#32
  let v54 : BitVec 1 := Scalar.cmpi .eq c2_i32_33 c0_i32_34
  let c1_i32_35 : BitVec 32 := 1#32
  let v55 : BitVec 32 := Scalar.select v54 c1_i32_35 c2_i32_33
  let v56 : BitVec 32 := Scalar.remsi arg1 v55
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let c0_i32_36 : BitVec 32 := 0#32
  let v57 : BitVec 1 := Scalar.cmpi .ne v56 c0_i32_36
  let v61 : BitVec 1 := Scalar.andi v60 v57
  let v62 : BitVec 32 := Scalar.addi v56 v55
  let v63 : BitVec 32 := Scalar.select v61 v62 v56
  let c0_i32_39 : BitVec 32 := 0#32
  let v64 : BitVec 1 := Scalar.cmpi .eq v63 c0_i32_39
  let v65 : BitVec 32 := Scalar.extui v64
  let c0_i32_40 : BitVec 32 := 0#32
  let v66 : BitVec 1 := Scalar.cmpi .ne v65 c0_i32_40
  v66

def k0_mult10 (i : grid0.Coords) : BitVec 32 :=
  let arg1 : BitVec 32 := BitVec.ofNat 32 (i 1).val
  let c512_i32 : BitVec 32 := 512#32
  let v160 : BitVec 32 := Scalar.muli arg1 c512_i32
  v160
def k0_off9 (i : grid0.Coords) : Fin 3 → Nat :=
  let c0_79 : Index := 0#32
  let arg1 : BitVec 32 := BitVec.ofNat 32 (i 1).val
  let c512_i32 : BitVec 32 := 512#32
  let v160 : BitVec 32 := Scalar.muli arg1 c512_i32
  let v161 : BitVec 32 := v160
  let v182 : Index := Scalar.indexCast v161
  let c0_80 : Index := 0#32
  ![0, v182.toNat, 0]
def k0_off10 (i : grid0.Coords) : Fin 3 → Nat :=
  let c1_99 : Index := 1#32
  let arg1 : BitVec 32 := BitVec.ofNat 32 (i 1).val
  let c512_i32 : BitVec 32 := 512#32
  let v160 : BitVec 32 := Scalar.muli arg1 c512_i32
  let v161 : BitVec 32 := v160
  let v213 : Index := Scalar.indexCast v161
  let c0_100 : Index := 0#32
  ![1, v213.toNat, 0]
def k0_mult11 (i : grid0.Coords) : BitVec 32 :=
  let arg1 : BitVec 32 := BitVec.ofNat 32 (i 1).val
  let c512_i32 : BitVec 32 := 512#32
  let v160 : BitVec 32 := Scalar.muli arg1 c512_i32
  v160
def k0_off11 (i : grid0.Coords) : Fin 3 → Nat :=
  let c0_68 : Index := 0#32
  let arg1 : BitVec 32 := BitVec.ofNat 32 (i 1).val
  let c512_i32 : BitVec 32 := 512#32
  let v160 : BitVec 32 := Scalar.muli arg1 c512_i32
  let v161 : BitVec 32 := v160
  let v162 : Index := Scalar.indexCast v161
  let c0_69 : Index := 0#32
  ![0, v162.toNat, 0]
def k0_off12 (i : grid0.Coords) : Fin 3 → Nat :=
  let c1_74 : Index := 1#32
  let arg1 : BitVec 32 := BitVec.ofNat 32 (i 1).val
  let c512_i32 : BitVec 32 := 512#32
  let v160 : BitVec 32 := Scalar.muli arg1 c512_i32
  let v161 : BitVec 32 := v160
  let v169 : Index := Scalar.indexCast v161
  let c0_75 : Index := 0#32
  ![1, v169.toNat, 0]
def k0_mult12 (i : grid0.Coords) : BitVec 32 :=
  let arg1 : BitVec 32 := BitVec.ofNat 32 (i 1).val
  let c1_i32_80 : BitVec 32 := 1#32
  let v176 : BitVec 32 := Scalar.subi arg1 c1_i32_80
  let c512_i32_81 : BitVec 32 := 512#32
  let v177 : BitVec 32 := Scalar.muli v176 c512_i32_81
  v177
def k0_off13 (i : grid0.Coords) : Fin 3 → Nat :=
  let c0_92 : Index := 0#32
  let arg1 : BitVec 32 := BitVec.ofNat 32 (i 1).val
  let c1_i32_80 : BitVec 32 := 1#32
  let v176 : BitVec 32 := Scalar.subi arg1 c1_i32_80
  let c512_i32_81 : BitVec 32 := 512#32
  let v177 : BitVec 32 := Scalar.muli v176 c512_i32_81
  let v178 : BitVec 32 := v177
  let v196 : Index := Scalar.indexCast v178
  let c0_93 : Index := 0#32
  ![0, v196.toNat, 0]
def k0_off14 (i : grid0.Coords) : Fin 3 → Nat :=
  let c1_111 : Index := 1#32
  let arg1 : BitVec 32 := BitVec.ofNat 32 (i 1).val
  let c1_i32_80 : BitVec 32 := 1#32
  let v176 : BitVec 32 := Scalar.subi arg1 c1_i32_80
  let c512_i32_81 : BitVec 32 := 512#32
  let v177 : BitVec 32 := Scalar.muli v176 c512_i32_81
  let v178 : BitVec 32 := v177
  let v224 : Index := Scalar.indexCast v178
  let c0_112 : Index := 0#32
  ![1, v224.toNat, 0]
def k0_mult13 (i : grid0.Coords) : BitVec 32 :=
  let arg1 : BitVec 32 := BitVec.ofNat 32 (i 1).val
  let c512_i32_120 : BitVec 32 := 512#32
  let v235 : BitVec 32 := Scalar.muli arg1 c512_i32_120
  v235
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S4096x512 : Shape := ⟨2, ![4096, 512]⟩
abbrev S4096x8 : Shape := ⟨2, ![4096, 8]⟩
abbrev S_ : Shape := ⟨0, ![]⟩
abbrev S4096x8x64 : Shape := ⟨3, ![4096, 8, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096x64 : Shape := ⟨3, ![8, 4096, 64]⟩
abbrev S8x4096x2 : Shape := ⟨3, ![8, 4096, 2]⟩
abbrev S8x4096x3 : Shape := ⟨3, ![8, 4096, 3]⟩
abbrev S8x4096x57 : Shape := ⟨3, ![8, 4096, 57]⟩
abbrev S8x4096x128 : Shape := ⟨3, ![8, 4096, 128]⟩
abbrev S8x64x4096 : Shape := ⟨3, ![8, 64, 4096]⟩
abbrev S8x128x4096 : Shape := ⟨3, ![8, 128, 4096]⟩

abbrev nBuf : Space → Nat
  | .hbm => 123
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x8, .f32⟩
  | .hbm, ⟨5, _⟩ => ⟨S_, .f32⟩
  | .hbm, ⟨6, _⟩ => ⟨S4096x8, .f32⟩
  | .hbm, ⟨7, _⟩ => ⟨S4096x8, .f32⟩
  | .hbm, ⟨8, _⟩ => ⟨S4096x8, .f32⟩
  | .hbm, ⟨9, _⟩ => ⟨S4096x8, .f32⟩
  | .hbm, ⟨10, _⟩ => ⟨S4096x8, .i1⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S_, .f32⟩
  | .hbm, ⟨22, _⟩ => ⟨S4096x8, .f32⟩
  | .hbm, ⟨23, _⟩ => ⟨S4096x8x64, .f32⟩
  | .hbm, ⟨24, _⟩ => ⟨S4096x8x64, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096, .f32⟩
  | .hbm, ⟨34, _⟩ => ⟨S8x1x4096, .f32⟩
  | .hbm, ⟨35, _⟩ => ⟨S8x4096x4096, .f32⟩
  | .hbm, ⟨36, _⟩ => ⟨S8x4096x4096, .f32⟩
  | .hbm, ⟨37, _⟩ => ⟨S4096, .i32⟩
  | .hbm, ⟨38, _⟩ => ⟨S1x4096, .i32⟩
  | .hbm, ⟨39, _⟩ => ⟨S4096, .i32⟩
  | .hbm, ⟨40, _⟩ => ⟨S4096x1, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S1x4096x4096, .i1⟩
  | .hbm, ⟨45, _⟩ => ⟨S_, .f32⟩
  | .hbm, ⟨46, _⟩ => ⟨S_, .f32⟩
  | .hbm, ⟨47, _⟩ => ⟨S8x4096x4096, .i1⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S4096x8x64, .f32⟩
  | .hbm, ⟨61, _⟩ => ⟨S_, .f32⟩
  | .hbm, ⟨62, _⟩ => ⟨S4096x8x64, .f32⟩
  | .hbm, ⟨63, _⟩ => ⟨S4096x8x64, .f32⟩
  | .hbm, ⟨64, _⟩ => ⟨S8x4096x64, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x2, .f32⟩
  | .hbm, ⟨69, _⟩ => ⟨S_, .f32⟩
  | .hbm, ⟨70, _⟩ => ⟨S8x4096x3, .f32⟩
  | .hbm, ⟨71, _⟩ => ⟨S8x4096x1, .f32⟩
  | .hbm, ⟨72, _⟩ => ⟨S8x4096x1, .f32⟩
  | .hbm, ⟨73, _⟩ => ⟨S_, .f32⟩
  | .hbm, ⟨74, _⟩ => ⟨S8x4096x57, .f32⟩
  | .hbm, ⟨75, _⟩ => ⟨S8x4096x128, .f32⟩
  | .hbm, ⟨76, _⟩ => ⟨S4096x8x64, .f32⟩
  | .hbm, ⟨77, _⟩ => ⟨S4096x8x64, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S8x4096, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S8x4096, .f32⟩
  | .hbm, ⟨87, _⟩ => ⟨S8x1x4096, .f32⟩
  | .hbm, ⟨88, _⟩ => ⟨S8x4096x4096, .f32⟩
  | .hbm, ⟨89, _⟩ => ⟨S8x4096x4096, .f32⟩
  | .hbm, ⟨90, _⟩ => ⟨S4096, .i32⟩
  | .hbm, ⟨91, _⟩ => ⟨S1x4096, .i32⟩
  | .hbm, ⟨92, _⟩ => ⟨S4096, .i32⟩
  | .hbm, ⟨93, _⟩ => ⟨S4096x1, .i32⟩
  | .hbm, ⟨94, _⟩ => ⟨S4096x4096, .i32⟩
  | .hbm, ⟨95, _⟩ => ⟨S4096x4096, .i32⟩
  | .hbm, ⟨96, _⟩ => ⟨S4096x4096, .i1⟩
  | .hbm, ⟨97, _⟩ => ⟨S1x4096x4096, .i1⟩
  | .hbm, ⟨98, _⟩ => ⟨S_, .f32⟩
  | .hbm, ⟨99, _⟩ => ⟨S_, .f32⟩
  | .hbm, ⟨100, _⟩ => ⟨S8x4096x4096, .i1⟩
  | .hbm, ⟨101, _⟩ => ⟨S8x4096x4096, .f32⟩
  | .hbm, ⟨102, _⟩ => ⟨S8x4096x4096, .f32⟩
  | .hbm, ⟨103, _⟩ => ⟨S_, .f32⟩
  | .hbm, ⟨104, _⟩ => ⟨S8x4096, .f32⟩
  | .hbm, ⟨105, _⟩ => ⟨S_, .f32⟩
  | .hbm, ⟨106, _⟩ => ⟨S8x4096, .f32⟩
  | .hbm, ⟨107, _⟩ => ⟨S8x4096, .f32⟩
  | .hbm, ⟨108, _⟩ => ⟨S8x4096x1, .f32⟩
  | .hbm, ⟨109, _⟩ => ⟨S8x4096x4096, .f32⟩
  | .hbm, ⟨110, _⟩ => ⟨S8x4096x4096, .f32⟩
  | .hbm, ⟨111, _⟩ => ⟨S8x4096x4096, .f32⟩
  | .hbm, ⟨112, _⟩ => ⟨S_, .f32⟩
  | .hbm, ⟨113, _⟩ => ⟨S8x4096, .f32⟩
  | .hbm, ⟨114, _⟩ => ⟨S8x4096x1, .f32⟩
  | .hbm, ⟨115, _⟩ => ⟨S8x4096x4096, .f32⟩
  | .hbm, ⟨116, _⟩ => ⟨S8x4096x4096, .f32⟩
  | .hbm, ⟨117, _⟩ => ⟨S4096x8x64, .f32⟩
  | .hbm, ⟨118, _⟩ => ⟨S8x64x4096, .f32⟩
  | .hbm, ⟨119, _⟩ => ⟨S4096x8x64, .f32⟩
  | .hbm, ⟨120, _⟩ => ⟨S4096x512, .f32⟩
  | .hbm, ⟨121, _⟩ => ⟨S8x128x4096, .f32⟩
  | .hbm, ⟨122, _⟩ => ⟨S8x128x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_call1_call0_cst : Ref sig .tc := ⟨.hbm, 20, rfl⟩
abbrev main_call1_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_4 : Ref sig .tc := ⟨.hbm, 67, rfl⟩
abbrev main_v38 : Ref sig .tc := ⟨.hbm, 68, rfl⟩
abbrev main_cst_5 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_6 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_7 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_8 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v65 : Ref sig .tc := ⟨.hbm, 102, rfl⟩
abbrev main_cst_9 : Ref sig .tc := ⟨.hbm, 103, rfl⟩
abbrev main_v66 : Ref sig .tc := ⟨.hbm, 104, rfl⟩
abbrev main_cst_10 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_11 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x3080 : Shape := ⟨2, ![1024, 3080]⟩
abbrev S3080 : Shape := ⟨1, ![3080]⟩
abbrev S_ : Shape := ⟨0, ![]⟩
abbrev S6x1024 : Shape := ⟨2, ![6, 1024]⟩
abbrev S8x1024 : Shape := ⟨2, ![8, 1024]⟩
abbrev S3080x1024 : Shape := ⟨2, ![3080, 1024]⟩
abbrev S1536x1024 : Shape := ⟨2, ![1536, 1024]⟩
abbrev S3072x1024 : Shape := ⟨2, ![3072, 1024]⟩
abbrev S128x1024 : Shape := ⟨2, ![128, 1024]⟩
abbrev S1x3080 : Shape := ⟨2, ![1, 3080]⟩
abbrev S1x1536 : Shape := ⟨2, ![1, 1536]⟩
abbrev S1x3072 : Shape := ⟨2, ![1, 3072]⟩
abbrev S1x8 : Shape := ⟨2, ![1, 8]⟩
abbrev S1x128 : Shape := ⟨2, ![1, 128]⟩
abbrev S8x4096x128 : Shape := ⟨3, ![8, 4096, 128]⟩
abbrev S4096x128 : Shape := ⟨2, ![4096, 128]⟩
abbrev S4096x512 : Shape := ⟨2, ![4096, 512]⟩
abbrev S256x1024 : Shape := ⟨2, ![256, 1024]⟩
abbrev S8x256x128 : Shape := ⟨3, ![8, 256, 128]⟩
abbrev S256x128 : Shape := ⟨2, ![256, 128]⟩
abbrev S256x512 : Shape := ⟨2, ![256, 512]⟩
abbrev S8x128 : Shape := ⟨2, ![8, 128]⟩
abbrev S256x256 : Shape := ⟨2, ![256, 256]⟩
abbrev S512x1024 : Shape := ⟨2, ![512, 1024]⟩
abbrev S1x512 : Shape := ⟨2, ![1, 512]⟩
abbrev S256x1 : Shape := ⟨2, ![256, 1]⟩
abbrev S1x256x128 : Shape := ⟨3, ![1, 256, 128]⟩

abbrev nBuf : Space → Nat
  | .hbm => 37
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3080, .f32⟩
  | .hbm, ⟨4, _⟩ => ⟨S3080, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S6x1024, .f32⟩
  | .hbm, ⟨10, _⟩ => ⟨S8x1024, .f32⟩
  | .hbm, ⟨11, _⟩ => ⟨S3080x1024, .f32⟩
  | .hbm, ⟨12, _⟩ => ⟨S1536x1024, .f32⟩
  | .hbm, ⟨13, _⟩ => ⟨S1536x1024, .f32⟩
  | .hbm, ⟨14, _⟩ => ⟨S3072x1024, .f32⟩
  | .hbm, ⟨15, _⟩ => ⟨S8x1024, .f32⟩
  | .hbm, ⟨16, _⟩ => ⟨S_, .i32⟩
  | .hbm, ⟨17, _⟩ => ⟨S_, .f32⟩
  | .hbm, ⟨18, _⟩ => ⟨S128x1024, .f32⟩
  | .hbm, ⟨19, _⟩ => ⟨S1x3080, .f32⟩
  | .hbm, ⟨20, _⟩ => ⟨S1x1536, .f32⟩
  | .hbm, ⟨21, _⟩ => ⟨S1x1536, .f32⟩
  | .hbm, ⟨22, _⟩ => ⟨S1x3072, .f32⟩
  | .hbm, ⟨23, _⟩ => ⟨S1x8, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S3072x1024, .bf16⟩
  | .hbm, ⟨28, _⟩ => ⟨S128x1024, .bf16⟩
  | .hbm, ⟨29, _⟩ => ⟨S8x4096x128, .bf16⟩
  | .hbm, ⟨30, _⟩ => ⟨S8x4096x128, .bf16⟩
  | .hbm, ⟨31, _⟩ => ⟨S8x4096x128, .bf16⟩
  | .hbm, ⟨32, _⟩ => ⟨S4096x128, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S3072x1024, .bf16⟩
  | .local _ .vmem, ⟨4, _⟩ => ⟨S128x1024, .bf16⟩
  | .local _ .vmem, ⟨5, _⟩ => ⟨S1x3072, .f32⟩
  | .local _ .vmem, ⟨6, _⟩ => ⟨S1x128, .f32⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S8x256x128, .bf16⟩
  | .local _ .vmem, ⟨11, _⟩ => ⟨S8x256x128, .bf16⟩
  | .local _ .vmem, ⟨12, _⟩ => ⟨S8x256x128, .bf16⟩
  | .local _ .vmem, ⟨13, _⟩ => ⟨S256x128, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .bf16⟩
  | .local _ .vmem, ⟨22, _⟩ => ⟨S256x1024, .bf16⟩
  | .local _ .vmem, ⟨23, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call1_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference5Ideal.lean ====
abbrev S4096x1024 : Shape := ⟨2, ![4096, 1024]⟩
abbrev S1x1024 : Shape := ⟨2, ![1, 1024]⟩
abbrev S1024x3080 : Shape := ⟨2, ![1024, 3080]⟩
abbrev S3080 : Shape := ⟨1, ![3080]⟩
abbrev S_ : Shape := ⟨0, ![]⟩
abbrev S4096x3080 : Shape := ⟨2, ![4096, 3080]⟩
abbrev S1x3080 : Shape := ⟨2, ![1, 3080]⟩
abbrev S4096x512 : Shape := ⟨2, ![4096, 512]⟩
abbrev S4096x8 : Shape := ⟨2, ![4096, 8]⟩
abbrev S8x4096 : Shape := ⟨2, ![8, 4096]⟩
abbrev S8x4096x1 : Shape := ⟨3, ![8, 4096, 1]⟩
abbrev S4096x8x64 : Shape := ⟨3, ![4096, 8, 64]⟩
abbrev S8x4096x64 : Shape := ⟨3, ![8, 4096, 64]⟩
abbrev S8x4096x2 : Shape := ⟨3, ![8, 4096, 2]⟩
abbrev S8x4096x3 : Shape := ⟨3, ![8, 4096, 3]⟩
abbrev S8x4096x58 : Shape := ⟨3, ![8, 4096, 58]⟩
abbrev S8x4096x128 : Shape := ⟨3, ![8, 4096, 128]⟩
abbrev S8x4096x55 : Shape := ⟨3, ![8, 4096, 55]⟩
abbrev S8x4096x61 : Shape := ⟨3, ![8, 4096, 61]⟩
abbrev S4096x128 : Shape := ⟨2, ![4096, 128]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x3080, .f32⟩
  | .hbm, ⟨4, _⟩ => ⟨S3080, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x3080, .f32⟩
  | .hbm, ⟨13, _⟩ => ⟨S1x3080, .f32⟩
  | .hbm, ⟨14, _⟩ => ⟨S4096x3080, .f32⟩
  | .hbm, ⟨15, _⟩ => ⟨S4096x3080, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x8, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x8, .f32⟩
  | .hbm, ⟨24, _⟩ => ⟨S_, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .i1⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S_, .f32⟩
  | .hbm, ⟨41, _⟩ => ⟨S4096x8, .f32⟩
  | .hbm, ⟨42, _⟩ => ⟨S8x4096, .f32⟩
  | .hbm, ⟨43, _⟩ => ⟨S8x4096x1, .f32⟩
  | .hbm, ⟨44, _⟩ => ⟨S4096x8x64, .f32⟩
  | .hbm, ⟨45, _⟩ => ⟨S8x4096x64, .f32⟩
  | .hbm, ⟨46, _⟩ => ⟨S_, .f32⟩
  | .hbm, ⟨47, _⟩ => ⟨S8x4096x64, .f32⟩
  | .hbm, ⟨48, _⟩ => ⟨S8x4096x64, .f32⟩
  | .hbm, ⟨49, _⟩ => ⟨S_, .f32⟩
  | .hbm, ⟨50, _⟩ => ⟨S8x4096x2, .f32⟩
  | .hbm, ⟨51, _⟩ => ⟨S_, .f32⟩
  | .hbm, ⟨52, _⟩ => ⟨S8x4096x3, .f32⟩
  | .hbm, ⟨53, _⟩ => ⟨S_, .f32⟩
  | .hbm, ⟨54, _⟩ => ⟨S8x4096x58, .f32⟩
  | .hbm, ⟨55, _⟩ => ⟨S8x4096x128, .f32⟩
  | .hbm, ⟨56, _⟩ => ⟨S8x4096x128, .bf16⟩
  | .hbm, ⟨57, _⟩ => ⟨S4096x8x64, .f32⟩
  | .hbm, ⟨58, _⟩ => ⟨S8x4096x64, .f32⟩
  | .hbm, ⟨59, _⟩ => ⟨S_, .f32⟩
  | .hbm, ⟨60, _⟩ => ⟨S8x4096x3, .f32⟩
  | .hbm, ⟨61, _⟩ => ⟨S8x4096x1, .f32⟩
  | .hbm, ⟨62, _⟩ => ⟨S_, .f32⟩
  | .hbm, ⟨63, _⟩ => ⟨S8x4096x2, .f32⟩
  | .hbm, ⟨64, _⟩ => ⟨S_, .f32⟩
  | .hbm, ⟨65, _⟩ => ⟨S8x4096x3, .f32⟩
  | .hbm, ⟨66, _⟩ => ⟨S_, .f32⟩
  | .hbm, ⟨67, _⟩ => ⟨S8x4096x55, .f32⟩
  | .hbm, ⟨68, _⟩ => ⟨S8x4096x128, .f32⟩
  | .hbm, ⟨69, _⟩ => ⟨S8x4096x128, .bf16⟩
  | .hbm, ⟨70, _⟩ => ⟨S4096x8x64, .f32⟩
  | .hbm, ⟨71, _⟩ => ⟨S8x4096x64, .f32⟩
  | .hbm, ⟨72, _⟩ => ⟨S_, .f32⟩
  | .hbm, ⟨73, _⟩ => ⟨S8x4096x3, .f32⟩
  | .hbm, ⟨74, _⟩ => ⟨S_, .f32⟩
  | .hbm, ⟨75, _⟩ => ⟨S8x4096x61, .f32⟩
  | .hbm, ⟨76, _⟩ => ⟨S8x4096x128, .f32⟩
  | .hbm, ⟨77, _⟩ => ⟨S8x4096x128, .bf16⟩
  | .hbm, ⟨78, _⟩ => ⟨S_, .i32⟩
  | .hbm, ⟨79, _⟩ => ⟨S_, .f32⟩
  | .hbm, ⟨80, _⟩ => ⟨S4096x128, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v17 : Ref sig .tc := ⟨.hbm, 38, rfl⟩
abbrev main_call1_call0_cst : Ref sig .tc := ⟨.hbm, 39, rfl⟩
abbrev main_call1_call0_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_4 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c : Ref sig .tc := ⟨.hbm, 78, rfl⟩
abbrev main_call2_v0 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩

abbrev nD : Nat := 1
abbrev τ : Topo := Topo.v7x

variable {F : FTy → Type} [FloatOps F]
-- ==== Proof.Attention.Blocks.lean ====
module

public import proofs.«01_k».proof.Defs
public import proofs.«01_k».proof.Proof.Gen.KernelIdeal
public import proofs.«01_k».proof.Proof.Gen.KernelIdeal.Skeleton
public import Idealize.ShloMosaic.Lib.VecWindow

@[expose] public section

set_option maxRecDepth 16384

noncomputable section

/-!
# The blocks of the attention gradient

The kernel cuts its arrays into blocks of 512 positions. This module names the block of an array (`win`), says
what a block reads after another block was stored, and gives in closed form what the kernel accumulates: for a
head `h`, a key block `j` and a query block `i`, the gradient of the scores (`scoreGrad`), the running gradients
of values and keys over the query blocks from `j` on (`valueAcc`, `keyAcc`) and the running gradient of the
queries over the key blocks up to `i` (`queryAcc`).
-/

namespace Cert.Proof.KernelIdeal

open Cert.KernelIdeal Cert.KernelIdeal.Gen
open Idealize.ShloMosaic Idealize.ShloMosaic.TcCoe

/-! ## Windows of an array -/

section Windows
variable {α : Type} {s : Shape} [hs : ∀ a, NeZero (s.size a)]

/-- The window of `x` of sizes `size` at offsets `off`; positions are taken modulo the array's sizes, so that no bound is asked. -/
def win (x : s.Idx → α) (off size : Fin s.rank → ℕ) : ((a : Fin s.rank) → Fin (size a)) → α :=
  fun y => x (fun a => Fin.ofNat (s.size a) (off a + (y a).val))

theorem window_eq_win (x : s.Idx → α) (off size : Fin s.rank → ℕ) (inb : ∀ a, off a + size a ≤ s.size a) :
    VecWindow.window x off size inb = win x off size := by
  funext y
  refine congrArg x (funext fun a => Fin.ext ?_)
  show off a + 1 * (y a).val = (off a + (y a).val) % s.size a
  have h := inb a
  have hy : (y a).val < size a := (y a).isLt
  rw [Nat.mod_eq_of_lt (by omega), Nat.one_mul]

theorem win_put_same (x : s.Idx → α) (off size : Fin s.rank → ℕ) (inb : ∀ a, off a + size a ≤ s.size a)
    (w : ((a : Fin s.rank) → Fin (size a)) → α) : win (VecWindow.put x off size w) off size = w := by
  rw [← window_eq_win _ _ _ inb]
  exact VecWindow.window_put_same x off size inb w

theorem win_put_apart (x : s.Idx → α) (off size off' size' : Fin s.rank → ℕ) (inb' : ∀ a, off' a + size' a ≤ s.size a)
    (w : ((a : Fin s.rank) → Fin (size a)) → α) (a : Fin s.rank) (ha : off' a + size' a ≤ off a ∨ off a + size a ≤ off' a) :
    win (VecWindow.put x off size w) off' size' = win x off' size' := by
  rw [← window_eq_win _ _ _ inb', ← window_eq_win _ _ _ inb']
  exact VecWindow.window_put_of_disjoint x off size off' size' inb' w a ha

end Windows

instance nz_arr : ∀ a, NeZero (S2x128x4096.size a) := fun a => by fin_cases a <;> exact ⟨by decide⟩
instance nz_row : ∀ a, NeZero (S2x4096x128.size a) := fun a => by fin_cases a <;> exact ⟨by decide⟩
instance nz_acc : ∀ a, NeZero (S2x128x512.size a) := fun a => by fin_cases a <;> exact ⟨by decide⟩
instance nz_cum : ∀ a, NeZero (S2x1x4096.size a) := fun a => by fin_cases a <;> exact ⟨by decide⟩

/-- Block `i` of head `h` of an array with the positions in its columns. -/
def colBlk {α : Type} (x : S2x128x4096.Idx → α) (h i : ℕ) : S1x128x512.Idx → α := win x ![h, 0, 512 * i] S1x128x512.size
/-- Block `j` of head `h` of an array with the positions in its rows. -/
def rowBlk {α : Type} (x : S2x4096x128.Idx → α) (h j : ℕ) : S1x512x128.Idx → α := win x ![h, 512 * j, 0] S1x512x128.size
/-- Head `h` of an accumulator of one block. -/
def accBlk {α : Type} (x : S2x128x512.Idx → α) (h : ℕ) : S1x128x512.Idx → α := win x ![h, 0, 0] S1x128x512.size
/-- Block `i` of head `h` of an array of one row. -/
def cumBlk {α : Type} (x : S2x1x4096.Idx → α) (h i : ℕ) : S1x1x512.Idx → α := win x ![h, 0, 512 * i] S1x1x512.size
/-- Head `h` of an array with the positions in its columns. -/
def headOf {α : Type} (x : S2x128x4096.Idx → α) (h : ℕ) : S1x128x4096.Idx → α := win x ![h, 0, 0] S1x128x4096.size
/-- Head `h` of an array of one row. -/
def cumHead {α : Type} (x : S2x1x4096.Idx → α) (h : ℕ) : S1x1x4096.Idx → α := win x ![h, 0, 0] S1x1x4096.size

theorem inb_col {h i : ℕ} (hh : h < 2) (hi : i < 8) : ∀ a, ![h, 0, 512 * i] a + S1x128x512.size a ≤ S2x128x4096.size a := by
  intro a; fin_cases a
  · show h + 1 ≤ 2; omega
  · show 0 + 128 ≤ 128; omega
  · show 512 * i + 512 ≤ 4096; omega
theorem inb_row {h i : ℕ} (hh : h < 2) (hi : i < 8) : ∀ a, ![h, 512 * i, 0] a + S1x512x128.size a ≤ S2x4096x128.size a := by
  intro a; fin_cases a
  · show h + 1 ≤ 2; omega
  · show 512 * i + 512 ≤ 4096; omega
  · show 0 + 128 ≤ 128; omega
theorem inb_acc {h : ℕ} (hh : h < 2) : ∀ a, ![h, 0, 0] a + S1x128x512.size a ≤ S2x128x512.size a := by
  intro a; fin_cases a
  · show h + 1 ≤ 2; omega
  · show 0 + 128 ≤ 128; omega
  · show 0 + 512 ≤ 512; omega
theorem inb_cum {h i : ℕ} (hh : h < 2) (hi : i < 8) : ∀ a, ![h, 0, 512 * i] a + S1x1x512.size a ≤ S2x1x4096.size a := by
  intro a; fin_cases a
  · show h + 1 ≤ 2; omega
  · show 0 + 1 ≤ 1; omega
  · show 512 * i + 512 ≤ 4096; omega
theorem inb_head {h : ℕ} (hh : h < 2) : ∀ a, ![h, 0, 0] a + S1x128x4096.size a ≤ S2x128x4096.size a := by
  intro a; fin_cases a
  · show h + 1 ≤ 2; omega
  · show 0 + 128 ≤ 128; omega
  · show 0 + 4096 ≤ 4096; omega
theorem inb_cumHead {h : ℕ} (hh : h < 2) : ∀ a, ![h, 0, 0] a + S1x1x4096.size a ≤ S2x1x4096.size a := by
  intro a; fin_cases a
  · show h + 1 ≤ 2; omega
  · show 0 + 1 ≤ 1; omega
  · show 0 + 4096 ≤ 4096; omega

theorem colBlk_put {α : Type} (x : S2x128x4096.Idx → α) (h' i' : ℕ) (w : S1x128x512.Idx → α) {h i : ℕ} (hh : h < 2) (hi : i < 8) :
    colBlk (VecWindow.put x ![h', 0, 512 * i'] S1x128x512.size w) h i = if h = h' ∧ i = i' then w else colBlk x h i := by
  split_ifs with e
  · obtain ⟨rfl, rfl⟩ := e
    exact win_put_same x _ _ (inb_col hh hi) w
  · by_cases e0 : h = h'
    · have e2 : i ≠ i' := fun q => e ⟨e0, q⟩
      refine win_put_apart x _ _ _ _ (inb_col hh hi) w (2 : Fin 3) ?_
      show 512 * i + 512 ≤ 512 * i' ∨ 512 * i' + 512 ≤ 512 * i
      omega
    · refine win_put_apart x _ _ _ _ (inb_col hh hi) w (0 : Fin 3) ?_
      show h + 1 ≤ h' ∨ h' + 1 ≤ h
      omega

theorem accBlk_put {α : Type} (x : S2x128x512.Idx → α) (h' : ℕ) (w : S1x128x512.Idx → α) {h : ℕ} (hh : h < 2) :
    accBlk (VecWindow.put x ![h', 0, 0] S1x128x512.size w) h = if h = h' then w else accBlk x h := by
  split_ifs with e
  · subst e
    exact win_put_same x _ _ (inb_acc hh) w
  · refine win_put_apart x _ _ _ _ (inb_acc hh) w (0 : Fin 3) ?_
    show h + 1 ≤ h' ∨ h' + 1 ≤ h
    omega

theorem cumBlk_put {α : Type} (x : S2x1x4096.Idx → α) (h' i' : ℕ) (w : S1x1x512.Idx → α) {h i : ℕ} (hh : h < 2) (hi : i < 8) :
    cumBlk (VecWindow.put x ![h', 0, 512 * i'] S1x1x512.size w) h i = if h = h' ∧ i = i' then w else cumBlk x h i := by
  split_ifs with e
  · obtain ⟨rfl, rfl⟩ := e
    exact win_put_same x _ _ (inb_cum hh hi) w
  · by_cases e0 : h = h'
    · have e2 : i ≠ i' := fun q => e ⟨e0, q⟩
      refine win_put_apart x _ _ _ _ (inb_cum hh hi) w (2 : Fin 3) ?_
      show 512 * i + 512 ≤ 512 * i' ∨ 512 * i' + 512 ≤ 512 * i
      omega
    · refine win_put_apart x _ _ _ _ (inb_cum hh hi) w (0 : Fin 3) ?_
      show h + 1 ≤ h' ∨ h' + 1 ≤ h
      omega

theorem headOf_put {α : Type} (x : S2x128x4096.Idx → α) (h' : ℕ) (w : S1x128x4096.Idx → α) {h : ℕ} (hh : h < 2) :
    headOf (VecWindow.put x ![h', 0, 0] S1x128x4096.size w) h = if h = h' then w else headOf x h := by
  split_ifs with e
  · subst e
    exact win_put_same x _ _ (inb_head hh) w
  · refine win_put_apart x _ _ _ _ (inb_head hh) w (0 : Fin 3) ?_
    show h + 1 ≤ h' ∨ h' + 1 ≤ h
    omega

theorem cumHead_put {α : Type} (x : S2x1x4096.Idx → α) (h' : ℕ) (w : S1x1x4096.Idx → α) {h : ℕ} (hh : h < 2) :
    cumHead (VecWindow.put x ![h', 0, 0] S1x1x4096.size w) h = if h = h' then w else cumHead x h := by
  split_ifs with e
  · subst e
    exact win_put_same x _ _ (inb_cumHead hh) w
  · refine win_put_apart x _ _ _ _ (inb_cumHead hh) w (0 : Fin 3) ?_
    show h + 1 ≤ h' ∨ h' + 1 ≤ h
    omega

/-- An array with the positions in its columns is determined by its heads. -/
theorem ext_head {α : Type} {x y : S2x128x4096.Idx → α} (e : ∀ h, h < 2 → headOf x h = headOf y h) : x = y := by
  funext z
  have e1 := congrFun (e (z (0 : Fin 3)).val (z (0 : Fin 3)).isLt) (fun a => match a with | ⟨0, _⟩ => (0 : Fin 1) | ⟨1, _⟩ => z (1 : Fin 3) | ⟨2, _⟩ => z (2 : Fin 3))
  have e2 : ∀ u : S2x128x4096.Idx → α, headOf u (z (0 : Fin 3)).val (fun a => match a with | ⟨0, _⟩ => (0 : Fin 1) | ⟨1, _⟩ => z (1 : Fin 3) | ⟨2, _⟩ => z (2 : Fin 3)) = u z := by
    intro u
    refine congrArg u (funext fun a => Fin.ext ?_)
    match a with
    | ⟨0, _⟩ => show ((z (0 : Fin 3)).val + 0) % 2 = _; exact Nat.mod_eq_of_lt (z (0 : Fin 3)).isLt
    | ⟨1, _⟩ => show (0 + (z (1 : Fin 3)).val) % 128 = _; rw [Nat.zero_add]; exact Nat.mod_eq_of_lt (z (1 : Fin 3)).isLt
    | ⟨2, _⟩ => show (0 + (z (2 : Fin 3)).val) % 4096 = _; rw [Nat.zero_add]; exact Nat.mod_eq_of_lt (z (2 : Fin 3)).isLt
  rw [e2, e2] at e1
  exact e1

/-- An array of one row is determined by its heads. -/
theorem ext_cumHead {α : Type} {x y : S2x1x4096.Idx → α} (e : ∀ h, h < 2 → cumHead x h = cumHead y h) : x = y := by
  funext z
  have e1 := congrFun (e (z (0 : Fin 3)).val (z (0 : Fin 3)).isLt) (fun a => match a with | ⟨0, _⟩ => (0 : Fin 1) | ⟨1, _⟩ => z (1 : Fin 3) | ⟨2, _⟩ => z (2 : Fin 3))
  have e2 : ∀ u : S2x1x4096.Idx → α, cumHead u (z (0 : Fin 3)).val (fun a => match a with | ⟨0, _⟩ => (0 : Fin 1) | ⟨1, _⟩ => z (1 : Fin 3) | ⟨2, _⟩ => z (2 : Fin 3)) = u z := by
    intro u
    refine congrArg u (funext fun a => Fin.ext ?_)
    match a with
    | ⟨0, _⟩ => show ((z (0 : Fin 3)).val + 0) % 2 = _; exact Nat.mod_eq_of_lt (z (0 : Fin 3)).isLt
    | ⟨1, _⟩ => show (0 + (z (1 : Fin 3)).val) % 1 = _; rw [Nat.zero_add]; exact Nat.mod_eq_of_lt (z (1 : Fin 3)).isLt
    | ⟨2, _⟩ => show (0 + (z (2 : Fin 3)).val) % 4096 = _; rw [Nat.zero_add]; exact Nat.mod_eq_of_lt (z (2 : Fin 3)).isLt
  rw [e2, e2] at e1
  exact e1

/-- The array whose block `i` of head `h` is `w h i`. -/
def ofBlks {α : Type} (w : ℕ → ℕ → S1x128x512.Idx → α) : S2x128x4096.Idx → α := fun z =>
  w (z (0 : Fin 3)).val ((z (2 : Fin 3)).val / 512)
    (fun a => match a with | ⟨0, _⟩ => (0 : Fin 1) | ⟨1, _⟩ => z (1 : Fin 3) | ⟨2, _⟩ => (⟨(z (2 : Fin 3)).val % 512, Nat.mod_lt _ (by decide)⟩ : Fin 512))
/-- The array of one row whose block `i` of head `h` is `w h i`. -/
def ofCumBlks {α : Type} (w : ℕ → ℕ → S1x1x512.Idx → α) : S2x1x4096.Idx → α := fun z =>
  w (z (0 : Fin 3)).val ((z (2 : Fin 3)).val / 512)
    (fun a => match a with | ⟨0, _⟩ => (0 : Fin 1) | ⟨1, _⟩ => z (1 : Fin 3) | ⟨2, _⟩ => (⟨(z (2 : Fin 3)).val % 512, Nat.mod_lt _ (by decide)⟩ : Fin 512))
/-- The array whose head `h` is `w h`. -/
def ofHeads {α : Type} (w : ℕ → S1x128x4096.Idx → α) : S2x128x4096.Idx → α := fun z =>
  w (z (0 : Fin 3)).val (fun a => match a with | ⟨0, _⟩ => (0 : Fin 1) | ⟨1, _⟩ => z (1 : Fin 3) | ⟨2, _⟩ => z (2 : Fin 3))
/-- The array of one row whose head `h` is `w h`. -/
def ofCumHeads {α : Type} (w : ℕ → S1x1x4096.Idx → α) : S2x1x4096.Idx → α := fun z =>
  w (z (0 : Fin 3)).val (fun a => match a with | ⟨0, _⟩ => (0 : Fin 1) | ⟨1, _⟩ => z (1 : Fin 3) | ⟨2, _⟩ => z (2 : Fin 3))

theorem eq_ofBlks {α : Type} {x : S2x128x4096.Idx → α} {w : ℕ → ℕ → S1x128x512.Idx → α}
    (e : ∀ h i, h < 2 → i < 8 → colBlk x h i = w h i) : x = ofBlks w := by
  funext z
  have h2 : (z (2 : Fin 3)).val < 4096 := (z (2 : Fin 3)).isLt
  have h0 : (z (0 : Fin 3)).val < 2 := (z (0 : Fin 3)).isLt
  show x z = w _ _ _
  rw [← e _ _ h0 (by omega)]
  refine congrArg x (funext fun a => Fin.ext ?_)
  match a with
  | ⟨0, _⟩ => show _ = ((z (0 : Fin 3)).val + 0) % 2; exact (Nat.mod_eq_of_lt h0).symm
  | ⟨1, _⟩ => show _ = (0 + (z (1 : Fin 3)).val) % 128; rw [Nat.zero_add]; exact (Nat.mod_eq_of_lt (z (1 : Fin 3)).isLt).symm
  | ⟨2, _⟩ => show (z (2 : Fin 3)).val = (512 * ((z (2 : Fin 3)).val / 512) + (z (2 : Fin 3)).val % 512) % 4096; omega

theorem eq_ofCumBlks {α : Type} {x : S2x1x4096.Idx → α} {w : ℕ → ℕ → S1x1x512.Idx → α}
    (e : ∀ h i, h < 2 → i < 8 → cumBlk x h i = w h i) : x = ofCumBlks w := by
  funext z
  have h2 : (z (2 : Fin 3)).val < 4096 := (z (2 : Fin 3)).isLt
  have h0 : (z (0 : Fin 3)).val < 2 := (z (0 : Fin 3)).isLt
  show x z = w _ _ _
  rw [← e _ _ h0 (by omega)]
  refine congrArg x (funext fun a => Fin.ext ?_)
  match a with
  | ⟨0, _⟩ => show _ = ((z (0 : Fin 3)).val + 0) % 2; exact (Nat.mod_eq_of_lt h0).symm
  | ⟨1, _⟩ => show _ = (0 + (z (1 : Fin 3)).val) % 1; rw [Nat.zero_add]; exact (Nat.mod_eq_of_lt (z (1 : Fin 3)).isLt).symm
  | ⟨2, _⟩ => show (z (2 : Fin 3)).val = (512 * ((z (2 : Fin 3)).val / 512) + (z (2 : Fin 3)).val % 512) % 4096; omega

theorem eq_ofHeads {α : Type} {x : S2x128x4096.Idx → α} {w : ℕ → S1x128x4096.Idx → α}
    (e : ∀ h, h < 2 → headOf x h = w h) : x = ofHeads w := by
  refine ext_head fun h hh => (e h hh).trans (funext fun y => ?_)
  show w h y = w ((h + _) % 2) _
  have hy : (y (0 : Fin 3)).val = 0 := by have : (y (0 : Fin 3)).val < 1 := (y (0 : Fin 3)).isLt; omega
  have e1 : (h + (y (0 : Fin 3)).val) % 2 = h := by rw [hy]; omega
  rw [e1]
  refine congrArg (w h) (funext fun a => Fin.ext ?_)
  match a with
  | ⟨0, _⟩ => exact hy
  | ⟨1, _⟩ => show _ = (0 + (y (1 : Fin 3)).val) % 128; rw [Nat.zero_add]; exact (Nat.mod_eq_of_lt (y (1 : Fin 3)).isLt).symm
  | ⟨2, _⟩ => show _ = (0 + (y (2 : Fin 3)).val) % 4096; rw [Nat.zero_add]; exact (Nat.mod_eq_of_lt (y (2 : Fin 3)).isLt).symm

theorem eq_ofCumHeads {α : Type} {x : S2x1x4096.Idx → α} {w : ℕ → S1x1x4096.Idx → α}
    (e : ∀ h, h < 2 → cumHead x h = w h) : x = ofCumHeads w := by
  refine ext_cumHead fun h hh => (e h hh).trans (funext fun y => ?_)
  show w h y = w ((h + _) % 2) _
  have hy : (y (0 : Fin 3)).val = 0 := by have : (y (0 : Fin 3)).val < 1 := (y (0 : Fin 3)).isLt; omega
  have e1 : (h + (y (0 : Fin 3)).val) % 2 = h := by rw [hy]; omega
  rw [e1]
  refine congrArg (w h) (funext fun a => Fin.ext ?_)
  match a with
  | ⟨0, _⟩ => exact hy
  | ⟨1, _⟩ => show _ = (0 + (y (1 : Fin 3)).val) % 1; rw [Nat.zero_add]; exact (Nat.mod_eq_of_lt (y (1 : Fin 3)).isLt).symm
  | ⟨2, _⟩ => show _ = (0 + (y (2 : Fin 3)).val) % 4096; rw [Nat.zero_add]; exact (Nat.mod_eq_of_lt (y (2 : Fin 3)).isLt).symm

/-! ## What the kernel accumulates -/

variable {F : FTy → Type} [FloatOps F] [Named F]

/-- The row and the column numbers of a block. -/
abbrev rowNo : IVec S512x512 32 := iota .tc S512x512 32 [0] iota_S512x512_d0_w32
abbrev colNo : IVec S512x512 32 := iota .tc S512x512 32 [1] iota_S512x512_d1_w32

variable (q2 : Vec F S2x128x4096 .bf16) (kp : Vec F S2x4096x128 .bf16) (vp : Vec F S2x4096x128 .bf16) (do2 : Vec F S2x128x4096 .bf16)

/-- The gradient of the scores of key block `j` (rows) and query block `i` (columns) of head `h`: on the diagonal with the mask. -/
def scoreGrad (h j i : ℕ) : FVec F S512x512 .bf16 :=
  if i = j then k0_pay84 rowNo colNo (rowBlk kp h j) (rowBlk vp h j) (colBlk q2 h j) (colBlk do2 h j)
  else k0_pay6 (k0_pay75 (rowBlk kp h j)) (k0_pay77 (rowBlk vp h j)) (colBlk q2 h i) (colBlk do2 h i)

/-- The gradient of the values of block `j` over the query blocks `j … j + n`. -/
def valueAcc (h j : ℕ) : ℕ → Vec F S1x128x512 .f32
  | 0 => k0_pay87 (k0_pay85 rowNo colNo (rowBlk kp h j) (colBlk q2 h j) (colBlk do2 h j))
  | n + 1 => k0_pay7 (k0_pay75 (rowBlk kp h j)) (colBlk q2 h (j + 1 + n)) (colBlk do2 h (j + 1 + n)) (valueAcc h j n)

/-- The gradient of the keys of block `j` over the query blocks `j … j + n`. -/
def keyAcc (h j : ℕ) : ℕ → Vec F S1x128x512 .f32
  | 0 => k0_pay88 (k0_pay86 rowNo colNo (rowBlk kp h j) (rowBlk vp h j) (colBlk q2 h j) (colBlk do2 h j))
  | n + 1 => k0_pay8 (k0_pay75 (rowBlk kp h j)) (k0_pay77 (rowBlk vp h j)) (colBlk q2 h (j + 1 + n)) (colBlk do2 h (j + 1 + n)) (keyAcc h j n)

/-- The gradient of the queries of block `i` over the first `n` key blocks. -/
def queryAcc (h i : ℕ) : ℕ → Vec F S1x128x512 .f32
  | 0 => colBlk (k0_pay107 (F := F)) h i
  | n + 1 => k0_pay9 (k0_pay79 (rowBlk kp h n)) (scoreGrad q2 kp vp do2 h n i) (queryAcc h i n)

end Cert.Proof.KernelIdeal
-- ==== Proof.Attention.Inner.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Attention.Blocks
public import Idealize.ShloMosaic.Lib.Pipeline.ReadBack

@[expose] public section

set_option maxRecDepth 16384

noncomputable section

/-!
# One trip of the loop over pairs of query blocks

Trip `k` of the inner loop of key block `j` takes the query blocks `j + 1 + 2 k` and `j + 2 + 2 k`, of both heads.
-/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

theorem trips1 : k0_t1_loop.trips = 8 := by decide +kernel
theorem trips2 : ∀ j : Fin k0_t1_loop.trips, (k0_t2_loop j).trips = (7 - j.val) / 2 := by decide +kernel
theorem trips3 : ∀ j : Fin k0_t1_loop.trips, (k0_t3_loop j).trips = 0 := by decide +kernel

theorem off5_eq : ∀ (j : Fin k0_t1_loop.trips) (i : Fin (k0_t2_loop j).trips),
    k0_off5 j i 1#32 = ![0, 0, 512 * (j.val + 1 + 2 * i.val)] := by decide +kernel
theorem off5_eq' : ∀ (j : Fin k0_t1_loop.trips) (i : Fin (k0_t2_loop j).trips),
    k0_off5 j i 2#32 = ![0, 0, 512 * (j.val + 1 + (2 * i.val + 1))] := by decide +kernel
theorem off6_eq : ∀ (j : Fin k0_t1_loop.trips) (i : Fin (k0_t2_loop j).trips),
    k0_off6 j i 1#32 = ![1, 0, 512 * (j.val + 1 + 2 * i.val)] := by decide +kernel
theorem off6_eq' : ∀ (j : Fin k0_t1_loop.trips) (i : Fin (k0_t2_loop j).trips),
    k0_off6 j i 2#32 = ![1, 0, 512 * (j.val + 1 + (2 * i.val + 1))] := by decide +kernel
instance (j : Fin k0_t1_loop.trips) (i : Fin (k0_t2_loop j).trips) : ClosedOff (k0_off5 j i 1#32) := ⟨_, off5_eq j i⟩
instance (j : Fin k0_t1_loop.trips) (i : Fin (k0_t2_loop j).trips) : ClosedOff (k0_off5 j i 2#32) := ⟨_, off5_eq' j i⟩
instance (j : Fin k0_t1_loop.trips) (i : Fin (k0_t2_loop j).trips) : ClosedOff (k0_off6 j i 1#32) := ⟨_, off6_eq j i⟩
instance (j : Fin k0_t1_loop.trips) (i : Fin (k0_t2_loop j).trips) : ClosedOff (k0_off6 j i 2#32) := ⟨_, off6_eq' j i⟩

/-- A whole buffer held at its contents. -/
abbrev held (c : Dev nD) {sp : Space} {s : Shape} {e : EltTy} (M : Memref sig .tc sp s e) (f : BufTy.Contents (Elt F) M.view.ty) : sProp 𝕄 :=
  M.view.loc (c : Thread nD τ) ↦[M.view.set]{fullShare} f

/-- The number of key blocks that the query block `i` has met when key block `j` has gone over the query blocks below `e`. -/
def met (j e i : ℕ) : ℕ := if i < j then i + 1 else if i < e then j + 1 else j

/-- A load of a block of an array with the positions in its columns. -/
abbrev ldCol {e : EltTy} (M : Memref sig .tc .vmem S2x128x4096 e) (f : BufTy.Contents (Elt F) M.view.ty) (off : Fin 3 → ℕ)
    (inb : ∀ a, off a + S1x128x512.size a ≤ S2x128x4096.size a) : S1x128x512.Idx → Elt F e :=
  M.view.readAt (Elt F) (Rect.unit (s := S2x128x4096) off S1x128x512.size inb).toLoadRect f
/-- A load of one head of an accumulator of one block. -/
abbrev ldAcc {e : EltTy} (M : Memref sig .tc .vmem S2x128x512 e) (f : BufTy.Contents (Elt F) M.view.ty) (h : ℕ)
    (inb : ∀ a, ![h, 0, 0] a + S1x128x512.size a ≤ S2x128x512.size a) : S1x128x512.Idx → Elt F e :=
  M.view.readAt (Elt F) (Rect.unit (s := S2x128x512) ![h, 0, 0] S1x128x512.size inb).toLoadRect f

theorem ldCol_eq {e : EltTy} (M : Memref sig .tc .vmem S2x128x4096 e) (f : BufTy.Contents (Elt F) M.view.ty) {off : Fin 3 → ℕ} {h q : ℕ}
    (inb : ∀ a, off a + S1x128x512.size a ≤ S2x128x4096.size a) (eo : off = ![h, 0, 512 * q]) (hh : h < 2) (hq : q < 8) :
    ldCol M f off inb = colBlk (M.view.read (Elt F) f) h q := by
  unfold ldCol
  rw [View.readAt_unit M.view f inb eo (inb_col hh hq)]
  exact window_eq_win _ _ _ _

theorem ldAcc_eq {e : EltTy} (M : Memref sig .tc .vmem S2x128x512 e) (f : BufTy.Contents (Elt F) M.view.ty) {h : ℕ}
    (inb : ∀ a, ![h, 0, 0] a + S1x128x512.size a ≤ S2x128x512.size a) :
    ldAcc M f h inb = accBlk (M.view.read (Elt F) f) h := by
  unfold ldAcc
  rw [View.readAt_unit M.view f inb rfl inb]
  exact window_eq_win _ _ _ _

theorem met_new {j e q : ℕ} (h1 : j < q) (h2 : q < e) : met j e q = j + 1 := by
  unfold met; rw [if_neg (by omega), if_pos h2]
theorem met_old {j e q : ℕ} (h1 : j ≤ q) (h2 : e ≤ q) : met j e q = j := by
  unfold met; rw [if_neg (by omega), if_neg (by omega)]

section trip
variable (c : Dev nD) (i : grid0.Coords) (arg1 : Memref sig .tc .vmem S2x128x4096 .bf16) (harg1 : arg1.IsWhole) (arg2 : Memref sig .tc .vmem S2x4096x128 .bf16) (harg2 : arg2.IsWhole) (arg3 : Memref sig .tc .vmem S2x4096x128 .bf16) (harg3 : arg3.IsWhole) (arg4 : Memref sig .tc .vmem S2x128x4096 .bf16) (harg4 : arg4.IsWhole) (arg5 : Memref sig .tc .vmem S2x128x4096 .bf16) (harg5 : arg5.IsWhole) (arg6 : Memref sig .tc .vmem S2x128x4096 .bf16) (harg6 : arg6.IsWhole) (arg7 : Memref sig .tc .vmem S2x128x4096 .bf16) (harg7 : arg7.IsWhole) (arg8 : Memref sig .tc .vmem S2x1x4096 .f32) (harg8 : arg8.IsWhole) (arg9 : Memref sig .tc .vmem S2x128x4096 .f32) (harg9 : arg9.IsWhole) (arg10 : Memref sig .tc .vmem S2x128x512 .f32) (harg10 : arg10.IsWhole) (arg11 : Memref sig .tc .vmem S2x128x512 .f32) (harg11 : arg11.IsWhole)

variable (q2 : Vec F S2x128x4096 .bf16) (kp : Vec F S2x4096x128 .bf16) (vp : Vec F S2x4096x128 .bf16) (do2 : Vec F S2x128x4096 .bf16)

/-- The query gradients in the accumulator while key block `j` has gone over the query blocks below `e`. -/
def QueryHeld (j e : ℕ) (A : Vec F S2x128x4096 .f32) : Prop :=
  ∀ h i, h < 2 → i < 8 → colBlk A h i = queryAcc q2 kp vp do2 h i (met j e i)

/-- What the inner loop holds of the accumulators: the query blocks below `e` done. -/
def innerHeld (j n : ℕ) (X1 : BufTy.Contents (Elt F) arg1.view.ty) (X4 : BufTy.Contents (Elt F) arg4.view.ty) : sProp 𝕄 :=
  iprop(held c arg1 X1 ∗ held c arg4 X4
    ∗ (∃ g, held c arg9 g ∗ ⌜QueryHeld q2 kp vp do2 j (j + 1 + n) (arg9.view.read (Elt F) g)⌝)
    ∗ (∃ g, held c arg10 g ∗ ⌜∀ h, h < 2 → accBlk (arg10.view.read (Elt F) g) h = keyAcc q2 kp vp do2 h j n⌝)
    ∗ (∃ g, held c arg11 g ∗ ⌜∀ h, h < 2 → accBlk (arg11.view.read (Elt F) g) h = valueAcc q2 kp do2 h j n⌝))

variable {q2 kp vp do2} in
theorem query_step {j e e' h q : ℕ} {A : Vec F S2x128x4096 .f32} (H : QueryHeld q2 kp vp do2 j e A)
    (X1 : BufTy.Contents (Elt F) arg1.view.ty) (X4 : BufTy.Contents (Elt F) arg4.view.ty) (f9 : BufTy.Contents (Elt F) arg9.view.ty)
    (h1 : arg1.view.read (Elt F) X1 = q2) (h4 : arg4.view.read (Elt F) X4 = do2) (h9 : arg9.view.read (Elt F) f9 = A)
    {off : Fin 3 → ℕ} (inb : ∀ a, off a + S1x128x512.size a ≤ S2x128x4096.size a) (eo : off = ![h, 0, 512 * q]) (hh : h < 2) (hq : q < 8)
    (hj : j < q) (he : e ≤ q) (he' : q < e') :
    k0_pay9 (k0_pay79 (rowBlk kp h j)) (k0_pay6 (k0_pay75 (rowBlk kp h j)) (k0_pay77 (rowBlk vp h j)) (ldCol arg1 X1 off inb) (ldCol arg4 X4 off inb)) (ldCol arg9 f9 off inb)
      = queryAcc q2 kp vp do2 h q (met j e' q) := by
  rw [met_new hj he', ldCol_eq arg1 X1 inb eo hh hq, ldCol_eq arg4 X4 inb eo hh hq, ldCol_eq arg9 f9 inb eo hh hq, h1, h4, h9, H h q hh hq,
    met_old (by omega) he, queryAcc, scoreGrad, if_neg (by omega)]

variable {q2 kp vp do2} in
theorem key_step {j n h : ℕ} (X1 : BufTy.Contents (Elt F) arg1.view.ty) (X4 : BufTy.Contents (Elt F) arg4.view.ty)
    (h1 : arg1.view.read (Elt F) X1 = q2) (h4 : arg4.view.read (Elt F) X4 = do2)
    {off off' : Fin 3 → ℕ} (inb : ∀ a, off a + S1x128x512.size a ≤ S2x128x4096.size a) (eo : off = ![h, 0, 512 * (j + 1 + n)])
    (inb' : ∀ a, off' a + S1x128x512.size a ≤ S2x128x4096.size a) (eo' : off' = ![h, 0, 512 * (j + 1 + (n + 1))]) (hh : h < 2) (hj : j + 1 + (n + 1) < 8)
    {B : Vec F S1x128x512 .f32} (hB : B = keyAcc q2 kp vp do2 h j n) :
    k0_pay8 (k0_pay75 (rowBlk kp h j)) (k0_pay77 (rowBlk vp h j)) (ldCol arg1 X1 off' inb') (ldCol arg4 X4 off' inb')
      (k0_pay8 (k0_pay75 (rowBlk kp h j)) (k0_pay77 (rowBlk vp h j)) (ldCol arg1 X1 off inb) (ldCol arg4 X4 off inb) B) = keyAcc q2 kp vp do2 h j (n + 2) := by
  rw [ldCol_eq arg1 X1 inb eo hh (by omega), ldCol_eq arg4 X4 inb eo hh (by omega), ldCol_eq arg1 X1 inb' eo' hh (by omega), ldCol_eq arg4 X4 inb' eo' hh (by omega), h1, h4, hB]
  rfl

variable {q2 kp do2} in
theorem value_step {j n h : ℕ} (X1 : BufTy.Contents (Elt F) arg1.view.ty) (X4 : BufTy.Contents (Elt F) arg4.view.ty)
    (h1 : arg1.view.read (Elt F) X1 = q2) (h4 : arg4.view.read (Elt F) X4 = do2)
    {off off' : Fin 3 → ℕ} (inb : ∀ a, off a + S1x128x512.size a ≤ S2x128x4096.size a) (eo : off = ![h, 0, 512 * (j + 1 + n)])
    (inb' : ∀ a, off' a + S1x128x512.size a ≤ S2x128x4096.size a) (eo' : off' = ![h, 0, 512 * (j + 1 + (n + 1))]) (hh : h < 2) (hj : j + 1 + (n + 1) < 8)
    {B : Vec F S1x128x512 .f32} (hB : B = valueAcc q2 kp do2 h j n) :
    k0_pay7 (k0_pay75 (rowBlk kp h j)) (ldCol arg1 X1 off' inb') (ldCol arg4 X4 off' inb')
      (k0_pay7 (k0_pay75 (rowBlk kp h j)) (ldCol arg1 X1 off inb) (ldCol arg4 X4 off inb) B) = valueAcc q2 kp do2 h j (n + 2) := by
  rw [ldCol_eq arg1 X1 inb eo hh (by omega), ldCol_eq arg4 X4 inb eo hh (by omega), ldCol_eq arg1 X1 inb' eo' hh (by omega), ldCol_eq arg4 X4 inb' eo' hh (by omega), h1, h4, hB]
  rfl

variable (k0_t1 : Fin k0_t1_loop.trips) (arg12 : BitVec 32) (v54 : BitVec 32) (v100 : FVec F S512x512 .bf16) (v103 : FVec F S128x512 .f32)

theorem trip2 (k : Fin (k0_t2_loop k0_t1).trips) (acc : BitVec 32) (E : Set ℕ) (X1 X4)
    (h1 : arg1.view.read (Elt F) X1 = q2) (h4 : arg4.view.read (Elt F) X4 = do2) :
    innerHeld c arg1 arg4 arg9 arg10 arg11 q2 kp vp do2 k0_t1.val (2 * k.val) X1 X4 ⊢
      wp frame (wpE defs₀ 𝒱₀ (c : Thread nD τ) none) E (k0_t2_body (F := F) i arg1 harg1 arg2 harg2 arg3 harg3 arg4 harg4 arg5 harg5 arg6 harg6 arg7 harg7 arg8 harg8 arg9 harg9 arg10 harg10 arg11 harg11 k0_t1 arg12
          (k0_pay75 (rowBlk kp 0 k0_t1.val)) (k0_pay76 (rowBlk kp 1 k0_t1.val)) (k0_pay77 (rowBlk vp 0 k0_t1.val)) (k0_pay78 (rowBlk vp 1 k0_t1.val))
          (k0_pay79 (rowBlk kp 0 k0_t1.val)) (k0_pay80 (rowBlk kp 1 k0_t1.val)) v54 v100 v103 k acc)
        (fun _ => innerHeld c arg1 arg4 arg9 arg10 arg11 q2 kp vp do2 k0_t1.val (2 * (k.val + 1)) X1 X4) := by
  have hk1 : k0_t1.val < 8 := Nat.lt_of_lt_of_eq k0_t1.isLt trips1
  have hk : k.val < (7 - k0_t1.val) / 2 := Nat.lt_of_lt_of_eq k.isLt (trips2 k0_t1)
  unfold innerHeld
  iintro ⟨H1, H4, ⟨%f9, H9, %h9⟩, ⟨%f10, H10, %h10⟩, ⟨%f11, H11, %h11⟩⟩
  unfold k0_t2_body
  sl_exec
  sl_step
  isplitl [H1]; · iexact H1
  isplitl [H4]; · iexact H4
  isplitl [H9]
  · iexists _
    isplitl [H9]; · iexact H9
    ipureintro
    intro h q hh hq
    rw [View.read_writes_cons_put _ _ _ _ _ (off6_eq' k0_t1 k), View.read_writes_cons_put _ _ _ _ _ (off5_eq' k0_t1 k),
      View.read_writes_cons_put _ _ _ _ _ (off6_eq k0_t1 k), View.read_writes_cons_put _ _ _ _ _ (off5_eq k0_t1 k),
      colBlk_put _ _ _ _ hh hq, colBlk_put _ _ _ _ hh hq, colBlk_put _ _ _ _ hh hq, colBlk_put _ _ _ _ hh hq]
    have hj : k0_t1.val + 1 + 2 * k.val < 8 := by omega
    have hj' : k0_t1.val + 1 + (2 * k.val + 1) < 8 := by omega
    have rest : (colBlk (arg9.view.read (Elt F) (arg9.view.writes (Elt F) f9 [])) h q) = queryAcc q2 kp vp do2 h q (met k0_t1.val (k0_t1.val + 1 + 2 * k.val) q) := h9 h q hh hq
    split_ifs with e4 e3 e2 e1
    · obtain ⟨rfl, rfl⟩ := e4
      exact query_step arg1 arg4 arg9 h9 X1 X4 f9 h1 h4 rfl (k0_off6_inb k0_t1 k 1) (off6_eq' k0_t1 k) hh hj' (by omega) (by omega) (by omega)
    · obtain ⟨rfl, rfl⟩ := e3
      exact query_step arg1 arg4 arg9 h9 X1 X4 f9 h1 h4 rfl (k0_off5_inb k0_t1 k 1) (off5_eq' k0_t1 k) hh hj' (by omega) (by omega) (by omega)
    · obtain ⟨rfl, rfl⟩ := e2
      exact query_step arg1 arg4 arg9 h9 X1 X4 f9 h1 h4 rfl (k0_off6_inb k0_t1 k 0) (off6_eq k0_t1 k) hh hj (by omega) (by omega) (by omega)
    · obtain ⟨rfl, rfl⟩ := e1
      exact query_step arg1 arg4 arg9 h9 X1 X4 f9 h1 h4 rfl (k0_off5_inb k0_t1 k 0) (off5_eq k0_t1 k) hh hj (by omega) (by omega) (by omega)
    · refine rest.trans (congrArg _ ?_)
      have : h = 0 ∨ h = 1 := by omega
      have : q ≠ k0_t1.val + 1 + 2 * k.val := by rintro rfl; rcases this with rfl | rfl <;> simp at *
      have : q ≠ k0_t1.val + 1 + (2 * k.val + 1) := by rintro rfl; rcases ‹h = 0 ∨ h = 1› with rfl | rfl <;> simp at *
      unfold met
      split_ifs <;> omega
  isplitl [H10]
  · iexists _
    isplitl [H10]; · iexact H10
    ipureintro
    intro h hh
    have hj : k0_t1.val + 1 + 2 * k.val < 8 := by omega
    have hj' : k0_t1.val + 1 + (2 * k.val + 1) < 8 := by omega
    rw [View.read_writes_cons_put _ _ _ _ _ rfl, accBlk_put _ _ _ hh]
    split_ifs with e1
    · subst e1
      have r : trip2.sl.v334 arg1 arg4 arg10 kp vp k0_t1 k X1 X4 f10 = k0_pay8 (k0_pay75 (rowBlk kp 1 k0_t1.val)) (k0_pay77 (rowBlk vp 1 k0_t1.val))
          (ldCol arg1 X1 _ (k0_off6_inb k0_t1 k 0)) (ldCol arg4 X4 _ (k0_off6_inb k0_t1 k 0)) (ldAcc arg10 f10 1 inb_S2x128x512_S1x128x512_1_0_0) :=
        (View.readCov_skip _ _ _ _ _ rfl).trans (View.readCov_cons_toLoadRect _ _ _ _)
      rw [r]
      exact (key_step arg1 arg4 X1 X4 h1 h4 (k0_off6_inb k0_t1 k 0) (off6_eq k0_t1 k) (k0_off6_inb k0_t1 k 1) (off6_eq' k0_t1 k) hh hj' ((ldAcc_eq arg10 f10 inb_S2x128x512_S1x128x512_1_0_0).trans (h10 1 hh)))
    · obtain rfl : h = 0 := by omega
      have r : trip2.sl.v299 arg1 arg4 arg10 kp vp k0_t1 k X1 X4 f10 = k0_pay8 (k0_pay75 (rowBlk kp 0 k0_t1.val)) (k0_pay77 (rowBlk vp 0 k0_t1.val))
          (ldCol arg1 X1 _ (k0_off5_inb k0_t1 k 0)) (ldCol arg4 X4 _ (k0_off5_inb k0_t1 k 0)) (ldAcc arg10 f10 0 inb_S2x128x512_S1x128x512_0_0_0) :=
        (View.readCov_skip _ _ _ _ _ rfl).trans (View.readCov_cons_toLoadRect _ _ _ _)
      delta trip2.sl.H10_3
      rw [View.read_writes_cons_put _ _ _ _ _ rfl, accBlk_put _ _ _ hh, if_pos rfl]
      delta trip2.sl.v304 trip2.sl.v301 trip2.sl.v300
      rw [r]
      exact (key_step arg1 arg4 X1 X4 h1 h4 (k0_off5_inb k0_t1 k 0) (off5_eq k0_t1 k) (k0_off5_inb k0_t1 k 1) (off5_eq' k0_t1 k) hh hj' ((ldAcc_eq arg10 f10 inb_S2x128x512_S1x128x512_0_0_0).trans (h10 0 hh)))
  · iexists _
    isplitl [H11]; · iexact H11
    ipureintro
    intro h hh
    have hj' : k0_t1.val + 1 + (2 * k.val + 1) < 8 := by omega
    rw [View.read_writes_cons_put _ _ _ _ _ rfl, accBlk_put _ _ _ hh]
    split_ifs with e1
    · subst e1
      have r : trip2.sl.v328 arg1 arg4 arg11 kp k0_t1 k X1 X4 f11 = k0_pay7 (k0_pay75 (rowBlk kp 1 k0_t1.val))
          (ldCol arg1 X1 _ (k0_off6_inb k0_t1 k 0)) (ldCol arg4 X4 _ (k0_off6_inb k0_t1 k 0)) (ldAcc arg11 f11 1 inb_S2x128x512_S1x128x512_1_0_0) :=
        (View.readCov_skip _ _ _ _ _ rfl).trans (View.readCov_cons_toLoadRect _ _ _ _)
      delta trip2.sl.v333 trip2.sl.v330 trip2.sl.v329
      rw [r]
      exact (value_step arg1 arg4 X1 X4 h1 h4 (k0_off6_inb k0_t1 k 0) (off6_eq k0_t1 k) (k0_off6_inb k0_t1 k 1) (off6_eq' k0_t1 k) hh hj' ((ldAcc_eq arg11 f11 inb_S2x128x512_S1x128x512_1_0_0).trans (h11 1 hh)))
    · obtain rfl : h = 0 := by omega
      have r : trip2.sl.v293 arg1 arg4 arg11 kp k0_t1 k X1 X4 f11 = k0_pay7 (k0_pay75 (rowBlk kp 0 k0_t1.val))
          (ldCol arg1 X1 _ (k0_off5_inb k0_t1 k 0)) (ldCol arg4 X4 _ (k0_off5_inb k0_t1 k 0)) (ldAcc arg11 f11 0 inb_S2x128x512_S1x128x512_0_0_0) :=
        (View.readCov_skip _ _ _ _ _ rfl).trans (View.readCov_cons_toLoadRect _ _ _ _)
      delta trip2.sl.H11_3
      rw [View.read_writes_cons_put _ _ _ _ _ rfl, accBlk_put _ _ _ hh, if_pos rfl]
      delta trip2.sl.v298 trip2.sl.v295 trip2.sl.v294
      rw [r]
      exact (value_step arg1 arg4 X1 X4 h1 h4 (k0_off5_inb k0_t1 k 0) (off5_eq k0_t1 k) (k0_off5_inb k0_t1 k 1) (off5_eq' k0_t1 k) hh hj' ((ldAcc_eq arg11 f11 inb_S2x128x512_S1x128x512_0_0_0).trans (h11 0 hh)))
end trip

end Cert.Proof.KernelIdeal
-- ==== Proof.Attention.Outer.lean ====
module

public import proofs.«01_k».proof.Defs
public import proofs.«01_k».proof.Proof.Attention.Inner

@[expose] public section

set_option maxRecDepth 16384

noncomputable section

/-!
# One trip of the loop over key blocks

Trip `j` takes the key block `j`: the query block `j` with the mask, the query blocks after it in pairs and, when
their number is odd, the last one alone; then it stores the gradients of the keys, the values and the sums of the gates.
-/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

theorem off1_eq : ∀ j : Fin k0_t1_loop.trips, k0_off1 j = ![0, 512 * j.val, 0] := by decide +kernel
theorem off2_eq : ∀ j : Fin k0_t1_loop.trips, k0_off2 j = ![1, 512 * j.val, 0] := by decide +kernel
theorem off3_eq : ∀ j : Fin k0_t1_loop.trips, k0_off3 j = ![0, 0, 512 * j.val] := by decide +kernel
theorem off4_eq : ∀ j : Fin k0_t1_loop.trips, k0_off4 j = ![1, 0, 512 * j.val] := by decide +kernel
theorem off9_eq : ∀ j : Fin k0_t1_loop.trips, k0_off9 j = ![0, 0, 512 * j.val] := by decide +kernel
theorem off10_eq : ∀ j : Fin k0_t1_loop.trips, k0_off10 j = ![1, 0, 512 * j.val] := by decide +kernel
theorem cond1_iff : ∀ j : Fin k0_t1_loop.trips, k0_cond1 j = 1#1 ↔ (7 - j.val) % 2 = 1 := by decide +kernel

theorem met_here {j e : ℕ} (h2 : j < e) : met j e j = j + 1 := by
  unfold met; rw [if_neg (by omega), if_pos h2]

theorem stored_col {α : Type} {x : S2x128x4096.Idx → α} {j : ℕ} {f : ℕ → ℕ → S1x128x512.Idx → α} {w0 w1 : S1x128x512.Idx → α} (hj : j < 8)
    (H : ∀ h q, h < 2 → q < j → colBlk x h q = f h q) (e0 : w0 = f 0 j) (e1 : w1 = f 1 j) :
    ∀ h q, h < 2 → q < j + 1 → colBlk (VecWindow.put (VecWindow.put x ![0, 0, 512 * j] S1x128x512.size w0) ![1, 0, 512 * j] S1x128x512.size w1) h q = f h q := by
  intro h q hh hq
  rw [colBlk_put _ _ _ _ hh (by omega), colBlk_put _ _ _ _ hh (by omega)]
  split_ifs with g1 g0
  · obtain ⟨rfl, rfl⟩ := g1; exact e1
  · obtain ⟨rfl, rfl⟩ := g0; exact e0
  · refine H h q hh ?_
    have : q ≠ j := by rintro rfl; rcases (show h = 0 ∨ h = 1 by omega) with rfl | rfl <;> simp at *
    omega

theorem stored_cum {α : Type} {x : S2x1x4096.Idx → α} {j : ℕ} {f : ℕ → ℕ → S1x1x512.Idx → α} {w0 w1 : S1x1x512.Idx → α} (hj : j < 8)
    (H : ∀ h q, h < 2 → q < j → cumBlk x h q = f h q) (e0 : w0 = f 0 j) (e1 : w1 = f 1 j) :
    ∀ h q, h < 2 → q < j + 1 → cumBlk (VecWindow.put (VecWindow.put x ![0, 0, 512 * j] S1x1x512.size w0) ![1, 0, 512 * j] S1x1x512.size w1) h q = f h q := by
  intro h q hh hq
  rw [cumBlk_put _ _ _ _ hh (by omega), cumBlk_put _ _ _ _ hh (by omega)]
  split_ifs with g1 g0
  · obtain ⟨rfl, rfl⟩ := g1; exact e1
  · obtain ⟨rfl, rfl⟩ := g0; exact e0
  · refine H h q hh ?_
    have : q ≠ j := by rintro rfl; rcases (show h = 0 ∨ h = 1 by omega) with rfl | rfl <;> simp at *
    omega

/-- Once key block `j` has gone over all query blocks the accumulator is where key block `j + 1` starts. -/
theorem queryHeld_next {q2 : Vec F S2x128x4096 .bf16} {kp vp : Vec F S2x4096x128 .bf16} {do2 : Vec F S2x128x4096 .bf16} {j e : ℕ} {A : Vec F S2x128x4096 .f32}
    (he : 8 ≤ e) (H : QueryHeld q2 kp vp do2 j e A) : QueryHeld q2 kp vp do2 (j + 1) (j + 1) A := by
  intro h q hh hq
  refine (H h q hh hq).trans (congrArg _ ?_)
  unfold met
  split_ifs <;> omega

section trip
variable (c : Dev nD) (i : grid0.Coords) (arg1 : Memref sig .tc .vmem S2x128x4096 .bf16) (harg1 : arg1.IsWhole) (arg2 : Memref sig .tc .vmem S2x4096x128 .bf16) (harg2 : arg2.IsWhole) (arg3 : Memref sig .tc .vmem S2x4096x128 .bf16) (harg3 : arg3.IsWhole) (arg4 : Memref sig .tc .vmem S2x128x4096 .bf16) (harg4 : arg4.IsWhole) (arg5 : Memref sig .tc .vmem S2x128x4096 .bf16) (harg5 : arg5.IsWhole) (arg6 : Memref sig .tc .vmem S2x128x4096 .bf16) (harg6 : arg6.IsWhole) (arg7 : Memref sig .tc .vmem S2x128x4096 .bf16) (harg7 : arg7.IsWhole) (arg8 : Memref sig .tc .vmem S2x1x4096 .f32) (harg8 : arg8.IsWhole) (arg9 : Memref sig .tc .vmem S2x128x4096 .f32) (harg9 : arg9.IsWhole) (arg10 : Memref sig .tc .vmem S2x128x512 .f32) (harg10 : arg10.IsWhole) (arg11 : Memref sig .tc .vmem S2x128x512 .f32) (harg11 : arg11.IsWhole)

variable (q2 : Vec F S2x128x4096 .bf16) (kp : Vec F S2x4096x128 .bf16) (vp : Vec F S2x4096x128 .bf16) (do2 : Vec F S2x128x4096 .bf16)

/-- The loop over pairs of query blocks, by its invariant. -/
@[instance_reducible] def innerInv (k0_t1 : Fin k0_t1_loop.trips) (arg12 v54 : BitVec 32) (v100 : FVec F S512x512 .bf16) (v103 : FVec F S128x512 .f32) (E : Set ℕ)
    {X1 : BufTy.Contents (Elt F) arg1.view.ty} {X4 : BufTy.Contents (Elt F) arg4.view.ty}
    (h1 : arg1.view.read (Elt F) X1 = q2) (h4 : arg4.view.read (Elt F) X4 = do2) (init : BitVec 32)
    {v41 v44 v47 v50 : FVec F S512x128 .bf16} {v51 v52 : FVec F S128x512 .bf16}
    (e41 : v41 = k0_pay75 (rowBlk kp 0 k0_t1.val)) (e44 : v44 = k0_pay76 (rowBlk kp 1 k0_t1.val))
    (e47 : v47 = k0_pay77 (rowBlk vp 0 k0_t1.val)) (e50 : v50 = k0_pay78 (rowBlk vp 1 k0_t1.val))
    (e51 : v51 = k0_pay79 (rowBlk kp 0 k0_t1.val)) (e52 : v52 = k0_pay80 (rowBlk kp 1 k0_t1.val)) :
    LoopInv (M := 𝕄) Idealize.ShloMosaic.frame (wpE defs₀ 𝒱₀ (c : Thread nD τ) none) E (k0_t2_loop k0_t1).lb (k0_t2_loop k0_t1).ub (k0_t2_loop k0_t1).st (k0_t2_ok k0_t1) init
      (k0_t2_body (F := F) i arg1 harg1 arg2 harg2 arg3 harg3 arg4 harg4 arg5 harg5 arg6 harg6 arg7 harg7 arg8 harg8 arg9 harg9 arg10 harg10 arg11 harg11 k0_t1 arg12
          v41 v44 v47 v50 v51 v52 v54 v100 v103) where
  inv k _ := innerHeld c arg1 arg4 arg9 arg10 arg11 q2 kp vp do2 k0_t1.val (2 * k) X1 X4
  step k acc := by
    subst e41 e44 e47 e50 e51 e52
    exact trip2 c i arg1 harg1 arg2 harg2 arg3 harg3 arg4 harg4 arg5 harg5 arg6 harg6 arg7 harg7 arg8 harg8 arg9 harg9 arg10 harg10 arg11 harg11 q2 kp vp do2 k0_t1 arg12 v54 v100 v103 k acc E X1 X4 h1 h4

/-- A load of a block of an array with the positions in its rows. -/
abbrev ldRow {e : EltTy} (M : Memref sig .tc .vmem S2x4096x128 e) (f : BufTy.Contents (Elt F) M.view.ty) (off : Fin 3 → ℕ)
    (inb : ∀ a, off a + S1x512x128.size a ≤ S2x4096x128.size a) : S1x512x128.Idx → Elt F e :=
  M.view.readAt (Elt F) (Rect.unit (s := S2x4096x128) off S1x512x128.size inb).toLoadRect f

theorem ldRow_eq {e : EltTy} (M : Memref sig .tc .vmem S2x4096x128 e) (f : BufTy.Contents (Elt F) M.view.ty) {off : Fin 3 → ℕ} {h q : ℕ}
    (inb : ∀ a, off a + S1x512x128.size a ≤ S2x4096x128.size a) (eo : off = ![h, 512 * q, 0]) (hh : h < 2) (hq : q < 8) :
    ldRow M f off inb = rowBlk (M.view.read (Elt F) f) h q := by
  unfold ldRow
  rw [View.readAt_unit M.view f inb eo (inb_row hh hq)]
  exact window_eq_win _ _ _ _

variable {q2 kp vp do2} in
theorem last_key {j n h : ℕ} (X1 : BufTy.Contents (Elt F) arg1.view.ty) (X4 : BufTy.Contents (Elt F) arg4.view.ty)
    (h1 : arg1.view.read (Elt F) X1 = q2) (h4 : arg4.view.read (Elt F) X4 = do2) (hh : h < 2) (hj : j + 1 + n = 7)
    {B : Vec F S1x128x512 .f32} (hB : B = keyAcc q2 kp vp do2 h j n) :
    k0_pay8 (k0_pay75 (rowBlk kp h j)) (k0_pay77 (rowBlk vp h j)) (ldCol arg1 X1 ![h, 0, 3584] (inb_col hh (by omega : 7 < 8)))
      (ldCol arg4 X4 ![h, 0, 3584] (inb_col hh (by omega : 7 < 8))) B = keyAcc q2 kp vp do2 h j (n + 1) := by
  rw [ldCol_eq (q := 7) arg1 X1 _ rfl hh (by omega), ldCol_eq (q := 7) arg4 X4 _ rfl hh (by omega), h1, h4, hB, ← hj]
  rfl

variable {q2 kp do2} in
theorem last_value {j n h : ℕ} (X1 : BufTy.Contents (Elt F) arg1.view.ty) (X4 : BufTy.Contents (Elt F) arg4.view.ty)
    (h1 : arg1.view.read (Elt F) X1 = q2) (h4 : arg4.view.read (Elt F) X4 = do2) (hh : h < 2) (hj : j + 1 + n = 7)
    {B : Vec F S1x128x512 .f32} (hB : B = valueAcc q2 kp do2 h j n) :
    k0_pay7 (k0_pay75 (rowBlk kp h j)) (ldCol arg1 X1 ![h, 0, 3584] (inb_col hh (by omega : 7 < 8)))
      (ldCol arg4 X4 ![h, 0, 3584] (inb_col hh (by omega : 7 < 8))) B = valueAcc q2 kp do2 h j (n + 1) := by
  rw [ldCol_eq (q := 7) arg1 X1 _ rfl hh (by omega), ldCol_eq (q := 7) arg4 X4 _ rfl hh (by omega), h1, h4, hB, ← hj]
  rfl

/-- What the outer loop holds before key block `j`. -/
def outerHeld (j : ℕ) (X1 : BufTy.Contents (Elt F) arg1.view.ty) (X2 : BufTy.Contents (Elt F) arg2.view.ty) (X3 : BufTy.Contents (Elt F) arg3.view.ty) (X4 : BufTy.Contents (Elt F) arg4.view.ty) : sProp 𝕄 :=
  iprop(held c arg1 X1 ∗ held c arg2 X2 ∗ held c arg3 X3 ∗ held c arg4 X4
    ∗ (∃ g, held c arg6 g ∗ ⌜∀ h q, h < 2 → q < j → colBlk (arg6.view.read (Elt F) g) h q = k0_pay104 (keyAcc q2 kp vp do2 h q (7 - q))⌝)
    ∗ (∃ g, held c arg7 g ∗ ⌜∀ h q, h < 2 → q < j → colBlk (arg7.view.read (Elt F) g) h q = k0_pay105 (valueAcc q2 kp do2 h q (7 - q))⌝)
    ∗ (∃ g, held c arg8 g ∗ ⌜∀ h q, h < 2 → q < j → cumBlk (arg8.view.read (Elt F) g) h q = k0_pay106 (keyAcc q2 kp vp do2 h q (7 - q))⌝)
    ∗ (∃ g, held c arg9 g ∗ ⌜QueryHeld q2 kp vp do2 j j (arg9.view.read (Elt F) g)⌝)
    ∗ (∃ g, held c arg10 g) ∗ (∃ g, held c arg11 g))

theorem trip1 (k0_t1 : Fin k0_t1_loop.trips) (acc : Unit) (E : Set ℕ) (X1 X2 X3 X4)
    (h1 : arg1.view.read (Elt F) X1 = q2) (h2 : arg2.view.read (Elt F) X2 = kp) (h3 : arg3.view.read (Elt F) X3 = vp) (h4 : arg4.view.read (Elt F) X4 = do2) :
    outerHeld c arg1 arg2 arg3 arg4 arg6 arg7 arg8 arg9 arg10 arg11 q2 kp vp do2 k0_t1.val X1 X2 X3 X4 ⊢
      wp frame (wpE defs₀ 𝒱₀ (c : Thread nD τ) none) E (k0_t1_body (F := F) i arg1 harg1 arg2 harg2 arg3 harg3 arg4 harg4 arg5 harg5 arg6 harg6 arg7 harg7 arg8 harg8 arg9 harg9 arg10 harg10 arg11 harg11 rowNo colNo k0_t1 acc)
        (fun _ => outerHeld c arg1 arg2 arg3 arg4 arg6 arg7 arg8 arg9 arg10 arg11 q2 kp vp do2 (k0_t1.val + 1) X1 X2 X3 X4) := by
  have hk1 : k0_t1.val < 8 := Nat.lt_of_lt_of_eq k0_t1.isLt trips1
  have htr : (k0_t3_loop k0_t1).trips = 0 := trips3 k0_t1
  unfold outerHeld
  iintro ⟨H1, H2, H3, H4, ⟨%f6, H6, %h6⟩, ⟨%f7, H7, %h7⟩, ⟨%f8, H8, %h8⟩, ⟨%f9, H9, %h9⟩, ⟨%f10, H10⟩, ⟨%f11, H11⟩⟩
  unfold k0_t1_body
  simp only [k0_part13_eq_skeleton, k0_part14_eq_skeleton, k0_part12_eq_skeleton, k0_part11_eq_skeleton, k0_part9_eq_skeleton, k0_part10_eq_skeleton]
  sl_exec
  have k0 : ldRow arg2 X2 _ (k0_off1_inb k0_t1) = rowBlk kp 0 k0_t1.val := (ldRow_eq arg2 X2 _ (off1_eq k0_t1) (by omega) hk1).trans (by rw [h2])
  have k1 : ldRow arg2 X2 _ (k0_off2_inb k0_t1) = rowBlk kp 1 k0_t1.val := (ldRow_eq arg2 X2 _ (off2_eq k0_t1) (by omega) hk1).trans (by rw [h2])
  have v0 : ldRow arg3 X3 _ (k0_off1_inb k0_t1) = rowBlk vp 0 k0_t1.val := (ldRow_eq arg3 X3 _ (off1_eq k0_t1) (by omega) hk1).trans (by rw [h3])
  have v1 : ldRow arg3 X3 _ (k0_off2_inb k0_t1) = rowBlk vp 1 k0_t1.val := (ldRow_eq arg3 X3 _ (off2_eq k0_t1) (by omega) hk1).trans (by rw [h3])
  have q0 : ldCol arg1 X1 _ (k0_off3_inb k0_t1) = colBlk q2 0 k0_t1.val := (ldCol_eq arg1 X1 _ (off3_eq k0_t1) (by omega) hk1).trans (by rw [h1])
  have q1 : ldCol arg1 X1 _ (k0_off4_inb k0_t1) = colBlk q2 1 k0_t1.val := (ldCol_eq arg1 X1 _ (off4_eq k0_t1) (by omega) hk1).trans (by rw [h1])
  have d0 : ldCol arg4 X4 _ (k0_off3_inb k0_t1) = colBlk do2 0 k0_t1.val := (ldCol_eq arg4 X4 _ (off3_eq k0_t1) (by omega) hk1).trans (by rw [h4])
  have d1 : ldCol arg4 X4 _ (k0_off4_inb k0_t1) = colBlk do2 1 k0_t1.val := (ldCol_eq arg4 X4 _ (off4_eq k0_t1) (by omega) hk1).trans (by rw [h4])
  have e41 : trip1.sl.r arg2 k0_t1 X2 = k0_pay75 (rowBlk kp 0 k0_t1.val) := congrArg k0_pay75 k0
  have e44 : trip1.sl.r_1 arg2 k0_t1 X2 = k0_pay76 (rowBlk kp 1 k0_t1.val) := congrArg k0_pay76 k1
  have e47 : trip1.sl.r_2 arg3 k0_t1 X3 = k0_pay77 (rowBlk vp 0 k0_t1.val) := congrArg k0_pay77 v0
  have e50 : trip1.sl.r_3 arg3 k0_t1 X3 = k0_pay78 (rowBlk vp 1 k0_t1.val) := congrArg k0_pay78 v1
  have e51 : trip1.sl.r_4 arg2 k0_t1 X2 = k0_pay79 (rowBlk kp 0 k0_t1.val) := congrArg k0_pay79 k0
  have e52 : trip1.sl.r_5 arg2 k0_t1 X2 = k0_pay80 (rowBlk kp 1 k0_t1.val) := congrArg k0_pay80 k1
  have D9 : QueryHeld q2 kp vp do2 k0_t1.val (k0_t1.val + 1 + 2 * 0) (arg9.view.read (Elt F) (arg9.view.writes (Elt F) f9
      [⟨Rect.unit (k0_off4 k0_t1) S1x128x512.size (k0_off4_inb k0_t1),
          k0_pay97 (trip1.sl.r_5 arg2 k0_t1 X2) (trip1.sl.r_9 arg1 arg2 arg3 arg4 k0_t1 X1 X2 X3 X4)
            (trip1.sl.v111 arg9 k0_t1 f9)⟩,
        ⟨Rect.unit (k0_off3 k0_t1) S1x128x512.size (k0_off3_inb k0_t1),
          k0_pay89 (trip1.sl.r_4 arg2 k0_t1 X2) (trip1.sl.r_6 arg1 arg2 arg3 arg4 k0_t1 X1 X2 X3 X4)
            (ldCol arg9 f9 _ (k0_off3_inb k0_t1))⟩])) := by
    intro h q hh hq
    rw [View.read_writes_cons_put _ _ _ _ _ (off4_eq k0_t1), View.read_writes_cons_put _ _ _ _ _ (off3_eq k0_t1),
      colBlk_put _ _ _ _ hh hq, colBlk_put _ _ _ _ hh hq]
    split_ifs with e1 e0
    · obtain ⟨rfl, rfl⟩ := e1
      rw [met_here (by omega)]
      refine (show _ = k0_pay9 (k0_pay79 (ldRow arg2 X2 _ (k0_off2_inb k0_t1)))
        (k0_pay84 rowNo colNo (ldRow arg2 X2 _ (k0_off2_inb k0_t1)) (ldRow arg3 X3 _ (k0_off2_inb k0_t1)) (ldCol arg1 X1 _ (k0_off4_inb k0_t1)) (ldCol arg4 X4 _ (k0_off4_inb k0_t1)))
        (ldCol arg9 f9 _ (k0_off4_inb k0_t1)) from rfl).trans ?_
      rw [k1, v1, q1, d1, ldCol_eq arg9 f9 _ (off4_eq k0_t1) hh hq, h9 _ _ hh hq, met_old (by omega) (by omega), queryAcc, scoreGrad, if_pos rfl]
    · obtain ⟨rfl, rfl⟩ := e0
      rw [met_here (by omega)]
      refine (show _ = k0_pay9 (k0_pay79 (ldRow arg2 X2 _ (k0_off1_inb k0_t1)))
        (k0_pay84 rowNo colNo (ldRow arg2 X2 _ (k0_off1_inb k0_t1)) (ldRow arg3 X3 _ (k0_off1_inb k0_t1)) (ldCol arg1 X1 _ (k0_off3_inb k0_t1)) (ldCol arg4 X4 _ (k0_off3_inb k0_t1)))
        (ldCol arg9 f9 _ (k0_off3_inb k0_t1)) from rfl).trans ?_
      rw [k0, v0, q0, d0, ldCol_eq arg9 f9 _ (off3_eq k0_t1) hh hq, h9 _ _ hh hq, met_old (by omega) (by omega), queryAcc, scoreGrad, if_pos rfl]
    · refine (show colBlk (arg9.view.read (Elt F) f9) h q = _ from h9 h q hh hq).trans (congrArg _ ?_)
      have : q ≠ k0_t1.val := by rintro rfl; rcases (show h = 0 ∨ h = 1 by omega) with rfl | rfl <;> simp at *
      unfold met
      split_ifs <;> omega
  have D10 : ∀ h, h < 2 → accBlk (arg10.view.read (Elt F) (arg10.view.writes (Elt F) arg10.view.junk (trip1.sl.H10_2 arg1 arg2 arg3 arg4 k0_t1 X1 X2 X3 X4))) h
      = keyAcc q2 kp vp do2 h k0_t1.val (2 * 0) := by
    intro h hh
    delta trip1.sl.H10_2
    rw [View.read_writes_cons_put _ _ _ _ _ rfl, View.read_writes_cons_put _ _ _ _ _ rfl, accBlk_put _ _ _ hh, accBlk_put _ _ _ hh]
    split_ifs with g1 g0
    · subst g1
      refine (show _ = k0_pay88 (k0_pay86 rowNo colNo (ldRow arg2 X2 _ (k0_off2_inb k0_t1)) (ldRow arg3 X3 _ (k0_off2_inb k0_t1)) (ldCol arg1 X1 _ (k0_off4_inb k0_t1)) (ldCol arg4 X4 _ (k0_off4_inb k0_t1))) from rfl).trans ?_
      rw [k1, v1, q1, d1]
      rfl
    · subst g0
      refine (show _ = k0_pay88 (k0_pay86 rowNo colNo (ldRow arg2 X2 _ (k0_off1_inb k0_t1)) (ldRow arg3 X3 _ (k0_off1_inb k0_t1)) (ldCol arg1 X1 _ (k0_off3_inb k0_t1)) (ldCol arg4 X4 _ (k0_off3_inb k0_t1))) from rfl).trans ?_
      rw [k0, v0, q0, d0]
      rfl
    · omega
  have D11 : ∀ h, h < 2 → accBlk (arg11.view.read (Elt F) (arg11.view.writes (Elt F) arg11.view.junk (trip1.sl.H11_2 arg1 arg2 arg4 k0_t1 X1 X2 X4))) h
      = valueAcc q2 kp do2 h k0_t1.val (2 * 0) := by
    intro h hh
    delta trip1.sl.H11_2
    rw [View.read_writes_cons_put _ _ _ _ _ rfl, View.read_writes_cons_put _ _ _ _ _ rfl, accBlk_put _ _ _ hh, accBlk_put _ _ _ hh]
    split_ifs with g1 g0
    · subst g1
      refine (show _ = k0_pay87 (k0_pay85 rowNo colNo (ldRow arg2 X2 _ (k0_off2_inb k0_t1)) (ldCol arg1 X1 _ (k0_off4_inb k0_t1)) (ldCol arg4 X4 _ (k0_off4_inb k0_t1))) from rfl).trans ?_
      rw [k1, q1, d1]
      rfl
    · subst g0
      refine (show _ = k0_pay87 (k0_pay85 rowNo colNo (ldRow arg2 X2 _ (k0_off1_inb k0_t1)) (ldCol arg1 X1 _ (k0_off3_inb k0_t1)) (ldCol arg4 X4 _ (k0_off3_inb k0_t1))) from rfl).trans ?_
      rw [k0, q0, d0]
      rfl
    · omega
  iapply (Scf.wp_for_bind _ _ _ _ _ _ _ _ _ (fun k _ => innerHeld c arg1 arg4 arg9 arg10 arg11 q2 kp vp do2 k0_t1.val (2 * k) X1 X4) (innerInv c i arg1 harg1 arg2 harg2 arg3 harg3 arg4 harg4 arg5 harg5 arg6 harg6 arg7 harg7 arg8 harg8 arg9 harg9 arg10 harg10 arg11 harg11
    q2 kp vp do2 k0_t1 _ _ _ _ E h1 h4 0#32 e41 e44 e47 e50 e51 e52).step) $$ [H1 H4 H9 H10 H11]
  · unfold innerHeld
    isplitl [H1]; · iexact H1
    isplitl [H4]; · iexact H4
    isplitl [H9]
    · iexists _
      isplitl [H9]; · iexact H9
      ipureintro
      exact D9
    isplitl [H10]
    · iexists _
      isplitl [H10]; · iexact H10
      ipureintro
      exact D10
    · iexists _
      isplitl [H11]; · iexact H11
      ipureintro
      exact D11
  unfold innerHeld
  iintro %acc2 ⟨H1, H4, ⟨%g9, H9, %i9⟩, ⟨%g10, H10, %i10⟩, ⟨%g11, H11, %i11⟩⟩
  clear D9 D10 D11
  have et : Scf.trips (k0_t2_loop k0_t1).lb (k0_t2_loop k0_t1).ub (k0_t2_loop k0_t1).st = (7 - k0_t1.val) / 2 := trips2 k0_t1
  rw [et] at i9 i10 i11
  by_cases hc : k0_cond1 k0_t1 = 1#1
  · have hodd := (cond1_iff k0_t1).mp hc
    sl_exec
    have en : 7 - k0_t1.val = 2 * ((7 - k0_t1.val) / 2) + 1 := by omega
    have ej : k0_t1.val + 1 + 2 * ((7 - k0_t1.val) / 2) = 7 := by omega
    rw [ej] at i9
    have key0 := last_key (j := k0_t1.val) (h := 0) (n := 2 * ((7 - k0_t1.val) / 2)) arg1 arg4 X1 X4 h1 h4 (by omega) (by omega) ((ldAcc_eq arg10 g10 inb_S2x128x512_S1x128x512_0_0_0).trans (i10 0 (by omega)))
    have key1 := last_key (j := k0_t1.val) (h := 1) (n := 2 * ((7 - k0_t1.val) / 2)) arg1 arg4 X1 X4 h1 h4 (by omega) (by omega) ((ldAcc_eq arg10 g10 inb_S2x128x512_S1x128x512_1_0_0).trans (i10 1 (by omega)))
    have val0 := last_value (j := k0_t1.val) (h := 0) (n := 2 * ((7 - k0_t1.val) / 2)) arg1 arg4 X1 X4 h1 h4 (by omega) (by omega) ((ldAcc_eq arg11 g11 inb_S2x128x512_S1x128x512_0_0_0).trans (i11 0 (by omega)))
    have val1 := last_value (j := k0_t1.val) (h := 1) (n := 2 * ((7 - k0_t1.val) / 2)) arg1 arg4 X1 X4 h1 h4 (by omega) (by omega) ((ldAcc_eq arg11 g11 inb_S2x128x512_S1x128x512_1_0_0).trans (i11 1 (by omega)))
    rw [← en] at key0 key1 val0 val1
    have r0 : trip1.sl.v157 arg1 arg2 arg3 arg4 arg10 k0_t1 X1 X2 X3 X4 g10 = keyAcc q2 kp vp do2 0 k0_t1.val (7 - k0_t1.val) := by
      refine ((View.readCov_skip _ _ _ _ _ rfl).trans (View.readCov_cons_toLoadRect _ _ _ _)).trans ?_
      rw [← key0, ← k0, ← v0]
      rfl
    have r1 : trip1.sl.v arg1 arg2 arg3 arg4 arg10 k0_t1 X1 X2 X3 X4 g10 = keyAcc q2 kp vp do2 1 k0_t1.val (7 - k0_t1.val) := by
      refine (View.readCov_cons_toLoadRect _ _ _ _).trans ?_
      rw [← key1, ← k1, ← v1]
      rfl
    have t0 : trip1.sl.v164 arg1 arg2 arg4 arg11 k0_t1 X1 X2 X4 g11 = valueAcc q2 kp do2 0 k0_t1.val (7 - k0_t1.val) := by
      refine ((View.readCov_skip _ _ _ _ _ rfl).trans (View.readCov_cons_toLoadRect _ _ _ _)).trans ?_
      rw [← val0, ← k0]
      rfl
    have t1 : trip1.sl.v185 arg1 arg2 arg4 arg11 k0_t1 X1 X2 X4 g11 = valueAcc q2 kp do2 1 k0_t1.val (7 - k0_t1.val) := by
      refine (View.readCov_cons_toLoadRect _ _ _ _).trans ?_
      rw [← val1, ← k1]
      rfl
    sl_step
    isplitl [H1]; · iexact H1
    isplitl [H2]; · iexact H2
    isplitl [H3]; · iexact H3
    isplitl [H4]; · iexact H4
    isplitl [H6]
    · iexists _
      isplitl [H6]; · iexact H6
      ipureintro
      intro h q hh hq
      rw [View.read_writes_cons_put _ _ _ _ _ (off4_eq k0_t1), View.read_writes_cons_put _ _ _ _ _ (off3_eq k0_t1)]
      exact stored_col hk1 h6 (congrArg k0_pay104 r0) (congrArg k0_pay104 r1) h q hh hq
    isplitl [H7]
    · iexists _
      isplitl [H7]; · iexact H7
      ipureintro
      intro h q hh hq
      rw [View.read_writes_cons_put _ _ _ _ _ (off4_eq k0_t1), View.read_writes_cons_put _ _ _ _ _ (off3_eq k0_t1)]
      exact stored_col hk1 h7 (congrArg k0_pay105 t0) (congrArg k0_pay105 t1) h q hh hq
    isplitl [H8]
    · iexists _
      isplitl [H8]; · iexact H8
      ipureintro
      intro h q hh hq
      rw [View.read_writes_cons_put _ _ _ _ _ (off10_eq k0_t1), View.read_writes_cons_put _ _ _ _ _ (off9_eq k0_t1)]
      exact stored_cum hk1 h8 (congrArg k0_pay106 r0) (congrArg k0_pay106 r1) h q hh hq
    isplitl [H9]
    · iexists _
      isplitl [H9]; · iexact H9
      ipureintro
      refine queryHeld_next (e := 8) (by omega) ?_
      intro h q hh hq
      rw [View.read_writes_cons_put _ _ _ _ _ rfl, View.read_writes_cons_put _ _ _ _ _ rfl]
      refine (colBlk_put _ _ 7 _ hh hq).trans ?_
      split_ifs with g1
      · obtain ⟨rfl, rfl⟩ := g1
        refine Eq.trans ?_ (query_step arg1 arg4 arg9 i9 X1 X4 g9 h1 h4 rfl inb_S2x128x4096_S1x128x512_1_0_3584 rfl hh hq (by omega) (by omega) (by omega))
        rw [← k1, ← v1]
        rfl
      · refine (colBlk_put _ _ 7 _ hh hq).trans ?_
        split_ifs with g0
        · obtain ⟨rfl, rfl⟩ := g0
          refine Eq.trans ?_ (query_step arg1 arg4 arg9 i9 X1 X4 g9 h1 h4 rfl inb_S2x128x4096_S1x128x512_0_0_3584 rfl hh hq (by omega) (by omega) (by omega))
          rw [← k0, ← v0]
          rfl
        · refine (i9 h q hh hq).trans (congrArg _ ?_)
          have : q ≠ 7 := by rintro rfl; rcases (show h = 0 ∨ h = 1 by omega) with rfl | rfl <;> simp at *
          unfold met
          split_ifs <;> omega
    isplitl [H10]
    · iexists _; iexact H10
    · iexists _; iexact H11
  · have heven : (7 - k0_t1.val) % 2 ≠ 1 := fun q => hc ((cond1_iff k0_t1).mpr q)
    have en : 2 * ((7 - k0_t1.val) / 2) = 7 - k0_t1.val := by omega
    rw [en] at i9 i10 i11
    sl_exec
    sl_step
    isplitl [H1]; · iexact H1
    isplitl [H2]; · iexact H2
    isplitl [H3]; · iexact H3
    isplitl [H4]; · iexact H4
    isplitl [H6]
    · iexists _
      isplitl [H6]; · iexact H6
      ipureintro
      intro h q hh hq
      rw [View.read_writes_cons_put _ _ _ _ _ (off4_eq k0_t1), View.read_writes_cons_put _ _ _ _ _ (off3_eq k0_t1)]
      exact stored_col hk1 h6 (congrArg k0_pay104 ((ldAcc_eq arg10 g10 _).trans (i10 0 (by omega)))) (congrArg k0_pay104 ((ldAcc_eq arg10 g10 _).trans (i10 1 (by omega)))) h q hh hq
    isplitl [H7]
    · iexists _
      isplitl [H7]; · iexact H7
      ipureintro
      intro h q hh hq
      rw [View.read_writes_cons_put _ _ _ _ _ (off4_eq k0_t1), View.read_writes_cons_put _ _ _ _ _ (off3_eq k0_t1)]
      exact stored_col hk1 h7 (congrArg k0_pay105 ((ldAcc_eq arg11 g11 _).trans (i11 0 (by omega)))) (congrArg k0_pay105 ((ldAcc_eq arg11 g11 _).trans (i11 1 (by omega)))) h q hh hq
    isplitl [H8]
    · iexists _
      isplitl [H8]; · iexact H8
      ipureintro
      intro h q hh hq
      rw [View.read_writes_cons_put _ _ _ _ _ (off10_eq k0_t1), View.read_writes_cons_put _ _ _ _ _ (off9_eq k0_t1)]
      exact stored_cum hk1 h8 (congrArg k0_pay106 ((ldAcc_eq arg10 g10 _).trans (i10 0 (by omega)))) (congrArg k0_pay106 ((ldAcc_eq arg10 g10 _).trans (i10 1 (by omega)))) h q hh hq
    isplitl [H9]
    · iexists _
      isplitl [H9]; · iexact H9
      ipureintro
      exact queryHeld_next (by omega) i9
    isplitl [H10]
    · iexists _; iexact H10
    · iexists _; iexact H11
end trip

end Cert.Proof.KernelIdeal
-- ==== Proof.Attention.Body.lean ====
module

public import proofs.«01_k».proof.Defs
public import proofs.«01_k».proof.Proof.Attention.Outer

@[expose] public section

set_option maxRecDepth 16384

noncomputable section

/-!
# The kernel at one pair of heads

What the kernel leaves in its four results, as arrays of the four blocks it is given.
-/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section outputs
variable (q2 : Vec F S2x128x4096 .bf16) (kp : Vec F S2x4096x128 .bf16) (vp : Vec F S2x4096x128 .bf16) (do2 : Vec F S2x128x4096 .bf16)

/-- The accumulated gradient of the queries: block `i` over the key blocks `0 … i`. -/
def queryAll : Vec F S2x128x4096 .f32 := ofBlks fun h i => queryAcc q2 kp vp do2 h i (i + 1)
/-- The part of the gradient of the gates' sums that the keys give. -/
def cumKeys : Vec F S2x1x4096 .f32 := ofCumBlks fun h i => k0_pay106 (keyAcc q2 kp vp do2 h i (7 - i))
/-- The gradient of the queries. -/
def outQuery : Vec F S2x128x4096 .bf16 := ofHeads fun h => k0_pay114 (headOf (queryAll q2 kp vp do2) h)
/-- The gradient of the keys. -/
def outKey : Vec F S2x128x4096 .bf16 := ofBlks fun h i => k0_pay104 (keyAcc q2 kp vp do2 h i (7 - i))
/-- The gradient of the values. -/
def outValue : Vec F S2x128x4096 .bf16 := ofBlks fun h i => k0_pay105 (valueAcc q2 kp do2 h i (7 - i))
/-- The gradient of the gates' sums. -/
def outCum : Vec F S2x1x4096 .f32 := ofCumHeads fun h => k0_pay113 (headOf (queryAll q2 kp vp do2) h) (cumHead (cumKeys q2 kp vp do2) h)
end outputs

/-- A load of one head. -/
abbrev ldHead {e : EltTy} (M : Memref sig .tc .vmem S2x128x4096 e) (f : BufTy.Contents (Elt F) M.view.ty) (off : Fin 3 → ℕ)
    (inb : ∀ a, off a + S1x128x4096.size a ≤ S2x128x4096.size a) : S1x128x4096.Idx → Elt F e :=
  M.view.readAt (Elt F) (Rect.unit (s := S2x128x4096) off S1x128x4096.size inb).toLoadRect f

theorem ldHead_eq {e : EltTy} (M : Memref sig .tc .vmem S2x128x4096 e) (f : BufTy.Contents (Elt F) M.view.ty) {off : Fin 3 → ℕ} {h : ℕ}
    (inb : ∀ a, off a + S1x128x4096.size a ≤ S2x128x4096.size a) (eo : off = ![h, 0, 0]) (hh : h < 2) :
    ldHead M f off inb = headOf (M.view.read (Elt F) f) h := by
  unfold ldHead
  rw [View.readAt_unit M.view f inb eo (inb_head hh)]
  exact window_eq_win _ _ _ _

abbrev ldCumHead {e : EltTy} (M : Memref sig .tc .vmem S2x1x4096 e) (f : BufTy.Contents (Elt F) M.view.ty) (off : Fin 3 → ℕ)
    (inb : ∀ a, off a + S1x1x4096.size a ≤ S2x1x4096.size a) : S1x1x4096.Idx → Elt F e :=
  M.view.readAt (Elt F) (Rect.unit (s := S2x1x4096) off S1x1x4096.size inb).toLoadRect f

theorem ldCumHead_eq {e : EltTy} (M : Memref sig .tc .vmem S2x1x4096 e) (f : BufTy.Contents (Elt F) M.view.ty) {off : Fin 3 → ℕ} {h : ℕ}
    (inb : ∀ a, off a + S1x1x4096.size a ≤ S2x1x4096.size a) (eo : off = ![h, 0, 0]) (hh : h < 2) :
    ldCumHead M f off inb = cumHead (M.view.read (Elt F) f) h := by
  unfold ldCumHead
  rw [View.readAt_unit M.view f inb eo (inb_cumHead hh)]
  exact window_eq_win _ _ _ _

theorem met_zero (i : ℕ) : met 0 0 i = 0 := by
  unfold met; split_ifs <;> omega

theorem met_all {i : ℕ} (hi : i < 8) : met 8 8 i = i + 1 := by
  unfold met; split_ifs <;> omega

/-- Storing over all of an array leaves what was stored. -/
theorem whole_put {α : Type} (x w : S2x128x4096.Idx → α) : VecWindow.put x ![0, 0, 0] S2x128x4096.size w = w := by
  funext y
  have h : ∀ a : Fin 3, (![0, 0, 0] : Fin 3 → ℕ) a ≤ (y a).val ∧ (y a).val < (![0, 0, 0] : Fin 3 → ℕ) a + S2x128x4096.size a := by
    intro a
    have := (y a).isLt
    fin_cases a <;> exact ⟨Nat.zero_le _, by simpa using this⟩
  unfold VecWindow.put
  rw [dif_pos h]
  refine congrArg w (funext fun a => Fin.ext ?_)
  fin_cases a <;> rfl

section body
variable (c : Dev nD) (i : grid0.Coords) (arg1 : Memref sig .tc .vmem S2x128x4096 .bf16) (harg1 : arg1.IsWhole) (arg2 : Memref sig .tc .vmem S2x4096x128 .bf16) (harg2 : arg2.IsWhole) (arg3 : Memref sig .tc .vmem S2x4096x128 .bf16) (harg3 : arg3.IsWhole) (arg4 : Memref sig .tc .vmem S2x128x4096 .bf16) (harg4 : arg4.IsWhole) (arg5 : Memref sig .tc .vmem S2x128x4096 .bf16) (harg5 : arg5.IsWhole) (arg6 : Memref sig .tc .vmem S2x128x4096 .bf16) (harg6 : arg6.IsWhole) (arg7 : Memref sig .tc .vmem S2x128x4096 .bf16) (harg7 : arg7.IsWhole) (arg8 : Memref sig .tc .vmem S2x1x4096 .f32) (harg8 : arg8.IsWhole) (arg9 : Memref sig .tc .vmem S2x128x4096 .f32) (harg9 : arg9.IsWhole) (arg10 : Memref sig .tc .vmem S2x128x512 .f32) (harg10 : arg10.IsWhole) (arg11 : Memref sig .tc .vmem S2x128x512 .f32) (harg11 : arg11.IsWhole)

variable (q2 : Vec F S2x128x4096 .bf16) (kp : Vec F S2x4096x128 .bf16) (vp : Vec F S2x4096x128 .bf16) (do2 : Vec F S2x128x4096 .bf16)

theorem body_run (E : Set ℕ) (X1 X2 X3 X4)
    (h1 : arg1.view.read (Elt F) X1 = q2) (h2 : arg2.view.read (Elt F) X2 = kp) (h3 : arg3.view.read (Elt F) X3 = vp) (h4 : arg4.view.read (Elt F) X4 = do2) :
    iprop(held c arg1 X1 ∗ held c arg2 X2 ∗ held c arg3 X3 ∗ held c arg4 X4
      ∗ (∃ g, held c arg5 g) ∗ (∃ g, held c arg6 g) ∗ (∃ g, held c arg7 g) ∗ (∃ g, held c arg8 g) ∗ (∃ g, held c arg9 g) ∗ (∃ g, held c arg10 g) ∗ (∃ g, held c arg11 g) : sProp 𝕄) ⊢
      wp frame (wpE defs₀ 𝒱₀ (c : Thread nD τ) none) E (cc0_attention_backward (F := F) i arg1 harg1 arg2 harg2 arg3 harg3 arg4 harg4 arg5 harg5 arg6 harg6 arg7 harg7 arg8 harg8 arg9 harg9 arg10 harg10 arg11 harg11)
        (fun _ => iprop(held c arg1 X1 ∗ held c arg2 X2 ∗ held c arg3 X3 ∗ held c arg4 X4
          ∗ (∃ g, held c arg5 g ∗ ⌜arg5.view.read (Elt F) g = outQuery q2 kp vp do2⌝)
          ∗ (∃ g, held c arg6 g ∗ ⌜arg6.view.read (Elt F) g = outKey q2 kp vp do2⌝)
          ∗ (∃ g, held c arg7 g ∗ ⌜arg7.view.read (Elt F) g = outValue q2 kp do2⌝)
          ∗ (∃ g, held c arg8 g ∗ ⌜arg8.view.read (Elt F) g = outCum q2 kp vp do2⌝)
          ∗ (∃ g, held c arg9 g) ∗ (∃ g, held c arg10 g) ∗ (∃ g, held c arg11 g))) := by
  iintro ⟨H1, H2, H3, H4, ⟨%f5, H5⟩, ⟨%f6, H6⟩, ⟨%f7, H7⟩, ⟨%f8, H8⟩, ⟨%f9, H9⟩, ⟨%f10, H10⟩, ⟨%f11, H11⟩⟩
  rw [cc0_attention_backward_eq_skeleton]
  unfold cc0_attention_backward_skel
  simp only [k0_part15_eq_skeleton]
  sl_exec
  iapply (Scf.wp_for_bind _ _ _ _ _ _ _ _ _ (fun k _ => outerHeld c arg1 arg2 arg3 arg4 arg6 arg7 arg8 arg9 arg10 arg11 q2 kp vp do2 k X1 X2 X3 X4)
    (fun k acc => trip1 c i arg1 harg1 arg2 harg2 arg3 harg3 arg4 harg4 arg5 harg5 arg6 harg6 arg7 harg7 arg8 harg8 arg9 harg9 arg10 harg10 arg11 harg11 q2 kp vp do2 k acc E X1 X2 X3 X4 h1 h2 h3 h4)) $$ [H1 H2 H3 H4 H6 H7 H8 H9 H10 H11]
  · unfold outerHeld
    isplitl [H1]; · iexact H1
    isplitl [H2]; · iexact H2
    isplitl [H3]; · iexact H3
    isplitl [H4]; · iexact H4
    isplitl [H6]
    · iexists _
      isplitl [H6]; · iexact H6
      ipureintro; intro h q _ hq; omega
    isplitl [H7]
    · iexists _
      isplitl [H7]; · iexact H7
      ipureintro; intro h q _ hq; omega
    isplitl [H8]
    · iexists _
      isplitl [H8]; · iexact H8
      ipureintro; intro h q _ hq; omega
    isplitl [H9]
    · iexists _
      isplitl [H9]; · iexact H9
      ipureintro
      intro h q hh hq
      delta body_run.sl.H9_1
      rw [View.read_writes_cons_put _ _ _ _ _ rfl, met_zero, whole_put]
      rfl
    isplitl [H10]
    · iexists _; iexact H10
    · iexists _; iexact H11
  · unfold outerHeld
    iintro %acc ⟨H1, H2, H3, H4, ⟨%g6, H6, %i6⟩, ⟨%g7, H7, %i7⟩, ⟨%g8, H8, %i8⟩, ⟨%g9, H9, %i9⟩, ⟨%g10, H10⟩, ⟨%g11, H11⟩⟩
    have et : Scf.trips k0_t1_loop.lb k0_t1_loop.ub k0_t1_loop.st = 8 := trips1
    rw [et] at i6 i7 i8 i9
    sl_exec
    have Q : arg9.view.read (Elt F) g9 = queryAll q2 kp vp do2 := eq_ofBlks fun h q hh hq => (i9 h q hh hq).trans (congrArg _ (met_all hq))
    have C : arg8.view.read (Elt F) g8 = cumKeys q2 kp vp do2 := eq_ofCumBlks fun h q hh hq => i8 h q hh hq
    have a0 := ldHead_eq (h := 0) arg9 g9 inb_S2x128x4096_S1x128x4096_0_0_0 rfl (by omega)
    have a1 := ldHead_eq (h := 1) arg9 g9 inb_S2x128x4096_S1x128x4096_1_0_0 rfl (by omega)
    have b0 := ldCumHead_eq (h := 0) arg8 g8 inb_S2x1x4096_S1x1x4096_0_0_0 rfl (by omega)
    have b1 := ldCumHead_eq (h := 1) arg8 g8 inb_S2x1x4096_S1x1x4096_1_0_0 rfl (by omega)
    rw [Q] at a0 a1
    rw [C] at b0 b1
    sl_step
    isplitl [H1]; · iexact H1
    isplitl [H2]; · iexact H2
    isplitl [H3]; · iexact H3
    isplitl [H4]; · iexact H4
    isplitl [H5]
    · iexists _
      isplitl [H5]; · iexact H5
      ipureintro
      refine eq_ofHeads fun h hh => ?_
      rw [View.read_writes_cons_put _ _ _ _ _ rfl, View.read_writes_cons_put _ _ _ _ _ rfl]
      refine (headOf_put _ 1 _ hh).trans ?_
      split_ifs with e1
      · subst e1
        rw [← a1]
        rfl
      · refine (headOf_put _ 0 _ hh).trans ?_
        rw [if_pos (show h = 0 by omega)]
        obtain rfl : h = 0 := by omega
        rw [← a0]
    isplitl [H6]
    · iexists _
      isplitl [H6]; · iexact H6
      ipureintro
      exact eq_ofBlks fun h q hh hq => i6 h q hh hq
    isplitl [H7]
    · iexists _
      isplitl [H7]; · iexact H7
      ipureintro
      exact eq_ofBlks fun h q hh hq => i7 h q hh hq
    isplitl [H8]
    · iexists _
      isplitl [H8]; · iexact H8
      ipureintro
      refine eq_ofCumHeads fun h hh => ?_
      rw [View.read_writes_cons_put _ _ _ _ _ rfl, View.read_writes_cons_put _ _ _ _ _ rfl]
      refine (cumHead_put _ 1 _ hh).trans ?_
      split_ifs with e1
      · subst e1
        rw [← a1, ← b1]
        rfl
      · refine (cumHead_put _ 0 _ hh).trans ?_
        rw [if_pos (show h = 0 by omega)]
        obtain rfl : h = 0 := by omega
        rw [← a0, ← b0]
    isplitl [H9]; · iexists _; iexact H9
    isplitl [H10]; · iexists _; iexact H10
    iexists _; iexact H11
end body

end Cert.Proof.KernelIdeal
-- ==== Proof.Attention.Launch.lean ====
module

public import proofs.«01_k».proof.Defs
public import proofs.«01_k».proof.Proof.Attention.Body
public import proofs.«01_k».proof.Proof.Gen.KernelIdeal.Frame
public import Idealize.ShloMosaic.Lib.Claim

@[expose] public section

set_option maxRecDepth 16384

noncomputable section

/-!
# The run over the pairs of heads

Every grid point runs the kernel on the blocks of its pair of heads and leaves the results of that pair; nothing is
carried from one point to the next.
-/

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region holds of core `c`: each input block stays, each result block holds the kernel's result of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outQuery (iblk m c 0 t) (iblk m c 1 t) (iblk m c 2 t) (iblk m c 3 t)
    | ⟨5, _⟩ => outKey (iblk m c 0 t) (iblk m c 1 t) (iblk m c 2 t) (iblk m c 3 t)
    | ⟨6, _⟩ => outValue (iblk m c 0 t) (iblk m c 1 t) (iblk m c 3 t)
    | ⟨7, _⟩ => outCum (iblk m c 0 t) (iblk m c 1 t) (iblk m c 2 t) (iblk m c 3 t)
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem after0_4 (c : Dev nD) (t : Fin cfg0.N) : (dats m 0 c).after 4 t = outQuery (iblk m c 0 t) (iblk m c 1 t) (iblk m c 2 t) (iblk m c 3 t) := by dsimp only [dats]
theorem after0_5 (c : Dev nD) (t : Fin cfg0.N) : (dats m 0 c).after 5 t = outKey (iblk m c 0 t) (iblk m c 1 t) (iblk m c 2 t) (iblk m c 3 t) := by dsimp only [dats]
theorem after0_6 (c : Dev nD) (t : Fin cfg0.N) : (dats m 0 c).after 6 t = outValue (iblk m c 0 t) (iblk m c 1 t) (iblk m c 3 t) := by dsimp only [dats]
theorem after0_7 (c : Dev nD) (t : Fin cfg0.N) : (dats m 0 c).after 7 t = outCum (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The buffers the kernel works on at point `t`. -/
abbrev st0 (t : Fin cfg0.N) : Memref sig .tc .vmem S2x128x4096 .bf16 := win0_0.stage (cfg0.slots t 0)
abbrev st1 (t : Fin cfg0.N) : Memref sig .tc .vmem S2x4096x128 .bf16 := win0_1.stage (cfg0.slots t 1)
abbrev st2 (t : Fin cfg0.N) : Memref sig .tc .vmem S2x4096x128 .bf16 := win0_2.stage (cfg0.slots t 2)
abbrev st3 (t : Fin cfg0.N) : Memref sig .tc .vmem S2x128x4096 .bf16 := win0_3.stage (cfg0.slots t 3)
abbrev st4 (t : Fin cfg0.N) : Memref sig .tc .vmem S2x128x4096 .bf16 := win0_4.stage (cfg0.slots t 4)
abbrev st5 (t : Fin cfg0.N) : Memref sig .tc .vmem S2x128x4096 .bf16 := win0_5.stage (cfg0.slots t 5)
abbrev st6 (t : Fin cfg0.N) : Memref sig .tc .vmem S2x128x4096 .bf16 := win0_6.stage (cfg0.slots t 6)
abbrev st7 (t : Fin cfg0.N) : Memref sig .tc .vmem S2x1x4096 .f32 := win0_7.stage (cfg0.slots t 7)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t))

/-- The scratch of the kernel and the random state, whatever they hold. -/
theorem scratch_eq (c : Dev nD) :
    (Pipeline.ΦA spec0 c : sProp 𝕄)
      = iprop(iprop((∃ g, held c (Memref.whole cc0_scratch0) g) ∗ (∃ g, held c (Memref.whole cc0_scratch1) g) ∗ (∃ g, held c (Memref.whole cc0_scratch2) g)) ∗ (∃ r, prngReg c r)) := by
  unfold Pipeline.ΦA; rw [scopedRest0_eq]
  simp only [held, Memref.view_whole, View.set_whole]
  try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, after0_0, after0_1, after0_2, after0_3, after0_4, after0_5, after0_6, after0_7,
    show (dats m 0 c).Φ t.succ = Pipeline.ΦA spec0 c from rfl, show (dats m 0 c).Φ t.castSucc = Pipeline.ΦA spec0 c from rfl, scratch_eq]
  unfold owns
  iintro ⟨⟨⟨HS0, HS1, HS2⟩, Hg⟩, Ho, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩⟩
  iapply (wp_wand_r frame (wpE (defs₀ (F := F)) Variants.none c none) Set.univ)
  isplitl [H0 H1 H2 H3 H4 H5 H6 H7 HS0 HS1 HS2]
  · iapply (body_run c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) Set.univ f0 f1 f2 f3 e0 e1 e2 e3)
    isplitl [H0]; · iexact H0
    isplitl [H1]; · iexact H1
    isplitl [H2]; · iexact H2
    isplitl [H3]; · iexact H3
    isplitl [H4]; · iexists f4; iexact H4
    isplitl [H5]; · iexists f5; iexact H5
    isplitl [H6]; · iexists f6; iexact H6
    isplitl [H7]; · iexists f7; iexact H7
    isplitl [HS0]; · iexact HS0
    isplitl [HS1]; · iexact HS1
    iexact HS2
  iintro %a ⟨H0, H1, H2, H3, ⟨%g4, H4, %i4⟩, ⟨%g5, H5, %i5⟩, ⟨%g6, H6, %i6⟩, ⟨%g7, H7, %i7⟩, HS0, HS1, HS2⟩
  isplitl [Hg HS0 HS1 HS2]
  · isplitr [Hg]
    · isplitl [HS0]; · iexact HS0
      isplitl [HS1]; · iexact HS1
      iexact HS2
    · iexact Hg
  isplitl [Ho]; · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists g4; isplitr
    · ipureintro; exact i4
    · iexact H4
  isplitl [H5]
  · iexists g5; isplitr
    · ipureintro; exact i5
    · iexact H5
  isplitl [H6]
  · iexists g6; isplitr
    · ipureintro; exact i6
    · iexact H6
  iexists g7; isplitr
  · ipureintro; exact i7
  · iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: every result array holds the blocks the kernel left, and all counters are zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := fun c => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.KernelIdeal
-- ==== Proof.Attention.Words.lean ====
module

public import proofs.«01_k».proof.Defs
public import proofs.«01_k».proof.Proof.Attention.Launch
public import proofs.«01_k».proof.Proof.Gen.Kernel.Launch
public import Idealize.ShloMosaic.Lib.Tactic

@[expose] public section

set_option maxRecDepth 65536

noncomputable section

namespace Cert.Proof.KernelIdeal

open Idealize.ShloMosaic Idealize.ShloMosaic.TcCoe Idealize.ShloMosaic.Tactic
open Idealize.SL Idealize.SL.Sem

/-- Over the words of the machine a named constant is the word the program writes. -/
instance wordNamed : Named Bits where
  named _ _ {φ} b := Scalar.ofBits φ b

theorem defs_word : Cert.Kernel.defs (F := Bits) = Cert.KernelIdeal.defs (F := Bits) := by
  sl_kernel_rfl

theorem main_word : Cert.Kernel.main (F := Bits) = Cert.KernelIdeal.main (F := Bits) := by
  sl_kernel_rfl

/-- The printed program is the named one read over the words. -/
theorem frame_word (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_word, main_word]
  exact frame (F := Bits) m g

end Cert.Proof.KernelIdeal
-- ==== Proof.Attention.Reals.lean ====
module

public import Idealize.ShloMosaic.PureOps.Ideal
public import Idealize.ShloMosaic.PureOps.Ideal.Laws
public import Mathlib.Analysis.SpecialFunctions.Log.Basic

/-!
The gradients of the forgetting attention over the real numbers.

For a head `h`, `logit` is the score of query `i` and key `j`: the scaled product of their rows plus the sum of the log
forget gates between them. `M` is any number per row (both programs take the row's maximum). `prob` is the causal
softmax, and `dscore` the derivative of a loss in the scores whose derivative in the output is `D`.
-/

@[expose] public section

noncomputable section

namespace Cert.Proof.Attention

open Idealize.ShloMosaic

section Gradients

variable (Q K W D : Fin 8 → Fin 4096 → Fin 64 → ℝ) (C M : Fin 8 → Fin 4096 → ℝ) (h : Fin 8)

def logit (i j : Fin 4096) : ℝ := (∑ e, Q h i e * K h j e) * (1 / 8) + C h i - C h j

/-- The weight of a key before normalising. -/
def weight (i j : Fin 4096) : ℝ := if j ≤ i then Real.exp (logit Q K C h i j - M h i) else 0

def total (i : Fin 4096) : ℝ := ∑ j, weight Q K C M h i j

def prob (i j : Fin 4096) : ℝ := weight Q K C M h i j / total Q K C M h i

/-- The derivative in a probability. -/
def dprob (i j : Fin 4096) : ℝ := ∑ e, D h i e * W h j e

/-- A row's mean of the derivative in its probabilities. -/
def rowMean (i : Fin 4096) : ℝ := ∑ j, prob Q K C M h i j * dprob W D h i j

def dscore (i j : Fin 4096) : ℝ := prob Q K C M h i j * (dprob W D h i j - rowMean Q K W D C M h i)

def gradQ (i : Fin 4096) (e : Fin 64) : ℝ := ∑ j, dscore Q K W D C M h i j * (1 / 8) * K h j e

def gradK (j : Fin 4096) (e : Fin 64) : ℝ := ∑ i, dscore Q K W D C M h i j * (1 / 8) * Q h i e

def gradV (j : Fin 4096) (e : Fin 64) : ℝ := ∑ i, D h i e * prob Q K C M h i j

def gradC (i : Fin 4096) : ℝ := -(∑ i', dscore Q K W D C M h i' i) + ∑ j, dscore Q K W D C M h i j

theorem weight_nonneg (i j : Fin 4096) : 0 ≤ weight Q K C M h i j := by
  unfold weight; split
  · exact (Real.exp_pos _).le
  · exact le_rfl

theorem total_pos (i : Fin 4096) : 0 < total Q K C M h i :=
  Finset.sum_pos' (fun j _ => weight_nonneg Q K C M h i j) ⟨i, Finset.mem_univ i, by
    unfold weight; rw [if_pos le_rfl]; exact Real.exp_pos _⟩

theorem prob_of_le {i j : Fin 4096} (hle : j ≤ i) :
    prob Q K C M h i j = Real.exp (logit Q K C h i j - (M h i + Real.log (total Q K C M h i))) := by
  unfold prob weight
  rw [if_pos hle, ← sub_sub, Real.exp_sub _ (Real.log _), Real.exp_log (total_pos Q K C M h i)]

theorem prob_of_not_le {i j : Fin 4096} (hle : ¬ j ≤ i) : prob Q K C M h i j = 0 := by
  unfold prob weight
  rw [if_neg hle, zero_div]

/-- The derivative in a score as the softmax's rule divides it: in the weights first. -/
theorem dscore_eq (i j : Fin 4096) :
    (dprob W D h i j / total Q K C M h i
        + -(∑ j', dprob W D h i j' * (1 / (total Q K C M h i * total Q K C M h i)) * weight Q K C M h i j')) * weight Q K C M h i j
      = dscore Q K W D C M h i j := by
  have ht := (total_pos Q K C M h i).ne'
  have hs : ∑ j', dprob W D h i j' * (1 / (total Q K C M h i * total Q K C M h i)) * weight Q K C M h i j'
      = rowMean Q K W D C M h i / total Q K C M h i := by
    unfold rowMean prob
    rw [Finset.sum_div]
    exact Finset.sum_congr rfl fun j' _ => by field_simp
  rw [hs]
  unfold dscore prob
  field_simp
  ring

/-- The row's mean is the sum of its output times the derivative in the output. -/
theorem rowMean_eq (i : Fin 4096) :
    ∑ e, (∑ j, prob Q K C M h i j * W h j e) * D h i e = rowMean Q K W D C M h i := by
  unfold rowMean dprob
  simp only [Finset.sum_mul, Finset.mul_sum]
  rw [Finset.sum_comm]
  exact Finset.sum_congr rfl fun j _ => Finset.sum_congr rfl fun e _ => by ring

end Gradients

section Lifting

/-- An extended real that is a number. -/
def IsReal (a : EReal) : Prop := a = (a.toReal : EReal)

theorem IsReal.coe (r : ℝ) : IsReal (r : EReal) := by unfold IsReal; rw [EReal.toReal_coe]

theorem IsReal.of_eq {a : EReal} {r : ℝ} (ha : a = r) : IsReal a := ha ▸ IsReal.coe r

theorem IsReal.of_ne {a : EReal} (hb : a ≠ ⊥) (ht : a ≠ ⊤) : IsReal a := (EReal.coe_toReal ht hb).symm

theorem IsReal.ne_bot {a : EReal} (ha : IsReal a) : a ≠ ⊥ := ha ▸ EReal.coe_ne_bot _

theorem IsReal.ne_top {a : EReal} (ha : IsReal a) : a ≠ ⊤ := ha ▸ EReal.coe_ne_top _

theorem IsReal.add {a b : EReal} (ha : IsReal a) (hb : IsReal b) : IsReal (a + b) := by
  rw [ha, hb]; exact .of_eq (EReal.coe_add _ _).symm

theorem IsReal.sub {a b : EReal} (ha : IsReal a) (hb : IsReal b) : IsReal (a - b) := by
  rw [ha, hb]; exact .of_eq (EReal.coe_sub _ _).symm

theorem IsReal.neg {a : EReal} (ha : IsReal a) : IsReal (-a) := by
  rw [ha]; exact .of_eq (EReal.coe_neg _).symm

theorem IsReal.mul {a b : EReal} (ha : IsReal a) (hb : IsReal b) : IsReal (a * b) := by
  rw [ha, hb]; exact .of_eq (EReal.coe_mul _ _).symm

theorem IsReal.max {a b : EReal} (ha : IsReal a) (hb : IsReal b) : IsReal (max a b) := by
  rcases max_choice a b with e | e <;> rw [e] <;> assumption

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of numbers, lifted. -/
theorem sum_eq_coe {ι : Type*} [Fintype ι] {g : ι → EReal} {f : ι → ℝ} (hg : ∀ k, g k = f k) :
    ∑ k, g k = ((∑ k, f k : ℝ) : EReal) := by
  rw [coe_sum]; exact Finset.sum_congr rfl fun k _ => hg k

/-- A product of two rows of numbers, lifted. -/
theorem dot_eq_coe {ι : Type*} [Fintype ι] {a b : ι → EReal} {f g : ι → ℝ} (ha : ∀ k, a k = f k) (hb : ∀ k, b k = g k) :
    ∑ k, a k * b k = ((∑ k, f k * g k : ℝ) : EReal) :=
  sum_eq_coe fun k => by rw [ha, hb, EReal.coe_mul]

theorem div_coe_coe (x : ℝ) {y : ℝ} (hy : y ≠ 0) : Ideal.div (x : EReal) (y : EReal) = ((x / y : ℝ) : EReal) := by
  rw [Ideal.div_coe hy, ← EReal.coe_mul, mul_one_div]

theorem log_coe_pos {x : ℝ} (hx : 0 < x) : Ideal.log (x : EReal) = (Real.log x : EReal) := by
  rw [Ideal.log_coe, if_neg (not_le.mpr hx)]

/-- The largest of finitely many entries, each a number or −∞ and one of them a number, is a number. -/
theorem fold_max_isReal {ι : Type*} (s : Finset ι) (f : ι → EReal) (htop : ∀ k ∈ s, f k ≠ ⊤) {k₀ : ι} (hk₀ : k₀ ∈ s)
    (hreal : f k₀ ≠ ⊥) : IsReal (s.fold max ⊥ f) := by
  refine .of_ne ?_ ?_
  · intro e
    have : f k₀ ≤ s.fold max ⊥ f := Finset.le_fold_max _ |>.mpr (Or.inr ⟨k₀, hk₀, le_rfl⟩)
    rw [e] at this
    exact hreal (le_bot_iff.mp this)
  · have : s.fold max ⊥ f < ⊤ := (Finset.fold_max_lt _).mpr ⟨bot_lt_top, fun k hk => lt_top_iff_ne_top.mpr (htop k hk)⟩
    exact this.ne

end Lifting

end Cert.Proof.Attention
-- ==== Proof.Attention.Reference.lean ====
module

public import proofs.«01_k».proof.Proof.Gen.ReferenceIdeal.Read
public import proofs.«01_k».proof.Proof.Attention.Reals
public import Idealize.ShloMosaic.Lib.KernelVsHost
public import Idealize.ShloMosaic.Lib.IdealHost
public import Idealize.ShloMosaic.Lib.Affine
public import Idealize.ShloMosaic.Lib.StableHlo.Predicate

/-! What the reference computes, as numbers. -/

@[expose] public section

noncomputable section

namespace Cert.Proof.Attention

open Idealize.ShloMosaic Idealize.ShloMosaic.ValueIdx Cert.ReferenceIdeal Cert.ReferenceIdeal.Gen Cert.ReferenceIdeal.Read

/-- An array of 512 lanes per token. -/
abbrev Wide : Type := (⟨S4096x512, .f32⟩ : BufTy).Contents (Elt Ideal)

/-- An array of a number per token and head. -/
abbrev Gates : Type := (⟨S4096x8, .f32⟩ : BufTy).Contents (Elt Ideal)

/-- The coordinates of an index of rank three. -/
def c0 {a b c : ℕ} (t : (⟨3, ![a, b, c]⟩ : Shape).Idx) : Fin a := t 0
def c1 {a b c : ℕ} (t : (⟨3, ![a, b, c]⟩ : Shape).Idx) : Fin b := t 1
def c2 {a b c : ℕ} (t : (⟨3, ![a, b, c]⟩ : Shape).Idx) : Fin c := t 2

/-- The coordinates of an index of rank two. -/
def d0 {a b : ℕ} (t : (⟨2, ![a, b]⟩ : Shape).Idx) : Fin a := t 0
def d1 {a b : ℕ} (t : (⟨2, ![a, b]⟩ : Shape).Idx) : Fin b := t 1

theorem ix3_coords {a b c : ℕ} (t : (⟨3, ![a, b, c]⟩ : Shape).Idx) : ix3 (c0 t) (c1 t) (c2 t) = t := (eq_ix3 t).symm

theorem ix2_coords {a b : ℕ} (t : (⟨2, ![a, b]⟩ : Shape).Idx) : ix2 (d0 t) (d1 t) = t := (eq_ix2 t).symm

/-- An argument of 512 lanes as heads, tokens and lanes of a head. -/
def heads (x : Wide) (h : Fin 8) (i : Fin 4096) (e : Fin 64) : ℝ := (val_main_v2 (F := Ideal) x (ix3 i h e)).toReal

/-- The cumulated logarithms of the forget gates. -/
def cums (x3 : Gates) (h : Fin 8) (i : Fin 4096) : ℝ := (val_main_v1 (F := Ideal) x3 (ix2 i h)).toReal

/-- The rows' largest scores. -/
def tops (x0 x1 : Wide) (x3 : Gates) (h : Fin 8) (i : Fin 4096) : ℝ := (val_main_v24 (F := Ideal) x0 x1 x3 (ix2 h i)).toReal

/-- The arguments are numbers. -/
structure Numbers (x0 x1 x2 : Wide) (x3 : Gates) (x4 : Wide) : Prop where
  q : ∀ i, IsReal (x0 i)
  k : ∀ i, IsReal (x1 i)
  v : ∀ i, IsReal (x2 i)
  f : ∀ i, IsReal (x3 i)
  ct : ∀ i, IsReal (x4 i)

theorem heads_eq {x : Wide} (hx : ∀ i, IsReal (x i)) (i : S4096x8x64.Idx) :
    val_main_v2 (F := Ideal) x i = (heads x (c1 i) (c0 i) (c2 i) : EReal) := by
  unfold heads
  rw [ix3_coords, val_main_v2_apply]
  exact hx _

theorem decay_isReal {x3 : Gates} (hf : ∀ i, IsReal (x3 i)) (i : S4096x8.Idx) : IsReal (val_main_v0 (F := Ideal) x3 i) := by
  have hz : val_main_call0_call0_v3 (F := Ideal) x3 i = -(x3 i) := by
    simp only [val_main_call0_call0_v3_apply, val_main_call0_call0_v2_apply, val_main_call0_call0_cst_apply, val_main_call0_v0_apply,
      Ideal.subf_def, Ideal.ofBits_def, Ideal.ofBits_zero_f32, sub_zero]
    rfl
  have hm : val_main_call0_call0_v4 (F := Ideal) x3 i = 0#1 := by
    rw [val_main_call0_call0_v4_apply]
    show Ideal.cmp .une _ _ = 0#1
    simp [Ideal.cmp]
  rw [val_main_v0_apply, val_main_call0_v1_apply, hm]
  refine IsReal.neg ?_
  show IsReal (val_main_call0_call0_v11 (F := Ideal) x3 i)
  rw [val_main_call0_call0_v11_apply]
  refine IsReal.add ?_ ?_
  · rw [val_main_call0_call0_v1_apply, val_main_call0_call0_v0_apply, val_main_call0_call0_cst_apply]
    refine IsReal.max (IsReal.neg (hf i)) ?_
    rw [Ideal.ofBits_def, Ideal.ofBits_zero_f32]
    exact IsReal.coe 0
  · rw [val_main_call0_call0_v10_apply, val_main_call0_call0_v9_apply, val_main_call0_call0_v8_apply, val_main_call0_call0_v7_apply, hz]
    have ha : IsReal (max (-(x3 i)) (-(-(x3 i)))) := IsReal.max (IsReal.neg (hf i)) (IsReal.neg (IsReal.neg (hf i)))
    show IsReal (Ideal.log (1 + Ideal.exp (-(max (-(x3 i)) (-(-(x3 i)))))))
    rw [ha, ← EReal.coe_neg, Ideal.exp_coe, ← EReal.coe_one, ← EReal.coe_add, log_coe_pos (by positivity)]
    exact IsReal.coe _

theorem cums_eq {x3 : Gates} (hf : ∀ i, IsReal (x3 i)) (i : S4096x8.Idx) :
    val_main_v1 (F := Ideal) x3 i = (cums x3 (d1 i) (d0 i) : EReal) := by
  unfold cums
  rw [ix2_coords]
  show IsReal _
  unfold val_main_v1 Host.reduceWindowAdd
  rw [Ideal.hostReduceWindowAdd_def]
  unfold Ideal.hostReduceWindowAdd Host.reduceWindow
  have hz : IsReal (val_main_call1_call0_v0 (F := Ideal) (Shape.Idx.first h_S_)) := by
    rw [val_main_call1_call0_v0_apply, val_main_call1_call0_cst_apply, Ideal.ofBits_def, Ideal.ofBits_zero_f32]
    exact IsReal.coe 0
  refine List.foldlRecOn (motive := fun a => IsReal a) _ _ hz fun a ha n _ => IsReal.add ha ?_
  dsimp only
  split
  · exact decay_isReal hf _
  · exact hz

/-- The causal mask: query `i 1` sees key `i 2`. -/
theorem mask_eq (i : S8x4096x4096.Idx) :
    val_main_v23_1 (F := Ideal) i = BitVec.ofBool (decide (c2 i ≤ c1 i)) := by
  rw [val_main_v23_1_apply, val_main_v22_apply, val_main_v21_apply, val_main_v19_apply, val_main_v20_apply, val_main_v16_apply,
    val_main_v18_apply, val_main_v15_apply, val_main_v17_apply]
  show BitVec.ofBool ((BitVec.ofNat 32 (i 2).val).sle (BitVec.ofNat 32 (i 1).val)) = _
  have h1 : (i 1).val < 4096 := (i 1).isLt
  have h2 : (i 2).val < 4096 := (i 2).isLt
  congr 1
  rw [Bool.eq_iff_iff, ← StableHlo.Predicate.ofBool_eq_one_iff, StableHlo.Predicate.sle_ofNat_iff _ _ (by omega) (by omega),
    decide_eq_true_iff]
  exact Iff.rfl

theorem select_mask {α : Type} (p : Prop) [Decidable p] (a b : α) :
    Scalar.select (BitVec.ofBool (decide p)) a b = if p then a else b := by
  by_cases hp : p <;> simp [Scalar.select, hp]

theorem eighth : Ideal.ofBits .f32 0x3E000000#32 = ((1 / 8 : ℝ) : EReal) := by
  simp [Ideal.ofBits, Ideal.ieee, -EReal.coe_mul]; norm_num

theorem negInf : Ideal.ofBits .f32 0xFF800000#32 = ⊥ := by
  simp [Ideal.ofBits, Ideal.ieee]

section

variable {x0 x1 x2 : Wide} {x3 : Gates} {x4 : Wide} (H : Numbers x0 x1 x2 x3 x4)

include H

theorem scoreDot_eq (i : S8x4096x4096.Idx) :
    ∑ k, val_main_v2 (F := Ideal) x0 (lidx_main_v4 i k) * val_main_v3 (F := Ideal) x1 (ridx_main_v4 i k)
      = ((∑ e, heads x0 (c0 i) (c1 i) e * heads x1 (c0 i) (c2 i) e : ℝ) : EReal) :=
  dot_eq_coe (fun k => heads_eq H.q (lidx_main_v4 i k)) (fun k => heads_eq H.k (ridx_main_v4 i k))

theorem scores_eq (i : S8x4096x4096.Idx) :
    val_main_v23_0 (F := Ideal) x0 x1 x3 i
      = if c2 i ≤ c1 i then (logit (heads x0) (heads x1) (cums x3) (c0 i) (c1 i) (c2 i) : EReal) else ⊥ := by
  rw [val_main_v23_0_apply, mask_eq, select_mask, val_main_call2_v2_apply, val_main_call2_v0_apply, val_main_cst_0_apply,
    val_main_v14_apply, val_main_v10_apply, val_main_v6_apply, val_main_v5_apply, val_main_cst_apply, val_main_v9_apply,
    val_main_v8_apply, val_main_v7_apply, val_main_v13_apply, val_main_v12_apply, val_main_v11_apply, val_main_v4_apply,
    cums_eq H.f, cums_eq H.f, scoreDot_eq H, Ideal.ofBits_def, eighth, Ideal.ofBits_def]
  refine if_congr Iff.rfl ?_ ?_
  · unfold logit
    rw [EReal.coe_sub, EReal.coe_add, EReal.coe_mul]
    rfl
  · exact negInf

omit H in
/-- A row's maximum as a fold of its entries. -/
theorem rowMax_eq (hr : S8x4096x4096.Reduces [2] S8x4096) (x : FVec Ideal S8x4096x4096 .f32) (i : S8x4096.Idx) :
    Host.reduce FloatOps.maximumf x (constant (F := Ideal) S_ .f32 0xFF800000#32) reducesTo_S8x4096x4096_S8x4096_d2 h_S_ i
      = (Finset.univ : Finset (Fin 4096)).fold max ⊥ (fun k => x (hr.lift i k)) := by
  have e := congrFun (hostReduce_maximumf_eq_multiReduction x 0xFF800000#32 reducesTo_S8x4096x4096_S8x4096_d2 h_S_ hr (.inl rfl) rfl) i
  refine e.trans ((Ideal.multiReduction_maximumf_single x 0xFF800000#32 hr (.inl rfl) rfl i).trans ?_)
  exact congrArg (fun b => (Finset.univ : Finset (Fin 4096)).fold max b (fun k => x (hr.lift i k))) negInf

/-- The rows' largest scores are numbers: a row's own key is never masked. -/
theorem tops_eq (i : S8x4096.Idx) : val_main_v24 (F := Ideal) x0 x1 x3 i = (tops x0 x1 x3 (d0 i) (d1 i) : EReal) := by
  unfold tops
  rw [ix2_coords]
  show IsReal _
  have hr : S8x4096x4096.Reduces [2] S8x4096 := by decide
  have e : val_main_v24 (F := Ideal) x0 x1 x3 i
      = (Finset.univ : Finset (Fin 4096)).fold max ⊥ (fun k => val_main_v23_0 (F := Ideal) x0 x1 x3 (hr.lift i k)) := by
    unfold val_main_v24 val_main_cst_1
    exact rowMax_eq hr (val_main_v23_0 (F := Ideal) x0 x1 x3) i
  rw [e]
  refine fold_max_isReal _ _ (fun k _ => ?_) (Finset.mem_univ (d1 i)) ?_
  · rw [scores_eq H]
    split
    · exact EReal.coe_ne_top _
    · exact bot_ne_top
  · rw [scores_eq H, if_pos]
    · exact EReal.coe_ne_bot _
    · exact le_of_eq rfl

theorem weights_eq (i : S8x4096x4096.Idx) :
    val_main_v44 (F := Ideal) x0 x1 x3 i
      = (weight (heads x0) (heads x1) (cums x3) (tops x0 x1 x3) (c0 i) (c1 i) (c2 i) : EReal) := by
  rw [val_main_v44_apply, val_main_v43_apply, scores_eq H, val_main_v42_apply, val_main_v41_apply, val_main_v31_apply, tops_eq H,
    val_main_v30_apply, val_main_cst_3_apply, Ideal.ofBits_def, negInf]
  unfold weight
  show Ideal.exp ((if _ then _ else _) - max ⊥ (tops x0 x1 x3 (c0 i) (c1 i) : EReal)) = _
  rw [max_eq_right bot_le]
  split
  · rw [← EReal.coe_sub, Ideal.exp_coe]
  · rw [EReal.bot_sub, Ideal.exp_bot, EReal.coe_zero]

theorem totals_eq (i : S8x4096.Idx) :
    val_main_v45 (F := Ideal) x0 x1 x3 i = (total (heads x0) (heads x1) (cums x3) (tops x0 x1 x3) (d0 i) (d1 i) : EReal) := by
  rw [val_main_v45_apply, val_main_cst_9_apply, Ideal.ofBits_def, Ideal.ofBits_zero_f32, zero_add]
  exact sum_eq_coe fun k => weights_eq H (idx_main_v45 i k)

theorem totals_eq' (i : S8x4096x1.Idx) :
    val_main_v46 (F := Ideal) x0 x1 x3 i = (total (heads x0) (heads x1) (cums x3) (tops x0 x1 x3) (c0 i) (c1 i) : EReal) := by
  rw [val_main_v46_apply]
  exact totals_eq H _

theorem probs_eq (i : S8x4096x4096.Idx) :
    val_main_v48 (F := Ideal) x0 x1 x3 i
      = (prob (heads x0) (heads x1) (cums x3) (tops x0 x1 x3) (c0 i) (c1 i) (c2 i) : EReal) := by
  rw [val_main_v48_apply, val_main_v47_apply, weights_eq H, totals_eq' H]
  exact div_coe_coe _ (total_pos _ _ _ _ _ _).ne'

/-- The derivative in the output, at a head, a lane and a token. -/
theorem cotangent_eq (i : S8x64x4096.Idx) : val_main_v57 (F := Ideal) x4 i = (heads x4 (c0 i) (c2 i) (c1 i) : EReal) := by
  rw [val_main_v57_apply]
  exact heads_eq H.ct _

theorem dprobs_eq (i : S8x4096x4096.Idx) :
    val_main_v58 (F := Ideal) x2 x4 i = (dprob (heads x2) (heads x4) (c0 i) (c1 i) (c2 i) : EReal) := by
  rw [val_main_v58_apply]
  exact dot_eq_coe (fun k => cotangent_eq H (lidx_main_v58 i k)) (fun k => heads_eq H.v (ridx_main_v58 i k))

theorem inverse_eq (i : S8x4096x1.Idx) :
    val_main_v51 (F := Ideal) x0 x1 x3 i
      = ((1 / (total (heads x0) (heads x1) (cums x3) (tops x0 x1 x3) (c0 i) (c1 i)
            * total (heads x0) (heads x1) (cums x3) (tops x0 x1 x3) (c0 i) (c1 i)) : ℝ) : EReal) := by
  rw [val_main_v51_apply, val_main_v50_apply, val_main_cst_10_apply, val_main_v49_apply, totals_eq' H, Ideal.ofBits_def,
    Ideal.ofBits_one_f32, Ideal.mulf_def, ← EReal.coe_mul, ← EReal.coe_one]
  have ht := (total_pos (heads x0) (heads x1) (cums x3) (tops x0 x1 x3) (c0 i) (c1 i)).ne'
  exact div_coe_coe _ (mul_ne_zero ht ht)

theorem rowSum_eq (i : S8x4096.Idx) :
    val_main_v65 (F := Ideal) x0 x1 x2 x3 x4 i
      = ((∑ j, dprob (heads x2) (heads x4) (d0 i) (d1 i) j
          * (1 / (total (heads x0) (heads x1) (cums x3) (tops x0 x1 x3) (d0 i) (d1 i)
            * total (heads x0) (heads x1) (cums x3) (tops x0 x1 x3) (d0 i) (d1 i)))
          * weight (heads x0) (heads x1) (cums x3) (tops x0 x1 x3) (d0 i) (d1 i) j : ℝ) : EReal) := by
  rw [val_main_v65_apply, val_main_cst_11_apply, Ideal.ofBits_def, Ideal.ofBits_zero_f32, zero_add]
  refine sum_eq_coe fun k => ?_
  rw [val_main_v64_apply, val_main_v63_apply, dprobs_eq H, val_main_v62_apply, inverse_eq H, weights_eq H, Ideal.mulf_def,
    Ideal.mulf_def, EReal.coe_mul, EReal.coe_mul]
  rfl

omit H in
theorem reshape66 (i : S8x4096.Idx) : idx_main_v66 (idx_main_v70 i 0) = i := by
  have h0 : (i 0).val < 8 := (i 0).isLt
  have h1 : (i 1).val < 4096 := (i 1).isLt
  funext a
  match a with
  | ⟨0, _⟩ => exact Fin.ext (show (((i 0).val * 4096 + (i 1).val) * 1 + 0) / 4096 = (i 0).val by omega)
  | ⟨1, _⟩ => exact Fin.ext (show (((i 0).val * 4096 + (i 1).val) * 1 + 0) % 4096 = (i 1).val by omega)

/-- The derivative in the scores. -/
theorem dscores_eq (i : S8x4096x4096.Idx) :
    val_main_v74 (F := Ideal) x0 x1 x2 x3 x4 i
      = (dscore (heads x0) (heads x1) (heads x2) (heads x4) (cums x3) (tops x0 x1 x3) (c0 i) (c1 i) (c2 i) : EReal) := by
  have ht := (total_pos (heads x0) (heads x1) (cums x3) (tops x0 x1 x3) (c0 i) (c1 i)).ne'
  rw [val_main_v74_apply, mask_eq, select_mask]
  split
  · rw [val_main_v73_apply, val_main_v72_apply, val_main_v69_apply, dprobs_eq H, val_main_v68_apply, totals_eq' H,
      val_main_v71_apply, val_main_v70_apply, val_main_cst_12_apply, Ideal.ofBits_def, Ideal.ofBits_zero_f32, zero_add,
      Fin.sum_univ_one, val_main_v67_apply, val_main_v66_apply, reshape66, rowSum_eq H, weights_eq H, ← dscore_eq, EReal.coe_mul,
      EReal.coe_add, EReal.coe_neg]
    show (Ideal.div _ _ + -_) * _ = _
    rw [← div_coe_coe _ ht]
    rfl
  · rename_i hm
    rw [val_main_call3_v0_apply, val_main_call3_cst_apply, Ideal.ofBits_def, Ideal.ofBits_zero_f32, dscore, prob_of_not_le _ _ _ _ _ hm,
      zero_mul, EReal.coe_zero]

theorem dscores_scaled (i : S8x4096x4096.Idx) :
    val_main_v86 (F := Ideal) x0 x1 x2 x3 x4 i
      = ((dscore (heads x0) (heads x1) (heads x2) (heads x4) (cums x3) (tops x0 x1 x3) (c0 i) (c1 i) (c2 i) * (1 / 8) : ℝ) : EReal) := by
  rw [val_main_v86_apply, dscores_eq H, val_main_v85_apply, val_main_cst_17_apply, Ideal.ofBits_def, eighth, Ideal.mulf_def, EReal.coe_mul]

theorem dv_eq (i : S8x64x4096.Idx) :
    val_main_v59 (F := Ideal) x0 x1 x3 x4 i
      = (gradV (heads x0) (heads x1) (heads x4) (cums x3) (tops x0 x1 x3) (c0 i) (c2 i) (c1 i) : EReal) := by
  rw [val_main_v59_apply]
  exact dot_eq_coe (fun k => cotangent_eq H (lidx_main_v59 i k)) (fun k => probs_eq H (ridx_main_v59 i k))

theorem dk_eq (i : S8x4096x64.Idx) :
    val_main_v87 (F := Ideal) x0 x1 x2 x3 x4 i
      = (gradK (heads x0) (heads x1) (heads x2) (heads x4) (cums x3) (tops x0 x1 x3) (c0 i) (c1 i) (c2 i) : EReal) := by
  rw [val_main_v87_apply]
  exact dot_eq_coe (fun k => dscores_scaled H (lidx_main_v87 i k)) (fun k => heads_eq H.q (ridx_main_v87 i k))

theorem dq_eq (i : S8x4096x64.Idx) :
    val_main_v89 (F := Ideal) x0 x1 x2 x3 x4 i
      = (gradQ (heads x0) (heads x1) (heads x2) (heads x4) (cums x3) (tops x0 x1 x3) (c0 i) (c1 i) (c2 i) : EReal) := by
  rw [val_main_v89_apply]
  exact dot_eq_coe (fun k => dscores_scaled H (lidx_main_v89 i k)) (fun k => heads_eq H.k (ridx_main_v89 i k))

omit H in
/-- Packing the heads and taking them apart again. -/
theorem reshape512 (i : S4096x8x64.Idx) : idx_main_v61 (idx_main_v101 i) = i := by
  have h0 : (i 0).val < 4096 := (i 0).isLt
  have h1 : (i 1).val < 8 := (i 1).isLt
  have h2 : (i 2).val < 64 := (i 2).isLt
  funext a
  match a with
  | ⟨0, _⟩ =>
    refine Fin.ext ?_
    show ((((i 0).val * 8 + (i 1).val) * 64 + (i 2).val) / 512 * 512 + (((i 0).val * 8 + (i 1).val) * 64 + (i 2).val) % 512) / 512 = (i 0).val
    omega
  | ⟨1, _⟩ =>
    refine Fin.ext ?_
    show ((((i 0).val * 8 + (i 1).val) * 64 + (i 2).val) / 512 * 512 + (((i 0).val * 8 + (i 1).val) * 64 + (i 2).val) % 512) / 64 % 8 = (i 1).val
    omega
  | ⟨2, _⟩ =>
    refine Fin.ext ?_
    show ((((i 0).val * 8 + (i 1).val) * 64 + (i 2).val) / 512 * 512 + (((i 0).val * 8 + (i 1).val) * 64 + (i 2).val) % 512) % 64 = (i 2).val
    omega

omit H in
/-- A lane below 64 of a result, in the array before its lanes are padded to 128. -/
theorem pad_lane {α : Type} (x : S8x64x4096.Idx → α) (v : S_.Idx → α) (j : S8x128x4096.Idx) (hj : (c1 j).val < 64) :
    pad S8x128x4096 ![0, 0, 0] ![0, 64, 0] ![0, 0, 0] x v pads_S8x64x4096_S8x128x4096_000_0640_000 h_S_ j
      = x (ix3 (c0 j) ⟨(c1 j).val, hj⟩ (c2 j)) := by
  refine pad_apply_of_inside _ _ _ _ _ _ _ _ _ fun a => ?_
  match a with
  | ⟨0, _⟩ => show (j 0).val = 0 + (j 0).val * 1; omega
  | ⟨1, _⟩ => show (j 1).val = 0 + (j 1).val * 1; omega
  | ⟨2, _⟩ => show (j 2).val = 0 + (j 2).val * 1; omega

theorem reference_dq (j : S8x128x4096.Idx) (hj : (c1 j).val < 64) :
    val_main_v96 (F := Ideal) x0 x1 x2 x3 x4 j
      = (gradQ (heads x0) (heads x1) (heads x2) (heads x4) (cums x3) (tops x0 x1 x3) (c0 j) (c2 j) ⟨(c1 j).val, hj⟩ : EReal) := by
  rw [val_main_v96_apply]
  show val_main_v95 (F := Ideal) x0 x1 x2 x3 x4 j = _
  unfold val_main_v95
  rw [pad_lane _ _ _ hj, val_main_v94_apply, val_main_v93_apply, val_main_v92_apply]
  refine (congrArg (val_main_v90 (F := Ideal) x0 x1 x2 x3 x4) (reshape512 _)).trans ?_
  rw [val_main_v90_apply]
  exact dq_eq H _

theorem reference_dk (j : S8x128x4096.Idx) (hj : (c1 j).val < 64) :
    val_main_v100 (F := Ideal) x0 x1 x2 x3 x4 j
      = (gradK (heads x0) (heads x1) (heads x2) (heads x4) (cums x3) (tops x0 x1 x3) (c0 j) (c2 j) ⟨(c1 j).val, hj⟩ : EReal) := by
  rw [val_main_v100_apply]
  show val_main_v99 (F := Ideal) x0 x1 x2 x3 x4 j = _
  unfold val_main_v99
  rw [pad_lane _ _ _ hj, val_main_v98_apply, val_main_v97_apply, val_main_v91_apply]
  refine (congrArg (val_main_v88 (F := Ideal) x0 x1 x2 x3 x4) (reshape512 _)).trans ?_
  rw [val_main_v88_apply]
  exact dk_eq H _

theorem reference_dv (j : S8x128x4096.Idx) (hj : (c1 j).val < 64) :
    val_main_v104 (F := Ideal) x0 x1 x3 x4 j
      = (gradV (heads x0) (heads x1) (heads x4) (cums x3) (tops x0 x1 x3) (c0 j) (c2 j) ⟨(c1 j).val, hj⟩ : EReal) := by
  rw [val_main_v104_apply]
  show val_main_v103 (F := Ideal) x0 x1 x3 x4 j = _
  unfold val_main_v103
  rw [pad_lane _ _ _ hj, val_main_v102_apply, val_main_v101_apply, val_main_v61_apply]
  refine (congrArg (val_main_v60 (F := Ideal) x0 x1 x3 x4) (reshape512 _)).trans ?_
  rw [val_main_v60_apply]
  exact dv_eq H _

omit H in
theorem reshape77 (i : S8x4096.Idx) : idx_main_v77 (idx_main_v78 i 0) = i := by
  have h0 : (i 0).val < 8 := (i 0).isLt
  have h1 : (i 1).val < 4096 := (i 1).isLt
  funext a
  match a with
  | ⟨0, _⟩ => exact Fin.ext (show (((i 0).val * 1 + 0) * 4096 + (i 1).val) / 4096 = (i 0).val by omega)
  | ⟨1, _⟩ => exact Fin.ext (show (((i 0).val * 1 + 0) * 4096 + (i 1).val) % 4096 = (i 1).val by omega)

omit H in
theorem reshape81 (i : S8x4096.Idx) : idx_main_v81 (idx_main_v82 i 0) = i := reshape66 i

/-- The derivative in a cumulated gate, at a head and a token. -/
theorem reference_dcum (j : S8x4096.Idx) :
    val_main_v105 (F := Ideal) x0 x1 x2 x3 x4 j
      = (gradC (heads x0) (heads x1) (heads x2) (heads x4) (cums x3) (tops x0 x1 x3) (d0 j) (d1 j) : EReal) := by
  rw [val_main_v105_apply, val_main_v84_apply, val_main_v79_apply, val_main_v83_apply, val_main_v78_apply, val_main_v82_apply,
    val_main_cst_14_apply, val_main_cst_16_apply, Ideal.ofBits_def, Ideal.ofBits_zero_f32, zero_add, zero_add,
    Fin.sum_univ_one, Fin.sum_univ_one, val_main_v77_apply, val_main_v81_apply, reshape77, reshape81, val_main_v76_apply,
    val_main_v80_apply, val_main_cst_13_apply, val_main_cst_15_apply, Ideal.ofBits_def, Ideal.ofBits_zero_f32, zero_add, zero_add]
  unfold gradC
  rw [EReal.coe_add, ← Finset.sum_neg_distrib]
  refine congrArg₂ (· + ·) (sum_eq_coe fun k => ?_) (sum_eq_coe fun k => dscores_eq H _)
  rw [val_main_v75_apply, EReal.coe_neg]
  exact congrArg (- ·) (dscores_eq H _)

end

end Cert.Proof.Attention
-- ==== Proof.Attention.Host.lean ====
module

public import proofs.«01_k».proof.Proof.Gen.KernelIdeal.Frame
public import proofs.«01_k».proof.Proof.Attention.Reference
public import Idealize.ShloMosaic.Lib.StableHlo.RunRead

/-! The arrays the launch reads, as numbers. -/

@[expose] public section

noncomputable section

namespace Cert.Proof.Attention.Host

open Idealize.ShloMosaic Idealize.ShloMosaic.ValueIdx Cert.KernelIdeal Cert.KernelIdeal.Gen

variable (m : (ℓ : Loc nD τ sig) → Buf (Elt Ideal) ℓ) (c : Dev nD)

abbrev at0 : Wide := m ((c.tc : Thread nD τ).loc main_arg0)
abbrev at1 : Wide := m ((c.tc : Thread nD τ).loc main_arg1)
abbrev at2 : Wide := m ((c.tc : Thread nD τ).loc main_arg2)
abbrev at3 : Gates := m ((c.tc : Thread nD τ).loc main_arg3)
abbrev at4 : Wide := m ((c.tc : Thread nD τ).loc main_arg4)

theorem gates_eq : V (F := Ideal) m c main_v1 = ReferenceIdeal.Read.val_main_v1 (F := Ideal) (at3 m c) := by
  after_reads_simp
  rfl

theorem scores_read : V (F := Ideal) m c main_v23 = ReferenceIdeal.Read.val_main_v23_0 (F := Ideal) (at0 m c) (at1 m c) (at3 m c) := by
  after_reads_simp
  rfl

theorem tops_read : V (F := Ideal) m c main_v24 = ReferenceIdeal.Read.val_main_v24 (F := Ideal) (at0 m c) (at1 m c) (at3 m c) := by
  after_reads_simp
  rfl

/-- An argument of 512 lanes, a head at a time. -/
def headRows (x : Wide) : FVec Ideal S8x4096x64 .f32 :=
  transpose S8x4096x64 [1, 0, 2] (shapeCast S4096x8x64 x shapeCasts_S4096x512_S4096x8x64) transposes_S4096x8x64_S8x4096x64_1_0_2

/-- The cumulated gates, a head at a time. -/
def cumRows (g : Gates) : FVec Ideal S8x4096 .f32 :=
  transpose S8x4096 [1, 0] g transposes_S4096x8_S8x4096_1_0

/-- A number per query, at every key. -/
def overKeys (a : FVec Ideal S8x4096 .f32) : FVec Ideal S8x4096x4096 .f32 :=
  broadcastInDim S8x4096x4096 ![0, 1, 2] bcast_S8x4096x1_S8x4096x4096_0_1_2 (broadcastInDim S8x4096x1 ![0, 1] bcast_S8x4096_S8x4096x1_0_1 a)

def hostWeights (x0 x1 : Wide) (x3 : Gates) : FVec Ideal S8x4096x4096 .f32 :=
  Host.exp (subf (ReferenceIdeal.Read.val_main_v23_0 (F := Ideal) x0 x1 x3) (overKeys (ReferenceIdeal.Read.val_main_v24 (F := Ideal) x0 x1 x3)))

def hostTotals (x0 x1 : Wide) (x3 : Gates) : FVec Ideal S8x4096 .f32 :=
  Host.reduceAdd (hostWeights x0 x1 x3) (constant S_ .f32 0x00000000#32) reducesTo_S8x4096x4096_S8x4096_d2 h_S_

/-- The logarithm of a row's weight. -/
def hostLse (x0 x1 : Wide) (x3 : Gates) : FVec Ideal S8x4096 .f32 :=
  addf (ReferenceIdeal.Read.val_main_v24 (F := Ideal) x0 x1 x3) (Host.log (hostTotals x0 x1 x3))

/-- A row's output times the derivative in it. -/
def hostMeans (x0 x1 x2 : Wide) (x3 : Gates) (x4 : Wide) : FVec Ideal S8x4096 .f32 :=
  Host.reduceAdd (mulf (Host.dotGeneral dot_S8x4096x4096_S8x4096x64_S8x4096x64_2_1_1_2_0_0 none
    (Host.divf (hostWeights x0 x1 x3) (overKeys (hostTotals x0 x1 x3))) (headRows x2)) (headRows x4))
    (constant S_ .f32 0x00000000#32) reducesTo_S8x4096x64_S8x4096_d2 h_S_

/-- A number's first part in the narrow format. -/
def narrow (a : FVec Ideal S8x4096 .f32) : FVec Ideal S8x4096 .bf16 := truncf .bf16 a bitsLt_bf16_f32

/-- What is left of a number after its first part. -/
def remainder (a : FVec Ideal S8x4096 .f32) : FVec Ideal S8x4096 .f32 := subf a (extf .f32 (narrow a) bitsLt_bf16_f32)

/-- A number per token as a lane. -/
def lane (a : FVec Ideal S8x4096 .bf16) : FVec Ideal S8x4096x1 .bf16 := broadcastInDim S8x4096x1 ![0, 1] bcast_S8x4096_S8x4096x1_0_1 a

def ones : FVec Ideal S8x4096x3 .bf16 := broadcastInDim S8x4096x3 ![] bcast_S_S8x4096x3 (constant S_ .bf16 0x3F80#16)

def packedQ (x0 : Wide) (g : Gates) (l : FVec Ideal S8x4096 .f32) : FVec Ideal S8x128x4096 .bf16 :=
  transpose S8x128x4096 [0, 2, 1] (concatenate S8x4096x128 2
    [⟨S8x4096x64, truncf .bf16 (mulf (headRows x0) (broadcastInDim S8x4096x64 ![] bcast_S_S8x4096x64 (constant S_ .f32 0x3E000000#32))) bitsLt_bf16_f32⟩,
     ⟨S8x4096x1, lane (narrow (cumRows g))⟩, ⟨S8x4096x1, lane (narrow (remainder (cumRows g)))⟩,
     ⟨S8x4096x1, lane (narrow (remainder (remainder (cumRows g))))⟩, ⟨S8x4096x3, ones⟩,
     ⟨S8x4096x1, lane (narrow (Host.negf l))⟩, ⟨S8x4096x1, lane (narrow (remainder (Host.negf l)))⟩,
     ⟨S8x4096x1, lane (narrow (remainder (remainder (Host.negf l))))⟩,
     ⟨S8x4096x55, broadcastInDim S8x4096x55 ![] bcast_S_S8x4096x55 (constant (F := Ideal) S_ .bf16 0x0000#16)⟩]
    concatenates_S8x4096x64_S8x4096x1_S8x4096x1_S8x4096x1_S8x4096x3_S8x4096x1_S8x4096x1_S8x4096x1_S8x4096x55_S8x4096x128_d2)
    transposes_S8x4096x128_S8x128x4096_0_2_1

def packedK (x1 : Wide) (g : Gates) : FVec Ideal S8x4096x128 .bf16 :=
  concatenate S8x4096x128 2
    [⟨S8x4096x64, truncf .bf16 (headRows x1) bitsLt_bf16_f32⟩, ⟨S8x4096x3, ones⟩,
     ⟨S8x4096x1, lane (narrow (Host.negf (cumRows g)))⟩, ⟨S8x4096x1, lane (narrow (remainder (Host.negf (cumRows g))))⟩,
     ⟨S8x4096x1, lane (narrow (remainder (remainder (Host.negf (cumRows g)))))⟩, ⟨S8x4096x3, ones⟩,
     ⟨S8x4096x55, broadcastInDim S8x4096x55 ![] bcast_S_S8x4096x55 (constant (F := Ideal) S_ .bf16 0x0000#16)⟩]
    concatenates_S8x4096x64_S8x4096x3_S8x4096x1_S8x4096x1_S8x4096x1_S8x4096x3_S8x4096x55_S8x4096x128_d2

def packedV (a : FVec Ideal S8x4096x64 .f32) : FVec Ideal S8x4096x128 .bf16 :=
  concatenate S8x4096x128 2
    [⟨S8x4096x64, truncf .bf16 a bitsLt_bf16_f32⟩, ⟨S8x4096x3, Host.negf ones⟩,
     ⟨S8x4096x61, broadcastInDim S8x4096x61 ![] bcast_S_S8x4096x61 (constant (F := Ideal) S_ .bf16 0x0000#16)⟩]
    concatenates_S8x4096x64_S8x4096x3_S8x4096x61_S8x4096x128_d2

def packedD (a : FVec Ideal S8x4096x64 .f32) (l : FVec Ideal S8x4096 .f32) : FVec Ideal S8x128x4096 .bf16 :=
  transpose S8x128x4096 [0, 2, 1] (concatenate S8x4096x128 2
    [⟨S8x4096x64, truncf .bf16 a bitsLt_bf16_f32⟩,
     ⟨S8x4096x1, lane (narrow l)⟩, ⟨S8x4096x1, lane (narrow (remainder l))⟩,
     ⟨S8x4096x1, lane (narrow (remainder (remainder l)))⟩,
     ⟨S8x4096x61, broadcastInDim S8x4096x61 ![] bcast_S_S8x4096x61 (constant (F := Ideal) S_ .bf16 0x0000#16)⟩]
    concatenates_S8x4096x64_S8x4096x1_S8x4096x1_S8x4096x1_S8x4096x61_S8x4096x128_d2)
    transposes_S8x4096x128_S8x128x4096_0_2_1

theorem lse_read : V (F := Ideal) m c main_v31 = hostLse (at0 m c) (at1 m c) (at3 m c) := by
  after_reads_simp
  rfl

theorem means_read : V (F := Ideal) m c main_v41 = hostMeans (at0 m c) (at1 m c) (at2 m c) (at3 m c) (at4 m c) := by
  after_reads_simp
  rfl

theorem headRows2_read : V (F := Ideal) m c main_v33 = headRows (at2 m c) := by
  after_reads_simp
  rfl

theorem headRows4_read : V (F := Ideal) m c main_v35 = headRows (at4 m c) := by
  after_reads_simp
  rfl

theorem arg0_read : V (F := Ideal) m c main_arg0 = at0 m c := by
  after_reads_simp

theorem arg1_read : V (F := Ideal) m c main_arg1 = at1 m c := by
  after_reads_simp

/-- The host operations after the rows' means. -/
abbrev packing : List (HloOp τ sig (Elt Ideal)) := (hostOps0_4 : List (HloOp τ sig (Elt Ideal))).drop 21

abbrev before (U₀ : Valuation τ sig (Elt Ideal)) : Valuation τ sig (Elt Ideal) :=
  StableHlo.after ((hostOps0_4 : List (HloOp τ sig (Elt Ideal))).take 21) (StableHlo.after (List.flatten [hostOps0, hostOps0_1, hostOps0_2, hostOps0_3]) U₀)

theorem V_split (b : Ref sig .tc) :
    V (F := Ideal) m c b = StableHlo.after packing (before fun b => m (c, b)) (Proc.devRef .tc b) := by
  have e : List.flatten [hostOps0, hostOps0_1, hostOps0_2, hostOps0_3, hostOps0_4]
      = List.flatten [hostOps0, hostOps0_1, hostOps0_2, hostOps0_3]
        ++ ((hostOps0_4 : List (HloOp τ sig (Elt Ideal))).take 21 ++ (hostOps0_4 : List (HloOp τ sig (Elt Ideal))).drop 21) := by
    rw [List.take_append_drop]
    simp only [List.flatten_cons, List.flatten_nil, List.append_nil, List.append_assoc]
  unfold V
  rw [e, StableHlo.after_append, StableHlo.after_append]

theorem packedV_read : V (F := Ideal) m c main_v92 = packedV (V (F := Ideal) m c main_v33) := by
  rw [V_split, V_split]
  generalize before _ = U
  after_reads_simp [Matrix.cons_val, StableHlo.readPieces]
  rfl

theorem packedD_read : V (F := Ideal) m c main_v107 = packedD (V (F := Ideal) m c main_v35) (V (F := Ideal) m c main_v41) := by
  rw [V_split, V_split, V_split]
  generalize before _ = U
  after_reads_simp [Matrix.cons_val, StableHlo.readPieces]
  rfl

theorem packedK_read : V (F := Ideal) m c main_v88 = packedK (V (F := Ideal) m c main_arg1) (V (F := Ideal) m c main_v1) := by
  rw [V_split, V_split, V_split]
  generalize before _ = U
  after_reads_simp [Matrix.cons_val, StableHlo.readPieces]
  rfl

theorem packedQ_read : V (F := Ideal) m c main_v106
    = packedQ (V (F := Ideal) m c main_arg0) (V (F := Ideal) m c main_v1) (V (F := Ideal) m c main_v31) := by
  rw [V_split, V_split, V_split, V_split]
  generalize before _ = U
  after_reads_simp [Matrix.cons_val, StableHlo.readPieces]
  rfl

end Cert.Proof.Attention.Host
-- ==== Proof.Attention.Packed.lean ====
module

public import proofs.«01_k».proof.Proof.Attention.Host
public import Idealize.ShloMosaic.Lib.Pointwise

/-! The lanes of the packed rows, as numbers. -/

@[expose] public section

noncomputable section

namespace Cert.Proof.Attention

open Idealize.ShloMosaic

section Rows

/-- A query's row: the scaled query, its cumulated gate, ones, and minus its logarithm of the row's weight. -/
def rowQ (Q : Fin 8 → Fin 4096 → Fin 64 → ℝ) (C L : Fin 8 → Fin 4096 → ℝ) (h : Fin 8) (i : Fin 4096) (e : Fin 128) : ℝ :=
  if he : e.val < 64 then Q h i ⟨e.val, he⟩ * (1 / 8) else if e.val = 64 then C h i else if e.val < 67 then 0
  else if e.val < 70 then 1 else if e.val = 70 then -L h i else 0

/-- A key's row: the key, ones, minus its cumulated gate, ones. -/
def rowK (K : Fin 8 → Fin 4096 → Fin 64 → ℝ) (C : Fin 8 → Fin 4096 → ℝ) (h : Fin 8) (j : Fin 4096) (e : Fin 128) : ℝ :=
  if he : e.val < 64 then K h j ⟨e.val, he⟩ else if e.val < 67 then 1 else if e.val = 67 then -C h j else if e.val < 70 then 0
  else if e.val < 73 then 1 else 0

/-- A value's row: the value and minus ones. -/
def rowV (W : Fin 8 → Fin 4096 → Fin 64 → ℝ) (h : Fin 8) (j : Fin 4096) (e : Fin 128) : ℝ :=
  if he : e.val < 64 then W h j ⟨e.val, he⟩ else if e.val < 67 then -1 else 0

/-- A row of the derivative in the output, and the row's mean. -/
def rowD (D : Fin 8 → Fin 4096 → Fin 64 → ℝ) (R : Fin 8 → Fin 4096 → ℝ) (h : Fin 8) (i : Fin 4096) (e : Fin 128) : ℝ :=
  if he : e.val < 64 then D h i ⟨e.val, he⟩ else if e.val = 64 then R h i else 0

/-- A sum over 128 lanes of which those from the 73rd are zero. -/
theorem sum_lanes (f : Fin 128 → ℝ) (hf : ∀ e : Fin 128, 73 ≤ e.val → f e = 0) :
    ∑ e, f e = (∑ e : Fin 64, f ⟨e.val, by omega⟩) + (f 64 + f 65 + f 66 + f 67 + f 68 + f 69 + f 70 + f 71 + f 72) := by
  have h1 : ∑ e : Fin (64 + 64), f e = (∑ e : Fin 64, f ⟨e.val, by omega⟩) + ∑ e : Fin (9 + 55), f ⟨64 + e.val, by omega⟩ :=
    Fin.sum_univ_add (a := 64) (b := 64) f
  have h2 : ∑ e : Fin (9 + 55), f ⟨64 + e.val, by omega⟩
      = (∑ e : Fin 9, f ⟨64 + e.val, by omega⟩) + ∑ e : Fin 55, f ⟨64 + (9 + e.val), by omega⟩ :=
    Fin.sum_univ_add (a := 9) (b := 55) fun e => f ⟨64 + e.val, by omega⟩
  have h3 : ∑ e : Fin 55, f ⟨64 + (9 + e.val), by omega⟩ = 0 := Finset.sum_eq_zero fun e _ => hf _ (by show 73 ≤ 64 + (9 + e.val); omega)
  rw [h3, add_zero] at h2
  refine h1.trans (congrArg _ (h2.trans ?_))
  rw [Fin.sum_univ_succ, Fin.sum_univ_eight]
  simp only [← add_assoc]
  rfl

/-- A query's and a key's rows multiply to the score less the logarithm of the row's weight. -/
theorem rowK_rowQ (Q K : Fin 8 → Fin 4096 → Fin 64 → ℝ) (C L : Fin 8 → Fin 4096 → ℝ) (h : Fin 8) (i j : Fin 4096) :
    ∑ e, rowK K C h j e * rowQ Q C L h i e = logit Q K C h i j - L h i := by
  rw [sum_lanes _ fun e he => by
    unfold rowK; rw [dif_neg (by omega), if_neg (by omega), if_neg (by omega), if_neg (by omega), if_neg (by omega), zero_mul]]
  have h0 : ∑ e : Fin 64, rowK K C h j ⟨e.val, by omega⟩ * rowQ Q C L h i ⟨e.val, by omega⟩ = (∑ e, Q h i e * K h j e) * (1 / 8) := by
    rw [Finset.sum_mul]
    refine Finset.sum_congr rfl fun e _ => ?_
    unfold rowK rowQ
    rw [dif_pos e.isLt, dif_pos e.isLt]
    ring
  rw [h0]
  simp [rowK, rowQ, logit]
  ring

/-- A value's row and a row of the derivative multiply to the derivative in the probability less the row's mean. -/
theorem rowV_rowD (W D : Fin 8 → Fin 4096 → Fin 64 → ℝ) (R : Fin 8 → Fin 4096 → ℝ) (h : Fin 8) (i j : Fin 4096) :
    ∑ e, rowV W h j e * rowD D R h i e = dprob W D h i j - R h i := by
  rw [sum_lanes _ fun e he => by unfold rowV; rw [dif_neg (by omega), if_neg (by omega), zero_mul]]
  have h0 : ∑ e : Fin 64, rowV W h j ⟨e.val, by omega⟩ * rowD D R h i ⟨e.val, by omega⟩ = dprob W D h i j := by
    unfold dprob
    refine Finset.sum_congr rfl fun e _ => ?_
    unfold rowV rowD
    rw [dif_pos e.isLt, dif_pos e.isLt]
    ring
  rw [h0]
  simp [rowV, rowD]
  ring

end Rows

namespace Host

open Cert.KernelIdeal Cert.KernelIdeal.Gen

theorem head_at {x : Wide} (hx : ∀ i, IsReal (x i)) (h : Fin 8) (i : Fin 4096) (e : Fin 64) (he : h.val * 64 + e.val < 512) :
    x (ix2 i ⟨h.val * 64 + e.val, he⟩) = (heads x h i e : EReal) := by
  refine Eq.trans ?_ (heads_eq hx (ValueIdx.ix3 i h e))
  rw [ReferenceIdeal.Read.val_main_v2_apply]
  refine congrArg x (funext fun a => ?_)
  match a with
  | ⟨0, _⟩ => exact Fin.ext (show i.val = ((i.val * 8 + h.val) * 64 + e.val) / 512 by omega)
  | ⟨1, _⟩ => exact Fin.ext (show h.val * 64 + e.val = ((i.val * 8 + h.val) * 64 + e.val) % 512 by omega)

theorem headRows_at {x : Wide} (hx : ∀ i, IsReal (x i)) (h : Fin 8) (i : Fin 4096) (e : Fin 64) :
    headRows x (ix3 h i e) = (heads x h i e : EReal) := by
  pointwise [headRows]
  exact head_at hx h i e _

theorem packedV_at {a : FVec Ideal S8x4096x64 .f32} {W : Fin 8 → Fin 4096 → Fin 64 → ℝ} (ha : ∀ h i e, a (ix3 h i e) = (W h i e : EReal))
    (h : Fin 8) (j : Fin 4096) (e : Fin 128) : packedV a (ix3 h j e) = (rowV W h j e : EReal) := by
  pointwise [packedV, ones]
  unfold rowV
  split_ifs <;> first | omega | exact ha _ _ _ | rfl

theorem packedD_at {a : FVec Ideal S8x4096x64 .f32} {D : Fin 8 → Fin 4096 → Fin 64 → ℝ} (ha : ∀ h i e, a (ix3 h i e) = (D h i e : EReal))
    {l : FVec Ideal S8x4096 .f32} {R : Fin 8 → Fin 4096 → ℝ} (hl : ∀ h i, l (ix2 h i) = (R h i : EReal))
    (h : Fin 8) (e : Fin 128) (i : Fin 4096) : packedD a l (ix3 h e i) = (rowD D R h i e : EReal) := by
  pointwise [packedD, lane, narrow, remainder]
  simp only [hl]
  unfold rowD
  have hz : (R h i : EReal) - (R h i : EReal) = ((0 : ℝ) : EReal) := by rw [← EReal.coe_sub, sub_self]
  have hz' : ((0 : ℝ) : EReal) - ((0 : ℝ) : EReal) = ((0 : ℝ) : EReal) := by rw [← EReal.coe_sub, sub_self]
  split_ifs <;> first | omega | exact ha _ _ _ | rfl | simp only [hz, hz']

theorem packedK_at {x : Wide} (hx : ∀ i, IsReal (x i)) {g : Gates} {C : Fin 8 → Fin 4096 → ℝ} (hg : ∀ i h, g (ix2 i h) = (C h i : EReal))
    (h : Fin 8) (j : Fin 4096) (e : Fin 128) : packedK x g (ix3 h j e) = (rowK (heads x) C h j e : EReal) := by
  pointwise [packedK, ones, lane, narrow, remainder, cumRows, headRows]
  simp only [hg]
  unfold rowK
  have hn : -(C h j : EReal) = ((-C h j : ℝ) : EReal) := (EReal.coe_neg _).symm
  have hz : ((-C h j : ℝ) : EReal) - ((-C h j : ℝ) : EReal) = ((0 : ℝ) : EReal) := by rw [← EReal.coe_sub, sub_self]
  have hz' : ((0 : ℝ) : EReal) - ((0 : ℝ) : EReal) = ((0 : ℝ) : EReal) := by rw [← EReal.coe_sub, sub_self]
  split_ifs <;> first | omega | exact head_at hx _ _ ⟨_, _⟩ _ | rfl | simp only [hn, hz, hz']

theorem packedQ_at {x : Wide} (hx : ∀ i, IsReal (x i)) {g : Gates} {C : Fin 8 → Fin 4096 → ℝ} (hg : ∀ i h, g (ix2 i h) = (C h i : EReal))
    {l : FVec Ideal S8x4096 .f32} {L : Fin 8 → Fin 4096 → ℝ} (hl : ∀ h i, l (ix2 h i) = (L h i : EReal))
    (h : Fin 8) (e : Fin 128) (i : Fin 4096) : packedQ x g l (ix3 h e i) = (rowQ (heads x) C L h i e : EReal) := by
  pointwise [packedQ, ones, lane, narrow, remainder, cumRows, headRows]
  simp only [hg, hl]
  unfold rowQ
  have hc : (C h i : EReal) - (C h i : EReal) = ((0 : ℝ) : EReal) := by rw [← EReal.coe_sub, sub_self]
  have hn : -(L h i : EReal) = ((-L h i : ℝ) : EReal) := (EReal.coe_neg _).symm
  have hz : ((-L h i : ℝ) : EReal) - ((-L h i : ℝ) : EReal) = ((0 : ℝ) : EReal) := by rw [← EReal.coe_sub, sub_self]
  have hz' : ((0 : ℝ) : EReal) - ((0 : ℝ) : EReal) = ((0 : ℝ) : EReal) := by rw [← EReal.coe_sub, sub_self]
  split_ifs <;> first
    | omega | rfl | simp only [hc, hn, hz, hz']
    | (rw [eighth, EReal.coe_mul]; exact congrArg (· * _) (head_at hx _ _ ⟨_, _⟩ _))

section

variable {x0 x1 x2 : Wide} {x3 : Gates} {x4 : Wide} (H : Numbers x0 x1 x2 x3 x4)

include H

theorem gates_at (i : Fin 4096) (h : Fin 8) : ReferenceIdeal.Read.val_main_v1 (F := Ideal) x3 (ix2 i h) = (cums x3 h i : EReal) :=
  cums_eq H.f _

theorem hostWeights_at (h : Fin 8) (i j : Fin 4096) :
    hostWeights x0 x1 x3 (ix3 h i j) = (weight (heads x0) (heads x1) (cums x3) (tops x0 x1 x3) h i j : EReal) := by
  pointwise [hostWeights, overKeys]
  rw [scores_eq H, tops_eq H]
  unfold weight
  show Ideal.exp ((if j ≤ i then ((logit (heads x0) (heads x1) (cums x3) h i j : ℝ) : EReal) else ⊥) - (tops x0 x1 x3 h i : EReal)) = _
  split
  · rw [← EReal.coe_sub, Ideal.exp_coe]
  · rw [EReal.bot_sub, Ideal.exp_bot, EReal.coe_zero]

theorem hostTotals_at (h : Fin 8) (i : Fin 4096) :
    hostTotals x0 x1 x3 (ix2 h i) = (total (heads x0) (heads x1) (cums x3) (tops x0 x1 x3) h i : EReal) := by
  pointwise [hostTotals]
  exact sum_eq_coe fun k => hostWeights_at H h i k

theorem tops_at (h : Fin 8) (i : Fin 4096) :
    ReferenceIdeal.Read.val_main_v24 (F := Ideal) x0 x1 x3 (ix2 h i) = (tops x0 x1 x3 h i : EReal) := tops_eq H _

omit H in
theorem addLog_at (a t : FVec Ideal S8x4096 .f32) (h : Fin 8) (i : Fin 4096) :
    addf a (Host.log t) (ix2 h i) = a (ix2 h i) + Ideal.log (t (ix2 h i)) := rfl

theorem hostLse_at (h : Fin 8) (i : Fin 4096) :
    hostLse x0 x1 x3 (ix2 h i)
      = ((tops x0 x1 x3 h i + Real.log (total (heads x0) (heads x1) (cums x3) (tops x0 x1 x3) h i) : ℝ) : EReal) := by
  unfold hostLse
  rw [addLog_at, hostTotals_at H, log_coe_pos (total_pos _ _ _ _ _ _), tops_at H, EReal.coe_add]

theorem hostMeans_at (h : Fin 8) (i : Fin 4096) :
    hostMeans x0 x1 x2 x3 x4 (ix2 h i)
      = (rowMean (heads x0) (heads x1) (heads x2) (heads x4) (cums x3) (tops x0 x1 x3) h i : EReal) := by
  pointwise [hostMeans, overKeys]
  rw [← rowMean_eq]
  refine sum_eq_coe fun e => ?_
  rw [EReal.coe_mul]
  refine congrArg₂ (· * ·) (dot_eq_coe (fun j => ?_) fun j => headRows_at H.v h j e) (headRows_at H.ct h i e)
  rw [hostWeights_at H, hostTotals_at H]
  exact div_coe_coe _ (total_pos _ _ _ _ _ _).ne'

end

end Host

end Cert.Proof.Attention
-- ==== Proof.Attention.Values.lean ====
module

public import proofs.«01_k».proof.Proof.Attention.Blocks
public import proofs.«01_k».proof.Proof.Attention.Packed

@[expose] public section

set_option maxRecDepth 16384

noncomputable section

/-! # The blocks of the attention gradient as numbers -/

namespace Cert.Proof.KernelIdeal

open Idealize.ShloMosaic Cert.KernelIdeal Cert.KernelIdeal.Gen Cert.Proof.Attention

/-! ## One block of 512 keys against 512 queries -/

theorem toInt_small {n : ℕ} (h : n < 512) : (BitVec.ofNat 32 n).toInt = n := by
  rw [BitVec.toInt_eq_toNat_cond, BitVec.toNat_ofNat]
  have e : n % 2 ^ 32 = n := Nat.mod_eq_of_lt (by omega)
  rw [e, if_pos (by omega)]

section Block

variable {a v : FVec Ideal S1x512x128 .bf16} {b d : Vec Ideal S1x128x512 .bf16}
variable {A V : Fin 512 → Fin 128 → ℝ} {B D : Fin 128 → Fin 512 → ℝ}

theorem pay5_at (ha : ∀ r e, a (ix3 0 r e) = ↑(A r e)) (hb : ∀ e c, b (ix3 0 e c) = ↑(B e c)) (r c : Fin 512) :
    k0_pay5 (F := Ideal) (k0_pay75 a) b (ix2 r c) = ↑(Real.exp (∑ e, A r e * B e c)) := by
  pointwise [k0_pay5, k0_pay75, k0_pay3]
  rw [dot_eq_coe (fun e => ha r e) (fun e => hb e c), Ideal.exp_coe]

theorem pay83_at (ha : ∀ r e, a (ix3 0 r e) = ↑(A r e)) (hb : ∀ e c, b (ix3 0 e c) = ↑(B e c)) (r c : Fin 512) :
    k0_pay83 (F := Ideal) rowNo colNo a b (ix2 r c) = ↑(if r ≤ c then Real.exp (∑ e, A r e * B e c) else 0) := by
  pointwise [k0_pay83, k0_pay75, k0_pay81]
  rw [dot_eq_coe (fun e => ha r e) (fun e => hb e c)]
  have hr := toInt_small r.isLt
  have hc := toInt_small c.isLt
  by_cases hrc : r ≤ c
  · have h1 : IntOp.cmpi CmpIPredicate.sle (BitVec.ofNat 32 r.val) (BitVec.ofNat 32 c.val) = 1#1 := by
      have : (BitVec.ofNat 32 r.val).sle (BitVec.ofNat 32 c.val) = true := by
        rw [BitVec.sle, hr, hc]; simpa using hrc
      simp [IntOp.cmpi, this]
    rw [h1, if_pos hrc]
    exact Ideal.exp_coe _
  · have h1 : IntOp.cmpi CmpIPredicate.sle (BitVec.ofNat 32 r.val) (BitVec.ofNat 32 c.val) = 0#1 := by
      have : (BitVec.ofNat 32 r.val).sle (BitVec.ofNat 32 c.val) = false := by
        rw [BitVec.sle, hr, hc]; simpa using hrc
      simp [IntOp.cmpi, this]
    rw [h1, if_neg hrc]
    exact Ideal.exp_bot

theorem pay6_at (ha : ∀ r e, a (ix3 0 r e) = ↑(A r e)) (hb : ∀ e c, b (ix3 0 e c) = ↑(B e c))
    (hv : ∀ r e, v (ix3 0 r e) = ↑(V r e)) (hd : ∀ e c, d (ix3 0 e c) = ↑(D e c)) (r c : Fin 512) :
    k0_pay6 (F := Ideal) (k0_pay75 a) (k0_pay77 v) b d (ix2 r c)
      = ↑(Real.exp (∑ e, A r e * B e c) * ∑ e, V r e * D e c) := by
  have h5 := pay5_at ha hb r c
  generalize hw : k0_pay5 (F := Ideal) (k0_pay75 a) b = w at h5
  pointwise [k0_pay6, hw, k0_pay77, k0_pay4]
  rw [h5, dot_eq_coe (fun e => hv r e) (fun e => hd e c), ← EReal.coe_mul]

theorem pay84_at (ha : ∀ r e, a (ix3 0 r e) = ↑(A r e)) (hb : ∀ e c, b (ix3 0 e c) = ↑(B e c))
    (hv : ∀ r e, v (ix3 0 r e) = ↑(V r e)) (hd : ∀ e c, d (ix3 0 e c) = ↑(D e c)) (r c : Fin 512) :
    k0_pay84 (F := Ideal) rowNo colNo a v b d (ix2 r c)
      = ↑((if r ≤ c then Real.exp (∑ e, A r e * B e c) else 0) * ∑ e, V r e * D e c) := by
  have h5 := pay83_at ha hb r c
  generalize hw : k0_pay83 (F := Ideal) rowNo colNo a b = w at h5
  pointwise [k0_pay84, hw, k0_pay77, k0_pay82]
  rw [h5, dot_eq_coe (fun e => hv r e) (fun e => hd e c), ← EReal.coe_mul]

theorem pay7_at (ha : ∀ r e, a (ix3 0 r e) = ↑(A r e)) (hb : ∀ e c, b (ix3 0 e c) = ↑(B e c))
    (hd : ∀ e c, d (ix3 0 e c) = ↑(D e c)) {x : Vec Ideal S1x128x512 .f32} {X : Fin 128 → Fin 512 → ℝ}
    (hx : ∀ e c, x (ix3 0 e c) = ↑(X e c)) (e : Fin 128) (r : Fin 512) :
    k0_pay7 (F := Ideal) (k0_pay75 a) b d x (ix3 0 e r)
      = ↑(X e r + ∑ c, D e c * Real.exp (∑ e, A r e * B e c)) := by
  have h5 := pay5_at ha hb r
  generalize hw : k0_pay5 (F := Ideal) (k0_pay75 a) b = w at h5
  pointwise [k0_pay7, hw, k0_pay4]
  rw [hx, dot_eq_coe (fun c => hd e c) (fun c => h5 c), ← EReal.coe_add]

theorem pay87_at (ha : ∀ r e, a (ix3 0 r e) = ↑(A r e)) (hb : ∀ e c, b (ix3 0 e c) = ↑(B e c))
    (hd : ∀ e c, d (ix3 0 e c) = ↑(D e c)) (e : Fin 128) (r : Fin 512) :
    k0_pay87 (F := Ideal) (k0_pay85 rowNo colNo a b d) (ix3 0 e r)
      = ↑(∑ c, D e c * (if r ≤ c then Real.exp (∑ e, A r e * B e c) else 0)) := by
  have h5 := pay83_at ha hb r
  generalize hw : k0_pay83 (F := Ideal) rowNo colNo a b = w at h5
  pointwise [k0_pay87, k0_pay85, hw, k0_pay82]
  exact dot_eq_coe (fun c => hd e c) (fun c => h5 c)

theorem pay8_at (ha : ∀ r e, a (ix3 0 r e) = ↑(A r e)) (hb : ∀ e c, b (ix3 0 e c) = ↑(B e c))
    (hv : ∀ r e, v (ix3 0 r e) = ↑(V r e)) (hd : ∀ e c, d (ix3 0 e c) = ↑(D e c))
    {x : Vec Ideal S1x128x512 .f32} {X : Fin 128 → Fin 512 → ℝ}
    (hx : ∀ e c, x (ix3 0 e c) = ↑(X e c)) (e : Fin 128) (r : Fin 512) :
    k0_pay8 (F := Ideal) (k0_pay75 a) (k0_pay77 v) b d x (ix3 0 e r)
      = ↑(X e r + ∑ c, B e c * (Real.exp (∑ e, A r e * B e c) * ∑ e, V r e * D e c)) := by
  have h5 := pay6_at ha hb hv hd r
  generalize hw : k0_pay6 (F := Ideal) (k0_pay75 a) (k0_pay77 v) b d = w at h5
  pointwise [k0_pay8, hw, k0_pay3]
  rw [hx, dot_eq_coe (fun c => hb e c) (fun c => h5 c), ← EReal.coe_add]

theorem pay88_at (ha : ∀ r e, a (ix3 0 r e) = ↑(A r e)) (hb : ∀ e c, b (ix3 0 e c) = ↑(B e c))
    (hv : ∀ r e, v (ix3 0 r e) = ↑(V r e)) (hd : ∀ e c, d (ix3 0 e c) = ↑(D e c)) (e : Fin 128) (r : Fin 512) :
    k0_pay88 (F := Ideal) (k0_pay86 rowNo colNo a v b d) (ix3 0 e r)
      = ↑(∑ c, B e c * ((if r ≤ c then Real.exp (∑ e, A r e * B e c) else 0) * ∑ e, V r e * D e c)) := by
  have h5 := pay84_at ha hb hv hd r
  generalize hw : k0_pay84 (F := Ideal) rowNo colNo a v b d = w at h5
  pointwise [k0_pay88, k0_pay86, hw, k0_pay81]
  exact dot_eq_coe (fun c => hb e c) (fun c => h5 c)

theorem pay9_at (ha : ∀ r e, a (ix3 0 r e) = ↑(A r e)) {s : FVec Ideal S512x512 .bf16} {T : Fin 512 → Fin 512 → ℝ}
    (hs : ∀ r c, s (ix2 r c) = ↑(T r c)) {x : Vec Ideal S1x128x512 .f32} {X : Fin 128 → Fin 512 → ℝ}
    (hx : ∀ e c, x (ix3 0 e c) = ↑(X e c)) (e : Fin 128) (c : Fin 512) :
    k0_pay9 (F := Ideal) (k0_pay79 a) s x (ix3 0 e c) = ↑(X e c + ∑ r, A r e * T r c) := by
  pointwise [k0_pay9, k0_pay79, k0_pay75]
  rw [hx, dot_eq_coe (fun r => ha r e) (fun r => hs r c), ← EReal.coe_add]

end Block

/-! ## A head -/

/-- Position `c` of block `b`. -/
def pos (b : ℕ) (c : Fin 512) : Fin 4096 := Fin.ofNat 4096 (512 * b + c.val)

theorem rowBlk_at {α : Type} (x : S2x4096x128.Idx → α) (h : Fin 2) (j : ℕ) (r : Fin 512) (e : Fin 128) :
    rowBlk x h.val j (ix3 0 r e) = x (ix3 h (pos j r) e) := by
  refine congrArg x (funext fun a => Fin.ext ?_)
  match a with
  | ⟨0, _⟩ => exact Nat.mod_eq_of_lt h.isLt
  | ⟨1, _⟩ => rfl
  | ⟨2, _⟩ => show (0 + e.val) % 128 = e.val; rw [Nat.zero_add]; exact Nat.mod_eq_of_lt e.isLt

theorem colBlk_at {α : Type} (x : S2x128x4096.Idx → α) (h : Fin 2) (i : ℕ) (e : Fin 128) (c : Fin 512) :
    colBlk x h.val i (ix3 0 e c) = x (ix3 h e (pos i c)) := by
  refine congrArg x (funext fun a => Fin.ext ?_)
  match a with
  | ⟨0, _⟩ => exact Nat.mod_eq_of_lt h.isLt
  | ⟨1, _⟩ => show (0 + e.val) % 128 = e.val; rw [Nat.zero_add]; exact Nat.mod_eq_of_lt e.isLt
  | ⟨2, _⟩ => rfl

/-- A sum over the first `n` blocks. -/
def part (f : Fin 4096 → ℝ) (n : ℕ) : ℝ := ∑ b ∈ Finset.range n, ∑ c : Fin 512, f (pos b c)

theorem part_succ (f : Fin 4096 → ℝ) (n : ℕ) : part f (n + 1) = part f n + ∑ c : Fin 512, f (pos n c) :=
  Finset.sum_range_succ _ _

theorem part_zero_of (f : Fin 4096 → ℝ) (n : ℕ) (hn : n ≤ 8) (hf : ∀ i : Fin 4096, i.val < 512 * n → f i = 0) : part f n = 0 :=
  Finset.sum_eq_zero fun b hb => Finset.sum_eq_zero fun c _ => hf _ (by
    have := Finset.mem_range.1 hb
    show (512 * b + c.val) % 4096 < _
    have := c.isLt
    omega)

/-- The eight blocks are all the positions. -/
theorem part_all (f : Fin 4096 → ℝ) : part f 8 = ∑ i, f i := by
  have e : ∑ i, f i = ∑ p : Fin 8 × Fin 512, f (finProdFinEquiv p) := (Equiv.sum_comp (finProdFinEquiv (m := 8) (n := 512)) f).symm
  rw [e, Fintype.sum_prod_type, part, Finset.sum_range]
  refine Finset.sum_congr rfl fun b _ => Finset.sum_congr rfl fun c _ => congrArg f (Fin.ext ?_)
  show (512 * b.val + c.val) % 4096 = c.val + 512 * b.val
  have := c.isLt; have := b.isLt; omega

/-- The first `n` blocks are all, if the function is zero behind them. -/
theorem part_eq_all (f : Fin 4096 → ℝ) (n : ℕ) (hn : n ≤ 8) (hf : ∀ i : Fin 4096, 512 * n ≤ i.val → f i = 0) : part f n = ∑ i, f i := by
  rw [← part_all]
  refine Finset.sum_subset (Finset.range_mono hn) fun b hb hb' => Finset.sum_eq_zero fun c _ => hf _ ?_
  have h8 := Finset.mem_range.1 hb
  have hb' : n ≤ b := by simpa using hb'
  show _ ≤ (512 * b + c.val) % 4096
  have := c.isLt
  omega

section Head

/-- The logit less the row's normaliser, from the packed rows. -/
def sc (kr qr : Fin 4096 → Fin 128 → ℝ) (j i : Fin 4096) : ℝ := ∑ e, kr j e * qr i e
/-- The probability. -/
def pr (kr qr : Fin 4096 → Fin 128 → ℝ) (j i : Fin 4096) : ℝ := if j ≤ i then Real.exp (sc kr qr j i) else 0
/-- The derivative in the logit. -/
def dsr (kr qr vr dr : Fin 4096 → Fin 128 → ℝ) (j i : Fin 4096) : ℝ := pr kr qr j i * ∑ e, vr j e * dr i e

theorem pos_val {b : ℕ} (hb : b < 8) (c : Fin 512) : (pos b c).val = 512 * b + c.val := by
  show (512 * b + c.val) % 4096 = _
  have := c.isLt; omega

theorem pr_same (kr qr : Fin 4096 → Fin 128 → ℝ) {j : ℕ} (hj : j < 8) (r c : Fin 512) :
    (if r ≤ c then Real.exp (∑ e, kr (pos j r) e * qr (pos j c) e) else 0) = pr kr qr (pos j r) (pos j c) := by
  have e : pos j r ≤ pos j c ↔ r ≤ c := by rw [Fin.le_def, Fin.le_def, pos_val hj, pos_val hj]; omega
  exact if_congr e.symm rfl rfl

theorem pr_later (kr qr : Fin 4096 → Fin 128 → ℝ) {j i : ℕ} (hji : j < i) (hi : i < 8) (r c : Fin 512) :
    Real.exp (∑ e, kr (pos j r) e * qr (pos i c) e) = pr kr qr (pos j r) (pos i c) := by
  have e : pos j r ≤ pos i c := by rw [Fin.le_def, pos_val (by omega), pos_val hi]; have := r.isLt; omega
  exact (if_pos e).symm

theorem pr_of_lt (kr qr : Fin 4096 → Fin 128 → ℝ) {j i : Fin 4096} (h : i < j) : pr kr qr j i = 0 := if_neg (not_le.2 h)

theorem dsr_of_lt (kr qr vr dr : Fin 4096 → Fin 128 → ℝ) {j i : Fin 4096} (h : i < j) : dsr kr qr vr dr j i = 0 := by
  rw [dsr, pr_of_lt _ _ h, zero_mul]

variable {q2 : Vec Ideal S2x128x4096 .bf16} {kp : Vec Ideal S2x4096x128 .bf16} {vp : Vec Ideal S2x4096x128 .bf16} {do2 : Vec Ideal S2x128x4096 .bf16}
variable {h : Fin 2} {kr qr vr dr : Fin 4096 → Fin 128 → ℝ}

theorem scoreGrad_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e))
    {j i : ℕ} (hji : j ≤ i) (hi : i < 8) (r c : Fin 512) :
    scoreGrad q2 kp vp do2 h.val j i (ix2 r c) = ↑(dsr kr qr vr dr (pos j r) (pos i c)) := by
  have ha : ∀ r e, rowBlk kp h.val j (ix3 0 r e) = ↑(kr (pos j r) e) := fun r e => (rowBlk_at kp h j r e).trans (hk _ _)
  have hv' : ∀ r e, rowBlk vp h.val j (ix3 0 r e) = ↑(vr (pos j r) e) := fun r e => (rowBlk_at vp h j r e).trans (hv _ _)
  have hb : ∀ i e c, colBlk q2 h.val i (ix3 0 e c) = ↑(qr (pos i c) e) := fun i e c => (colBlk_at q2 h i e c).trans (hq _ _)
  have hd' : ∀ i e c, colBlk do2 h.val i (ix3 0 e c) = ↑(dr (pos i c) e) := fun i e c => (colBlk_at do2 h i e c).trans (hd _ _)
  unfold scoreGrad
  split_ifs with e
  · subst e
    rw [pay84_at ha (hb i) hv' (hd' i) r c, pr_same kr qr hi]; rfl
  · rw [pay6_at ha (hb i) hv' (hd' i) r c, pr_later kr qr (by omega) hi]; rfl

theorem valueAcc_at (hq : ∀ e i, q2 (ix3 h e i) = ↑(qr i e)) (hk : ∀ j e, kp (ix3 h j e) = ↑(kr j e))
    (hd : ∀ e i, do2 (ix3 h e i) = ↑(dr i e)) {j : ℕ} (n : ℕ) (hn : j + n < 8) (e : Fin 128) (r : Fin 512) :
    valueAcc q2 kp do2 h.val j n (ix3 0 e r) = ↑(part (fun i => dr i e * pr kr qr (pos j r) i) (j + 1 + n)) := by
  have ha : ∀ r e, rowBlk kp h.val j (ix3 0 r e) = ↑(kr (pos j r) e) := fun r e => (rowBlk_at kp h j r e).trans (hk _ _)
  have hb : ∀ i e c, colBlk q2 h.val i (ix3 0 e c) = ↑(qr (pos i c) e) := fun i e c => (colBlk_at q2 h i e c).trans (hq _ _)
  have hd' : ∀ i e c, colBlk do2 h.val i (ix3 0 e c) = ↑(dr (pos i c) e) := fun i e c => (colBlk_at do2 h i e c).trans (hd _ _)
  induction n generalizing e r with
  | zero =>
    show k0_pay87 _ _ = _
    rw [pay87_at ha (hb j) (hd' j) e r, Nat.add_zero, part_succ, part_zero_of _ j (by omega), zero_add]
    · exact congrArg _ (Finset.sum_congr rfl fun c _ => congrArg _ (pr_same kr qr (by omega) r c))
    · intro i hi
      rw [pr_of_lt, mul_zero]
      rw [Fin.lt_def, pos_val (by omega)]; omega
  | succ n ih =>
    show k0_pay7 _ _ _ _ _ = _
    rw [pay7_at ha (hb _) (hd' _) (fun e c => ih (by omega) e c) e r, ← Nat.add_assoc, part_succ]
    exact congrArg _ (congrArg _ (Finset.sum_congr rfl fun c _ => congrArg _ (pr_later kr qr (by omega) (by omega) r c)))

theorem keyAcc_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e))
    {j : ℕ} (n : ℕ) (hn : j + n < 8) (e : Fin 128) (r : Fin 512) :
    keyAcc q2 kp vp do2 h.val j n (ix3 0 e r) = ↑(part (fun i => qr i e * dsr kr qr vr dr (pos j r) i) (j + 1 + n)) := by
  have ha : ∀ r e, rowBlk kp h.val j (ix3 0 r e) = ↑(kr (pos j r) e) := fun r e => (rowBlk_at kp h j r e).trans (hk _ _)
  have hv' : ∀ r e, rowBlk vp h.val j (ix3 0 r e) = ↑(vr (pos j r) e) := fun r e => (rowBlk_at vp h j r e).trans (hv _ _)
  have hb : ∀ i e c, colBlk q2 h.val i (ix3 0 e c) = ↑(qr (pos i c) e) := fun i e c => (colBlk_at q2 h i e c).trans (hq _ _)
  have hd' : ∀ i e c, colBlk do2 h.val i (ix3 0 e c) = ↑(dr (pos i c) e) := fun i e c => (colBlk_at do2 h i e c).trans (hd _ _)
  induction n generalizing e r with
  | zero =>
    show k0_pay88 _ _ = _
    rw [pay88_at ha (hb j) hv' (hd' j) e r, Nat.add_zero, part_succ, part_zero_of _ j (by omega), zero_add]
    · exact congrArg _ (Finset.sum_congr rfl fun c _ => congrArg _ (congrArg (· * _) (pr_same kr qr (by omega) r c)))
    · intro i hi
      rw [dsr_of_lt, mul_zero]
      rw [Fin.lt_def, pos_val (by omega)]; omega
  | succ n ih =>
    show k0_pay8 _ _ _ _ _ _ = _
    rw [pay8_at ha (hb _) hv' (hd' _) (fun e c => ih (by omega) e c) e r, ← Nat.add_assoc, part_succ]
    exact congrArg _ (congrArg _ (Finset.sum_congr rfl fun c _ => congrArg _ (congrArg (· * _) (pr_later kr qr (by omega) (by omega) r c))))

theorem queryAcc_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e))
    {i : ℕ} (hi : i < 8) (n : ℕ) (hn : n ≤ i + 1) (e : Fin 128) (c : Fin 512) :
    queryAcc q2 kp vp do2 h.val i n (ix3 0 e c) = ↑(part (fun j => kr j e * dsr kr qr vr dr j (pos i c)) n) := by
  induction n generalizing e c with
  | zero =>
    show colBlk _ _ _ _ = _
    rw [colBlk_at]
    pointwise [k0_pay107]
    rw [part, Finset.range_zero, Finset.sum_empty, EReal.coe_zero]
  | succ n ih =>
    have ha : ∀ r e, rowBlk kp h.val n (ix3 0 r e) = ↑(kr (pos n r) e) := fun r e => (rowBlk_at kp h n r e).trans (hk _ _)
    show k0_pay9 _ _ _ _ = _
    rw [pay9_at ha (fun r c => scoreGrad_at hq hk hv hd (by omega) hi r c) (fun e c => ih (by omega) e c) e c, part_succ]

end Head

end Cert.Proof.KernelIdeal
-- ==== Proof.Attention.Results.lean ====
module

public import proofs.«01_k».proof.Proof.Attention.Values
public import proofs.«01_k».proof.Proof.Attention.Launch

@[expose] public section

set_option maxRecDepth 16384

noncomputable section

/-! # The results of the attention gradient as numbers -/

namespace Cert.Proof.KernelIdeal

open Idealize.ShloMosaic Cert.KernelIdeal Cert.KernelIdeal.Gen Cert.Proof.Attention

section Assembled
variable {α : Type}

theorem ofBlks_at (w : ℕ → ℕ → S1x128x512.Idx → α) (h : Fin 2) (e : Fin 128) (i : Fin 4096) :
    ofBlks w (ix3 h e i) = w h.val (i.val / 512) (ix3 0 e ⟨i.val % 512, Nat.mod_lt _ (by decide)⟩) := by
  refine congrArg (w _ _) (funext fun a => ?_)
  match a with
  | ⟨0, _⟩ => rfl
  | ⟨1, _⟩ => rfl
  | ⟨2, _⟩ => rfl

theorem ofCumBlks_at (w : ℕ → ℕ → S1x1x512.Idx → α) (h : Fin 2) (i : Fin 4096) :
    ofCumBlks w (ix3 h 0 i) = w h.val (i.val / 512) (ix3 0 0 ⟨i.val % 512, Nat.mod_lt _ (by decide)⟩) := by
  refine congrArg (w _ _) (funext fun a => ?_)
  match a with
  | ⟨0, _⟩ => rfl
  | ⟨1, _⟩ => rfl
  | ⟨2, _⟩ => rfl

theorem ofHeads_at (w : ℕ → S1x128x4096.Idx → α) (h : Fin 2) (e : Fin 128) (i : Fin 4096) :
    ofHeads w (ix3 h e i) = w h.val (ix3 0 e i) := by
  refine congrArg (w _) (funext fun a => ?_)
  match a with
  | ⟨0, _⟩ => rfl
  | ⟨1, _⟩ => rfl
  | ⟨2, _⟩ => rfl

theorem ofCumHeads_at (w : ℕ → S1x1x4096.Idx → α) (h : Fin 2) (i : Fin 4096) :
    ofCumHeads w (ix3 h 0 i) = w h.val (ix3 0 0 i) := by
  refine congrArg (w _) (funext fun a => ?_)
  match a with
  | ⟨0, _⟩ => rfl
  | ⟨1, _⟩ => rfl
  | ⟨2, _⟩ => rfl

theorem headOf_at (x : S2x128x4096.Idx → α) (h : Fin 2) (e : Fin 128) (i : Fin 4096) : headOf x h.val (ix3 0 e i) = x (ix3 h e i) := by
  refine congrArg x (funext fun a => Fin.ext ?_)
  match a with
  | ⟨0, _⟩ => exact Nat.mod_eq_of_lt h.isLt
  | ⟨1, _⟩ => show (0 + e.val) % 128 = e.val; rw [Nat.zero_add]; exact Nat.mod_eq_of_lt e.isLt
  | ⟨2, _⟩ => show (0 + i.val) % 4096 = i.val; rw [Nat.zero_add]; exact Nat.mod_eq_of_lt i.isLt

theorem cumHead_at (x : S2x1x4096.Idx → α) (h : Fin 2) (i : Fin 4096) : cumHead x h.val (ix3 0 0 i) = x (ix3 h 0 i) := by
  refine congrArg x (funext fun a => Fin.ext ?_)
  match a with
  | ⟨0, _⟩ => exact Nat.mod_eq_of_lt h.isLt
  | ⟨1, _⟩ => rfl
  | ⟨2, _⟩ => show (0 + i.val) % 4096 = i.val; rw [Nat.zero_add]; exact Nat.mod_eq_of_lt i.isLt

end Assembled

theorem pos_div (i : Fin 4096) : pos (i.val / 512) ⟨i.val % 512, Nat.mod_lt _ (by decide)⟩ = i := by
  apply Fin.ext
  show (512 * (i.val / 512) + i.val % 512) % 4096 = i.val
  have := i.isLt; omega

variable {q2 : Vec Ideal S2x128x4096 .bf16} {kp : Vec Ideal S2x4096x128 .bf16} {vp : Vec Ideal S2x4096x128 .bf16} {do2 : Vec Ideal S2x128x4096 .bf16}
variable {h : Fin 2} {kr qr vr dr : Fin 4096 → Fin 128 → ℝ}

theorem outValue_at (hq : ∀ e i, q2 (ix3 h e i) = ↑(qr i e)) (hk : ∀ j e, kp (ix3 h j e) = ↑(kr j e))
    (hd : ∀ e i, do2 (ix3 h e i) = ↑(dr i e)) (e : Fin 128) (j : Fin 4096) :
    outValue (F := Ideal) q2 kp do2 (ix3 h e j) = ↑(∑ i, dr i e * pr kr qr j i) := by
  have hj : j.val / 512 < 8 := by have := j.isLt; omega
  have h1 := valueAcc_at hq hk hd (j := j.val / 512) (7 - j.val / 512) (by omega) e ⟨j.val % 512, Nat.mod_lt _ (by decide)⟩
  rw [pos_div, show j.val / 512 + 1 + (7 - j.val / 512) = 8 by omega, part_all] at h1
  unfold outValue
  rw [ofBlks_at]
  generalize valueAcc q2 kp do2 h.val (j.val / 512) (7 - j.val / 512) = w at h1 ⊢
  rw [← h1]
  pointwise [k0_pay105]

theorem keyAcc_all (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e)) (e : Fin 128) (j : Fin 4096) :
    keyAcc q2 kp vp do2 h.val (j.val / 512) (7 - j.val / 512) (ix3 0 e ⟨j.val % 512, Nat.mod_lt _ (by decide)⟩)
      = ↑(∑ i, qr i e * dsr kr qr vr dr j i) := by
  have hj : j.val / 512 < 8 := by have := j.isLt; omega
  have h1 := keyAcc_at hq hk hv hd (j := j.val / 512) (7 - j.val / 512) (by omega) e ⟨j.val % 512, Nat.mod_lt _ (by decide)⟩
  rwa [pos_div, show j.val / 512 + 1 + (7 - j.val / 512) = 8 by omega, part_all] at h1

theorem outKey_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e)) (e : Fin 128) (j : Fin 4096) :
    outKey (F := Ideal) q2 kp vp do2 (ix3 h e j) = ↑(∑ i, qr i e * dsr kr qr vr dr j i) := by
  have h1 := keyAcc_all hq hk hv hd e j
  unfold outKey
  rw [ofBlks_at]
  generalize keyAcc q2 kp vp do2 h.val (j.val / 512) (7 - j.val / 512) = w at h1 ⊢
  rw [← h1]
  pointwise [k0_pay104, k0_pay103]

theorem cumKeys_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e)) (j : Fin 4096) :
    cumKeys (F := Ideal) q2 kp vp do2 (ix3 h 0 j) = ↑(-∑ i, qr i 67 * dsr kr qr vr dr j i) := by
  have h1 := keyAcc_all hq hk hv hd 67 j
  unfold cumKeys
  rw [ofCumBlks_at]
  generalize keyAcc q2 kp vp do2 h.val (j.val / 512) (7 - j.val / 512) = w at h1 ⊢
  rw [EReal.coe_neg, ← h1]
  pointwise [k0_pay106, k0_pay103]
  exact zero_sub _

theorem queryAll_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e)) (e : Fin 128) (i : Fin 4096) :
    queryAll (F := Ideal) q2 kp vp do2 (ix3 h e i) = ↑(∑ j, kr j e * dsr kr qr vr dr j i) := by
  have hi : i.val / 512 < 8 := by have := i.isLt; omega
  have h1 := queryAcc_at hq hk hv hd hi (i.val / 512 + 1) le_rfl e ⟨i.val % 512, Nat.mod_lt _ (by decide)⟩
  rw [pos_div, part_eq_all _ _ (by omega)] at h1
  · unfold queryAll
    rw [ofBlks_at]
    exact h1
  · intro j hj
    rw [dsr_of_lt, mul_zero]
    rw [Fin.lt_def]; omega

theorem outQuery_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e)) (e : Fin 128) (i : Fin 4096) :
    outQuery (F := Ideal) q2 kp vp do2 (ix3 h e i) = ↑((∑ j, kr j e * dsr kr qr vr dr j i) * (1 / 8)) := by
  have h1 := (headOf_at (queryAll (F := Ideal) q2 kp vp do2) h e i).trans (queryAll_at hq hk hv hd e i)
  unfold outQuery
  rw [ofHeads_at]
  generalize headOf (queryAll (F := Ideal) q2 kp vp do2) h.val = w at h1 ⊢
  rw [EReal.coe_mul, ← h1, ← eighth]
  pointwise [k0_pay114, k0_pay112]

theorem outCum_at (hq : ∀ e i, q2 (ix3 h e i) = ↑(qr i e)) (hk : ∀ j e, kp (ix3 h j e) = ↑(kr j e))
    (hv : ∀ j e, vp (ix3 h j e) = ↑(vr j e)) (hd : ∀ e i, do2 (ix3 h e i) = ↑(dr i e)) (i : Fin 4096) :
    outCum (F := Ideal) q2 kp vp do2 (ix3 h 0 i)
      = ↑(-(∑ i', qr i' 67 * dsr kr qr vr dr i i') + ∑ j, kr j 64 * dsr kr qr vr dr j i) := by
  have h1 := (headOf_at (queryAll (F := Ideal) q2 kp vp do2) h 64 i).trans (queryAll_at hq hk hv hd 64 i)
  have h2 := (cumHead_at (cumKeys (F := Ideal) q2 kp vp do2) h i).trans (cumKeys_at hq hk hv hd i)
  unfold outCum
  rw [ofCumHeads_at]
  generalize headOf (queryAll (F := Ideal) q2 kp vp do2) h.val = w at h1 ⊢
  generalize cumHead (cumKeys (F := Ideal) q2 kp vp do2) h.val = u at h2 ⊢
  rw [EReal.coe_add, ← h1, ← h2]
  pointwise [k0_pay113, k0_pay112]

end Cert.Proof.KernelIdeal
-- ==== Proof.Attention.Arrays.lean ====
module

public import proofs.«01_k».proof.Proof.Attention.Results
public import Idealize.ShloMosaic.Lib.Pipeline.ValueKit.Geometry

@[expose] public section

set_option maxRecDepth 16384

noncomputable section

/-! # The result arrays of the attention gradient -/

namespace Cert.Proof.KernelIdeal

open Idealize.ShloMosaic Idealize.ShloMosaic.TcCoe Cert.KernelIdeal Cert.KernelIdeal.Gen Cert.Proof.Attention

variable (m : (ℓ : Loc nD τ sig) → Buf (Elt Ideal) ℓ) (c : Dev nD)

/-- Head `h` of the pair of point `t`. -/
def headNo (t : Fin cfg0.N) (h : Fin 2) : Fin 8 := ⟨2 * t.val + h.val, by have : t.val < 4 := t.isLt; omega⟩

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)
theorem index4 : ∀ t : Fin cfg0.N, win0_4.index t (0 : Fin 3) = t.val ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)
theorem index6 : ∀ t : Fin cfg0.N, win0_6.index t (0 : Fin 3) = t.val ∧ win0_6.index t (1 : Fin 3) = 0 ∧ win0_6.index t (2 : Fin 3) = 0 :=
  (by decide +kernel : ∀ t : Fin grid0.N, _)
theorem index7 : ∀ t : Fin cfg0.N, win0_7.index t (0 : Fin 3) = t.val ∧ win0_7.index t (1 : Fin 3) = 0 ∧ win0_7.index t (2 : Fin 3) = 0 :=
  (by decide +kernel : ∀ t : Fin grid0.N, _)

/-- Where a block's element lies in its array. -/
theorem emb0 (t : Fin cfg0.N) (h : Fin 2) (e : Fin 128) (i : Fin 4096) :
    ((cfg0.win 0).blk t).view.emb (ix3 h e i) = ix3 (headNo t h) e i := by
  obtain ⟨e0, e1, e2⟩ := index0 t
  funext a; apply Fin.ext
  match a with
  | ⟨0, _⟩ => show win0_0.index t (0 : Fin 3) * 2 + 1 * h.val = 2 * t.val + h.val; omega
  | ⟨1, _⟩ => show win0_0.index t (1 : Fin 3) * 128 + 1 * e.val = e.val; omega
  | ⟨2, _⟩ => show win0_0.index t (2 : Fin 3) * 4096 + 1 * i.val = i.val; omega
theorem emb1 (t : Fin cfg0.N) (h : Fin 2) (j : Fin 4096) (e : Fin 128) :
    ((cfg0.win 1).blk t).view.emb (ix3 h j e) = ix3 (headNo t h) j e := by
  obtain ⟨e0, e1, e2⟩ := index1 t
  funext a; apply Fin.ext
  match a with
  | ⟨0, _⟩ => show win0_1.index t (0 : Fin 3) * 2 + 1 * h.val = 2 * t.val + h.val; omega
  | ⟨1, _⟩ => show win0_1.index t (1 : Fin 3) * 4096 + 1 * j.val = j.val; omega
  | ⟨2, _⟩ => show win0_1.index t (2 : Fin 3) * 128 + 1 * e.val = e.val; omega
theorem emb2 (t : Fin cfg0.N) (h : Fin 2) (j : Fin 4096) (e : Fin 128) :
    ((cfg0.win 2).blk t).view.emb (ix3 h j e) = ix3 (headNo t h) j e := by
  obtain ⟨e0, e1, e2⟩ := index2 t
  funext a; apply Fin.ext
  match a with
  | ⟨0, _⟩ => show win0_2.index t (0 : Fin 3) * 2 + 1 * h.val = 2 * t.val + h.val; omega
  | ⟨1, _⟩ => show win0_2.index t (1 : Fin 3) * 4096 + 1 * j.val = j.val; omega
  | ⟨2, _⟩ => show win0_2.index t (2 : Fin 3) * 128 + 1 * e.val = e.val; omega
theorem emb3 (t : Fin cfg0.N) (h : Fin 2) (e : Fin 128) (i : Fin 4096) :
    ((cfg0.win 3).blk t).view.emb (ix3 h e i) = ix3 (headNo t h) e i := by
  obtain ⟨e0, e1, e2⟩ := index3 t
  funext a; apply Fin.ext
  match a with
  | ⟨0, _⟩ => show win0_3.index t (0 : Fin 3) * 2 + 1 * h.val = 2 * t.val + h.val; omega
  | ⟨1, _⟩ => show win0_3.index t (1 : Fin 3) * 128 + 1 * e.val = e.val; omega
  | ⟨2, _⟩ => show win0_3.index t (2 : Fin 3) * 4096 + 1 * i.val = i.val; omega
theorem emb4 (t : Fin cfg0.N) (h : Fin 2) (e : Fin 128) (i : Fin 4096) :
    ((cfg0.win 4).blk t).view.emb (ix3 h e i) = ix3 (headNo t h) e i := by
  obtain ⟨e0, e1, e2⟩ := index4 t
  funext a; apply Fin.ext
  match a with
  | ⟨0, _⟩ => show win0_4.index t (0 : Fin 3) * 2 + 1 * h.val = 2 * t.val + h.val; omega
  | ⟨1, _⟩ => show win0_4.index t (1 : Fin 3) * 128 + 1 * e.val = e.val; omega
  | ⟨2, _⟩ => show win0_4.index t (2 : Fin 3) * 4096 + 1 * i.val = i.val; omega
theorem emb5 (t : Fin cfg0.N) (h : Fin 2) (e : Fin 128) (i : Fin 4096) :
    ((cfg0.win 5).blk t).view.emb (ix3 h e i) = ix3 (headNo t h) e i := by
  obtain ⟨e0, e1, e2⟩ := index5 t
  funext a; apply Fin.ext
  match a with
  | ⟨0, _⟩ => show win0_5.index t (0 : Fin 3) * 2 + 1 * h.val = 2 * t.val + h.val; omega
  | ⟨1, _⟩ => show win0_5.index t (1 : Fin 3) * 128 + 1 * e.val = e.val; omega
  | ⟨2, _⟩ => show win0_5.index t (2 : Fin 3) * 4096 + 1 * i.val = i.val; omega
theorem emb6 (t : Fin cfg0.N) (h : Fin 2) (e : Fin 128) (i : Fin 4096) :
    ((cfg0.win 6).blk t).view.emb (ix3 h e i) = ix3 (headNo t h) e i := by
  obtain ⟨e0, e1, e2⟩ := index6 t
  funext a; apply Fin.ext
  match a with
  | ⟨0, _⟩ => show win0_6.index t (0 : Fin 3) * 2 + 1 * h.val = 2 * t.val + h.val; omega
  | ⟨1, _⟩ => show win0_6.index t (1 : Fin 3) * 128 + 1 * e.val = e.val; omega
  | ⟨2, _⟩ => show win0_6.index t (2 : Fin 3) * 4096 + 1 * i.val = i.val; omega
theorem emb7 (t : Fin cfg0.N) (h : Fin 2) (e : Fin 1) (i : Fin 4096) :
    ((cfg0.win 7).blk t).view.emb (ix3 h e i) = ix3 (headNo t h) e i := by
  obtain ⟨e0, e1, e2⟩ := index7 t
  funext a; apply Fin.ext
  match a with
  | ⟨0, _⟩ => show win0_7.index t (0 : Fin 3) * 2 + 1 * h.val = 2 * t.val + h.val; omega
  | ⟨1, _⟩ => show win0_7.index t (1 : Fin 3) * 1 + 1 * e.val = e.val; omega
  | ⟨2, _⟩ => show win0_7.index t (2 : Fin 3) * 4096 + 1 * i.val = i.val; omega

variable {KR QR VR DR : Fin 8 → Fin 4096 → Fin 128 → ℝ}
variable (hq : ∀ h e i, V m c main_v106 (ix3 h e i) = (QR h i e : EReal)) (hk : ∀ h j e, V m c main_v88 (ix3 h j e) = (KR h j e : EReal))
variable (hv : ∀ h j e, V m c main_v92 (ix3 h j e) = (VR h j e : EReal)) (hd : ∀ h e i, V m c main_v107 (ix3 h e i) = (DR h i e : EReal))

include hq in
theorem iblk0_at (t : Fin cfg0.N) (h : Fin 2) (e : Fin 128) (i : Fin 4096) : iblk m c 0 t (ix3 h e i) = (QR (headNo t h) i e : EReal) :=
  (congrArg (V m c main_v106) (emb0 t h e i)).trans (hq _ _ _)
include hk in
theorem iblk1_at (t : Fin cfg0.N) (h : Fin 2) (j : Fin 4096) (e : Fin 128) : iblk m c 1 t (ix3 h j e) = (KR (headNo t h) j e : EReal) :=
  (congrArg (V m c main_v88) (emb1 t h j e)).trans (hk _ _ _)
include hv in
theorem iblk2_at (t : Fin cfg0.N) (h : Fin 2) (j : Fin 4096) (e : Fin 128) : iblk m c 2 t (ix3 h j e) = (VR (headNo t h) j e : EReal) :=
  (congrArg (V m c main_v92) (emb2 t h j e)).trans (hv _ _ _)
include hd in
theorem iblk3_at (t : Fin cfg0.N) (h : Fin 2) (e : Fin 128) (i : Fin 4096) : iblk m c 3 t (ix3 h e i) = (DR (headNo t h) i e : EReal) :=
  (congrArg (V m c main_v107) (emb3 t h e i)).trans (hd _ _ _)

/-- The coordinates of an element. -/
def z0 {a b d : ℕ} (z : (⟨3, ![a, b, d]⟩ : Shape).Idx) : Fin a := z 0
def z1 {a b d : ℕ} (z : (⟨3, ![a, b, d]⟩ : Shape).Idx) : Fin b := z 1
def z2 {a b d : ℕ} (z : (⟨3, ![a, b, d]⟩ : Shape).Idx) : Fin d := z 2

theorem ix3_z {a b d : ℕ} (z : (⟨3, ![a, b, d]⟩ : Shape).Idx) : ix3 (z0 z) (z1 z) (z2 z) = z := by
  funext x; match x with | ⟨0, _⟩ => rfl | ⟨1, _⟩ => rfl | ⟨2, _⟩ => rfl

include hq hk hv hd in
theorem array4 (h : Fin 8) (e : Fin 128) (i : Fin 4096) : (dats m 0 c).arrAt 4 cfg0.N (ix3 h e i)
    = (((∑ j, KR h j e * dsr (KR h) (QR h) (VR h) (DR h) j i) * (1 / 8) : ℝ) : EReal) := by
  refine congrFun ((dats m 0 c).arrAt_eq_of_covers 4 (fun z : S8x128x4096.Idx => (((∑ j, KR (z0 z) j (z1 z)
    * dsr (KR (z0 z)) (QR (z0 z)) (VR (z0 z)) (DR (z0 z)) j (z2 z)) * (1 / 8) : ℝ) : EReal)) (by decide +kernel) fun t _ y => ?_) (ix3 h e i)
  refine Eq.trans (b := outQuery (iblk m c 0 t) (iblk m c 1 t) (iblk m c 2 t) (iblk m c 3 t) y) rfl ?_
  rw [← ix3_z y, emb4]
  exact outQuery_at (iblk0_at m c hq t _) (iblk1_at m c hk t _) (iblk2_at m c hv t _) (iblk3_at m c hd t _) _ _

include hq hk hv hd in
theorem array5 (h : Fin 8) (e : Fin 128) (j : Fin 4096) : (dats m 0 c).arrAt 5 cfg0.N (ix3 h e j)
    = ((∑ i, QR h i e * dsr (KR h) (QR h) (VR h) (DR h) j i : ℝ) : EReal) := by
  refine congrFun ((dats m 0 c).arrAt_eq_of_covers 5 (fun z : S8x128x4096.Idx => ((∑ i, QR (z0 z) i (z1 z)
    * dsr (KR (z0 z)) (QR (z0 z)) (VR (z0 z)) (DR (z0 z)) (z2 z) i : ℝ) : EReal)) (by decide +kernel) fun t _ y => ?_) (ix3 h e j)
  refine Eq.trans (b := outKey (iblk m c 0 t) (iblk m c 1 t) (iblk m c 2 t) (iblk m c 3 t) y) rfl ?_
  rw [← ix3_z y, emb5]
  exact outKey_at (iblk0_at m c hq t _) (iblk1_at m c hk t _) (iblk2_at m c hv t _) (iblk3_at m c hd t _) _ _

include hq hk hd in
theorem array6 (h : Fin 8) (e : Fin 128) (j : Fin 4096) : (dats m 0 c).arrAt 6 cfg0.N (ix3 h e j)
    = ((∑ i, DR h i e * pr (KR h) (QR h) j i : ℝ) : EReal) := by
  refine congrFun ((dats m 0 c).arrAt_eq_of_covers 6 (fun z : S8x128x4096.Idx => ((∑ i, DR (z0 z) i (z1 z)
    * pr (KR (z0 z)) (QR (z0 z)) (z2 z) i : ℝ) : EReal)) (by decide +kernel) fun t _ y => ?_) (ix3 h e j)
  refine Eq.trans (b := outValue (iblk m c 0 t) (iblk m c 1 t) (iblk m c 3 t) y) rfl ?_
  rw [← ix3_z y, emb6]
  exact outValue_at (iblk0_at m c hq t _) (iblk1_at m c hk t _) (iblk3_at m c hd t _) _ _

include hq hk hv hd in
theorem array7 (h : Fin 8) (i : Fin 4096) : (dats m 0 c).arrAt 7 cfg0.N (ix3 h 0 i)
    = ((-(∑ i', QR h i' 67 * dsr (KR h) (QR h) (VR h) (DR h) i i') + ∑ j, KR h j 64 * dsr (KR h) (QR h) (VR h) (DR h) j i : ℝ) : EReal) := by
  refine congrFun ((dats m 0 c).arrAt_eq_of_covers 7 (fun z : S8x1x4096.Idx => ((-(∑ i', QR (z0 z) i' 67
      * dsr (KR (z0 z)) (QR (z0 z)) (VR (z0 z)) (DR (z0 z)) (z2 z) i')
    + ∑ j, KR (z0 z) j 64 * dsr (KR (z0 z)) (QR (z0 z)) (VR (z0 z)) (DR (z0 z)) j (z2 z) : ℝ) : EReal)) (by decide +kernel) fun t _ y => ?_) (ix3 h 0 i)
  refine Eq.trans (b := outCum (iblk m c 0 t) (iblk m c 1 t) (iblk m c 2 t) (iblk m c 3 t) y) rfl ?_
  rw [← ix3_z y, emb7]
  rw [show z1 y = 0 from Subsingleton.elim _ _]
  exact outCum_at (iblk0_at m c hq t _) (iblk1_at m c hk t _) (iblk2_at m c hv t _) (iblk3_at m c hd t _) _

end Cert.Proof.KernelIdeal
-- ==== Proof.Attention.Gradients.lean ====
module

public import proofs.«01_k».proof.Proof.Attention.Arrays

@[expose] public section

set_option maxRecDepth 16384

noncomputable section

/-! # The kernel's result arrays are the reference's gradients -/

namespace Cert.Proof.Attention

open Idealize.ShloMosaic Cert.Proof.KernelIdeal

/-! ## The packed rows compute the softmax's gradient -/

section Rows

variable (Q K W D : Fin 8 → Fin 4096 → Fin 64 → ℝ) (C M : Fin 8 → Fin 4096 → ℝ) (h : Fin 8)

/-- The logarithm of a row's weights. -/
def lse (h : Fin 8) (i : Fin 4096) : ℝ := M h i + Real.log (total Q K C M h i)

theorem pr_eq (i j : Fin 4096) : pr (rowK K C h) (rowQ Q C (lse Q K C M) h) j i = prob Q K C M h i j := by
  unfold pr sc
  split_ifs with hle
  · rw [rowK_rowQ, prob_of_le _ _ _ _ _ hle]; rfl
  · exact (prob_of_not_le _ _ _ _ _ hle).symm

theorem dsr_eq (i j : Fin 4096) :
    dsr (rowK K C h) (rowQ Q C (lse Q K C M) h) (rowV W h) (rowD D (rowMean Q K W D C M) h) j i = dscore Q K W D C M h i j := by
  unfold dsr
  rw [pr_eq, rowV_rowD]; rfl

theorem gradQ_eq (i : Fin 4096) (e : Fin 128) (he : e.val < 64) :
    (∑ j, rowK K C h j e * dsr (rowK K C h) (rowQ Q C (lse Q K C M) h) (rowV W h) (rowD D (rowMean Q K W D C M) h) j i) * (1 / 8)
      = gradQ Q K W D C M h i ⟨e.val, he⟩ := by
  unfold gradQ
  rw [Finset.sum_mul]
  refine Finset.sum_congr rfl fun j _ => ?_
  rw [dsr_eq, rowK, dif_pos he]; ring

theorem gradK_eq (j : Fin 4096) (e : Fin 128) (he : e.val < 64) :
    ∑ i, rowQ Q C (lse Q K C M) h i e * dsr (rowK K C h) (rowQ Q C (lse Q K C M) h) (rowV W h) (rowD D (rowMean Q K W D C M) h) j i
      = gradK Q K W D C M h j ⟨e.val, he⟩ := by
  unfold gradK
  refine Finset.sum_congr rfl fun i _ => ?_
  rw [dsr_eq, rowQ, dif_pos he]; ring

theorem gradV_eq (j : Fin 4096) (e : Fin 128) (he : e.val < 64) :
    ∑ i, rowD D (rowMean Q K W D C M) h i e * pr (rowK K C h) (rowQ Q C (lse Q K C M) h) j i
      = gradV Q K D C M h j ⟨e.val, he⟩ := by
  unfold gradV
  refine Finset.sum_congr rfl fun i _ => ?_
  rw [pr_eq, rowD, dif_pos he]

theorem gradC_eq (i : Fin 4096) :
    -(∑ i', rowQ Q C (lse Q K C M) h i' 67 * dsr (rowK K C h) (rowQ Q C (lse Q K C M) h) (rowV W h) (rowD D (rowMean Q K W D C M) h) i i')
        + ∑ j, rowK K C h j 64 * dsr (rowK K C h) (rowQ Q C (lse Q K C M) h) (rowV W h) (rowD D (rowMean Q K W D C M) h) j i
      = gradC Q K W D C M h i := by
  have h1 : ∀ i', rowQ Q C (lse Q K C M) h i' 67 = 1 := fun _ => rfl
  have h2 : ∀ j, rowK K C h j 64 = 1 := fun _ => rfl
  unfold gradC
  simp only [dsr_eq, h1, h2, one_mul]

end Rows

/-! ## The arrays -/

section Arrays

open Cert.KernelIdeal Cert.KernelIdeal.Gen Cert.Proof.Attention.Host

variable (m : (ℓ : Loc nD τ sig) → Buf (Elt Ideal) ℓ) (c : Dev nD)
variable (H : Numbers (at0 m c) (at1 m c) (at2 m c) (at3 m c) (at4 m c))

include H

theorem gates_entry (i : Fin 4096) (h : Fin 8) : V (F := Ideal) m c main_v1 (ix2 i h) = (cums (at3 m c) h i : EReal) := by
  rw [gates_eq]; exact gates_at H i h

theorem packedQ_entry (h : Fin 8) (e : Fin 128) (i : Fin 4096) : V (F := Ideal) m c main_v106 (ix3 h e i)
    = (rowQ (heads (at0 m c)) (cums (at3 m c)) (lse (heads (at0 m c)) (heads (at1 m c)) (cums (at3 m c)) (tops (at0 m c) (at1 m c) (at3 m c))) h i e : EReal) := by
  rw [packedQ_read, arg0_read]
  exact packedQ_at H.q (gates_entry m c H) (fun h i => by rw [lse_read]; exact hostLse_at H h i) h e i

theorem packedK_entry (h : Fin 8) (j : Fin 4096) (e : Fin 128) : V (F := Ideal) m c main_v88 (ix3 h j e)
    = (rowK (heads (at1 m c)) (cums (at3 m c)) h j e : EReal) := by
  rw [packedK_read, arg1_read]
  exact packedK_at H.k (gates_entry m c H) h j e

theorem packedV_entry (h : Fin 8) (j : Fin 4096) (e : Fin 128) : V (F := Ideal) m c main_v92 (ix3 h j e)
    = (rowV (heads (at2 m c)) h j e : EReal) := by
  rw [packedV_read, headRows2_read]
  exact packedV_at (headRows_at H.v) h j e

theorem packedD_entry (h : Fin 8) (e : Fin 128) (i : Fin 4096) : V (F := Ideal) m c main_v107 (ix3 h e i)
    = (rowD (heads (at4 m c)) (rowMean (heads (at0 m c)) (heads (at1 m c)) (heads (at2 m c)) (heads (at4 m c)) (cums (at3 m c))
        (tops (at0 m c) (at1 m c) (at3 m c))) h i e : EReal) := by
  rw [packedD_read, headRows4_read, means_read]
  exact packedD_at (headRows_at H.ct) (hostMeans_at H) h e i

theorem query_agrees (z : S8x128x4096.Idx) (hz : (c1 z).val < 64) : (dats (F := Ideal) m 0 c).arrAt 4 cfg0.N z
    = ReferenceIdeal.Read.val_main_v96 (F := Ideal) (at0 m c) (at1 m c) (at2 m c) (at3 m c) (at4 m c) z := by
  rw [reference_dq H z hz]
  refine (congrArg _ (ix3_z z).symm).trans ((array4 m c (packedQ_entry m c H) (packedK_entry m c H) (packedV_entry m c H) (packedD_entry m c H) _ _ _).trans ?_)
  exact congrArg _ (gradQ_eq _ _ _ _ _ _ _ _ _ hz)

theorem key_agrees (z : S8x128x4096.Idx) (hz : (c1 z).val < 64) : (dats (F := Ideal) m 0 c).arrAt 5 cfg0.N z
    = ReferenceIdeal.Read.val_main_v100 (F := Ideal) (at0 m c) (at1 m c) (at2 m c) (at3 m c) (at4 m c) z := by
  rw [reference_dk H z hz]
  refine (congrArg _ (ix3_z z).symm).trans ((array5 m c (packedQ_entry m c H) (packedK_entry m c H) (packedV_entry m c H) (packedD_entry m c H) _ _ _).trans ?_)
  exact congrArg _ (gradK_eq _ _ _ _ _ _ _ _ _ hz)

theorem value_agrees (z : S8x128x4096.Idx) (hz : (c1 z).val < 64) : (dats (F := Ideal) m 0 c).arrAt 6 cfg0.N z
    = ReferenceIdeal.Read.val_main_v104 (F := Ideal) (at0 m c) (at1 m c) (at3 m c) (at4 m c) z := by
  rw [reference_dv H z hz]
  refine (congrArg _ (ix3_z z).symm).trans ((array6 m c (packedQ_entry m c H) (packedK_entry m c H) (packedD_entry m c H) _ _ _).trans ?_)
  exact congrArg _ (gradV_eq _ _ _ _ _ _ _ _ _ hz)

theorem gate_agrees (z : S8x1x4096.Idx) : (dats (F := Ideal) m 0 c).arrAt 7 cfg0.N z
    = ReferenceIdeal.Read.val_main_v106 (F := Ideal) (at0 m c) (at1 m c) (at2 m c) (at3 m c) (at4 m c) z := by
  rw [ReferenceIdeal.Read.val_main_v106_apply, reference_dcum H]
  refine (congrArg _ (ix3_z z).symm).trans ?_
  rw [show z1 z = 0 from Subsingleton.elim _ _]
  refine (array7 m c (packedQ_entry m c H) (packedK_entry m c H) (packedV_entry m c H) (packedD_entry m c H) _ _).trans ?_
  exact congrArg _ (gradC_eq _ _ _ _ _ _ _ _)

end Arrays

end Cert.Proof.Attention
-- ==== Proof.Attention.Finite.lean ====
module

public import proofs.«01_k».proof.Defs
public import proofs.«01_k».proof.Proof.Gen.Pre_finite
public import proofs.«01_k».proof.Proof.Gen.On_gradient_lanes
public import proofs.«01_k».proof.Proof.Attention.Reference
public import Idealize.ShloMosaic.Lib.ReduceAll
public import Idealize.ShloMosaic.Lib.Pointwise

@[expose] public section

noncomputable section

/-! # The precondition and the lanes of the claim -/

namespace Cert.Proof.Attention

open Idealize.ShloMosaic

theorem isReal_of_abs_lt {x : EReal} (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x with
  | bot => exfalso; simp [Ideal.cmp] at h
  | top => exfalso; simp [Ideal.cmp] at h
  | coe r => exact IsReal.coe r

theorem and_one {a b : BitVec 1} (h : a &&& b = 1#1) : a = 1#1 ∧ b = 1#1 := by revert a b; decide

section
open Cert.Pre_finite Cert.Pre_finite.Gen

instance : Subsingleton S_.Idx := ⟨fun a b => funext fun x => x.elim0⟩

theorem numbers_of_finite {x0 x1 x2 : Wide} {x3 : Gates} {x4 : Wide} (h : Cert.Pre_finite.fn (F := Ideal) x0 x1 x2 x3 x4 = fun _ => 1#1) :
    Numbers x0 x1 x2 x3 x4 := by
  have h0 := congrFun h (fun a => a.elim0)
  dsimp only [Cert.Pre_finite.fn, Cert.Pre_finite.fn_part1] at h0
  obtain ⟨h0, g4⟩ := and_one h0
  obtain ⟨h0, g3⟩ := and_one h0
  obtain ⟨h0, g2⟩ := and_one h0
  obtain ⟨g0, g1⟩ := and_one h0
  exact ⟨fun i => isReal_of_abs_lt (Host.reduce_andi_all _ _ _ _ _ g0 i), fun i => isReal_of_abs_lt (Host.reduce_andi_all _ _ _ _ _ g1 i),
    fun i => isReal_of_abs_lt (Host.reduce_andi_all _ _ _ _ _ g2 i), fun i => isReal_of_abs_lt (Host.reduce_andi_all _ _ _ _ _ g3 i),
    fun i => isReal_of_abs_lt (Host.reduce_andi_all _ _ _ _ _ g4 i)⟩

end

theorem lane_lt (i : (⟨3, ![8, 128, 4096]⟩ : Shape).Idx) (h : IntOp.cmpi .slt (BitVec.ofNat 32 (c1 i).val) 64#32 = 1#1) : (c1 i).val < 64 := by
  have hi : (c1 i).val < 128 := (c1 i).isLt
  by_contra hn
  have h2 : (BitVec.ofNat 32 (c1 i).val).slt 64#32 = false := by
    rw [BitVec.slt, BitVec.toInt_eq_toNat_cond, BitVec.toNat_ofNat, Nat.mod_eq_of_lt (by omega), if_pos (by omega)]
    simp; omega
  simp [IntOp.cmpi, h2] at h

end Cert.Proof.Attention
-- ==== Proof.Projection.Tile.lean ====
module

public import proofs.«01_k».proof.Defs
public import proofs.«01_k».proof.Proof.Gen.Kernel2Ideal
public import proofs.«01_k».proof.Proof.Gen.Kernel2Ideal.Skeleton
public import Idealize.ShloMosaic.Lib.VecWindow

@[expose] public section

set_option maxRecDepth 16384

noncomputable section

/-!
# One tile of the input projection's gradient

The kernel walks over the tiles of 256 tokens from the last to the first. What it leaves of one tile, and how it
changes what it carries, as arrays of the blocks it is given.
-/

namespace Cert.Proof.Projection

open Cert.Kernel2Ideal Cert.Kernel2Ideal.Gen
open Idealize.ShloMosaic Idealize.ShloMosaic.TcCoe

variable {F : FTy → Type} [FloatOps F]

/-- The blocks of one tile. -/
structure Blocks (F : FTy → Type) where
  dq : Vec F S8x128x256 .bf16
  dk : Vec F S8x128x256 .bf16
  dv : Vec F S8x128x256 .bf16
  dc : Vec F S8x1x256 .f32
  f : Vec F S256x128 .f32
  dpo : Vec F S256x512 .f32
  dph : Vec F S16x512 .f32
  dga : Vec F S256x512 .f32
  dgp : Vec F S256x512 .f32
  x : Vec F S256x1024 .f32
  dxa : Vec F S256x1024 .f32
  u : Vec F S256x1024 .bf16
  mod : Vec F S8x1024 .f32
  w : Vec F S3072x1024 .bf16
  wf : Vec F S128x1024 .bf16

section
variable (v0 : BitVec 32) (B : Blocks F)

/-- The heads' gradients without their working lanes. -/
def heads (a : Vec F S8x128x256 .bf16) : Vec F S8x64x256 .bf16 := VecWindow.window a ![0, 0, 0] S8x64x256.size inb_S8x128x256_S8x64x256_0_0_0

def modRow : Vec F S1x1024 .f32 := VecWindow.window B.mod ![0, 0] S1x1024.size inb_S8x1024_S1x1024_0_0
def w0 : Vec F S512x1024 .bf16 := VecWindow.window B.w ![0, 0] S512x1024.size inb_S3072x1024_S512x1024_0_0
def w1 : Vec F S512x1024 .bf16 := VecWindow.window B.w ![512, 0] S512x1024.size inb_S3072x1024_S512x1024_512_0
def w2 : Vec F S512x1024 .bf16 := VecWindow.window B.w ![1024, 0] S512x1024.size inb_S3072x1024_S512x1024_1024_0
def w3 : Vec F S512x1024 .bf16 := VecWindow.window B.w ![1536, 0] S512x1024.size inb_S3072x1024_S512x1024_1536_0
def w4 : Vec F S512x1024 .bf16 := VecWindow.window B.w ![2048, 0] S512x1024.size inb_S3072x1024_S512x1024_2048_0
def w5 : Vec F S512x1024 .bf16 := VecWindow.window B.w ![2560, 0] S512x1024.size inb_S3072x1024_S512x1024_2560_0

def rows : IVec S256x256 32 := iota .tc S256x256 32 [0] iota_S256x256_d0_w32
def cols : IVec S256x256 32 := iota .tc S256x256 32 [1] iota_S256x256_d1_w32
def edge : IVec S16x16 32 := iota .tc S16x16 32 [0] iota_S16x16_d0_w32

/-- The gradient of the pooled channels, group by group. -/
def pool0 : FVec F S256x128 .f32 := k0_pay23 B.dpo (k0_pay21 v0 B.dpo) (k0_pay22 v0 B.dph) rows cols edge
def pool1 : FVec F S256x128 .f32 := k0_pay26 B.dpo (k0_pay24 B.dpo (k0_pay20 v0)) (k0_pay25 (k0_pay19 v0 B.dph)) rows cols edge
def pool2 : FVec F S256x128 .f32 := k0_pay29 B.dpo (k0_pay27 B.dpo (k0_pay20 v0)) (k0_pay28 (k0_pay19 v0 B.dph)) rows cols edge
def poolAll : FVec F S256x512 .bf16 :=
  k0_pay34 B.dpo (pool0 v0 B) (pool1 v0 B) (pool2 v0 B) (k0_pay30 B.dpo (k0_pay20 v0)) (k0_pay31 (k0_pay19 v0 B.dph)) rows cols edge
def poolBias (old : Vec F S1x512 .f32) : FVec F S1x512 .f32 :=
  k0_pay33 B.dpo (pool0 v0 B) (pool1 v0 B) (pool2 v0 B) (k0_pay30 B.dpo (k0_pay20 v0)) (k0_pay31 (k0_pay19 v0 B.dph)) rows cols edge old

variable (carry : Vec F S8x128 .f32)

def carried : Vec F S8x1 .f32 := VecWindow.window carry ![0, 0] S8x1.size inb_S8x128_S8x1_0_0
/-- The gradient of the log gates of the tile's tokens, -/
def dlog : FVec F S8x256 .f32 := k0_pay41 B.dc (carried carry)
def one : F .f32 := Scalar.ofBits .f32 0x3F800000#32

/-- and of the modulated input. -/
def du : FVec F S256x1024 .f32 :=
  k0_pay47 (k0_pay40 (k0_pay37 (k0_pay18 (k0_pay12 (heads B.dq) (w0 B)) (k0_pay15 (heads B.dk) (w1 B)) (heads B.dv) (w2 B))
    (poolAll v0 B) (w3 B) B.dga (w4 B)) (k0_pay39 B.dgp) (w5 B)) (dlog B carry) (k0_pay43 B.f) one B.wf

/-- The gradient of the input. -/
def outX : Vec F S256x1024 .f32 := k0_pay1 (du v0 B carry) B.dxa (modRow B)

def projOver (old : Vec F S256x1536 .bf16) : Vec F S256x1536 .bf16 :=
  VecWindow.put (VecWindow.put (VecWindow.put old ![0, 0] S256x512.size (poolAll v0 B)) ![0, 512] S256x512.size (k0_pay36 B.dga))
    ![0, 1024] S256x512.size (k0_pay39 B.dgp)
/-- The gradient of the pooled channels and of the two gates. -/
def outProj : Vec F S256x1536 .bf16 := projOver v0 B fun _ => Scalar.ofBits .bf16 0#16

def stepCarry : Vec F S8x128 .f32 := VecWindow.put carry ![0, 0] S8x1.size (k0_pay42 B.dc (carried carry))
def stepForget (old : Vec F S128x1024 .f32) : Vec F S128x1024 .f32 :=
  k0_pay48 (dlog B carry) (k0_pay43 B.f) one old B.u
def stepForgetBias (old : Vec F S8x128 .f32) : Vec F S8x128 .f32 :=
  k0_pay45 k0_pay9 (dlog B carry) (k0_pay43 B.f) one old

def stepBias (old : Vec F S8x3072 .f32) : Vec F S8x3072 .f32 :=
  VecWindow.put (VecWindow.put (VecWindow.put (VecWindow.put (VecWindow.put (VecWindow.put old
      ![0, 0] S8x512.size (k0_pay11 (heads B.dq) (VecWindow.window old ![0, 0] S8x512.size inb_S8x3072_S8x512_0_0)))
      ![0, 512] S8x512.size (k0_pay14 (heads B.dk) (VecWindow.window old ![0, 512] S8x512.size inb_S8x3072_S8x512_0_512)))
      ![0, 1024] S8x512.size (k0_pay17 k0_pay9 (heads B.dv) (VecWindow.window old ![0, 1024] S8x512.size inb_S8x3072_S8x512_0_1024)))
      ![0, 1536] S1x512.size (poolBias v0 B (VecWindow.window old ![0, 1536] S1x512.size inb_S8x3072_S1x512_0_1536)))
      ![0, 2048] S1x512.size (k0_pay35 B.dga (VecWindow.window old ![0, 2048] S1x512.size inb_S8x3072_S1x512_0_2048)))
      ![0, 2560] S1x512.size (k0_pay38 B.dgp (VecWindow.window old ![0, 2560] S1x512.size inb_S8x3072_S1x512_0_2560))

def stepMod (old : Vec F S8x1024 .f32) : Vec F S8x1024 .f32 :=
  VecWindow.put (VecWindow.put old
      ![0, 0] S1x1024.size (k0_pay2 (du v0 B carry) B.x (VecWindow.window old ![0, 0] S1x1024.size inb_S8x1024_S1x1024_0_0)))
      ![1, 0] S1x1024.size (k0_pay3 (du v0 B carry) (VecWindow.window old ![1, 0] S1x1024.size inb_S8x1024_S1x1024_1_0))

end

end Cert.Proof.Projection
-- ==== Proof.Projection.Body.lean ====
module

public import proofs.«01_k».proof.Defs
public import proofs.«01_k».proof.Proof.Projection.Tile
public import proofs.«01_k».proof.Proof.Gen.Kernel2Ideal.Launch
public import proofs.«01_k».proof.Proof.Gen.Kernel2Ideal.Points
public import Idealize.ShloMosaic.Lib.Tactic
public import Idealize.ShloMosaic.Lib.Ring
public import Idealize.ShloMosaic.Lib.WordCmp

@[expose] public section

set_option maxRecDepth 65536

noncomputable section

/-!
# The kernel on one tile

Run on the blocks of a tile, the kernel leaves what `Tile` names; at the first point it starts from zeros.
-/

namespace Cert.Proof.Projection

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
local notation "𝕄" => MT nD τ sig Unit (Elt F) ℕ (UU nD τ) ℕ

/-- A whole buffer held at its contents. -/
abbrev held (c : Dev nD) {sp : Space} {s : Shape} {e : EltTy} (M : Memref sig .tc sp s e) (f : BufTy.Contents (Elt F) M.view.ty) : sProp 𝕄 :=
  M.view.loc (c : Thread nD τ) ↦[M.view.set]{fullShare} f

theorem projOver_any (v0 : BitVec 32) (B : Blocks F) (old : Vec F S256x1536 .bf16) : projOver v0 B old = outProj v0 B := by
  funext y
  have h0 : (y 0).val < 256 := (y 0).isLt
  have h1 : (y 1).val < 1536 := (y 1).isLt
  unfold outProj projOver VecWindow.put
  split_ifs with a b d
  · rfl
  · rfl
  · rfl
  · exfalso
    refine d (Fin.forall_fin_two.2 ⟨⟨by simp, by simpa using h0⟩, ?_⟩)
    have a' := fun h => a (Fin.forall_fin_two.2 ⟨⟨by simp, by simpa using h0⟩, h⟩)
    have b' := fun h => b (Fin.forall_fin_two.2 ⟨⟨by simp, by simpa using h0⟩, h⟩)
    simp at a' b' ⊢
    omega

theorem ld {s : Shape} {e : EltTy} (M : Memref sig .tc .vmem s e) (f : BufTy.Contents (Elt F) M.view.ty) (off size : Fin s.rank → ℕ)
    (inb : ∀ a, off a + size a ≤ s.size a) :
    M.view.readAt (Elt F) (Rect.unit (s := s) off size inb).toLoadRect f = VecWindow.window (M.view.read (Elt F) f) off size inb := rfl

/-- The tile that a grid point works on. -/
abbrev tileOf (i : grid0.Coords) : BitVec 32 := Scalar.subi 15#32 (BitVec.ofNat 32 (i 0).val)

/-- At the first point the kernel starts from zeros. -/
def isFirst (i : grid0.Coords) : Prop := Scalar.cmpi .ne (Scalar.extui (Scalar.cmpi .eq (BitVec.ofNat 32 (i 0).val) 0#32) : BitVec 32) 0#32 = 1#1

instance (i : grid0.Coords) : Decidable (isFirst i) := by unfold isFirst; infer_instance

section body
variable (c : Dev nD) (i : grid0.Coords) (arg1 : Memref sig .tc .vmem S8x128x256 .bf16) (harg1 : arg1.IsWhole) (arg2 : Memref sig .tc .vmem S8x128x256 .bf16) (harg2 : arg2.IsWhole) (arg3 : Memref sig .tc .vmem S8x128x256 .bf16) (harg3 : arg3.IsWhole) (arg4 : Memref sig .tc .vmem S8x1x256 .f32) (harg4 : arg4.IsWhole) (arg5 : Memref sig .tc .vmem S256x128 .f32) (harg5 : arg5.IsWhole) (arg6 : Memref sig .tc .vmem S256x512 .f32) (harg6 : arg6.IsWhole) (arg7 : Memref sig .tc .vmem S16x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S3072x1024 .bf16) (harg14 : arg14.IsWhole) (arg15 : Memref sig .tc .vmem S128x1024 .bf16) (harg15 : arg15.IsWhole) (arg16 : Memref sig .tc .vmem S256x1024 .f32) (harg16 : arg16.IsWhole) (arg17 : Memref sig .tc .vmem S256x1536 .bf16) (harg17 : arg17.IsWhole) (arg18 : Memref sig .tc .vmem S128x1024 .f32) (harg18 : arg18.IsWhole) (arg19 : Memref sig .tc .vmem S8x3072 .f32) (harg19 : arg19.IsWhole) (arg20 : Memref sig .tc .vmem S8x128 .f32) (harg20 : arg20.IsWhole) (arg21 : Memref sig .tc .vmem S8x1024 .f32) (harg21 : arg21.IsWhole) (arg22 : Memref sig .tc .vmem S8x128 .f32) (harg22 : arg22.IsWhole)
variable (B : Blocks F) (carry : Vec F S8x128 .f32) (forget : Vec F S128x1024 .f32) (bias : Vec F S8x3072 .f32) (forgetBias : Vec F S8x128 .f32) (mod : Vec F S8x1024 .f32)

theorem body_run (E : Set ℕ) (X1 X2 X3 X4 X5 X6 X7 X8 X9 X10 X11 X12 X13 X14 X15 X18 X19 X20 X21 X22)
    (h1 : arg1.view.read (Elt F) X1 = B.dq) (h2 : arg2.view.read (Elt F) X2 = B.dk) (h3 : arg3.view.read (Elt F) X3 = B.dv) (h4 : arg4.view.read (Elt F) X4 = B.dc) (h5 : arg5.view.read (Elt F) X5 = B.f) (h6 : arg6.view.read (Elt F) X6 = B.dpo) (h7 : arg7.view.read (Elt F) X7 = B.dph) (h8 : arg8.view.read (Elt F) X8 = B.dga) (h9 : arg9.view.read (Elt F) X9 = B.dgp) (h10 : arg10.view.read (Elt F) X10 = B.x) (h11 : arg11.view.read (Elt F) X11 = B.dxa) (h12 : arg12.view.read (Elt F) X12 = B.u) (h13 : arg13.view.read (Elt F) X13 = B.mod) (h14 : arg14.view.read (Elt F) X14 = B.w) (h15 : arg15.view.read (Elt F) X15 = B.wf)
    (h18 : (if isFirst i then k0_pay5 else arg18.view.read (Elt F) X18) = forget) (h19 : (if isFirst i then k0_pay6 else arg19.view.read (Elt F) X19) = bias) (h20 : (if isFirst i then k0_pay7 else arg20.view.read (Elt F) X20) = forgetBias)
    (h21 : (if isFirst i then k0_pay8 else arg21.view.read (Elt F) X21) = mod) (h22 : (if isFirst i then k0_pay4 else arg22.view.read (Elt F) X22) = carry) :
    iprop(held c arg1 X1 ∗ held c arg2 X2 ∗ held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 X14 ∗ held c arg15 X15
      ∗ (∃ g, held c arg16 g) ∗ (∃ g, held c arg17 g) ∗ held c arg18 X18 ∗ held c arg19 X19 ∗ held c arg20 X20 ∗ held c arg21 X21 ∗ held c arg22 X22 : sProp 𝕄) ⊢
      wp frame (wpE defs₀ Variants.none (c : Thread nD τ) none) E (cc0_inproj_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(held c arg1 X1 ∗ held c arg2 X2 ∗ held c arg3 X3 ∗ held c arg4 X4 ∗ held c arg5 X5 ∗ held c arg6 X6 ∗ held c arg7 X7 ∗ held c arg8 X8 ∗ held c arg9 X9 ∗ held c arg10 X10 ∗ held c arg11 X11 ∗ held c arg12 X12 ∗ held c arg13 X13 ∗ held c arg14 X14 ∗ held c arg15 X15
          ∗ (∃ g, held c arg16 g ∗ ⌜arg16.view.read (Elt F) g = outX (tileOf i) B carry⌝)
          ∗ (∃ g, held c arg17 g ∗ ⌜arg17.view.read (Elt F) g = outProj (tileOf i) B⌝)
          ∗ (∃ g, held c arg18 g ∗ ⌜arg18.view.read (Elt F) g = stepForget B carry forget⌝)
          ∗ (∃ g, held c arg19 g ∗ ⌜arg19.view.read (Elt F) g = stepBias (tileOf i) B bias⌝)
          ∗ (∃ g, held c arg20 g ∗ ⌜arg20.view.read (Elt F) g = stepForgetBias B carry forgetBias⌝)
          ∗ (∃ g, held c arg21 g ∗ ⌜arg21.view.read (Elt F) g = stepMod (tileOf i) B carry mod⌝)
          ∗ (∃ g, held c arg22 g ∗ ⌜arg22.view.read (Elt F) g = stepCarry B carry⌝))) := by
  iintro ⟨H1, H2, H3, H4, H5, H6, H7, H8, H9, H10, H11, H12, H13, H14, H15, ⟨%f16, H16⟩, ⟨%f17, H17⟩, H18, H19, H20, H21, H22⟩
  rw [cc0_inproj_backward_eq_skeleton]
  unfold cc0_inproj_backward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  have zero : ∀ {s : Shape} {e : EltTy} (M : Memref sig .tc .vmem s e) (X : BufTy.Contents (Elt F) M.view.ty) (off : Fin s.rank → ℕ)
      (inb : ∀ a, off a + s.size a ≤ s.size a) (w old : Vec F s e), (if isFirst i then w else M.view.read (Elt F) X) = old →
      M.view.read (Elt F) (if isFirst i then M.view.writes (Elt F) X [⟨Rect.unit (s := s) off s.size inb, w⟩] else X) = old := by
    intro s e M X off inb w old h
    rw [← h]
    split
    · exact View.read_writes_full _ _ _ _ _
    · rfl
  have z18 := zero arg18 X18 ![0, 0] inb_S128x1024_S128x1024_0_0 k0_pay5 _ h18
  have z19 := zero arg19 X19 ![0, 0] inb_S8x3072_S8x3072_0_0 k0_pay6 _ h19
  have z20 := zero arg20 X20 ![0, 0] inb_S8x128_S8x128_0_0 k0_pay7 _ h20
  have z21 := zero arg21 X21 ![0, 0] inb_S8x1024_S8x1024_0_0 k0_pay8 _ h21
  have z22 := zero arg22 X22 ![0, 0] inb_S8x128_S8x128_0_0 k0_pay4 _ h22
  have e4 := (View.readAt_full arg4.view X4 (off := ![0, 0, 0]) inb_S8x1x256_S8x1x256_0_0_0).trans h4
  have e5 := (View.readAt_full arg5.view X5 (off := ![0, 0]) inb_S256x128_S256x128_0_0).trans h5
  have e6 := (View.readAt_full arg6.view X6 (off := ![0, 0]) inb_S256x512_S256x512_0_0).trans h6
  have e7 := (View.readAt_full arg7.view X7 (off := ![0, 0]) inb_S16x512_S16x512_0_0).trans h7
  have e8 := (View.readAt_full arg8.view X8 (off := ![0, 0]) inb_S256x512_S256x512_0_0).trans h8
  have e9 := (View.readAt_full arg9.view X9 (off := ![0, 0]) inb_S256x512_S256x512_0_0).trans h9
  have e10 := (View.readAt_full arg10.view X10 (off := ![0, 0]) inb_S256x1024_S256x1024_0_0).trans h10
  have e11 := (View.readAt_full arg11.view X11 (off := ![0, 0]) inb_S256x1024_S256x1024_0_0).trans h11
  have e12 := (View.readAt_full arg12.view X12 (off := ![0, 0]) inb_S256x1024_S256x1024_0_0).trans h12
  have e15 := (View.readAt_full arg15.view X15 (off := ![0, 0]) inb_S128x1024_S128x1024_0_0).trans h15
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _
    isplitl [H16]; · iexact H16
    ipureintro
    rw [View.read_writes_full]
    dsimp only
    delta body_run.sl.r body_run.sl.r_1 body_run.sl.v327
    simp only [outX, du, heads, dlog, carried, one, modRow, poolAll, pool0, pool1, pool2, rows, cols, edge, w0, w1, w2, w3, w4, w5, ← h1, ← h2, ← h3, ← h13, ← h14, ← z22]
    rfl
  isplitl [H17]
  · iexists _
    isplitl [H17]; · iexact H17
    ipureintro
    dsimp only
    rw [View.read_writes_cons_put _ _ _ _ _ rfl, View.read_writes_cons_put _ _ _ _ _ rfl, View.read_writes_cons_put _ _ _ _ _ rfl]
    refine Eq.trans ?_ (projOver_any (tileOf i) B (arg17.view.read (Elt F) f17))
    rfl
  isplitl [H18]
  · iexists _
    isplitl [H18]; · iexact H18
    ipureintro
    rw [View.read_writes_full]
    dsimp only
    have r : body_run.sl.v373 i arg18 X18 = forget := (View.readAt_full arg18.view _ _).trans z18
    rw [r]
    delta body_run.sl.v327
    simp only [stepForget, dlog, carried, one, ← z22]
    rfl
  isplitl [H19]
  · iexists _
    isplitl [H19]; · iexact H19
    ipureintro
    dsimp only
    rw [View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl]
    delta body_run.sl.v9 body_run.sl.v21 body_run.sl.v33 body_run.sl.v267 body_run.sl.v280 body_run.sl.v293
    simp only [stepBias, poolBias, pool0, pool1, pool2, heads, rows, cols, edge, ← h1, ← h2, ← h3, ← z19]
    rfl
  isplitl [H20]
  · iexists _
    isplitl [H20]; · iexact H20
    ipureintro
    rw [View.read_writes_full]
    dsimp only
    have r : body_run.sl.v350 i arg20 X20 = forgetBias := (View.readAt_full arg20.view _ _).trans z20
    rw [r]
    delta body_run.sl.v327
    simp only [stepForgetBias, dlog, carried, one, ← z22]
    rfl
  isplitl [H21]
  · iexists _
    isplitl [H21]; · iexact H21
    ipureintro
    dsimp only
    rw [View.read_writes_cons_put _ _ _ _ _ rfl, View.read_writes_cons_put _ _ _ _ _ rfl]
    delta body_run.sl.r body_run.sl.r_1 body_run.sl.v327 body_run.sl.v388 body_run.sl.v395
    simp only [stepMod, du, heads, dlog, carried, one, modRow, poolAll, pool0, pool1, pool2, rows, cols, edge, w0, w1, w2, w3, w4, w5, ← h1, ← h2, ← h3, ← h14, ← z22, ← z21]
    rfl
  · iexists _
    isplitl [H22]; · iexact H22
    ipureintro
    rw [View.read_writes_cons_put _ _ _ _ _ rfl]
    delta body_run.sl.v327
    simp only [stepCarry, carried, ← z22]
    rfl
end body

end Cert.Proof.Projection
-- ==== Proof.Projection.Launch.lean ====
module

public import proofs.«01_k».proof.Defs
public import proofs.«01_k».proof.Proof.Projection.Body
public import proofs.«01_k».proof.Proof.Gen.Kernel2Ideal.Frame
public import Idealize.ShloMosaic.Lib.Claim

@[expose] public section

set_option maxRecDepth 16384

noncomputable section

/-!
# The run over the tiles

The sixteen points go from the last tile to the first. The sums over the tiles seen so far stay in their result blocks,
the sum of the log gates' gradients in a scratch buffer.
-/

namespace Cert.Proof.Projection

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What is carried from tile to tile. -/
structure Sums (F : FTy → Type) where
  carry : Vec F S8x128 .f32
  forget : Vec F S128x1024 .f32
  bias : Vec F S8x3072 .f32
  forgetBias : Vec F S8x128 .f32
  mod : Vec F S8x1024 .f32

/-- Nothing is summed yet. -/
def Sums.start : Sums F := ⟨k0_pay4, k0_pay5, k0_pay6, k0_pay7, k0_pay8⟩

/-- One more tile. -/
def Sums.step (v0 : BitVec 32) (B : Blocks F) (s : Sums F) : Sums F :=
  ⟨stepCarry B s.carry, stepForget B s.carry s.forget, stepBias v0 B s.bias, stepForgetBias B s.carry s.forgetBias, stepMod v0 B s.carry s.mod⟩

variable (m : (ℓ : Loc nD τ sig) → Buf (Elt F) ℓ) (ρ : Dev nD → PrngReg)

/-- The blocks of point `t`. -/
def blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

/-- The sums before point `n`. -/
def sums (c : Dev nD) : (n : ℕ) → n ≤ cfg0.N → Sums F
  | 0, _ => Sums.start
  | n + 1, h => Sums.step (tileOf (grid0.coords ⟨n, h⟩)) (blocks m c ⟨n, h⟩) (sums c n (Nat.le_of_lt h))

abbrev sumsAt (c : Dev nD) (t : Fin cfg0.N) : Sums F := sums m c t.val (Nat.le_of_lt t.isLt)
abbrev sumsAfter (c : Dev nD) (t : Fin cfg0.N) : Sums F := sums m c (t.val + 1) t.isLt

theorem sumsAfter_eq (c : Dev nD) (t : Fin cfg0.N) : sumsAfter m c t = Sums.step (tileOf (grid0.coords t)) (blocks m c t) (sumsAt m c t) := rfl

theorem first_iff : ∀ t : Fin cfg0.N, isFirst (grid0.coords t) ↔ t.val = 0 := by decide +kernel

/-- The scratch buffer of the carry. -/
abbrev scratch : Memref sig .tc .vmem S8x128 .f32 := Memref.whole cc0_scratch0

/-- Before the first point the scratch holds anything, later the carry. -/
def phi (c : Dev nD) : (n : ℕ) → n ≤ cfg0.N → sProp 𝕄
  | 0, _ => Pipeline.ΦA spec0 c
  | n + 1, h => iprop(owns (c : Thread nD τ) scratch fullShare (sums m c (n + 1) h).carry ∗ (∃ r, prngReg c r))

/-- What the region holds of core `c`: each input block stays, each result block holds what the kernel leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outX (tileOf (grid0.coords t)) (blocks m c t) (sumsAt m c t).carry
    | ⟨16, _⟩ => outProj (tileOf (grid0.coords t)) (blocks m c t)
    | ⟨17, _⟩ => (sumsAfter m c t).forget
    | ⟨18, _⟩ => (sumsAfter m c t).bias
    | ⟨19, _⟩ => (sumsAfter m c t).forgetBias
    | ⟨20, _⟩ => (sumsAfter m c t).mod
    | ⟨_ + 21, h⟩ => absurd h (Nat.not_lt.2 (Nat.le_add_left _ _))
  Φ t := phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = iblk m c 14 t := by dsimp only [dats]
theorem after0_15 : (dats m 0 c).after 15 t = outX (tileOf (grid0.coords t)) (blocks m c t) (sumsAt m c t).carry := by dsimp only [dats]
theorem after0_16 : (dats m 0 c).after 16 t = outProj (tileOf (grid0.coords t)) (blocks m c t) := by dsimp only [dats]
theorem after0_17 : (dats m 0 c).after 17 t = (sumsAfter m c t).forget := by dsimp only [dats]
theorem after0_18 : (dats m 0 c).after 18 t = (sumsAfter m c t).bias := by dsimp only [dats]
theorem after0_19 : (dats m 0 c).after 19 t = (sumsAfter m c t).forgetBias := by dsimp only [dats]
theorem after0_20 : (dats m 0 c).after 20 t = (sumsAfter m c t).mod := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d
theorem before0_6 (d) : (dats m 0 c).before 6 t d = iblk m c 6 t := before0_6_of m (dats m 0 c) (A_eq m c 6) (after0_6 m c) t d
theorem before0_7 (d) : (dats m 0 c).before 7 t d = iblk m c 7 t := before0_7_of m (dats m 0 c) (A_eq m c 7) (after0_7 m c) t d
theorem before0_8 (d) : (dats m 0 c).before 8 t d = iblk m c 8 t := before0_8_of m (dats m 0 c) (A_eq m c 8) (after0_8 m c) t d
theorem before0_9 (d) : (dats m 0 c).before 9 t d = iblk m c 9 t := before0_9_of m (dats m 0 c) (A_eq m c 9) (after0_9 m c) t d
theorem before0_10 (d) : (dats m 0 c).before 10 t d = iblk m c 10 t := before0_10_of m (dats m 0 c) (A_eq m c 10) (after0_10 m c) t d
theorem before0_11 (d) : (dats m 0 c).before 11 t d = iblk m c 11 t := before0_11_of m (dats m 0 c) (A_eq m c 11) (after0_11 m c) t d
theorem before0_12 (d) : (dats m 0 c).before 12 t d = iblk m c 12 t := before0_12_of m (dats m 0 c) (A_eq m c 12) (after0_12 m c) t d
theorem before0_13 (d) : (dats m 0 c).before 13 t d = iblk m c 13 t := before0_13_of m (dats m 0 c) (A_eq m c 13) (after0_13 m c) t d
theorem before0_14 (d) : (dats m 0 c).before 14 t d = iblk m c 14 t := before0_14_of m (dats m 0 c) (A_eq m c 14) (after0_14 m c) t d

theorem unflushed {w : Fin cfg0.W} (h : ∀ t : Fin cfg0.N, (cfg0.win w).flush t = true ↔ t.val % 16 = 15) (t : Fin cfg0.N) (ht : t.val ≠ 0) :
    (cfg0.win w).flush ⟨t.val - 1, Nat.lt_of_le_of_lt (Nat.sub_le _ _) t.isLt⟩ = false := by
  rw [← Bool.not_eq_true, h]
  have hN : t.val < 16 := lt_of_lt_of_eq t.isLt (show cfg0.N = 16 from N_0)
  show ¬ (t.val - 1) % 16 = 15
  omega

theorem sumsAfter_pred {t : Fin cfg0.N} (ht : t.val ≠ 0) :
    sumsAfter m c ⟨t.val - 1, Nat.lt_of_le_of_lt (Nat.sub_le _ _) t.isLt⟩ = sumsAt m c t := by
  obtain ⟨n, hn⟩ := t
  cases n with
  | zero => exact absurd rfl ht
  | succ n => rfl

theorem sumsAt_first {t : Fin cfg0.N} (ht : t.val = 0) : sumsAt m c t = Sums.start := by
  obtain ⟨n, hn⟩ := t
  subst ht
  rfl

theorem before0_17 (d) : (if isFirst (grid0.coords t) then k0_pay5 else (dats m 0 c).before 17 t d) = (sumsAt m c t).forget := by
  split_ifs with h
  · rw [sumsAt_first m c ((first_iff t).1 h)]; rfl
  · have ht : t.val ≠ 0 := fun e => h ((first_iff t).2 e)
    rw [(dats m 0 c).before_out_kept 17 rfl t ht (unflushed flush0_17 t ht) (fun _ => rfl) (fun _ _ => rfl) d, after0_17, sumsAfter_pred m c ht]
theorem before0_18 (d) : (if isFirst (grid0.coords t) then k0_pay6 else (dats m 0 c).before 18 t d) = (sumsAt m c t).bias := by
  split_ifs with h
  · rw [sumsAt_first m c ((first_iff t).1 h)]; rfl
  · have ht : t.val ≠ 0 := fun e => h ((first_iff t).2 e)
    rw [(dats m 0 c).before_out_kept 18 rfl t ht (unflushed flush0_18 t ht) (fun _ => rfl) (fun _ _ => rfl) d, after0_18, sumsAfter_pred m c ht]
theorem before0_19 (d) : (if isFirst (grid0.coords t) then k0_pay7 else (dats m 0 c).before 19 t d) = (sumsAt m c t).forgetBias := by
  split_ifs with h
  · rw [sumsAt_first m c ((first_iff t).1 h)]; rfl
  · have ht : t.val ≠ 0 := fun e => h ((first_iff t).2 e)
    rw [(dats m 0 c).before_out_kept 19 rfl t ht (unflushed flush0_19 t ht) (fun _ => rfl) (fun _ _ => rfl) d, after0_19, sumsAfter_pred m c ht]
theorem before0_20 (d) : (if isFirst (grid0.coords t) then k0_pay8 else (dats m 0 c).before 20 t d) = (sumsAt m c t).mod := by
  split_ifs with h
  · rw [sumsAt_first m c ((first_iff t).1 h)]; rfl
  · have ht : t.val ≠ 0 := fun e => h ((first_iff t).2 e)
    rw [(dats m 0 c).before_out_kept 20 rfl t ht (unflushed flush0_20 t ht) (fun _ => rfl) (fun _ _ => rfl) d, after0_20, sumsAfter_pred m c ht]
end

/-- The scratch buffer before and after a point. -/
theorem phi_before (c : Dev nD) (t : Fin cfg0.N) : (dats m 0 c).Φ t.castSucc
    ⊢ iprop((∃ g, ⌜(if isFirst (grid0.coords t) then k0_pay4 else scratch.view.read (Elt F) g) = (sumsAt m c t).carry⌝ ∗ held c scratch g) ∗ (∃ r, prngReg c r)) := by
  rw [show (dats m 0 c).Φ t.castSucc = phi m c t.val (Nat.le_of_lt t.isLt) from rfl]
  obtain ⟨n, hn⟩ := t
  cases n with
  | zero =>
    unfold phi Pipeline.ΦA; rw [scopedRest0_eq]
    iintro ⟨⟨%g, H⟩, Hg⟩
    isplitl [H]
    · iexists g
      isplitr
      · ipureintro
        rw [if_pos ((first_iff _).2 rfl)]
        rfl
      · simp only [held, Memref.view_whole, View.set_whole]
        iexact H
    · iexact Hg
  | succ n =>
    unfold phi owns
    iintro ⟨⟨%g, %e, H⟩, Hg⟩
    isplitl [H]
    · iexists g
      isplitr
      · ipureintro
        rw [if_neg (fun h => Nat.succ_ne_zero n ((first_iff _).1 h))]
        exact e
      · iexact H
    · iexact Hg

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = phi m c 16 (by decide) from rfl]
  unfold phi owns Pipeline.ΦA; rw [scopedRest0_eq]
  iintro ⟨⟨%g, %e, H⟩, Hg⟩
  isplitl [H]
  · iexists g
    simp only [Memref.view_whole, View.set_whole]
    iexact H
  · iexact Hg

/-- The buffers the kernel works on at point `t`. -/
abbrev st0 (t : Fin cfg0.N) : Memref sig .tc .vmem S8x128x256 .bf16 := win0_0.stage (cfg0.slots t 0)
abbrev st1 (t : Fin cfg0.N) : Memref sig .tc .vmem S8x128x256 .bf16 := win0_1.stage (cfg0.slots t 1)
abbrev st2 (t : Fin cfg0.N) : Memref sig .tc .vmem S8x128x256 .bf16 := win0_2.stage (cfg0.slots t 2)
abbrev st3 (t : Fin cfg0.N) : Memref sig .tc .vmem S8x1x256 .f32 := win0_3.stage (cfg0.slots t 3)
abbrev st4 (t : Fin cfg0.N) : Memref sig .tc .vmem S256x128 .f32 := win0_4.stage (cfg0.slots t 4)
abbrev st5 (t : Fin cfg0.N) : Memref sig .tc .vmem S256x512 .f32 := win0_5.stage (cfg0.slots t 5)
abbrev st6 (t : Fin cfg0.N) : Memref sig .tc .vmem S16x512 .f32 := win0_6.stage (cfg0.slots t 6)
abbrev st7 (t : Fin cfg0.N) : Memref sig .tc .vmem S256x512 .f32 := win0_7.stage (cfg0.slots t 7)
abbrev st8 (t : Fin cfg0.N) : Memref sig .tc .vmem S256x512 .f32 := win0_8.stage (cfg0.slots t 8)
abbrev st9 (t : Fin cfg0.N) : Memref sig .tc .vmem S256x1024 .f32 := win0_9.stage (cfg0.slots t 9)
abbrev st10 (t : Fin cfg0.N) : Memref sig .tc .vmem S256x1024 .f32 := win0_10.stage (cfg0.slots t 10)
abbrev st11 (t : Fin cfg0.N) : Memref sig .tc .vmem S256x1024 .bf16 := win0_11.stage (cfg0.slots t 11)
abbrev st12 (t : Fin cfg0.N) : Memref sig .tc .vmem S8x1024 .f32 := win0_12.stage (cfg0.slots t 12)
abbrev st13 (t : Fin cfg0.N) : Memref sig .tc .vmem S3072x1024 .bf16 := win0_13.stage (cfg0.slots t 13)
abbrev st14 (t : Fin cfg0.N) : Memref sig .tc .vmem S128x1024 .bf16 := win0_14.stage (cfg0.slots t 14)
abbrev st15 (t : Fin cfg0.N) : Memref sig .tc .vmem S256x1024 .f32 := win0_15.stage (cfg0.slots t 15)
abbrev st16 (t : Fin cfg0.N) : Memref sig .tc .vmem S256x1536 .bf16 := win0_16.stage (cfg0.slots t 16)
abbrev st17 (t : Fin cfg0.N) : Memref sig .tc .vmem S128x1024 .f32 := win0_17.stage (cfg0.slots t 17)
abbrev st18 (t : Fin cfg0.N) : Memref sig .tc .vmem S8x3072 .f32 := win0_18.stage (cfg0.slots t 18)
abbrev st19 (t : Fin cfg0.N) : Memref sig .tc .vmem S8x128 .f32 := win0_19.stage (cfg0.slots t 19)
abbrev st20 (t : Fin cfg0.N) : Memref sig .tc .vmem S8x1024 .f32 := win0_20.stage (cfg0.slots t 20)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d))
    ∗ (∃ d, owns (c : Thread nD τ) (st17 t) fullShare ((dats m 0 c).before 17 t d))
    ∗ (∃ d, owns (c : Thread nD τ) (st18 t) fullShare ((dats m 0 c).before 18 t d))
    ∗ (∃ d, owns (c : Thread nD τ) (st19 t) fullShare ((dats m 0 c).before 19 t d))
    ∗ (∃ d, owns (c : Thread nD τ) (st20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t)
    ∗ owns (c : Thread nD τ) (st14 t) fullShare ((dats m 0 c).after 14 t)
    ∗ owns (c : Thread nD τ) (st15 t) fullShare ((dats m 0 c).after 15 t)
    ∗ owns (c : Thread nD τ) (st16 t) fullShare ((dats m 0 c).after 16 t)
    ∗ owns (c : Thread nD τ) (st17 t) fullShare ((dats m 0 c).after 17 t)
    ∗ owns (c : Thread nD τ) (st18 t) fullShare ((dats m 0 c).after 18 t)
    ∗ owns (c : Thread nD τ) (st19 t) fullShare ((dats m 0 c).after 19 t)
    ∗ owns (c : Thread nD τ) (st20 t) fullShare ((dats m 0 c).after 20 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl, after0_0, after0_1, after0_2, after0_3, after0_4, after0_5, after0_6, after0_7, after0_8, after0_9, after0_10, after0_11, after0_12, after0_13, after0_14, after0_15, after0_16, after0_17, after0_18, after0_19, after0_20,
    show (dats m 0 c).Φ t.succ = iprop(owns (c : Thread nD τ) scratch fullShare (sumsAfter m c t).carry ∗ (∃ r, prngReg c r)) from rfl]
  unfold owns
  iintro ⟨HP, Ho, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩, ⟨%d13, ⟨%f13, %e13, H13⟩⟩, ⟨%d14, ⟨%f14, %e14, H14⟩⟩, ⟨%d15, ⟨%f15, %e15, H15⟩⟩, ⟨%d16, ⟨%f16, %e16, H16⟩⟩, ⟨%d17, ⟨%f17, %e17, H17⟩⟩, ⟨%d18, ⟨%f18, %e18, H18⟩⟩, ⟨%d19, ⟨%f19, %e19, H19⟩⟩, ⟨%d20, ⟨%f20, %e20, H20⟩⟩⟩
  ihave HP := (phi_before m c t) $$ HP
  icases HP with ⟨⟨%g, %e, HS⟩, Hg⟩
  iapply (wp_wand_r frame (wpE (defs₀ (F := F)) Variants.none c none) Set.univ)
  isplitl [H0 H1 H2 H3 H4 H5 H6 H7 H8 H9 H10 H11 H12 H13 H14 H15 H16 H17 H18 H19 H20 HS]
  · iapply (body_run c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) (st11 t) (hstage0_11 ((cfg0.slots t 11).cast nbuf0_11)) (st12 t) (hstage0_12 ((cfg0.slots t 12).cast nbuf0_12)) (st13 t) (hstage0_13 ((cfg0.slots t 13).cast nbuf0_13)) (st14 t) (hstage0_14 ((cfg0.slots t 14).cast nbuf0_14)) (st15 t) (hstage0_15 ((cfg0.slots t 15).cast nbuf0_15)) (st16 t) (hstage0_16 ((cfg0.slots t 16).cast nbuf0_16)) (st17 t) (hstage0_17 ((cfg0.slots t 17).cast nbuf0_17)) (st18 t) (hstage0_18 ((cfg0.slots t 18).cast nbuf0_18)) (st19 t) (hstage0_19 ((cfg0.slots t 19).cast nbuf0_19)) (st20 t) (hstage0_20 ((cfg0.slots t 20).cast nbuf0_20)) scratch (Memref.isWhole_whole _) (blocks m c t)
      (sumsAt m c t).carry (sumsAt m c t).forget (sumsAt m c t).bias (sumsAt m c t).forgetBias (sumsAt m c t).mod Set.univ
      f0 f1 f2 f3 f4 f5 f6 f7 f8 f9 f10 f11 f12 f13 f14 f17 f18 f19 f20 g e0 e1 e2 e3 e4 e5 e6 e7 e8 e9 e10 e11 e12 e13 e14 ((congrArg (fun z => if isFirst (grid0.coords t) then k0_pay5 else z) e17).trans (before0_17 m c t d17)) ((congrArg (fun z => if isFirst (grid0.coords t) then k0_pay6 else z) e18).trans (before0_18 m c t d18)) ((congrArg (fun z => if isFirst (grid0.coords t) then k0_pay7 else z) e19).trans (before0_19 m c t d19)) ((congrArg (fun z => if isFirst (grid0.coords t) then k0_pay8 else z) e20).trans (before0_20 m c t d20)) e)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists f15; iexact H15
    isplitl [H16]; · iexists f16; iexact H16
    isplitl [H17]; · iexact H17
    isplitl [H18]; · iexact H18
    isplitl [H19]; · iexact H19
    isplitl [H20]; · iexact H20
    iexact HS
  iintro %a ⟨H0, H1, H2, H3, H4, H5, H6, H7, H8, H9, H10, H11, H12, H13, H14, ⟨%g15, H15, %i15⟩, ⟨%g16, H16, %i16⟩, ⟨%g17, H17, %i17⟩, ⟨%g18, H18, %i18⟩, ⟨%g19, H19, %i19⟩, ⟨%g20, H20, %i20⟩, ⟨%gs, HS, %is⟩⟩
  isplitl [Hg HS]
  · isplitr [Hg]
    · iexists gs; isplitr
      · ipureintro; exact is
      · iexact HS
    · iexact Hg
  isplitl [Ho]; · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists f6; isplitr
    · ipureintro; exact e6
    · iexact H6
  isplitl [H7]
  · iexists f7; isplitr
    · ipureintro; exact e7
    · iexact H7
  isplitl [H8]
  · iexists f8; isplitr
    · ipureintro; exact e8
    · iexact H8
  isplitl [H9]
  · iexists f9; isplitr
    · ipureintro; exact e9
    · iexact H9
  isplitl [H10]
  · iexists f10; isplitr
    · ipureintro; exact e10
    · iexact H10
  isplitl [H11]
  · iexists f11; isplitr
    · ipureintro; exact e11
    · iexact H11
  isplitl [H12]
  · iexists f12; isplitr
    · ipureintro; exact e12
    · iexact H12
  isplitl [H13]
  · iexists f13; isplitr
    · ipureintro; exact e13
    · iexact H13
  isplitl [H14]
  · iexists f14; isplitr
    · ipureintro; exact e14
    · iexact H14
  isplitl [H15]
  · iexists g15; isplitr
    · ipureintro; exact i15
    · iexact H15
  isplitl [H16]
  · iexists g16; isplitr
    · ipureintro; exact i16
    · iexact H16
  isplitl [H17]
  · iexists g17; isplitr
    · ipureintro; exact i17
    · iexact H17
  isplitl [H18]
  · iexists g18; isplitr
    · ipureintro; exact i18
    · iexact H18
  isplitl [H19]
  · iexists g19; isplitr
    · ipureintro; exact i19
    · iexact H19
  iexists g20; isplitr
  · ipureintro; exact i20
  · iexact H20

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: every result array holds the blocks the kernel left, and all counters are zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.Proof.Projection
-- ==== Proof.Projection.Words.lean ====
module

public import proofs.«01_k».proof.Defs
public import proofs.«01_k».proof.Proof.Projection.Launch
public import proofs.«01_k».proof.Proof.Gen.Kernel2.Launch
public import proofs.«01_k».proof.Proof.Attention.Words
public import Idealize.ShloMosaic.Lib.Tactic

@[expose] public section

set_option maxRecDepth 65536

noncomputable section

namespace Cert.Proof.Projection

open Idealize.ShloMosaic Idealize.ShloMosaic.TcCoe Idealize.ShloMosaic.Tactic
open Idealize.SL Idealize.SL.Sem

theorem defs_word : Cert.Kernel2.defs (F := Bits) = Cert.Kernel2Ideal.defs (F := Bits) := by
  sl_kernel_rfl

theorem main_word : Cert.Kernel2.main (F := Bits) = Cert.Kernel2Ideal.main (F := Bits) := by
  sl_kernel_rfl

set_option maxHeartbeats 4000000 in
/-- The printed program is the other one read over the words. -/
theorem frame_word (m : (ℓ : Loc Cert.Kernel2.nD Cert.Kernel2.τ Cert.Kernel2.sig) → Buf (Elt Bits) ℓ) (g : Dev Cert.Kernel2.nD → PrngReg) :
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0) := by
  rw [defs_word, main_word]
  exact frame (F := Bits) m g

end Cert.Proof.Projection
-- ==== Proof.Projection.Reals.lean ====
module

public import proofs.«01_k».proof.Proof.Attention.Reals

@[expose] public section

noncomputable section

/-!
# The gradient of the input projection over the real numbers

Sums over the tokens are sums over all tokens from some token on: the kernel gathers them from the last tile to the
first, and the gradient of a running sum is one.
-/

namespace Cert.Proof.Projection

open Finset

/-- A sequence of the tokens, zero behind the last. -/
def ext (g : Fin 4096 → ℝ) (n : ℕ) : ℝ := if h : n < 4096 then g ⟨n, h⟩ else 0

theorem ext_of_lt (g : Fin 4096 → ℝ) {n : ℕ} (h : n < 4096) : ext g n = g ⟨n, h⟩ := dif_pos h
theorem ext_of_le (g : Fin 4096 → ℝ) {n : ℕ} (h : 4096 ≤ n) : ext g n = 0 := dif_neg (not_lt.mpr h)

/-- The sum from token `n` on. -/
def after (g : Fin 4096 → ℝ) (n : ℕ) : ℝ := ∑ k ∈ range 4096, ext g (n + k)

theorem after_split (g : Fin 4096 → ℝ) (n m : ℕ) :
    after g n = ∑ k ∈ range m, ext g (n + k) + after g (n + m) := by
  unfold after
  have h1 := sum_range_add (fun k => ext g (n + k)) m 4096
  have h2 := sum_range_add (fun k => ext g (n + k)) 4096 m
  have h3 : ∑ k ∈ range m, ext g (n + (4096 + k)) = 0 := sum_eq_zero fun k _ => ext_of_le g (by omega)
  rw [h3, add_zero, add_comm 4096 m, h1] at h2
  simp only [add_assoc] at h2 ⊢
  exact h2.symm

theorem after_end (g : Fin 4096 → ℝ) : after g 4096 = 0 := sum_eq_zero fun k _ => ext_of_le g (by omega)

theorem after_zero (g : Fin 4096 → ℝ) : after g 0 = ∑ s, g s := by
  unfold after
  rw [← Fin.sum_univ_eq_sum_range (fun k => ext g (0 + k)) 4096]
  exact sum_congr rfl fun s _ => by rw [zero_add, ext_of_lt g s.isLt]

/-- A stretch of a sequence, as a sum over a longer one under a mask. -/
theorem sum_mask (f : ℕ → ℝ) {r w N : ℕ} (h : r + w ≤ N) :
    ∑ k ∈ range N, (if r ≤ k ∧ k < r + w then f k else 0) = ∑ k ∈ range w, f (r + k) := by
  obtain ⟨d, rfl⟩ := Nat.exists_eq_add_of_le h
  rw [sum_range_add _ (r + w) d, sum_range_add _ r w]
  have h1 : ∑ k ∈ range r, (if r ≤ k ∧ k < r + w then f k else 0) = 0 :=
    sum_eq_zero fun k hk => if_neg fun e => by have := mem_range.mp hk; omega
  have h2 : ∑ k ∈ range d, (if r ≤ r + w + k ∧ r + w + k < r + w then f (r + w + k) else 0) = 0 :=
    sum_eq_zero fun k _ => if_neg (by omega)
  rw [h1, h2, zero_add, add_zero]
  exact sum_congr rfl fun k hk => if_pos (by have := mem_range.mp hk; omega)

/-- The tokens of a tile, tiles counted from the last. -/
def token (t : Fin 16) (r : Fin 256) : Fin 4096 := ⟨256 * (15 - t.val) + r.val, by omega⟩

/-- A tile's share of a sum over the tokens. -/
theorem after_tile (g : Fin 4096 → ℝ) (t : Fin 16) :
    after g (256 * (16 - (t.val + 1))) = after g (256 * (16 - t.val)) + ∑ r, g (token t r) := by
  rw [after_split g _ 256, add_comm]
  congr 1
  · congr 1; omega
  · rw [← Fin.sum_univ_eq_sum_range (fun k => ext g (256 * (16 - (t.val + 1)) + k)) 256]
    refine sum_congr rfl fun r _ => ?_
    rw [ext_of_lt g (by omega)]
    exact congrArg g (Fin.ext (by simp only [token]; omega))

/-- A sum from a token of a tile on: what the tile adds, and the tokens behind it. -/
theorem after_token (g : Fin 4096 → ℝ) (t : Fin 16) (r : Fin 256) :
    after g (token t r).val
      = (∑ k : Fin 256, g (token t k) * (if r ≤ k then 1 else 0)) + after g (256 * (16 - t.val)) := by
  rw [after_split g _ (256 - r.val)]
  congr 1
  · rw [← sum_mask (fun k => ext g (256 * (15 - t.val) + k)) (r := r.val) (w := 256 - r.val) (N := 256) (by omega) |>.trans
        (sum_congr rfl fun k _ => by rw [token, add_assoc]),
      ← Fin.sum_univ_eq_sum_range (fun k => if r.val ≤ k ∧ k < r.val + (256 - r.val) then ext g (256 * (15 - t.val) + k) else 0) 256]
    refine sum_congr rfl fun k _ => ?_
    have hk : 256 * (15 - t.val) + k.val < 4096 := by omega
    by_cases h : r ≤ k
    · rw [if_pos h, if_pos ⟨h, by omega⟩, ext_of_lt g hk, mul_one]; rfl
    · rw [if_neg h, if_neg fun e => h e.1, mul_zero]
  · congr 1; simp only [token]; omega

/-- A short stretch of the tokens from one of a tile on: the tile's tokens, and sixteen behind it. -/
theorem short_sum (g : Fin 4096 → ℝ) (t : Fin 16) (r : Fin 256) {w : ℕ} (hw : w ≤ 16) :
    ∑ k ∈ range w, ext g ((token t r).val + k)
      = (∑ k : Fin 256, (if r.val ≤ k.val ∧ k.val < r.val + w then 1 else 0) * g (token t k))
        + if 240 ≤ r.val then ∑ k : Fin 16, (if 256 + k.val < r.val + w then 1 else 0) * ext g (256 * (16 - t.val) + k.val) else 0 := by
  have hm := sum_mask (fun k => ext g (256 * (15 - t.val) + k)) (r := r.val) (w := w) (N := 256 + 16) (by omega)
  rw [sum_range_add] at hm
  have e : ∑ k ∈ range w, ext g ((token t r).val + k) = ∑ k ∈ range w, ext g (256 * (15 - t.val) + (r.val + k)) :=
    sum_congr rfl fun k _ => by rw [token, add_assoc]
  rw [e, ← hm]
  congr 1
  · rw [← Fin.sum_univ_eq_sum_range (fun k => if r.val ≤ k ∧ k < r.val + w then ext g (256 * (15 - t.val) + k) else 0) 256]
    refine sum_congr rfl fun k _ => ?_
    rw [ext_of_lt g (by omega : 256 * (15 - t.val) + k.val < 4096)]
    by_cases h : r.val ≤ k.val ∧ k.val < r.val + w
    · rw [if_pos h, if_pos h, one_mul]; rfl
    · rw [if_neg h, if_neg h, zero_mul]
  · by_cases hr : 240 ≤ r.val
    · rw [if_pos hr, ← Fin.sum_univ_eq_sum_range (fun k => if r.val ≤ 256 + k ∧ 256 + k < r.val + w then ext g (256 * (15 - t.val) + (256 + k)) else 0) 16]
      refine sum_congr rfl fun k _ => ?_
      have ek : 256 * (15 - t.val) + (256 + k.val) = 256 * (16 - t.val) + k.val := by omega
      rw [ek]
      by_cases h : 256 + k.val < r.val + w
      · rw [if_pos ⟨by omega, h⟩, if_pos h, one_mul]
      · rw [if_neg fun e => h e.2, if_neg h, zero_mul]
    · rw [if_neg hr]
      exact sum_eq_zero fun k _ => if_neg (by omega)

/-- What the gradient is taken of and at. -/
structure Data where
  (dq dk dv dpo dga dgp : Fin 4096 → Fin 512 → ℝ)
  (dc f : Fin 4096 → Fin 8 → ℝ)
  (x dxa u : Fin 4096 → Fin 1024 → ℝ)
  sc : Fin 1024 → ℝ
  w : Fin 1024 → Fin 3080 → ℝ

namespace Data

variable (D : Data)

/-- The width of a pooling group's window. -/
def width (c : Fin 512) : ℕ := 2 ^ (c.val / 128 + 1)

theorem width_le (c : Fin 512) : width c ≤ 16 :=
  (Nat.pow_le_pow_right (by norm_num) (by have := c.isLt; omega : c.val / 128 + 1 ≤ 4)).trans (by norm_num)

/-- The derivative in a window's mean, shared among the tokens of the window. -/
def share (c : Fin 512) (s : Fin 4096) : ℝ := D.dpo s c / (min (s.val + 1) (width c) : ℕ)

/-- The gradient of the pooled channels. -/
def pool (s : Fin 4096) (c : Fin 512) : ℝ := (∑ k ∈ range (width c), ext (D.share c) (s.val + k)) - D.dpo s c

/-- The derivative of the windows' sums, each the difference of two running sums. -/
theorem pool_eq (s : Fin 4096) (c : Fin 512) :
    D.pool s c = (∑ k ∈ range 4096, (ext (D.share c) (s.val + k) - ext (D.share c) (s.val + k + width c))) - D.dpo s c := by
  unfold pool
  congr 1
  have h := after_split (D.share c) s.val (width c)
  have e : ∑ k ∈ range 4096, ext (D.share c) (s.val + k + width c) = after (D.share c) (s.val + width c) :=
    sum_congr rfl fun k _ => by rw [add_right_comm]
  rw [sum_sub_distrib, e]
  unfold after at h ⊢
  linarith

/-- The gradient of a gate's logarithm, and of its logit. -/
def gate (h : Fin 8) (s : Fin 4096) : ℝ := after (fun r => D.dc r h) s.val
def forget (s : Fin 4096) (h : Fin 8) : ℝ := D.gate h s * (1 / (1 + Real.exp (D.f s h)))

/-- The same in 128 lanes. -/
def lane (s : Fin 4096) (l : Fin 128) : ℝ := if h : l.val < 8 then D.forget s ⟨l.val, h⟩ else 0

/-- The columns of the projection without the gates' logits, in six groups. -/
def column (k : Fin 6) (c : Fin 512) : Fin 3080 := ⟨if k.val < 3 then 512 * k.val + c.val else 512 * k.val + c.val + 8, by split <;> omega⟩
def logit (h : Fin 8) : Fin 3080 := ⟨1536 + h.val, by omega⟩
def main (k : Fin 6) : Fin 4096 → Fin 512 → ℝ := ![D.dq, D.dk, D.dv, D.pool, D.dga, D.dgp] k

/-- The gradient of the modulated input. -/
def du (s : Fin 4096) (j : Fin 1024) : ℝ :=
  (∑ k : Fin 6, ∑ c, D.main k s c * D.w j (column k c)) + ∑ h, D.forget s h * D.w j (logit h)

def gradX (s : Fin 4096) (j : Fin 1024) : ℝ := D.dxa s j + D.du s j * (1 + D.sc j)
def gradForget (l : Fin 128) (j : Fin 1024) : ℝ := ∑ s, D.lane s l * D.u s j
def gradBias (k : Fin 6) (c : Fin 512) : ℝ := ∑ s, D.main k s c
def gradForgetBias (l : Fin 128) : ℝ := ∑ s, D.lane s l
def gradScale (j : Fin 1024) : ℝ := ∑ s, D.du s j * D.x s j
def gradShift (j : Fin 1024) : ℝ := ∑ s, D.du s j

end Data

/-- A sum over the projection's columns, group by group. -/
theorem sum_columns {α : Type*} [AddCommMonoid α] (g : Fin 3080 → α) :
    ∑ e, g e = (∑ k : Fin 6, ∑ c, g (Data.column k c)) + ∑ h, g (Data.logit h) := by
  have e1 := Fin.sum_univ_add (M := α) (a := 512) (b := 2568) g
  have e2 := Fin.sum_univ_add (M := α) (a := 512) (b := 2056) fun i => g (Fin.natAdd 512 i)
  have e3 := Fin.sum_univ_add (M := α) (a := 512) (b := 1544) fun i => g (Fin.natAdd 512 (Fin.natAdd 512 i))
  have e4 := Fin.sum_univ_add (M := α) (a := 8) (b := 1536) fun i => g (Fin.natAdd 512 (Fin.natAdd 512 (Fin.natAdd 512 i)))
  have e5 := Fin.sum_univ_add (M := α) (a := 512) (b := 1024) fun i => g (Fin.natAdd 512 (Fin.natAdd 512 (Fin.natAdd 512 (Fin.natAdd 8 i))))
  have e6 := Fin.sum_univ_add (M := α) (a := 512) (b := 512) fun i => g (Fin.natAdd 512 (Fin.natAdd 512 (Fin.natAdd 512 (Fin.natAdd 8 (Fin.natAdd 512 i)))))
  refine e1.trans ?_
  rw [e2, e3, e4, e5, e6, Fin.sum_univ_six]
  have c0 : ∀ c : Fin 512, Data.column 0 c = Fin.castAdd 2568 c := fun c => Fin.ext (by simp [Data.column])
  have c1 : ∀ c : Fin 512, Data.column 1 c = Fin.natAdd 512 (Fin.castAdd 2056 c) := fun c => Fin.ext (by simp [Data.column])
  have c2 : ∀ c : Fin 512, Data.column 2 c = Fin.natAdd 512 (Fin.natAdd 512 (Fin.castAdd 1544 c)) := fun c => Fin.ext (by simp [Data.column]; omega)
  have c3 : ∀ c : Fin 512, Data.column 3 c = Fin.natAdd 512 (Fin.natAdd 512 (Fin.natAdd 512 (Fin.natAdd 8 (Fin.castAdd 1024 c)))) :=
    fun c => Fin.ext (by simp [Data.column]; omega)
  have c4 : ∀ c : Fin 512, Data.column 4 c = Fin.natAdd 512 (Fin.natAdd 512 (Fin.natAdd 512 (Fin.natAdd 8 (Fin.natAdd 512 (Fin.castAdd 512 c))))) :=
    fun c => Fin.ext (by simp [Data.column]; omega)
  have c5 : ∀ c : Fin 512, Data.column 5 c = Fin.natAdd 512 (Fin.natAdd 512 (Fin.natAdd 512 (Fin.natAdd 8 (Fin.natAdd 512 (Fin.natAdd 512 c))))) :=
    fun c => Fin.ext (by simp [Data.column]; omega)
  have cl : ∀ h : Fin 8, Data.logit h = Fin.natAdd 512 (Fin.natAdd 512 (Fin.natAdd 512 (Fin.castAdd 1536 h))) := fun h => Fin.ext (by simp [Data.logit]; omega)
  simp only [c0, c1, c2, c3, c4, c5, cl]
  abel

end Cert.Proof.Projection
-- ==== Proof.Projection.Pieces.lean ====
module

public import proofs.«01_k».proof.Proof.Projection.Reals
public import Idealize.ShloMosaic.Lib.Pointwise
public import Idealize.ShloMosaic.Lib.KernelVsHost

@[expose] public section

set_option maxRecDepth 16384

noncomputable section

/-! # Paddings, joined columns and running sums, read at an index -/

namespace Cert.Proof.Projection

open Idealize.ShloMosaic Finset Cert.Proof.Attention

section Matrices

variable {a b a' b' : ℕ} {α : Type}

abbrev Mat (a b : ℕ) : Shape := ⟨2, ![a, b]⟩

theorem pad_inside (lo hi : Fin 2 → ℕ) (x : (Mat a b).Idx → α) {u : Shape} (v : u.Idx → α) (h : (Mat a b).Pads lo hi ![0, 0] (Mat a' b'))
    (hu : 0 < u.numel) (i : Fin a) (j : Fin b) (i' : Fin a') (j' : Fin b') (hi' : i'.val = lo 0 + i.val) (hj' : j'.val = lo 1 + j.val) :
    pad (Mat a' b') lo hi ![0, 0] x v h hu (ix2 i' j') = x (ix2 i j) := by
  refine pad_apply_of_inside _ _ _ _ _ _ _ _ _ fun n => ?_
  match n with
  | ⟨0, _⟩ => show i'.val = lo 0 + i.val * 1; omega
  | ⟨1, _⟩ => show j'.val = lo 1 + j.val * 1; omega

theorem pad_row_outside (lo hi : Fin 2 → ℕ) (x : (Mat a b).Idx → α) {u : Shape} (v : u.Idx → α) (h : (Mat a b).Pads lo hi ![0, 0] (Mat a' b'))
    (hu : 0 < u.numel) (i' : Fin a') (j' : Fin b') (hi' : ¬(lo 0 ≤ i'.val ∧ i'.val < lo 0 + a)) :
    pad (Mat a' b') lo hi ![0, 0] x v h hu (ix2 i' j') = v (Shape.Idx.first hu) := by
  refine pad_apply_of_not_inside _ _ _ _ _ _ _ _ 0 fun e => hi' ?_
  have e1 : lo 0 ≤ i'.val := e.1
  have e2 : (i'.val - lo 0) / 1 < a := e.2.2
  rw [Nat.div_one] at e2
  omega

theorem pad_column_outside (lo hi : Fin 2 → ℕ) (x : (Mat a b).Idx → α) {u : Shape} (v : u.Idx → α) (h : (Mat a b).Pads lo hi ![0, 0] (Mat a' b'))
    (hu : 0 < u.numel) (i' : Fin a') (j' : Fin b') (hj' : ¬(lo 1 ≤ j'.val ∧ j'.val < lo 1 + b)) :
    pad (Mat a' b') lo hi ![0, 0] x v h hu (ix2 i' j') = v (Shape.Idx.first hu) := by
  refine pad_apply_of_not_inside _ _ _ _ _ _ _ _ 1 fun e => hj' ?_
  have e1 : lo 1 ≤ j'.val := e.1
  have e2 : (j'.val - lo 1) / 1 < b := e.2.2
  rw [Nat.div_one] at e2
  omega

/-- One of several matrices side by side. -/
theorem column_of {n N : ℕ} (xs : List ((s : Shape) × (s.Idx → α))) (h : Shape.Concatenates (xs.map (·.1)) (Mat a N) 1)
    (k : ℕ) (hk : k < xs.length) (x : (Mat a n).Idx → α) (hx : xs[k] = ⟨Mat a n, x⟩) (pre : ℕ)
    (hpre : (((xs.take k).map (·.1)).map fun s => if h : s.rank = (Mat a N).rank then s.size ((1 : Fin (Mat a N).rank).cast h.symm) else 0).sum = pre)
    (i : Fin a) (c : Fin n) (c' : Fin N) (hc : pre + c.val = c'.val) :
    concatenate (Mat a N) 1 xs h (ix2 i c') = x (ix2 i c) :=
  concatenate_apply_piece 1 xs h (ix2 i c') k hk (Mat a n) x hx rfl pre hpre (ix2 i c)
    (fun b hb => match b with
      | ⟨0, _⟩ => rfl
      | ⟨1, _⟩ => absurd rfl hb)
    hc

theorem row_of {n N : ℕ} (xs : List ((s : Shape) × (s.Idx → α))) (h : Shape.Concatenates (xs.map (·.1)) (Mat N a) 0)
    (k : ℕ) (hk : k < xs.length) (x : (Mat n a).Idx → α) (hx : xs[k] = ⟨Mat n a, x⟩) (pre : ℕ)
    (hpre : (((xs.take k).map (·.1)).map fun s => if h : s.rank = (Mat N a).rank then s.size ((0 : Fin (Mat N a).rank).cast h.symm) else 0).sum = pre)
    (i : Fin a) (c : Fin n) (c' : Fin N) (hc : pre + c.val = c'.val) :
    concatenate (Mat N a) 0 xs h (ix2 c' i) = x (ix2 c i) :=
  concatenate_apply_piece 0 xs h (ix2 c' i) k hk (Mat n a) x hx rfl pre hpre (ix2 c i)
    (fun b hb => match b with
      | ⟨0, _⟩ => absurd rfl hb
      | ⟨1, _⟩ => rfl)
    hc

end Matrices

theorem foldl_add_sum {n : ℕ} (f : Fin n → EReal) : ∀ (l : List (Fin n)) (z : EReal), l.foldl (fun r k => r + f k) z = z + (l.map f).sum
  | [], z => by simp
  | k :: l, z => by rw [List.foldl_cons, foldl_add_sum f l, List.map_cons, List.sum_cons, add_assoc]

/-- A sum over a window of 4096 rows that starts at a row, zero behind the last. -/
theorem window_sum {n : ℕ} (x : (Mat 4096 n).Idx → EReal) (X : Fin 4096 → Fin n → ℝ)
    {u : Shape} (init : u.Idx → EReal) (hu : 0 < u.numel) (hz : init (Shape.Idx.first hu) = 0)
    (h : (Mat 4096 n).ReduceWindows ![4096, 1] ![1, 1] ![0, 0] ![4095, 0] (Mat 4096 n))
    (hx : ∀ s c, x (ix2 s c) = ↑(X s c)) (s : Fin 4096) (c : Fin n) :
    Host.reduceWindowAdd (F := Ideal) (φ := .f32) ![4096, 1] ![1, 1] ![0, 0] ![4095, 0] x init h hu (ix2 s c)
      = ↑(after (fun r => X r c) s.val) := by
  unfold Host.reduceWindowAdd
  rw [Ideal.hostReduceWindowAdd_def]
  unfold Ideal.hostReduceWindowAdd Host.reduceWindow
  dsimp only
  rw [hz, foldl_add_sum, zero_add, ← Fin.sum_univ_def,
    ← Equiv.sum_comp (Shape.rowMajor ⟨2, ![4096, 1]⟩)]
  simp only [Equiv.symm_apply_apply]
  rw [sum_idx2]
  simp only [Fin.sum_univ_one]
  unfold after
  rw [coe_sum, ← Fin.sum_univ_eq_sum_range (fun k => ((ext (fun r => X r c) (s.val + k) : ℝ) : EReal)) 4096]
  refine sum_congr rfl fun k _ => ?_
  by_cases hk : s.val + k.val < 4096
  · rw [ext_of_lt _ hk, ← hx]
    rw [dif_pos]
    · congr 1
      refine funext fun e => Fin.ext ?_
      match e with
      | ⟨0, _⟩ => show s.val * 1 + k.val - 0 = s.val + k.val; omega
      | ⟨1, _⟩ => show c.val * 1 + 0 - 0 = c.val; omega
    · intro e
      match e with
      | ⟨0, _⟩ => exact ⟨Nat.zero_le _, by show s.val * 1 + k.val - 0 < 4096; omega⟩
      | ⟨1, _⟩ => exact ⟨Nat.zero_le _, by show c.val * 1 + 0 - 0 < n; omega⟩
  · rw [ext_of_le _ (not_lt.mp hk), EReal.coe_zero, dif_neg]
    intro e
    have e0 : s.val * 1 + k.val - 0 < 4096 := (e 0).2
    omega

end Cert.Proof.Projection
-- ==== Proof.Projection.Bands.lean ====
module

public import proofs.«01_k».proof.Proof.Projection.Tile
public import proofs.«01_k».proof.Proof.Projection.Pieces

@[expose] public section

set_option maxRecDepth 16384

noncomputable section

/-! # The pooled channels of a tile: bands of ones, and the sixteen tokens behind the tile -/

namespace Cert.Proof.Projection

open Idealize.ShloMosaic Cert.Kernel2Ideal Cert.Kernel2Ideal.Gen Cert.Proof.Attention

theorem toInt_of_lt {n : ℕ} (h : n < 2 ^ 31) : (BitVec.ofNat 32 n).toInt = n := by
  rw [BitVec.toInt_eq_toNat_cond, BitVec.toNat_ofNat, Nat.mod_eq_of_lt (by omega), if_pos (by omega)]

/-- A bit as a number. -/
theorem sitofp_bit (b : Bool) : FloatOps.sitofp (F := Ideal) .f32 (BitVec.setWidth 32 (BitVec.ofBool b)) = ((if b then (1 : ℝ) else 0 : ℝ) : EReal) := by
  show (((BitVec.setWidth 32 (BitVec.ofBool b)).toInt : ℝ) : EReal) = _
  cases b <;> simp

theorem cmpi_slt {a b : ℤ} {x y : BitVec 32} (hx : x.toInt = a) (hy : y.toInt = b) : IntOp.cmpi CmpIPredicate.slt x y = BitVec.ofBool (decide (a < b)) := by
  show BitVec.ofBool (x.slt y) = _
  rw [BitVec.slt, hx, hy]

theorem cmpi_sle {a b : ℤ} {x y : BitVec 32} (hx : x.toInt = a) (hy : y.toInt = b) : IntOp.cmpi CmpIPredicate.sle x y = BitVec.ofBool (decide (a ≤ b)) := by
  show BitVec.ofBool (x.sle y) = _
  rw [BitVec.sle, hx, hy]

theorem cmpi_sge {a b : ℤ} {x y : BitVec 32} (hx : x.toInt = a) (hy : y.toInt = b) : IntOp.cmpi CmpIPredicate.sge x y = BitVec.ofBool (decide (b ≤ a)) := by
  show BitVec.ofBool (y.sle x) = _
  rw [BitVec.sle, hx, hy]

theorem ofBool_congr {p q : Prop} [Decidable p] [Decidable q] (h : p ↔ q) : BitVec.ofBool (decide p) = BitVec.ofBool (decide q) := by
  rw [decide_eq_decide.mpr h]

theorem toInt_sub_ofNat {a b : ℕ} (ha : a < 1024) (hb : b < 1024) : (BitVec.ofNat 32 a - BitVec.ofNat 32 b).toInt = (a : ℤ) - b := by
  rw [BitVec.toInt_sub, toInt_of_lt (by omega), toInt_of_lt (by omega)]
  unfold Int.bmod
  simp only
  split <;> omega

/-- The mask of a running sum. -/
theorem after_mask (k r : Fin 256) :
    FloatOps.sitofp (F := Ideal) .f32 (BitVec.setWidth 32 (IntOp.cmpi CmpIPredicate.sge (BitVec.ofNat 32 k.val) (BitVec.ofNat 32 r.val)))
      = ((if r ≤ k then (1 : ℝ) else 0 : ℝ) : EReal) := by
  have e : IntOp.cmpi CmpIPredicate.sge (BitVec.ofNat 32 k.val) (BitVec.ofNat 32 r.val) = BitVec.ofBool (decide (r ≤ k)) := by
    rw [cmpi_sge (toInt_of_lt (by omega)) (toInt_of_lt (by omega))]
    exact ofBool_congr (by rw [Fin.le_def]; omega)
  rw [e, sitofp_bit]
  simp

/-- The mask of a short window inside the tile. -/
theorem band_mask (w r k : ℕ) (hw : w ≤ 16) (hr : r < 256) (hk : k < 256) :
    FloatOps.sitofp (F := Ideal) .f32 (BitVec.setWidth 32 (IntOp.andi (IntOp.cmpi CmpIPredicate.sle (BitVec.ofNat 32 r) (BitVec.ofNat 32 k))
        (IntOp.cmpi CmpIPredicate.slt (IntOp.subi (BitVec.ofNat 32 k) (BitVec.ofNat 32 r)) (BitVec.ofNat 32 w))))
      = ((if r ≤ k ∧ k < r + w then (1 : ℝ) else 0 : ℝ) : EReal) := by
  have e1 : IntOp.cmpi CmpIPredicate.sle (BitVec.ofNat 32 r) (BitVec.ofNat 32 k) = BitVec.ofBool (decide (r ≤ k)) := by
    rw [cmpi_sle (toInt_of_lt (by omega)) (toInt_of_lt (by omega))]
    exact ofBool_congr (by omega)
  have e2 : IntOp.cmpi CmpIPredicate.slt (IntOp.subi (BitVec.ofNat 32 k) (BitVec.ofNat 32 r)) (BitVec.ofNat 32 w) = BitVec.ofBool (decide (k < r + w)) := by
    refine (cmpi_slt (toInt_sub_ofNat (a := k) (b := r) (by omega) (by omega)) (toInt_of_lt (n := w) (by omega))).trans ?_
    exact ofBool_congr (by omega)
  have e3 : IntOp.andi (BitVec.ofBool (decide (r ≤ k))) (BitVec.ofBool (decide (k < r + w))) = BitVec.ofBool (decide (r ≤ k ∧ k < r + w)) := by
    by_cases h1 : r ≤ k <;> by_cases h2 : k < r + w <;> simp [h1, h2, IntOp.andi]
  rw [e1, e2, e3, sitofp_bit]
  simp only [decide_eq_true_eq]

/-- The mask of a short window's part behind the tile. -/
theorem edge_mask (w r k : ℕ) (hw : w ≤ 16) (hr : r < 16) (hk : k < 16) :
    FloatOps.sitofp (F := Ideal) .f32 (BitVec.setWidth 32 (IntOp.cmpi CmpIPredicate.slt
        (IntOp.subi (IntOp.addi (16#32) (BitVec.ofNat 32 k)) (BitVec.ofNat 32 r)) (BitVec.ofNat 32 w)))
      = ((if 16 + k < r + w then (1 : ℝ) else 0 : ℝ) : EReal) := by
  have e2 : IntOp.cmpi CmpIPredicate.slt (IntOp.subi (IntOp.addi (16#32) (BitVec.ofNat 32 k)) (BitVec.ofNat 32 r)) (BitVec.ofNat 32 w)
      = BitVec.ofBool (decide (16 + k < r + w)) := by
    have e : IntOp.addi (16#32) (BitVec.ofNat 32 k) = BitVec.ofNat 32 (16 + k) := (BitVec.ofNat_add 16 k).symm
    rw [e]
    refine (cmpi_slt (toInt_sub_ofNat (a := 16 + k) (b := r) (by omega) (by omega)) (toInt_of_lt (n := w) (by omega))).trans ?_
    exact ofBool_congr (by omega)
  rw [e2, sitofp_bit]
  simp only [decide_eq_true_eq]

/-- The number of tokens a window's mean is over. -/
theorem count_word (t : Fin 16) (x : Fin 256) (w : ℕ) (hw : w ≤ 16) :
    FloatOps.sitofp (F := Ideal) .f32 (IntOp.minsi (IntOp.addi (IntOp.addi (Scalar.muli (BitVec.ofNat 32 (15 - t.val)) 256#32) (BitVec.ofNat 32 x.val)) 1#32) (BitVec.ofNat 32 w))
      = (((min ((token t x).val + 1) w : ℕ) : ℝ) : EReal) := by
  have e : IntOp.addi (IntOp.addi (Scalar.muli (BitVec.ofNat 32 (15 - t.val)) 256#32) (BitVec.ofNat 32 x.val)) 1#32 = BitVec.ofNat 32 ((token t x).val + 1) := by
    show BitVec.ofNat 32 (15 - t.val) * BitVec.ofNat 32 256 + BitVec.ofNat 32 x.val + BitVec.ofNat 32 1 = _
    rw [← BitVec.ofNat_mul, ← BitVec.ofNat_add, ← BitVec.ofNat_add]
    simp only [token, mul_comm]
  have hl := (token t x).isLt
  rw [e]
  show (((IntOp.minsi (BitVec.ofNat 32 ((token t x).val + 1)) (BitVec.ofNat 32 w)).toInt : ℝ) : EReal) = _
  rw [IntOp.minsi, BitVec.slt, toInt_of_lt (n := (token t x).val + 1) (by omega), toInt_of_lt (n := w) (by omega)]
  by_cases h : (token t x).val + 1 < w
  · rw [if_pos (decide_eq_true (by omega)), toInt_of_lt (by omega), min_eq_left h.le]; simp
  · rw [if_neg (by simpa only [decide_eq_true_eq] using (by omega)), toInt_of_lt (by omega), min_eq_right (by omega)]; simp

/-- A product of numbers with their leading parts and with what is left of them: nothing is left. -/
theorem split_sum {ι : Type*} [Fintype ι] {m a : ι → EReal} {M V : ι → ℝ} (hm : ∀ k, m k = M k) (ha : ∀ k, a k = V k) :
    ∑ k, m k * a k + ∑ k, m k * (a k - a k) = ((∑ k, M k * V k : ℝ) : EReal) := by
  have e : ∀ k, a k - a k = (0 : ℝ) := fun k => by rw [ha, ← EReal.coe_sub, sub_self]
  have z : ∑ k, m k * (a k - a k) = 0 := Finset.sum_eq_zero fun k _ => by rw [e, hm, ← EReal.coe_mul, mul_zero, EReal.coe_zero]
  rw [z, add_zero, dot_eq_coe hm ha]

variable {D : Data} {t : Fin 16}

theorem share_at (w : ℕ) (hw : w ≤ 16) {c : Fin 512} (hc : Data.width c = w) (r : Fin 256) {e : EReal} (he : e = ↑(D.dpo (token t r) c)) :
    Ideal.div e (FloatOps.sitofp (F := Ideal) .f32 (IntOp.minsi (IntOp.addi (IntOp.addi (Scalar.muli (BitVec.ofNat 32 (15 - t.val)) 256#32) (BitVec.ofNat 32 r.val)) 1#32) (BitVec.ofNat 32 w)))
      = ↑(D.share c (token t r)) := by
  rw [he, count_word t r w hw, div_coe_coe]
  · unfold Data.share; rw [hc]
  · have : 0 < w := hc ▸ Nat.two_pow_pos _
    exact_mod_cast (by omega : min ((token t r).val + 1) w ≠ 0)

theorem share_behind (w : ℕ) (hw : w ≤ 16) {c : Fin 512} (hc : Data.width c = w) (k : Fin 16) {e z : EReal}
    (he : t.val ≠ 0 → e = ↑(ext (fun s => D.dpo s c) (256 * (16 - t.val) + k.val))) (hz : z = ((1 / w : ℝ) : EReal)) :
    Scalar.select (Scalar.cmpi CmpIPredicate.slt (BitVec.ofNat 32 (15 - t.val)) 15#32) (e * z) 0
      = ((ext (D.share c) (256 * (16 - t.val) + k.val) : ℝ) : EReal) := by
  have hs : Scalar.cmpi CmpIPredicate.slt (BitVec.ofNat 32 (15 - t.val)) 15#32 = BitVec.ofBool (decide (t.val ≠ 0)) := by
    refine (cmpi_slt (toInt_of_lt (by omega)) (b := 15) rfl).trans ?_
    exact ofBool_congr (by omega)
  rw [hs]
  by_cases ht : t.val = 0
  · have hb : BitVec.ofBool (decide (t.val ≠ 0)) = 0#1 := by simp [ht]
    rw [hb, ext_of_le _ (by omega)]
    rfl
  · have hb : BitVec.ofBool (decide (t.val ≠ 0)) = 1#1 := by simp [ht]
    have hl : 256 * (16 - t.val) + k.val < 4096 := by omega
    rw [hb, he ht, hz, ext_of_lt _ hl, ext_of_lt _ hl, ← EReal.coe_mul]
    show ((_ : ℝ) : EReal) = _
    unfold Data.share
    rw [hc, min_eq_right (by show w ≤ 256 * (16 - t.val) + k.val + 1; omega), mul_one_div]

/-- The tile's tokens, and the tokens behind it, of one column. -/
structure Column (D : Data) (t : Fin 16) (c : Fin 512) (a : Fin 256 → EReal) (b : Fin 16 → EReal) : Prop where
  a : ∀ r, a r = ↑(D.share c (token t r))
  b : ∀ k, b k = ↑(ext (D.share c) (256 * (16 - t.val) + k.val))

/-- A column of the pooled channels, as the kernel adds it up: all windows but those of the last sixteen tokens end in
the tile. -/
theorem column_pool (w : ℕ) (hw : w ≤ 16) {c : Fin 512} (hc : Data.width c = w) {a : Fin 256 → EReal} {b : Fin 16 → EReal} (H : Column D t c a b)
    (r : Fin 256) {p : EReal} (hp : p = ↑(D.dpo (token t r) c)) :
    (if h : r.val < 240 then
        ∑ k : Fin 256, FloatOps.sitofp (F := Ideal) .f32 (BitVec.setWidth 32 (IntOp.andi (IntOp.cmpi CmpIPredicate.sle (BitVec.ofNat 32 r.val) (BitVec.ofNat 32 k.val))
            (IntOp.cmpi CmpIPredicate.slt (IntOp.subi (BitVec.ofNat 32 k.val) (BitVec.ofNat 32 r.val)) (BitVec.ofNat 32 w)))) * a k
          + ∑ k : Fin 256, FloatOps.sitofp (F := Ideal) .f32 (BitVec.setWidth 32 (IntOp.andi (IntOp.cmpi CmpIPredicate.sle (BitVec.ofNat 32 r.val) (BitVec.ofNat 32 k.val))
            (IntOp.cmpi CmpIPredicate.slt (IntOp.subi (BitVec.ofNat 32 k.val) (BitVec.ofNat 32 r.val)) (BitVec.ofNat 32 w)))) * (a k - a k)
      else
        ∑ k : Fin 256, FloatOps.sitofp (F := Ideal) .f32 (BitVec.setWidth 32 (IntOp.andi (IntOp.cmpi CmpIPredicate.sle (BitVec.ofNat 32 (240 + (r.val - 240))) (BitVec.ofNat 32 k.val))
            (IntOp.cmpi CmpIPredicate.slt (IntOp.subi (BitVec.ofNat 32 k.val) (BitVec.ofNat 32 (240 + (r.val - 240)))) (BitVec.ofNat 32 w)))) * a k
          + ∑ k : Fin 256, FloatOps.sitofp (F := Ideal) .f32 (BitVec.setWidth 32 (IntOp.andi (IntOp.cmpi CmpIPredicate.sle (BitVec.ofNat 32 (240 + (r.val - 240))) (BitVec.ofNat 32 k.val))
            (IntOp.cmpi CmpIPredicate.slt (IntOp.subi (BitVec.ofNat 32 k.val) (BitVec.ofNat 32 (240 + (r.val - 240)))) (BitVec.ofNat 32 w)))) * (a k - a k)
          + (∑ k : Fin 16, FloatOps.sitofp (F := Ideal) .f32 (BitVec.setWidth 32 (IntOp.cmpi CmpIPredicate.slt
              (IntOp.subi (IntOp.addi (16#32) (BitVec.ofNat 32 k.val)) (BitVec.ofNat 32 (r.val - 240))) (BitVec.ofNat 32 w))) * b k
            + ∑ k : Fin 16, FloatOps.sitofp (F := Ideal) .f32 (BitVec.setWidth 32 (IntOp.cmpi CmpIPredicate.slt
              (IntOp.subi (IntOp.addi (16#32) (BitVec.ofNat 32 k.val)) (BitVec.ofNat 32 (r.val - 240))) (BitVec.ofNat 32 w))) * (b k - b k)))
      - p = ↑(D.pool (token t r) c) := by
  have hm := fun k : Fin 256 => band_mask w r.val k.val hw r.isLt k.isLt
  unfold Data.pool
  rw [hc, short_sum _ t r hw, hp]
  by_cases h : r.val < 240
  · rw [dif_pos h, if_neg (by omega), split_sum hm H.a, ← EReal.coe_sub, add_zero]
  · have hn : ∀ k : Fin 16, FloatOps.sitofp (F := Ideal) .f32 (BitVec.setWidth 32 (IntOp.cmpi CmpIPredicate.slt
        (IntOp.subi (IntOp.addi (16#32) (BitVec.ofNat 32 k.val)) (BitVec.ofNat 32 (r.val - 240))) (BitVec.ofNat 32 w)))
          = ((if 256 + k.val < r.val + w then (1 : ℝ) else 0 : ℝ) : EReal) := fun k => by
      rw [edge_mask w (r.val - 240) k.val hw (by omega) k.isLt]
      have e : 16 + k.val < r.val - 240 + w ↔ 256 + k.val < r.val + w := by omega
      simp only [e]
    have hr : 240 + (r.val - 240) = r.val := by omega
    rw [dif_neg h, if_pos (by omega), hr, split_sum hm H.a, split_sum hn H.b, ← EReal.coe_add, ← EReal.coe_sub]

end Cert.Proof.Projection
-- ==== Proof.Projection.Values.lean ====
module

public import proofs.«01_k».proof.Proof.Projection.Bands

@[expose] public section

set_option maxRecDepth 16384

noncomputable section

/-! # A tile's results as numbers -/

namespace Cert.Proof.Projection

open Idealize.ShloMosaic Cert.Kernel2Ideal Cert.Kernel2Ideal.Gen Cert.Proof.Attention

/-- The blocks of tile `t` hold the numbers of its tokens. -/
structure Reads (D : Data) (t : Fin 16) (B : Blocks Ideal) : Prop where
  dq : ∀ (h : Fin 8) (e : Fin 64) (r : Fin 256), heads B.dq (ix3 h e r) = ↑(D.dq (token t r) ⟨64 * h.val + e.val, by omega⟩)
  dk : ∀ (h : Fin 8) (e : Fin 64) (r : Fin 256), heads B.dk (ix3 h e r) = ↑(D.dk (token t r) ⟨64 * h.val + e.val, by omega⟩)
  dv : ∀ (h : Fin 8) (e : Fin 64) (r : Fin 256), heads B.dv (ix3 h e r) = ↑(D.dv (token t r) ⟨64 * h.val + e.val, by omega⟩)
  dc : ∀ (h : Fin 8) (r : Fin 256), B.dc (ix3 h 0 r) = ↑(D.dc (token t r) h)
  f : ∀ (h : Fin 8) (r : Fin 256), B.f (ix2 r ⟨h.val, by omega⟩) = ↑(D.f (token t r) h)
  dpo : ∀ r c, B.dpo (ix2 r c) = ↑(D.dpo (token t r) c)
  dph : ∀ k c, t.val ≠ 0 → B.dph (ix2 k c) = ↑(ext (fun s => D.dpo s c) (256 * (16 - t.val) + k.val))
  dga : ∀ r c, B.dga (ix2 r c) = ↑(D.dga (token t r) c)
  dgp : ∀ r c, B.dgp (ix2 r c) = ↑(D.dgp (token t r) c)
  x : ∀ r j, B.x (ix2 r j) = ↑(D.x (token t r) j)
  dxa : ∀ r j, B.dxa (ix2 r j) = ↑(D.dxa (token t r) j)
  u : ∀ r j, B.u (ix2 r j) = ↑(D.u (token t r) j)
  mod : ∀ j, modRow B (ix2 0 j) = ↑(1 + D.sc j)
  w0 : ∀ c j, w0 B (ix2 c j) = ↑(D.w j (Data.column 0 c))
  w1 : ∀ c j, w1 B (ix2 c j) = ↑(D.w j (Data.column 1 c))
  w2 : ∀ c j, w2 B (ix2 c j) = ↑(D.w j (Data.column 2 c))
  w3 : ∀ c j, w3 B (ix2 c j) = ↑(D.w j (Data.column 3 c))
  w4 : ∀ c j, w4 B (ix2 c j) = ↑(D.w j (Data.column 4 c))
  w5 : ∀ c j, w5 B (ix2 c j) = ↑(D.w j (Data.column 5 c))
  wf : ∀ (l : Fin 128) j, B.wf (ix2 l j) = ↑(if h : l.val < 8 then D.w j (Data.logit ⟨l.val, h⟩) else 0)

variable {D : Data} {t : Fin 16} {B : Blocks Ideal}

/-- The tile's number. -/
abbrev word (t : Fin 16) : BitVec 32 := BitVec.ofNat 32 (15 - t.val)

theorem half : Ideal.ofBits .f32 1056964608#32 = ((1 / (2 : ℕ) : ℝ) : EReal) := by
  simp [Ideal.ofBits, Ideal.ieee, -EReal.coe_mul]; norm_num
theorem quarter : Ideal.ofBits .f32 1048576000#32 = ((1 / (4 : ℕ) : ℝ) : EReal) := by
  simp [Ideal.ofBits, Ideal.ieee, -EReal.coe_mul]; norm_num
theorem eighth : Ideal.ofBits .f32 1040187392#32 = ((1 / (8 : ℕ) : ℝ) : EReal) := by
  simp [Ideal.ofBits, Ideal.ieee, -EReal.coe_mul]; norm_num
theorem sixteenth : Ideal.ofBits .f32 1031798784#32 = ((1 / (16 : ℕ) : ℝ) : EReal) := by
  simp [Ideal.ofBits, Ideal.ieee, -EReal.coe_mul]; norm_num

theorem pool0_eq (H : Reads D t B) (r : Fin 256) (c : Fin 128) :
    pool0 (word t) B (ix2 r c) = ↑(D.pool (token t r) ⟨c.val, by omega⟩) := by
  have hw : Data.width ⟨c.val, by omega⟩ = 2 := by simp [Data.width, Nat.div_eq_of_lt c.isLt]
  have hc : Column D t ⟨c.val, by omega⟩ (fun r => k0_pay21 (word t) B.dpo (ix2 r c)) (fun k => k0_pay22 (word t) B.dph (ix2 k c)) := by
    refine ⟨fun r => ?_, fun k => ?_⟩
    · pointwise [k0_pay21, k0_pay20]
      exact share_at 2 (by norm_num) hw r (H.dpo _ _)
    · pointwise [k0_pay22, k0_pay19]
      exact share_behind 2 (by norm_num) hw k (H.dph k _) half
  unfold pool0
  generalize k0_pay21 (word t) B.dpo = a at hc ⊢
  generalize k0_pay22 (word t) B.dph = b at hc ⊢
  pointwise [k0_pay23, rows, cols, edge]
  exact column_pool 2 (by norm_num) hw hc r (H.dpo _ _)

theorem pool1_eq (H : Reads D t B) (r : Fin 256) (c : Fin 128) :
    pool1 (word t) B (ix2 r c) = ↑(D.pool (token t r) ⟨128 + c.val, by omega⟩) := by
  have hw : Data.width ⟨128 + c.val, by omega⟩ = 4 := by
    have : (128 + c.val) / 128 = 1 := by omega
    simp [Data.width, this]
  have hc : Column D t ⟨128 + c.val, by omega⟩ (fun r => k0_pay24 B.dpo (k0_pay20 (word t)) (ix2 r c)) (fun k => k0_pay25 (k0_pay19 (word t) B.dph) (ix2 k c)) := by
    refine ⟨fun r => ?_, fun k => ?_⟩
    · pointwise [k0_pay24, k0_pay20]
      exact share_at 4 (by norm_num) hw r (H.dpo _ _)
    · pointwise [k0_pay25, k0_pay19]
      exact share_behind 4 (by norm_num) hw k (H.dph k _) quarter
  unfold pool1
  generalize k0_pay24 B.dpo (k0_pay20 (word t)) = a at hc ⊢
  generalize k0_pay25 (k0_pay19 (word t) B.dph) = b at hc ⊢
  pointwise [k0_pay26, rows, cols, edge]
  exact column_pool 4 (by norm_num) hw hc r (H.dpo _ _)

theorem pool2_eq (H : Reads D t B) (r : Fin 256) (c : Fin 128) :
    pool2 (word t) B (ix2 r c) = ↑(D.pool (token t r) ⟨256 + c.val, by omega⟩) := by
  have hw : Data.width ⟨256 + c.val, by omega⟩ = 8 := by
    have : (256 + c.val) / 128 = 2 := by omega
    simp [Data.width, this]
  have hc : Column D t ⟨256 + c.val, by omega⟩ (fun r => k0_pay27 B.dpo (k0_pay20 (word t)) (ix2 r c)) (fun k => k0_pay28 (k0_pay19 (word t) B.dph) (ix2 k c)) := by
    refine ⟨fun r => ?_, fun k => ?_⟩
    · pointwise [k0_pay27, k0_pay20]
      exact share_at 8 (by norm_num) hw r (H.dpo _ _)
    · pointwise [k0_pay28, k0_pay19]
      exact share_behind 8 (by norm_num) hw k (H.dph k _) eighth
  unfold pool2
  generalize k0_pay27 B.dpo (k0_pay20 (word t)) = a at hc ⊢
  generalize k0_pay28 (k0_pay19 (word t) B.dph) = b at hc ⊢
  pointwise [k0_pay29, rows, cols, edge]
  exact column_pool 8 (by norm_num) hw hc r (H.dpo _ _)

theorem group3 (H : Reads D t B) (c : Fin 128) :
    Column D t ⟨384 + c.val, by omega⟩ (fun r => k0_pay30 B.dpo (k0_pay20 (word t)) (ix2 r c)) (fun k => k0_pay31 (k0_pay19 (word t) B.dph) (ix2 k c)) := by
  have hw : Data.width ⟨384 + c.val, by omega⟩ = 16 := by
    have : (384 + c.val) / 128 = 3 := by omega
    simp [Data.width, this]
  refine ⟨fun r => ?_, fun k => ?_⟩
  · pointwise [k0_pay30, k0_pay20]
    exact share_at 16 (by norm_num) hw r (H.dpo _ _)
  · pointwise [k0_pay31, k0_pay19]
    exact share_behind 16 (by norm_num) hw k (H.dph k _) sixteenth

/-- All pooled channels. -/
def pools (v0 : BitVec 32) (B : Blocks Ideal) : FVec Ideal S256x512 .f32 :=
  k0_pay32 B.dpo (pool0 v0 B) (pool1 v0 B) (pool2 v0 B) (k0_pay30 B.dpo (k0_pay20 v0)) (k0_pay31 (k0_pay19 v0 B.dph)) rows cols edge

theorem pools_eq (H : Reads D t B) (r : Fin 256) (c : Fin 512) :
    pools (word t) B (ix2 r c) = ↑(D.pool (token t r) c) := by
  have h0 := pool0_eq H
  have h1 := pool1_eq H
  have h2 := pool2_eq H
  have h3 := group3 H
  unfold pools
  generalize pool0 (word t) B = a0 at h0 ⊢
  generalize pool1 (word t) B = a1 at h1 ⊢
  generalize pool2 (word t) B = a2 at h2 ⊢
  generalize k0_pay30 B.dpo (k0_pay20 (word t)) = a at h3 ⊢
  generalize k0_pay31 (k0_pay19 (word t) B.dph) = b at h3 ⊢
  pointwise [k0_pay32, rows, cols, edge]
  by_cases c0 : c.val < 128
  · rw [dif_pos c0, h0]
  rw [dif_neg c0]
  by_cases c1 : c.val - 128 < 128
  · rw [dif_pos c1, h1]
    have e : (⟨128 + (c.val - 128), by omega⟩ : Fin 512) = c := Fin.ext (by show 128 + (c.val - 128) = c.val; omega)
    rw [e]
  rw [dif_neg c1]
  by_cases c2 : c.val - 128 - 128 < 128
  · rw [dif_pos c2, h2]
    have e : (⟨256 + (c.val - 128 - 128), by omega⟩ : Fin 512) = c := Fin.ext (by show 256 + (c.val - 128 - 128) = c.val; omega)
    rw [e]
  rw [dif_neg c2]
  have c3 : c.val - 128 - 128 - 128 < 128 := by omega
  have e : (⟨384 + (c.val - 128 - 128 - 128), by omega⟩ : Fin 512) = c := Fin.ext (by show 384 + (c.val - 128 - 128 - 128) = c.val; omega)
  have h := h3 ⟨c.val - 128 - 128 - 128, c3⟩
  have hw : Data.width c = 16 := by
    have : c.val / 128 = 3 := by omega
    simp [Data.width, this]
  have h' : Column D t c (fun r => a (ix2 r ⟨c.val - 128 - 128 - 128, c3⟩)) (fun k => b (ix2 k ⟨c.val - 128 - 128 - 128, c3⟩)) := by
    have := h; simp only [e] at this; exact this
  simp only [dif_pos c3]
  exact column_pool 16 (by norm_num) hw h' r (by rw [e, H.dpo])

/-- The gradient of the pooled channels, -/
theorem poolAll_eq (H : Reads D t B) (r : Fin 256) (c : Fin 512) :
    poolAll (word t) B (ix2 r c) = ↑(D.pool (token t r) c) := by
  rw [← pools_eq H]
  unfold poolAll pools
  pointwise [k0_pay34]

/-- and what a tile adds to its bias. -/
theorem poolBias_eq (H : Reads D t B) (old : Vec Ideal S1x512 .f32) (c : Fin 512) {e : ℝ} (ho : old (ix2 0 c) = ↑e) :
    poolBias (word t) B old (ix2 0 c) = ↑(e + ∑ r, D.pool (token t r) c) := by
  have h := pools_eq H
  unfold pools at h
  unfold poolBias
  pointwise [k0_pay33]
  simp only [h, ho]
  rw [sum_eq_coe fun r => rfl, ← EReal.coe_add]

/-! ## Windows and puts of matrices -/

theorem window_at {n0 n1 : ℕ} {α : Type} (x : (Mat n0 n1).Idx → α) (o size : Fin 2 → ℕ) (inb : ∀ a, o a + size a ≤ (Mat n0 n1).size a)
    (y : (a : Fin 2) → Fin (size a)) (i : Fin n0) (j : Fin n1) (h0 : o 0 + (y 0).val = i.val) (h1 : o 1 + (y 1).val = j.val) :
    VecWindow.window x o size inb y = x (ix2 i j) := by
  unfold VecWindow.window
  refine congrArg x (funext fun a => Fin.ext ?_)
  show o a + 1 * (y a).val = _
  rw [one_mul]
  match a with
  | 0 => exact h0
  | 1 => exact h1

theorem put_at {n0 n1 : ℕ} {α : Type} (x : (Mat n0 n1).Idx → α) (o size : Fin 2 → ℕ) (w : ((a : Fin 2) → Fin (size a)) → α)
    (y : (a : Fin 2) → Fin (size a)) (i : Fin n0) (j : Fin n1) (h0 : o 0 + (y 0).val = i.val) (h1 : o 1 + (y 1).val = j.val) :
    VecWindow.put x o size w (ix2 i j) = w y := by
  have hin : ∀ a : Fin 2, o a ≤ ((ix2 i j : (Mat n0 n1).Idx) a).val ∧ ((ix2 i j : (Mat n0 n1).Idx) a).val < o a + size a := fun a => by
    match a with
    | 0 => exact ⟨by show o 0 ≤ i.val; omega, by show i.val < o 0 + size 0; omega⟩
    | 1 => exact ⟨by show o 1 ≤ j.val; omega, by show j.val < o 1 + size 1; omega⟩
  unfold VecWindow.put
  rw [dif_pos hin]
  refine congrArg w (funext fun a => Fin.ext ?_)
  show ((ix2 i j : (Mat n0 n1).Idx) a).val - o a = (y a).val
  match a with
  | 0 => show i.val - o 0 = _; omega
  | 1 => show j.val - o 1 = _; omega

theorem put_elsewhere {n0 n1 : ℕ} {α : Type} (x : (Mat n0 n1).Idx → α) (o size : Fin 2 → ℕ) (w : ((a : Fin 2) → Fin (size a)) → α)
    (i : Fin n0) (j : Fin n1) (h : (i.val < o 0 ∨ o 0 + size 0 ≤ i.val) ∨ (j.val < o 1 ∨ o 1 + size 1 ≤ j.val)) :
    VecWindow.put x o size w (ix2 i j) = x (ix2 i j) := by
  unfold VecWindow.put
  rw [dif_neg]
  intro hin
  have h0 : o 0 ≤ i.val ∧ i.val < o 0 + size 0 := hin 0
  have h1 : o 1 ≤ j.val ∧ j.val < o 1 + size 1 := hin 1
  omega

/-! ## The gate's logit -/

/-- What is carried from the tiles behind. -/
def Carries (D : Data) (t : Fin 16) (carry : Vec Ideal S8x128 .f32) : Prop :=
  ∀ h : Fin 8, carry (ix2 h 0) = ↑(after (fun s => D.dc s h) (256 * (16 - t.val)))

theorem carried_eq {carry : Vec Ideal S8x128 .f32} (hC : Carries D t carry) (h : Fin 8) :
    carried carry (ix2 h 0) = ↑(after (fun s => D.dc s h) (256 * (16 - t.val))) := by
  rw [← hC h]
  exact window_at _ _ _ _ _ _ _ (Nat.zero_add _) rfl

theorem gate_sum (H : Reads D t B) {c : EReal} (h : Fin 8) (hc : c = ↑(after (fun s => D.dc s h) (256 * (16 - t.val)))) (r : Fin 256) :
    ∑ x : Fin 256, B.dc (ix3 h 0 x) *
        FloatOps.sitofp (F := Ideal) .f32 (BitVec.setWidth 32 (IntOp.cmpi CmpIPredicate.sge (BitVec.ofNat 32 x.val) (BitVec.ofNat 32 r.val)))
      + ∑ x : Fin 256, (B.dc (ix3 h 0 x) - B.dc (ix3 h 0 x)) *
        FloatOps.sitofp (F := Ideal) .f32 (BitVec.setWidth 32 (IntOp.cmpi CmpIPredicate.sge (BitVec.ofNat 32 x.val) (BitVec.ofNat 32 r.val)))
      + ∑ x : Fin 256, (B.dc (ix3 h 0 x) - B.dc (ix3 h 0 x) - (B.dc (ix3 h 0 x) - B.dc (ix3 h 0 x))) *
        FloatOps.sitofp (F := Ideal) .f32 (BitVec.setWidth 32 (IntOp.cmpi CmpIPredicate.sge (BitVec.ofNat 32 x.val) (BitVec.ofNat 32 r.val)))
      + c = ↑(D.gate h (token t r)) := by
  have e0 : ∀ x, B.dc (ix3 h 0 x) - B.dc (ix3 h 0 x) = 0 := fun x => by rw [H.dc, ← EReal.coe_sub, sub_self, EReal.coe_zero]
  simp only [e0, sub_zero, zero_mul, Finset.sum_const_zero, add_zero]
  rw [dot_eq_coe (fun x => H.dc h x) (fun x => after_mask x r), hc, ← EReal.coe_add]
  unfold Data.gate
  rw [after_token]

theorem dlog_eq (H : Reads D t B) {carry : Vec Ideal S8x128 .f32} (hC : Carries D t carry) (h : Fin 8) (r : Fin 256) :
    dlog B carry (ix2 h r) = ↑(D.gate h (token t r)) := by
  have hc := carried_eq hC h
  unfold dlog
  generalize carried carry = c at hc ⊢
  pointwise [k0_pay41]
  exact gate_sum H h hc r

/-- What is carried to the tile before. -/
theorem carry_eq (H : Reads D t B) {carry : Vec Ideal S8x128 .f32} (hC : Carries D t carry) (h : Fin 8) :
    stepCarry B carry (ix2 h 0) = ↑(after (fun s => D.dc s h) (256 * (16 - (t.val + 1)))) := by
  have hc := carried_eq hC h
  have e : stepCarry B carry (ix2 h 0) = k0_pay42 B.dc (carried carry) (ix2 h 0) := put_at _ _ _ _ _ _ _ (Nat.zero_add _) rfl
  rw [e]
  generalize carried carry = c at hc ⊢
  pointwise [k0_pay42, k0_pay41]
  refine (gate_sum H h hc 0).trans ?_
  unfold Data.gate
  congr 2
  show 256 * (15 - t.val) + 0 = _
  omega

theorem lane_entry (f : ℝ) (g : ℝ) : ((g : ℝ) : EReal) * Ideal.div 1 (1 + Ideal.exp (0 - (0 - (f : EReal)))) = ↑(g * (1 / (1 + Real.exp f))) := by
  have h0 : (0 : EReal) - (0 - (f : EReal)) = ((f : ℝ) : EReal) := by
    rw [← EReal.coe_zero, ← EReal.coe_sub, ← EReal.coe_sub]; norm_num
  have h1 : (1 : EReal) = ((1 : ℝ) : EReal) := rfl
  have h2 : Ideal.exp ((f : ℝ) : EReal) = ((Real.exp f : ℝ) : EReal) := rfl
  rw [h0, h2, h1, ← EReal.coe_add, div_coe_coe _ (by positivity), ← EReal.coe_mul]

theorem lane_sum (H : Reads D t B) {carry : Vec Ideal S8x128 .f32} (hC : Carries D t carry) (r : Fin 256) (l : Fin 128) :
    k0_pay44 (dlog B carry) (k0_pay43 B.f) one (ix2 l r) = ↑(D.lane (token t r) l) := by
  have hd := dlog_eq H hC
  generalize dlog B carry = d at hd ⊢
  pointwise [k0_pay44, k0_pay43, one]
  unfold Data.lane
  by_cases h : l.val < 8
  · rw [dif_pos h, dif_pos h, hd]
    rw [H.f ⟨l.val, h⟩ r]
    exact lane_entry _ _
  · rw [dif_neg h, dif_neg h, EReal.coe_zero]

theorem lane_eq (H : Reads D t B) {carry : Vec Ideal S8x128 .f32} (hC : Carries D t carry) (r : Fin 256) (l : Fin 128) :
    k0_pay46 (dlog B carry) (k0_pay43 B.f) one (ix2 l r) = ↑(D.lane (token t r) l) := by
  rw [← lane_sum H hC]
  pointwise [k0_pay46]

theorem du_at (H : Reads D t B) {carry : Vec Ideal S8x128 .f32} (hC : Carries D t carry) (r : Fin 256) (j : Fin 1024) :
    du (word t) B carry (ix2 r j) = ↑(D.du (token t r) j) := by
  have hp := poolAll_eq H
  have hl := lane_eq H hC
  have q0 := H.dq
  have q1 := H.dk
  have q2 := H.dv
  unfold du
  generalize hg : k0_pay46 (dlog B carry) (k0_pay43 B.f) one = L at hl
  generalize poolAll (word t) B = p at hp ⊢
  pointwise [k0_pay47, k0_pay40, k0_pay37, k0_pay36, k0_pay39, k0_pay18, k0_pay12, k0_pay10, k0_pay15, k0_pay13, k0_pay16, hg]
  rw [dot_eq_coe (fun x => q0 ⟨x.val / 64, by omega⟩ ⟨x.val % 64, by omega⟩ r) (fun x => H.w0 x j),
    dot_eq_coe (fun x => q1 ⟨x.val / 64, by omega⟩ ⟨x.val % 64, by omega⟩ r) (fun x => H.w1 x j),
    dot_eq_coe (fun x => q2 ⟨x.val / 64, by omega⟩ ⟨x.val % 64, by omega⟩ r) (fun x => H.w2 x j),
    dot_eq_coe (fun x => hp r x) (fun x => H.w3 x j), dot_eq_coe (fun x => H.dga r x) (fun x => H.w4 x j),
    dot_eq_coe (fun x => H.dgp r x) (fun x => H.w5 x j), dot_eq_coe (fun x => hl r x) (fun x => H.wf x j)]
  have hx : ∀ x : Fin 512, (⟨64 * (x.val / 64) + x.val % 64, by omega⟩ : Fin 512) = x := fun x => Fin.ext (Nat.div_add_mod _ _)
  have hL : ∑ l : Fin 128, D.lane (token t r) l * (if h : l.val < 8 then D.w j (Data.logit ⟨l.val, h⟩) else 0)
      = ∑ h : Fin 8, D.forget (token t r) h * D.w j (Data.logit h) := by
    rw [Fin.sum_univ_add (a := 8) (b := 120)]
    have z : ∀ i : Fin 120, ¬ (Fin.natAdd 8 i).val < 8 := fun i => by simp
    have y : ∀ i : Fin 8, (Fin.castAdd 120 i).val < 8 := fun i => i.isLt
    rw [Finset.sum_eq_zero (s := Finset.univ) (f := fun i : Fin 120 => _) fun i _ => by rw [dif_neg (z i), mul_zero], add_zero]
    refine Finset.sum_congr rfl fun i _ => ?_
    unfold Data.lane
    rw [dif_pos (y i), dif_pos (y i)]
    rfl
  simp only [hx, hL, ← EReal.coe_add]
  unfold Data.du
  rw [Fin.sum_univ_six]
  rfl

/-- The gradient of the input. -/
theorem outX_eq (H : Reads D t B) {carry : Vec Ideal S8x128 .f32} (hC : Carries D t carry) (r : Fin 256) (j : Fin 1024) :
    outX (word t) B carry (ix2 r j) = ↑(D.gradX (token t r) j) := by
  have hd := du_at H hC
  have hm := H.mod
  unfold outX
  generalize du (word t) B carry = d at hd ⊢
  generalize modRow B = m at hm ⊢
  pointwise [k0_pay1]
  rw [hd, hm, H.dxa, ← EReal.coe_mul, ← EReal.coe_add]
  rfl

/-- The gradient of the pooled channels and of the gates. -/
theorem outProj_eq (H : Reads D t B) (k : Fin 3) (r : Fin 256) (c : Fin 512) :
    outProj (word t) B (ix2 r ⟨512 * k.val + c.val, by omega⟩) = ↑(D.main ⟨k.val + 3, by omega⟩ (token t r) c) := by
  unfold outProj projOver
  match k with
  | 0 =>
    rw [put_elsewhere _ _ _ _ _ _ (by right; left; show 512 * 0 + c.val < 1024; omega),
      put_elsewhere _ _ _ _ _ _ (by right; left; show 512 * 0 + c.val < 512; omega),
      put_at _ _ _ _ (ix2 r c) _ _ (Nat.zero_add _) rfl, poolAll_eq H]
    rfl
  | 1 =>
    rw [put_elsewhere _ _ _ _ _ _ (by right; left; show 512 * 1 + c.val < 1024; omega), put_at _ _ _ _ (ix2 r c) _ _ (Nat.zero_add _) rfl]
    pointwise [k0_pay36]
    exact H.dga _ _
  | 2 =>
    rw [put_at _ _ _ _ (ix2 r c) _ _ (Nat.zero_add _) rfl]
    pointwise [k0_pay39]
    exact H.dgp _ _

/-! ## What is summed over the tiles -/

/-- A sum over the tokens behind, and what a tile adds to it. -/
theorem extend_sum (g : Fin 4096 → ℝ) {a b : EReal} (ha : a = ↑(after g (256 * (16 - t.val)))) (hb : b = ↑(∑ r, g (token t r))) :
    a + b = ↑(after g (256 * (16 - (t.val + 1)))) := by
  rw [ha, hb, ← EReal.coe_add, after_tile]

theorem stepForget_eq (H : Reads D t B) {carry : Vec Ideal S8x128 .f32} (hC : Carries D t carry) (old : Vec Ideal S128x1024 .f32) (l : Fin 128) (j : Fin 1024)
    (ho : old (ix2 l j) = ↑(after (fun s => D.lane s l * D.u s j) (256 * (16 - t.val)))) :
    stepForget B carry old (ix2 l j) = ↑(after (fun s => D.lane s l * D.u s j) (256 * (16 - (t.val + 1)))) := by
  have hl := lane_eq H hC
  unfold stepForget
  generalize hg : k0_pay46 (dlog B carry) (k0_pay43 B.f) one = L at hl
  pointwise [k0_pay48, hg]
  exact extend_sum (fun s => D.lane s l * D.u s j) ho (dot_eq_coe (fun x => hl x l) fun x => H.u x j)

theorem stepForgetBias_eq (H : Reads D t B) {carry : Vec Ideal S8x128 .f32} (hC : Carries D t carry) (old : Vec Ideal S8x128 .f32) (l : Fin 128)
    (ho : old (ix2 0 l) = ↑(after (fun s => D.lane s l) (256 * (16 - t.val)))) :
    stepForgetBias B carry old (ix2 0 l) = ↑(after (fun s => D.lane s l) (256 * (16 - (t.val + 1)))) := by
  have hl := lane_sum H hC
  unfold stepForgetBias
  generalize hg : k0_pay44 (dlog B carry) (k0_pay43 B.f) one = L at hl
  pointwise [k0_pay45, k0_pay9, hg]
  have e0 : ∀ x, L (ix2 l x) - L (ix2 l x) = 0 := fun x => by rw [hl, ← EReal.coe_sub, sub_self, EReal.coe_zero]
  simp only [e0, sub_zero, Finset.sum_const_zero, add_zero]
  exact extend_sum (fun s => D.lane s l) ho (sum_eq_coe fun x => hl x l)

theorem stepScale_eq (H : Reads D t B) {carry : Vec Ideal S8x128 .f32} (hC : Carries D t carry) (old : Vec Ideal S8x1024 .f32) (j : Fin 1024)
    (ho : old (ix2 0 j) = ↑(after (fun s => D.du s j * D.x s j) (256 * (16 - t.val)))) :
    stepMod (word t) B carry old (ix2 0 j) = ↑(after (fun s => D.du s j * D.x s j) (256 * (16 - (t.val + 1)))) := by
  have hd := du_at H hC
  unfold stepMod
  generalize du (word t) B carry = d at hd ⊢
  rw [put_elsewhere _ _ _ _ _ _ (by left; left; show 0 < 1; omega), put_at _ _ _ _ (ix2 0 j) _ _ rfl (Nat.zero_add _)]
  have e : VecWindow.window old ![0, 0] S1x1024.size inb_S8x1024_S1x1024_0_0 (ix2 0 j) = old (ix2 0 j) := window_at _ _ _ _ _ _ _ rfl (Nat.zero_add _)
  generalize VecWindow.window old ![0, 0] S1x1024.size inb_S8x1024_S1x1024_0_0 = v at e ⊢
  pointwise [k0_pay2]
  exact extend_sum (fun s => D.du s j * D.x s j) (e.trans ho) (dot_eq_coe (fun x => hd x j) fun x => H.x x j)

theorem stepShift_eq (H : Reads D t B) {carry : Vec Ideal S8x128 .f32} (hC : Carries D t carry) (old : Vec Ideal S8x1024 .f32) (j : Fin 1024)
    (ho : old (ix2 1 j) = ↑(after (fun s => D.du s j) (256 * (16 - t.val)))) :
    stepMod (word t) B carry old (ix2 1 j) = ↑(after (fun s => D.du s j) (256 * (16 - (t.val + 1)))) := by
  have hd := du_at H hC
  unfold stepMod
  generalize du (word t) B carry = d at hd ⊢
  rw [put_at _ _ _ _ (ix2 0 j) _ _ rfl (Nat.zero_add _)]
  have e : VecWindow.window old ![1, 0] S1x1024.size inb_S8x1024_S1x1024_1_0 (ix2 0 j) = old (ix2 1 j) := window_at _ _ _ _ _ _ _ rfl (Nat.zero_add _)
  generalize VecWindow.window old ![1, 0] S1x1024.size inb_S8x1024_S1x1024_1_0 = v at e ⊢
  pointwise [k0_pay3]
  exact extend_sum (fun s => D.du s j) (e.trans ho) (sum_eq_coe fun x => hd x j)

/-- The heads' part of the bias. -/
theorem bias_heads {a : Vec Ideal S8x64x256 .bf16} {g : Fin 4096 → Fin 512 → ℝ}
    (hq : ∀ (h : Fin 8) (e : Fin 64) (r : Fin 256), a (ix3 h e r) = ↑(g (token t r) ⟨64 * h.val + e.val, by omega⟩)) (old : Vec Ideal S8x512 .f32) (c : Fin 512)
    (ho : old (ix2 0 c) = ↑(after (fun s => g s c) (256 * (16 - t.val)))) :
    k0_pay11 a old (ix2 0 c) = ↑(after (fun s => g s c) (256 * (16 - (t.val + 1)))) := by
  have hx : (⟨64 * (c.val / 64) + c.val % 64, by omega⟩ : Fin 512) = c := Fin.ext (Nat.div_add_mod _ _)
  pointwise [k0_pay11, k0_pay10, k0_pay9]
  refine extend_sum (fun s => g s c) ho (sum_eq_coe fun x => ?_)
  rw [hq, hx]

/-- The bias's blocks are apart, so each is its own sum. -/
theorem stepBias_eq (H : Reads D t B) (old : Vec Ideal S8x3072 .f32) (k : Fin 6) (c : Fin 512)
    (ho : old (ix2 0 ⟨512 * k.val + c.val, by omega⟩) = ↑(after (fun s => D.main k s c) (256 * (16 - t.val)))) :
    stepBias (word t) B old (ix2 0 ⟨512 * k.val + c.val, by omega⟩) = ↑(after (fun s => D.main k s c) (256 * (16 - (t.val + 1)))) := by
  unfold stepBias
  match k with
  | 0 =>
    rw [put_elsewhere _ _ _ _ _ _ (by right; left; show 512 * 0 + c.val < 2560; omega),
      put_elsewhere _ _ _ _ _ _ (by right; left; show 512 * 0 + c.val < 2048; omega),
      put_elsewhere _ _ _ _ _ _ (by right; left; show 512 * 0 + c.val < 1536; omega),
      put_elsewhere _ _ _ _ _ _ (by right; left; show 512 * 0 + c.val < 1024; omega),
      put_elsewhere _ _ _ _ _ _ (by right; left; show 512 * 0 + c.val < 512; omega),
      put_at _ _ _ _ (ix2 0 c) _ _ rfl rfl]
    exact bias_heads H.dq _ c ((window_at _ _ _ _ _ _ _ rfl rfl).trans ho)
  | 1 =>
    rw [put_elsewhere _ _ _ _ _ _ (by right; left; show 512 * 1 + c.val < 2560; omega),
      put_elsewhere _ _ _ _ _ _ (by right; left; show 512 * 1 + c.val < 2048; omega),
      put_elsewhere _ _ _ _ _ _ (by right; left; show 512 * 1 + c.val < 1536; omega),
      put_elsewhere _ _ _ _ _ _ (by right; left; show 512 * 1 + c.val < 1024; omega),
      put_at _ _ _ _ (ix2 0 c) _ _ rfl rfl]
    exact bias_heads H.dk _ c ((window_at _ _ _ _ _ _ _ rfl rfl).trans ho)
  | 2 =>
    rw [put_elsewhere _ _ _ _ _ _ (by right; left; show 512 * 2 + c.val < 2560; omega),
      put_elsewhere _ _ _ _ _ _ (by right; left; show 512 * 2 + c.val < 2048; omega),
      put_elsewhere _ _ _ _ _ _ (by right; left; show 512 * 2 + c.val < 1536; omega),
      put_at _ _ _ _ (ix2 0 c) _ _ rfl rfl]
    exact bias_heads H.dv _ c ((window_at _ _ _ _ _ _ _ rfl rfl).trans ho)
  | 3 =>
    rw [put_elsewhere _ _ _ _ _ _ (by right; left; show 512 * 3 + c.val < 2560; omega),
      put_elsewhere _ _ _ _ _ _ (by right; left; show 512 * 3 + c.val < 2048; omega),
      put_at _ _ _ _ (ix2 0 c) _ _ rfl rfl, poolBias_eq H _ c ((window_at _ _ _ _ _ _ _ rfl rfl).trans ho)]
    rw [after_tile]
    rfl
  | 4 =>
    rw [put_elsewhere _ _ _ _ _ _ (by right; left; show 512 * 4 + c.val < 2560; omega), put_at _ _ _ _ (ix2 0 c) _ _ rfl rfl]
    have e : VecWindow.window old ![0, 2048] S1x512.size inb_S8x3072_S1x512_0_2048 (ix2 0 c) = _ := (window_at _ _ _ _ _ _ _ rfl rfl).trans ho
    generalize VecWindow.window old ![0, 2048] S1x512.size inb_S8x3072_S1x512_0_2048 = v at e ⊢
    pointwise [k0_pay35]
    exact extend_sum (fun s => D.main 4 s c) e (sum_eq_coe fun x => H.dga x c)
  | 5 =>
    rw [put_at _ _ _ _ (ix2 0 c) _ _ rfl rfl]
    have e : VecWindow.window old ![0, 2560] S1x512.size inb_S8x3072_S1x512_0_2560 (ix2 0 c) = _ := (window_at _ _ _ _ _ _ _ rfl rfl).trans ho
    generalize VecWindow.window old ![0, 2560] S1x512.size inb_S8x3072_S1x512_0_2560 = v at e ⊢
    pointwise [k0_pay38]
    exact extend_sum (fun s => D.main 5 s c) e (sum_eq_coe fun x => H.dgp x c)

end Cert.Proof.Projection
-- ==== Proof.Projection.Reference.lean ====
module

public import proofs.«01_k».proof.Proof.Gen.Reference2Ideal.Read
public import proofs.«01_k».proof.Proof.Projection.Pieces
public import Idealize.ShloMosaic.Lib.IdealHost
public import Idealize.ShloMosaic.Lib.Affine
public import Idealize.ShloMosaic.Lib.StableHlo.Predicate

/-! What the reference of the projection's gradient computes, as numbers. -/

@[expose] public section

set_option maxRecDepth 16384

noncomputable section

namespace Cert.Proof.Projection

open Idealize.ShloMosaic Cert.Reference2Ideal Cert.Reference2Ideal.Gen Cert.Reference2Ideal.Read Cert.Proof.Attention

abbrev Arr (s : Shape) : Type := (⟨s, .f32⟩ : BufTy).Contents (Elt Ideal)

/-- The arguments, in their order. -/
structure Args where
  x0 : Arr S4096x1024
  (x1 x2 : Arr S1x1024)
  x3 : Arr S1024x3080
  x4 : Arr S3080
  (x5 x6 x7 : Arr S4096x512)
  x8 : Arr S4096x8
  (x9 x10 x11 : Arr S4096x512)
  x12 : Arr S4096x1024

/-- Every argument is made of numbers. -/
structure Args.Real (A : Args) : Prop where
  r0 : ∀ i, IsReal (A.x0 i)
  r1 : ∀ i, IsReal (A.x1 i)
  r2 : ∀ i, IsReal (A.x2 i)
  r3 : ∀ i, IsReal (A.x3 i)
  r4 : ∀ i, IsReal (A.x4 i)
  r5 : ∀ i, IsReal (A.x5 i)
  r6 : ∀ i, IsReal (A.x6 i)
  r7 : ∀ i, IsReal (A.x7 i)
  r8 : ∀ i, IsReal (A.x8 i)
  r9 : ∀ i, IsReal (A.x9 i)
  r10 : ∀ i, IsReal (A.x10 i)
  r11 : ∀ i, IsReal (A.x11 i)
  r12 : ∀ i, IsReal (A.x12 i)

namespace Args

variable (A : Args)

/-- The modulated input, and the gates' logits. -/
abbrev modulated : Arr S4096x1024 := val_main_v5 (F := Ideal) A.x0 A.x1 A.x2
abbrev logits : Arr S4096x8 := val_main_v13 (F := Ideal) A.x0 A.x1 A.x2 A.x3 A.x4

def data : Data where
  dq s c := (A.x5 (ix2 s c)).toReal
  dk s c := (A.x6 (ix2 s c)).toReal
  dv s c := (A.x7 (ix2 s c)).toReal
  dc s h := (A.x8 (ix2 s h)).toReal
  dpo s c := (A.x9 (ix2 s c)).toReal
  dga s c := (A.x10 (ix2 s c)).toReal
  dgp s c := (A.x11 (ix2 s c)).toReal
  x s j := (A.x0 (ix2 s j)).toReal
  dxa s j := (A.x12 (ix2 s j)).toReal
  u s j := (A.modulated (ix2 s j)).toReal
  f s h := (A.logits (ix2 s h)).toReal
  sc j := (A.x2 (ix2 0 j)).toReal
  w j e := (A.x3 (ix2 j e)).toReal

end Args

theorem real_sum {ι : Type*} [Fintype ι] {g : ι → EReal} (hg : ∀ k, IsReal (g k)) : IsReal (∑ k, g k) :=
  .of_eq (sum_eq_coe hg)

/-- The derivative of the softplus as it is taken: through the softplus itself. -/
theorem exp_sub_softplus (z : ℝ) :
    Real.exp (z - (max z 0 + Real.log (1 + Real.exp (-(max z (-z)))))) = 1 / (1 + Real.exp (-z)) := by
  have hp : 0 < 1 + Real.exp (-(max z (-z))) := by positivity
  rw [← sub_sub, Real.exp_sub, Real.exp_log hp]
  rcases le_total 0 z with h | h
  · rw [max_eq_left h, max_eq_left (by linarith : -z ≤ z), sub_self, Real.exp_zero]
  · rw [max_eq_right h, max_eq_right (by linarith : z ≤ -z), neg_neg, sub_zero, div_eq_div_iff (by positivity) (by positivity), one_mul, mul_add,
      mul_one, ← Real.exp_add, add_neg_cancel, Real.exp_zero, add_comm]

variable {A : Args} (H : A.Real)

include H

theorem modulated_eq (s : Fin 4096) (j : Fin 1024) : A.modulated (ix2 s j) = ↑(A.data.u s j) := by
  show IsReal _
  pointwise [Args.modulated, val_main_v5, val_main_v3, val_main_v4, val_main_v2, val_main_v1, val_main_v0, val_main_cst]
  refine .add (.mul (H.r0 _) (.add ?_ (H.r2 _))) (H.r1 _)
  exact .of_eq (r := 1) (by simp)

theorem logits_eq (s : Fin 4096) (h : Fin 8) : A.logits (ix2 s h) = ↑(A.data.f s h) := by
  show IsReal _
  pointwise [Args.logits, val_main_v13, val_main_v9, val_main_v8, val_main_v7, val_main_v6]
  exact .add (real_sum fun k => .mul (modulated_eq H s k) (H.r3 _)) (H.r4 _)

theorem softplus_derivative (s : Fin 4096) (h : Fin 8) :
    val_main_v17_1 (F := Ideal) A.x0 A.x1 A.x2 A.x3 A.x4 (ix2 s h) = ↑(1 / (1 + Real.exp (A.data.f s h))) := by
  have hz : val_main_call0_v0 (F := Ideal) A.x0 A.x1 A.x2 A.x3 A.x4 (ix2 s h) = ↑(-(A.data.f s h)) := by
    rw [val_main_call0_v0_apply, EReal.coe_neg, ← logits_eq H]; rfl
  generalize A.data.f s h = f at hz ⊢
  have h3 : val_main_call0_call0_v3 (F := Ideal) A.x0 A.x1 A.x2 A.x3 A.x4 (ix2 s h) = ↑(-f) := by
    rw [val_main_call0_call0_v3_apply, val_main_call0_call0_v2_apply, val_main_call0_call0_cst_apply, hz,
      Ideal.subf_def, Ideal.ofBits_def, Ideal.ofBits_zero_f32, sub_zero]
  have h4 : val_main_call0_call0_v4 (F := Ideal) A.x0 A.x1 A.x2 A.x3 A.x4 (ix2 s h) = 0#1 := by
    rw [val_main_call0_call0_v4_apply]
    show Ideal.cmp .une _ _ = 0#1
    simp [Ideal.cmp]
  have ho : val_main_call0_v1_0 (F := Ideal) A.x0 A.x1 A.x2 A.x3 A.x4 (ix2 s h)
      = ↑(max (-f) 0 + Real.log (1 + Real.exp (-(max (-f) (- -f))))) := by
    rw [val_main_call0_v1_0_apply, h4]
    show val_main_call0_call0_v11 (F := Ideal) A.x0 A.x1 A.x2 A.x3 A.x4 (ix2 s h) = _
    rw [val_main_call0_call0_v11_apply, val_main_call0_call0_v1_apply, val_main_call0_call0_v0_apply, val_main_call0_call0_cst_apply, hz,
      val_main_call0_call0_v10_apply, val_main_call0_call0_v9_apply, val_main_call0_call0_v8_apply, val_main_call0_call0_v7_apply, h3]
    show max (((-f : ℝ) : EReal)) (Ideal.ofBits .f32 0#32)
      + Ideal.log (1 + Ideal.exp (-(max (((-f : ℝ) : EReal)) (-((-f : ℝ) : EReal))))) = _
    have hm (a b : ℝ) : max (a : EReal) (b : EReal) = ((max a b : ℝ) : EReal) := (EReal.coe_strictMono.monotone.map_max).symm
    rw [Ideal.ofBits_zero_f32, ← EReal.coe_zero, ← EReal.coe_neg, hm, hm, ← EReal.coe_neg, Ideal.exp_coe, ← EReal.coe_one, ← EReal.coe_add,
      log_coe_pos (by positivity), ← EReal.coe_add]
  have hc (y : EReal) (hy : IsReal y) : Ideal.cmp .oeq y (Ideal.ofBits .f32 0x7F800000#32) = 0#1 := by
    have : Ideal.ofBits .f32 0x7F800000#32 = ⊤ := by simp [Ideal.ofBits, Ideal.ieee]
    rw [this]
    simp [Ideal.cmp, hy.ne_top]
  have h16 : val_main_call0_call0_v16 (F := Ideal) A.x0 A.x1 A.x2 A.x3 A.x4 (ix2 s h) = ↑(-f) := by
    have e : val_main_call0_call0_v14 (F := Ideal) A.x0 A.x1 A.x2 A.x3 A.x4 (ix2 s h) = 0#1 := by
      rw [val_main_call0_call0_v14_apply, hz, val_main_call0_call0_v13_apply, val_main_call0_call0_cst_0_apply]
      exact hc _ (.coe _)
    rw [val_main_call0_call0_v16_apply, e]; exact hz
  have h20 : val_main_call0_call0_v20 (F := Ideal) A.x0 A.x1 A.x2 A.x3 A.x4 (ix2 s h)
      = ↑(max (-f) 0 + Real.log (1 + Real.exp (-(max (-f) (- -f))))) := by
    have e : val_main_call0_call0_v18 (F := Ideal) A.x0 A.x1 A.x2 A.x3 A.x4 (ix2 s h) = 0#1 := by
      rw [val_main_call0_call0_v18_apply, ho, val_main_call0_call0_v17_apply, val_main_call0_call0_cst_2_apply]
      exact hc _ (.coe _)
    rw [val_main_call0_call0_v20_apply, e]; exact ho
  rw [val_main_v17_1_apply, val_main_call0_call0_v21_apply, h16, h20, Ideal.subf_def, Ideal.hostUnary_exp_def,
    ← EReal.coe_sub, Ideal.exp_coe, exp_sub_softplus, neg_neg]

theorem gate_eq (s : Fin 4096) (h : Fin 8) : val_main_v128 (F := Ideal) A.x8 (ix2 s h) = ↑(A.data.gate h s) := by
  unfold val_main_v128
  refine window_sum A.x8 (fun s h => A.data.dc s h) _ _ ?_ _ (fun s h => H.r8 _) s h
  rw [val_main_call4_call0_v0_apply, val_main_call4_call0_cst_apply, Ideal.ofBits_def, Ideal.ofBits_zero_f32]

theorem forget_eq (s : Fin 4096) (h : Fin 8) :
    val_main_v129 (F := Ideal) A.x0 A.x1 A.x2 A.x3 A.x4 A.x8 (ix2 s h) = ↑(A.data.forget s h) := by
  rw [val_main_v129_apply, val_main_call5_v1_apply, val_main_call5_v0_apply, gate_eq H, softplus_derivative H]
  show -(-((A.data.gate h s : ℝ) : EReal) * ((1 / (1 + Real.exp (A.data.f s h)) : ℝ) : EReal)) = _
  rw [← EReal.coe_neg, ← EReal.coe_mul, ← EReal.coe_neg]
  unfold Data.forget
  congr 1; ring

/-! ## The pooled channels -/

omit H in
theorem min_coe (a b : ℕ) : min ((a : ℝ) : EReal) ((b : ℝ) : EReal) = (((min a b : ℕ) : ℝ) : EReal) := by
  rw [Nat.cast_min, EReal.coe_strictMono.monotone.map_min]

omit H in
/-- The number of tokens up to one. -/
theorem count_eq (i : Fin 4096) : val_main_v22 (F := Ideal) (ix1 i) = (((i.val + 1 : ℕ) : ℝ) : EReal) := by
  pointwise [val_main_v22, val_main_v21, val_main_v20, val_main_cst_0]
  have e : (BitVec.ofNat 32 i.val).toInt = i.val := by
    rw [BitVec.toInt_eq_toNat_cond, BitVec.toNat_ofNat, Nat.mod_eq_of_lt (by omega), if_pos (by omega)]
  have e' : FloatOps.sitofp (F := Ideal) .f32 (BitVec.ofNat 32 i.val) = (((BitVec.ofNat 32 i.val).toInt : ℝ) : EReal) := rfl
  rw [e', e]
  simp [add_comm]

omit H in
theorem share_of (n : ℕ) {c : Fin 512} (hn : Data.width c = n) {num den : EReal} {s : Fin 4096}
    (hd : den = min ((((s.val + 1 : ℕ) : ℝ)) : EReal) ((n : ℝ) : EReal)) (hnum : num = ↑(A.data.dpo s c)) :
    Ideal.div num den = ↑(A.data.share c s) := by
  rw [hd, hnum, min_coe, div_coe_coe]
  · unfold Data.share; rw [hn]
  · have : 0 < n := hn ▸ Nat.two_pow_pos _
    exact_mod_cast (by omega : min (s.val + 1) n ≠ 0)

omit H in
theorem width_eq {c : Fin 512} (g n : ℕ) (h : c.val / 128 = g) (hn : 2 ^ (g + 1) = n) : Data.width c = n := by
  unfold Data.width; rw [h, hn]

theorem dpo_eq (s : Fin 4096) (c : Fin 512) : A.x9 (ix2 s c) = ↑(A.data.dpo s c) := H.r9 _

end Cert.Proof.Projection
-- ==== Proof.Projection.Host.lean ====
module

public import proofs.«01_k».proof.Proof.Gen.Kernel2Ideal.Frame
public import proofs.«01_k».proof.Proof.Projection.Reference
public import Idealize.ShloMosaic.Lib.StableHlo.RunRead

@[expose] public section

set_option maxRecDepth 16384

noncomputable section

/-! # The arrays the launch reads, as the arguments' numbers -/

namespace Cert.Proof.Projection

open Idealize.ShloMosaic Cert.Kernel2Ideal Cert.Kernel2Ideal.Gen Cert.Proof.Attention

variable (m : (ℓ : Loc nD τ sig) → Buf (Elt Ideal) ℓ) (c : Dev nD)

/-- The arguments. -/
def args : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)

def zero : FVec Ideal S_ .f32 := sitofp .f32 (constantI S_ 32 0#32)

/-- A head at a time, in 128 lanes. -/
def packed (x : FVec Ideal S4096x512 .f32) : FVec Ideal S8x128x4096 .bf16 :=
  truncf .bf16 (pad S8x128x4096 ![0, 0, 0] ![0, 64, 0] ![0, 0, 0]
    (transpose S8x64x4096 [1, 2, 0] (shapeCast S4096x8x64 x shapeCasts_S4096x512_S4096x8x64) transposes_S4096x8x64_S8x64x4096_1_2_0)
    zero pads_S8x64x4096_S8x128x4096_000_0640_000 h_S_) bitsLt_bf16_f32

theorem read0 : V (F := Ideal) m c main_arg0 = (args m c).x0 := by after_reads_simp; rfl
theorem read9 : V (F := Ideal) m c main_arg9 = (args m c).x9 := by after_reads_simp; rfl
theorem read10 : V (F := Ideal) m c main_arg10 = (args m c).x10 := by after_reads_simp; rfl
theorem read11 : V (F := Ideal) m c main_arg11 = (args m c).x11 := by after_reads_simp; rfl
theorem read12 : V (F := Ideal) m c main_arg12 = (args m c).x12 := by after_reads_simp; rfl

theorem read_dq : V (F := Ideal) m c main_v25 = packed (args m c).x5 := by after_reads_simp; rfl
theorem read_dk : V (F := Ideal) m c main_v29 = packed (args m c).x6 := by after_reads_simp; rfl
theorem read_dv : V (F := Ideal) m c main_v33 = packed (args m c).x7 := by after_reads_simp; rfl

theorem read_dc : V (F := Ideal) m c main_v35
    = broadcastInDim S8x1x4096 ![0, 2] bcast_S8x4096_S8x1x4096_0_2 (transpose S8x4096 [1, 0] (args m c).x8 transposes_S4096x8_S8x4096_1_0) := by
  after_reads_simp; rfl

/-- The gates' logits, from their own columns of the projection. -/
def logits (A : Args) : FVec Ideal S4096x8 .f32 :=
  addf (Host.dotGeneral (F := Ideal) (φ₁ := .f32) (φ₂ := .f32) dot_S4096x1024_S1024x8_S4096x8_1_0_0_1_n_n none A.modulated
      (extractStridedSlice S1024x8 ![0, 1536] A.x3 slices_S1024x3080_S1024x8_0_1536))
    (broadcastInDim S4096x8 ![0, 1] bcast_S1x8_S4096x8_0_1
      (broadcastInDim S1x8 ![1] bcast_S8_S1x8_1 (extractStridedSlice S8 ![1536] A.x4 slices_S3080_S8_1536)))

theorem read_f : V (F := Ideal) m c main_v36
    = pad S4096x128 ![0, 0] ![0, 120] ![0, 0] (logits (args m c)) zero pads_S4096x8_S4096x128_000_01200 h_S_ := by
  after_reads_simp; rfl

theorem read_u : V (F := Ideal) m c main_v37 = (truncf (F := Ideal) .bf16 (args m c).modulated bitsLt_bf16_f32 : FVec Ideal S4096x1024 .bf16) := by
  after_reads_simp; rfl

/-- The modulation in two of eight rows. -/
def modulation (A : Args) : FVec Ideal S8x1024 .f32 :=
  concatenate S8x1024 0
    [⟨S1x1024, addf (broadcastInDim S1x1024 ![] bcast_S_S1x1024 (constant S_ .f32 1065353216#32)) A.x2⟩, ⟨S1x1024, A.x1⟩,
     ⟨S6x1024, broadcastInDim S6x1024 ![] bcast_S_S6x1024 (constant (F := Ideal) S_ .f32 0#32)⟩]
    concatenates_S1x1024_S1x1024_S6x1024_S8x1024_d0

theorem read_mod : V (F := Ideal) m c main_v15 = modulation (args m c) := by
  after_reads_simp [Matrix.cons_val, StableHlo.readPieces]
  rfl

/-- The projection's columns as rows, without the gates' logits, and these alone. -/
def flipped (x : FVec Ideal S1024x3080 .f32) : FVec Ideal S3080x1024 .f32 := transpose S3080x1024 [1, 0] x transposes_S1024x3080_S3080x1024_1_0
def weights (A : Args) : FVec Ideal S3072x1024 .bf16 :=
  truncf .bf16 (concatenate S3072x1024 0
    [⟨S1536x1024, extractStridedSlice S1536x1024 ![0, 0] (flipped A.x3) slices_S3080x1024_S1536x1024_0_0⟩,
     ⟨S1536x1024, extractStridedSlice S1536x1024 ![1544, 0] (flipped A.x3) slices_S3080x1024_S1536x1024_1544_0⟩]
    concatenates_S1536x1024_S1536x1024_S3072x1024_d0) bitsLt_bf16_f32
def logitWeights (A : Args) : FVec Ideal S128x1024 .bf16 :=
  truncf .bf16 (pad S128x1024 ![0, 0] ![120, 0] ![0, 0] (extractStridedSlice S8x1024 ![1536, 0] (flipped A.x3) slices_S3080x1024_S8x1024_1536_0)
    zero pads_S8x1024_S128x1024_01200_000 h_S_) bitsLt_bf16_f32

theorem read_w : V (F := Ideal) m c main_v38 = weights (args m c) := by
  after_reads_simp [Matrix.cons_val, StableHlo.readPieces]
  rfl

theorem read_wf : V (F := Ideal) m c main_v39 = logitWeights (args m c) := by
  after_reads_simp [Matrix.cons_val, StableHlo.readPieces]
  rfl

/-! ## Their entries -/

theorem pad_head (x : S8x64x4096.Idx → EReal) (v : S_.Idx → EReal) (h : Fin 8) (e : Fin 64) (s : Fin 4096) :
    pad S8x128x4096 ![0, 0, 0] ![0, 64, 0] ![0, 0, 0] x v pads_S8x64x4096_S8x128x4096_000_0640_000 h_S_ (ix3 h ⟨e.val, by omega⟩ s) = x (ix3 h e s) := by
  refine pad_apply_of_inside _ _ _ _ _ _ _ _ _ fun n => ?_
  match n with
  | ⟨0, _⟩ => show h.val = 0 + h.val * 1; omega
  | ⟨1, _⟩ => show e.val = 0 + e.val * 1; omega
  | ⟨2, _⟩ => show s.val = 0 + s.val * 1; omega

theorem packed_at (x : FVec Ideal S4096x512 .f32) (h : Fin 8) (e : Fin 64) (s : Fin 4096) :
    packed x (ix3 h ⟨e.val, by omega⟩ s) = x (ix2 s ⟨64 * h.val + e.val, by omega⟩) := by
  refine (pad_head _ _ h e s).trans ?_
  pointwise []
  have e1 : (⟨h.val * 64 + e.val, by omega⟩ : Fin 512) = ⟨64 * h.val + e.val, by omega⟩ := Fin.ext (by show h.val * 64 + e.val = 64 * h.val + e.val; omega)
  exact congrArg (fun q : Fin 512 => x (ix2 s q)) e1

theorem zero_at (i : S_.Idx) : zero i = 0 := by
  show (((0#32 : BitVec 32).toInt : ℝ) : EReal) = 0
  simp

variable {A : Args} (H : A.Real)

include H in
theorem logits_at (s : Fin 4096) (h : Fin 8) : logits A (ix2 s h) = ↑(A.data.f s h) := by
  rw [← logits_eq H]
  unfold logits
  generalize hu : A.modulated = u
  have hu' : Cert.Reference2Ideal.Read.val_main_v5 (F := Ideal) A.x0 A.x1 A.x2 = u := hu
  pointwise [Args.logits, Cert.Reference2Ideal.Read.val_main_v13, Cert.Reference2Ideal.Read.val_main_v9, Cert.Reference2Ideal.Read.val_main_v8,
    Cert.Reference2Ideal.Read.val_main_v7, Cert.Reference2Ideal.Read.val_main_v6, hu']

include H in
theorem modulation_at (j : Fin 1024) : modulation A (ix2 0 j) = ↑(1 + A.data.sc j) := by
  unfold modulation
  pointwise []
  rw [H.r2 (ix2 0 j)]
  exact (EReal.coe_add 1 _).symm

include H in
theorem weights_at (k : Fin 6) (c : Fin 512) (j : Fin 1024) : weights A (ix2 ⟨512 * k.val + c.val, by omega⟩ j) = ↑(A.data.w j (Data.column k c)) := by
  unfold weights
  pointwise [flipped]
  have e : (if h : 512 * k.val + c.val < 1536 then A.x3 (ix2 j ⟨512 * k.val + c.val, by omega⟩)
      else A.x3 (ix2 j ⟨1544 + (512 * k.val + c.val - 1536), by omega⟩)) = A.x3 (ix2 j (Data.column k c)) := by
    split
    · refine congrArg (fun q : Fin 3080 => A.x3 (ix2 j q)) (Fin.ext ?_)
      show 512 * k.val + c.val = if k.val < 3 then 512 * k.val + c.val else 512 * k.val + c.val + 8
      rw [if_pos (by omega)]
    · refine congrArg (fun q : Fin 3080 => A.x3 (ix2 j q)) (Fin.ext ?_)
      show 1544 + (512 * k.val + c.val - 1536) = if k.val < 3 then 512 * k.val + c.val else 512 * k.val + c.val + 8
      rw [if_neg (by omega)]
      omega
  exact e.trans (H.r3 _)

include H in
theorem logitWeights_at (l : Fin 128) (j : Fin 1024) :
    logitWeights A (ix2 l j) = ↑(if h : l.val < 8 then A.data.w j (Data.logit ⟨l.val, h⟩) else 0) := by
  unfold logitWeights
  generalize hx : extractStridedSlice S8x1024 ![1536, 0] (flipped A.x3) slices_S3080x1024_S8x1024_1536_0 = x
  by_cases h : l.val < 8
  · refine (pad_inside ![0, 0] ![120, 0] x zero pads_S8x1024_S128x1024_01200_000 h_S_ ⟨l.val, h⟩ j l j ?_ ?_).trans ?_
    · show l.val = 0 + l.val; omega
    · show j.val = 0 + j.val; omega
    rw [dif_pos h, ← hx]
    pointwise [flipped]
    exact H.r3 _
  · refine (pad_row_outside ![0, 0] ![120, 0] x zero pads_S8x1024_S128x1024_01200_000 h_S_ l j ?_).trans ?_
    · show ¬(0 ≤ l.val ∧ l.val < 0 + 8); omega
    rw [dif_neg h, zero_at, EReal.coe_zero]

end Cert.Proof.Projection
-- ==== Proof.Projection.Totals.lean ====
module

public import proofs.«01_k».proof.Proof.Projection.Launch
public import proofs.«01_k».proof.Proof.Projection.Values
public import proofs.«01_k».proof.Proof.Projection.Host

@[expose] public section

set_option maxRecDepth 16384

noncomputable section

/-! # The blocks of every tile, and the sums over the tiles, as numbers -/

namespace Cert.Proof.Projection

open Idealize.ShloMosaic Idealize.ShloMosaic.TcCoe Cert.Kernel2Ideal Cert.Kernel2Ideal.Gen Cert.Proof.Attention

variable (m : (ℓ : Loc nD τ sig) → Buf (Elt Ideal) ℓ) (c : Dev nD)

/-- The number of a point. -/
def point (t : Fin cfg0.N) : Fin 16 := ⟨t.val, t.isLt⟩

theorem tile_eq : ∀ t : Fin cfg0.N, tileOf (grid0.coords t) = word (point t) :=
  (by decide +kernel : ∀ t : Fin grid0.N, tileOf (grid0.coords t) = BitVec.ofNat 32 (15 - t.val))

/-! ## Where a block's element lies in its array -/

theorem index0 : ∀ t : Fin cfg0.N, win0_0.index t (0 : Fin 3) = 0 ∧ win0_0.index t (1 : Fin 3) = 0 ∧ win0_0.index t (2 : Fin 3) = 15 - t.val :=
  (by decide +kernel : ∀ t : Fin grid0.N, _)
theorem index1 : ∀ t : Fin cfg0.N, win0_1.index t (0 : Fin 3) = 0 ∧ win0_1.index t (1 : Fin 3) = 0 ∧ win0_1.index t (2 : Fin 3) = 15 - t.val :=
  (by decide +kernel : ∀ t : Fin grid0.N, _)
theorem index2 : ∀ t : Fin cfg0.N, win0_2.index t (0 : Fin 3) = 0 ∧ win0_2.index t (1 : Fin 3) = 0 ∧ win0_2.index t (2 : Fin 3) = 15 - t.val :=
  (by decide +kernel : ∀ t : Fin grid0.N, _)
theorem index3 : ∀ t : Fin cfg0.N, win0_3.index t (0 : Fin 3) = 0 ∧ win0_3.index t (1 : Fin 3) = 0 ∧ win0_3.index t (2 : Fin 3) = 15 - t.val :=
  (by decide +kernel : ∀ t : Fin grid0.N, _)
theorem index4 : ∀ t : Fin cfg0.N, win0_4.index t (0 : Fin 2) = 15 - t.val ∧ win0_4.index t (1 : Fin 2) = 0 := (by decide +kernel : ∀ t : Fin grid0.N, _)
theorem index5 : ∀ t : Fin cfg0.N, win0_5.index t (0 : Fin 2) = 15 - t.val ∧ win0_5.index t (1 : Fin 2) = 0 := (by decide +kernel : ∀ t : Fin grid0.N, _)
theorem index6 : ∀ t : Fin cfg0.N, win0_6.index t (0 : Fin 2) = min ((15 - t.val + 1) * 16) 255 ∧ win0_6.index t (1 : Fin 2) = 0 :=
  (by decide +kernel : ∀ t : Fin grid0.N, _)
theorem index7 : ∀ t : Fin cfg0.N, win0_7.index t (0 : Fin 2) = 15 - t.val ∧ win0_7.index t (1 : Fin 2) = 0 := (by decide +kernel : ∀ t : Fin grid0.N, _)
theorem index8 : ∀ t : Fin cfg0.N, win0_8.index t (0 : Fin 2) = 15 - t.val ∧ win0_8.index t (1 : Fin 2) = 0 := (by decide +kernel : ∀ t : Fin grid0.N, _)
theorem index9 : ∀ t : Fin cfg0.N, win0_9.index t (0 : Fin 2) = 15 - t.val ∧ win0_9.index t (1 : Fin 2) = 0 := (by decide +kernel : ∀ t : Fin grid0.N, _)
theorem index10 : ∀ t : Fin cfg0.N, win0_10.index t (0 : Fin 2) = 15 - t.val ∧ win0_10.index t (1 : Fin 2) = 0 := (by decide +kernel : ∀ t : Fin grid0.N, _)
theorem index11 : ∀ t : Fin cfg0.N, win0_11.index t (0 : Fin 2) = 15 - t.val ∧ win0_11.index t (1 : Fin 2) = 0 := (by decide +kernel : ∀ t : Fin grid0.N, _)
theorem index12 : ∀ t : Fin cfg0.N, win0_12.index t (0 : Fin 2) = 0 ∧ win0_12.index t (1 : Fin 2) = 0 := (by decide +kernel : ∀ t : Fin grid0.N, _)
theorem index13 : ∀ t : Fin cfg0.N, win0_13.index t (0 : Fin 2) = 0 ∧ win0_13.index t (1 : Fin 2) = 0 := (by decide +kernel : ∀ t : Fin grid0.N, _)
theorem index14 : ∀ t : Fin cfg0.N, win0_14.index t (0 : Fin 2) = 0 ∧ win0_14.index t (1 : Fin 2) = 0 := (by decide +kernel : ∀ t : Fin grid0.N, _)
theorem index15 : ∀ t : Fin cfg0.N, win0_15.index t (0 : Fin 2) = 15 - t.val ∧ win0_15.index t (1 : Fin 2) = 0 := (by decide +kernel : ∀ t : Fin grid0.N, _)
theorem index16 : ∀ t : Fin cfg0.N, win0_16.index t (0 : Fin 2) = 15 - t.val ∧ win0_16.index t (1 : Fin 2) = 0 := (by decide +kernel : ∀ t : Fin grid0.N, _)

/-- A position from its coordinates. -/
theorem place2 {a b : ℕ} {z : (Mat a b).Idx} (i : Fin a) (j : Fin b) (h0 : (z 0).val = i.val) (h1 : (z 1).val = j.val) : z = ix2 i j := by
  funext n; apply Fin.ext
  match n with
  | ⟨0, _⟩ => exact h0
  | ⟨1, _⟩ => exact h1

theorem place3 {a b d : ℕ} {z : (⟨3, ![a, b, d]⟩ : Shape).Idx} (i : Fin a) (j : Fin b) (k : Fin d) (h0 : (z 0).val = i.val) (h1 : (z 1).val = j.val)
    (h2 : (z 2).val = k.val) : z = ix3 i j k := by
  funext n; apply Fin.ext
  match n with
  | ⟨0, _⟩ => exact h0
  | ⟨1, _⟩ => exact h1
  | ⟨2, _⟩ => exact h2

theorem emb0 (t : Fin cfg0.N) (h : Fin 8) (e : Fin 128) (r : Fin 256) :
    ((cfg0.win 0).blk t).view.emb (ix3 h e r) = ix3 h e (token (point t) r) := by
  obtain ⟨e0, e1, e2⟩ := index0 t
  refine place3 _ _ _ ?_ ?_ ?_
  · show win0_0.index t (0 : Fin 3) * 8 + 1 * h.val = h.val; omega
  · show win0_0.index t (1 : Fin 3) * 128 + 1 * e.val = e.val; omega
  · show win0_0.index t (2 : Fin 3) * 256 + 1 * r.val = 256 * (15 - t.val) + r.val; omega
theorem emb1 (t : Fin cfg0.N) (h : Fin 8) (e : Fin 128) (r : Fin 256) :
    ((cfg0.win 1).blk t).view.emb (ix3 h e r) = ix3 h e (token (point t) r) := by
  obtain ⟨e0, e1, e2⟩ := index1 t
  refine place3 _ _ _ ?_ ?_ ?_
  · show win0_1.index t (0 : Fin 3) * 8 + 1 * h.val = h.val; omega
  · show win0_1.index t (1 : Fin 3) * 128 + 1 * e.val = e.val; omega
  · show win0_1.index t (2 : Fin 3) * 256 + 1 * r.val = 256 * (15 - t.val) + r.val; omega
theorem emb2 (t : Fin cfg0.N) (h : Fin 8) (e : Fin 128) (r : Fin 256) :
    ((cfg0.win 2).blk t).view.emb (ix3 h e r) = ix3 h e (token (point t) r) := by
  obtain ⟨e0, e1, e2⟩ := index2 t
  refine place3 _ _ _ ?_ ?_ ?_
  · show win0_2.index t (0 : Fin 3) * 8 + 1 * h.val = h.val; omega
  · show win0_2.index t (1 : Fin 3) * 128 + 1 * e.val = e.val; omega
  · show win0_2.index t (2 : Fin 3) * 256 + 1 * r.val = 256 * (15 - t.val) + r.val; omega
theorem emb3 (t : Fin cfg0.N) (h : Fin 8) (r : Fin 256) :
    ((cfg0.win 3).blk t).view.emb (ix3 h 0 r) = ix3 h 0 (token (point t) r) := by
  obtain ⟨e0, e1, e2⟩ := index3 t
  refine place3 _ _ _ ?_ ?_ ?_
  · show win0_3.index t (0 : Fin 3) * 8 + 1 * h.val = h.val; omega
  · show win0_3.index t (1 : Fin 3) * 1 + 1 * 0 = 0; omega
  · show win0_3.index t (2 : Fin 3) * 256 + 1 * r.val = 256 * (15 - t.val) + r.val; omega
theorem emb4 (t : Fin cfg0.N) (r : Fin 256) (l : Fin 128) : ((cfg0.win 4).blk t).view.emb (ix2 r l) = ix2 (token (point t) r) l := by
  obtain ⟨e0, e1⟩ := index4 t
  refine place2 _ _ ?_ ?_
  · show win0_4.index t (0 : Fin 2) * 256 + 1 * r.val = 256 * (15 - t.val) + r.val; omega
  · show win0_4.index t (1 : Fin 2) * 128 + 1 * l.val = l.val; omega
theorem emb5 (t : Fin cfg0.N) (r : Fin 256) (l : Fin 512) : ((cfg0.win 5).blk t).view.emb (ix2 r l) = ix2 (token (point t) r) l := by
  obtain ⟨e0, e1⟩ := index5 t
  refine place2 _ _ ?_ ?_
  · show win0_5.index t (0 : Fin 2) * 256 + 1 * r.val = 256 * (15 - t.val) + r.val; omega
  · show win0_5.index t (1 : Fin 2) * 512 + 1 * l.val = l.val; omega
/-- The tokens behind the tile. -/
theorem emb6 (t : Fin cfg0.N) (ht : t.val ≠ 0) (k : Fin 16) (l : Fin 512) :
    ((cfg0.win 6).blk t).view.emb (ix2 k l) = ix2 ⟨256 * (16 - t.val) + k.val, by have : t.val < 16 := t.isLt; omega⟩ l := by
  obtain ⟨e0, e1⟩ := index6 t
  have hlt : t.val < 16 := t.isLt
  refine place2 _ _ ?_ ?_
  · show win0_6.index t (0 : Fin 2) * 16 + 1 * k.val = 256 * (16 - t.val) + k.val; omega
  · show win0_6.index t (1 : Fin 2) * 512 + 1 * l.val = l.val; omega
theorem emb7 (t : Fin cfg0.N) (r : Fin 256) (l : Fin 512) : ((cfg0.win 7).blk t).view.emb (ix2 r l) = ix2 (token (point t) r) l := by
  obtain ⟨e0, e1⟩ := index7 t
  refine place2 _ _ ?_ ?_
  · show win0_7.index t (0 : Fin 2) * 256 + 1 * r.val = 256 * (15 - t.val) + r.val; omega
  · show win0_7.index t (1 : Fin 2) * 512 + 1 * l.val = l.val; omega
theorem emb8 (t : Fin cfg0.N) (r : Fin 256) (l : Fin 512) : ((cfg0.win 8).blk t).view.emb (ix2 r l) = ix2 (token (point t) r) l := by
  obtain ⟨e0, e1⟩ := index8 t
  refine place2 _ _ ?_ ?_
  · show win0_8.index t (0 : Fin 2) * 256 + 1 * r.val = 256 * (15 - t.val) + r.val; omega
  · show win0_8.index t (1 : Fin 2) * 512 + 1 * l.val = l.val; omega
theorem emb9 (t : Fin cfg0.N) (r : Fin 256) (j : Fin 1024) : ((cfg0.win 9).blk t).view.emb (ix2 r j) = ix2 (token (point t) r) j := by
  obtain ⟨e0, e1⟩ := index9 t
  refine place2 _ _ ?_ ?_
  · show win0_9.index t (0 : Fin 2) * 256 + 1 * r.val = 256 * (15 - t.val) + r.val; omega
  · show win0_9.index t (1 : Fin 2) * 1024 + 1 * j.val = j.val; omega
theorem emb10 (t : Fin cfg0.N) (r : Fin 256) (j : Fin 1024) : ((cfg0.win 10).blk t).view.emb (ix2 r j) = ix2 (token (point t) r) j := by
  obtain ⟨e0, e1⟩ := index10 t
  refine place2 _ _ ?_ ?_
  · show win0_10.index t (0 : Fin 2) * 256 + 1 * r.val = 256 * (15 - t.val) + r.val; omega
  · show win0_10.index t (1 : Fin 2) * 1024 + 1 * j.val = j.val; omega
theorem emb11 (t : Fin cfg0.N) (r : Fin 256) (j : Fin 1024) : ((cfg0.win 11).blk t).view.emb (ix2 r j) = ix2 (token (point t) r) j := by
  obtain ⟨e0, e1⟩ := index11 t
  refine place2 _ _ ?_ ?_
  · show win0_11.index t (0 : Fin 2) * 256 + 1 * r.val = 256 * (15 - t.val) + r.val; omega
  · show win0_11.index t (1 : Fin 2) * 1024 + 1 * j.val = j.val; omega
theorem emb12 (t : Fin cfg0.N) (r : Fin 8) (j : Fin 1024) : ((cfg0.win 12).blk t).view.emb (ix2 r j) = ix2 r j := by
  obtain ⟨e0, e1⟩ := index12 t
  refine place2 _ _ ?_ ?_
  · show win0_12.index t (0 : Fin 2) * 8 + 1 * r.val = r.val; omega
  · show win0_12.index t (1 : Fin 2) * 1024 + 1 * j.val = j.val; omega
theorem emb13 (t : Fin cfg0.N) (r : Fin 3072) (j : Fin 1024) : ((cfg0.win 13).blk t).view.emb (ix2 r j) = ix2 r j := by
  obtain ⟨e0, e1⟩ := index13 t
  refine place2 _ _ ?_ ?_
  · show win0_13.index t (0 : Fin 2) * 3072 + 1 * r.val = r.val; omega
  · show win0_13.index t (1 : Fin 2) * 1024 + 1 * j.val = j.val; omega
theorem emb14 (t : Fin cfg0.N) (r : Fin 128) (j : Fin 1024) : ((cfg0.win 14).blk t).view.emb (ix2 r j) = ix2 r j := by
  obtain ⟨e0, e1⟩ := index14 t
  refine place2 _ _ ?_ ?_
  · show win0_14.index t (0 : Fin 2) * 128 + 1 * r.val = r.val; omega
  · show win0_14.index t (1 : Fin 2) * 1024 + 1 * j.val = j.val; omega
theorem emb15 (t : Fin cfg0.N) (r : Fin 256) (j : Fin 1024) : ((cfg0.win 15).blk t).view.emb (ix2 r j) = ix2 (token (point t) r) j := by
  obtain ⟨e0, e1⟩ := index15 t
  refine place2 _ _ ?_ ?_
  · show win0_15.index t (0 : Fin 2) * 256 + 1 * r.val = 256 * (15 - t.val) + r.val; omega
  · show win0_15.index t (1 : Fin 2) * 1024 + 1 * j.val = j.val; omega
theorem emb16 (t : Fin cfg0.N) (r : Fin 256) (j : Fin 1536) : ((cfg0.win 16).blk t).view.emb (ix2 r j) = ix2 (token (point t) r) j := by
  obtain ⟨e0, e1⟩ := index16 t
  refine place2 _ _ ?_ ?_
  · show win0_16.index t (0 : Fin 2) * 256 + 1 * r.val = 256 * (15 - t.val) + r.val; omega
  · show win0_16.index t (1 : Fin 2) * 1536 + 1 * j.val = j.val; omega

/-! ## The blocks -/

/-- A head's lanes in a block. -/
theorem heads_at (a : Vec Ideal S8x128x256 .bf16) (h : Fin 8) (e : Fin 64) (r : Fin 256) : heads a (ix3 h e r) = a (ix3 h ⟨e.val, by omega⟩ r) := by
  refine congrArg a (place3 _ _ _ ?_ ?_ ?_)
  · show 0 + 1 * h.val = h.val; omega
  · show 0 + 1 * e.val = e.val; omega
  · show 0 + 1 * r.val = r.val; omega

variable (H : (args m c).Real)

set_option maxHeartbeats 4000000 in
include H in
/-- The blocks of a point hold the arguments of its tile. -/
theorem reads (t : Fin cfg0.N) : Reads (args m c).data (point t) (blocks m c t) where
  dq h e r := by
    refine (heads_at _ h e r).trans ((congrArg (V m c main_v25) (emb0 t h _ r)).trans ?_)
    rw [read_dq, packed_at]; exact H.r5 _
  dk h e r := by
    refine (heads_at _ h e r).trans ((congrArg (V m c main_v29) (emb1 t h _ r)).trans ?_)
    rw [read_dk, packed_at]; exact H.r6 _
  dv h e r := by
    refine (heads_at _ h e r).trans ((congrArg (V m c main_v33) (emb2 t h _ r)).trans ?_)
    rw [read_dv, packed_at]; exact H.r7 _
  dc h r := by
    refine (congrArg (V m c main_v35) (emb3 t h r)).trans ?_
    rw [read_dc]
    pointwise []
    exact H.r8 _
  f h r := by
    refine (congrArg (V m c main_v36) (emb4 t r _)).trans ?_
    rw [read_f]
    refine (pad_inside ![0, 0] ![0, 120] (logits (args m c)) zero pads_S4096x8_S4096x128_000_01200 h_S_ (token (point t) r) h _ _ ?_ ?_).trans (logits_at H _ _)
    · show (token (point t) r).val = 0 + (token (point t) r).val; omega
    · show h.val = 0 + h.val; omega
  dpo r l := ((congrArg (V m c main_arg9) (emb5 t r l)).trans (by rw [read9])).trans ((H.r9 _))
  dph k l ht := by
    refine (congrArg (V m c main_arg9) (emb6 t ht k l)).trans ?_
    have hlt : t.val < 16 := t.isLt
    have ht' : t.val ≠ 0 := ht
    rw [read9, ext_of_lt _ (show 256 * (16 - (point t).val) + k.val < 4096 by show 256 * (16 - t.val) + k.val < 4096; omega)]
    exact H.r9 _
  dga r l := ((congrArg (V m c main_arg10) (emb7 t r l)).trans (by rw [read10])).trans ((H.r10 _))
  dgp r l := ((congrArg (V m c main_arg11) (emb8 t r l)).trans (by rw [read11])).trans ((H.r11 _))
  x r j := ((congrArg (V m c main_arg0) (emb9 t r j)).trans (by rw [read0])).trans ((H.r0 _))
  dxa r j := ((congrArg (V m c main_arg12) (emb10 t r j)).trans (by rw [read12])).trans ((H.r12 _))
  u r j := ((congrArg (V m c main_v37) (emb11 t r j)).trans (by rw [read_u]; rfl)).trans (modulated_eq H _ _)
  mod j := by
    refine (window_at _ _ _ _ _ 0 j rfl (Nat.zero_add _)).trans ((congrArg (V m c main_v15) (emb12 t 0 j)).trans ?_)
    rw [read_mod, modulation_at H]
  w0 l j := by
    refine (window_at _ _ _ _ _ ⟨512 * 0 + l.val, by omega⟩ j rfl (Nat.zero_add _)).trans ((congrArg (V m c main_v38) (emb13 t _ j)).trans ?_)
    rw [read_w]; exact weights_at H 0 l j
  w1 l j := by
    refine (window_at _ _ _ _ _ ⟨512 * 1 + l.val, by omega⟩ j rfl (Nat.zero_add _)).trans ((congrArg (V m c main_v38) (emb13 t _ j)).trans ?_)
    rw [read_w]; exact weights_at H 1 l j
  w2 l j := by
    refine (window_at _ _ _ _ _ ⟨512 * 2 + l.val, by omega⟩ j rfl (Nat.zero_add _)).trans ((congrArg (V m c main_v38) (emb13 t _ j)).trans ?_)
    rw [read_w]; exact weights_at H 2 l j
  w3 l j := by
    refine (window_at _ _ _ _ _ ⟨512 * 3 + l.val, by omega⟩ j rfl (Nat.zero_add _)).trans ((congrArg (V m c main_v38) (emb13 t _ j)).trans ?_)
    rw [read_w]; exact weights_at H 3 l j
  w4 l j := by
    refine (window_at _ _ _ _ _ ⟨512 * 4 + l.val, by omega⟩ j rfl (Nat.zero_add _)).trans ((congrArg (V m c main_v38) (emb13 t _ j)).trans ?_)
    rw [read_w]; exact weights_at H 4 l j
  w5 l j := by
    refine (window_at _ _ _ _ _ ⟨512 * 5 + l.val, by omega⟩ j rfl (Nat.zero_add _)).trans ((congrArg (V m c main_v38) (emb13 t _ j)).trans ?_)
    rw [read_w]; exact weights_at H 5 l j
  wf l j := by
    refine (congrArg (V m c main_v39) (emb14 t l j)).trans ?_
    rw [read_wf, logitWeights_at H]

/-! ## The sums -/

/-- The sums before point `n`, over the tokens of the tiles seen. -/
structure Sums.Holds (D : Data) (n : ℕ) (s : Sums Ideal) : Prop where
  carry : ∀ h : Fin 8, s.carry (ix2 h 0) = ↑(after (fun r => D.dc r h) (256 * (16 - n)))
  forget : ∀ (l : Fin 128) (j : Fin 1024), s.forget (ix2 l j) = ↑(after (fun r => D.lane r l * D.u r j) (256 * (16 - n)))
  bias : ∀ (k : Fin 6) (e : Fin 512), s.bias (ix2 0 ⟨512 * k.val + e.val, by omega⟩) = ↑(after (fun r => D.main k r e) (256 * (16 - n)))
  forgetBias : ∀ l : Fin 128, s.forgetBias (ix2 0 l) = ↑(after (fun r => D.lane r l) (256 * (16 - n)))
  scale : ∀ j : Fin 1024, s.mod (ix2 0 j) = ↑(after (fun r => D.du r j * D.x r j) (256 * (16 - n)))
  shift : ∀ j : Fin 1024, s.mod (ix2 1 j) = ↑(after (fun r => D.du r j) (256 * (16 - n)))

theorem start_holds (D : Data) : (Sums.start (F := Ideal)).Holds D 0 := by
  have z : ∀ g : Fin 4096 → ℝ, (0 : EReal) = ↑(after g (256 * (16 - 0))) := fun g => by rw [show 256 * (16 - 0) = 4096 from rfl, after_end, EReal.coe_zero]
  constructor
  · intro h; unfold Sums.start; pointwise [k0_pay4]; exact z _
  · intro l j; unfold Sums.start; pointwise [k0_pay5]; exact z _
  · intro k e; unfold Sums.start; pointwise [k0_pay6]; exact z _
  · intro l; unfold Sums.start; pointwise [k0_pay7]; exact z _
  · intro j; unfold Sums.start; pointwise [k0_pay8]; exact z _
  · intro j; unfold Sums.start; pointwise [k0_pay8]; exact z _

theorem step_holds {D : Data} {t : Fin 16} {B : Blocks Ideal} (R : Reads D t B) {s : Sums Ideal} (S : s.Holds D t.val) :
    (Sums.step (word t) B s).Holds D (t.val + 1) where
  carry h := carry_eq R S.carry h
  forget l j := stepForget_eq R S.carry _ l j (S.forget l j)
  bias k e := stepBias_eq R _ k e (S.bias k e)
  forgetBias l := stepForgetBias_eq R S.carry _ l (S.forgetBias l)
  scale j := stepScale_eq R S.carry _ j (S.scale j)
  shift j := stepShift_eq R S.carry _ j (S.shift j)

include H in
theorem sums_hold : ∀ (n : ℕ) (hn : n ≤ cfg0.N), (sums m c n hn).Holds (args m c).data n
  | 0, _ => start_holds _
  | n + 1, hn => by
    have e : sums m c (n + 1) hn = Sums.step (word (point ⟨n, hn⟩)) (blocks m c ⟨n, hn⟩) (sums m c n (Nat.le_of_lt hn)) := by
      rw [← tile_eq]; rfl
    rw [e]
    exact step_holds (reads m c H ⟨n, hn⟩) (sums_hold n (Nat.le_of_lt hn))

end Cert.Proof.Projection
-- ==== Proof.Projection.Pooled.lean ====
module

public import proofs.«01_k».proof.Proof.Projection.Reference

/-! The gradient of the pooled channels in the reference. -/

@[expose] public section

set_option maxRecDepth 16384

noncomputable section

namespace Cert.Proof.Projection

open Idealize.ShloMosaic Cert.Reference2Ideal Cert.Reference2Ideal.Gen Cert.Reference2Ideal.Read Cert.Proof.Attention

variable {A : Args} (H : A.Real)

include H

theorem share0 (s : Fin 4096) (c' : Fin 128) (c : Fin 512) (hc : c.val = 0 + c'.val) :
    val_main_v118 (F := Ideal) A.x9 (ix2 s c') = ↑(A.data.share c s) := by
  pointwise [val_main_v118, val_main_v117, val_main_v76, val_main_v31, val_main_v30, val_main_v29, val_main_cst_3, count_eq]
  exact share_of 2 (width_eq 0 2 (by omega) rfl) (by congr 1; simp [Ideal.ofBits, Ideal.ieee, -EReal.coe_mul]; norm_num)
    ((congrArg A.x9 (congrArg (ix2 s) (Fin.ext (by simp only; omega)))).trans (dpo_eq H s c))

theorem share1 (s : Fin 4096) (c' : Fin 128) (c : Fin 512) (hc : c.val = 128 + c'.val) :
    val_main_v106 (F := Ideal) A.x9 (ix2 s c') = ↑(A.data.share c s) := by
  pointwise [val_main_v106, val_main_v105, val_main_v77, val_main_v44, val_main_v43, val_main_v42, val_main_cst_6, count_eq]
  exact share_of 4 (width_eq 1 4 (by omega) rfl) (by congr 1; simp [Ideal.ofBits, Ideal.ieee, -EReal.coe_mul]; norm_num)
    ((congrArg A.x9 (congrArg (ix2 s) (Fin.ext (by simp only; omega)))).trans (dpo_eq H s c))

theorem share2 (s : Fin 4096) (c' : Fin 128) (c : Fin 512) (hc : c.val = 256 + c'.val) :
    val_main_v94 (F := Ideal) A.x9 (ix2 s c') = ↑(A.data.share c s) := by
  pointwise [val_main_v94, val_main_v93, val_main_v78, val_main_v57, val_main_v56, val_main_v55, val_main_cst_9, count_eq]
  exact share_of 8 (width_eq 2 8 (by omega) rfl) (by congr 1; simp [Ideal.ofBits, Ideal.ieee, -EReal.coe_mul]; norm_num)
    ((congrArg A.x9 (congrArg (ix2 s) (Fin.ext (by simp only; omega)))).trans (dpo_eq H s c))

theorem share3 (s : Fin 4096) (c' : Fin 128) (c : Fin 512) (hc : c.val = 384 + c'.val) :
    val_main_v83 (F := Ideal) A.x9 (ix2 s c') = ↑(A.data.share c s) := by
  pointwise [val_main_v83, val_main_v82, val_main_v79, val_main_v70, val_main_v69, val_main_v68, val_main_cst_12, count_eq]
  exact share_of 16 (width_eq 3 16 (by omega) rfl) (by congr 1; simp [Ideal.ofBits, Ideal.ieee, -EReal.coe_mul]; norm_num)
    ((congrArg A.x9 (congrArg (ix2 s) (Fin.ext (by simp only; omega)))).trans (dpo_eq H s c))

/-- A value in one group's columns. -/
def part (o : ℕ) (c : Fin 512) (v : ℝ) : ℝ := if o ≤ c.val ∧ c.val < o + 128 then v else 0

omit H in
theorem part_of_pad (o : ℕ) {a : ℕ} (hi : Fin 2 → ℕ) (x : (Mat a 128).Idx → EReal) (v : S_.Idx → EReal) (hv : v (Shape.Idx.first h_S_) = 0)
    (h : (Mat a 128).Pads ![0, o] hi ![0, 0] (Mat 4096 512)) (ha : a ≤ 4096) (V : Fin 4096 → Fin 512 → ℝ)
    (hx : ∀ (s : Fin a) (c' : Fin 128) (c : Fin 512), c.val = o + c'.val → x (ix2 s c') = ↑(V ⟨s.val, by omega⟩ c))
    (hV : ∀ s c, o ≤ c.val → c.val < o + 128 → a ≤ s.val → V s c = 0) (s : Fin 4096) (c : Fin 512) :
    pad (Mat 4096 512) ![0, o] hi ![0, 0] x v h h_S_ (ix2 s c) = ↑(part o c (V s c)) := by
  unfold part
  by_cases hc : o ≤ c.val ∧ c.val < o + 128
  · rw [if_pos hc]
    by_cases hs : s.val < a
    · exact (pad_inside ![0, o] hi x v h h_S_ ⟨s.val, hs⟩ ⟨c.val - o, by omega⟩ s c (by simp) (by simp; omega)).trans
        (hx ⟨s.val, hs⟩ ⟨c.val - o, by omega⟩ c (by simp; omega))
    · rw [pad_row_outside ![0, o] hi x v h h_S_ s c (by simp; omega), hv, hV s c hc.1 hc.2 (by omega), EReal.coe_zero]
  · rw [if_neg hc, pad_column_outside ![0, o] hi x v h h_S_ s c (by simpa using hc), hv, EReal.coe_zero]

omit H in
theorem parts_pair (c : Fin 512) (a b : ℝ) :
    part 384 c a + part 384 c b + part 256 c a + part 256 c b + part 128 c a + part 128 c b + part 0 c a + part 0 c b = a + b := by
  unfold part
  have := c.isLt
  split_ifs <;> first | omega | ring

omit H in
theorem parts_one (c : Fin 512) (a : ℝ) : part 384 c a + part 256 c a + part 128 c a + part 0 c a = a := by
  unfold part
  have := c.isLt
  split_ifs <;> first | omega | ring

/-- The derivative in the running sums. -/
theorem running_eq (s : Fin 4096) (c : Fin 512) :
    val_main_v125 (F := Ideal) A.x9 (ix2 s c) = ↑(A.data.share c s - ext (A.data.share c) (s.val + Data.width c)) := by
  have z : ∀ i : S_.Idx, (FloatOps.ofBits .f32 0#32 : Ideal .f32) = 0 := fun _ => by rw [Ideal.ofBits_def, Ideal.ofBits_zero_f32]
  have q0 : val_main_v120 (F := Ideal) A.x9 (ix2 s c) = ↑(part 0 c (A.data.share c s)) := by
    unfold val_main_v120
    exact part_of_pad 0 _ _ _ (z (Shape.Idx.first h_S_)) _ le_rfl (fun s c => A.data.share c s) (fun s c' c hc => share0 H s c' c hc) (fun s _ _ _ h => by omega) s c
  have q1 : val_main_v108 (F := Ideal) A.x9 (ix2 s c) = ↑(part 128 c (A.data.share c s)) := by
    unfold val_main_v108
    exact part_of_pad 128 _ _ _ (z (Shape.Idx.first h_S_)) _ le_rfl (fun s c => A.data.share c s) (fun s c' c hc => share1 H s c' c hc) (fun s _ _ _ h => by omega) s c
  have q2 : val_main_v96 (F := Ideal) A.x9 (ix2 s c) = ↑(part 256 c (A.data.share c s)) := by
    unfold val_main_v96
    exact part_of_pad 256 _ _ _ (z (Shape.Idx.first h_S_)) _ le_rfl (fun s c => A.data.share c s) (fun s c' c hc => share2 H s c' c hc) (fun s _ _ _ h => by omega) s c
  have q3 : val_main_v85 (F := Ideal) A.x9 (ix2 s c) = ↑(part 384 c (A.data.share c s)) := by
    unfold val_main_v85
    exact part_of_pad 384 _ _ _ (z (Shape.Idx.first h_S_)) _ le_rfl (fun s c => A.data.share c s) (fun s c' c hc => share3 H s c' c hc) (fun s _ _ _ h => by omega) s c
  let V : Fin 4096 → Fin 512 → ℝ := fun s c => -(ext (A.data.share c) (s.val + Data.width c))
  have hV (o w : ℕ) (g : ℕ) (ho : o = 128 * g) (hw : 2 ^ (g + 1) = w) : ∀ (s : Fin 4096) (c : Fin 512), o ≤ c.val → c.val < o + 128 → 4096 - w ≤ s.val → V s c = 0 :=
    fun s c h1 h2 h3 => by
      show -(ext _ _) = 0
      rw [width_eq g w (by omega) hw, ext_of_le _ (by omega), neg_zero]
  have hX (w g : ℕ) (hw : 2 ^ (g + 1) = w) {c : Fin 512} (hc : c.val / 128 = g) {s : ℕ} (hs : s + w < 4096) {e : EReal}
      (he : e = ↑(A.data.share c ⟨s + w, hs⟩)) : -e = ↑(V ⟨s, by omega⟩ c) := by
    show _ = ((-(ext _ _) : ℝ) : EReal)
    rw [he, ← EReal.coe_neg, width_eq g w hc hw, ext_of_lt _ hs]
  have p0 : val_main_v124 (F := Ideal) A.x9 (ix2 s c) = ↑(part 0 c (V s c)) := by
    unfold val_main_v124
    refine part_of_pad 0 _ _ _ (z (Shape.Idx.first h_S_)) _ (by norm_num) V (fun s c' c hc => ?_) (hV 0 2 0 rfl rfl) s c
    pointwise [val_main_v123, val_main_v119]
    refine hX 2 0 rfl (by omega) (by omega) ((congrArg _ (congrArg (fun s => ix2 s c') (Fin.ext ?_))).trans (share0 H _ c' c hc))
    simp only; omega
  have p1 : val_main_v112 (F := Ideal) A.x9 (ix2 s c) = ↑(part 128 c (V s c)) := by
    unfold val_main_v112
    refine part_of_pad 128 _ _ _ (z (Shape.Idx.first h_S_)) _ (by norm_num) V (fun s c' c hc => ?_) (hV 128 4 1 rfl rfl) s c
    pointwise [val_main_v111, val_main_v107]
    refine hX 4 1 rfl (by omega) (by omega) ((congrArg _ (congrArg (fun s => ix2 s c') (Fin.ext ?_))).trans (share1 H _ c' c hc))
    simp only; omega
  have p2 : val_main_v100 (F := Ideal) A.x9 (ix2 s c) = ↑(part 256 c (V s c)) := by
    unfold val_main_v100
    refine part_of_pad 256 _ _ _ (z (Shape.Idx.first h_S_)) _ (by norm_num) V (fun s c' c hc => ?_) (hV 256 8 2 rfl rfl) s c
    pointwise [val_main_v99, val_main_v95]
    refine hX 8 2 rfl (by omega) (by omega) ((congrArg _ (congrArg (fun s => ix2 s c') (Fin.ext ?_))).trans (share2 H _ c' c hc))
    simp only; omega
  have p3 : val_main_v88 (F := Ideal) A.x9 (ix2 s c) = ↑(part 384 c (V s c)) := by
    unfold val_main_v88
    refine part_of_pad 384 _ _ _ (z (Shape.Idx.first h_S_)) _ (by norm_num) V (fun s c' c hc => ?_) (hV 384 16 3 rfl rfl) s c
    pointwise [val_main_v87, val_main_v84]
    refine hX 16 3 rfl (by omega) (by omega) ((congrArg _ (congrArg (fun s => ix2 s c') (Fin.ext ?_))).trans (share3 H _ c' c hc))
    simp only; omega
  rw [val_main_v125_apply, val_main_v121_apply, val_main_v113_apply, val_main_v109_apply, val_main_v101_apply, val_main_v97_apply,
    val_main_v89_apply, q0, q1, q2, q3, p0, p1, p2, p3]
  simp only [Ideal.addf_def, ← EReal.coe_add]
  rw [parts_pair, sub_eq_add_neg]

/-- The derivative in the tokens themselves. -/
theorem direct_eq (s : Fin 4096) (c : Fin 512) : val_main_v116 (F := Ideal) A.x9 (ix2 s c) = ↑(-(A.data.dpo s c)) := by
  have z : ∀ i : S_.Idx, (FloatOps.ofBits .f32 0#32 : Ideal .f32) = 0 := fun _ => by rw [Ideal.ofBits_def, Ideal.ofBits_zero_f32]
  have hX {s : Fin 4096} {c c'' : Fin 512} (h : c''.val = c.val) : -(A.x9 (ix2 s c'')) = ↑(-(A.data.dpo s c)) := by
    obtain rfl := Fin.ext h; rw [dpo_eq H, EReal.coe_neg]
  have p0 : val_main_v115 (F := Ideal) A.x9 (ix2 s c) = ↑(part 0 c (-(A.data.dpo s c))) := by
    unfold val_main_v115
    refine part_of_pad 0 _ _ _ (z (Shape.Idx.first h_S_)) _ le_rfl (fun s c => -(A.data.dpo s c)) (fun s c' c hc => ?_) (fun s _ _ _ h => by omega) s c
    pointwise [val_main_v114, val_main_v76]
    exact hX (by simp only; omega)
  have p1 : val_main_v103 (F := Ideal) A.x9 (ix2 s c) = ↑(part 128 c (-(A.data.dpo s c))) := by
    unfold val_main_v103
    refine part_of_pad 128 _ _ _ (z (Shape.Idx.first h_S_)) _ le_rfl (fun s c => -(A.data.dpo s c)) (fun s c' c hc => ?_) (fun s _ _ _ h => by omega) s c
    pointwise [val_main_v102, val_main_v77]
    exact hX (by simp only; omega)
  have p2 : val_main_v91 (F := Ideal) A.x9 (ix2 s c) = ↑(part 256 c (-(A.data.dpo s c))) := by
    unfold val_main_v91
    refine part_of_pad 256 _ _ _ (z (Shape.Idx.first h_S_)) _ le_rfl (fun s c => -(A.data.dpo s c)) (fun s c' c hc => ?_) (fun s _ _ _ h => by omega) s c
    pointwise [val_main_v90, val_main_v78]
    exact hX (by simp only; omega)
  have p3 : val_main_v81 (F := Ideal) A.x9 (ix2 s c) = ↑(part 384 c (-(A.data.dpo s c))) := by
    unfold val_main_v81
    refine part_of_pad 384 _ _ _ (z (Shape.Idx.first h_S_)) _ le_rfl (fun s c => -(A.data.dpo s c)) (fun s c' c hc => ?_) (fun s _ _ _ h => by omega) s c
    pointwise [val_main_v80, val_main_v79]
    exact hX (by simp only; omega)
  rw [val_main_v116_apply, val_main_v104_apply, val_main_v92_apply, p0, p1, p2, p3]
  simp only [Ideal.addf_def, ← EReal.coe_add]
  rw [parts_one]

theorem pool_eq (s : Fin 4096) (c : Fin 512) : val_main_v127 (F := Ideal) A.x9 (ix2 s c) = ↑(A.data.pool s c) := by
  rw [val_main_v127_apply, direct_eq H]
  unfold val_main_v126
  rw [window_sum _ (fun s c => A.data.share c s - ext (A.data.share c) (s.val + Data.width c)) _ _
    (by rw [val_main_call3_call0_v0_apply, val_main_call3_call0_cst_apply, Ideal.ofBits_def, Ideal.ofBits_zero_f32]) _ (running_eq H) s c]
  rw [Ideal.addf_def, ← EReal.coe_add, Data.pool_eq, neg_add_eq_sub]
  congr 2
  unfold after
  refine Finset.sum_congr rfl fun k _ => ?_
  by_cases hk : s.val + k < 4096
  · rw [ext_of_lt _ hk, ext_of_lt _ hk]
  · rw [ext_of_le _ (by omega), ext_of_le _ (by omega), ext_of_le _ (by omega), sub_zero]

end Cert.Proof.Projection
-- ==== Proof.Projection.Results.lean ====
module

public import proofs.«01_k».proof.Proof.Projection.Pooled

/-! The results of the reference of the projection's gradient, as numbers. -/

@[expose] public section

set_option maxRecDepth 16384

noncomputable section

namespace Cert.Proof.Projection

open Idealize.ShloMosaic Cert.Reference2Ideal Cert.Reference2Ideal.Gen Cert.Reference2Ideal.Read Cert.Proof.Attention

variable {A : Args} (H : A.Real)

/-- The gradient in the projection, and in the modulated input. -/
abbrev Args.proj (A : Args) : Arr S4096x3080 :=
  val_main_v130 (F := Ideal) A.x0 A.x1 A.x2 A.x3 A.x4 A.x5 A.x6 A.x7 A.x8 A.x9 A.x10 A.x11
abbrev Args.back (A : Args) : Arr S4096x1024 :=
  val_main_v136 (F := Ideal) A.x0 A.x1 A.x2 A.x3 A.x4 A.x5 A.x6 A.x7 A.x8 A.x9 A.x10 A.x11

include H

theorem proj_logit (s : Fin 4096) (h : Fin 8) : A.proj (ix2 s (Data.logit h)) = ↑(A.data.forget s h) := by
  unfold Args.proj val_main_v130
  exact (column_of _ _ 3 (by exact (by decide : 3 < 7)) _ rfl 1536 rfl s h _ rfl).trans (forget_eq H s h)

theorem proj_column (k : Fin 6) (s : Fin 4096) (c : Fin 512) : A.proj (ix2 s (Data.column k c)) = ↑(A.data.main k s c) := by
  unfold Args.proj val_main_v130
  match k with
  | 0 => exact (column_of _ _ 0 (by exact (by decide : 0 < 7)) _ rfl 0 rfl s c _ rfl).trans (H.r5 _)
  | 1 => exact (column_of _ _ 1 (by exact (by decide : 1 < 7)) _ rfl 512 rfl s c _ rfl).trans (H.r6 _)
  | 2 => exact (column_of _ _ 2 (by exact (by decide : 2 < 7)) _ rfl 1024 rfl s c _ rfl).trans (H.r7 _)
  | 3 => exact (column_of _ _ 4 (by exact (by decide : 4 < 7)) _ rfl 1544 rfl s c _ (by show 1544 + c.val = 512 * 3 + c.val + 8; omega)).trans (pool_eq H s c)
  | 4 => exact (column_of _ _ 5 (by exact (by decide : 5 < 7)) _ rfl 2056 rfl s c _ (by show 2056 + c.val = 512 * 4 + c.val + 8; omega)).trans (H.r10 _)
  | 5 => exact (column_of _ _ 6 (by exact (by decide : 6 < 7)) _ rfl 2568 rfl s c _ (by show 2568 + c.val = 512 * 5 + c.val + 8; omega)).trans (H.r11 _)

theorem back_eq (s : Fin 4096) (j : Fin 1024) : A.back (ix2 s j) = ↑(A.data.du s j) := by
  have e : A.back (ix2 s j) = ∑ e : Fin 3080, A.proj (ix2 s e) * A.x3 (ix2 j e) := by
    pointwise [Args.back, val_main_v136]
  rw [e, sum_columns]
  unfold Data.du
  rw [EReal.coe_add]
  refine congrArg₂ (· + ·) ?_ ?_
  · exact sum_eq_coe fun k => dot_eq_coe (fun c => proj_column H k s c) fun c => H.r3 _
  · exact dot_eq_coe (fun h => proj_logit H s h) fun h => H.r3 _

theorem result_x (s : Fin 4096) (j : Fin 1024) :
    val_main_v153 (F := Ideal) A.x0 A.x1 A.x2 A.x3 A.x4 A.x5 A.x6 A.x7 A.x8 A.x9 A.x10 A.x11 A.x12 (ix2 s j) = ↑(A.data.gradX s j) := by
  have hb : val_main_v136 (F := Ideal) A.x0 A.x1 A.x2 A.x3 A.x4 A.x5 A.x6 A.x7 A.x8 A.x9 A.x10 A.x11 (ix2 s j) = ↑(A.data.du s j) := back_eq H s j
  have h12 : A.x12 (ix2 s j) = ↑(A.data.dxa s j) := H.r12 _
  have h2 : A.x2 (ix2 0 j) = ↑(A.data.sc j) := H.r2 _
  pointwise [val_main_v153, val_main_v143, val_main_v142, val_main_v1, val_main_v0, val_main_cst]
  rw [hb, h12, h2, ← EReal.coe_one, ← EReal.coe_add, ← EReal.coe_mul, ← EReal.coe_add, Data.gradX]

/-- A column of the two gates and the pooled channels. -/
theorem result_proj (k : Fin 3) (s : Fin 4096) (c : Fin 512) :
    val_main_v155 (F := Ideal) A.x0 A.x1 A.x2 A.x3 A.x4 A.x5 A.x6 A.x7 A.x8 A.x9 A.x10 A.x11 (ix2 s ⟨512 * k.val + c.val, by omega⟩)
      = ↑(A.data.main ⟨k.val + 3, by omega⟩ s c) := by
  have hb := proj_column H ⟨k.val + 3, by omega⟩ s c
  pointwise [val_main_v155, val_main_v154]
  refine Eq.trans (congrArg _ (congrArg (ix2 s) (Fin.ext ?_))) hb
  simp [Data.column]; omega

omit H in
theorem call6_zero (i : S_.Idx) : val_main_call6_v0 (F := Ideal) i = 0 := by
  pointwise [val_main_call6_v0, val_main_c]
  exact (by simp : (((0#32 : BitVec 32).toInt : ℝ) : EReal) = 0)

theorem result_forget (l : Fin 128) (j : Fin 1024) :
    val_main_v146 (F := Ideal) A.x0 A.x1 A.x2 A.x3 A.x4 A.x5 A.x6 A.x7 A.x8 A.x9 A.x10 A.x11 (ix2 l j) = ↑(A.data.gradForget l j) := by
  unfold val_main_v146 Data.gradForget
  by_cases hl : l.val < 8
  · refine (pad_inside ![0, 0] _ _ _ _ _ ⟨l.val, hl⟩ j l j (by simp) (by simp)).trans ?_
    have e : ∀ s, A.data.lane s l = A.data.forget s ⟨l.val, hl⟩ := fun s => dif_pos hl
    simp only [e]
    have hp := fun s => proj_logit H s ⟨l.val, hl⟩
    have hu := fun s => modulated_eq H s j
    rw [← dot_eq_coe hp hu]
    pointwise [val_main_v145, val_main_v144, val_main_v135, val_main_v134]
    rfl
  · refine (pad_row_outside ![0, 0] _ _ _ _ _ l j (by simp; omega)).trans ?_
    have e : ∀ s, A.data.lane s l = 0 := fun s => dif_neg hl
    simp only [e, zero_mul, Finset.sum_const_zero, EReal.coe_zero]
    exact call6_zero _

/-- The sums over the tokens. -/
theorem columns_sum (e : Fin 3080) (f : Fin 4096 → ℝ) (hf : ∀ s, A.proj (ix2 s e) = ↑(f s)) :
    val_main_v147 (F := Ideal) A.x0 A.x1 A.x2 A.x3 A.x4 A.x5 A.x6 A.x7 A.x8 A.x9 A.x10 A.x11 (ix2 0 e) = ↑(∑ s, f s) := by
  pointwise [val_main_v147, val_main_v133, val_main_v132, val_main_v131, val_main_cst_25, val_main_cst_26]
  rw [Fin.sum_univ_one]
  exact sum_eq_coe hf

theorem result_bias (k : Fin 6) (c : Fin 512) :
    val_main_v156 (F := Ideal) A.x0 A.x1 A.x2 A.x3 A.x4 A.x5 A.x6 A.x7 A.x8 A.x9 A.x10 A.x11 (ix2 0 ⟨512 * k.val + c.val, by omega⟩)
      = ↑(A.data.gradBias k c) := by
  unfold val_main_v156
  refine (pad_inside ![0, 0] _ _ _ _ _ 0 (⟨512 * k.val + c.val, by omega⟩ : Fin 3072) 0 _ (by simp) (by simp)).trans ?_
  have hs := columns_sum H (Data.column k c) _ fun s => proj_column H k s c
  refine Eq.trans ?_ hs
  unfold val_main_v150
  by_cases hk : k.val < 3
  · refine (column_of _ _ 0 (by exact (by decide : 0 < 2)) _ rfl 0 rfl 0 (⟨512 * k.val + c.val, by omega⟩ : Fin 1536) _ (by simp)).trans ?_
    pointwise [val_main_v148]
    refine congrArg _ (congrArg (ix2 0) (Fin.ext ?_))
    simp [Data.column, hk]
  · refine (column_of _ _ 1 (by exact (by decide : 1 < 2)) _ rfl 1536 rfl 0 (⟨512 * k.val + c.val - 1536, by omega⟩ : Fin 1536) _ (by simp only; omega)).trans ?_
    pointwise [val_main_v149]
    refine congrArg _ (congrArg (ix2 0) (Fin.ext ?_))
    simp [Data.column, hk]; omega

theorem result_forgetBias (l : Fin 128) :
    val_main_v157 (F := Ideal) A.x0 A.x1 A.x2 A.x3 A.x4 A.x5 A.x6 A.x7 A.x8 A.x9 A.x10 A.x11 (ix2 0 l) = ↑(A.data.gradForgetBias l) := by
  unfold val_main_v157
  refine (pad_inside ![0, 0] _ _ _ _ _ 0 l 0 l (by simp) (by simp)).trans ?_
  unfold val_main_v152 Data.gradForgetBias
  by_cases hl : l.val < 8
  · refine (pad_inside ![0, 0] _ _ _ _ _ 0 ⟨l.val, hl⟩ 0 l (by simp) (by simp)).trans ?_
    have e : ∀ s, A.data.lane s l = A.data.forget s ⟨l.val, hl⟩ := fun s => dif_pos hl
    simp only [e]
    rw [← columns_sum H (Data.logit ⟨l.val, hl⟩) _ fun s => proj_logit H s ⟨l.val, hl⟩]
    pointwise [val_main_v151]
    rfl
  · refine (pad_column_outside ![0, 0] _ _ _ _ _ 0 l (by simp; omega)).trans ?_
    have e : ∀ s, A.data.lane s l = 0 := fun s => dif_neg hl
    simp only [e, Finset.sum_const_zero, EReal.coe_zero]
    exact call6_zero (Shape.Idx.first h_S_)

theorem result_scale (j : Fin 1024) :
    val_main_v159 (F := Ideal) A.x0 A.x1 A.x2 A.x3 A.x4 A.x5 A.x6 A.x7 A.x8 A.x9 A.x10 A.x11 (ix2 0 j) = ↑(A.data.gradScale j) := by
  unfold val_main_v159
  refine (pad_inside ![0, 0] _ _ _ _ _ (0 : Fin 2) j 0 j (by simp) (by simp)).trans ?_
  unfold val_main_v158
  refine (row_of _ _ 0 (by exact (by decide : 0 < 2)) _ rfl 0 rfl j (0 : Fin 1) _ rfl).trans ?_
  pointwise [val_main_v141, val_main_v140, val_main_v139, val_main_cst_28]
  have hb : ∀ s, val_main_v136 (F := Ideal) A.x0 A.x1 A.x2 A.x3 A.x4 A.x5 A.x6 A.x7 A.x8 A.x9 A.x10 A.x11 (ix2 s j) = ↑(A.data.du s j) := fun s => back_eq H s j
  have h0 : ∀ s, A.x0 (ix2 s j) = ↑(A.data.x s j) := fun s => H.r0 _
  unfold Data.gradScale
  simp only [mul_comm (A.data.du _ j)]
  exact dot_eq_coe h0 hb

theorem result_shift (j : Fin 1024) :
    val_main_v159 (F := Ideal) A.x0 A.x1 A.x2 A.x3 A.x4 A.x5 A.x6 A.x7 A.x8 A.x9 A.x10 A.x11 (ix2 1 j) = ↑(A.data.gradShift j) := by
  unfold val_main_v159
  refine (pad_inside ![0, 0] _ _ _ _ _ (1 : Fin 2) j 1 j (by simp) (by simp)).trans ?_
  unfold val_main_v158
  refine (row_of _ _ 1 (by exact (by decide : 1 < 2)) _ rfl 1 rfl j (0 : Fin 1) _ rfl).trans ?_
  pointwise [val_main_v138, val_main_v137, val_main_cst_27]
  exact sum_eq_coe fun s => back_eq H s j

end Cert.Proof.Projection
-- ==== Proof.Projection.Arrays.lean ====
module

public import proofs.«01_k».proof.Proof.Projection.Totals
public import proofs.«01_k».proof.Proof.Projection.Results
public import Idealize.ShloMosaic.Lib.Pipeline.ValueKit.Geometry

@[expose] public section

set_option maxRecDepth 16384

noncomputable section

/-! # The kernel's result arrays are the reference's gradients -/

namespace Cert.Proof.Projection

open Idealize.ShloMosaic Idealize.ShloMosaic.TcCoe Cert.Kernel2Ideal Cert.Kernel2Ideal.Gen Cert.Proof.Attention

variable (m : (ℓ : Loc nD τ sig) → Buf (Elt Ideal) ℓ) (c : Dev nD)
variable (H : (args m c).Real)

/-! ## What a point leaves -/

include H in
theorem carries (t : Fin cfg0.N) : Carries (args m c).data (point t) (sumsAt m c t).carry := (sums_hold m c H t.val (Nat.le_of_lt t.isLt)).carry

/-- The last point. -/
def last : Fin cfg0.N := ⟨15, by decide⟩

include H in
theorem sums_end : (sumsAfter m c last).Holds (args m c).data 16 := by
  rw [sumsAfter_eq]; exact sums_hold m c H 16 (Nat.le_refl _)

theorem after_all (g : Fin 4096 → ℝ) : after g (256 * (16 - 16)) = ∑ s, g s := by rw [show 256 * (16 - 16) = 0 from rfl, after_zero]

/-! ## The arrays -/

include H in
theorem array15 : (dats m 0 c).arrAt 15 cfg0.N = fun z : S4096x1024.Idx => (((args m c).data.gradX (z 0) (z 1) : ℝ) : EReal) := by
  refine (dats m 0 c).arrAt_eq_of_covers 15 (fun z : S4096x1024.Idx => (((args m c).data.gradX (z 0) (z 1) : ℝ) : EReal)) (by decide +kernel) fun t _ y => ?_
  refine (congrFun (after0_15 m c t) y).trans ?_
  obtain ⟨r, j, rfl⟩ : ∃ (r : Fin 256) (j : Fin 1024), y = ix2 r j := ⟨y 0, y 1, place2 _ _ rfl rfl⟩
  rw [emb15, tile_eq]
  exact outX_eq (reads m c H t) (carries m c H t) r j

include H in
theorem array16 (k : Fin 3) (s : Fin 4096) (e : Fin 512) : (dats m 0 c).arrAt 16 cfg0.N (ix2 s (⟨512 * k.val + e.val, by omega⟩ : Fin 1536))
    = (((args m c).data.main ⟨k.val + 3, by omega⟩ s e : ℝ) : EReal) := by
  let G : S4096x1536.Idx → EReal := fun z => (((args m c).data.main ⟨(z 1).val / 512 + 3, by have : (z 1).val < 1536 := (z 1).isLt; omega⟩ (z 0)
    ⟨(z 1).val % 512, Nat.mod_lt _ (by norm_num)⟩ : ℝ) : EReal)
  have hG : ∀ (k : Fin 3) (s : Fin 4096) (e : Fin 512), G (ix2 s (⟨512 * k.val + e.val, by omega⟩ : Fin 1536)) = (((args m c).data.main ⟨k.val + 3, by omega⟩ s e : ℝ) : EReal) := by
    intro k s e
    have h1 : (512 * k.val + e.val) / 512 = k.val := by omega
    have h2 : (512 * k.val + e.val) % 512 = e.val := by omega
    show (((args m c).data.main ⟨(512 * k.val + e.val) / 512 + 3, _⟩ s ⟨(512 * k.val + e.val) % 512, _⟩ : ℝ) : EReal) = _
    simp only [h1, h2]
  refine (congrFun ((dats m 0 c).arrAt_eq_of_covers 16 G (by decide +kernel) fun t _ y => ?_) _).trans (hG k s e)
  refine (congrFun (after0_16 m c t) y).trans ?_
  obtain ⟨r, j, rfl⟩ : ∃ (r : Fin 256) (j : Fin 1536), y = ix2 r j := ⟨y 0, y 1, place2 _ _ rfl rfl⟩
  obtain ⟨k', e', rfl⟩ : ∃ (k' : Fin 3) (e' : Fin 512), j = ⟨512 * k'.val + e'.val, by omega⟩ :=
    ⟨⟨j.val / 512, by omega⟩, ⟨j.val % 512, Nat.mod_lt _ (by norm_num)⟩, Fin.ext (Nat.div_add_mod _ _).symm⟩
  rw [emb16, tile_eq]
  exact (outProj_eq (reads m c H t) k' r e').trans (hG _ _ _).symm

include H in
theorem array17 (l : Fin 128) (j : Fin 1024) : (dats m 0 c).arrAt 17 cfg0.N (ix2 l j) = (((args m c).data.gradForget l j : ℝ) : EReal) := by
  refine ((dats m 0 c).arrAt_emb_eq_after_last 17 last (by decide +kernel) (ix2 l j)).trans ?_
  refine (congrFun (after0_17 m c last) (ix2 l j)).trans (((sums_end m c H).forget l j).trans ?_)
  rw [after_all]; rfl

include H in
theorem array18 (k : Fin 6) (e : Fin 512) : (dats m 0 c).arrAt 18 cfg0.N (ix2 (0 : Fin 8) (⟨512 * k.val + e.val, by omega⟩ : Fin 3072))
    = (((args m c).data.gradBias k e : ℝ) : EReal) := by
  refine ((dats m 0 c).arrAt_emb_eq_after_last 18 last (by decide +kernel) (ix2 (0 : Fin 8) (⟨512 * k.val + e.val, by omega⟩ : Fin 3072))).trans ?_
  refine (congrFun (after0_18 m c last) (ix2 (0 : Fin 8) (⟨512 * k.val + e.val, by omega⟩ : Fin 3072))).trans (((sums_end m c H).bias k e).trans ?_)
  rw [after_all]; rfl

include H in
theorem array19 (l : Fin 128) : (dats m 0 c).arrAt 19 cfg0.N (ix2 (0 : Fin 8) l) = (((args m c).data.gradForgetBias l : ℝ) : EReal) := by
  refine ((dats m 0 c).arrAt_emb_eq_after_last 19 last (by decide +kernel) (ix2 (0 : Fin 8) l)).trans ?_
  refine (congrFun (after0_19 m c last) (ix2 (0 : Fin 8) l)).trans (((sums_end m c H).forgetBias l).trans ?_)
  rw [after_all]; rfl

include H in
theorem array20_scale (j : Fin 1024) : (dats m 0 c).arrAt 20 cfg0.N (ix2 (0 : Fin 8) j) = (((args m c).data.gradScale j : ℝ) : EReal) := by
  refine ((dats m 0 c).arrAt_emb_eq_after_last 20 last (by decide +kernel) (ix2 (0 : Fin 8) j)).trans ?_
  refine (congrFun (after0_20 m c last) (ix2 (0 : Fin 8) j)).trans (((sums_end m c H).scale j).trans ?_)
  rw [after_all]; rfl

include H in
theorem array20_shift (j : Fin 1024) : (dats m 0 c).arrAt 20 cfg0.N (ix2 (1 : Fin 8) j) = (((args m c).data.gradShift j : ℝ) : EReal) := by
  refine ((dats m 0 c).arrAt_emb_eq_after_last 20 last (by decide +kernel) (ix2 (1 : Fin 8) j)).trans ?_
  refine (congrFun (after0_20 m c last) (ix2 (1 : Fin 8) j)).trans (((sums_end m c H).shift j).trans ?_)
  rw [after_all]; rfl

end Cert.Proof.Projection
-- ==== Proof.Projection.Frames.lean ====
module

public import proofs.«01_k».proof.Defs
public import proofs.«01_k».proof.Proof.Gen.Kernel2
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.On_small_rows

@[expose] public section

noncomputable section

namespace Cert.Proof

open Idealize.ShloMosaic

end Cert.Proof

end
-- ==== Proof.Projection.Finite.lean ====
module

public import proofs.«01_k».proof.Proof.Projection.Frames
public import proofs.«01_k».proof.Proof.Projection.Reference
public import proofs.«01_k».proof.Proof.Attention.Finite

@[expose] public section

noncomputable section

/-! # The precondition and the rows of the claim -/

namespace Cert.Proof.Projection

open Idealize.ShloMosaic Cert.Proof.Attention

theorem real_of_finite (A : Args) (h : Cert.Pre_finite2.fn (F := Ideal) A.x0 A.x1 A.x2 A.x3 A.x4 A.x5 A.x6 A.x7 A.x8 A.x9 A.x10 A.x11 A.x12 = fun _ => 1#1) :
    A.Real := by
  have h0 := congrFun h (fun a => a.elim0)
  dsimp only [Cert.Pre_finite2.fn, Cert.Pre_finite2.fn_part2, Cert.Pre_finite2.fn_part3] at h0
  obtain ⟨h0, g12⟩ := and_one h0
  obtain ⟨h0, g11⟩ := and_one h0
  obtain ⟨h0, g10⟩ := and_one h0
  obtain ⟨h0, g9⟩ := and_one h0
  obtain ⟨h0, g8⟩ := and_one h0
  obtain ⟨h0, g7⟩ := and_one h0
  obtain ⟨h0, g6⟩ := and_one h0
  obtain ⟨h0, g5⟩ := and_one h0
  obtain ⟨h0, g4⟩ := and_one h0
  obtain ⟨h0, g3⟩ := and_one h0
  obtain ⟨h0, g2⟩ := and_one h0
  obtain ⟨g0, g1⟩ := and_one h0
  exact ⟨fun i => isReal_of_abs_lt (Host.reduce_andi_all _ _ _ _ _ g0 i),
    fun i => isReal_of_abs_lt (Host.reduce_andi_all _ _ _ _ _ g1 i),
    fun i => isReal_of_abs_lt (Host.reduce_andi_all _ _ _ _ _ g2 i),
    fun i => isReal_of_abs_lt (Host.reduce_andi_all _ _ _ _ _ g3 i),
    fun i => isReal_of_abs_lt (Host.reduce_andi_all _ _ _ _ _ g4 i),
    fun i => isReal_of_abs_lt (Host.reduce_andi_all _ _ _ _ _ g5 i),
    fun i => isReal_of_abs_lt (Host.reduce_andi_all _ _ _ _ _ g6 i),
    fun i => isReal_of_abs_lt (Host.reduce_andi_all _ _ _ _ _ g7 i),
    fun i => isReal_of_abs_lt (Host.reduce_andi_all _ _ _ _ _ g8 i),
    fun i => isReal_of_abs_lt (Host.reduce_andi_all _ _ _ _ _ g9 i),
    fun i => isReal_of_abs_lt (Host.reduce_andi_all _ _ _ _ _ g10 i),
    fun i => isReal_of_abs_lt (Host.reduce_andi_all _ _ _ _ _ g11 i),
    fun i => isReal_of_abs_lt (Host.reduce_andi_all _ _ _ _ _ g12 i)⟩

/-- A row that the claim covers. -/
theorem row_lt {a b : ℕ} (n : ℕ) (ha : a < 1000) (hn : n < 1000) (i : (⟨2, ![a, b]⟩ : Shape).Idx)
    (h : IntOp.cmpi .slt (BitVec.ofNat 32 (i 0).val) (BitVec.ofNat 32 n) = 1#1) : (i 0).val < n := by
  have hi : (i 0).val < a := (i 0).isLt
  by_contra hc
  have h2 : (BitVec.ofNat 32 (i 0).val).slt (BitVec.ofNat 32 n) = false := by
    rw [BitVec.slt, BitVec.toInt_eq_toNat_cond, BitVec.toInt_eq_toNat_cond, BitVec.toNat_ofNat, BitVec.toNat_ofNat, Nat.mod_eq_of_lt (by omega),
      Nat.mod_eq_of_lt (by omega), if_pos (by omega), if_pos (by omega)]
    simp; omega
  simp [IntOp.cmpi, h2] at h

end Cert.Proof.Projection
-- ==== Proof.Projection.Gradients.lean ====
module

public import proofs.«01_k».proof.Proof.Projection.Arrays
public import proofs.«01_k».proof.Proof.Projection.Finite

@[expose] public section

set_option maxRecDepth 16384

noncomputable section

/-! # The results of the two programs agree -/

namespace Cert.Proof.Projection

open Idealize.ShloMosaic Idealize.ShloMosaic.TcCoe Cert.Kernel2Ideal Cert.Kernel2Ideal.Gen Cert.Proof.Attention

variable (m : (ℓ : Loc nD τ sig) → Buf (Elt Ideal) ℓ) (c : Dev nD)
variable (H : (args m c).Real)

include H

theorem x_agrees (i : S4096x1024.Idx) : (dats m 0 c).arrAt 15 cfg0.N i = Cert.Reference2Ideal.Read.val_main_v153 (F := Ideal) (args m c).x0 (args m c).x1 (args m c).x2 (args m c).x3 (args m c).x4 (args m c).x5 (args m c).x6 (args m c).x7 (args m c).x8 (args m c).x9 (args m c).x10 (args m c).x11 (args m c).x12 i := by
  obtain ⟨s, j, rfl⟩ : ∃ (s : Fin 4096) (j : Fin 1024), i = ix2 s j := ⟨i 0, i 1, place2 _ _ rfl rfl⟩
  exact (congrFun (array15 m c H) (ix2 s j)).trans (result_x H s j).symm

theorem proj_agrees (i : S4096x1536.Idx) : (dats m 0 c).arrAt 16 cfg0.N i = Cert.Reference2Ideal.Read.val_main_v155 (F := Ideal) (args m c).x0 (args m c).x1 (args m c).x2 (args m c).x3 (args m c).x4 (args m c).x5 (args m c).x6 (args m c).x7 (args m c).x8 (args m c).x9 (args m c).x10 (args m c).x11 i := by
  obtain ⟨s, j, rfl⟩ : ∃ (s : Fin 4096) (j : Fin 1536), i = ix2 s j := ⟨i 0, i 1, place2 _ _ rfl rfl⟩
  obtain ⟨k, e, rfl⟩ : ∃ (k : Fin 3) (e : Fin 512), j = ⟨512 * k.val + e.val, by omega⟩ :=
    ⟨⟨j.val / 512, by omega⟩, ⟨j.val % 512, Nat.mod_lt _ (by norm_num)⟩, Fin.ext (Nat.div_add_mod _ _).symm⟩
  exact (array16 m c H k s e).trans (result_proj H k s e).symm

theorem forget_agrees (i : S128x1024.Idx) : (dats m 0 c).arrAt 17 cfg0.N i = Cert.Reference2Ideal.Read.val_main_v146 (F := Ideal) (args m c).x0 (args m c).x1 (args m c).x2 (args m c).x3 (args m c).x4 (args m c).x5 (args m c).x6 (args m c).x7 (args m c).x8 (args m c).x9 (args m c).x10 (args m c).x11 i := by
  obtain ⟨l, j, rfl⟩ : ∃ (l : Fin 128) (j : Fin 1024), i = ix2 l j := ⟨i 0, i 1, place2 _ _ rfl rfl⟩
  exact (array17 m c H l j).trans (result_forget H l j).symm

theorem bias_agrees (i : S8x3072.Idx) (hi : (i 0).val < 1) : (dats m 0 c).arrAt 18 cfg0.N i = Cert.Reference2Ideal.Read.val_main_v156 (F := Ideal) (args m c).x0 (args m c).x1 (args m c).x2 (args m c).x3 (args m c).x4 (args m c).x5 (args m c).x6 (args m c).x7 (args m c).x8 (args m c).x9 (args m c).x10 (args m c).x11 i := by
  have hz := Nat.lt_one_iff.1 hi
  clear hi
  obtain ⟨j, rfl⟩ : ∃ j : Fin 3072, i = ix2 (0 : Fin 8) j := ⟨i 1, place2 _ _ hz rfl⟩
  clear hz
  obtain ⟨k, e, rfl⟩ : ∃ (k : Fin 6) (e : Fin 512), j = ⟨512 * k.val + e.val, by omega⟩ :=
    ⟨⟨j.val / 512, by omega⟩, ⟨j.val % 512, Nat.mod_lt _ (by norm_num)⟩, Fin.ext (Nat.div_add_mod _ _).symm⟩
  exact (array18 m c H k e).trans (result_bias H k e).symm

theorem forgetBias_agrees (i : S8x128.Idx) (hi : (i 0).val < 1) : (dats m 0 c).arrAt 19 cfg0.N i = Cert.Reference2Ideal.Read.val_main_v157 (F := Ideal) (args m c).x0 (args m c).x1 (args m c).x2 (args m c).x3 (args m c).x4 (args m c).x5 (args m c).x6 (args m c).x7 (args m c).x8 (args m c).x9 (args m c).x10 (args m c).x11 i := by
  obtain ⟨l, rfl⟩ : ∃ l : Fin 128, i = ix2 (0 : Fin 8) l := ⟨i 1, place2 _ _ (Nat.lt_one_iff.1 hi) rfl⟩
  exact (array19 m c H l).trans (result_forgetBias H l).symm

theorem mod_agrees (i : S8x1024.Idx) (hi : (i 0).val < 2) : (dats m 0 c).arrAt 20 cfg0.N i = Cert.Reference2Ideal.Read.val_main_v159 (F := Ideal) (args m c).x0 (args m c).x1 (args m c).x2 (args m c).x3 (args m c).x4 (args m c).x5 (args m c).x6 (args m c).x7 (args m c).x8 (args m c).x9 (args m c).x10 (args m c).x11 i := by
  rcases (show (i 0).val = 0 ∨ (i 0).val = 1 by omega) with h0 | h1
  · obtain ⟨j, rfl⟩ : ∃ j : Fin 1024, i = ix2 (0 : Fin 8) j := ⟨i 1, place2 _ _ h0 rfl⟩
    exact (array20_scale m c H j).trans (result_scale H j).symm
  · obtain ⟨j, rfl⟩ : ∃ j : Fin 1024, i = ix2 (1 : Fin 8) j := ⟨i 1, place2 _ _ h1 rfl⟩
    exact (array20_shift m c H j).trans (result_shift H j).symm

end Cert.Proof.Projection
-- ==== Proof.Middle.Frames.lean ====
module

public import proofs.«01_k».proof.Defs
public import proofs.«01_k».proof.Proof.Gen.Kernel3
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Launch
public import proofs.«01_k».proof.Proof.Gen.Kernel3Ideal.Points
public import proofs.«01_k».proof.Proof.Gen.Kernel3Ideal.Frame

@[expose] public section

noncomputable section

namespace Cert.Proof

open Idealize.ShloMosaic

end Cert.Proof

end
-- ==== Proof.Forward.Frames.lean ====
module

public import proofs.«01_k».proof.Defs
public import proofs.«01_k».proof.Proof.Gen.Kernel4
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read

@[expose] public section

noncomputable section

namespace Cert.Proof

open Idealize.ShloMosaic

end Cert.Proof

end
-- ==== Proof.Forward.Blocks.lean ====
module

public import proofs.«01_k».proof.Defs
public import proofs.«01_k».proof.Proof.Gen.Kernel4Ideal
public import proofs.«01_k».proof.Proof.Gen.Kernel4Ideal.Skeleton
public import proofs.«01_k».proof.Proof.Attention.Blocks
public import Idealize.ShloMosaic.Lib.Pointwise

@[expose] public section

set_option maxRecDepth 16384

noncomputable section

/-!
# The blocks of the attention

The kernel takes one block of 512 queries against the blocks of 512 keys before it, and against the half of its own
block that is not in the future. This module names the blocks and gives in closed form what the kernel carries: for a
head `h` the running maximum of the scores (`top`) and the running weighted sum of the values (`acc`) over the first `n`
key blocks, each with its last step over the masked block (`lastTop`, `lastAcc`).
-/

namespace Cert.Proof.Forward

open Cert.Kernel4Ideal Cert.Kernel4Ideal.Gen
open Idealize.ShloMosaic Idealize.ShloMosaic.TcCoe
open Cert.Proof.KernelIdeal (win window_eq_win win_put_same win_put_apart)

instance nz_row : ∀ a, NeZero (S2x4096x128.size a) := fun a => by fin_cases a <;> exact ⟨by decide⟩
instance nz_query : ∀ a, NeZero (S2x512x128.size a) := fun a => by fin_cases a <;> exact ⟨by decide⟩
instance nz_acc : ∀ a, NeZero (S2x128x512.size a) := fun a => by fin_cases a <;> exact ⟨by decide⟩
instance nz_score : ∀ a, NeZero (S2x512x512.size a) := fun a => by fin_cases a <;> exact ⟨by decide⟩
instance nz_top : ∀ a, NeZero (S2x8x512.size a) := fun a => by fin_cases a <;> exact ⟨by decide⟩

/-- Block `j` of head `h` of an array with the positions in its rows. -/
def rowBlk {α : Type} (x : S2x4096x128.Idx → α) (h j : ℕ) : S1x512x128.Idx → α := win x ![h, 512 * j, 0] S1x512x128.size
/-- Head `h` of the block of queries. -/
def queryBlk {α : Type} (x : S2x512x128.Idx → α) (h : ℕ) : S1x512x128.Idx → α := win x ![h, 0, 0] S1x512x128.size
/-- Head `h` of the weighted sums. -/
def accBlk {α : Type} (x : S2x128x512.Idx → α) (h : ℕ) : S1x128x512.Idx → α := win x ![h, 0, 0] S1x128x512.size
/-- Head `h` of a buffer of scores. -/
def scoreBlk {α : Type} (x : S2x512x512.Idx → α) (h : ℕ) : S1x512x512.Idx → α := win x ![h, 0, 0] S1x512x512.size
/-- The row of head `h` that holds the running maximum. -/
def topBlk {α : Type} (x : S2x8x512.Idx → α) (h : ℕ) : S1x1x512.Idx → α := win x ![h, 0, 0] S1x1x512.size

theorem inb_row {h i : ℕ} (hh : h < 2) (hi : i < 8) : ∀ a, ![h, 512 * i, 0] a + S1x512x128.size a ≤ S2x4096x128.size a := by
  intro a; fin_cases a
  · show h + 1 ≤ 2; omega
  · show 512 * i + 512 ≤ 4096; omega
  · show 0 + 128 ≤ 128; omega
theorem inb_query {h : ℕ} (hh : h < 2) : ∀ a, ![h, 0, 0] a + S1x512x128.size a ≤ S2x512x128.size a := by
  intro a; fin_cases a
  · show h + 1 ≤ 2; omega
  · show 0 + 512 ≤ 512; omega
  · show 0 + 128 ≤ 128; omega
theorem inb_acc {h : ℕ} (hh : h < 2) : ∀ a, ![h, 0, 0] a + S1x128x512.size a ≤ S2x128x512.size a := by
  intro a; fin_cases a
  · show h + 1 ≤ 2; omega
  · show 0 + 128 ≤ 128; omega
  · show 0 + 512 ≤ 512; omega
theorem inb_score {h : ℕ} (hh : h < 2) : ∀ a, ![h, 0, 0] a + S1x512x512.size a ≤ S2x512x512.size a := by
  intro a; fin_cases a
  · show h + 1 ≤ 2; omega
  · show 0 + 512 ≤ 512; omega
  · show 0 + 512 ≤ 512; omega
theorem inb_top {h : ℕ} (hh : h < 2) : ∀ a, ![h, 0, 0] a + S1x1x512.size a ≤ S2x8x512.size a := by
  intro a; fin_cases a
  · show h + 1 ≤ 2; omega
  · show 0 + 1 ≤ 8; omega
  · show 0 + 512 ≤ 512; omega

theorem accBlk_put {α : Type} (x : S2x128x512.Idx → α) (h' : ℕ) (w : S1x128x512.Idx → α) {h : ℕ} (hh : h < 2) :
    accBlk (VecWindow.put x ![h', 0, 0] S1x128x512.size w) h = if h = h' then w else accBlk x h := by
  split_ifs with e
  · subst e
    exact win_put_same x _ _ (inb_acc hh) w
  · refine win_put_apart x _ _ _ _ (inb_acc hh) w (0 : Fin 3) ?_
    show h + 1 ≤ h' ∨ h' + 1 ≤ h
    omega

theorem scoreBlk_put {α : Type} (x : S2x512x512.Idx → α) (h' : ℕ) (w : S1x512x512.Idx → α) {h : ℕ} (hh : h < 2) :
    scoreBlk (VecWindow.put x ![h', 0, 0] S1x512x512.size w) h = if h = h' then w else scoreBlk x h := by
  split_ifs with e
  · subst e
    exact win_put_same x _ _ (inb_score hh) w
  · refine win_put_apart x _ _ _ _ (inb_score hh) w (0 : Fin 3) ?_
    show h + 1 ≤ h' ∨ h' + 1 ≤ h
    omega

theorem topBlk_put {α : Type} (x : S2x8x512.Idx → α) (h' : ℕ) (w : S1x1x512.Idx → α) {h : ℕ} (hh : h < 2) :
    topBlk (VecWindow.put x ![h', 0, 0] S1x1x512.size w) h = if h = h' then w else topBlk x h := by
  split_ifs with e
  · subst e
    exact win_put_same x _ _ (inb_top hh) w
  · refine win_put_apart x _ _ _ _ (inb_top hh) w (0 : Fin 3) ?_
    show h + 1 ≤ h' ∨ h' + 1 ≤ h
    omega

/-- An array of two heads from its heads. -/
def ofHeads {α : Type} (f : ℕ → S1x128x512.Idx → α) : S2x128x512.Idx → α :=
  fun y => f (y 0).val (Idealize.ShloMosaic.ix3 0 (y 1) (y 2))

theorem eq_ofHeads {α : Type} {x : S2x128x512.Idx → α} {f : ℕ → S1x128x512.Idx → α} (H : ∀ h, h < 2 → accBlk x h = f h) : x = ofHeads f := by
  funext y
  have hy : (y 0).val < 2 := (y 0).isLt
  unfold ofHeads
  rw [← H _ hy]
  refine congrArg x (funext fun a => Fin.ext ?_)
  have hb := (y a).isLt
  fin_cases a
  · show (y 0).val = ((y 0).val + 0) % 2
    exact (Nat.mod_eq_of_lt hy).symm
  · show (y 1).val = (0 + (y 1).val) % 128
    rw [Nat.zero_add]; exact (Nat.mod_eq_of_lt hb).symm
  · show (y 2).val = (0 + (y 2).val) % 512
    rw [Nat.zero_add]; exact (Nat.mod_eq_of_lt hb).symm

/-- Storing over all of an array leaves what was stored. -/
theorem whole_put {α : Type} {s : Shape} (x w : s.Idx → α) (off : Fin s.rank → ℕ) (h0 : ∀ a, off a = 0) : VecWindow.put x off s.size w = w := by
  funext y
  have h : ∀ a, off a ≤ (y a).val ∧ (y a).val < off a + s.size a := by
    intro a
    have := (y a).isLt
    rw [h0 a]
    exact ⟨Nat.zero_le _, by simpa using this⟩
  unfold VecWindow.put
  rw [dif_pos h]
  refine congrArg w (funext fun a => Fin.ext ?_)
  show (y a).val - off a = (y a).val
  rw [h0 a, Nat.sub_zero]

/-! ## What the kernel carries -/

variable {F : FTy → Type} [FloatOps F] [Named F]
variable (q : Vec F S2x512x128 .bf16) (kp : Vec F S2x4096x128 .bf16) (vp : Vec F S2x4096x128 .bf16)

/-- The rows and the columns of a block of scores. -/
def keyIx : IVec S512x512 32 := iota .tc S512x512 32 [0] iota_S512x512_d0_w32
def queryIx : IVec S512x512 32 := iota .tc S512x512 32 [1] iota_S512x512_d1_w32
/-- The lanes of a block. -/
def laneIx : IVec S128x512 32 := iota .tc S128x512 32 [0] iota_S128x512_d0_w32

/-- The scores of the block of queries against key block `j`. -/
def score (h j : ℕ) : FVec F S1x512x512 .f32 := k0_pay2 (k0_pay82 (queryBlk q h)) (rowBlk kp h j)

/-- The maximum of the scores over the first `n` key blocks. -/
def top (h : ℕ) : ℕ → Vec F S1x1x512 .f32
  | 0 => topBlk k0_pay86 h
  | n + 1 => k0_pay10 (k0_pay6 (top h n) (score q kp h n))

/-- The weighted sum of the values over the first `n` key blocks. -/
def acc (h : ℕ) : ℕ → Vec F S1x128x512 .f32
  | 0 => accBlk (k0_pay88 k0_pay87) h
  | n + 1 => k0_pay9 (k0_pay7 (top q kp h n) (score q kp h n)) (k0_pay8 (top q kp h n) (score q kp h n)) (acc h n) (rowBlk vp h n)

/-- The maximum with the block of queries' own keys. -/
def lastTop (h i : ℕ) : Vec F S1x1x512 .f32 := k0_pay56 keyIx queryIx (top q kp h i) (score q kp h i)
/-- The weighted sum with the block of queries' own keys. -/
def lastAcc (h i : ℕ) : Vec F S1x128x512 .f32 := k0_pay55 keyIx queryIx (top q kp h i) (score q kp h i) (acc q kp vp h i) (rowBlk vp h i)

/-- The output of the pair of heads at query block `i`. -/
def outAtt (i : ℕ) : Vec F S512x128 .f32 := k0_pay1 (k0_pay103 (lastAcc q kp vp 0 i)) (k0_pay103 (lastAcc q kp vp 1 i))
/-- The saved rows of the pair of heads at query block `i`. -/
def outSaved (i : ℕ) : Vec F S2x128x512 .bf16 :=
  ofHeads fun h => k0_pay104 laneIx (k0_pay82 (queryBlk q h)) (lastTop q kp h i) (lastAcc q kp vp h i)

end Cert.Proof.Forward
-- ==== Proof.Forward.Loop.lean ====
module

public import proofs.«01_k».proof.Defs
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Forward.Blocks
public import Idealize.ShloMosaic.Lib.Exec
public import Idealize.ShloMosaic.Lib.Tactic
public import Idealize.ShloMosaic.Lib.Pipeline.Kit
public import Idealize.ShloMosaic.Lib.Pipeline.ReadBack

@[expose] public section

set_option maxRecDepth 16384

noncomputable section

/-!
# One trip of the loop over pairs of key blocks

Trip `k` finds the scores of key block `2 k`, forms those of the blocks `2 k + 1` and `2 k + 2`, and takes the blocks
`2 k` and `2 k + 1` into the running maximum and the running sum, of both heads.
-/

namespace Cert.Proof.Forward

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (win window_eq_win)

variable {F : FTy → Type} [FloatOps F] [Named F]

abbrev UU (nD : Nat) (τ : Topo) : Type := UR sig nD τ
abbrev 𝒱₀ : Variants := Variants.none
local notation "𝕄" => MT nD τ sig Unit (Elt F) ℕ (UU nD τ) ℕ

theorem trips1 : ∀ i : grid0.Coords, (k0_t1_loop i).trips = (i 1).val / 2 := by decide +kernel
theorem trips2 : ∀ i : grid0.Coords, (k0_t2_loop i).trips = 0 := by decide +kernel

theorem off1_eq : ∀ (i : grid0.Coords) (k : Fin (k0_t1_loop i).trips), k0_off1 i k 1#32 = ![0, 512 * (2 * k.val + 1), 0] := by decide +kernel
theorem off1_eq' : ∀ (i : grid0.Coords) (k : Fin (k0_t1_loop i).trips), k0_off1 i k 2#32 = ![0, 512 * (2 * k.val + 2), 0] := by decide +kernel
theorem off2_eq : ∀ (i : grid0.Coords) (k : Fin (k0_t1_loop i).trips), k0_off2 i k 1#32 = ![1, 512 * (2 * k.val + 1), 0] := by decide +kernel
theorem off2_eq' : ∀ (i : grid0.Coords) (k : Fin (k0_t1_loop i).trips), k0_off2 i k 2#32 = ![1, 512 * (2 * k.val + 2), 0] := by decide +kernel
theorem off3_eq : ∀ (i : grid0.Coords) (k : Fin (k0_t1_loop i).trips), k0_off3 i k = ![0, 512 * (2 * k.val), 0] := by decide +kernel
theorem off4_eq : ∀ (i : grid0.Coords) (k : Fin (k0_t1_loop i).trips), k0_off4 i k = ![1, 512 * (2 * k.val), 0] := by decide +kernel

/-- A whole buffer held at its contents. -/
abbrev held (c : Dev nD) {sp : Space} {s : Shape} {e : EltTy} (M : Memref sig .tc sp s e) (f : BufTy.Contents (Elt F) M.view.ty) : sProp 𝕄 :=
  M.view.loc (c : Thread nD τ) ↦[M.view.set]{fullShare} f

/-- A load of a block of keys or values, -/
abbrev ldRow {e : EltTy} (M : Memref sig .tc .vmem S2x4096x128 e) (f : BufTy.Contents (Elt F) M.view.ty) (off : Fin 3 → ℕ)
    (inb : ∀ a, off a + S1x512x128.size a ≤ S2x4096x128.size a) : S1x512x128.Idx → Elt F e :=
  M.view.readAt (Elt F) (Rect.unit (s := S2x4096x128) off S1x512x128.size inb).toLoadRect f
/-- of one head of the scores, -/
abbrev ldScore {e : EltTy} (M : Memref sig .tc .vmem S2x512x512 e) (f : BufTy.Contents (Elt F) M.view.ty) (h : ℕ)
    (inb : ∀ a, ![h, 0, 0] a + S1x512x512.size a ≤ S2x512x512.size a) : S1x512x512.Idx → Elt F e :=
  M.view.readAt (Elt F) (Rect.unit (s := S2x512x512) ![h, 0, 0] S1x512x512.size inb).toLoadRect f
/-- of one head's maximum, -/
abbrev ldTop {e : EltTy} (M : Memref sig .tc .vmem S2x8x512 e) (f : BufTy.Contents (Elt F) M.view.ty) (h : ℕ)
    (inb : ∀ a, ![h, 0, 0] a + S1x1x512.size a ≤ S2x8x512.size a) : S1x1x512.Idx → Elt F e :=
  M.view.readAt (Elt F) (Rect.unit (s := S2x8x512) ![h, 0, 0] S1x1x512.size inb).toLoadRect f
/-- of one head's sum, -/
abbrev ldAcc {e : EltTy} (M : Memref sig .tc .vmem S2x128x512 e) (f : BufTy.Contents (Elt F) M.view.ty) (h : ℕ)
    (inb : ∀ a, ![h, 0, 0] a + S1x128x512.size a ≤ S2x128x512.size a) : S1x128x512.Idx → Elt F e :=
  M.view.readAt (Elt F) (Rect.unit (s := S2x128x512) ![h, 0, 0] S1x128x512.size inb).toLoadRect f
/-- of one head of the queries. -/
abbrev ldQuery {e : EltTy} (M : Memref sig .tc .vmem S2x512x128 e) (f : BufTy.Contents (Elt F) M.view.ty) (h : ℕ)
    (inb : ∀ a, ![h, 0, 0] a + S1x512x128.size a ≤ S2x512x128.size a) : S1x512x128.Idx → Elt F e :=
  M.view.readAt (Elt F) (Rect.unit (s := S2x512x128) ![h, 0, 0] S1x512x128.size inb).toLoadRect f

theorem ldRow_eq {e : EltTy} (M : Memref sig .tc .vmem S2x4096x128 e) (f : BufTy.Contents (Elt F) M.view.ty) {off : Fin 3 → ℕ} {h j : ℕ}
    (inb : ∀ a, off a + S1x512x128.size a ≤ S2x4096x128.size a) (eo : off = ![h, 512 * j, 0]) (hh : h < 2) (hj : j < 8) :
    ldRow M f off inb = rowBlk (M.view.read (Elt F) f) h j := by
  unfold ldRow
  rw [View.readAt_unit M.view f inb eo (inb_row hh hj)]
  exact window_eq_win _ _ _ _
theorem ldScore_eq {e : EltTy} (M : Memref sig .tc .vmem S2x512x512 e) (f : BufTy.Contents (Elt F) M.view.ty) {h : ℕ}
    (inb : ∀ a, ![h, 0, 0] a + S1x512x512.size a ≤ S2x512x512.size a) : ldScore M f h inb = scoreBlk (M.view.read (Elt F) f) h := by
  unfold ldScore
  rw [View.readAt_unit M.view f inb rfl inb]
  exact window_eq_win _ _ _ _
theorem ldTop_eq {e : EltTy} (M : Memref sig .tc .vmem S2x8x512 e) (f : BufTy.Contents (Elt F) M.view.ty) {h : ℕ}
    (inb : ∀ a, ![h, 0, 0] a + S1x1x512.size a ≤ S2x8x512.size a) : ldTop M f h inb = topBlk (M.view.read (Elt F) f) h := by
  unfold ldTop
  rw [View.readAt_unit M.view f inb rfl inb]
  exact window_eq_win _ _ _ _
theorem ldAcc_eq {e : EltTy} (M : Memref sig .tc .vmem S2x128x512 e) (f : BufTy.Contents (Elt F) M.view.ty) {h : ℕ}
    (inb : ∀ a, ![h, 0, 0] a + S1x128x512.size a ≤ S2x128x512.size a) : ldAcc M f h inb = accBlk (M.view.read (Elt F) f) h := by
  unfold ldAcc
  rw [View.readAt_unit M.view f inb rfl inb]
  exact window_eq_win _ _ _ _
theorem ldQuery_eq {e : EltTy} (M : Memref sig .tc .vmem S2x512x128 e) (f : BufTy.Contents (Elt F) M.view.ty) {h : ℕ}
    (inb : ∀ a, ![h, 0, 0] a + S1x512x128.size a ≤ S2x512x128.size a) : ldQuery M f h inb = queryBlk (M.view.read (Elt F) f) h := by
  unfold ldQuery
  rw [View.readAt_unit M.view f inb rfl inb]
  exact window_eq_win _ _ _ _

section trip
variable (c : Dev nD) (i : grid0.Coords) (arg2 : Memref sig .tc .vmem S2x512x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S512x128 .f32) (harg5 : arg5.IsWhole) (arg6 : Memref sig .tc .vmem S2x128x512 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x8x512 .f32) (harg9 : arg9.IsWhole) (arg10 : Memref sig .tc .vmem S2x128x512 .f32) (harg10 : arg10.IsWhole)

variable (q : Vec F S2x512x128 .bf16) (kp : Vec F S2x4096x128 .bf16) (vp : Vec F S2x4096x128 .bf16)

/-- What the loop holds after `n` key blocks. -/
def loopHeld (n : ℕ) (X3 : BufTy.Contents (Elt F) arg3.view.ty) (X4 : BufTy.Contents (Elt F) arg4.view.ty) : sProp 𝕄 :=
  iprop(held c arg3 X3 ∗ held c arg4 X4
    ∗ (∃ g, held c arg7 g ∗ ⌜∀ h, h < 2 → scoreBlk (arg7.view.read (Elt F) g) h = score q kp h n⌝)
    ∗ (∃ g, held c arg8 g)
    ∗ (∃ g, held c arg9 g ∗ ⌜∀ h, h < 2 → topBlk (arg9.view.read (Elt F) g) h = top q kp h n⌝)
    ∗ (∃ g, held c arg10 g ∗ ⌜∀ h, h < 2 → accBlk (arg10.view.read (Elt F) g) h = acc q kp vp h n⌝))

variable (arg1 : BitVec 32) (v26 : FVec F S2x128x512 .f32) (v27 : Vec F S2x128x512 .f32)

theorem trip (k : Fin (k0_t1_loop i).trips) (a : BitVec 32) (E : Set ℕ) (X3 X4)
    (h3 : arg3.view.read (Elt F) X3 = kp) (h4 : arg4.view.read (Elt F) X4 = vp) :
    loopHeld c arg3 arg4 arg7 arg8 arg9 arg10 q kp vp (2 * k.val) X3 X4 ⊢
      wp frame (wpE defs₀ 𝒱₀ (c : Thread nD τ) none) E (k0_t1_body (F := F) i arg2 harg2 arg3 harg3 arg4 harg4 arg5 harg5 arg6 harg6 arg7 harg7 arg8 harg8 arg9 harg9 arg10 harg10 arg1
          (k0_pay82 (queryBlk q 0)) (k0_pay83 (queryBlk q 1)) v26 v27 k a)
        (fun _ => loopHeld c arg3 arg4 arg7 arg8 arg9 arg10 q kp vp (2 * (k.val + 1)) X3 X4) := by
  have hk : k.val < (i 1).val / 2 := Nat.lt_of_lt_of_eq k.isLt (trips1 i)
  have hi : (i 1).val < 8 := (i 1).isLt
  unfold loopHeld
  iintro ⟨H3, H4, ⟨%f7, H7, %h7⟩, ⟨%f8, H8⟩, ⟨%f9, H9, %h9⟩, ⟨%f10, H10, %h10⟩⟩
  unfold k0_t1_body
  sl_exec
  have b0 : 2 * k.val < 8 := by omega
  have b1 : 2 * k.val + 1 < 8 := by omega
  have b2 : 2 * k.val + 2 < 8 := by omega
  have en : 2 * (k.val + 1) = 2 * k.val + 1 + 1 := by omega
  -- what the trip finds
  have T0 : ldTop arg9 f9 0 inb_S2x8x512_S1x1x512_0_0_0 = top q kp 0 (2 * k.val) := (ldTop_eq arg9 f9 _).trans (h9 0 (by omega))
  have T1 : ldTop arg9 f9 1 inb_S2x8x512_S1x1x512_1_0_0 = top q kp 1 (2 * k.val) := (ldTop_eq arg9 f9 _).trans (h9 1 (by omega))
  have S0 : ldScore arg7 f7 0 inb_S2x512x512_S1x512x512_0_0_0 = score q kp 0 (2 * k.val) := (ldScore_eq arg7 f7 _).trans (h7 0 (by omega))
  have S1 : ldScore arg7 f7 1 inb_S2x512x512_S1x512x512_1_0_0 = score q kp 1 (2 * k.val) := (ldScore_eq arg7 f7 _).trans (h7 1 (by omega))
  have A0 : ldAcc arg10 f10 0 inb_S2x128x512_S1x128x512_0_0_0 = acc q kp vp 0 (2 * k.val) := (ldAcc_eq arg10 f10 _).trans (h10 0 (by omega))
  have A1 : ldAcc arg10 f10 1 inb_S2x128x512_S1x128x512_1_0_0 = acc q kp vp 1 (2 * k.val) := (ldAcc_eq arg10 f10 _).trans (h10 1 (by omega))
  have K0 : k0_pay2 (k0_pay82 (queryBlk q 0)) (ldRow arg3 X3 (k0_off1 i k 1#32) (k0_off1_inb i k 0)) = score q kp 0 (2 * k.val + 1) := by
    rw [ldRow_eq arg3 X3 _ (off1_eq i k) (by omega) b1, h3]; rfl
  have K1 : k0_pay2 (k0_pay82 (queryBlk q 1)) (ldRow arg3 X3 (k0_off2 i k 1#32) (k0_off2_inb i k 0)) = score q kp 1 (2 * k.val + 1) := by
    rw [ldRow_eq arg3 X3 _ (off2_eq i k) (by omega) b1, h3]; rfl
  have K0' : k0_pay2 (k0_pay82 (queryBlk q 0)) (ldRow arg3 X3 (k0_off1 i k 2#32) (k0_off1_inb i k 1)) = score q kp 0 (2 * k.val + 2) := by
    rw [ldRow_eq arg3 X3 _ (off1_eq' i k) (by omega) b2, h3]; rfl
  have K1' : k0_pay2 (k0_pay82 (queryBlk q 1)) (ldRow arg3 X3 (k0_off2 i k 2#32) (k0_off2_inb i k 1)) = score q kp 1 (2 * k.val + 2) := by
    rw [ldRow_eq arg3 X3 _ (off2_eq' i k) (by omega) b2, h3]; rfl
  have V0 : ldRow arg4 X4 _ (k0_off3_inb i k) = rowBlk vp 0 (2 * k.val) := by rw [ldRow_eq arg4 X4 _ (off3_eq i k) (by omega) b0, h4]
  have V1 : ldRow arg4 X4 _ (k0_off4_inb i k) = rowBlk vp 1 (2 * k.val) := by rw [ldRow_eq arg4 X4 _ (off4_eq i k) (by omega) b0, h4]
  have V0' : ldRow arg4 X4 (k0_off1 i k 1#32) (k0_off1_inb i k 0) = rowBlk vp 0 (2 * k.val + 1) := by rw [ldRow_eq arg4 X4 _ (off1_eq i k) (by omega) b1, h4]
  have V1' : ldRow arg4 X4 (k0_off2 i k 1#32) (k0_off2_inb i k 0) = rowBlk vp 1 (2 * k.val + 1) := by rw [ldRow_eq arg4 X4 _ (off2_eq i k) (by omega) b1, h4]
  -- what it reads back of its own
  have s0 : trip.sl.v261 i arg3 arg8 q k X3 = score q kp 0 (2 * k.val + 1) :=
    ((View.readCov_skip _ _ _ _ _ rfl).trans (View.readCov_cons_toLoadRect _ _ _ _)).trans K0
  have s1 : trip.sl.v289 i arg3 arg8 q k X3 = score q kp 1 (2 * k.val + 1) := (View.readCov_cons_toLoadRect _ _ _ _).trans K1
  have t0 : trip.sl.v259 arg7 arg9 f7 f9 = top q kp 0 (2 * k.val + 1) := by
    have r : trip.sl.v259 arg7 arg9 f7 f9 = k0_pay10 (k0_pay6 (ldTop arg9 f9 0 inb_S2x8x512_S1x1x512_0_0_0) (ldScore arg7 f7 0 inb_S2x512x512_S1x512x512_0_0_0)) :=
      (View.readCov_skip _ _ _ _ _ rfl).trans (View.readCov_cons_toLoadRect _ _ _ _)
    rw [r, T0, S0]; rfl
  have t1 : trip.sl.v287 i arg3 arg7 arg8 arg9 q k X3 f7 f9 = top q kp 1 (2 * k.val + 1) := by
    have r : trip.sl.v287 i arg3 arg7 arg8 arg9 q k X3 f7 f9 = k0_pay10 (k0_pay6 (ldTop arg9 f9 1 inb_S2x8x512_S1x1x512_1_0_0) (ldScore arg7 f7 1 inb_S2x512x512_S1x512x512_1_0_0)) :=
      (View.readCov_skip _ _ _ _ _ rfl).trans (View.readCov_cons_toLoadRect _ _ _ _)
    rw [r, T1, S1]; rfl
  have a0 : trip.sl.v272 i arg4 arg7 arg9 arg10 k X4 f7 f9 f10 = acc q kp vp 0 (2 * k.val + 1) := by
    have r : trip.sl.v272 i arg4 arg7 arg9 arg10 k X4 f7 f9 f10 = k0_pay9 (k0_pay7 (ldTop arg9 f9 0 inb_S2x8x512_S1x1x512_0_0_0) (ldScore arg7 f7 0 inb_S2x512x512_S1x512x512_0_0_0))
        (k0_pay8 (ldTop arg9 f9 0 inb_S2x8x512_S1x1x512_0_0_0) (ldScore arg7 f7 0 inb_S2x512x512_S1x512x512_0_0_0)) (ldAcc arg10 f10 0 inb_S2x128x512_S1x128x512_0_0_0)
        (ldRow arg4 X4 _ (k0_off3_inb i k)) :=
      (View.readCov_skip _ _ _ _ _ rfl).trans (View.readCov_cons_toLoadRect _ _ _ _)
    rw [r, T0, S0, A0, V0]; rfl
  have a1 : trip.sl.v300 i arg3 arg4 arg7 arg8 arg9 arg10 q k X3 X4 f7 f9 f10 = acc q kp vp 1 (2 * k.val + 1) := by
    have r : trip.sl.v300 i arg3 arg4 arg7 arg8 arg9 arg10 q k X3 X4 f7 f9 f10 = k0_pay9 (k0_pay7 (ldTop arg9 f9 1 inb_S2x8x512_S1x1x512_1_0_0) (ldScore arg7 f7 1 inb_S2x512x512_S1x512x512_1_0_0))
        (k0_pay8 (ldTop arg9 f9 1 inb_S2x8x512_S1x1x512_1_0_0) (ldScore arg7 f7 1 inb_S2x512x512_S1x512x512_1_0_0)) (ldAcc arg10 f10 1 inb_S2x128x512_S1x128x512_1_0_0)
        (ldRow arg4 X4 _ (k0_off4_inb i k)) :=
      (View.readCov_skip _ _ _ _ _ rfl).trans (View.readCov_cons_toLoadRect _ _ _ _)
    rw [r, T1, S1, A1, V1]; rfl
  sl_step
  isplitl [H3]; · iexact H3
  isplitl [H4]; · iexact H4
  isplitl [H7]
  · iexists _
    isplitl [H7]; · iexact H7
    ipureintro
    intro h hh
    rw [View.read_writes_cons_put _ _ _ _ _ rfl, View.read_writes_cons_put _ _ _ _ _ rfl]
    refine (scoreBlk_put _ 1 _ hh).trans ?_
    split_ifs with e1
    · subst e1
      exact K1'
    · obtain rfl : h = 0 := by omega
      refine (scoreBlk_put _ 0 _ hh).trans ?_
      rw [if_pos rfl]
      exact K0'
  isplitl [H8]; · iexists _; iexact H8
  isplitl [H9]
  · iexists _
    isplitl [H9]; · iexact H9
    ipureintro
    intro h hh
    rw [View.read_writes_cons_put _ _ _ _ _ rfl, en]
    refine (topBlk_put _ 1 _ hh).trans ?_
    split_ifs with e1
    · subst e1
      delta trip.sl.v288 trip.sl.v290
      rw [t1, s1]; rfl
    · obtain rfl : h = 0 := by omega
      delta trip.sl.H9_3
      rw [View.read_writes_cons_put _ _ _ _ _ rfl]
      refine (topBlk_put _ 0 _ hh).trans ?_
      rw [if_pos rfl]
      have r : trip.sl.v286 i arg3 arg7 arg8 arg9 q k X3 f7 f9 = k0_pay10 (k0_pay6 (trip.sl.v259 arg7 arg9 f7 f9) (trip.sl.v261 i arg3 arg8 q k X3)) := rfl
      rw [r, t0, s0]; rfl
  · iexists _
    isplitl [H10]; · iexact H10
    ipureintro
    intro h hh
    rw [View.read_writes_cons_put _ _ _ _ _ rfl, en]
    refine (accBlk_put _ 1 _ hh).trans ?_
    split_ifs with e1
    · subst e1
      delta trip.sl.v288 trip.sl.v290
      rw [t1, s1, a1]
      refine (congrArg _ V1').trans ?_
      rfl
    · obtain rfl : h = 0 := by omega
      delta trip.sl.H10_3
      rw [View.read_writes_cons_put _ _ _ _ _ rfl]
      refine (accBlk_put _ 0 _ hh).trans ?_
      rw [if_pos rfl]
      have r : trip.sl.v283 i arg3 arg4 arg7 arg8 arg9 arg10 q k X3 X4 f7 f9 f10
          = k0_pay9 (k0_pay7 (trip.sl.v259 arg7 arg9 f7 f9) (trip.sl.v261 i arg3 arg8 q k X3)) (k0_pay8 (trip.sl.v259 arg7 arg9 f7 f9) (trip.sl.v261 i arg3 arg8 q k X3))
              (trip.sl.v272 i arg4 arg7 arg9 arg10 k X4 f7 f9 f10) (ldRow arg4 X4 (k0_off1 i k 1#32) (k0_off1_inb i k 0)) := rfl
      rw [r, t0, s0, a0, V0']; rfl
end trip

end Cert.Proof.Forward
-- ==== Proof.Forward.Body.lean ====
module

public import proofs.«01_k».proof.Defs
public import proofs.«01_k».proof.Proof.Forward.Loop

@[expose] public section

set_option maxRecDepth 16384

noncomputable section

/-!
# The kernel at one block of queries of one pair of heads

What the kernel leaves in its two results. The loop takes the key blocks in pairs; what is left after it is the block
of the queries' own keys (`body_even`) or one block and then that block (`body_odd`).
-/

namespace Cert.Proof.Forward

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (win window_eq_win)

variable {F : FTy → Type} [FloatOps F] [Named F]

local notation "𝕄" => MT nD τ sig Unit (Elt F) ℕ (UU nD τ) ℕ

theorem off9_eq : ∀ i : grid0.Coords, k0_off9 i = ![0, 512 * (i 1).val, 0] := by decide +kernel
theorem off10_eq : ∀ i : grid0.Coords, k0_off10 i = ![1, 512 * (i 1).val, 0] := by decide +kernel
theorem off11_eq : ∀ i : grid0.Coords, k0_off11 i = ![0, 512 * (i 1).val, 0] := by decide +kernel
theorem off12_eq : ∀ i : grid0.Coords, k0_off12 i = ![1, 512 * (i 1).val, 0] := by decide +kernel
theorem off13_eq : ∀ i : grid0.Coords, ¬ k0_cond1 i = 1#1 → k0_off13 i = ![0, 512 * (2 * ((i 1).val / 2)), 0] := by decide +kernel
theorem off14_eq : ∀ i : grid0.Coords, ¬ k0_cond1 i = 1#1 → k0_off14 i = ![1, 512 * (2 * ((i 1).val / 2)), 0] := by decide +kernel
theorem cond_even : ∀ i : grid0.Coords, k0_cond1 i = 1#1 → 2 * ((i 1).val / 2) = (i 1).val := by decide +kernel
theorem cond_odd : ∀ i : grid0.Coords, ¬ k0_cond1 i = 1#1 → 2 * ((i 1).val / 2) + 1 = (i 1).val := by decide +kernel

section body
variable (c : Dev nD) (i : grid0.Coords) (arg2 : Memref sig .tc .vmem S2x512x128 .bf16) (harg2 : arg2.IsWhole) (arg3 : Memref sig .tc .vmem S2x4096x128 .bf16) (harg3 : arg3.IsWhole) (arg4 : Memref sig .tc .vmem S2x4096x128 .bf16) (harg4 : arg4.IsWhole) (arg5 : Memref sig .tc .vmem S512x128 .f32) (harg5 : arg5.IsWhole) (arg6 : Memref sig .tc .vmem S2x128x512 .bf16) (harg6 : arg6.IsWhole) (arg7 : Memref sig .tc .vmem S2x512x512 .f32) (harg7 : arg7.IsWhole) (arg8 : Memref sig .tc .vmem S2x512x512 .f32) (harg8 : arg8.IsWhole) (arg9 : Memref sig .tc .vmem S2x8x512 .f32) (harg9 : arg9.IsWhole) (arg10 : Memref sig .tc .vmem S2x128x512 .f32) (harg10 : arg10.IsWhole)

variable (q : Vec F S2x512x128 .bf16) (kp : Vec F S2x4096x128 .bf16) (vp : Vec F S2x4096x128 .bf16)

theorem trip_of (arg1 : BitVec 32) (v4 v6 : FVec F S512x128 .bf16) (v26 : FVec F S2x128x512 .f32) (v27 : Vec F S2x128x512 .f32)
    (e4 : v4 = k0_pay82 (queryBlk q 0)) (e6 : v6 = k0_pay83 (queryBlk q 1)) (k : Fin (k0_t1_loop i).trips) (a : BitVec 32) (E : Set ℕ) (X3 X4)
    (h3 : arg3.view.read (Elt F) X3 = kp) (h4 : arg4.view.read (Elt F) X4 = vp) :
    loopHeld c arg3 arg4 arg7 arg8 arg9 arg10 q kp vp (2 * k.val) X3 X4 ⊢
      wp frame (wpE defs₀ 𝒱₀ (c : Thread nD τ) none) E (k0_t1_body (F := F) i arg2 harg2 arg3 harg3 arg4 harg4 arg5 harg5 arg6 harg6 arg7 harg7 arg8 harg8 arg9 harg9 arg10 harg10 arg1 v4 v6 v26 v27 k a)
        (fun _ => loopHeld c arg3 arg4 arg7 arg8 arg9 arg10 q kp vp (2 * (k.val + 1)) X3 X4) := by
  subst e4 e6
  exact trip c i arg2 harg2 arg3 harg3 arg4 harg4 arg5 harg5 arg6 harg6 arg7 harg7 arg8 harg8 arg9 harg9 arg10 harg10 q kp vp arg1 v26 v27 k a E X3 X4 h3 h4

theorem body_even (hc : k0_cond1 i = 1#1) (E : Set ℕ) (X2 X3 X4)
    (h2 : arg2.view.read (Elt F) X2 = q) (h3 : arg3.view.read (Elt F) X3 = kp) (h4 : arg4.view.read (Elt F) X4 = vp) :
    iprop(held c arg2 X2 ∗ held c arg3 X3 ∗ held c arg4 X4
      ∗ (∃ g, held c arg5 g) ∗ (∃ g, held c arg6 g) ∗ (∃ g, held c arg7 g) ∗ (∃ g, held c arg8 g) ∗ (∃ g, held c arg9 g) ∗ (∃ g, held c arg10 g) : sProp 𝕄) ⊢
      wp frame (wpE defs₀ 𝒱₀ (c : Thread nD τ) none) E (cc0_attention_forward (F := F) i arg2 harg2 arg3 harg3 arg4 harg4 arg5 harg5 arg6 harg6 arg7 harg7 arg8 harg8 arg9 harg9 arg10 harg10)
        (fun _ => iprop(held c arg2 X2 ∗ held c arg3 X3 ∗ held c arg4 X4
          ∗ (∃ g, held c arg5 g ∗ ⌜arg5.view.read (Elt F) g = outAtt q kp vp (i 1).val⌝)
          ∗ (∃ g, held c arg6 g ∗ ⌜arg6.view.read (Elt F) g = outSaved q kp vp (i 1).val⌝)
          ∗ (∃ g, held c arg7 g) ∗ (∃ g, held c arg8 g) ∗ (∃ g, held c arg9 g) ∗ (∃ g, held c arg10 g))) := by
  have hi : (i 1).val < 8 := (i 1).isLt
  iintro ⟨H2, H3, H4, ⟨%f5, H5⟩, ⟨%f6, H6⟩, ⟨%f7, H7⟩, ⟨%f8, H8⟩, ⟨%f9, H9⟩, ⟨%f10, H10⟩⟩
  have Q0 : ldQuery arg2 X2 0 inb_S2x512x128_S1x512x128_0_0_0 = queryBlk q 0 := (ldQuery_eq arg2 X2 _).trans (by rw [h2])
  have Q1 : ldQuery arg2 X2 1 inb_S2x512x128_S1x512x128_1_0_0 = queryBlk q 1 := (ldQuery_eq arg2 X2 _).trans (by rw [h2])
  have K0 : ldRow arg3 X3 ![0, 0, 0] inb_S2x4096x128_S1x512x128_0_0_0 = rowBlk kp 0 0 := (ldRow_eq (h := 0) (j := 0) arg3 X3 _ rfl (by omega) (by omega)).trans (by rw [h3])
  have K1 : ldRow arg3 X3 ![1, 0, 0] inb_S2x4096x128_S1x512x128_1_0_0 = rowBlk kp 1 0 := (ldRow_eq (h := 1) (j := 0) arg3 X3 _ rfl (by omega) (by omega)).trans (by rw [h3])
  rw [cc0_attention_forward_eq_skeleton]
  unfold cc0_attention_forward_skel
  simp only [k0_part15_eq_skeleton, k0_part16_eq_skeleton]
  unfold k0_part16_skel
  simp only [dif_pos hc]
  sl_exec
  have R0 : body_even.sl.r q = k0_pay82 (queryBlk q 0) := rfl
  have R1 : body_even.sl.r_1 q = k0_pay83 (queryBlk q 1) := rfl
  iapply (Scf.wp_for_bind _ _ _ _ _ _ _ _ _ (fun k _ => loopHeld c arg3 arg4 arg7 arg8 arg9 arg10 q kp vp (2 * k) X3 X4)
    (fun k acc => trip_of c i arg2 harg2 arg3 harg3 arg4 harg4 arg5 harg5 arg6 harg6 arg7 harg7 arg8 harg8 arg9 harg9 arg10 harg10 q kp vp _ _ _ _ _ R0 R1 k acc E X3 X4 h3 h4)) $$ [H3 H4 H7 H8 H9 H10]
  · unfold loopHeld
    isplitl [H3]; · iexact H3
    isplitl [H4]; · iexact H4
    isplitl [H7]
    · iexists _
      isplitl [H7]; · iexact H7
      ipureintro
      intro h hh
      delta body_even.sl.H7_2
      rw [View.read_writes_cons_put _ _ _ _ _ rfl, View.read_writes_cons_put _ _ _ _ _ rfl]
      refine (scoreBlk_put _ 1 _ hh).trans ?_
      split_ifs with e1
      · subst e1
        unfold score
        rw [← Q1, ← K1]; rfl
      · obtain rfl : h = 0 := by omega
        refine (scoreBlk_put _ 0 _ hh).trans ?_
        rw [if_pos rfl]
        unfold score
        rw [← Q0, ← K0]; rfl
    isplitl [H8]; · iexists _; iexact H8
    isplitl [H9]
    · iexists _
      isplitl [H9]; · iexact H9
      ipureintro
      intro h hh
      delta body_even.sl.H9_1
      rw [View.read_writes_cons_put _ _ _ _ _ rfl]
      refine (congrArg (topBlk · h) (whole_put _ _ _ (by intro a; fin_cases a <;> rfl))).trans ?_
      rfl
    · iexists _
      isplitl [H10]; · iexact H10
      ipureintro
      intro h hh
      delta body_even.sl.H10_1 body_even.sl.r_2
      rw [View.read_writes_cons_put _ _ _ _ _ rfl]
      refine (congrArg (accBlk · h) (whole_put _ _ _ (by intro a; fin_cases a <;> rfl))).trans ?_
      rfl
  · have et : Scf.trips (k0_t1_loop i).lb (k0_t1_loop i).ub (k0_t1_loop i).st = (i 1).val / 2 := trips1 i
    rw [et]
    iintro %acc1 HL
    iapply (Scf.wp_for_bind _ _ _ _ _ _ _ _ _ (fun k _ => loopHeld c arg3 arg4 arg7 arg8 arg9 arg10 q kp vp (2 * ((i 1).val / 2)) X3 X4)
      (fun k acc => absurd (Nat.lt_of_lt_of_eq k.isLt (trips2 i)) (Nat.not_lt_zero _))) $$ [HL]
    · iexact HL
    unfold loopHeld
    iintro %acc2 ⟨H3, H4, ⟨%g7, H7, %i7⟩, ⟨%g8, H8⟩, ⟨%g9, H9, %i9⟩, ⟨%g10, H10, %i10⟩⟩
    rw [cond_even i hc] at i7 i9 i10
    sl_exec
    -- what the tail finds
    have T0 : ldTop arg9 g9 0 inb_S2x8x512_S1x1x512_0_0_0 = top q kp 0 (i 1).val := (ldTop_eq arg9 g9 _).trans (i9 0 (by omega))
    have T1 : ldTop arg9 g9 1 inb_S2x8x512_S1x1x512_1_0_0 = top q kp 1 (i 1).val := (ldTop_eq arg9 g9 _).trans (i9 1 (by omega))
    have S0 : ldScore arg7 g7 0 inb_S2x512x512_S1x512x512_0_0_0 = score q kp 0 (i 1).val := (ldScore_eq arg7 g7 _).trans (i7 0 (by omega))
    have S1 : ldScore arg7 g7 1 inb_S2x512x512_S1x512x512_1_0_0 = score q kp 1 (i 1).val := (ldScore_eq arg7 g7 _).trans (i7 1 (by omega))
    have A0 : ldAcc arg10 g10 0 inb_S2x128x512_S1x128x512_0_0_0 = acc q kp vp 0 (i 1).val := (ldAcc_eq arg10 g10 _).trans (i10 0 (by omega))
    have A1 : ldAcc arg10 g10 1 inb_S2x128x512_S1x128x512_1_0_0 = acc q kp vp 1 (i 1).val := (ldAcc_eq arg10 g10 _).trans (i10 1 (by omega))
    have V0 : ldRow arg4 X4 _ (k0_off9_inb i hc) = rowBlk vp 0 (i 1).val := by rw [ldRow_eq arg4 X4 _ (off9_eq i) (by omega) hi, h4]
    have V1 : ldRow arg4 X4 _ (k0_off10_inb i hc) = rowBlk vp 1 (i 1).val := by rw [ldRow_eq arg4 X4 _ (off10_eq i) (by omega) hi, h4]
    -- what it reads back of its own
    have t0 : body_even.sl.v67 arg7 arg9 g7 g9 = lastTop q kp 0 (i 1).val := by
      have r : body_even.sl.v67 arg7 arg9 g7 g9 = k0_pay56 keyIx queryIx (ldTop arg9 g9 0 inb_S2x8x512_S1x1x512_0_0_0) (ldScore arg7 g7 0 inb_S2x512x512_S1x512x512_0_0_0) :=
        (View.readCov_skip _ _ _ _ _ rfl).trans (View.readCov_cons_toLoadRect _ _ _ _)
      rw [r, T0, S0]; rfl
    have a0 : body_even.sl.v69 i arg4 arg7 arg9 arg10 hc X4 g7 g9 g10 = lastAcc q kp vp 0 (i 1).val := by
      have r : body_even.sl.v69 i arg4 arg7 arg9 arg10 hc X4 g7 g9 g10 = k0_pay55 keyIx queryIx (ldTop arg9 g9 0 inb_S2x8x512_S1x1x512_0_0_0) (ldScore arg7 g7 0 inb_S2x512x512_S1x512x512_0_0_0)
          (ldAcc arg10 g10 0 inb_S2x128x512_S1x128x512_0_0_0) (ldRow arg4 X4 _ (k0_off9_inb i hc)) :=
        (View.readCov_skip _ _ _ _ _ rfl).trans (View.readCov_cons_toLoadRect _ _ _ _)
      rw [r, T0, S0, A0, V0]; rfl
    have t1 : body_even.sl.v112 arg7 arg9 g7 g9 = lastTop q kp 1 (i 1).val := by
      have r : body_even.sl.v112 arg7 arg9 g7 g9 = k0_pay56 keyIx queryIx (ldTop arg9 g9 1 inb_S2x8x512_S1x1x512_1_0_0) (ldScore arg7 g7 1 inb_S2x512x512_S1x512x512_1_0_0) :=
        View.readCov_cons_toLoadRect _ _ _ _
      rw [r, T1, S1]; rfl
    have a1 : body_even.sl.v114 i arg4 arg7 arg9 arg10 hc X4 g7 g9 g10 = lastAcc q kp vp 1 (i 1).val := by
      have r : body_even.sl.v114 i arg4 arg7 arg9 arg10 hc X4 g7 g9 g10 = k0_pay55 keyIx queryIx (ldTop arg9 g9 1 inb_S2x8x512_S1x1x512_1_0_0) (ldScore arg7 g7 1 inb_S2x512x512_S1x512x512_1_0_0)
          (ldAcc arg10 g10 1 inb_S2x128x512_S1x128x512_1_0_0) (ldRow arg4 X4 _ (k0_off10_inb i hc)) :=
        View.readCov_cons_toLoadRect _ _ _ _
      rw [r, T1, S1, A1, V1]; rfl
    have o1 : body_even.sl.v121 i arg4 arg7 arg9 arg10 hc X4 g7 g9 g10 = k0_pay103 (body_even.sl.v114 i arg4 arg7 arg9 arg10 hc X4 g7 g9 g10) := rfl
    have p1 : body_even.sl.v156 i arg4 arg7 arg9 arg10 q hc X4 g7 g9 g10 = k0_pay104 laneIx (k0_pay82 (queryBlk q 1)) (body_even.sl.v112 arg7 arg9 g7 g9) (body_even.sl.v114 i arg4 arg7 arg9 arg10 hc X4 g7 g9 g10) := rfl
    sl_step
    isplitl [H2]; · iexact H2
    isplitl [H3]; · iexact H3
    isplitl [H4]; · iexact H4
    isplitl [H5]
    · iexists _
      isplitl [H5]; · iexact H5
      ipureintro
      rw [View.read_writes_cons_put _ _ _ _ _ rfl, o1, a0, a1]
      exact whole_put _ _ _ (by intro a; fin_cases a <;> rfl)
    isplitl [H6]
    · iexists _
      isplitl [H6]; · iexact H6
      ipureintro
      rw [View.read_writes_cons_put _ _ _ _ _ rfl, View.read_writes_cons_put _ _ _ _ _ rfl, p1, t0, a0, t1, a1]
      refine eq_ofHeads fun h hh => ?_
      refine (accBlk_put _ 1 _ hh).trans ?_
      split_ifs with e1
      · subst e1; rfl
      · obtain rfl : h = 0 := by omega
        refine (accBlk_put _ 0 _ hh).trans ?_
        rw [if_pos rfl]
        rfl
    isplitl [H7]; · iexists _; iexact H7
    isplitl [H8]; · iexists _; iexact H8
    isplitl [H9]; · iexists _; iexact H9
    iexists _; iexact H10
theorem body_odd (hc : ¬ k0_cond1 i = 1#1) (E : Set ℕ) (X2 X3 X4)
    (h2 : arg2.view.read (Elt F) X2 = q) (h3 : arg3.view.read (Elt F) X3 = kp) (h4 : arg4.view.read (Elt F) X4 = vp) :
    iprop(held c arg2 X2 ∗ held c arg3 X3 ∗ held c arg4 X4
      ∗ (∃ g, held c arg5 g) ∗ (∃ g, held c arg6 g) ∗ (∃ g, held c arg7 g) ∗ (∃ g, held c arg8 g) ∗ (∃ g, held c arg9 g) ∗ (∃ g, held c arg10 g) : sProp 𝕄) ⊢
      wp frame (wpE defs₀ 𝒱₀ (c : Thread nD τ) none) E (cc0_attention_forward (F := F) i arg2 harg2 arg3 harg3 arg4 harg4 arg5 harg5 arg6 harg6 arg7 harg7 arg8 harg8 arg9 harg9 arg10 harg10)
        (fun _ => iprop(held c arg2 X2 ∗ held c arg3 X3 ∗ held c arg4 X4
          ∗ (∃ g, held c arg5 g ∗ ⌜arg5.view.read (Elt F) g = outAtt q kp vp (i 1).val⌝)
          ∗ (∃ g, held c arg6 g ∗ ⌜arg6.view.read (Elt F) g = outSaved q kp vp (i 1).val⌝)
          ∗ (∃ g, held c arg7 g) ∗ (∃ g, held c arg8 g) ∗ (∃ g, held c arg9 g) ∗ (∃ g, held c arg10 g))) := by
  have hi : (i 1).val < 8 := (i 1).isLt
  iintro ⟨H2, H3, H4, ⟨%f5, H5⟩, ⟨%f6, H6⟩, ⟨%f7, H7⟩, ⟨%f8, H8⟩, ⟨%f9, H9⟩, ⟨%f10, H10⟩⟩
  have Q0 : ldQuery arg2 X2 0 inb_S2x512x128_S1x512x128_0_0_0 = queryBlk q 0 := (ldQuery_eq arg2 X2 _).trans (by rw [h2])
  have Q1 : ldQuery arg2 X2 1 inb_S2x512x128_S1x512x128_1_0_0 = queryBlk q 1 := (ldQuery_eq arg2 X2 _).trans (by rw [h2])
  have K0 : ldRow arg3 X3 ![0, 0, 0] inb_S2x4096x128_S1x512x128_0_0_0 = rowBlk kp 0 0 := (ldRow_eq (h := 0) (j := 0) arg3 X3 _ rfl (by omega) (by omega)).trans (by rw [h3])
  have K1 : ldRow arg3 X3 ![1, 0, 0] inb_S2x4096x128_S1x512x128_1_0_0 = rowBlk kp 1 0 := (ldRow_eq (h := 1) (j := 0) arg3 X3 _ rfl (by omega) (by omega)).trans (by rw [h3])
  rw [cc0_attention_forward_eq_skeleton]
  unfold cc0_attention_forward_skel
  simp only [k0_part15_eq_skeleton, k0_part16_eq_skeleton]
  unfold k0_part16_skel
  simp only [dif_neg hc]
  sl_exec
  have R0 : body_odd.sl.r q = k0_pay82 (queryBlk q 0) := rfl
  have R1 : body_odd.sl.r_1 q = k0_pay83 (queryBlk q 1) := rfl
  iapply (Scf.wp_for_bind _ _ _ _ _ _ _ _ _ (fun k _ => loopHeld c arg3 arg4 arg7 arg8 arg9 arg10 q kp vp (2 * k) X3 X4)
    (fun k acc => trip_of c i arg2 harg2 arg3 harg3 arg4 harg4 arg5 harg5 arg6 harg6 arg7 harg7 arg8 harg8 arg9 harg9 arg10 harg10 q kp vp _ _ _ _ _ R0 R1 k acc E X3 X4 h3 h4)) $$ [H3 H4 H7 H8 H9 H10]
  · unfold loopHeld
    isplitl [H3]; · iexact H3
    isplitl [H4]; · iexact H4
    isplitl [H7]
    · iexists _
      isplitl [H7]; · iexact H7
      ipureintro
      intro h hh
      delta body_odd.sl.H7_2
      rw [View.read_writes_cons_put _ _ _ _ _ rfl, View.read_writes_cons_put _ _ _ _ _ rfl]
      refine (scoreBlk_put _ 1 _ hh).trans ?_
      split_ifs with e1
      · subst e1
        unfold score
        rw [← Q1, ← K1]; rfl
      · obtain rfl : h = 0 := by omega
        refine (scoreBlk_put _ 0 _ hh).trans ?_
        rw [if_pos rfl]
        unfold score
        rw [← Q0, ← K0]; rfl
    isplitl [H8]; · iexists _; iexact H8
    isplitl [H9]
    · iexists _
      isplitl [H9]; · iexact H9
      ipureintro
      intro h hh
      delta body_odd.sl.H9_1
      rw [View.read_writes_cons_put _ _ _ _ _ rfl]
      refine (congrArg (topBlk · h) (whole_put _ _ _ (by intro a; fin_cases a <;> rfl))).trans ?_
      rfl
    · iexists _
      isplitl [H10]; · iexact H10
      ipureintro
      intro h hh
      delta body_odd.sl.H10_1 body_odd.sl.r_2
      rw [View.read_writes_cons_put _ _ _ _ _ rfl]
      refine (congrArg (accBlk · h) (whole_put _ _ _ (by intro a; fin_cases a <;> rfl))).trans ?_
      rfl
  · have et : Scf.trips (k0_t1_loop i).lb (k0_t1_loop i).ub (k0_t1_loop i).st = (i 1).val / 2 := trips1 i
    rw [et]
    iintro %acc1 HL
    iapply (Scf.wp_for_bind _ _ _ _ _ _ _ _ _ (fun k _ => loopHeld c arg3 arg4 arg7 arg8 arg9 arg10 q kp vp (2 * ((i 1).val / 2)) X3 X4)
      (fun k acc => absurd (Nat.lt_of_lt_of_eq k.isLt (trips2 i)) (Nat.not_lt_zero _))) $$ [HL]
    · iexact HL
    unfold loopHeld
    iintro %acc2 ⟨H3, H4, ⟨%g7, H7, %i7⟩, ⟨%g8, H8⟩, ⟨%g9, H9, %i9⟩, ⟨%g10, H10, %i10⟩⟩
    have ei := cond_odd i hc
    obtain ⟨n, en⟩ : ∃ n, n = 2 * ((i 1).val / 2) := ⟨_, rfl⟩
    have hn : n + 1 = (i 1).val := by omega
    rw [← en] at i7 i9 i10
    sl_exec
    -- what the tail finds
    have T0 : ldTop arg9 g9 0 inb_S2x8x512_S1x1x512_0_0_0 = top q kp 0 n := (ldTop_eq arg9 g9 _).trans (i9 0 (by omega))
    have T1 : ldTop arg9 g9 1 inb_S2x8x512_S1x1x512_1_0_0 = top q kp 1 n := (ldTop_eq arg9 g9 _).trans (i9 1 (by omega))
    have S0 : ldScore arg7 g7 0 inb_S2x512x512_S1x512x512_0_0_0 = score q kp 0 n := (ldScore_eq arg7 g7 _).trans (i7 0 (by omega))
    have S1 : ldScore arg7 g7 1 inb_S2x512x512_S1x512x512_1_0_0 = score q kp 1 n := (ldScore_eq arg7 g7 _).trans (i7 1 (by omega))
    have A0 : ldAcc arg10 g10 0 inb_S2x128x512_S1x128x512_0_0_0 = acc q kp vp 0 n := (ldAcc_eq arg10 g10 _).trans (i10 0 (by omega))
    have A1 : ldAcc arg10 g10 1 inb_S2x128x512_S1x128x512_1_0_0 = acc q kp vp 1 n := (ldAcc_eq arg10 g10 _).trans (i10 1 (by omega))
    have N0 : k0_pay2 (k0_pay82 (queryBlk q 0)) (ldRow arg3 X3 _ (k0_off11_inb i hc)) = score q kp 0 (n + 1) := by
      rw [ldRow_eq arg3 X3 _ (off11_eq i) (by omega) hi, h3, hn]; rfl
    have N1 : k0_pay2 (k0_pay82 (queryBlk q 1)) (ldRow arg3 X3 _ (k0_off12_inb i hc)) = score q kp 1 (n + 1) := by
      rw [ldRow_eq arg3 X3 _ (off12_eq i) (by omega) hi, h3, hn]; rfl
    have V0 : ldRow arg4 X4 _ (k0_off13_inb i hc) = rowBlk vp 0 n := by rw [ldRow_eq arg4 X4 _ (off13_eq i hc) (by omega) (by omega), h4, en]
    have V1 : ldRow arg4 X4 _ (k0_off14_inb i hc) = rowBlk vp 1 n := by rw [ldRow_eq arg4 X4 _ (off14_eq i hc) (by omega) (by omega), h4, en]
    have V0' : ldRow arg4 X4 _ (k0_off11_inb i hc) = rowBlk vp 0 (n + 1) := by rw [ldRow_eq arg4 X4 _ (off11_eq i) (by omega) hi, h4, hn]
    have V1' : ldRow arg4 X4 _ (k0_off12_inb i hc) = rowBlk vp 1 (n + 1) := by rw [ldRow_eq arg4 X4 _ (off12_eq i) (by omega) hi, h4, hn]
    -- what it reads back of its own: after the first of the two blocks
    have t0 : body_odd.sl.v237 arg7 arg9 g7 g9 = top q kp 0 (n + 1) := by
      have r : body_odd.sl.v237 arg7 arg9 g7 g9 = k0_pay10 (k0_pay6 (ldTop arg9 g9 0 inb_S2x8x512_S1x1x512_0_0_0) (ldScore arg7 g7 0 inb_S2x512x512_S1x512x512_0_0_0)) :=
        (View.readCov_skip _ _ _ _ _ rfl).trans (View.readCov_cons_toLoadRect _ _ _ _)
      rw [r, T0, S0]; rfl
    have s0 : body_odd.sl.v239 i arg3 arg8 q hc X3 = score q kp 0 (n + 1) :=
      ((View.readCov_skip _ _ _ _ _ rfl).trans (View.readCov_cons_toLoadRect _ _ _ _)).trans N0
    have a0 : body_odd.sl.v253 i arg4 arg7 arg9 arg10 hc X4 g7 g9 g10 = acc q kp vp 0 (n + 1) := by
      have r : body_odd.sl.v253 i arg4 arg7 arg9 arg10 hc X4 g7 g9 g10 = k0_pay9 (k0_pay7 (ldTop arg9 g9 0 inb_S2x8x512_S1x1x512_0_0_0) (ldScore arg7 g7 0 inb_S2x512x512_S1x512x512_0_0_0))
          (k0_pay8 (ldTop arg9 g9 0 inb_S2x8x512_S1x1x512_0_0_0) (ldScore arg7 g7 0 inb_S2x512x512_S1x512x512_0_0_0)) (ldAcc arg10 g10 0 inb_S2x128x512_S1x128x512_0_0_0)
          (ldRow arg4 X4 _ (k0_off13_inb i hc)) :=
        (View.readCov_skip _ _ _ _ _ rfl).trans (View.readCov_cons_toLoadRect _ _ _ _)
      rw [r, T0, S0, A0, V0]; rfl
    have t1 : body_odd.sl.v268 i arg3 arg7 arg8 arg9 q hc X3 g7 g9 = top q kp 1 (n + 1) := by
      have r : body_odd.sl.v268 i arg3 arg7 arg8 arg9 q hc X3 g7 g9 = k0_pay10 (k0_pay6 (ldTop arg9 g9 1 inb_S2x8x512_S1x1x512_1_0_0) (ldScore arg7 g7 1 inb_S2x512x512_S1x512x512_1_0_0)) :=
        (View.readCov_skip _ _ _ _ _ rfl).trans (View.readCov_cons_toLoadRect _ _ _ _)
      rw [r, T1, S1]; rfl
    have s1 : body_odd.sl.v270 i arg3 arg8 q hc X3 = score q kp 1 (n + 1) :=
      (View.readCov_cons_toLoadRect _ _ _ _).trans N1
    have a1 : body_odd.sl.v284 i arg3 arg4 arg7 arg8 arg9 arg10 q hc X3 X4 g7 g9 g10 = acc q kp vp 1 (n + 1) := by
      have r : body_odd.sl.v284 i arg3 arg4 arg7 arg8 arg9 arg10 q hc X3 X4 g7 g9 g10 = k0_pay9 (k0_pay7 (ldTop arg9 g9 1 inb_S2x8x512_S1x1x512_1_0_0) (ldScore arg7 g7 1 inb_S2x512x512_S1x512x512_1_0_0))
          (k0_pay8 (ldTop arg9 g9 1 inb_S2x8x512_S1x1x512_1_0_0) (ldScore arg7 g7 1 inb_S2x512x512_S1x512x512_1_0_0)) (ldAcc arg10 g10 1 inb_S2x128x512_S1x128x512_1_0_0)
          (ldRow arg4 X4 _ (k0_off14_inb i hc)) :=
        (View.readCov_skip _ _ _ _ _ rfl).trans (View.readCov_cons_toLoadRect _ _ _ _)
      rw [r, T1, S1, A1, V1]; rfl
    -- … and after the second
    have l0 : body_odd.sl.v67 i arg3 arg7 arg8 arg9 q hc X3 g7 g9 = lastTop q kp 0 (i 1).val := by
      have r : body_odd.sl.v67 i arg3 arg7 arg8 arg9 q hc X3 g7 g9 = k0_pay56 keyIx queryIx (body_odd.sl.v237 arg7 arg9 g7 g9) (body_odd.sl.v239 i arg3 arg8 q hc X3) :=
        (View.readCov_skip _ _ _ _ _ rfl).trans (View.readCov_cons_toLoadRect _ _ _ _)
      rw [r, t0, s0, hn]; rfl
    have b0 : body_odd.sl.v69 i arg3 arg4 arg7 arg8 arg9 arg10 q hc X3 X4 g7 g9 g10 = lastAcc q kp vp 0 (i 1).val := by
      have r : body_odd.sl.v69 i arg3 arg4 arg7 arg8 arg9 arg10 q hc X3 X4 g7 g9 g10 = k0_pay55 keyIx queryIx (body_odd.sl.v237 arg7 arg9 g7 g9) (body_odd.sl.v239 i arg3 arg8 q hc X3)
          (body_odd.sl.v253 i arg4 arg7 arg9 arg10 hc X4 g7 g9 g10) (ldRow arg4 X4 _ (k0_off11_inb i hc)) :=
        (View.readCov_skip _ _ _ _ _ rfl).trans (View.readCov_cons_toLoadRect _ _ _ _)
      rw [r, t0, s0, a0, V0', hn]; rfl
    have l1 : body_odd.sl.v112 i arg3 arg7 arg8 arg9 q hc X3 g7 g9 = lastTop q kp 1 (i 1).val := by
      have r : body_odd.sl.v112 i arg3 arg7 arg8 arg9 q hc X3 g7 g9 = k0_pay56 keyIx queryIx (body_odd.sl.v268 i arg3 arg7 arg8 arg9 q hc X3 g7 g9) (body_odd.sl.v270 i arg3 arg8 q hc X3) :=
        View.readCov_cons_toLoadRect _ _ _ _
      rw [r, t1, s1, hn]; rfl
    have b1 : body_odd.sl.v114 i arg3 arg4 arg7 arg8 arg9 arg10 q hc X3 X4 g7 g9 g10 = lastAcc q kp vp 1 (i 1).val := by
      have r : body_odd.sl.v114 i arg3 arg4 arg7 arg8 arg9 arg10 q hc X3 X4 g7 g9 g10 = k0_pay55 keyIx queryIx (body_odd.sl.v268 i arg3 arg7 arg8 arg9 q hc X3 g7 g9) (body_odd.sl.v270 i arg3 arg8 q hc X3)
          (body_odd.sl.v284 i arg3 arg4 arg7 arg8 arg9 arg10 q hc X3 X4 g7 g9 g10) (ldRow arg4 X4 _ (k0_off12_inb i hc)) :=
        View.readCov_cons_toLoadRect _ _ _ _
      rw [r, t1, s1, a1, V1', hn]; rfl
    have o1 : body_odd.sl.v121 i arg3 arg4 arg7 arg8 arg9 arg10 q hc X3 X4 g7 g9 g10 = k0_pay103 (body_odd.sl.v114 i arg3 arg4 arg7 arg8 arg9 arg10 q hc X3 X4 g7 g9 g10) := rfl
    have p1 : body_odd.sl.v156 i arg3 arg4 arg7 arg8 arg9 arg10 q hc X3 X4 g7 g9 g10 = k0_pay104 laneIx (k0_pay82 (queryBlk q 1)) (body_odd.sl.v112 i arg3 arg7 arg8 arg9 q hc X3 g7 g9) (body_odd.sl.v114 i arg3 arg4 arg7 arg8 arg9 arg10 q hc X3 X4 g7 g9 g10) := rfl
    sl_step
    isplitl [H2]; · iexact H2
    isplitl [H3]; · iexact H3
    isplitl [H4]; · iexact H4
    isplitl [H5]
    · iexists _
      isplitl [H5]; · iexact H5
      ipureintro
      rw [View.read_writes_cons_put _ _ _ _ _ rfl, o1, b0, b1]
      exact whole_put _ _ _ (by intro a; fin_cases a <;> rfl)
    isplitl [H6]
    · iexists _
      isplitl [H6]; · iexact H6
      ipureintro
      rw [View.read_writes_cons_put _ _ _ _ _ rfl, View.read_writes_cons_put _ _ _ _ _ rfl, p1, l0, b0, l1, b1]
      refine eq_ofHeads fun h hh => ?_
      refine (accBlk_put _ 1 _ hh).trans ?_
      split_ifs with e1
      · subst e1; rfl
      · obtain rfl : h = 0 := by omega
        refine (accBlk_put _ 0 _ hh).trans ?_
        rw [if_pos rfl]
        rfl
    isplitl [H7]; · iexists _; iexact H7
    isplitl [H8]; · iexists _; iexact H8
    isplitl [H9]; · iexists _; iexact H9
    iexists _; iexact H10

/-- One grid step: the two output blocks hold the normalised rows and the saved lanes, the operands are kept. -/
theorem body_run (E : Set ℕ) (X2 X3 X4)
    (h2 : arg2.view.read (Elt F) X2 = q) (h3 : arg3.view.read (Elt F) X3 = kp) (h4 : arg4.view.read (Elt F) X4 = vp) :
    iprop(held c arg2 X2 ∗ held c arg3 X3 ∗ held c arg4 X4
      ∗ (∃ g, held c arg5 g) ∗ (∃ g, held c arg6 g) ∗ (∃ g, held c arg7 g) ∗ (∃ g, held c arg8 g) ∗ (∃ g, held c arg9 g) ∗ (∃ g, held c arg10 g) : sProp 𝕄) ⊢
      wp frame (wpE defs₀ 𝒱₀ (c : Thread nD τ) none) E (cc0_attention_forward (F := F) i arg2 harg2 arg3 harg3 arg4 harg4 arg5 harg5 arg6 harg6 arg7 harg7 arg8 harg8 arg9 harg9 arg10 harg10)
        (fun _ => iprop(held c arg2 X2 ∗ held c arg3 X3 ∗ held c arg4 X4
          ∗ (∃ g, held c arg5 g ∗ ⌜arg5.view.read (Elt F) g = outAtt q kp vp (i 1).val⌝)
          ∗ (∃ g, held c arg6 g ∗ ⌜arg6.view.read (Elt F) g = outSaved q kp vp (i 1).val⌝)
          ∗ (∃ g, held c arg7 g) ∗ (∃ g, held c arg8 g) ∗ (∃ g, held c arg9 g) ∗ (∃ g, held c arg10 g))) := by
  by_cases hc : k0_cond1 i = 1#1
  · exact body_even c i arg2 harg2 arg3 harg3 arg4 harg4 arg5 harg5 arg6 harg6 arg7 harg7 arg8 harg8 arg9 harg9 arg10 harg10 q kp vp hc E X2 X3 X4 h2 h3 h4
  · exact body_odd c i arg2 harg2 arg3 harg3 arg4 harg4 arg5 harg5 arg6 harg6 arg7 harg7 arg8 harg8 arg9 harg9 arg10 harg10 q kp vp hc E X2 X3 X4 h2 h3 h4

end body

end Cert.Proof.Forward
-- ==== Proof.Forward.Launch.lean ====
module

public import proofs.«01_k».proof.Defs
public import proofs.«01_k».proof.Proof.Forward.Body
public import proofs.«01_k».proof.Proof.Gen.Kernel4Ideal.Frame.Runs
public import Idealize.ShloMosaic.Lib.Claim

@[expose] public section

set_option maxRecDepth 16384

noncomputable section

/-!
# The run over the pairs of heads and the query blocks

Every grid point runs the kernel on one block of queries of its pair of heads and leaves the two results of that block;
nothing is carried from one point to the next.
-/

namespace Cert.Proof.Forward

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the region holds of core `c`: each input block stays, each result block holds the kernel's result of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAtt (iblk m c 0 t) (iblk m c 1 t) (iblk m c 2 t) (grid0.coords t 1).val
    | ⟨4, _⟩ => outSaved (iblk m c 0 t) (iblk m c 1 t) (iblk m c 2 t) (grid0.coords t 1).val
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAtt (iblk m c 0 t) (iblk m c 1 t) (iblk m c 2 t) (grid0.coords t 1).val := by dsimp only [dats]
theorem after0_4 (c : Dev nD) (t : Fin cfg0.N) : (dats m 0 c).after 4 t = outSaved (iblk m c 0 t) (iblk m c 1 t) (iblk m c 2 t) (grid0.coords t 1).val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The buffers the kernel works on at point `t`. -/
abbrev st0 (t : Fin cfg0.N) : Memref sig .tc .vmem S2x512x128 .bf16 := win0_0.stage (cfg0.slots t 0)
abbrev st1 (t : Fin cfg0.N) : Memref sig .tc .vmem S2x4096x128 .bf16 := win0_1.stage (cfg0.slots t 1)
abbrev st2 (t : Fin cfg0.N) : Memref sig .tc .vmem S2x4096x128 .bf16 := win0_2.stage (cfg0.slots t 2)
abbrev st3 (t : Fin cfg0.N) : Memref sig .tc .vmem S512x128 .f32 := win0_3.stage (cfg0.slots t 3)
abbrev st4 (t : Fin cfg0.N) : Memref sig .tc .vmem S2x128x512 .bf16 := win0_4.stage (cfg0.slots t 4)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

/-- The scratch of the kernel and the random state, whatever they hold. -/
theorem scratch_eq (c : Dev nD) :
    (Pipeline.ΦA spec0 c : sProp 𝕄)
      = iprop(iprop((∃ g, held c (Memref.whole cc0_scratch0) g) ∗ (∃ g, held c (Memref.whole cc0_scratch1) g) ∗ (∃ g, held c (Memref.whole cc0_scratch2) g) ∗ (∃ g, held c (Memref.whole cc0_scratch3) g)) ∗ (∃ r, prngReg c r)) := by
  unfold Pipeline.ΦA; rw [scopedRest0_eq]
  simp only [held, Memref.view_whole, View.set_whole]
  try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3, after0_4,
    show (dats m 0 c).Φ t.succ = Pipeline.ΦA spec0 c from rfl, show (dats m 0 c).Φ t.castSucc = Pipeline.ΦA spec0 c from rfl, scratch_eq]
  unfold owns
  iintro ⟨⟨⟨HS0, HS1, HS2, HS3⟩, Hg⟩, Ho, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩⟩
  iapply (wp_wand_r frame (wpE (defs₀ (F := F)) Variants.none c none) Set.univ)
  isplitl [H0 H1 H2 H3 H4 HS0 HS1 HS2 HS3]
  · iapply (body_run c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) Set.univ f0 f1 f2 e0 e1 e2)
    isplitl [H0]; · iexact H0
    isplitl [H1]; · iexact H1
    isplitl [H2]; · iexact H2
    isplitl [H3]; · iexists f3; iexact H3
    isplitl [H4]; · iexists f4; iexact H4
    isplitl [HS0]; · iexact HS0
    isplitl [HS1]; · iexact HS1
    isplitl [HS2]; · iexact HS2
    iexact HS3
  iintro %a ⟨H0, H1, H2, ⟨%g3, H3, %i3⟩, ⟨%g4, H4, %i4⟩, HS0, HS1, HS2, HS3⟩
  isplitl [Hg HS0 HS1 HS2 HS3]
  · isplitr [Hg]
    · isplitl [HS0]; · iexact HS0
      isplitl [HS1]; · iexact HS1
      isplitl [HS2]; · iexact HS2
      iexact HS3
    · iexact Hg
  isplitl [Ho]; · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists g3; isplitr
    · ipureintro; exact i3
    · iexact H3
  iexists g4; isplitr
  · ipureintro; exact i4
  · iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: every result array holds the blocks the kernel left, and all counters are zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl) (hout := fun c => .rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Forward
-- ==== Proof.Forward.Words.lean ====
module

public import proofs.«01_k».proof.Defs
public import proofs.«01_k».proof.Proof.Attention.Words
public import proofs.«01_k».proof.Proof.Forward.Launch
public import proofs.«01_k».proof.Proof.Gen.Kernel4.Launch
public import Idealize.ShloMosaic.Lib.Tactic

@[expose] public section

set_option maxRecDepth 65536

noncomputable section

namespace Cert.Proof.Forward

open Idealize.ShloMosaic Idealize.ShloMosaic.TcCoe Idealize.ShloMosaic.Tactic
open Idealize.SL Idealize.SL.Sem
open Cert.Proof.KernelIdeal (wordNamed)

theorem defs_word : Cert.Kernel4.defs (F := Bits) = Cert.Kernel4Ideal.defs (F := Bits) := by
  sl_kernel_rfl

theorem main_word : Cert.Kernel4.main (F := Bits) = Cert.Kernel4Ideal.main (F := Bits) := by
  sl_kernel_rfl

/-- The printed program is the named one read over the words. -/
theorem frame_word (m : (ℓ : Loc Cert.Kernel4.nD Cert.Kernel4.τ Cert.Kernel4.sig) → Buf (Elt Bits) ℓ) (g : Dev Cert.Kernel4.nD → PrngReg) :
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0) := by
  rw [defs_word, main_word]
  exact frame (F := Bits) m g

end Cert.Proof.Forward
-- ==== Proof.Forward.Finite.lean ====
module

public import proofs.«01_k».proof.Defs
public import proofs.«01_k».proof.Proof.Gen.Pre_finite4
public import proofs.«01_k».proof.Proof.Attention.Finite

@[expose] public section

noncomputable section

/-! # The precondition of the attention's claim -/

namespace Cert.Proof.Forward

open Idealize.ShloMosaic Cert.Proof.Attention Cert.Pre_finite4 Cert.Pre_finite4.Gen

theorem numbers_of_finite4 {x0 x1 x2 : Wide} {x3 : Gates} (h : Cert.Pre_finite4.fn (F := Ideal) x0 x1 x2 x3 = fun _ => 1#1) :
    Numbers x0 x1 x2 x3 x2 := by
  have h0 := congrFun h (fun a => a.elim0)
  dsimp only [Cert.Pre_finite4.fn, Cert.Pre_finite4.fn_part1] at h0
  obtain ⟨h0, g3⟩ := and_one h0
  obtain ⟨h0, g2⟩ := and_one h0
  obtain ⟨g0, g1⟩ := and_one h0
  have hv : ∀ i, IsReal (x2 i) := fun i => isReal_of_abs_lt (Host.reduce_andi_all _ _ _ _ _ g2 i)
  exact ⟨fun i => isReal_of_abs_lt (Host.reduce_andi_all _ _ _ _ _ g0 i), fun i => isReal_of_abs_lt (Host.reduce_andi_all _ _ _ _ _ g1 i), hv,
    fun i => isReal_of_abs_lt (Host.reduce_andi_all _ _ _ _ _ g3 i), hv⟩

end Cert.Proof.Forward
-- ==== Proof.Forward.Host.lean ====
module

public import proofs.«01_k».proof.Proof.Forward.Frames
public import proofs.«01_k».proof.Proof.Attention.Packed
public import Idealize.ShloMosaic.Lib.StableHlo.RunRead

/-! The arrays the attention's launch reads, as numbers. -/

@[expose] public section

noncomputable section

namespace Cert.Proof.Forward.Host

open Idealize.ShloMosaic Cert.Kernel4Ideal Cert.Kernel4Ideal.Gen Cert.Proof.Attention
open Cert.Proof.Attention.Host (headRows cumRows narrow remainder lane ones packedK packedV packedK_at packedV_at headRows_at head_at)

variable (m : (ℓ : Loc nD τ sig) → Buf (Elt Ideal) ℓ) (c : Dev nD)

abbrev at0 : Wide := m ((c.tc : Thread nD τ).loc main_arg0)
abbrev at1 : Wide := m ((c.tc : Thread nD τ).loc main_arg1)
abbrev at2 : Wide := m ((c.tc : Thread nD τ).loc main_arg2)
abbrev at3 : Gates := m ((c.tc : Thread nD τ).loc main_arg3)

/-- The scaled queries, the gates in three parts and ones. -/
def packedQ (x0 : Wide) (g : Gates) : FVec Ideal S8x4096x128 .bf16 :=
  concatenate S8x4096x128 2
    [⟨S8x4096x64, truncf .bf16 (mulf (headRows x0) (broadcastInDim S8x4096x64 ![] bcast_S_S8x4096x64 (constant S_ .f32 0x3E000000#32))) bitsLt_bf16_f32⟩,
     ⟨S8x4096x1, lane (narrow (cumRows g))⟩, ⟨S8x4096x1, lane (narrow (remainder (cumRows g)))⟩,
     ⟨S8x4096x1, lane (narrow (remainder (remainder (cumRows g))))⟩, ⟨S8x4096x3, ones⟩,
     ⟨S8x4096x58, broadcastInDim S8x4096x58 ![] bcast_S_S8x4096x58 (constant (F := Ideal) S_ .bf16 0x0000#16)⟩]
    concatenates_S8x4096x64_S8x4096x1_S8x4096x1_S8x4096x1_S8x4096x3_S8x4096x58_S8x4096x128_d2

theorem packedQ_at {x : Wide} (hx : ∀ i, IsReal (x i)) {g : Gates} {C : Fin 8 → Fin 4096 → ℝ} (hg : ∀ i h, g (ix2 i h) = (C h i : EReal))
    (h : Fin 8) (i : Fin 4096) (e : Fin 128) : packedQ x g (ix3 h i e) = (rowQ (heads x) C (fun _ _ => 0) h i e : EReal) := by
  pointwise [packedQ, ones, lane, narrow, remainder, cumRows, headRows]
  simp only [hg]
  unfold rowQ
  have hc : (C h i : EReal) - (C h i : EReal) = ((0 : ℝ) : EReal) := by rw [← EReal.coe_sub, sub_self]
  have hz' : ((0 : ℝ) : EReal) - ((0 : ℝ) : EReal) = ((0 : ℝ) : EReal) := by rw [← EReal.coe_sub, sub_self]
  split_ifs <;> first
    | omega | rfl | (simp only [neg_zero]; rfl) | simp only [hc, hz']
    | (rw [eighth, EReal.coe_mul]; exact congrArg (· * _) (head_at hx _ _ ⟨_, _⟩ _))

theorem gates_eq : V (F := Ideal) m c main_v1 = ReferenceIdeal.Read.val_main_v1 (F := Ideal) (at3 m c) := by
  after_reads_simp
  rfl

/-- The host operations before the packing. -/
abbrev before (U₀ : Valuation τ sig (Elt Ideal)) : Valuation τ sig (Elt Ideal) :=
  StableHlo.after (List.flatten [hostOps0, hostOps0_1]) U₀

theorem V_split (b : Ref sig .tc) :
    V (F := Ideal) m c b = StableHlo.after (hostOps0_2 : List (HloOp τ sig (Elt Ideal))) (before fun b => m (c, b)) (Proc.devRef .tc b) := by
  have e : List.flatten [hostOps0, hostOps0_1, hostOps0_2] = List.flatten [hostOps0, hostOps0_1] ++ (hostOps0_2 : List (HloOp τ sig (Elt Ideal))) := by
    simp only [List.flatten_cons, List.flatten_nil, List.append_nil, List.append_assoc]
  unfold V
  rw [e, StableHlo.after_append]

theorem packedQ_read : V (F := Ideal) m c main_v20 = packedQ (V (F := Ideal) m c main_arg0) (V (F := Ideal) m c main_v1) := by
  rw [V_split, V_split, V_split]
  generalize before _ = U
  after_reads_simp [Matrix.cons_val, StableHlo.readPieces]
  rfl

theorem packedK_read : V (F := Ideal) m c main_v37 = packedK (V (F := Ideal) m c main_arg1) (V (F := Ideal) m c main_v1) := by
  rw [V_split, V_split, V_split]
  generalize before _ = U
  after_reads_simp [Matrix.cons_val, StableHlo.readPieces]
  rfl

theorem packedV_read : V (F := Ideal) m c main_v43 = packedV (headRows (V (F := Ideal) m c main_arg2)) := by
  rw [V_split, V_split]
  generalize before _ = U
  after_reads_simp [Matrix.cons_val, StableHlo.readPieces]
  rfl

variable (H : Numbers (at0 m c) (at1 m c) (at2 m c) (at3 m c) (at2 m c))

include H

theorem gates_entry (i : Fin 4096) (h : Fin 8) : V (F := Ideal) m c main_v1 (ix2 i h) = (cums (at3 m c) h i : EReal) := by
  rw [gates_eq]; exact Attention.Host.gates_at H i h

theorem packedQ_entry (h : Fin 8) (i : Fin 4096) (e : Fin 128) : V (F := Ideal) m c main_v20 (ix3 h i e)
    = (rowQ (heads (at0 m c)) (cums (at3 m c)) (fun _ _ => 0) h i e : EReal) := by
  rw [packedQ_read, V_main_arg0]
  exact packedQ_at H.q (gates_entry m c H) h i e

theorem packedK_entry (h : Fin 8) (j : Fin 4096) (e : Fin 128) : V (F := Ideal) m c main_v37 (ix3 h j e)
    = (rowK (heads (at1 m c)) (cums (at3 m c)) h j e : EReal) := by
  rw [packedK_read, V_main_arg1]
  exact packedK_at H.k (gates_entry m c H) h j e

theorem packedV_entry (h : Fin 8) (j : Fin 4096) (e : Fin 128) : V (F := Ideal) m c main_v43 (ix3 h j e)
    = (rowV (heads (at2 m c)) h j e : EReal) := by
  rw [packedV_read, V_main_arg2]
  exact packedV_at (headRows_at H.v) h j e

end Cert.Proof.Forward.Host
-- ==== Proof.Forward.Values.lean ====
module

public import proofs.«01_k».proof.Proof.Forward.Blocks
public import proofs.«01_k».proof.Proof.Attention.Values

@[expose] public section

set_option maxRecDepth 16384

noncomputable section

/-!
# The blocks of the attention as numbers

A running maximum begins at `⊥` and is a real number from the first key block on, so that the running weighted sum is at
every step the sum over the keys seen so far, each weighted with the exponential of its score less the running maximum.
Which maximum that is plays no part in the results.
-/

namespace Cert.Proof.Forward

open Idealize.ShloMosaic Cert.Kernel4Ideal Cert.Kernel4Ideal.Gen Cert.Proof.Attention
open Cert.Proof.KernelIdeal (toInt_small pos pos_val part part_succ part_eq_all)

/-! ## One block of 512 keys against 512 queries -/

theorem negInf : Ideal.ofBits .f32 0xFF800000#32 = ⊥ := by decide +kernel

/-- The maximum over the keys of a block. -/
def blockMax (s : Fin 512 → EReal) : EReal := Finset.univ.fold max ⊥ s

section Block

variable {t : Vec Ideal S1x1x512 .f32} {s : Vec Ideal S1x512x512 .f32} {a : Vec Ideal S1x128x512 .f32} {v : Vec Ideal S1x512x128 .bf16}

theorem pay5_at (r y : Fin 512) : k0_pay5 (F := Ideal) s (ix2 r y) = s (ix3 0 r y) := by
  pointwise [k0_pay5]

theorem pay53_at (r y : Fin 512) : k0_pay53 (F := Ideal) keyIx queryIx s (ix2 r y) = if r ≤ y then s (ix3 0 r y) else ⊥ := by
  unfold keyIx queryIx
  pointwise [k0_pay53]
  have hr := toInt_small r.isLt
  have hc := toInt_small y.isLt
  by_cases hrc : r ≤ y
  · have h1 : IntOp.cmpi CmpIPredicate.sle (BitVec.ofNat 32 r.val) (BitVec.ofNat 32 y.val) = 1#1 := by
      have : (BitVec.ofNat 32 r.val).sle (BitVec.ofNat 32 y.val) = true := by
        rw [BitVec.sle, hr, hc]; simpa using hrc
      simp [IntOp.cmpi, this]
    rw [h1, if_pos hrc]; rfl
  · have h1 : IntOp.cmpi CmpIPredicate.sle (BitVec.ofNat 32 r.val) (BitVec.ofNat 32 y.val) = 0#1 := by
      have : (BitVec.ofNat 32 r.val).sle (BitVec.ofNat 32 y.val) = false := by
        rw [BitVec.sle, hr, hc]; simpa using hrc
      simp [IntOp.cmpi, this]
    rw [h1, if_neg hrc]; rfl

theorem columnMax_at (x : FVec Ideal S512x512 .f32) (y : Fin 512) :
    multiReduction (F := Ideal) .maximumf [0] S512 x 0xFF800000#32 reduces_S512x512_S512 (.inl rfl) rfl (ix1 y)
      = blockMax fun r => x (ix2 r y) := by
  refine (Ideal.multiReduction_maximumf_single x _ reduces_S512x512_S512 (.inl rfl) rfl (ix1 y)).trans ?_
  refine (congrArg (fun b => Finset.univ.fold max b fun r => x (reduces_S512x512_S512.lift (ix1 y) r)) negInf).trans ?_
  refine congrArg (Finset.univ.fold max ⊥) (funext fun r => congrArg x (funext fun a => Fin.ext ?_))
  match a with
  | ⟨0, _⟩ => rfl
  | ⟨1, _⟩ => rfl

theorem pay6_at (y : Fin 512) : k0_pay6 (F := Ideal) t s (ix2 0 y) = max (t (ix3 0 0 y)) (blockMax fun r => s (ix3 0 r y)) := by
  have h := columnMax_at (k0_pay5 (F := Ideal) s) y
  unfold k0_pay6
  generalize hw : multiReduction (F := Ideal) .maximumf [0] S512 (k0_pay5 s) 0xFF800000#32 reduces_S512x512_S512 (.inl rfl) rfl = w at h ⊢
  pointwise [k0_pay4]
  rw [h]
  exact congrArg (max _) (congrArg blockMax (funext fun r => pay5_at r y))

theorem pay54_at (y : Fin 512) : k0_pay54 (F := Ideal) keyIx queryIx t s (ix2 0 y)
    = max (t (ix3 0 0 y)) (blockMax fun r => if r ≤ y then s (ix3 0 r y) else ⊥) := by
  have h := columnMax_at (k0_pay53 (F := Ideal) keyIx queryIx s) y
  unfold k0_pay54
  generalize hw : multiReduction (F := Ideal) .maximumf [0] S512 (k0_pay53 keyIx queryIx s) 0xFF800000#32 reduces_S512x512_S512 (.inl rfl) rfl = w at h ⊢
  pointwise [k0_pay52]
  rw [h]
  exact congrArg (max _) (congrArg blockMax (funext fun r => pay53_at r y))

theorem pay10_at (x : FVec Ideal S1x512 .f32) (y : Fin 512) : k0_pay10 (F := Ideal) x (ix3 0 0 y) = x (ix2 0 y) := by
  pointwise [k0_pay10]

theorem pay56_at (y : Fin 512) : k0_pay56 (F := Ideal) keyIx queryIx t s (ix3 0 0 y) = k0_pay54 (F := Ideal) keyIx queryIx t s (ix2 0 y) := by
  generalize hw : k0_pay54 (F := Ideal) keyIx queryIx t s = w
  pointwise [k0_pay56, hw]

theorem step_at (e : Fin 128) (y : Fin 512) : k0_pay9 (F := Ideal) (k0_pay7 t s) (k0_pay8 t s) a v (ix3 0 e y)
    = Ideal.exp (t (ix3 0 0 y) - k0_pay6 (F := Ideal) t s (ix2 0 y)) * a (ix3 0 e y)
      + ∑ r : Fin 512, v (ix3 0 r e) * Ideal.exp (s (ix3 0 r y) - k0_pay6 (F := Ideal) t s (ix2 0 y)) := by
  generalize hw : k0_pay6 (F := Ideal) t s = w
  pointwise [k0_pay9, k0_pay7, k0_pay8, hw, k0_pay4, k0_pay5]

theorem maskedStep_at (e : Fin 128) (y : Fin 512) : k0_pay55 (F := Ideal) keyIx queryIx t s a v (ix3 0 e y)
    = Ideal.exp (t (ix3 0 0 y) - k0_pay54 (F := Ideal) keyIx queryIx t s (ix2 0 y)) * a (ix3 0 e y)
      + ∑ r : Fin 512, v (ix3 0 r e) * Ideal.exp ((if r ≤ y then s (ix3 0 r y) else ⊥) - k0_pay54 (F := Ideal) keyIx queryIx t s (ix2 0 y)) := by
  have h := fun r => pay53_at (s := s) r y
  generalize hw : k0_pay54 (F := Ideal) keyIx queryIx t s = w
  generalize hu : k0_pay53 (F := Ideal) keyIx queryIx s = u at h
  pointwise [k0_pay55, hw, hu, k0_pay52]
  simp only [← h]

end Block

end Cert.Proof.Forward
-- ==== Proof.Forward.Running.lean ====
module

public import proofs.«01_k».proof.Proof.Forward.Values

@[expose] public section

set_option maxRecDepth 16384

noncomputable section

/-! # The running maximum and the running sums of a column -/

namespace Cert.Proof.Forward

open Idealize.ShloMosaic Cert.Kernel4Ideal Cert.Kernel4Ideal.Gen Cert.Proof.Attention
open Cert.Proof.KernelIdeal (toInt_small pos pos_val part part_succ part_eq_all)

/-! ## One query against one block of keys -/

/-- The exponential of a score less a maximum, of the keys `sel` only. -/
def wt {ι : Type*} (sel : ι → Prop) [DecidablePred sel] (S : ι → ℝ) (M : ℝ) (r : ι) : ℝ := if sel r then Real.exp (S r - M) else 0

theorem wt_move {ι : Type*} (sel : ι → Prop) [DecidablePred sel] (S : ι → ℝ) (M M' : ℝ) (r : ι) :
    wt sel S M' r = Real.exp (M - M') * wt sel S M r := by
  unfold wt
  split_ifs
  · rw [← Real.exp_add]; congr 1; ring
  · rw [mul_zero]

/-- A running maximum and running sums that stand for the sums `Z`, which depend on the maximum. -/
def Stands (m : EReal) (a : Fin 128 → EReal) (Z : ℝ → Fin 128 → ℝ) : Prop :=
  (m = ⊥ ∧ (∀ e, a e = 0) ∧ ∀ M e, Z M e = 0) ∨ ∃ M : ℝ, m = M ∧ ∀ e, a e = Z M e

theorem block_step {m : EReal} {a : Fin 128 → EReal} {Z : ℝ → Fin 128 → ℝ} (hst : Stands m a Z)
    (hZ : ∀ M M' e, Z M' e = Real.exp (M - M') * Z M e)
    (sel : Fin 512 → Prop) [DecidablePred sel] (S : Fin 512 → ℝ) {s : Fin 512 → EReal} (hs : ∀ r, s r = if sel r then (S r : EReal) else ⊥)
    {r₀ : Fin 512} (h₀ : sel r₀) {v : Fin 512 → Fin 128 → EReal} {V : Fin 512 → Fin 128 → ℝ} (hv : ∀ r e, v r e = V r e) :
    ∃ M : ℝ, max m (blockMax s) = M ∧ ∀ e,
      Ideal.exp (m - max m (blockMax s)) * a e + ∑ r, v r e * Ideal.exp (s r - max m (blockMax s))
        = ((Z M e + ∑ r, V r e * wt sel S M r : ℝ) : EReal) := by
  have hb : IsReal (blockMax s) := fold_max_isReal Finset.univ s
    (fun r _ => by rw [hs]; split_ifs; exacts [EReal.coe_ne_top _, bot_ne_top]) (Finset.mem_univ r₀)
    (by rw [hs, if_pos h₀]; exact EReal.coe_ne_bot _)
  have hsum : ∀ (M : ℝ) e, ∑ r, v r e * Ideal.exp (s r - (M : EReal)) = ((∑ r, V r e * wt sel S M r : ℝ) : EReal) := by
    intro M e
    refine dot_eq_coe (fun r => hv r e) fun r => ?_
    rw [hs]
    unfold wt
    split_ifs
    · rw [← EReal.coe_sub, Ideal.exp_coe]
    · rw [EReal.bot_sub]; exact Ideal.exp_bot
  obtain ⟨hm, ha, hz⟩ | ⟨M₀, hm, ha⟩ := hst
  · refine ⟨(blockMax s).toReal, ?_, fun e => ?_⟩
    · rw [hm, max_eq_right bot_le]; exact hb
    · rw [hm, max_eq_right bot_le, ha, mul_zero, zero_add, hz, zero_add]
      rw [hb]
      simpa using hsum (blockMax s).toReal e
  · have hM : max m (blockMax s) = ((max m (blockMax s)).toReal : EReal) := IsReal.max (IsReal.of_eq hm) hb
    refine ⟨_, hM, fun e => ?_⟩
    generalize (max m (blockMax s)).toReal = M at hM ⊢
    rw [hM, hsum, ha, hm, ← EReal.coe_sub, Ideal.exp_coe, ← EReal.coe_mul, ← EReal.coe_add, hZ M₀ M]

/-! ## A head -/

section Head

variable {q : Vec Ideal S2x512x128 .bf16} {kp vp : Vec Ideal S2x4096x128 .bf16} {h : Fin 2}
variable {kr vr : Fin 4096 → Fin 128 → ℝ} {qr : Fin 512 → Fin 128 → ℝ}

/-- The score of key `j` and the query of column `y`. -/
def scoreOf (kr : Fin 4096 → Fin 128 → ℝ) (qr : Fin 512 → Fin 128 → ℝ) (y : Fin 512) (j : Fin 4096) : ℝ := ∑ e, kr j e * qr y e

/-- The weighted values of the keys of the first `n` blocks up to the query's position `i`. -/
def sums (kr vr : Fin 4096 → Fin 128 → ℝ) (qr : Fin 512 → Fin 128 → ℝ) (i : Fin 4096) (y : Fin 512) (n : ℕ) (M : ℝ) (e : Fin 128) : ℝ :=
  part (fun j => vr j e * wt (· ≤ i) (scoreOf kr qr y) M j) n

theorem sums_move (i : Fin 4096) (y : Fin 512) (n : ℕ) (M M' : ℝ) (e : Fin 128) :
    sums kr vr qr i y n M' e = Real.exp (M - M') * sums kr vr qr i y n M e := by
  unfold sums part
  rw [Finset.mul_sum]
  refine Finset.sum_congr rfl fun b _ => ?_
  rw [Finset.mul_sum]
  refine Finset.sum_congr rfl fun c _ => ?_
  beta_reduce
  rw [wt_move _ _ M M']
  ring

theorem rowBlk_at {α : Type} (x : S2x4096x128.Idx → α) (h : Fin 2) (j : ℕ) (r : Fin 512) (e : Fin 128) :
    rowBlk x h.val j (ix3 0 r e) = x (ix3 h (pos j r) e) := by
  refine congrArg x (funext fun a => Fin.ext ?_)
  match a with
  | ⟨0, _⟩ => exact Nat.mod_eq_of_lt h.isLt
  | ⟨1, _⟩ => rfl
  | ⟨2, _⟩ => show (0 + e.val) % 128 = e.val; rw [Nat.zero_add]; exact Nat.mod_eq_of_lt e.isLt

theorem queryBlk_at {α : Type} (x : S2x512x128.Idx → α) (h : Fin 2) (r : Fin 512) (e : Fin 128) :
    queryBlk x h.val (ix3 0 r e) = x (ix3 h r e) := by
  refine congrArg x (funext fun a => Fin.ext ?_)
  match a with
  | ⟨0, _⟩ => exact Nat.mod_eq_of_lt h.isLt
  | ⟨1, _⟩ => show (0 + r.val) % 512 = r.val; rw [Nat.zero_add]; exact Nat.mod_eq_of_lt r.isLt
  | ⟨2, _⟩ => show (0 + e.val) % 128 = e.val; rw [Nat.zero_add]; exact Nat.mod_eq_of_lt e.isLt

theorem pay2_at {a b : Vec Ideal S1x512x128 .bf16} {A B : Fin 512 → Fin 128 → ℝ} (ha : ∀ r e, a (ix3 0 r e) = ↑(A r e))
    (hb : ∀ r e, b (ix3 0 r e) = ↑(B r e)) (r y : Fin 512) :
    k0_pay2 (F := Ideal) (k0_pay82 b) a (ix3 0 r y) = ↑(∑ e, A r e * B y e) := by
  pointwise [k0_pay2, k0_pay82]
  exact dot_eq_coe (fun e => ha r e) fun e => hb y e

theorem score_at (hq : ∀ y e, q (ix3 h y e) = ↑(qr y e)) (hk : ∀ j e, kp (ix3 h j e) = ↑(kr j e)) (n : ℕ) (r y : Fin 512) :
    score q kp h.val n (ix3 0 r y) = ↑(scoreOf kr qr y (pos n r)) :=
  pay2_at (fun r e => (rowBlk_at kp h n r e).trans (hk _ _)) (fun y e => (queryBlk_at q h y e).trans (hq _ _)) r y

theorem stands (hq : ∀ y e, q (ix3 h y e) = ↑(qr y e)) (hk : ∀ j e, kp (ix3 h j e) = ↑(kr j e)) (hv : ∀ j e, vp (ix3 h j e) = ↑(vr j e))
    {I : ℕ} (hI : I < 8) (y : Fin 512) (n : ℕ) (hn : n ≤ I) :
    Stands (top q kp h.val n (ix3 0 0 y)) (fun e => acc q kp vp h.val n (ix3 0 e y)) (sums kr vr qr (pos I y) y n) := by
  induction n with
  | zero =>
    refine .inl ⟨rfl, fun e => ?_, fun M e => by simp [sums, part]⟩
    exact Ideal.ofBits_zero .f32
  | succ n ih =>
    have ih := ih (by omega)
    have hsel : ∀ r, pos n r ≤ pos I y := fun r => by
      rw [Fin.le_def, pos_val (by omega), pos_val hI]; have := r.isLt; omega
    obtain ⟨M, h1, h2⟩ := block_step ih (fun M M' e => sums_move (pos I y) y n M M' e) (fun r => pos n r ≤ pos I y)
      (fun r => scoreOf kr qr y (pos n r)) (s := fun r => score q kp h.val n (ix3 0 r y))
      (fun r => by rw [if_pos (hsel r)]; exact score_at hq hk n r y) (hsel 0)
      (v := fun r e => rowBlk vp h.val n (ix3 0 r e)) (fun r e => (rowBlk_at vp h n r e).trans (hv _ _))
    refine .inr ⟨M, ?_, fun e => ?_⟩
    · exact (pay10_at _ y).trans ((pay6_at y).trans h1)
    · refine (step_at e y).trans ?_
      rw [pay6_at y]
      exact (h2 e).trans (congrArg _ (part_succ _ n).symm)

/-- With the block of the queries' own keys, the sums are over all the keys that are not in the future. -/
theorem last_at (hq : ∀ y e, q (ix3 h y e) = ↑(qr y e)) (hk : ∀ j e, kp (ix3 h j e) = ↑(kr j e)) (hv : ∀ j e, vp (ix3 h j e) = ↑(vr j e))
    {I : ℕ} (hI : I < 8) (y : Fin 512) :
    ∃ M : ℝ, lastTop q kp h.val I (ix3 0 0 y) = M ∧ ∀ e, lastAcc q kp vp h.val I (ix3 0 e y)
      = ((∑ j, vr j e * wt (· ≤ pos I y) (scoreOf kr qr y) M j : ℝ) : EReal) := by
  have hle : ∀ r, pos I r ≤ pos I y ↔ r ≤ y := fun r => by
    rw [Fin.le_def, Fin.le_def, pos_val hI, pos_val hI]; omega
  obtain ⟨M, h1, h2⟩ := block_step (stands hq hk hv hI y I le_rfl) (fun M M' e => sums_move (pos I y) y I M M' e)
    (fun r => pos I r ≤ pos I y) (fun r => scoreOf kr qr y (pos I r))
    (s := fun r => if r ≤ y then score q kp h.val I (ix3 0 r y) else ⊥)
    (fun r => if_congr (hle r).symm (score_at hq hk I r y) rfl) ((hle y).2 le_rfl)
    (v := fun r e => rowBlk vp h.val I (ix3 0 r e)) (fun r e => (rowBlk_at vp h I r e).trans (hv _ _))
  refine ⟨M, ?_, fun e => ?_⟩
  · exact (pay56_at y).trans ((pay54_at y).trans h1)
  · refine (maskedStep_at e y).trans ?_
    rw [pay54_at y]
    refine (h2 e).trans (congrArg _ ?_)
    refine (part_succ _ I).symm.trans (part_eq_all _ (I + 1) (by omega) fun j hj => ?_)
    have : ¬ j ≤ pos I y := by
      rw [Fin.le_def, pos_val hI]; have := y.isLt; omega
    unfold wt
    rw [if_neg this, mul_zero]

end Head

end Cert.Proof.Forward
-- ==== Proof.Forward.Outputs.lean ====
module

public import proofs.«01_k».proof.Proof.Forward.Running

@[expose] public section

set_option maxRecDepth 16384

noncomputable section

/-! # The blocks the attention leaves, as numbers -/

namespace Cert.Proof.Forward

open Idealize.ShloMosaic Cert.Kernel4Ideal Cert.Kernel4Ideal.Gen Cert.Proof.Attention
open Cert.Proof.KernelIdeal (toInt_small pos pos_val)

/-! ## What does not depend on the maximum -/

section Maximum

variable (Q K W : Fin 8 → Fin 4096 → Fin 64 → ℝ) (C M₀ : Fin 8 → Fin 4096 → ℝ) (h : Fin 8) (i : Fin 4096)

/-- The logarithm of a row's weight. -/
def logSum (h : Fin 8) (i : Fin 4096) : ℝ := M₀ h i + Real.log (total Q K C M₀ h i)

/-- The attention's output. -/
def output (h : Fin 8) (i : Fin 4096) (e : Fin 64) : ℝ := ∑ j, prob Q K C M₀ h i j * W h j e

theorem weight_move (M : ℝ) (j : Fin 4096) : weight Q K C M₀ h i j = Real.exp (M - M₀ h i) * wt (· ≤ i) (logit Q K C h i) M j :=
  wt_move (· ≤ i) (logit Q K C h i) M (M₀ h i) j

theorem total_move (M : ℝ) : total Q K C M₀ h i = Real.exp (M - M₀ h i) * ∑ j, wt (· ≤ i) (logit Q K C h i) M j := by
  unfold total
  rw [Finset.mul_sum]
  exact Finset.sum_congr rfl fun j _ => weight_move Q K C M₀ h i M j

theorem sum_wt_pos (M : ℝ) : 0 < ∑ j, wt (· ≤ i) (logit Q K C h i) M j :=
  total_pos Q K C (fun _ _ => M) h i

theorem output_move (M : ℝ) (e : Fin 64) :
    (∑ j, W h j e * wt (· ≤ i) (logit Q K C h i) M j) / (∑ j, wt (· ≤ i) (logit Q K C h i) M j) = output Q K W C M₀ h i e := by
  unfold output
  rw [Finset.sum_div]
  refine Finset.sum_congr rfl fun j _ => ?_
  unfold prob
  rw [total_move Q K C M₀ h i M, weight_move Q K C M₀ h i M j, mul_div_mul_left _ _ (Real.exp_pos _).ne']
  ring

theorem logSum_move (M : ℝ) : M + Real.log (∑ j, wt (· ≤ i) (logit Q K C h i) M j) = logSum Q K C M₀ h i := by
  unfold logSum
  rw [total_move Q K C M₀ h i M, Real.log_mul (Real.exp_pos _).ne' (sum_wt_pos Q K C h i M).ne', Real.log_exp]
  ring

end Maximum

/-! ## The blocks -/

theorem select_eq {α : Type} {n k : ℕ} (hn : n < 128) (hk : k < 128) (a b : α) :
    Scalar.select (IntOp.cmpi CmpIPredicate.eq (BitVec.ofNat 32 n) (BitVec.ofNat 32 k)) a b = if n = k then a else b := by
  by_cases e : n = k
  · subst e; simp [Scalar.select, IntOp.cmpi]
  · have : BitVec.ofNat 32 n ≠ BitVec.ofNat 32 k := by
      intro h
      have := congrArg BitVec.toNat h
      rw [BitVec.toNat_ofNat, BitVec.toNat_ofNat, Nat.mod_eq_of_lt (by omega), Nat.mod_eq_of_lt (by omega)] at this
      exact e this
    have h0 : (BitVec.ofNat 32 n == BitVec.ofNat 32 k) = false := by simpa using this
    simp only [Scalar.select, IntOp.cmpi, h0, if_neg e]
    rfl

theorem zero_sub_neg (x : ℝ) : 0 - ((-x : ℝ) : EReal) = (x : EReal) := by
  rw [← EReal.coe_zero, ← EReal.coe_sub, zero_sub, neg_neg]

section Payload

variable {t : Vec Ideal S1x1x512 .f32} {a : Vec Ideal S1x128x512 .f32} {b : Vec Ideal S1x512x128 .bf16}

theorem pay103_at (e : Fin 64) (y : Fin 512) : k0_pay103 (F := Ideal) a (ix2 e y)
    = Ideal.div (a (ix3 0 ⟨e.val, by omega⟩ y)) (0 - a (ix3 0 64 y)) := by
  pointwise [k0_pay103, k0_pay101, k0_pay102]

/-- The row's logarithm with its sign. -/
def negLog (t : Vec Ideal S1x1x512 .f32) (a : Vec Ideal S1x128x512 .f32) (y : Fin 512) : EReal :=
  0 - (t (ix3 0 0 y) + Ideal.log (0 - a (ix3 0 64 y)))

theorem pay104_at (e : Fin 128) (y : Fin 512) : k0_pay104 (F := Ideal) laneIx (k0_pay82 b) t a (ix3 0 e y)
    = if e.val = 72 then negLog t a y - negLog t a y - (negLog t a y - negLog t a y)
      else if e.val = 71 then negLog t a y - negLog t a y else if e.val = 70 then negLog t a y else b (ix3 0 y e) := by
  unfold laneIx
  pointwise [k0_pay104, k0_pay102, k0_pay101, k0_pay82]
  simp only [select_eq e.isLt (show 70 < 128 by omega), select_eq e.isLt (show 71 < 128 by omega), select_eq e.isLt (show 72 < 128 by omega)]
  rfl

theorem pay1_at (x z : FVec Ideal S64x512 .f32) (y : Fin 512) (e : Fin 128) : k0_pay1 (F := Ideal) x z (ix2 y e)
    = if he : e.val < 64 then x (ix2 ⟨e.val, he⟩ y) else z (ix2 ⟨e.val - 64, by omega⟩ y) := by
  pointwise [k0_pay1]

end Payload

section Head

variable {q : Vec Ideal S2x512x128 .bf16} {kp vp : Vec Ideal S2x4096x128 .bf16} {h : Fin 2} {hd : Fin 8}
variable {Q K W : Fin 8 → Fin 4096 → Fin 64 → ℝ} {C : Fin 8 → Fin 4096 → ℝ} (M₀ : Fin 8 → Fin 4096 → ℝ) {I : ℕ} (hI : I < 8)
variable (hq : ∀ y e, q (ix3 h y e) = ↑(rowQ Q C (fun _ _ => 0) hd (pos I y) e))
variable (hk : ∀ j e, kp (ix3 h j e) = ↑(rowK K C hd j e)) (hv : ∀ j e, vp (ix3 h j e) = ↑(rowV W hd j e))

include hI hq hk hv

theorem sums_at (y : Fin 512) : ∃ M : ℝ, lastTop q kp h.val I (ix3 0 0 y) = M
    ∧ (∀ e : Fin 64, lastAcc q kp vp h.val I (ix3 0 ⟨e.val, by omega⟩ y) = ((∑ j, W hd j e * wt (· ≤ pos I y) (logit Q K C hd (pos I y)) M j : ℝ) : EReal))
    ∧ lastAcc q kp vp h.val I (ix3 0 64 y) = ((-∑ j, wt (· ≤ pos I y) (logit Q K C hd (pos I y)) M j : ℝ) : EReal) := by
  obtain ⟨M, h1, h2⟩ := last_at hq hk hv hI y
  have e : scoreOf (rowK K C hd) (fun y => rowQ Q C (fun _ _ => 0) hd (pos I y)) y = logit Q K C hd (pos I y) := by
    funext j
    exact (rowK_rowQ Q K C (fun _ _ => 0) hd (pos I y) j).trans (sub_zero _)
  refine ⟨M, h1, fun x => (h2 _).trans (congrArg _ ?_), (h2 64).trans (congrArg _ ?_)⟩
  · refine Finset.sum_congr rfl fun j _ => ?_
    rw [e]
    refine congrArg (· * _) ?_
    exact dif_pos x.isLt
  · rw [← Finset.sum_neg_distrib]
    refine Finset.sum_congr rfl fun j _ => ?_
    rw [e, ← neg_one_mul]
    rfl

theorem output_at (e : Fin 64) (y : Fin 512) :
    k0_pay103 (F := Ideal) (lastAcc q kp vp h.val I) (ix2 e y) = ↑(output Q K W C M₀ hd (pos I y) e) := by
  obtain ⟨M, h1, h2, h3⟩ := sums_at hI hq hk hv y
  rw [pay103_at, h2, h3, zero_sub_neg, div_coe_coe _ (sum_wt_pos Q K C hd (pos I y) M).ne', output_move]

theorem saved_at (e : Fin 128) (y : Fin 512) :
    k0_pay104 (F := Ideal) laneIx (k0_pay82 (queryBlk q h.val)) (lastTop q kp h.val I) (lastAcc q kp vp h.val I) (ix3 0 e y)
      = ↑(rowQ Q C (logSum Q K C M₀) hd (pos I y) e) := by
  obtain ⟨M, h1, h2, h3⟩ := sums_at hI hq hk hv y
  have hn : negLog (lastTop q kp h.val I) (lastAcc q kp vp h.val I) y = ((-logSum Q K C M₀ hd (pos I y) : ℝ) : EReal) := by
    unfold negLog
    rw [h1, h3, zero_sub_neg, log_coe_pos (sum_wt_pos Q K C hd (pos I y) M), ← EReal.coe_add, logSum_move,
      ← EReal.coe_zero, ← EReal.coe_sub, zero_sub]
  rw [pay104_at, hn, (queryBlk_at q h y e).trans (hq y e), ← EReal.coe_sub, ← EReal.coe_sub, sub_self, sub_self]
  unfold rowQ
  split_ifs <;> first | omega | rfl

end Head

end Cert.Proof.Forward
-- ==== Proof.Forward.Arrays.lean ====
module

public import proofs.«01_k».proof.Proof.Forward.Launch
public import proofs.«01_k».proof.Proof.Forward.Outputs
public import Idealize.ShloMosaic.Lib.Pipeline.ValueKit.Geometry

@[expose] public section

set_option maxRecDepth 16384

noncomputable section

/-! # The result arrays of the attention -/

namespace Cert.Proof.Forward

open Idealize.ShloMosaic Idealize.ShloMosaic.TcCoe Cert.Kernel4Ideal Cert.Kernel4Ideal.Gen Cert.Proof.Attention
open Cert.Proof.KernelIdeal (pos pos_val)

variable (m : (ℓ : Loc nD τ sig) → Buf (Elt Ideal) ℓ) (c : Dev nD)

/-- The query block of a point. -/
def blockNo (t : Fin cfg0.N) : ℕ := (grid0.coords t 1).val

theorem blockNo_eq : ∀ t : Fin cfg0.N, blockNo t = t.val % 8 := (by decide +kernel : ∀ t : Fin grid0.N, (grid0.coords t 1).val = t.val % 8)

theorem blockNo_lt (t : Fin cfg0.N) : blockNo t < 8 := by rw [blockNo_eq]; omega

/-- Head `h` of the pair of point `t`. -/
def headNo (t : Fin cfg0.N) (h : Fin 2) : Fin 8 := ⟨2 * (t.val / 8) + h.val, by have : t.val < 32 := t.isLt; omega⟩

/-- The column of lane `e` of the pair of point `t`. -/
def column (t : Fin cfg0.N) (e : Fin 128) : Fin 512 := ⟨128 * (t.val / 8) + e.val, by have : t.val < 32 := t.isLt; omega⟩

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem index3 : ∀ t : Fin cfg0.N, win0_3.index t (0 : Fin 2) = t.val % 8 ∧ win0_3.index t (1 : Fin 2) = t.val / 8 :=
  (by decide +kernel : ∀ t : Fin grid0.N, _)
theorem index4 : ∀ t : Fin cfg0.N, win0_4.index t (0 : Fin 3) = t.val / 8 ∧ win0_4.index t (1 : Fin 3) = 0 ∧ win0_4.index t (2 : Fin 3) = t.val % 8 :=
  (by decide +kernel : ∀ t : Fin grid0.N, _)

/-- Where a block's element lies in its array. -/
theorem emb0 (t : Fin cfg0.N) (h : Fin 2) (y : Fin 512) (e : Fin 128) :
    ((cfg0.win 0).blk t).view.emb (ix3 h y e) = ix3 (headNo t h) (pos (blockNo t) y) e := by
  obtain ⟨e0, e1, e2⟩ := index0 t
  have hp := pos_val (blockNo_lt t) y
  have hb := blockNo_eq t
  funext a; apply Fin.ext
  match a with
  | ⟨0, _⟩ => show win0_0.index t (0 : Fin 3) * 2 + 1 * h.val = 2 * (t.val / 8) + h.val; omega
  | ⟨1, _⟩ => show win0_0.index t (1 : Fin 3) * 512 + 1 * y.val = (pos (blockNo t) y).val; omega
  | ⟨2, _⟩ => show win0_0.index t (2 : Fin 3) * 128 + 1 * e.val = e.val; omega
theorem emb1 (t : Fin cfg0.N) (h : Fin 2) (j : Fin 4096) (e : Fin 128) :
    ((cfg0.win 1).blk t).view.emb (ix3 h j e) = ix3 (headNo t h) j e := by
  obtain ⟨e0, e1, e2⟩ := index1 t
  funext a; apply Fin.ext
  match a with
  | ⟨0, _⟩ => show win0_1.index t (0 : Fin 3) * 2 + 1 * h.val = 2 * (t.val / 8) + h.val; omega
  | ⟨1, _⟩ => show win0_1.index t (1 : Fin 3) * 4096 + 1 * j.val = j.val; omega
  | ⟨2, _⟩ => show win0_1.index t (2 : Fin 3) * 128 + 1 * e.val = e.val; omega
theorem emb2 (t : Fin cfg0.N) (h : Fin 2) (j : Fin 4096) (e : Fin 128) :
    ((cfg0.win 2).blk t).view.emb (ix3 h j e) = ix3 (headNo t h) j e := by
  obtain ⟨e0, e1, e2⟩ := index2 t
  funext a; apply Fin.ext
  match a with
  | ⟨0, _⟩ => show win0_2.index t (0 : Fin 3) * 2 + 1 * h.val = 2 * (t.val / 8) + h.val; omega
  | ⟨1, _⟩ => show win0_2.index t (1 : Fin 3) * 4096 + 1 * j.val = j.val; omega
  | ⟨2, _⟩ => show win0_2.index t (2 : Fin 3) * 128 + 1 * e.val = e.val; omega
theorem emb3 (t : Fin cfg0.N) (y : Fin 512) (e : Fin 128) :
    ((cfg0.win 3).blk t).view.emb (ix2 y e) = ix2 (pos (blockNo t) y) (column t e) := by
  obtain ⟨e0, e1⟩ := index3 t
  have hp := pos_val (blockNo_lt t) y
  have hb := blockNo_eq t
  funext a; apply Fin.ext
  match a with
  | ⟨0, _⟩ => show win0_3.index t (0 : Fin 2) * 512 + 1 * y.val = (pos (blockNo t) y).val; omega
  | ⟨1, _⟩ => show win0_3.index t (1 : Fin 2) * 128 + 1 * e.val = 128 * (t.val / 8) + e.val; omega
theorem emb4 (t : Fin cfg0.N) (h : Fin 2) (e : Fin 128) (y : Fin 512) :
    ((cfg0.win 4).blk t).view.emb (ix3 h e y) = ix3 (headNo t h) e (pos (blockNo t) y) := by
  obtain ⟨e0, e1, e2⟩ := index4 t
  have hp := pos_val (blockNo_lt t) y
  have hb := blockNo_eq t
  funext a; apply Fin.ext
  match a with
  | ⟨0, _⟩ => show win0_4.index t (0 : Fin 3) * 2 + 1 * h.val = 2 * (t.val / 8) + h.val; omega
  | ⟨1, _⟩ => show win0_4.index t (1 : Fin 3) * 128 + 1 * e.val = e.val; omega
  | ⟨2, _⟩ => show win0_4.index t (2 : Fin 3) * 512 + 1 * y.val = (pos (blockNo t) y).val; omega

/-- The head and the lane of a column of the output. -/
def headOf (x : Fin 512) : Fin 8 := ⟨x.val / 64, by omega⟩
def laneOf (x : Fin 512) : Fin 64 := ⟨x.val % 64, by omega⟩

theorem headOf_low (t : Fin cfg0.N) (e : Fin 128) (he : e.val < 64) : headOf (column t e) = headNo t 0 ∧ laneOf (column t e) = ⟨e.val, he⟩ := by
  constructor <;> apply Fin.ext
  · show (128 * (t.val / 8) + e.val) / 64 = 2 * (t.val / 8) + 0; omega
  · show (128 * (t.val / 8) + e.val) % 64 = e.val; omega
theorem headOf_high (t : Fin cfg0.N) (e : Fin 128) (he : ¬ e.val < 64) :
    headOf (column t e) = headNo t 1 ∧ laneOf (column t e) = ⟨e.val - 64, by omega⟩ := by
  constructor <;> apply Fin.ext
  · show (128 * (t.val / 8) + e.val) / 64 = 2 * (t.val / 8) + 1; omega
  · show (128 * (t.val / 8) + e.val) % 64 = e.val - 64; omega

theorem ix2_z {a b : ℕ} (z : (⟨2, ![a, b]⟩ : Shape).Idx) : ix2 (d0 z) (d1 z) = z := by
  funext x; match x with | ⟨0, _⟩ => rfl | ⟨1, _⟩ => rfl
theorem ix3_z {a b d : ℕ} (z : (⟨3, ![a, b, d]⟩ : Shape).Idx) : ix3 (c0 z) (c1 z) (c2 z) = z := by
  funext x; match x with | ⟨0, _⟩ => rfl | ⟨1, _⟩ => rfl | ⟨2, _⟩ => rfl

variable {Q K W : Fin 8 → Fin 4096 → Fin 64 → ℝ} {C : Fin 8 → Fin 4096 → ℝ} (M₀ : Fin 8 → Fin 4096 → ℝ)
variable (hq : ∀ h i e, V m c main_v20 (ix3 h i e) = (rowQ Q C (fun _ _ => 0) h i e : EReal))
variable (hk : ∀ h j e, V m c main_v37 (ix3 h j e) = (rowK K C h j e : EReal))
variable (hv : ∀ h j e, V m c main_v43 (ix3 h j e) = (rowV W h j e : EReal))

include hq in
theorem iblk0_at (t : Fin cfg0.N) (h : Fin 2) (y : Fin 512) (e : Fin 128) :
    iblk m c 0 t (ix3 h y e) = (rowQ Q C (fun _ _ => 0) (headNo t h) (pos (blockNo t) y) e : EReal) :=
  (congrArg (V m c main_v20) (emb0 t h y e)).trans (hq _ _ _)
include hk in
theorem iblk1_at (t : Fin cfg0.N) (h : Fin 2) (j : Fin 4096) (e : Fin 128) : iblk m c 1 t (ix3 h j e) = (rowK K C (headNo t h) j e : EReal) :=
  (congrArg (V m c main_v37) (emb1 t h j e)).trans (hk _ _ _)
include hv in
theorem iblk2_at (t : Fin cfg0.N) (h : Fin 2) (j : Fin 4096) (e : Fin 128) : iblk m c 2 t (ix3 h j e) = (rowV W (headNo t h) j e : EReal) :=
  (congrArg (V m c main_v43) (emb2 t h j e)).trans (hv _ _ _)

include hq hk hv in
theorem outAtt_at (t : Fin cfg0.N) (y : Fin 512) (e : Fin 128) :
    outAtt (iblk m c 0 t) (iblk m c 1 t) (iblk m c 2 t) (blockNo t) (ix2 y e)
      = ↑(output Q K W C M₀ (headOf (column t e)) (pos (blockNo t) y) (laneOf (column t e))) := by
  have h0 := output_at (h := 0) M₀ (blockNo_lt t) (iblk0_at m c hq t 0) (iblk1_at m c hk t 0) (iblk2_at m c hv t 0)
  have h1 := output_at (h := 1) M₀ (blockNo_lt t) (iblk0_at m c hq t 1) (iblk1_at m c hk t 1) (iblk2_at m c hv t 1)
  refine (pay1_at _ _ y e).trans ?_
  split_ifs with he
  · rw [(headOf_low t e he).1, (headOf_low t e he).2]; exact h0 _ y
  · rw [(headOf_high t e he).1, (headOf_high t e he).2]; exact h1 _ y

include hq hk hv in
theorem outSaved_at (t : Fin cfg0.N) (h : Fin 2) (e : Fin 128) (y : Fin 512) :
    outSaved (iblk m c 0 t) (iblk m c 1 t) (iblk m c 2 t) (blockNo t) (ix3 h e y)
      = ↑(rowQ Q C (logSum Q K C M₀) (headNo t h) (pos (blockNo t) y) e) := by
  exact saved_at M₀ (blockNo_lt t) (iblk0_at m c hq t h) (iblk1_at m c hk t h) (iblk2_at m c hv t h) e y

include hq hk hv in
theorem array3 (i : Fin 4096) (x : Fin 512) : (dats m 0 c).arrAt 3 cfg0.N (ix2 i x) = ((output Q K W C M₀ (headOf x) i (laneOf x) : ℝ) : EReal) := by
  refine congrFun ((dats m 0 c).arrAt_eq_of_covers 3 (fun z : S4096x512.Idx => ((output Q K W C M₀ (headOf (d1 z)) (d0 z) (laneOf (d1 z)) : ℝ) : EReal))
    (by decide +kernel) fun t _ y => ?_) (ix2 i x)
  refine (congrFun (after0_3 m c t) y).trans ?_
  rw [← ix2_z y, emb3]
  exact outAtt_at m c M₀ hq hk hv t _ _

include hq hk hv in
theorem array4 (h : Fin 8) (e : Fin 128) (i : Fin 4096) : (dats m 0 c).arrAt 4 cfg0.N (ix3 h e i) = ((rowQ Q C (logSum Q K C M₀) h i e : ℝ) : EReal) := by
  refine congrFun ((dats m 0 c).arrAt_eq_of_covers 4 (fun z : S8x128x4096.Idx => ((rowQ Q C (logSum Q K C M₀) (c0 z) (c2 z) (c1 z) : ℝ) : EReal))
    (by decide +kernel) fun t _ y => ?_) (ix3 h e i)
  refine (congrFun (after0_4 m c t) y).trans ?_
  rw [← ix3_z y, emb4]
  exact outSaved_at m c M₀ hq hk hv t _ _ _

end Cert.Proof.Forward
-- ==== Proof.Forward.Reference.lean ====
module

public import proofs.«01_k».proof.Proof.Forward.Frames
public import proofs.«01_k».proof.Proof.Forward.Arrays
public import proofs.«01_k».proof.Proof.Attention.Packed

@[expose] public section

noncomputable section

/-! # The reference of the attention as numbers -/

namespace Cert.Proof.Forward

open Idealize.ShloMosaic Cert.Proof.Attention Cert.Reference4Ideal Cert.Reference4Ideal.Gen Cert.Reference4Ideal.Read

variable {x0 x1 x2 : Wide} {x3 : Gates}

/-- The rows the attention saves: the scaled queries, the gates, ones, and minus the logarithms of the rows' weights. -/
def savedRows (x0 : Wide) (g : Gates) (l : FVec Ideal S8x4096 .f32) : FVec Ideal S8x128x4096 .bf16 :=
  truncf .bf16 (transpose S8x128x4096 [0, 2, 1] (concatenate S8x4096x128 2
    [⟨S8x4096x64, transpose S8x4096x64 [1, 0, 2] (mulf (F := Ideal) (shapeCast S4096x8x64 x0 shapeCasts_S4096x512_S4096x8x64)
        (broadcastInDim S4096x8x64 ![] bcast_S_S4096x8x64 (constant (F := Ideal) S_ .f32 0x3E000000#32))) transposes_S4096x8x64_S8x4096x64_1_0_2⟩,
     ⟨S8x4096x1, broadcastInDim S8x4096x1 ![0, 1] bcast_S8x4096_S8x4096x1_0_1 (transpose S8x4096 [1, 0] g transposes_S4096x8_S8x4096_1_0)⟩,
     ⟨S8x4096x2, broadcastInDim S8x4096x2 ![] bcast_S_S8x4096x2 (constant (F := Ideal) S_ .f32 0x00000000#32)⟩,
     ⟨S8x4096x3, broadcastInDim S8x4096x3 ![] bcast_S_S8x4096x3 (constant (F := Ideal) S_ .f32 0x3F800000#32)⟩,
     ⟨S8x4096x1, Host.negf (F := Ideal) (φ := .f32) (broadcastInDim S8x4096x1 ![0, 1] bcast_S8x4096_S8x4096x1_0_1 l)⟩,
     ⟨S8x4096x57, broadcastInDim S8x4096x57 ![] bcast_S_S8x4096x57 (constant (F := Ideal) S_ .f32 0x00000000#32)⟩]
    concatenates_S8x4096x64_S8x4096x1_S8x4096x2_S8x4096x3_S8x4096x1_S8x4096x57_S8x4096x128_d2) transposes_S8x4096x128_S8x128x4096_0_2_1) bitsLt_bf16_f32

theorem savedRows_at {x : Wide} (hx : ∀ i, IsReal (x i)) {g : Gates} {C : Fin 8 → Fin 4096 → ℝ} (hg : ∀ i h, g (ix2 i h) = (C h i : EReal))
    {l : FVec Ideal S8x4096 .f32} {L : Fin 8 → Fin 4096 → ℝ} (hl : ∀ h i, l (ix2 h i) = (L h i : EReal))
    (h : Fin 8) (e : Fin 128) (i : Fin 4096) : savedRows x g l (ix3 h e i) = (rowQ (heads x) C L h i e : EReal) := by
  pointwise [savedRows]
  simp only [hg, hl]
  unfold rowQ
  split_ifs <;> first
    | omega | rfl
    | (rw [eighth, EReal.coe_mul]; exact congrArg (· * _) (Attention.Host.head_at hx _ _ ⟨_, _⟩ _))

theorem saved_same : val_main_v82 (F := Ideal) x0 x1 x3
    = savedRows x0 (ReferenceIdeal.Read.val_main_v1 (F := Ideal) x3) (Attention.Host.hostLse x0 x1 x3) := rfl

theorem probs_same : val_main_v76 (F := Ideal) x0 x1 x3 = ReferenceIdeal.Read.val_main_v48 (F := Ideal) x0 x1 x3 := rfl

variable (H : Numbers x0 x1 x2 x3 x2)

include H

theorem reference_output (i : Fin 4096) (x : Fin 512) : val_main_v80 (F := Ideal) x0 x1 x2 x3 (ix2 i x)
    = ((output (heads x0) (heads x1) (heads x2) (cums x3) (tops x0 x1 x3) (headOf x) i (laneOf x) : ℝ) : EReal) := by
  have hi : idx_main_v79 (idx_main_v80 (ix2 i x)) = ix3 (headOf x) (laneOf x) i := by
    funext a; apply Fin.ext
    have h1 := x.isLt
    match a with
    | ⟨0, _⟩ => show (i.val * 512 + x.val) / 64 % 8 = x.val / 64; omega
    | ⟨1, _⟩ => show (i.val * 512 + x.val) % 64 = x.val % 64; omega
    | ⟨2, _⟩ => show (i.val * 512 + x.val) / 512 = i.val; omega
  rw [val_main_v80_apply, val_main_v79_apply, hi, val_main_v78_apply, probs_same]
  unfold output
  simp only [mul_comm (prob _ _ _ _ _ _ _)]
  exact dot_eq_coe (fun k => heads_eq H.v _) fun k => probs_eq H _

theorem reference_saved (h : Fin 8) (e : Fin 128) (i : Fin 4096) : val_main_v82 (F := Ideal) x0 x1 x3 (ix3 h e i)
    = ((rowQ (heads x0) (cums x3) (logSum (heads x0) (heads x1) (cums x3) (tops x0 x1 x3)) h i e : ℝ) : EReal) := by
  rw [saved_same]
  exact savedRows_at H.q (fun i h => Attention.Host.gates_at H i h) (fun h i => Attention.Host.hostLse_at H h i) h e i

end Cert.Proof.Forward
-- ==== Proof.Forward.Results.lean ====
module

public import proofs.«01_k».proof.Proof.Forward.Host
public import proofs.«01_k».proof.Proof.Forward.Arrays
public import proofs.«01_k».proof.Proof.Forward.Reference

@[expose] public section

noncomputable section

/-! # The kernel's results are the reference's -/

namespace Cert.Proof.Forward

open Idealize.ShloMosaic Cert.Kernel4Ideal Cert.Kernel4Ideal.Gen Cert.Proof.Attention
open Cert.Proof.Forward.Host (at0 at1 at2 at3 packedQ_entry packedK_entry packedV_entry)

variable (m : (ℓ : Loc nD τ sig) → Buf (Elt Ideal) ℓ) (c : Dev nD) (H : Numbers (at0 m c) (at1 m c) (at2 m c) (at3 m c) (at2 m c))

include H

theorem output_agrees : (dats (F := Ideal) m 0 c).arrAt 3 cfg0.N
    = Cert.Reference4Ideal.Read.val_main_v80 (F := Ideal) (at0 m c) (at1 m c) (at2 m c) (at3 m c) := by
  funext (z : S4096x512.Idx)
  rw [← ix2_z z]
  exact (array3 m c (tops (at0 m c) (at1 m c) (at3 m c)) (packedQ_entry m c H) (packedK_entry m c H) (packedV_entry m c H) (d0 z) (d1 z)).trans
    (reference_output H (d0 z) (d1 z)).symm

theorem saved_agrees : (dats (F := Ideal) m 0 c).arrAt 4 cfg0.N
    = Cert.Reference4Ideal.Read.val_main_v82 (F := Ideal) (at0 m c) (at1 m c) (at3 m c) := by
  funext (z : S8x128x4096.Idx)
  rw [← ix3_z z]
  exact (array4 m c (tops (at0 m c) (at1 m c) (at3 m c)) (packedQ_entry m c H) (packedK_entry m c H) (packedV_entry m c H) (c0 z) (c1 z) (c2 z)).trans
    (reference_saved H (c0 z) (c1 z) (c2 z)).symm

end Cert.Proof.Forward
-- ==== Proof.Input.Frames.lean ====
module

public import proofs.«01_k».proof.Defs
public import proofs.«01_k».proof.Proof.Gen.Kernel5
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
@[expose] public section

noncomputable section

namespace Cert.Proof

open Idealize.ShloMosaic

end Cert.Proof

end
-- ==== Proof.Input.Tile.lean ====
module

public import proofs.«01_k».proof.Defs
public import proofs.«01_k».proof.Proof.Gen.Kernel5Ideal
public import proofs.«01_k».proof.Proof.Gen.Kernel5Ideal.Skeleton
public import Idealize.ShloMosaic.Lib.VecWindow
public import Idealize.ShloMosaic.Lib.Pointwise

@[expose] public section

set_option maxRecDepth 65536

noncomputable section

/-!
# One tile of the input projection

What the kernel leaves of a tile of 256 tokens. A head's columns of a branch are the lanes of one tile; the lanes after
them hold the head's gate, in three parts, and constants.
-/

namespace Cert.Proof.Input

open Cert.Kernel5Ideal Cert.Kernel5Ideal.Gen
open Idealize.ShloMosaic Idealize.ShloMosaic.TcCoe Idealize.ShloMosaic.Pointwise

variable {F : FTy → Type} [FloatOps F]

/-- The blocks of one tile. -/
structure Blocks (F : FTy → Type) where
  x : Vec F S256x1024 .f32
  mod : Vec F S8x1024 .f32
  w : Vec F S3072x1024 .bf16
  wf : Vec F S128x1024 .bf16
  b : Vec F S1x3072 .f32
  bf : Vec F S1x128 .f32

/-- Eight tiles, one per head. -/
def stack (f : Fin 8 → Vec F S1x256x128 .bf16) : Vec F S8x256x128 .bf16 := fun y => f (y 0) (ix3 0 (y 1) (y 2))

theorem put_head (k : ℕ) (X : Vec F S8x256x128 .bf16) (v : Vec F S1x256x128 .bf16) (y : S8x256x128.Idx) :
    VecWindow.put X ![k, 0, 0] S1x256x128.size v y = if (y 0).val = k then v (ix3 0 (y 1) (y 2)) else X y := by
  have h1 : (y 1).val < 256 := (y 1).isLt
  have h2 : (y 2).val < 128 := (y 2).isLt
  unfold VecWindow.put
  split_ifs with a b b
  · congr 1
    funext i
    match i with
    | ⟨0, _⟩ => exact Subsingleton.elim (α := Fin 1) _ _
    | ⟨1, _⟩ => rfl
    | ⟨2, _⟩ => rfl
  · exfalso
    have := a 0
    simp at this
    omega
  · exfalso
    refine a fun i => ?_
    match i with
    | ⟨0, _⟩ => show k ≤ (y 0).val ∧ (y 0).val < k + 1; omega
    | ⟨1, _⟩ => show 0 ≤ (y 1).val ∧ (y 1).val < 0 + 256; omega
    | ⟨2, _⟩ => show 0 ≤ (y 2).val ∧ (y 2).val < 0 + 128; omega
  · rfl

theorem stack_puts (f : Fin 8 → Vec F S1x256x128 .bf16) (X : Vec F S8x256x128 .bf16) :
    VecWindow.put (VecWindow.put (VecWindow.put (VecWindow.put (VecWindow.put (VecWindow.put (VecWindow.put (VecWindow.put X
      ![0, 0, 0] S1x256x128.size (f 0)) ![1, 0, 0] S1x256x128.size (f 1)) ![2, 0, 0] S1x256x128.size (f 2)) ![3, 0, 0] S1x256x128.size (f 3))
      ![4, 0, 0] S1x256x128.size (f 4)) ![5, 0, 0] S1x256x128.size (f 5)) ![6, 0, 0] S1x256x128.size (f 6)) ![7, 0, 0] S1x256x128.size (f 7)
      = stack f := by
  funext y
  rw [put_head, put_head, put_head, put_head, put_head, put_head, put_head, put_head]
  unfold stack
  generalize (y 0) = j
  fin_cases j <;> rfl

def lanes : IVec S256x128 32 := iota .tc S256x128 32 [1] iota_S256x128_d1_w32

section
variable (B : Blocks F)

def modRow0 : Vec F S1x1024 .f32 := VecWindow.window B.mod ![0, 0] S1x1024.size inb_S8x1024_S1x1024_0_0
def modRow1 : Vec F S1x1024 .f32 := VecWindow.window B.mod ![1, 0] S1x1024.size inb_S8x1024_S1x1024_1_0

/-- The modulated input, -/
def outU : Vec F S256x1024 .bf16 := k0_pay5 B.x (modRow0 B) (modRow1 B)
/-- the forget logits -/
def outF : Vec F S256x128 .f32 := k0_pay6 B.x (modRow0 B) (modRow1 B) B.wf B.bf
/-- and their log gates. -/
def logs : FVec F S256x128 .f32 := k0_pay8 B.x (modRow0 B) (modRow1 B) B.wf B.bf

/-- The six branches. -/
def branchQ : FVec F S256x512 .f32 := k0_pay24 (outU B) (VecWindow.window B.w ![0, 0] S512x1024.size inb_S3072x1024_S512x1024_0_0)
  (VecWindow.window B.b ![0, 0] S1x512.size inb_S1x3072_S1x512_0_0)
def branchK : FVec F S256x512 .f32 := k0_pay49 (outU B) (VecWindow.window B.w ![512, 0] S512x1024.size inb_S3072x1024_S512x1024_512_0)
  (VecWindow.window B.b ![0, 512] S1x512.size inb_S1x3072_S1x512_0_512)
def branchV : FVec F S256x512 .f32 := k0_pay90 (outU B) (VecWindow.window B.w ![1024, 0] S512x1024.size inb_S3072x1024_S512x1024_1024_0)
  (VecWindow.window B.b ![0, 1024] S1x512.size inb_S1x3072_S1x512_0_1024)
def outP : Vec F S256x512 .f32 := k0_pay1 (k0_pay109 (outU B) (VecWindow.window B.w ![1536, 0] S512x1024.size inb_S3072x1024_S512x1024_1536_0))
  (VecWindow.window B.b ![0, 1536] S1x512.size inb_S1x3072_S1x512_0_1536)
def outGa : Vec F S256x512 .f32 := k0_pay2 (outU B) (VecWindow.window B.w ![2048, 0] S512x1024.size inb_S3072x1024_S512x1024_2048_0)
  (VecWindow.window B.b ![0, 2048] S1x512.size inb_S1x3072_S1x512_0_2048)
def outGp : Vec F S256x512 .f32 := k0_pay3 (outU B) (VecWindow.window B.w ![2560, 0] S512x1024.size inb_S3072x1024_S512x1024_2560_0)
  (VecWindow.window B.b ![0, 2560] S1x512.size inb_S1x3072_S1x512_0_2560)

/-- The columns of a pair of heads, -/
def pair (r : FVec F S256x512 .f32) : Fin 4 → FVec F S256x128 .f32
  | 0 => extractStridedSlice S256x128 ![0, 0] r slices_S256x512_o0_0_S256x128
  | 1 => extractStridedSlice S256x128 ![0, 128] r slices_S256x512_o0_128_S256x128
  | 2 => extractStridedSlice S256x128 ![0, 256] r slices_S256x512_o0_256_S256x128
  | 3 => extractStridedSlice S256x128 ![0, 384] r slices_S256x512_o0_384_S256x128

/-- turned so that the head's own come first. -/
def head (r : FVec F S256x512 .f32) : Fin 8 → FVec F S256x128 .f32
  | 0 => pair r 0
  | 1 => dynamicRotate 1 64#32 none (pair r 0) rotates_S256x128_d1
  | 2 => pair r 1
  | 3 => dynamicRotate 1 64#32 none (pair r 1) rotates_S256x128_d1
  | 4 => pair r 2
  | 5 => dynamicRotate 1 64#32 none (pair r 2) rotates_S256x128_d1
  | 6 => pair r 3
  | 7 => dynamicRotate 1 64#32 none (pair r 3) rotates_S256x128_d1

/-- A head's gate. -/
def gateCol (a : FVec F S256x128 .f32) : Fin 8 → FVec F S256x1 .f32
  | 0 => extractStridedSlice S256x1 ![0, 0] a slices_S256x128_o0_0_S256x1
  | 1 => extractStridedSlice S256x1 ![0, 1] a slices_S256x128_o0_1_S256x1
  | 2 => extractStridedSlice S256x1 ![0, 2] a slices_S256x128_o0_2_S256x1
  | 3 => extractStridedSlice S256x1 ![0, 3] a slices_S256x128_o0_3_S256x1
  | 4 => extractStridedSlice S256x1 ![0, 4] a slices_S256x128_o0_4_S256x1
  | 5 => extractStridedSlice S256x1 ![0, 5] a slices_S256x128_o0_5_S256x1
  | 6 => extractStridedSlice S256x1 ![0, 6] a slices_S256x128_o0_6_S256x1
  | 7 => extractStridedSlice S256x1 ![0, 7] a slices_S256x128_o0_7_S256x1

/-- The lanes from `lo` up to `hi`, -/
def within (lo hi : BitVec 32) : IVec S256x128 1 :=
  andi (cmpi .sge lanes (broadcast S256x128 lo)) (cmpi .slt lanes (broadcast S256x128 hi))

/-- the lane `n` replaced by a column, -/
def place (n : BitVec 32) (a : FVec F S256x1 .f32) (rest : FVec F S256x128 .f32) : FVec F S256x128 .f32 :=
  select (cmpi .eq lanes (broadcast S256x128 n)) (broadcastTo S256x128 (shapeCast S256x1 a shapeCasts_S256x1_S256x1) broadcasts_S256x1_S256x128) rest

/-- and a head's tile: its 64 lanes, then the others. -/
def tile (val rest : FVec F S256x128 .f32) : Vec F S1x256x128 .bf16 :=
  shapeCast S1x256x128 (truncf .bf16 (select (cmpi .slt lanes (broadcast S256x128 64#32)) val rest) bitsLt_bf16_f32) shapeCasts_S256x128_S1x256x128

def flag (mask : IVec S256x128 1) (on : BitVec 32) : FVec F S256x128 .f32 :=
  select mask (broadcast S256x128 (Scalar.ofBits .f32 on)) (broadcast S256x128 (Scalar.ofBits .f32 0x00000000#32))

variable (carry : Vec F S8x128 .f32)

def carried : Vec F S1x128 .f32 := VecWindow.window carry ![0, 0] S1x128.size inb_S8x128_S1x128_0_0

def tileQ (h : Fin 8) : Vec F S1x256x128 .bf16 :=
  tile (mulf (head (branchQ B) h) (broadcast S256x128 (Scalar.ofBits .f32 0x3E000000#32)))
    (place 66#32 (gateCol (k0_pay16 k0_pay7 (logs B) (carried carry)) h) (place 65#32 (gateCol (k0_pay15 k0_pay7 (logs B) (carried carry)) h)
      (place 64#32 (gateCol (k0_pay14 k0_pay7 (logs B) (carried carry)) h) (flag (within 67#32 70#32) 0x3F800000#32))))

def tileK (h : Fin 8) : Vec F S1x256x128 .bf16 :=
  tile (head (branchK B) h)
    (place 69#32 (gateCol (k0_pay23 k0_pay7 (logs B) (carried carry)) h) (place 68#32 (gateCol (k0_pay22 k0_pay7 (logs B) (carried carry)) h)
      (place 67#32 (gateCol (k0_pay21 k0_pay7 (logs B) (carried carry)) h) (flag (ori (within 64#32 67#32) (within 70#32 73#32)) 0x3F800000#32))))

def tileV (h : Fin 8) : Vec F S1x256x128 .bf16 := tile (head (branchV B) h) (flag (within 64#32 67#32) 0xBF800000#32)

def outQ : Vec F S8x256x128 .bf16 := stack (tileQ B carry)
def outK : Vec F S8x256x128 .bf16 := stack (tileK B carry)
def outV : Vec F S8x256x128 .bf16 := stack (tileV B)

/-- The gates cumulated up to the tile's end. -/
def stepCarry : Vec F S8x128 .f32 := VecWindow.put carry ![0, 0] S1x128.size (k0_pay10 k0_pay7 (logs B) (carried carry))

end

end Cert.Proof.Input
-- ==== Proof.Input.Body.lean ====
module

public import proofs.«01_k».proof.Defs
public import proofs.«01_k».proof.Proof.Input.Tile
public import proofs.«01_k».proof.Proof.Gen.Kernel5Ideal.Launch
public import proofs.«01_k».proof.Proof.Gen.Kernel5Ideal.Points
public import Idealize.ShloMosaic.Lib.Tactic
public import Idealize.ShloMosaic.Lib.Ring
public import Idealize.ShloMosaic.Lib.WordCmp

@[expose] public section

set_option maxRecDepth 65536

noncomputable section

/-!
# The kernel on one tile

Run on the blocks of a tile, the kernel leaves what `Tile` names; at the first point no gate is carried.
-/

namespace Cert.Proof.Input

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole buffer held at its contents. -/
abbrev held (c : Dev nD) {sp : Space} {s : Shape} {e : EltTy} (M : Memref sig .tc sp s e) (f : BufTy.Contents (Elt F) M.view.ty) : sProp 𝕄 :=
  M.view.loc (c : Thread nD τ) ↦[M.view.set]{fullShare} f

/-- At the first point the kernel starts from zeros. -/
def isFirst (i : grid0.Coords) : Prop := Scalar.cmpi .ne (Scalar.extui (Scalar.cmpi .eq (BitVec.ofNat 32 (i 0).val) 0#32) : BitVec 32) 0#32 = 1#1

instance (i : grid0.Coords) : Decidable (isFirst i) := by unfold isFirst; infer_instance

section body
variable (c : Dev nD) (i : grid0.Coords) (arg1 : Memref sig .tc .vmem S256x1024 .f32) (harg1 : arg1.IsWhole) (arg2 : Memref sig .tc .vmem S8x1024 .f32) (harg2 : arg2.IsWhole)
  (arg3 : Memref sig .tc .vmem S3072x1024 .bf16) (harg3 : arg3.IsWhole) (arg4 : Memref sig .tc .vmem S128x1024 .bf16) (harg4 : arg4.IsWhole)
  (arg5 : Memref sig .tc .vmem S1x3072 .f32) (harg5 : arg5.IsWhole) (arg6 : Memref sig .tc .vmem S1x128 .f32) (harg6 : arg6.IsWhole)
  (arg7 : Memref sig .tc .vmem S8x256x128 .bf16) (harg7 : arg7.IsWhole) (arg8 : Memref sig .tc .vmem S8x256x128 .bf16) (harg8 : arg8.IsWhole)
  (arg9 : Memref sig .tc .vmem S8x256x128 .bf16) (harg9 : arg9.IsWhole) (arg10 : Memref sig .tc .vmem S256x128 .f32) (harg10 : arg10.IsWhole)
  (arg11 : Memref sig .tc .vmem S256x512 .f32) (harg11 : arg11.IsWhole) (arg12 : Memref sig .tc .vmem S256x512 .f32) (harg12 : arg12.IsWhole)
  (arg13 : Memref sig .tc .vmem S256x512 .f32) (harg13 : arg13.IsWhole) (arg14 : Memref sig .tc .vmem S256x1024 .bf16) (harg14 : arg14.IsWhole)
  (arg15 : Memref sig .tc .vmem S8x128 .f32) (harg15 : arg15.IsWhole)
variable (B : Blocks F) (carry : Vec F S8x128 .f32)

set_option maxHeartbeats 16000000 in
/-- The blocks of a tile and what is carried determine what the kernel leaves. -/
theorem body_run (E : Set ℕ) (X1 X2 X3 X4 X5 X6 X15)
    (h1 : arg1.view.read (Elt F) X1 = B.x) (h2 : arg2.view.read (Elt F) X2 = B.mod) (h3 : arg3.view.read (Elt F) X3 = B.w) (h4 : arg4.view.read (Elt F) X4 = B.wf)
    (h5 : arg5.view.read (Elt F) X5 = B.b) (h6 : arg6.view.read (Elt F) X6 = B.bf)
    (h15 : (if isFirst i then k0_pay4 else arg15.view.read (Elt F) X15) = carry) :
    iprop(held c arg1 X1 ∗ held c arg2 X2 ∗ held c arg3 X3 ∗ held c arg4 X4 ∗ held c arg5 X5 ∗ held c arg6 X6
      ∗ (∃ g, held c arg7 g) ∗ (∃ g, held c arg8 g) ∗ (∃ g, held c arg9 g) ∗ (∃ g, held c arg10 g) ∗ (∃ g, held c arg11 g) ∗ (∃ g, held c arg12 g)
      ∗ (∃ g, held c arg13 g) ∗ (∃ g, held c arg14 g) ∗ held c arg15 X15 : sProp 𝕄) ⊢
      wp frame (wpE defs₀ Variants.none (c : Thread nD τ) none) E (cc0_inproj_forward (F := F) i arg1 harg1 arg2 harg2 arg3 harg3 arg4 harg4 arg5 harg5 arg6 harg6
          arg7 harg7 arg8 harg8 arg9 harg9 arg10 harg10 arg11 harg11 arg12 harg12 arg13 harg13 arg14 harg14 arg15 harg15)
        (fun _ => iprop(held c arg1 X1 ∗ held c arg2 X2 ∗ held c arg3 X3 ∗ held c arg4 X4 ∗ held c arg5 X5 ∗ held c arg6 X6
          ∗ (∃ g, held c arg7 g ∗ ⌜arg7.view.read (Elt F) g = outQ B carry⌝)
          ∗ (∃ g, held c arg8 g ∗ ⌜arg8.view.read (Elt F) g = outK B carry⌝)
          ∗ (∃ g, held c arg9 g ∗ ⌜arg9.view.read (Elt F) g = outV B⌝)
          ∗ (∃ g, held c arg10 g ∗ ⌜arg10.view.read (Elt F) g = outF B⌝)
          ∗ (∃ g, held c arg11 g ∗ ⌜arg11.view.read (Elt F) g = outP B⌝)
          ∗ (∃ g, held c arg12 g ∗ ⌜arg12.view.read (Elt F) g = outGa B⌝)
          ∗ (∃ g, held c arg13 g ∗ ⌜arg13.view.read (Elt F) g = outGp B⌝)
          ∗ (∃ g, held c arg14 g ∗ ⌜arg14.view.read (Elt F) g = outU B⌝)
          ∗ (∃ g, held c arg15 g ∗ ⌜arg15.view.read (Elt F) g = stepCarry B carry⌝))) := by
  iintro ⟨H1, H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, H15⟩
  rw [cc0_inproj_forward_eq_skeleton]
  unfold cc0_inproj_forward_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
  have z15 : arg15.view.read (Elt F) (if isFirst i then arg15.view.writes (Elt F) X15 [⟨Rect.unit (s := S8x128) ![0, 0] S8x128.size inb_S8x128_S8x128_0_0, k0_pay4⟩] else X15) = carry := by
    rw [← h15]
    split
    · exact View.read_writes_full _ _ _ _ _
    · rfl
  have e1 := (View.readAt_full arg1.view X1 (off := ![0, 0]) inb_S256x1024_S256x1024_0_0).trans h1
  have e4 := (View.readAt_full arg4.view X4 (off := ![0, 0]) inb_S128x1024_S128x1024_0_0).trans h4
  have e6 := (View.readAt_full arg6.view X6 (off := ![0, 0]) inb_S1x128_S1x128_0_0).trans h6
  sl_exec
  sl_step
  isplitl [H1]; · iexact H1
  isplitl [H2]; · iexact H2
  isplitl [H3]; · iexact H3
  isplitl [H4]; · iexact H4
  isplitl [H5]; · iexact H5
  isplitl [H6]; · iexact H6
  have r0 : body_run.sl.r arg2 B X2 = outU B := by
    delta body_run.sl.r
    simp only [outU, modRow0, modRow1, ← h2]
    rfl
  have r1 : body_run.sl.r_1 arg2 B X2 = logs B := by
    delta body_run.sl.r_1
    simp only [logs, modRow0, modRow1, ← h2]
    rfl
  have r55 : body_run.sl.v55 i arg15 X15 = carried carry := by
    delta body_run.sl.v55
    simp only [carried, ← z15]
    rfl
  have lw : ∀ (off : Fin 2 → ℕ) (inb : ∀ a, off a + S512x1024.size a ≤ S3072x1024.size a),
      arg3.view.readAt (Elt F) (Rect.unit (s := S3072x1024) off S512x1024.size inb).toLoadRect X3 = VecWindow.window B.w off S512x1024.size inb := by
    intro off inb
    rw [← h3]
    rfl
  have lb : ∀ (off : Fin 2 → ℕ) (inb : ∀ a, off a + S1x512.size a ≤ S1x3072.size a),
      arg5.view.readAt (Elt F) (Rect.unit (s := S1x3072) off S1x512.size inb).toLoadRect X5 = VecWindow.window B.b off S1x512.size inb := by
    intro off inb
    rw [← h5]
    rfl
  isplitl [H7]
  · iexists _
    isplitl [H7]; · iexact H7
    ipureintro
    dsimp only
    rw [View.read_writes_cons_put _ _ _ _ _ rfl, View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.read_writes_cons_put _ _ _ _ _ rfl]
    rw [r0, r1, r55, lw, lb]
    exact stack_puts (tileQ B carry) _
  isplitl [H8]
  · iexists _
    isplitl [H8]; · iexact H8
    ipureintro
    dsimp only
    rw [View.read_writes_cons_put _ _ _ _ _ rfl, View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.read_writes_cons_put _ _ _ _ _ rfl]
    rw [r0, r1, r55, lw, lb]
    exact stack_puts (tileK B carry) _
  isplitl [H9]
  · iexists _
    isplitl [H9]; · iexact H9
    ipureintro
    dsimp only
    rw [View.read_writes_cons_put _ _ _ _ _ rfl, View.read_writes_cons_put _ _ _ _ _ rfl, View.read_writes_cons_put _ _ _ _ _ rfl, View.read_writes_cons_put _ _ _ _ _ rfl,
      View.read_writes_cons_put _ _ _ _ _ rfl, View.read_writes_cons_put _ _ _ _ _ rfl, View.read_writes_cons_put _ _ _ _ _ rfl, View.read_writes_cons_put _ _ _ _ _ rfl]
    rw [r0, lw, lb]
    exact stack_puts (tileV B) _
  isplitl [H10]
  · iexists _
    isplitl [H10]; · iexact H10
    ipureintro
    rw [View.read_writes_full]
    dsimp only
    simp only [outF, modRow0, modRow1, ← h2]
    rfl
  isplitl [H11]
  · iexists _
    isplitl [H11]; · iexact H11
    ipureintro
    rw [View.read_writes_full]
    first | rw [r0, lw, lb] | (dsimp only; rw [r0, lw, lb])
    rfl
  isplitl [H12]
  · iexists _
    isplitl [H12]; · iexact H12
    ipureintro
    rw [View.read_writes_full]
    first | rw [r0, lw, lb] | (dsimp only; rw [r0, lw, lb])
    rfl
  isplitl [H13]
  · iexists _
    isplitl [H13]; · iexact H13
    ipureintro
    rw [View.read_writes_full]
    first | rw [r0, lw, lb] | (dsimp only; rw [r0, lw, lb])
    rfl
  isplitl [H14]
  · iexists _
    isplitl [H14]; · iexact H14
    ipureintro
    rw [View.read_writes_full]
    dsimp only
    exact r0
  · iexists _
    isplitl [H15]; · iexact H15
    ipureintro
    rw [View.read_writes_cons_put _ _ _ _ _ rfl, r1, r55]
    exact congrArg (fun z : Vec F S8x128 .f32 => VecWindow.put z ![0, 0] S1x128.size (k0_pay10 k0_pay7 (logs B) (carried carry))) z15
end body

end Cert.Proof.Input
-- ==== Proof.Input.Launch.lean ====
module

public import proofs.«01_k».proof.Defs
public import proofs.«01_k».proof.Proof.Input.Body
public import proofs.«01_k».proof.Proof.Gen.Kernel5Ideal.Frame
public import Idealize.ShloMosaic.Lib.Claim

@[expose] public section

set_option maxRecDepth 16384

noncomputable section

/-!
# The run over the tiles

The sixteen points go from the first tile to the last. The gates cumulated so far stay in a scratch buffer.
-/

namespace Cert.Proof.Input

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks of point `t`. -/
def blocks (c : Dev nD) (t : Fin cfg0.N) : Blocks F :=
  ⟨iblk m c 0 t, iblk m c 1 t, iblk m c 2 t, iblk m c 3 t, iblk m c 4 t, iblk m c 5 t⟩

/-- The gates carried into point `n`. -/
def carry (c : Dev nD) : (n : ℕ) → n ≤ cfg0.N → Vec F S8x128 .f32
  | 0, _ => k0_pay4
  | n + 1, h => stepCarry (blocks m c ⟨n, h⟩) (carry c n (Nat.le_of_lt h))

abbrev carryAt (c : Dev nD) (t : Fin cfg0.N) : Vec F S8x128 .f32 := carry m c t.val (Nat.le_of_lt t.isLt)
abbrev carryAfter (c : Dev nD) (t : Fin cfg0.N) : Vec F S8x128 .f32 := carry m c (t.val + 1) t.isLt

theorem first_iff : ∀ t : Fin cfg0.N, isFirst (grid0.coords t) ↔ t.val = 0 := by decide +kernel

/-- The scratch buffer of the carry. -/
abbrev scratch : Memref sig .tc .vmem S8x128 .f32 := Memref.whole cc0_scratch0

/-- Before the first point the scratch holds anything, later the carry. -/
def phi (c : Dev nD) : (n : ℕ) → n ≤ cfg0.N → sProp 𝕄
  | 0, _ => Pipeline.ΦA spec0 c
  | n + 1, h => iprop(owns (c : Thread nD τ) scratch fullShare (carry m c (n + 1) h) ∗ (∃ r, prngReg c r))

/-- What the region holds of core `c`: each input block stays, each result block holds what the kernel leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (blocks m c t) (carryAt m c t)
    | ⟨7, _⟩ => outK (blocks m c t) (carryAt m c t)
    | ⟨8, _⟩ => outV (blocks m c t)
    | ⟨9, _⟩ => outF (blocks m c t)
    | ⟨10, _⟩ => outP (blocks m c t)
    | ⟨11, _⟩ => outGa (blocks m c t)
    | ⟨12, _⟩ => outGp (blocks m c t)
    | ⟨13, _⟩ => outU (blocks m c t)
    | ⟨_ + 14, h⟩ => absurd h (Nat.not_lt.2 (Nat.le_add_left _ _))
  Φ t := phi m c t.val (Nat.le_of_lt_succ t.isLt)
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = outQ (blocks m c t) (carryAt m c t) := by dsimp only [dats]
theorem after0_7 : (dats m 0 c).after 7 t = outK (blocks m c t) (carryAt m c t) := by dsimp only [dats]
theorem after0_8 : (dats m 0 c).after 8 t = outV (blocks m c t) := by dsimp only [dats]
theorem after0_9 : (dats m 0 c).after 9 t = outF (blocks m c t) := by dsimp only [dats]
theorem after0_10 : (dats m 0 c).after 10 t = outP (blocks m c t) := by dsimp only [dats]
theorem after0_11 : (dats m 0 c).after 11 t = outGa (blocks m c t) := by dsimp only [dats]
theorem after0_12 : (dats m 0 c).after 12 t = outGp (blocks m c t) := by dsimp only [dats]
theorem after0_13 : (dats m 0 c).after 13 t = outU (blocks m c t) := by dsimp only [dats]

theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d

theorem carryAt_first {t : Fin cfg0.N} (ht : t.val = 0) : carryAt m c t = k0_pay4 := by
  obtain ⟨n, hn⟩ := t
  subst ht
  rfl
end

/-- The scratch buffer before and after a point. -/
theorem phi_before (c : Dev nD) (t : Fin cfg0.N) : (dats m 0 c).Φ t.castSucc
    ⊢ iprop((∃ g, ⌜(if isFirst (grid0.coords t) then k0_pay4 else scratch.view.read (Elt F) g) = (carryAt m c t)⌝ ∗ held c scratch g) ∗ (∃ r, prngReg c r)) := by
  rw [show (dats m 0 c).Φ t.castSucc = phi m c t.val (Nat.le_of_lt t.isLt) from rfl]
  obtain ⟨n, hn⟩ := t
  cases n with
  | zero =>
    unfold phi Pipeline.ΦA; rw [scopedRest0_eq]
    iintro ⟨⟨%g, H⟩, Hg⟩
    isplitl [H]
    · iexists g
      isplitr
      · ipureintro
        rw [if_pos ((first_iff _).2 rfl)]
        rfl
      · simp only [held, Memref.view_whole, View.set_whole]
        iexact H
    · iexact Hg
  | succ n =>
    unfold phi owns
    iintro ⟨⟨%g, %e, H⟩, Hg⟩
    isplitl [H]
    · iexists g
      isplitr
      · ipureintro
        rw [if_neg (fun h => Nat.succ_ne_zero n ((first_iff _).1 h))]
        exact e
      · iexact H
    · iexact Hg

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = phi m c 16 (by decide) from rfl]
  unfold phi owns Pipeline.ΦA; rw [scopedRest0_eq]
  iintro ⟨⟨%g, %e, H⟩, Hg⟩
  isplitl [H]
  · iexists g
    simp only [Memref.view_whole, View.set_whole]
    iexact H
  · iexact Hg

/-- The buffers the kernel works on at point `t`. -/
abbrev st0 (t : Fin cfg0.N) : Memref sig .tc .vmem S256x1024 .f32 := win0_0.stage (cfg0.slots t 0)
abbrev st1 (t : Fin cfg0.N) : Memref sig .tc .vmem S8x1024 .f32 := win0_1.stage (cfg0.slots t 1)
abbrev st2 (t : Fin cfg0.N) : Memref sig .tc .vmem S3072x1024 .bf16 := win0_2.stage (cfg0.slots t 2)
abbrev st3 (t : Fin cfg0.N) : Memref sig .tc .vmem S128x1024 .bf16 := win0_3.stage (cfg0.slots t 3)
abbrev st4 (t : Fin cfg0.N) : Memref sig .tc .vmem S1x3072 .f32 := win0_4.stage (cfg0.slots t 4)
abbrev st5 (t : Fin cfg0.N) : Memref sig .tc .vmem S1x128 .f32 := win0_5.stage (cfg0.slots t 5)
abbrev st6 (t : Fin cfg0.N) : Memref sig .tc .vmem S8x256x128 .bf16 := win0_6.stage (cfg0.slots t 6)
abbrev st7 (t : Fin cfg0.N) : Memref sig .tc .vmem S8x256x128 .bf16 := win0_7.stage (cfg0.slots t 7)
abbrev st8 (t : Fin cfg0.N) : Memref sig .tc .vmem S8x256x128 .bf16 := win0_8.stage (cfg0.slots t 8)
abbrev st9 (t : Fin cfg0.N) : Memref sig .tc .vmem S256x128 .f32 := win0_9.stage (cfg0.slots t 9)
abbrev st10 (t : Fin cfg0.N) : Memref sig .tc .vmem S256x512 .f32 := win0_10.stage (cfg0.slots t 10)
abbrev st11 (t : Fin cfg0.N) : Memref sig .tc .vmem S256x512 .f32 := win0_11.stage (cfg0.slots t 11)
abbrev st12 (t : Fin cfg0.N) : Memref sig .tc .vmem S256x512 .f32 := win0_12.stage (cfg0.slots t 12)
abbrev st13 (t : Fin cfg0.N) : Memref sig .tc .vmem S256x1024 .bf16 := win0_13.stage (cfg0.slots t 13)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl, after0_0, after0_1, after0_2, after0_3, after0_4, after0_5, after0_6, after0_7, after0_8,
    after0_9, after0_10, after0_11, after0_12, after0_13,
    show (dats m 0 c).Φ t.succ = iprop(owns (c : Thread nD τ) scratch fullShare (carryAfter m c t) ∗ (∃ r, prngReg c r)) from rfl]
  unfold owns
  iintro ⟨HP, Ho, ⟨%d0, ⟨%f0, %e0, H0⟩⟩, ⟨%d1, ⟨%f1, %e1, H1⟩⟩, ⟨%d2, ⟨%f2, %e2, H2⟩⟩, ⟨%d3, ⟨%f3, %e3, H3⟩⟩, ⟨%d4, ⟨%f4, %e4, H4⟩⟩, ⟨%d5, ⟨%f5, %e5, H5⟩⟩, ⟨%d6, ⟨%f6, %e6, H6⟩⟩, ⟨%d7, ⟨%f7, %e7, H7⟩⟩, ⟨%d8, ⟨%f8, %e8, H8⟩⟩, ⟨%d9, ⟨%f9, %e9, H9⟩⟩, ⟨%d10, ⟨%f10, %e10, H10⟩⟩, ⟨%d11, ⟨%f11, %e11, H11⟩⟩, ⟨%d12, ⟨%f12, %e12, H12⟩⟩, ⟨%d13, ⟨%f13, %e13, H13⟩⟩⟩
  ihave HP := (phi_before m c t) $$ HP
  icases HP with ⟨⟨%g, %e, HS⟩, Hg⟩
  iapply (wp_wand_r frame (wpE (defs₀ (F := F)) Variants.none c none) Set.univ)
  isplitl [H0 H1 H2 H3 H4 H5 H6 H7 H8 H9 H10 H11 H12 H13 HS]
  · iapply (body_run c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3))
       (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7))
       (st8 t) (hstage0_8 ((cfg0.slots t 8).cast nbuf0_8)) (st9 t) (hstage0_9 ((cfg0.slots t 9).cast nbuf0_9)) (st10 t) (hstage0_10 ((cfg0.slots t 10).cast nbuf0_10)) (st11 t) (hstage0_11 ((cfg0.slots t 11).cast nbuf0_11))
       (st12 t) (hstage0_12 ((cfg0.slots t 12).cast nbuf0_12)) (st13 t) (hstage0_13 ((cfg0.slots t 13).cast nbuf0_13)) scratch (Memref.isWhole_whole _) (blocks m c t) (carryAt m c t) Set.univ
      f0 f1 f2 f3 f4 f5 g e0 e1 e2 e3 e4 e5 e)
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [H7]; · iexists f7; iexact H7
    isplitl [H8]; · iexists f8; iexact H8
    isplitl [H9]; · iexists f9; iexact H9
    isplitl [H10]; · iexists f10; iexact H10
    isplitl [H11]; · iexists f11; iexact H11
    isplitl [H12]; · iexists f12; iexact H12
    isplitl [H13]; · iexists f13; iexact H13
    iexact HS
  iintro %a ⟨H0, H1, H2, H3, H4, H5, ⟨%g6, H6, %i6⟩, ⟨%g7, H7, %i7⟩, ⟨%g8, H8, %i8⟩, ⟨%g9, H9, %i9⟩, ⟨%g10, H10, %i10⟩, ⟨%g11, H11, %i11⟩, ⟨%g12, H12, %i12⟩, ⟨%g13, H13, %i13⟩, ⟨%gs, HS, %is⟩⟩
  isplitl [Hg HS]
  · isplitr [Hg]
    · iexists gs; isplitr
      · ipureintro; exact is
      · iexact HS
    · iexact Hg
  isplitl [Ho]; · iexact Ho
  isplitl [H0]
  · iexists f0; isplitr
    · ipureintro; exact e0
    · iexact H0
  isplitl [H1]
  · iexists f1; isplitr
    · ipureintro; exact e1
    · iexact H1
  isplitl [H2]
  · iexists f2; isplitr
    · ipureintro; exact e2
    · iexact H2
  isplitl [H3]
  · iexists f3; isplitr
    · ipureintro; exact e3
    · iexact H3
  isplitl [H4]
  · iexists f4; isplitr
    · ipureintro; exact e4
    · iexact H4
  isplitl [H5]
  · iexists f5; isplitr
    · ipureintro; exact e5
    · iexact H5
  isplitl [H6]
  · iexists g6; isplitr
    · ipureintro; exact i6
    · iexact H6
  isplitl [H7]
  · iexists g7; isplitr
    · ipureintro; exact i7
    · iexact H7
  isplitl [H8]
  · iexists g8; isplitr
    · ipureintro; exact i8
    · iexact H8
  isplitl [H9]
  · iexists g9; isplitr
    · ipureintro; exact i9
    · iexact H9
  isplitl [H10]
  · iexists g10; isplitr
    · ipureintro; exact i10
    · iexact H10
  isplitl [H11]
  · iexists g11; isplitr
    · ipureintro; exact i11
    · iexact H11
  isplitl [H12]
  · iexists g12; isplitr
    · ipureintro; exact i12
    · iexact H12
  iexists g13; isplitr
  · ipureintro; exact i13
  · iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: every result array holds the blocks the kernel left, and all counters are zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Input
-- ==== Proof.Input.Words.lean ====
module

public import proofs.«01_k».proof.Defs
public import proofs.«01_k».proof.Proof.Input.Launch
public import proofs.«01_k».proof.Proof.Gen.Kernel5.Launch
public import proofs.«01_k».proof.Proof.Attention.Words
public import Idealize.ShloMosaic.Lib.Tactic

@[expose] public section

set_option maxRecDepth 65536

noncomputable section

namespace Cert.Proof.Input

open Idealize.ShloMosaic Idealize.ShloMosaic.TcCoe Idealize.ShloMosaic.Tactic
open Idealize.SL Idealize.SL.Sem

theorem defs_word : Cert.Kernel5.defs (F := Bits) = Cert.Kernel5Ideal.defs (F := Bits) := by
  sl_kernel_rfl

theorem main_word : Cert.Kernel5.main (F := Bits) = Cert.Kernel5Ideal.main (F := Bits) := by
  sl_kernel_rfl

set_option maxHeartbeats 4000000 in
/-- The printed program is the other one read over the words. -/
theorem frame_word (m : (ℓ : Loc Cert.Kernel5.nD Cert.Kernel5.τ Cert.Kernel5.sig) → Buf (Elt Bits) ℓ) (g : Dev Cert.Kernel5.nD → PrngReg) :
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0) := by
  rw [defs_word, main_word]
  exact frame (F := Bits) m g

end Cert.Proof.Input
-- ==== Proof.Input.Numbers.lean ====
module

public import proofs.«01_k».proof.Proof.Gen.Reference5Ideal.Read
public import proofs.«01_k».proof.Proof.Projection.Reference

/-! What the reference of the input projection computes, entry by entry. -/

@[expose] public section

set_option maxRecDepth 16384

noncomputable section

namespace Cert.Proof.Input

open Finset Idealize.ShloMosaic Cert.Reference5Ideal Cert.Reference5Ideal.Gen Cert.Reference5Ideal.Read Cert.Proof.Attention
open Cert.Proof.Projection (Arr Mat ext ext_of_lt ext_of_le real_sum foldl_add_sum)
open Cert.Proof.Projection.Data (column logit)

/-- The arguments, in their order. -/
structure Args where
  x0 : Arr S4096x1024
  (x1 x2 : Arr S1x1024)
  x3 : Arr S1024x3080
  x4 : Arr S3080

/-- Every argument is made of numbers. -/
structure Args.Real (A : Args) : Prop where
  r0 : ∀ i, IsReal (A.x0 i)
  r1 : ∀ i, IsReal (A.x1 i)
  r2 : ∀ i, IsReal (A.x2 i)
  r3 : ∀ i, IsReal (A.x3 i)
  r4 : ∀ i, IsReal (A.x4 i)

/-- The sum up to token `n`. -/
def upTo (g : Fin 4096 → ℝ) (n : ℕ) : ℝ := ∑ k ∈ range n, ext g k

theorem sum_shift (G : ℕ → ℝ) (N s : ℕ) (hs : s ≤ N) :
    ∑ k ∈ range (N + 1), (if N ≤ s + k then G (s + k - N) else 0) = ∑ k ∈ range (s + 1), G k := by
  obtain ⟨d, rfl⟩ := Nat.exists_eq_add_of_le hs
  have e : range (s + d + 1) = range (d + (s + 1)) := by congr 1; omega
  rw [e, sum_range_add, sum_eq_zero fun k hk => if_neg (by have := mem_range.1 hk; omega), zero_add]
  refine sum_congr rfl fun k _ => ?_
  rw [if_pos (by omega)]
  congr 1
  omega

theorem upTo_shift (g : Fin 4096 → ℝ) (s : ℕ) (hs : s < 4096) :
    ∑ k ∈ range 4096, (if 4095 ≤ s + k then ext g (s + k - 4095) else 0) = upTo g (s + 1) :=
  sum_shift (ext g) 4095 s (by omega)

/-- The sum up to a token of a tile: up to the tile, and inside it. -/
theorem upTo_tile (g : Fin 4096 → ℝ) (t : Fin 16) (r : Fin 256) :
    upTo g (256 * t.val + r.val + 1) = ∑ k : Fin 256, (if k ≤ r then 1 else 0) * g ⟨256 * t.val + k.val, by omega⟩ + upTo g (256 * t.val) := by
  unfold upTo
  rw [add_assoc, sum_range_add, add_comm]
  refine congrArg (· + _) ?_
  have e : ∑ k : Fin 256, (if k ≤ r then (1 : ℝ) else 0) * g ⟨256 * t.val + k.val, by omega⟩
      = ∑ k : Fin 256, (fun n : ℕ => if n < r.val + 1 then ext g (256 * t.val + n) else 0) k.val :=
    sum_congr rfl fun k _ => by
      dsimp only
      rw [ext_of_lt g (n := 256 * t.val + k.val) (by omega)]
      by_cases h : k ≤ r
      · rw [if_pos h, if_pos (by have := Fin.le_def.1 h; omega), one_mul]
      · rw [if_neg h, if_neg (by rw [Fin.le_def] at h; omega), zero_mul]
  rw [e, Fin.sum_univ_eq_sum_range (fun n : ℕ => if n < r.val + 1 then ext g (256 * t.val + n) else 0) 256, ← sum_filter]
  refine sum_congr (Finset.ext fun n => ?_) fun _ _ => rfl
  simp only [mem_range, mem_filter]
  omega

/-- A sum over a window of 4096 rows that ends at a row, zero before the first. -/
theorem window_upTo {n : ℕ} (x : (Mat 4096 n).Idx → EReal) (X : Fin 4096 → Fin n → ℝ)
    {u : Shape} (init : u.Idx → EReal) (hu : 0 < u.numel) (hz : init (Shape.Idx.first hu) = 0)
    (h : (Mat 4096 n).ReduceWindows ![4096, 1] ![1, 1] ![4095, 0] ![0, 0] (Mat 4096 n))
    (hx : ∀ s c, x (ix2 s c) = ↑(X s c)) (s : Fin 4096) (c : Fin n) :
    Host.reduceWindowAdd (F := Ideal) (φ := .f32) ![4096, 1] ![1, 1] ![4095, 0] ![0, 0] x init h hu (ix2 s c)
      = ↑(upTo (fun r => X r c) (s.val + 1)) := by
  unfold Host.reduceWindowAdd
  rw [Ideal.hostReduceWindowAdd_def]
  unfold Ideal.hostReduceWindowAdd Host.reduceWindow
  dsimp only
  rw [hz, foldl_add_sum, zero_add, ← Fin.sum_univ_def,
    ← Equiv.sum_comp (Shape.rowMajor ⟨2, ![4096, 1]⟩)]
  simp only [Equiv.symm_apply_apply]
  rw [sum_idx2]
  simp only [Fin.sum_univ_one]
  rw [← upTo_shift _ _ s.isLt, coe_sum, ← Fin.sum_univ_eq_sum_range
    (fun k => ((if 4095 ≤ s.val + k then ext (fun r => X r c) (s.val + k - 4095) else 0 : ℝ) : EReal)) 4096]
  refine sum_congr rfl fun k _ => ?_
  by_cases hk : 4095 ≤ s.val + k.val
  · rw [if_pos hk, ext_of_lt _ (by omega), ← hx]
    rw [dif_pos]
    · congr 1
      refine funext fun e => Fin.ext ?_
      match e with
      | ⟨0, _⟩ => show s.val * 1 + k.val - 4095 = s.val + k.val - 4095; omega
      | ⟨1, _⟩ => show c.val * 1 + 0 - 0 = c.val; omega
    · intro e
      match e with
      | ⟨0, _⟩ => exact ⟨by show 4095 ≤ s.val * 1 + k.val; omega, by show s.val * 1 + k.val - 4095 < 4096; omega⟩
      | ⟨1, _⟩ => exact ⟨Nat.zero_le _, by show c.val * 1 + 0 - 0 < n; omega⟩
  · rw [if_neg hk, EReal.coe_zero]
    rw [dif_neg]
    intro e
    have e0 : 4095 ≤ s.val * 1 + k.val := (e 0).1
    omega

namespace Args

variable (A : Args)

/-- The modulated input, its projection, and the gates' logits. -/
abbrev modulated : Arr S4096x1024 := val_main_v5 (F := Ideal) A.x0 A.x1 A.x2
abbrev projected : Arr S4096x3080 := val_main_v9 (F := Ideal) A.x0 A.x1 A.x2 A.x3 A.x4
abbrev logits : Arr S4096x8 := val_main_v13 (F := Ideal) A.x0 A.x1 A.x2 A.x3 A.x4

def f (s : Fin 4096) (h : Fin 8) : ℝ := (A.logits (ix2 s h)).toReal

/-- The gate's logarithm, -/
def decay (s : Fin 4096) (h : Fin 8) : ℝ := min (A.f s h) 0 - Real.log (1 + Real.exp (-(max (A.f s h) (-(A.f s h)))))
/-- and its sum up to and with a token. -/
def cum (s : Fin 4096) (h : Fin 8) : ℝ := upTo (fun r => A.decay r h) (s.val + 1)

/-- A head's packed lanes: its columns, the gates and constants. -/
def laneQ (h : Fin 8) (s : Fin 4096) (e : Fin 128) : EReal :=
  if he : e.val < 64 then A.projected (ix2 s (column 0 ⟨64 * h.val + e.val, by omega⟩)) * Ideal.ofBits .f32 0x3E000000#32
  else if e.val = 64 then A.cum s h else if e.val < 67 then 0 else if e.val < 70 then 1 else 0
def laneK (h : Fin 8) (s : Fin 4096) (e : Fin 128) : EReal :=
  if he : e.val < 64 then A.projected (ix2 s (column 1 ⟨64 * h.val + e.val, by omega⟩))
  else if e.val < 67 then 1 else if e.val = 67 then -(A.cum s h : EReal) else if e.val < 70 then 0 else if e.val < 73 then 1 else 0
def laneV (h : Fin 8) (s : Fin 4096) (e : Fin 128) : EReal :=
  if he : e.val < 64 then A.projected (ix2 s (column 2 ⟨64 * h.val + e.val, by omega⟩))
  else if e.val < 67 then Ideal.ofBits .f32 0xBF800000#32 else 0

end Args

variable {A : Args}

theorem logits_at (s : Fin 4096) (h : Fin 8) : A.logits (ix2 s h) = A.projected (ix2 s (logit h)) := by
  pointwise [Args.logits, val_main_v13]
  rfl

section Numbers

variable (H : A.Real)

include H

theorem f_eq (s : Fin 4096) (h : Fin 8) : A.logits (ix2 s h) = ↑(A.f s h) := by
  show IsReal _
  have hu : ∀ j, IsReal (A.modulated (ix2 s j)) := fun j => by
    pointwise [Args.modulated, val_main_v5, val_main_v3, val_main_v4, val_main_v2, val_main_v1, val_main_v0, val_main_cst]
    exact .add (.mul (H.r0 _) (.add (.of_eq (r := 1) (by simp)) (H.r2 _))) (H.r1 _)
  pointwise [Args.logits, val_main_v13, val_main_v9, val_main_v8, val_main_v7, val_main_v6]
  exact .add (real_sum fun k => .mul (hu k) (H.r3 _)) (H.r4 _)

theorem decay_eq (s : Fin 4096) (h : Fin 8) : val_main_v17 (F := Ideal) A.x0 A.x1 A.x2 A.x3 A.x4 (ix2 s h) = ↑(A.decay s h) := by
  have hz : val_main_call0_v0 (F := Ideal) A.x0 A.x1 A.x2 A.x3 A.x4 (ix2 s h) = ↑(-(A.f s h)) := by
    rw [val_main_call0_v0_apply, EReal.coe_neg, ← f_eq H]; rfl
  unfold Args.decay
  generalize A.f s h = f at hz ⊢
  have h3 : val_main_call0_call0_v3 (F := Ideal) A.x0 A.x1 A.x2 A.x3 A.x4 (ix2 s h) = ↑(-f) := by
    rw [val_main_call0_call0_v3_apply, val_main_call0_call0_v2_apply, val_main_call0_call0_cst_apply, hz,
      Ideal.subf_def, Ideal.ofBits_def, Ideal.ofBits_zero_f32, sub_zero]
  have h4 : val_main_call0_call0_v4 (F := Ideal) A.x0 A.x1 A.x2 A.x3 A.x4 (ix2 s h) = 0#1 := by
    rw [val_main_call0_call0_v4_apply]
    show Ideal.cmp .une _ _ = 0#1
    simp [Ideal.cmp]
  have ho : val_main_call0_v1 (F := Ideal) A.x0 A.x1 A.x2 A.x3 A.x4 (ix2 s h)
      = ↑(max (-f) 0 + Real.log (1 + Real.exp (-(max (-f) (- -f))))) := by
    rw [val_main_call0_v1_apply, h4]
    show val_main_call0_call0_v11 (F := Ideal) A.x0 A.x1 A.x2 A.x3 A.x4 (ix2 s h) = _
    rw [val_main_call0_call0_v11_apply, val_main_call0_call0_v1_apply, val_main_call0_call0_v0_apply, val_main_call0_call0_cst_apply, hz,
      val_main_call0_call0_v10_apply, val_main_call0_call0_v9_apply, val_main_call0_call0_v8_apply, val_main_call0_call0_v7_apply, h3]
    show max (((-f : ℝ) : EReal)) (Ideal.ofBits .f32 0#32)
      + Ideal.log (1 + Ideal.exp (-(max (((-f : ℝ) : EReal)) (-((-f : ℝ) : EReal))))) = _
    have hm (a b : ℝ) : max (a : EReal) (b : EReal) = ((max a b : ℝ) : EReal) := (EReal.coe_strictMono.monotone.map_max).symm
    rw [Ideal.ofBits_zero_f32, ← EReal.coe_zero, ← EReal.coe_neg, hm, hm, ← EReal.coe_neg, Ideal.exp_coe, ← EReal.coe_one, ← EReal.coe_add,
      log_coe_pos (by positivity), ← EReal.coe_add]
  rw [val_main_v17_apply, ho]
  show -(_ : EReal) = _
  rw [← EReal.coe_neg, neg_neg, max_comm (-f) f]
  congr 1
  rcases le_total f 0 with hf | hf
  · rw [min_eq_left hf, max_eq_left (by linarith : (0 : ℝ) ≤ -f)]; ring
  · rw [min_eq_right hf, max_eq_right (by linarith : -f ≤ 0)]; ring

theorem cum_eq (s : Fin 4096) (h : Fin 8) : val_main_v18 (F := Ideal) A.x0 A.x1 A.x2 A.x3 A.x4 (ix2 s h) = ↑(A.cum s h) := by
  unfold val_main_v18
  refine window_upTo (val_main_v17 (F := Ideal) A.x0 A.x1 A.x2 A.x3 A.x4) (fun s h => A.decay s h) _ _ ?_ _ (fun s h => decay_eq H s h) s h
  rw [val_main_call1_call0_v0_apply, val_main_call1_call0_cst_apply, Ideal.ofBits_def, Ideal.ofBits_zero_f32]

end Numbers

end Cert.Proof.Input
-- ==== Proof.Input.Finite.lean ====
module

public import proofs.«01_k».proof.Defs
public import proofs.«01_k».proof.Proof.Gen.Pre_finite5
public import proofs.«01_k».proof.Proof.Attention.Finite
public import proofs.«01_k».proof.Proof.Input.Numbers

@[expose] public section

noncomputable section

/-! # The precondition of the projection's claim -/

namespace Cert.Proof.Input

open Idealize.ShloMosaic Cert.Proof.Attention Cert.Pre_finite5 Cert.Pre_finite5.Gen

theorem numbers_of_finite5 {A : Args} (h : Cert.Pre_finite5.fn (F := Ideal) A.x0 A.x1 A.x2 A.x3 A.x4 = fun _ => 1#1) : A.Real := by
  have h0 := congrFun h (fun a => a.elim0)
  dsimp only [Cert.Pre_finite5.fn, Cert.Pre_finite5.fn_part1] at h0
  obtain ⟨h0, g4⟩ := and_one h0
  obtain ⟨h0, g3⟩ := and_one h0
  obtain ⟨h0, g2⟩ := and_one h0
  obtain ⟨g0, g1⟩ := and_one h0
  exact ⟨fun i => isReal_of_abs_lt (Host.reduce_andi_all _ _ _ _ _ g0 i), fun i => isReal_of_abs_lt (Host.reduce_andi_all _ _ _ _ _ g1 i),
    fun i => isReal_of_abs_lt (Host.reduce_andi_all _ _ _ _ _ g2 i), fun i => isReal_of_abs_lt (Host.reduce_andi_all _ _ _ _ _ g3 i),
    fun i => isReal_of_abs_lt (Host.reduce_andi_all _ _ _ _ _ g4 i)⟩

end Cert.Proof.Input
-- ==== Proof.Input.Host.lean ====
module

public import proofs.«01_k».proof.Proof.Gen.Kernel5Ideal.Frame
public import proofs.«01_k».proof.Proof.Input.Numbers
public import Idealize.ShloMosaic.Lib.StableHlo.RunRead

@[expose] public section

set_option maxRecDepth 16384

noncomputable section

/-! # The arrays the launch reads, entry by entry -/

namespace Cert.Proof.Input

open Idealize.ShloMosaic Cert.Kernel5Ideal Cert.Kernel5Ideal.Gen Cert.Proof.Attention
open Cert.Proof.Projection (pad_inside pad_row_outside pad_column_outside)
open Cert.Proof.Projection.Data (column logit)

variable (m : (ℓ : Loc nD τ sig) → Buf (Elt Ideal) ℓ) (c : Dev nD)

/-- The arguments. -/
def args : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)

def blank : FVec Ideal S_ .f32 := sitofp .f32 (constantI S_ 32 0#32)

theorem blank_at (i : S_.Idx) : blank i = 0 := by
  show (((0#32 : BitVec 32).toInt : ℝ) : EReal) = 0
  simp

/-- The modulation in two of eight rows. -/
def modulation (A : Args) : FVec Ideal S8x1024 .f32 :=
  concatenate S8x1024 0
    [⟨S1x1024, addf (broadcastInDim S1x1024 ![] bcast_S_S1x1024 (constant S_ .f32 1065353216#32)) A.x2⟩, ⟨S1x1024, A.x1⟩,
     ⟨S6x1024, broadcastInDim S6x1024 ![] bcast_S_S6x1024 (constant (F := Ideal) S_ .f32 0#32)⟩]
    concatenates_S1x1024_S1x1024_S6x1024_S8x1024_d0

/-- The projection's columns as rows, without the gates' logits, and these alone. -/
def flipped (x : FVec Ideal S1024x3080 .f32) : FVec Ideal S3080x1024 .f32 := transpose S3080x1024 [1, 0] x transposes_S1024x3080_S3080x1024_1_0
def weights (A : Args) : FVec Ideal S3072x1024 .bf16 :=
  truncf .bf16 (concatenate S3072x1024 0
    [⟨S1536x1024, extractStridedSlice S1536x1024 ![0, 0] (flipped A.x3) slices_S3080x1024_S1536x1024_0_0⟩,
     ⟨S1536x1024, extractStridedSlice S1536x1024 ![1544, 0] (flipped A.x3) slices_S3080x1024_S1536x1024_1544_0⟩]
    concatenates_S1536x1024_S1536x1024_S3072x1024_d0) bitsLt_bf16_f32
def logitWeights (A : Args) : FVec Ideal S128x1024 .bf16 :=
  truncf .bf16 (pad S128x1024 ![0, 0] ![120, 0] ![0, 0] (extractStridedSlice S8x1024 ![1536, 0] (flipped A.x3) slices_S3080x1024_S8x1024_1536_0)
    blank pads_S8x1024_S128x1024_01200_000 h_S_) bitsLt_bf16_f32
/-- The same of its bias. -/
def row (x : FVec Ideal S3080 .f32) : FVec Ideal S1x3080 .f32 := broadcastInDim S1x3080 ![1] bcast_S3080_S1x3080_1 x
def bias (A : Args) : FVec Ideal S1x3072 .f32 :=
  concatenate S1x3072 1
    [⟨S1x1536, extractStridedSlice S1x1536 ![0, 0] (row A.x4) slices_S1x3080_S1x1536_0_0⟩,
     ⟨S1x1536, extractStridedSlice S1x1536 ![0, 1544] (row A.x4) slices_S1x3080_S1x1536_0_1544⟩]
    concatenates_S1x1536_S1x1536_S1x3072_d1
def logitBias (A : Args) : FVec Ideal S1x128 .f32 :=
  pad S1x128 ![0, 0] ![0, 120] ![0, 0] (extractStridedSlice S1x8 ![0, 1536] (row A.x4) slices_S1x3080_S1x8_0_1536)
    blank pads_S1x8_S1x128_000_01200 h_S_

theorem read_x : V (F := Ideal) m c main_arg0 = (args m c).x0 := by after_reads_simp; rfl

theorem read_mod : V (F := Ideal) m c main_v3 = modulation (args m c) := by
  after_reads_simp [Matrix.cons_val, StableHlo.readPieces]
  rfl

theorem read_w : V (F := Ideal) m c main_v16 = weights (args m c) := by
  after_reads_simp [Matrix.cons_val, StableHlo.readPieces]
  rfl

theorem read_wf : V (F := Ideal) m c main_v17 = logitWeights (args m c) := by
  after_reads_simp [Matrix.cons_val, StableHlo.readPieces]
  rfl

theorem read_b : V (F := Ideal) m c main_v13 = bias (args m c) := by
  after_reads_simp [Matrix.cons_val, StableHlo.readPieces]
  rfl

theorem read_bf : V (F := Ideal) m c main_v15 = logitBias (args m c) := by
  after_reads_simp [Matrix.cons_val, StableHlo.readPieces]
  rfl

/-! ## Their entries -/

variable (A : Args)

theorem scale_at (j : Fin 1024) : modulation A (ix2 0 j) = Cert.Reference5Ideal.Read.val_main_v1 (F := Ideal) A.x2 (ix2 0 j) := by
  unfold modulation
  pointwise [Cert.Reference5Ideal.Read.val_main_v1, Cert.Reference5Ideal.Read.val_main_v0, Cert.Reference5Ideal.Read.val_main_cst]

theorem shift_at (j : Fin 1024) : modulation A (ix2 1 j) = A.x1 (ix2 0 j) := by
  unfold modulation
  pointwise []

theorem weights_at (k : Fin 6) (q : Fin 512) (j : Fin 1024) : weights A (ix2 ⟨512 * k.val + q.val, by omega⟩ j) = A.x3 (ix2 j (column k q)) := by
  unfold weights
  pointwise [flipped]
  split
  · refine congrArg (fun q : Fin 3080 => A.x3 (ix2 j q)) (Fin.ext ?_)
    show 512 * k.val + q.val = if k.val < 3 then 512 * k.val + q.val else 512 * k.val + q.val + 8
    rw [if_pos (by omega)]
  · refine congrArg (fun q : Fin 3080 => A.x3 (ix2 j q)) (Fin.ext ?_)
    show 1544 + (512 * k.val + q.val - 1536) = if k.val < 3 then 512 * k.val + q.val else 512 * k.val + q.val + 8
    rw [if_neg (by omega)]
    omega

theorem bias_at (k : Fin 6) (q : Fin 512) : bias A (ix2 0 ⟨512 * k.val + q.val, by omega⟩) = A.x4 (ix1 (column k q)) := by
  unfold bias
  pointwise [row]
  split
  · refine congrArg (fun q : Fin 3080 => A.x4 (ix1 q)) (Fin.ext ?_)
    show 512 * k.val + q.val = if k.val < 3 then 512 * k.val + q.val else 512 * k.val + q.val + 8
    rw [if_pos (by omega)]
  · refine congrArg (fun q : Fin 3080 => A.x4 (ix1 q)) (Fin.ext ?_)
    show 1544 + (512 * k.val + q.val - 1536) = if k.val < 3 then 512 * k.val + q.val else 512 * k.val + q.val + 8
    rw [if_neg (by omega)]
    omega

theorem logitWeights_at (l : Fin 128) (j : Fin 1024) :
    logitWeights A (ix2 l j) = if h : l.val < 8 then A.x3 (ix2 j (logit ⟨l.val, h⟩)) else 0 := by
  unfold logitWeights
  generalize hx : extractStridedSlice S8x1024 ![1536, 0] (flipped A.x3) slices_S3080x1024_S8x1024_1536_0 = x
  by_cases h : l.val < 8
  · refine (pad_inside ![0, 0] ![120, 0] x blank pads_S8x1024_S128x1024_01200_000 h_S_ ⟨l.val, h⟩ j l j ?_ ?_).trans ?_
    · show l.val = 0 + l.val; omega
    · show j.val = 0 + j.val; omega
    rw [dif_pos h, ← hx]
    pointwise [flipped]
    rfl
  · refine (pad_row_outside ![0, 0] ![120, 0] x blank pads_S8x1024_S128x1024_01200_000 h_S_ l j ?_).trans ?_
    · show ¬(0 ≤ l.val ∧ l.val < 0 + 8); omega
    rw [dif_neg h, blank_at]

theorem logitBias_at (l : Fin 128) : logitBias A (ix2 0 l) = if h : l.val < 8 then A.x4 (ix1 (logit ⟨l.val, h⟩)) else 0 := by
  unfold logitBias
  generalize hx : extractStridedSlice S1x8 ![0, 1536] (row A.x4) slices_S1x3080_S1x8_0_1536 = x
  by_cases h : l.val < 8
  · refine (pad_inside ![0, 0] ![0, 120] x blank pads_S1x8_S1x128_000_01200 h_S_ 0 ⟨l.val, h⟩ 0 l rfl ?_).trans ?_
    · show l.val = 0 + l.val; omega
    rw [dif_pos h, ← hx]
    pointwise [row]
    rfl
  · refine (pad_column_outside ![0, 0] ![0, 120] x blank pads_S1x8_S1x128_000_01200 h_S_ 0 l ?_).trans ?_
    · show ¬(0 ≤ l.val ∧ l.val < 0 + 8); omega
    rw [dif_neg h, blank_at]

end Cert.Proof.Input
-- ==== Proof.Input.Values.lean ====
module

public import proofs.«01_k».proof.Proof.Input.Tile
public import proofs.«01_k».proof.Proof.Input.Numbers
public import proofs.«01_k».proof.Proof.Projection.Values
public import Idealize.ShloMosaic.Lib.KernelVsHost

@[expose] public section

set_option maxRecDepth 16384

noncomputable section

/-! # What a tile of the input projection leaves, entry by entry -/

namespace Cert.Proof.Input

open Finset Idealize.ShloMosaic Idealize.ShloMosaic.TcCoe Cert.Kernel5Ideal Cert.Kernel5Ideal.Gen Cert.Proof.Attention
open Cert.Proof.Projection (Mat window_at put_at)
open Cert.Proof.Projection.Data (column logit)
open Cert.Reference5Ideal.Read (val_main_v1 val_main_v2 val_main_v3 val_main_v4 val_main_v5 val_main_v6 val_main_v7 val_main_v8 val_main_v9)

/-- A tile's tokens. -/
def token (t : Fin 16) (r : Fin 256) : Fin 4096 := ⟨256 * t.val + r.val, by omega⟩

/-- The blocks hold the arguments' parts. -/
structure Reads (A : Args) (t : Fin 16) (B : Blocks Ideal) : Prop where
  x : ∀ r j, B.x (ix2 r j) = A.x0 (ix2 (token t r) j)
  scale : ∀ j, B.mod (ix2 0 j) = val_main_v1 (F := Ideal) A.x2 (ix2 0 j)
  shift : ∀ j, B.mod (ix2 1 j) = A.x1 (ix2 0 j)
  w : ∀ (k : Fin 6) (c : Fin 512) j, B.w (ix2 ⟨512 * k.val + c.val, by omega⟩ j) = A.x3 (ix2 j (column k c))
  wf : ∀ l j, B.wf (ix2 l j) = if h : l.val < 8 then A.x3 (ix2 j (logit ⟨l.val, h⟩)) else 0
  b : ∀ (k : Fin 6) (c : Fin 512), B.b (ix2 0 ⟨512 * k.val + c.val, by omega⟩) = A.x4 (ix1 (column k c))
  bf : ∀ l, B.bf (ix2 0 l) = if h : l.val < 8 then A.x4 (ix1 (logit ⟨l.val, h⟩)) else 0

variable {A : Args} {t : Fin 16} {B : Blocks Ideal} (H : Reads A t B)

include H

theorem outU_at (r : Fin 256) (j : Fin 1024) : outU B (ix2 r j) = A.modulated (ix2 (token t r) j) := by
  have h0 : modRow0 B (ix2 0 j) = _ := (window_at _ _ _ _ _ _ _ (Nat.zero_add _) (Nat.zero_add _)).trans (H.scale j)
  have h1 : modRow1 B (ix2 0 j) = _ := (window_at _ _ _ _ _ _ _ rfl (Nat.zero_add _)).trans (H.shift j)
  unfold outU
  generalize modRow0 B = a at h0 ⊢
  generalize modRow1 B = b at h1 ⊢
  pointwise [k0_pay5, Args.modulated, val_main_v5, val_main_v3, val_main_v4, val_main_v2]
  rw [H.x, h0, h1]

theorem branch_at (k : Fin 6) {wk : Vec Ideal S512x1024 .bf16} {bk : Vec Ideal S1x512 .f32}
    (hw : ∀ c j, wk (ix2 c j) = A.x3 (ix2 j (column k c))) (hb : ∀ c, bk (ix2 0 c) = A.x4 (ix1 (column k c))) (r : Fin 256) (c : Fin 512) :
    k0_pay24 (outU B) wk bk (ix2 r c) = A.projected (ix2 (token t r) (column k c)) := by
  have hu := outU_at H r
  generalize outU B = u at hu ⊢
  pointwise [k0_pay24, Args.projected, val_main_v9, val_main_v8, val_main_v7, val_main_v6]
  rw [hb]
  exact congrArg (· + _) (sum_congr rfl fun j _ => by rw [hu, hw])

theorem branchQ_at (r : Fin 256) (c : Fin 512) : branchQ B (ix2 r c) = A.projected (ix2 (token t r) (column 0 c)) :=
  branch_at H 0 (fun c j => (window_at _ _ _ _ _ _ _ rfl (Nat.zero_add _)).trans (H.w 0 c j))
    (fun c => (window_at _ _ _ _ _ _ _ rfl rfl).trans (H.b 0 c)) r c
theorem branchK_at (r : Fin 256) (c : Fin 512) : branchK B (ix2 r c) = A.projected (ix2 (token t r) (column 1 c)) :=
  branch_at H 1 (fun c j => (window_at _ _ _ _ _ _ _ rfl (Nat.zero_add _)).trans (H.w 1 c j))
    (fun c => (window_at _ _ _ _ _ _ _ rfl rfl).trans (H.b 1 c)) r c
theorem branchV_at (r : Fin 256) (c : Fin 512) : branchV B (ix2 r c) = A.projected (ix2 (token t r) (column 2 c)) :=
  branch_at H 2 (fun c j => (window_at _ _ _ _ _ _ _ rfl (Nat.zero_add _)).trans (H.w 2 c j))
    (fun c => (window_at _ _ _ _ _ _ _ rfl rfl).trans (H.b 2 c)) r c
theorem outP_at (r : Fin 256) (c : Fin 512) : outP B (ix2 r c) = A.projected (ix2 (token t r) (column 3 c)) :=
  branch_at H 3 (fun c j => (window_at _ _ _ _ _ _ _ rfl (Nat.zero_add _)).trans (H.w 3 c j))
    (fun c => (window_at _ _ _ _ _ _ _ rfl rfl).trans (H.b 3 c)) r c
theorem outGa_at (r : Fin 256) (c : Fin 512) : outGa B (ix2 r c) = A.projected (ix2 (token t r) (column 4 c)) :=
  branch_at H 4 (fun c j => (window_at _ _ _ _ _ _ _ rfl (Nat.zero_add _)).trans (H.w 4 c j))
    (fun c => (window_at _ _ _ _ _ _ _ rfl rfl).trans (H.b 4 c)) r c
theorem outGp_at (r : Fin 256) (c : Fin 512) : outGp B (ix2 r c) = A.projected (ix2 (token t r) (column 5 c)) :=
  branch_at H 5 (fun c j => (window_at _ _ _ _ _ _ _ rfl (Nat.zero_add _)).trans (H.w 5 c j))
    (fun c => (window_at _ _ _ _ _ _ _ rfl rfl).trans (H.b 5 c)) r c

theorem outF_at (r : Fin 256) (l : Fin 128) :
    outF B (ix2 r l) = if h : l.val < 8 then A.projected (ix2 (token t r) (logit ⟨l.val, h⟩)) else 0 := by
  have hu := outU_at H r
  have e : outF B (ix2 r l) = ∑ j : Fin 1024, outU B (ix2 r j) * B.wf (ix2 l j) + B.bf (ix2 0 l) := by
    unfold outF outU
    generalize hu' : k0_pay5 B.x (modRow0 B) (modRow1 B) = u
    pointwise [k0_pay6]
    rw [hu']
  rw [e, H.bf]
  split_ifs with h
  · pointwise [Args.projected, val_main_v9, val_main_v8, val_main_v7, val_main_v6]
    exact congrArg (· + _) (sum_congr rfl fun j _ => by rw [hu, H.wf, dif_pos h])
  · rw [add_zero]
    exact sum_eq_zero fun j _ => by rw [H.wf, dif_neg h, mul_zero]

/-! ## The gates -/

variable (N : A.Real)

include N

theorem logs_at (r : Fin 256) (h : Fin 8) : logs B (ix2 r ⟨h.val, by omega⟩) = ↑(A.decay (token t r) h) := by
  have hf : outF B (ix2 r ⟨h.val, by omega⟩) = ↑(A.f (token t r) h) := by
    rw [outF_at H, dif_pos h.isLt, ← f_eq N, logits_at]
  unfold outF at hf
  unfold logs Args.decay
  generalize A.f (token t r) h = f at hf ⊢
  pointwise [k0_pay8]
  rw [hf]
  have hm (a b : ℝ) : max (a : EReal) (b : EReal) = ((max a b : ℝ) : EReal) := (EReal.coe_strictMono.monotone.map_max).symm
  have hn (a b : ℝ) : min (a : EReal) (b : EReal) = ((min a b : ℝ) : EReal) := (EReal.coe_strictMono.monotone.map_min).symm
  show min (f : EReal) 0 - Ideal.log (1 + Ideal.exp (0 - max (f : EReal) (-(f : EReal)))) = _
  rw [zero_sub, ← EReal.coe_neg, hm, ← EReal.coe_neg, Ideal.exp_coe, ← EReal.coe_one, ← EReal.coe_add, log_coe_pos (by positivity), ← EReal.coe_zero, hn,
    ← EReal.coe_sub]

/-- What is carried into a tile. -/
def Carries (A : Args) (t : ℕ) (carry : Vec Ideal S8x128 .f32) : Prop :=
  ∀ h : Fin 8, carry (ix2 0 ⟨h.val, by omega⟩) = ↑(upTo (fun s => A.decay s h) (256 * t))

variable {carry : Vec Ideal S8x128 .f32} (C : Carries A t.val carry)

include C

theorem cum_at (r : Fin 256) (h : Fin 8) :
    k0_pay9 k0_pay7 (logs B) (carried carry) (ix2 r ⟨h.val, by omega⟩) = ↑(A.cum (token t r) h) := by
  have hl := fun x => logs_at H N x h
  have hc : carried carry (ix2 0 ⟨h.val, by omega⟩) = _ := (window_at _ _ _ _ _ _ _ rfl (Nat.zero_add _)).trans (C h)
  generalize carried carry = c at hc ⊢
  generalize logs B = l at hl ⊢
  pointwise [k0_pay9, k0_pay7]
  have hb : IntOp.cmpi CmpIPredicate.slt (BitVec.ofNat 32 h.val) 8#32 = 1#1 := by
    rw [Projection.cmpi_slt (Projection.toInt_of_lt (by omega)) (Projection.toInt_of_lt (n := 8) (by omega)), decide_eq_true (by omega)]
    rfl
  have hz (x : Fin 256) : ((A.decay (token t x) h : ℝ) : EReal) - ((A.decay (token t x) h : ℝ) : EReal) = 0 := by
    rw [← EReal.coe_sub, sub_self, EReal.coe_zero]
  have hd : ∑ x : Fin 256, FloatOps.sitofp (F := Ideal) .f32 (BitVec.setWidth 32 (IntOp.cmpi CmpIPredicate.sge (BitVec.ofNat 32 r.val) (BitVec.ofNat 32 x.val)))
      * ((A.decay (token t x) h : ℝ) : EReal) = ↑(∑ x : Fin 256, (if x ≤ r then 1 else 0) * A.decay (token t x) h) := by
    rw [coe_sum]
    exact sum_congr rfl fun x _ => by rw [Projection.after_mask r x, EReal.coe_mul]
  rw [hb]
  simp only [ValueIdx.select_one, hl, hz, sub_zero, mul_zero, sum_const_zero, add_zero]
  rw [hd, hc, ← EReal.coe_add]
  exact congrArg _ (upTo_tile (fun s => A.decay s h) t r).symm

/-- What is carried to the next tile. -/
theorem carry_at : Carries A (t.val + 1) (stepCarry B carry) := fun h => by
  have e : stepCarry B carry (ix2 0 ⟨h.val, by omega⟩) = k0_pay10 k0_pay7 (logs B) (carried carry) (ix2 0 ⟨h.val, by omega⟩) :=
    put_at _ _ _ _ _ _ _ rfl (Nat.zero_add _)
  have hc := cum_at H N C 255 h
  rw [e]
  generalize carried carry = c at hc ⊢
  generalize logs B = l at hc ⊢
  pointwise [k0_pay10]
  exact hc

end Cert.Proof.Input
-- ==== Proof.Input.Heads.lean ====
module

public import proofs.«01_k».proof.Proof.Input.Values

@[expose] public section

set_option maxRecDepth 16384

noncomputable section

/-! # The heads' tiles, lane by lane -/

namespace Cert.Proof.Input

open Finset Idealize.ShloMosaic Idealize.ShloMosaic.TcCoe Cert.Kernel5Ideal Cert.Kernel5Ideal.Gen Cert.Proof.Attention
open Cert.Proof.Projection (cmpi_slt cmpi_sge toInt_of_lt)
open Cert.Proof.Projection.Data (column logit)

section Layout

variable (r : FVec Ideal S256x512 .f32)

theorem pair_at (p : Fin 4) (i : Fin 256) (l : Fin 128) : pair r p (ix2 i l) = r (ix2 i ⟨128 * p.val + l.val, by omega⟩) := by
  match p with
  | 0 => pointwise [pair]
  | 1 => pointwise [pair]
  | 2 => pointwise [pair]
  | 3 => pointwise [pair]

theorem turned_at (x : FVec Ideal S256x128 .f32) (i : Fin 256) (e : Fin 128) (he : e.val < 64) :
    dynamicRotate 1 64#32 none x rotates_S256x128_d1 (ix2 i e) = x (ix2 i ⟨e.val + 64, by omega⟩) := by
  refine dynamicRotate_apply 1 64#32 x rotates_S256x128_d1 (ix2 i e) (ix2 i ⟨e.val + 64, by omega⟩) fun b => ?_
  match b with
  | ⟨0, _⟩ => rfl
  | ⟨1, _⟩ => show e.val + 64 = (e.val + 128 - 64 % 128) % 128; omega

theorem even_at (h : Fin 8) (p : Fin 4) (hp : h.val = 2 * p.val) (i : Fin 256) (e : Fin 128) (he : e.val < 64) :
    pair r p (ix2 i e) = r (ix2 i ⟨64 * h.val + e.val, by omega⟩) :=
  (pair_at r p i e).trans (congrArg (fun q : Fin 512 => r (ix2 i q)) (Fin.ext (by show 128 * p.val + e.val = 64 * h.val + e.val; omega)))

theorem odd_at (h : Fin 8) (p : Fin 4) (hp : h.val = 2 * p.val + 1) (i : Fin 256) (e : Fin 128) (he : e.val < 64) :
    dynamicRotate 1 64#32 none (pair r p) rotates_S256x128_d1 (ix2 i e) = r (ix2 i ⟨64 * h.val + e.val, by omega⟩) :=
  ((turned_at _ i e he).trans (pair_at r p i _)).trans
    (congrArg (fun q : Fin 512 => r (ix2 i q)) (Fin.ext (by show 128 * p.val + (e.val + 64) = 64 * h.val + e.val; omega)))

theorem head_at (h : Fin 8) (i : Fin 256) (e : Fin 128) (he : e.val < 64) : head r h (ix2 i e) = r (ix2 i ⟨64 * h.val + e.val, by omega⟩) := by
  match h with
  | 0 => exact even_at r 0 0 rfl i e he
  | 1 => exact odd_at r 1 0 rfl i e he
  | 2 => exact even_at r 2 1 rfl i e he
  | 3 => exact odd_at r 3 1 rfl i e he
  | 4 => exact even_at r 4 2 rfl i e he
  | 5 => exact odd_at r 5 2 rfl i e he
  | 6 => exact even_at r 6 3 rfl i e he
  | 7 => exact odd_at r 7 3 rfl i e he

theorem gateCol_at (a : FVec Ideal S256x128 .f32) (h : Fin 8) (i : Fin 256) : gateCol a h (ix2 i 0) = a (ix2 i ⟨h.val, by omega⟩) := by
  match h with
  | 0 => pointwise [gateCol]
  | 1 => pointwise [gateCol]
  | 2 => pointwise [gateCol]
  | 3 => pointwise [gateCol]
  | 4 => pointwise [gateCol]
  | 5 => pointwise [gateCol]
  | 6 => pointwise [gateCol]
  | 7 => pointwise [gateCol]

theorem tile_at (val rest : FVec Ideal S256x128 .f32) (i : Fin 256) (e : Fin 128) :
    tile val rest (ix3 0 i e) = if e.val < 64 then val (ix2 i e) else rest (ix2 i e) := by
  pointwise [tile, lanes]
  rw [cmpi_slt (toInt_of_lt (n := e.val) (by omega)) (toInt_of_lt (n := 64) (by omega))]
  by_cases h : e.val < 64
  · rw [if_pos h, decide_eq_true (by omega)]; rfl
  · rw [if_neg h, decide_eq_false (by omega)]; rfl

theorem place_at (n : ℕ) (hn : n < 128) (a : FVec Ideal S256x1 .f32) (rest : FVec Ideal S256x128 .f32) (i : Fin 256) (e : Fin 128) :
    place (BitVec.ofNat 32 n) a rest (ix2 i e) = if e.val = n then a (ix2 i 0) else rest (ix2 i e) := by
  pointwise [place, lanes]
  by_cases h : e.val = n
  · rw [if_pos h, h]
    have hb : IntOp.cmpi CmpIPredicate.eq (BitVec.ofNat 32 n) (BitVec.ofNat 32 n) = 1#1 := by simp [IntOp.cmpi]
    rw [hb]
    rfl
  · rw [if_neg h]
    have hb : IntOp.cmpi CmpIPredicate.eq (BitVec.ofNat 32 e.val) (BitVec.ofNat 32 n) = 0#1 := by
      have hne : ¬BitVec.ofNat 32 e.val = BitVec.ofNat 32 n := fun q => h (by
        have := congrArg BitVec.toNat q
        rw [BitVec.toNat_ofNat, BitVec.toNat_ofNat, Nat.mod_eq_of_lt (by omega), Nat.mod_eq_of_lt (by omega)] at this
        exact this)
      show BitVec.ofBool (BitVec.ofNat 32 e.val == BitVec.ofNat 32 n) = 0#1
      rw [beq_eq_false_iff_ne.mpr hne]
      rfl
    rw [hb]
    rfl

theorem within_at (lo hi : ℕ) (hl : lo ≤ 128) (hh : hi ≤ 128) (i : Fin 256) (e : Fin 128) :
    within (BitVec.ofNat 32 lo) (BitVec.ofNat 32 hi) (ix2 i e) = BitVec.ofBool (decide (lo ≤ e.val ∧ e.val < hi)) := by
  pointwise [within, lanes]
  rw [cmpi_sge (toInt_of_lt (n := e.val) (by omega)) (toInt_of_lt (n := lo) (by omega)),
    cmpi_slt (toInt_of_lt (n := e.val) (by omega)) (toInt_of_lt (n := hi) (by omega))]
  by_cases h1 : lo ≤ e.val <;> by_cases h2 : e.val < hi <;> simp [h1, h2, IntOp.andi]

theorem flag_at (mask : IVec S256x128 1) (p : Prop) [Decidable p] (on : BitVec 32) (i : Fin 256) (e : Fin 128)
    (hm : mask (ix2 i e) = BitVec.ofBool (decide p)) : flag (F := Ideal) mask on (ix2 i e) = if p then Ideal.ofBits .f32 on else 0 := by
  pointwise [flag]
  rw [hm]
  by_cases h : p
  · rw [if_pos h, decide_eq_true h]; rfl
  · rw [if_neg h, decide_eq_false h]; rfl

end Layout

variable {A : Args} {t : Fin 16} {B : Blocks Ideal} (H : Reads A t B) (N : A.Real) {carry : Vec Ideal S8x128 .f32} (C : Carries A t.val carry)

include H in
theorem tileV_at (h : Fin 8) (i : Fin 256) (e : Fin 128) : tileV B h (ix3 0 i e) = A.laneV h (token t i) e := by
  unfold tileV Args.laneV
  rw [tile_at, flag_at _ _ _ i e (within_at 64 67 (by omega) (by omega) i e)]
  by_cases he : e.val < 64
  · rw [if_pos he, dif_pos he, head_at _ h i e he, branchV_at H]
  · rw [if_neg he, dif_neg he]
    split_ifs <;> first | omega | rfl

include H N C

/-- A gate in three parts: the first is all of it, -/
theorem gate0 (h : Fin 8) (i : Fin 256) : gateCol (k0_pay14 k0_pay7 (logs B) (carried carry)) h (ix2 i 0) = ↑(A.cum (token t i) h) :=
  (gateCol_at _ h i).trans (cum_at H N C i h)

/-- and what it leaves is nothing. -/
theorem rest_at (h : Fin 8) (i : Fin 256) : k0_pay12 k0_pay7 (logs B) (carried carry) (ix2 i ⟨h.val, by omega⟩) = 0 := by
  have hc := cum_at H N C i h
  show k0_pay9 k0_pay7 (logs B) (carried carry) (ix2 i ⟨h.val, by omega⟩) - k0_pay9 k0_pay7 (logs B) (carried carry) (ix2 i ⟨h.val, by omega⟩) = (0 : EReal)
  rw [hc, ← EReal.coe_sub, sub_self, EReal.coe_zero]
theorem gate1 (h : Fin 8) (i : Fin 256) : gateCol (k0_pay15 k0_pay7 (logs B) (carried carry)) h (ix2 i 0) = 0 :=
  (gateCol_at _ h i).trans (rest_at H N C h i)
theorem gate2 (h : Fin 8) (i : Fin 256) : gateCol (k0_pay16 k0_pay7 (logs B) (carried carry)) h (ix2 i 0) = 0 := by
  refine (gateCol_at _ h i).trans ?_
  have hr := rest_at H N C h i
  show k0_pay12 k0_pay7 (logs B) (carried carry) (ix2 i ⟨h.val, by omega⟩) - k0_pay12 k0_pay7 (logs B) (carried carry) (ix2 i ⟨h.val, by omega⟩) = (0 : EReal)
  rw [hr, sub_zero]

theorem minus_at (h : Fin 8) (i : Fin 256) : k0_pay17 k0_pay7 (logs B) (carried carry) (ix2 i ⟨h.val, by omega⟩) = ((-A.cum (token t i) h : ℝ) : EReal) := by
  have hc := cum_at H N C i h
  show Ideal.ofBits .f32 0#32 - k0_pay9 k0_pay7 (logs B) (carried carry) (ix2 i ⟨h.val, by omega⟩) = _
  rw [hc, Ideal.ofBits_zero_f32, zero_sub, EReal.coe_neg]
theorem minus0 (h : Fin 8) (i : Fin 256) : gateCol (k0_pay21 k0_pay7 (logs B) (carried carry)) h (ix2 i 0) = -(A.cum (token t i) h : EReal) :=
  (gateCol_at _ h i).trans ((minus_at H N C h i).trans (EReal.coe_neg _))
theorem minus_rest (h : Fin 8) (i : Fin 256) : k0_pay19 k0_pay7 (logs B) (carried carry) (ix2 i ⟨h.val, by omega⟩) = 0 := by
  have hc := minus_at H N C h i
  show k0_pay17 k0_pay7 (logs B) (carried carry) (ix2 i ⟨h.val, by omega⟩) - k0_pay17 k0_pay7 (logs B) (carried carry) (ix2 i ⟨h.val, by omega⟩) = (0 : EReal)
  rw [hc, ← EReal.coe_sub, sub_self, EReal.coe_zero]
theorem minus1 (h : Fin 8) (i : Fin 256) : gateCol (k0_pay22 k0_pay7 (logs B) (carried carry)) h (ix2 i 0) = 0 :=
  (gateCol_at _ h i).trans (minus_rest H N C h i)
theorem minus2 (h : Fin 8) (i : Fin 256) : gateCol (k0_pay23 k0_pay7 (logs B) (carried carry)) h (ix2 i 0) = 0 := by
  refine (gateCol_at _ h i).trans ?_
  have hr := minus_rest H N C h i
  show k0_pay19 k0_pay7 (logs B) (carried carry) (ix2 i ⟨h.val, by omega⟩) - k0_pay19 k0_pay7 (logs B) (carried carry) (ix2 i ⟨h.val, by omega⟩) = (0 : EReal)
  rw [hr, sub_zero]

theorem tileQ_at (h : Fin 8) (i : Fin 256) (e : Fin 128) : tileQ B carry h (ix3 0 i e) = A.laneQ h (token t i) e := by
  have one : Ideal.ofBits .f32 0x3F800000#32 = 1 := by simp
  unfold tileQ Args.laneQ
  rw [tile_at, place_at 66 (by omega), place_at 65 (by omega), place_at 64 (by omega), flag_at _ _ _ i e (within_at 67 70 (by omega) (by omega) i e),
    gate0 H N C, gate1 H N C, gate2 H N C, one]
  by_cases he : e.val < 64
  · rw [if_pos he, dif_pos he]
    show head (branchQ B) h (ix2 i e) * _ = _
    rw [head_at _ h i e he, branchQ_at H]
    rfl
  · rw [if_neg he, dif_neg he]
    split_ifs <;> first | omega | rfl

theorem tileK_at (h : Fin 8) (i : Fin 256) (e : Fin 128) : tileK B carry h (ix3 0 i e) = A.laneK h (token t i) e := by
  have one : Ideal.ofBits .f32 0x3F800000#32 = 1 := by simp
  have hm : ori (within 64#32 67#32) (within 70#32 73#32) (ix2 i e)
      = BitVec.ofBool (decide ((64 ≤ e.val ∧ e.val < 67) ∨ (70 ≤ e.val ∧ e.val < 73))) := by
    show IntOp.ori (within (BitVec.ofNat 32 64) (BitVec.ofNat 32 67) (ix2 i e)) (within (BitVec.ofNat 32 70) (BitVec.ofNat 32 73) (ix2 i e)) = _
    rw [within_at 64 67 (by omega) (by omega), within_at 70 73 (by omega) (by omega)]
    by_cases h1 : 64 ≤ e.val ∧ e.val < 67 <;> by_cases h2 : 70 ≤ e.val ∧ e.val < 73 <;> simp only [h1, h2] <;> rfl
  unfold tileK Args.laneK
  rw [tile_at, place_at 69 (by omega), place_at 68 (by omega), place_at 67 (by omega), flag_at _ _ _ i e hm,
    minus0 H N C, minus1 H N C, minus2 H N C, one]
  by_cases he : e.val < 64
  · rw [if_pos he, dif_pos he, head_at _ h i e he, branchK_at H]
  · rw [if_neg he, dif_neg he]
    split_ifs <;> first | omega | rfl

end Cert.Proof.Input
-- ==== Proof.Input.Lanes.lean ====
module

public import proofs.«01_k».proof.Proof.Input.Numbers

/-! The reference's results, entry by entry. -/

@[expose] public section

set_option maxRecDepth 16384

noncomputable section

namespace Cert.Proof.Input

open Idealize.ShloMosaic Cert.Reference5Ideal Cert.Reference5Ideal.Gen Cert.Reference5Ideal.Read Cert.Proof.Attention
open Cert.Proof.Projection (pad_inside pad_column_outside)
open Cert.Proof.Projection.Data (column logit)

variable {A : Args}

theorem reference_u (s : Fin 4096) (j : Fin 1024) : val_main_v52 (F := Ideal) A.x0 A.x1 A.x2 (ix2 s j) = A.modulated (ix2 s j) := rfl

theorem reference_p (s : Fin 4096) (c : Fin 512) :
    val_main_v14 (F := Ideal) A.x0 A.x1 A.x2 A.x3 A.x4 (ix2 s c) = A.projected (ix2 s (column 3 c)) := by
  pointwise [val_main_v14]
  refine congrArg (fun q : Fin 3080 => A.projected (ix2 s q)) (Fin.ext ?_)
  show 1544 + c.val = 512 * 3 + c.val + 8
  omega

theorem reference_ga (s : Fin 4096) (c : Fin 512) :
    val_main_v15 (F := Ideal) A.x0 A.x1 A.x2 A.x3 A.x4 (ix2 s c) = A.projected (ix2 s (column 4 c)) := by
  pointwise [val_main_v15]
  refine congrArg (fun q : Fin 3080 => A.projected (ix2 s q)) (Fin.ext ?_)
  show 2056 + c.val = 512 * 4 + c.val + 8
  omega

theorem reference_gp (s : Fin 4096) (c : Fin 512) :
    val_main_v16 (F := Ideal) A.x0 A.x1 A.x2 A.x3 A.x4 (ix2 s c) = A.projected (ix2 s (column 5 c)) := by
  pointwise [val_main_v16]
  refine congrArg (fun q : Fin 3080 => A.projected (ix2 s q)) (Fin.ext ?_)
  show 2568 + c.val = 512 * 5 + c.val + 8
  omega

theorem reference_f (s : Fin 4096) (l : Fin 128) :
    val_main_v45 (F := Ideal) A.x0 A.x1 A.x2 A.x3 A.x4 (ix2 s l) = if h : l.val < 8 then A.projected (ix2 s (logit ⟨l.val, h⟩)) else 0 := by
  unfold val_main_v45
  by_cases h : l.val < 8
  · refine (pad_inside ![0, 0] ![0, 120] A.logits _ pads_S4096x8_S4096x128_000_01200 h_S_ s ⟨l.val, h⟩ s l ?_ ?_).trans ?_
    · show s.val = 0 + s.val; omega
    · show l.val = 0 + l.val; omega
    rw [dif_pos h]
    exact logits_at s ⟨l.val, h⟩
  · refine (pad_column_outside ![0, 0] ![0, 120] A.logits _ pads_S4096x8_S4096x128_000_01200 h_S_ s l ?_).trans ?_
    · show ¬(0 ≤ l.val ∧ l.val < 0 + 8); omega
    rw [dif_neg h]
    show (((0#32 : BitVec 32).toInt : ℝ) : EReal) = 0
    simp

theorem head_column (k : Fin 6) (hk : k.val < 3) (s : Fin 4096) (h : Fin 8) (e : Fin 128) (he : e.val < 64) (n : ℕ) (hn : n < 3080)
    (e0 : n = 512 * k.val + (h.val * 64 + e.val)) :
    val_main_v9 (F := Ideal) A.x0 A.x1 A.x2 A.x3 A.x4 (ix2 s ⟨n, hn⟩) = A.projected (ix2 s (column k ⟨64 * h.val + e.val, by omega⟩)) := by
  refine congrArg (fun q : Fin 3080 => A.projected (ix2 s q)) (Fin.ext ?_)
  show n = if k.val < 3 then 512 * k.val + (64 * h.val + e.val) else 512 * k.val + (64 * h.val + e.val) + 8
  rw [if_pos hk]
  omega

section
variable (H : A.Real)

include H in
theorem reference_q (h : Fin 8) (s : Fin 4096) (e : Fin 128) :
    val_main_v29 (F := Ideal) A.x0 A.x1 A.x2 A.x3 A.x4 (ix3 h s e) = A.laneQ h s e := by
  have hc := cum_eq H s h
  pointwise [val_main_v29, val_main_v28, val_main_v24, val_main_v23, val_main_cst_0, val_main_v22, val_main_v21, val_main_v20, val_main_v19, val_main_v25,
    val_main_cst_1, val_main_v26, val_main_cst_2, val_main_v27, val_main_cst_3, val_main_v10]
  unfold Args.laneQ
  by_cases he : e.val < 64
  · rw [dif_pos he, dif_pos he]
    exact congrArg (· * _) (head_column 0 (by decide) s h e he _ _ (by show _ = 512 * 0 + _; omega))
  · rw [dif_neg he, dif_neg he]
    split_ifs <;> first | omega | rw [hc] | rfl

include H in
theorem reference_k (h : Fin 8) (s : Fin 4096) (e : Fin 128) :
    val_main_v38 (F := Ideal) A.x0 A.x1 A.x2 A.x3 A.x4 (ix3 h s e) = A.laneK h s e := by
  have hc := cum_eq H s h
  pointwise [val_main_v38, val_main_v37, val_main_v31, val_main_v30, val_main_v32, val_main_cst_4, val_main_v33, val_main_v20, val_main_v19, val_main_v34,
    val_main_cst_5, val_main_v35, val_main_cst_6, val_main_v36, val_main_cst_7, val_main_v11]
  unfold Args.laneK
  by_cases he : e.val < 64
  · rw [dif_pos he, dif_pos he]
    exact head_column 1 (by decide) s h e he _ _ (by show _ = 512 * 1 + _; omega)
  · rw [dif_neg he, dif_neg he]
    split_ifs <;> first | omega | rw [hc] | rfl
end

theorem reference_v (h : Fin 8) (s : Fin 4096) (e : Fin 128) :
    val_main_v44 (F := Ideal) A.x0 A.x1 A.x2 A.x3 A.x4 (ix3 h s e) = A.laneV h s e := by
  pointwise [val_main_v44, val_main_v43, val_main_v40, val_main_v39, val_main_v41, val_main_cst_8, val_main_v42, val_main_cst_9, val_main_v12]
  unfold Args.laneV
  by_cases he : e.val < 64
  · rw [dif_pos he, dif_pos he]
    exact head_column 2 (by decide) s h e he _ _ (by show _ = 512 * 2 + _; omega)
  · rw [dif_neg he, dif_neg he]
    split_ifs <;> first | omega | rfl

end Cert.Proof.Input
-- ==== Proof.Input.Results.lean ====
module

public import proofs.«01_k».proof.Proof.Input.Launch
public import proofs.«01_k».proof.Proof.Input.Host
public import proofs.«01_k».proof.Proof.Input.Heads
public import proofs.«01_k».proof.Proof.Input.Lanes
public import proofs.«01_k».proof.Proof.Projection.Totals
public import Idealize.ShloMosaic.Lib.Pipeline.ValueKit.Geometry

@[expose] public section

set_option maxRecDepth 16384

noncomputable section

/-! # The arrays the launch leaves -/

namespace Cert.Proof.Input

open Idealize.ShloMosaic Idealize.ShloMosaic.TcCoe Cert.Kernel5Ideal Cert.Kernel5Ideal.Gen Cert.Proof.Attention
open Cert.Proof.Projection (place2 place3)

variable (m : (ℓ : Loc nD τ sig) → Buf (Elt Ideal) ℓ) (c : Dev nD)

def point (t : Fin cfg0.N) : Fin 16 := ⟨t.val, t.isLt⟩

/-! ## Where a block's element lies in its array -/

theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 3) = 0 ∧ win0_6.index t (1 : Fin 3) = t.val ∧ win0_6.index t (2 : Fin 3) = 0 :=
  (by decide +kernel : ∀ t : Fin grid0.N, _)
theorem index7 : ∀ t : Fin cfg0.N, win0_7.index t (0 : Fin 3) = 0 ∧ win0_7.index t (1 : Fin 3) = t.val ∧ win0_7.index t (2 : Fin 3) = 0 :=
  (by decide +kernel : ∀ t : Fin grid0.N, _)
theorem index8 : ∀ t : Fin cfg0.N, win0_8.index t (0 : Fin 3) = 0 ∧ win0_8.index t (1 : Fin 3) = t.val ∧ win0_8.index t (2 : Fin 3) = 0 :=
  (by decide +kernel : ∀ t : Fin grid0.N, _)
theorem index9 : ∀ t : Fin cfg0.N, win0_9.index t (0 : Fin 2) = t.val ∧ win0_9.index t (1 : Fin 2) = 0 := (by decide +kernel : ∀ t : Fin grid0.N, _)
theorem index10 : ∀ t : Fin cfg0.N, win0_10.index t (0 : Fin 2) = t.val ∧ win0_10.index t (1 : Fin 2) = 0 := (by decide +kernel : ∀ t : Fin grid0.N, _)
theorem index11 : ∀ t : Fin cfg0.N, win0_11.index t (0 : Fin 2) = t.val ∧ win0_11.index t (1 : Fin 2) = 0 := (by decide +kernel : ∀ t : Fin grid0.N, _)
theorem index12 : ∀ t : Fin cfg0.N, win0_12.index t (0 : Fin 2) = t.val ∧ win0_12.index t (1 : Fin 2) = 0 := (by decide +kernel : ∀ t : Fin grid0.N, _)
theorem index13 : ∀ t : Fin cfg0.N, win0_13.index t (0 : Fin 2) = t.val ∧ win0_13.index t (1 : Fin 2) = 0 := (by decide +kernel : ∀ t : Fin grid0.N, _)

/-- Rows of a tile, -/
theorem row_of_tile {n : ℕ} (t : Fin cfg0.N) {z : (Projection.Mat 4096 n).Idx} (r : Fin 256) (j : Fin n) {a b : ℕ} (ha : a = t.val) (hb : b = 0)
    (h0 : (z 0).val = a * 256 + 1 * r.val) (h1 : (z 1).val = b * n + 1 * j.val) : z = ix2 (token (point t) r) j :=
  place2 _ _ (by rw [h0, ha]; show t.val * 256 + 1 * r.val = 256 * t.val + r.val; omega) (by rw [h1, hb]; omega)

/-- a whole array, -/
theorem whole {n k : ℕ} {z : (Projection.Mat k n).Idx} (i : Fin k) (j : Fin n) {a b : ℕ} (ha : a = 0) (hb : b = 0)
    (h0 : (z 0).val = a * k + 1 * i.val) (h1 : (z 1).val = b * n + 1 * j.val) : z = ix2 i j :=
  place2 _ _ (by rw [h0, ha]; omega) (by rw [h1, hb]; omega)

/-- and a tile of every head. -/
theorem heads_of_tile (t : Fin cfg0.N) {z : S8x4096x128.Idx} (h : Fin 8) (r : Fin 256) (e : Fin 128) {a b d : ℕ} (ha : a = 0) (hb : b = t.val) (hd : d = 0)
    (h0 : (z 0).val = a * 8 + 1 * h.val) (h1 : (z 1).val = b * 256 + 1 * r.val) (h2 : (z 2).val = d * 128 + 1 * e.val) :
    z = ix3 h (token (point t) r) e :=
  place3 _ _ _ (by rw [h0, ha]; omega) (by rw [h1, hb]; show t.val * 256 + 1 * r.val = 256 * t.val + r.val; omega) (by rw [h2, hd]; omega)

theorem emb0 (t : Fin cfg0.N) (r : Fin 256) (j : Fin 1024) : ((cfg0.win 0).blk t).view.emb (ix2 r j) = ix2 (token (point t) r) j :=
  row_of_tile t r j (index0 t).1 (index0 t).2 rfl rfl
theorem emb1 (t : Fin cfg0.N) (r : Fin 8) (j : Fin 1024) : ((cfg0.win 1).blk t).view.emb (ix2 r j) = ix2 r j :=
  whole r j (index1 t).1 (index1 t).2 rfl rfl
theorem emb2 (t : Fin cfg0.N) (r : Fin 3072) (j : Fin 1024) : ((cfg0.win 2).blk t).view.emb (ix2 r j) = ix2 r j :=
  whole r j (index2 t).1 (index2 t).2 rfl rfl
theorem emb3 (t : Fin cfg0.N) (r : Fin 128) (j : Fin 1024) : ((cfg0.win 3).blk t).view.emb (ix2 r j) = ix2 r j :=
  whole r j (index3 t).1 (index3 t).2 rfl rfl
theorem emb4 (t : Fin cfg0.N) (j : Fin 3072) : ((cfg0.win 4).blk t).view.emb (ix2 0 j) = ix2 0 j :=
  whole 0 j (index4 t).1 (index4 t).2 rfl rfl
theorem emb5 (t : Fin cfg0.N) (j : Fin 128) : ((cfg0.win 5).blk t).view.emb (ix2 0 j) = ix2 0 j :=
  whole 0 j (index5 t).1 (index5 t).2 rfl rfl
theorem emb6 (t : Fin cfg0.N) (h : Fin 8) (r : Fin 256) (e : Fin 128) : ((cfg0.win 6).blk t).view.emb (ix3 h r e) = ix3 h (token (point t) r) e :=
  heads_of_tile t h r e (index6 t).1 (index6 t).2.1 (index6 t).2.2 rfl rfl rfl
theorem emb7 (t : Fin cfg0.N) (h : Fin 8) (r : Fin 256) (e : Fin 128) : ((cfg0.win 7).blk t).view.emb (ix3 h r e) = ix3 h (token (point t) r) e :=
  heads_of_tile t h r e (index7 t).1 (index7 t).2.1 (index7 t).2.2 rfl rfl rfl
theorem emb8 (t : Fin cfg0.N) (h : Fin 8) (r : Fin 256) (e : Fin 128) : ((cfg0.win 8).blk t).view.emb (ix3 h r e) = ix3 h (token (point t) r) e :=
  heads_of_tile t h r e (index8 t).1 (index8 t).2.1 (index8 t).2.2 rfl rfl rfl
theorem emb9 (t : Fin cfg0.N) (r : Fin 256) (j : Fin 128) : ((cfg0.win 9).blk t).view.emb (ix2 r j) = ix2 (token (point t) r) j :=
  row_of_tile t r j (index9 t).1 (index9 t).2 rfl rfl
theorem emb10 (t : Fin cfg0.N) (r : Fin 256) (j : Fin 512) : ((cfg0.win 10).blk t).view.emb (ix2 r j) = ix2 (token (point t) r) j :=
  row_of_tile t r j (index10 t).1 (index10 t).2 rfl rfl
theorem emb11 (t : Fin cfg0.N) (r : Fin 256) (j : Fin 512) : ((cfg0.win 11).blk t).view.emb (ix2 r j) = ix2 (token (point t) r) j :=
  row_of_tile t r j (index11 t).1 (index11 t).2 rfl rfl
theorem emb12 (t : Fin cfg0.N) (r : Fin 256) (j : Fin 512) : ((cfg0.win 12).blk t).view.emb (ix2 r j) = ix2 (token (point t) r) j :=
  row_of_tile t r j (index12 t).1 (index12 t).2 rfl rfl
theorem emb13 (t : Fin cfg0.N) (r : Fin 256) (j : Fin 1024) : ((cfg0.win 13).blk t).view.emb (ix2 r j) = ix2 (token (point t) r) j :=
  row_of_tile t r j (index13 t).1 (index13 t).2 rfl rfl

/-! ## The blocks and what is carried -/

theorem reads (t : Fin cfg0.N) : Reads (args m c) (point t) (blocks m c t) where
  x r j := by
    refine (congrArg (V m c main_arg0) (emb0 t r j)).trans ?_
    rw [read_x]
  scale j := by
    refine (congrArg (V m c main_v3) (emb1 t 0 j)).trans ?_
    rw [read_mod, scale_at]
  shift j := by
    refine (congrArg (V m c main_v3) (emb1 t 1 j)).trans ?_
    rw [read_mod, shift_at]
  w k q j := by
    refine (congrArg (V m c main_v16) (emb2 t _ j)).trans ?_
    rw [read_w, weights_at]
  wf l j := by
    refine (congrArg (V m c main_v17) (emb3 t l j)).trans ?_
    rw [read_wf, logitWeights_at]
  b k q := by
    refine (congrArg (V m c main_v13) (emb4 t _)).trans ?_
    rw [read_b, bias_at]
  bf l := by
    refine (congrArg (V m c main_v15) (emb5 t l)).trans ?_
    rw [read_bf, logitBias_at]

variable (H : (args m c).Real)

include H in
theorem carries : ∀ (n : ℕ) (hn : n ≤ cfg0.N), Carries (args m c) n (carry m c n hn)
  | 0, _ => fun h => by
    show Ideal.ofBits .f32 0#32 = ((upTo _ 0 : ℝ) : EReal)
    rw [Ideal.ofBits_zero_f32]
    rfl
  | n + 1, hn => carry_at (t := point ⟨n, hn⟩) (reads m c ⟨n, hn⟩) H (carries n (Nat.le_of_lt hn))

/-! ## The result arrays -/

include H in
theorem array6 : (dats m 0 c).arrAt 6 cfg0.N = fun z : S8x4096x128.Idx => (args m c).laneQ (z 0) (z 1) (z 2) := by
  refine (dats m 0 c).arrAt_eq_of_covers 6 (fun z : S8x4096x128.Idx => (args m c).laneQ (z 0) (z 1) (z 2)) (by decide +kernel) fun t _ y => ?_
  refine (congrFun (after0_6 m c t) y).trans ?_
  obtain ⟨h, r, e, rfl⟩ : ∃ (h : Fin 8) (r : Fin 256) (e : Fin 128), y = ix3 h r e := ⟨y 0, y 1, y 2, place3 _ _ _ rfl rfl rfl⟩
  rw [emb6]
  exact tileQ_at (reads m c t) H (carries m c H t.val _) h r e

include H in
theorem array7 : (dats m 0 c).arrAt 7 cfg0.N = fun z : S8x4096x128.Idx => (args m c).laneK (z 0) (z 1) (z 2) := by
  refine (dats m 0 c).arrAt_eq_of_covers 7 (fun z : S8x4096x128.Idx => (args m c).laneK (z 0) (z 1) (z 2)) (by decide +kernel) fun t _ y => ?_
  refine (congrFun (after0_7 m c t) y).trans ?_
  obtain ⟨h, r, e, rfl⟩ : ∃ (h : Fin 8) (r : Fin 256) (e : Fin 128), y = ix3 h r e := ⟨y 0, y 1, y 2, place3 _ _ _ rfl rfl rfl⟩
  rw [emb7]
  exact tileK_at (reads m c t) H (carries m c H t.val _) h r e

theorem array8 : (dats m 0 c).arrAt 8 cfg0.N = fun z : S8x4096x128.Idx => (args m c).laneV (z 0) (z 1) (z 2) := by
  refine (dats m 0 c).arrAt_eq_of_covers 8 (fun z : S8x4096x128.Idx => (args m c).laneV (z 0) (z 1) (z 2)) (by decide +kernel) fun t _ y => ?_
  refine (congrFun (after0_8 m c t) y).trans ?_
  obtain ⟨h, r, e, rfl⟩ : ∃ (h : Fin 8) (r : Fin 256) (e : Fin 128), y = ix3 h r e := ⟨y 0, y 1, y 2, place3 _ _ _ rfl rfl rfl⟩
  rw [emb8]
  exact tileV_at (reads m c t) h r e

theorem array9 : (dats m 0 c).arrAt 9 cfg0.N = Cert.Reference5Ideal.Read.val_main_v45 (F := Ideal) (args m c).x0 (args m c).x1 (args m c).x2 (args m c).x3 (args m c).x4 := by
  refine (dats m 0 c).arrAt_eq_of_covers 9 (Cert.Reference5Ideal.Read.val_main_v45 (F := Ideal) (args m c).x0 (args m c).x1 (args m c).x2 (args m c).x3 (args m c).x4 : S4096x128.Idx → EReal) (by decide +kernel) fun t _ y => ?_
  refine (congrFun (after0_9 m c t) y).trans ?_
  obtain ⟨r, j, rfl⟩ : ∃ (r : Fin 256) (j : Fin 128), y = ix2 r j := ⟨y 0, y 1, place2 _ _ rfl rfl⟩
  rw [emb9]
  exact (outF_at (reads m c t) r j).trans (reference_f _ _).symm

theorem array10 : (dats m 0 c).arrAt 10 cfg0.N = Cert.Reference5Ideal.Read.val_main_v14 (F := Ideal) (args m c).x0 (args m c).x1 (args m c).x2 (args m c).x3 (args m c).x4 := by
  refine (dats m 0 c).arrAt_eq_of_covers 10 (Cert.Reference5Ideal.Read.val_main_v14 (F := Ideal) (args m c).x0 (args m c).x1 (args m c).x2 (args m c).x3 (args m c).x4 : S4096x512.Idx → EReal) (by decide +kernel) fun t _ y => ?_
  refine (congrFun (after0_10 m c t) y).trans ?_
  obtain ⟨r, j, rfl⟩ : ∃ (r : Fin 256) (j : Fin 512), y = ix2 r j := ⟨y 0, y 1, place2 _ _ rfl rfl⟩
  rw [emb10]
  exact (outP_at (reads m c t) r j).trans (reference_p _ _).symm

theorem array11 : (dats m 0 c).arrAt 11 cfg0.N = Cert.Reference5Ideal.Read.val_main_v15 (F := Ideal) (args m c).x0 (args m c).x1 (args m c).x2 (args m c).x3 (args m c).x4 := by
  refine (dats m 0 c).arrAt_eq_of_covers 11 (Cert.Reference5Ideal.Read.val_main_v15 (F := Ideal) (args m c).x0 (args m c).x1 (args m c).x2 (args m c).x3 (args m c).x4 : S4096x512.Idx → EReal) (by decide +kernel) fun t _ y => ?_
  refine (congrFun (after0_11 m c t) y).trans ?_
  obtain ⟨r, j, rfl⟩ : ∃ (r : Fin 256) (j : Fin 512), y = ix2 r j := ⟨y 0, y 1, place2 _ _ rfl rfl⟩
  rw [emb11]
  exact (outGa_at (reads m c t) r j).trans (reference_ga _ _).symm

theorem array12 : (dats m 0 c).arrAt 12 cfg0.N = Cert.Reference5Ideal.Read.val_main_v16 (F := Ideal) (args m c).x0 (args m c).x1 (args m c).x2 (args m c).x3 (args m c).x4 := by
  refine (dats m 0 c).arrAt_eq_of_covers 12 (Cert.Reference5Ideal.Read.val_main_v16 (F := Ideal) (args m c).x0 (args m c).x1 (args m c).x2 (args m c).x3 (args m c).x4 : S4096x512.Idx → EReal) (by decide +kernel) fun t _ y => ?_
  refine (congrFun (after0_12 m c t) y).trans ?_
  obtain ⟨r, j, rfl⟩ : ∃ (r : Fin 256) (j : Fin 512), y = ix2 r j := ⟨y 0, y 1, place2 _ _ rfl rfl⟩
  rw [emb12]
  exact (outGp_at (reads m c t) r j).trans (reference_gp _ _).symm

theorem array13 : (dats m 0 c).arrAt 13 cfg0.N = Cert.Reference5Ideal.Read.val_main_v52 (F := Ideal) (args m c).x0 (args m c).x1 (args m c).x2 := by
  refine (dats m 0 c).arrAt_eq_of_covers 13 (Cert.Reference5Ideal.Read.val_main_v52 (F := Ideal) (args m c).x0 (args m c).x1 (args m c).x2 : S4096x1024.Idx → EReal) (by decide +kernel) fun t _ y => ?_
  refine (congrFun (after0_13 m c t) y).trans ?_
  obtain ⟨r, j, rfl⟩ : ∃ (r : Fin 256) (j : Fin 1024), y = ix2 r j := ⟨y 0, y 1, place2 _ _ rfl rfl⟩
  rw [emb13]
  exact (outU_at (reads m c t) r j).trans (reference_u _ _).symm

/-! ## The packed arrays are the reference's -/

theorem ix3_of (z : S8x4096x128.Idx) : z = ix3 (z 0) (z 1) (z 2) := place3 _ _ _ rfl rfl rfl

include H in
theorem result6 : (dats m 0 c).arrAt 6 cfg0.N = Cert.Reference5Ideal.Read.val_main_v29 (F := Ideal) (args m c).x0 (args m c).x1 (args m c).x2 (args m c).x3 (args m c).x4 := by
  rw [array6 m c H]
  exact funext fun z => (reference_q H (z 0) (z 1) (z 2)).symm.trans (congrArg _ (ix3_of z).symm)

include H in
theorem result7 : (dats m 0 c).arrAt 7 cfg0.N = Cert.Reference5Ideal.Read.val_main_v38 (F := Ideal) (args m c).x0 (args m c).x1 (args m c).x2 (args m c).x3 (args m c).x4 := by
  rw [array7 m c H]
  exact funext fun z => (reference_k H (z 0) (z 1) (z 2)).symm.trans (congrArg _ (ix3_of z).symm)

theorem result8 : (dats m 0 c).arrAt 8 cfg0.N = Cert.Reference5Ideal.Read.val_main_v44 (F := Ideal) (args m c).x0 (args m c).x1 (args m c).x2 (args m c).x3 (args m c).x4 := by
  rw [array8 m c]
  exact funext fun z => (reference_v (z 0) (z 1) (z 2)).symm.trans (congrArg _ (ix3_of z).symm)

end Cert.Proof.Input
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.On_gradient_lanes
public import proofs.«01_k».proof.Proof.Attention.Words
public import proofs.«01_k».proof.Proof.Attention.Gradients
public import proofs.«01_k».proof.Proof.Attention.Finite
public import proofs.«01_k».proof.Proof.Projection.Words
public import proofs.«01_k».proof.Proof.Projection.Gradients
public import proofs.«01_k».proof.Proof.Middle.Frames
public import proofs.«01_k».proof.Proof.Forward.Frames
public import proofs.«01_k».proof.Proof.Forward.Words
public import proofs.«01_k».proof.Proof.Forward.Finite
public import proofs.«01_k».proof.Proof.Forward.Results
public import proofs.«01_k».proof.Proof.Input.Frames
public import proofs.«01_k».proof.Proof.Input.Words
public import proofs.«01_k».proof.Proof.Input.Finite
public import proofs.«01_k».proof.Proof.Input.Results

@[expose] public section

noncomputable section

namespace Cert.Proof

open Idealize.ShloMosaic

/-- The reference is a straight line of array operations without a semaphore. -/
theorem reference_frame : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- On the lanes that hold a gradient, and for arguments that are numbers, the kernel's results are the reference's. -/
theorem gradients : Cert.algebraic_KernelIdeal_ReferenceIdeal_on_gradient_lanes_pre_finite := by
  intro m g m' g' hpre hagree
  have H := fun c => Attention.numbers_of_finite (hpre c)
  refine ⟨fun c => (KernelIdeal.dats (F := Ideal) m 0 c).arrAt 4 Cert.KernelIdeal.cfg0.N, fun c => (KernelIdeal.dats (F := Ideal) m 0 c).arrAt 5 Cert.KernelIdeal.cfg0.N,
    fun c => (KernelIdeal.dats (F := Ideal) m 0 c).arrAt 6 Cert.KernelIdeal.cfg0.N, fun c => (KernelIdeal.dats (F := Ideal) m 0 c).arrAt 7 Cert.KernelIdeal.cfg0.N, ?_, ?_⟩
  · refine (θ_run Cert.KernelIdeal.defs _ _).mono (fun r h c => ?_)
      (θ_run_and (KernelIdeal.run_main (F := Ideal) m g) (KernelIdeal.frame (F := Ideal) m g))
    exact ⟨fun i _ => congrFun ((h.1 c).1 4) i, fun i _ => congrFun ((h.1 c).1 5) i, fun i _ => congrFun ((h.1 c).1 6) i,
      fun i _ => congrFun ((h.1 c).1 7) i, h.2.1 c⟩
  · refine (θ_run Cert.ReferenceIdeal.defs _ _).mono (fun r h c => ?_) (Cert.ReferenceIdeal.Value.run (F := Ideal) m' g')
    obtain ⟨e0, e1, e2, e3, e4⟩ := hagree c
    obtain ⟨r0, r1, r2, r3, hargs⟩ := h c
    rw [Cert.ReferenceIdeal.Read.val_main_v96_eq, e0, e1, e2, e3, e4] at r0
    rw [Cert.ReferenceIdeal.Read.val_main_v100_eq, e0, e1, e2, e3, e4] at r1
    rw [Cert.ReferenceIdeal.Read.val_main_v104_eq, e0, e1, e3, e4] at r2
    rw [Cert.ReferenceIdeal.Read.val_main_v106_eq, e0, e1, e2, e3, e4] at r3
    exact ⟨fun i hi => (congrFun r0 i).trans (Attention.query_agrees m c (H c) i (Attention.lane_lt i hi)).symm,
      fun i hi => (congrFun r1 i).trans (Attention.key_agrees m c (H c) i (Attention.lane_lt i hi)).symm,
      fun i hi => (congrFun r2 i).trans (Attention.value_agrees m c (H c) i (Attention.lane_lt i hi)).symm,
      fun i _ => (congrFun r3 i).trans (Attention.gate_agrees m c (H c) i).symm, hargs⟩

/-- So is the projection's reference. -/
theorem reference_frame2 : Cert.quiescent_Reference2Ideal := fun m g _ =>
  (θ_run Cert.Reference2Ideal.defs _ _).mono (fun r h => ⟨fun c => (h c).2.2.2.2.2.2, sem_eq_zero_of_no_sems (by decide) r.2⟩)
    (Cert.Reference2Ideal.Value.run (F := Ideal) m g)

set_option maxHeartbeats 4000000 in
/-- On the rows that hold a sum, and for arguments that are numbers, the projection's gradients are the reference's. -/
theorem gradients2 : Cert.algebraic_Kernel2Ideal_Reference2Ideal_on_small_rows_pre_finite2 := by
  intro m g m' g' hpre hagree
  have H := fun c => Projection.real_of_finite (Projection.args m c) (hpre c)
  refine ⟨fun c => (Projection.dats (F := Ideal) m 0 c).arrAt 15 Cert.Kernel2Ideal.cfg0.N, fun c => (Projection.dats (F := Ideal) m 0 c).arrAt 16 Cert.Kernel2Ideal.cfg0.N,
    fun c => (Projection.dats (F := Ideal) m 0 c).arrAt 17 Cert.Kernel2Ideal.cfg0.N, fun c => (Projection.dats (F := Ideal) m 0 c).arrAt 18 Cert.Kernel2Ideal.cfg0.N,
    fun c => (Projection.dats (F := Ideal) m 0 c).arrAt 19 Cert.Kernel2Ideal.cfg0.N, fun c => (Projection.dats (F := Ideal) m 0 c).arrAt 20 Cert.Kernel2Ideal.cfg0.N, ?_, ?_⟩
  · refine (θ_run Cert.Kernel2Ideal.defs _ _).mono (fun r h c => ?_)
      (θ_run_and (Projection.run_main (F := Ideal) m g) (Projection.frame (F := Ideal) m g))
    exact ⟨fun i _ => congrFun ((h.1 c).1 15) i, fun i _ => congrFun ((h.1 c).1 16) i, fun i _ => congrFun ((h.1 c).1 17) i,
      fun i _ => congrFun ((h.1 c).1 18) i, fun i _ => congrFun ((h.1 c).1 19) i, fun i _ => congrFun ((h.1 c).1 20) i, h.2.1 c⟩
  · refine (θ_run Cert.Reference2Ideal.defs _ _).mono (fun r h c => ?_) (Cert.Reference2Ideal.Value.run (F := Ideal) m' g')
    obtain ⟨e0, e1, e2, e3, e4, e5, e6, e7, e8, e9, e10, e11, e12⟩ := hagree c
    obtain ⟨r0, r1, r2, r3, r4, r5, hargs⟩ := h c
    let A : Projection.Args := ⟨m' ((c.tc : Thread Cert.Reference2Ideal.nD Cert.Reference2Ideal.τ).loc Cert.Reference2Ideal.main_arg0),
      m' ((c.tc : Thread Cert.Reference2Ideal.nD Cert.Reference2Ideal.τ).loc Cert.Reference2Ideal.main_arg1),
      m' ((c.tc : Thread Cert.Reference2Ideal.nD Cert.Reference2Ideal.τ).loc Cert.Reference2Ideal.main_arg2),
      m' ((c.tc : Thread Cert.Reference2Ideal.nD Cert.Reference2Ideal.τ).loc Cert.Reference2Ideal.main_arg3),
      m' ((c.tc : Thread Cert.Reference2Ideal.nD Cert.Reference2Ideal.τ).loc Cert.Reference2Ideal.main_arg4),
      m' ((c.tc : Thread Cert.Reference2Ideal.nD Cert.Reference2Ideal.τ).loc Cert.Reference2Ideal.main_arg5),
      m' ((c.tc : Thread Cert.Reference2Ideal.nD Cert.Reference2Ideal.τ).loc Cert.Reference2Ideal.main_arg6),
      m' ((c.tc : Thread Cert.Reference2Ideal.nD Cert.Reference2Ideal.τ).loc Cert.Reference2Ideal.main_arg7),
      m' ((c.tc : Thread Cert.Reference2Ideal.nD Cert.Reference2Ideal.τ).loc Cert.Reference2Ideal.main_arg8),
      m' ((c.tc : Thread Cert.Reference2Ideal.nD Cert.Reference2Ideal.τ).loc Cert.Reference2Ideal.main_arg9),
      m' ((c.tc : Thread Cert.Reference2Ideal.nD Cert.Reference2Ideal.τ).loc Cert.Reference2Ideal.main_arg10),
      m' ((c.tc : Thread Cert.Reference2Ideal.nD Cert.Reference2Ideal.τ).loc Cert.Reference2Ideal.main_arg11),
      m' ((c.tc : Thread Cert.Reference2Ideal.nD Cert.Reference2Ideal.τ).loc Cert.Reference2Ideal.main_arg12)⟩
    have hA : A = Projection.args m c := by simp only [A, e0, e1, e2, e3, e4, e5, e6, e7, e8, e9, e10, e11, e12]; rfl
    have q0 : r.2.mem ((c.tc : Thread Cert.Reference2Ideal.nD Cert.Reference2Ideal.τ).loc Cert.Reference2Ideal.main_v153)
        = Cert.Reference2Ideal.Read.val_main_v153 (F := Ideal) A.x0 A.x1 A.x2 A.x3 A.x4 A.x5 A.x6 A.x7 A.x8 A.x9 A.x10 A.x11 A.x12 := r0.trans (Cert.Reference2Ideal.Read.val_main_v153_eq _)
    have q1 : r.2.mem ((c.tc : Thread Cert.Reference2Ideal.nD Cert.Reference2Ideal.τ).loc Cert.Reference2Ideal.main_v155)
        = Cert.Reference2Ideal.Read.val_main_v155 (F := Ideal) A.x0 A.x1 A.x2 A.x3 A.x4 A.x5 A.x6 A.x7 A.x8 A.x9 A.x10 A.x11 := r1.trans (Cert.Reference2Ideal.Read.val_main_v155_eq _)
    have q2 : r.2.mem ((c.tc : Thread Cert.Reference2Ideal.nD Cert.Reference2Ideal.τ).loc Cert.Reference2Ideal.main_v146)
        = Cert.Reference2Ideal.Read.val_main_v146 (F := Ideal) A.x0 A.x1 A.x2 A.x3 A.x4 A.x5 A.x6 A.x7 A.x8 A.x9 A.x10 A.x11 := r2.trans (Cert.Reference2Ideal.Read.val_main_v146_eq _)
    have q3 : r.2.mem ((c.tc : Thread Cert.Reference2Ideal.nD Cert.Reference2Ideal.τ).loc Cert.Reference2Ideal.main_v156)
        = Cert.Reference2Ideal.Read.val_main_v156 (F := Ideal) A.x0 A.x1 A.x2 A.x3 A.x4 A.x5 A.x6 A.x7 A.x8 A.x9 A.x10 A.x11 := r3.trans (Cert.Reference2Ideal.Read.val_main_v156_eq _)
    have q4 : r.2.mem ((c.tc : Thread Cert.Reference2Ideal.nD Cert.Reference2Ideal.τ).loc Cert.Reference2Ideal.main_v157)
        = Cert.Reference2Ideal.Read.val_main_v157 (F := Ideal) A.x0 A.x1 A.x2 A.x3 A.x4 A.x5 A.x6 A.x7 A.x8 A.x9 A.x10 A.x11 := r4.trans (Cert.Reference2Ideal.Read.val_main_v157_eq _)
    have q5 : r.2.mem ((c.tc : Thread Cert.Reference2Ideal.nD Cert.Reference2Ideal.τ).loc Cert.Reference2Ideal.main_v159)
        = Cert.Reference2Ideal.Read.val_main_v159 (F := Ideal) A.x0 A.x1 A.x2 A.x3 A.x4 A.x5 A.x6 A.x7 A.x8 A.x9 A.x10 A.x11 := r5.trans (Cert.Reference2Ideal.Read.val_main_v159_eq _)
    rw [hA] at q0 q1 q2 q3 q4 q5
    refine ⟨fun i _ => ?_, fun i _ => ?_, fun i _ => ?_, fun i hi => ?_, fun i hi => ?_, fun i hi => ?_, hargs⟩
    · exact (congrFun q0 i).trans (Projection.x_agrees m c (H c) i).symm
    · exact (congrFun q1 i).trans (Projection.proj_agrees m c (H c) i).symm
    · exact (congrFun q2 i).trans (Projection.forget_agrees m c (H c) i).symm
    · exact (congrFun q3 i).trans (Projection.bias_agrees m c (H c) i (Projection.row_lt 1 (by norm_num) (by norm_num) i hi)).symm
    · exact (congrFun q4 i).trans (Projection.forgetBias_agrees m c (H c) i (Projection.row_lt 1 (by norm_num) (by norm_num) i hi)).symm
    · exact (congrFun q5 i).trans (Projection.mod_agrees m c (H c) i (Projection.row_lt 2 (by norm_num) (by norm_num) i hi)).symm

/-- So is the forward pass's reference. -/
theorem reference_frame4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- For arguments that are numbers, the attention's output and the rows it saves are the reference's. -/
theorem outputs4 : Cert.algebraic_Kernel4Ideal_Reference4Ideal_pre_finite4 := by
  intro m g m' g' hpre hagree
  have H := fun c => Forward.numbers_of_finite4 (hpre c)
  refine ⟨fun c => (Forward.dats (F := Ideal) m 0 c).arrAt 3 Cert.Kernel4Ideal.cfg0.N, fun c => (Forward.dats (F := Ideal) m 0 c).arrAt 4 Cert.Kernel4Ideal.cfg0.N, ?_, ?_⟩
  · refine (θ_run Cert.Kernel4Ideal.defs _ _).mono (fun r h c => ?_)
      (θ_run_and (Forward.run_main (F := Ideal) m g) (Forward.frame (F := Ideal) m g))
    exact ⟨(h.1 c).1 3, (h.1 c).1 4, h.2.1 c⟩
  · refine (θ_run Cert.Reference4Ideal.defs _ _).mono (fun r h c => ?_) (Cert.Reference4Ideal.Value.run (F := Ideal) m' g')
    obtain ⟨e0, e1, e2, e3⟩ := hagree c
    obtain ⟨r0, r1, hargs⟩ := h c
    rw [Cert.Reference4Ideal.Read.val_main_v80_eq, e0, e1, e2, e3] at r0
    rw [Cert.Reference4Ideal.Read.val_main_v82_eq, e0, e1, e3] at r1
    exact ⟨r0.trans (Forward.output_agrees m c (H c)).symm, r1.trans (Forward.saved_agrees m c (H c)).symm, hargs⟩

/-- So is the input projection's reference. -/
theorem reference_frame5 : Cert.quiescent_Reference5Ideal := fun m g _ =>
  (θ_run Cert.Reference5Ideal.defs _ _).mono (fun r h => ⟨fun c => (h c).2.2.2.2.2.2.2.2, sem_eq_zero_of_no_sems (by decide) r.2⟩)
    (Cert.Reference5Ideal.Value.run (F := Ideal) m g)

set_option maxHeartbeats 1600000 in
/-- For arguments that are numbers, everything the input projection leaves is the reference's. -/
theorem outputs5 : Cert.algebraic_Kernel5Ideal_Reference5Ideal_pre_finite5 := by
  intro m g m' g' hpre hagree
  have H := fun c => Input.numbers_of_finite5 (A := Input.args m c) (hpre c)
  refine ⟨fun c => (Input.dats (F := Ideal) m 0 c).arrAt 6 Cert.Kernel5Ideal.cfg0.N,
    fun c => (Input.dats (F := Ideal) m 0 c).arrAt 7 Cert.Kernel5Ideal.cfg0.N,
    fun c => (Input.dats (F := Ideal) m 0 c).arrAt 8 Cert.Kernel5Ideal.cfg0.N,
    fun c => (Input.dats (F := Ideal) m 0 c).arrAt 9 Cert.Kernel5Ideal.cfg0.N,
    fun c => (Input.dats (F := Ideal) m 0 c).arrAt 10 Cert.Kernel5Ideal.cfg0.N,
    fun c => (Input.dats (F := Ideal) m 0 c).arrAt 11 Cert.Kernel5Ideal.cfg0.N,
    fun c => (Input.dats (F := Ideal) m 0 c).arrAt 12 Cert.Kernel5Ideal.cfg0.N,
    fun c => (Input.dats (F := Ideal) m 0 c).arrAt 13 Cert.Kernel5Ideal.cfg0.N, ?_, ?_⟩
  · refine (θ_run Cert.Kernel5Ideal.defs _ _).mono (fun r h c => ?_)
      (θ_run_and (Input.run_main (F := Ideal) m g) (Input.frame (F := Ideal) m g))
    exact ⟨(h.1 c).1 6, (h.1 c).1 7, (h.1 c).1 8, (h.1 c).1 9, (h.1 c).1 10, (h.1 c).1 11, (h.1 c).1 12, (h.1 c).1 13, h.2.1 c⟩
  · refine (θ_run Cert.Reference5Ideal.defs _ _).mono (fun r h c => ?_) (Cert.Reference5Ideal.Value.run (F := Ideal) m' g')
    obtain ⟨e0, e1, e2, e3, e4⟩ := hagree c
    obtain ⟨r0, r1, r2, r3, r4, r5, r6, r7, hargs⟩ := h c
    rw [Cert.Reference5Ideal.Read.val_main_v29_eq, e0, e1, e2, e3, e4] at r0
    rw [Cert.Reference5Ideal.Read.val_main_v38_eq, e0, e1, e2, e3, e4] at r1
    rw [Cert.Reference5Ideal.Read.val_main_v44_eq, e0, e1, e2, e3, e4] at r2
    rw [Cert.Reference5Ideal.Read.val_main_v45_eq, e0, e1, e2, e3, e4] at r3
    rw [Cert.Reference5Ideal.Read.val_main_v14_eq, e0, e1, e2, e3, e4] at r4
    rw [Cert.Reference5Ideal.Read.val_main_v15_eq, e0, e1, e2, e3, e4] at r5
    rw [Cert.Reference5Ideal.Read.val_main_v16_eq, e0, e1, e2, e3, e4] at r6
    rw [Cert.Reference5Ideal.Read.val_main_v52_eq, e0, e1, e2] at r7
    exact ⟨r0.trans (Input.result6 m c (H c)).symm, r1.trans (Input.result7 m c (H c)).symm, r2.trans (Input.result8 m c).symm,
      r3.trans (Input.array9 m c).symm, r4.trans (Input.array10 m c).symm, r5.trans (Input.array11 m c).symm, r6.trans (Input.array12 m c).symm, r7.trans (Input.array13 m c).symm, hargs⟩

/-- The passes run, leave their arguments alone and end quiescent; those of the attention and of the input projection compute what their references do. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    Cert.Pre_finite.Gen.facts, Cert.Pre_finite2.Gen.facts, Cert.Pre_finite4.Gen.facts, Cert.Pre_finite5.Gen.facts, Cert.On_gradient_lanes.Gen.facts, Cert.On_small_rows.Gen.facts,
    fun m g _ => KernelIdeal.frame_word m g, fun m g _ => KernelIdeal.frame m g,
    fun m g _ => KernelIdeal.frame m g, reference_frame, fun m g _ => reference_frame m g trivial,
    fun m g _ => Projection.frame_word m g, fun m g _ => Projection.frame m g,
    fun m g _ => Projection.frame m g, reference_frame2, fun m g _ => reference_frame2 m g trivial,
    fun m g _ => Cert.Kernel3.Gen.frame m g, fun m g _ => Cert.Kernel3Ideal.Gen.frame m g,
    fun m g _ => Forward.frame_word m g, fun m g _ => Forward.frame m g,
    fun m g _ => Forward.frame m g, reference_frame4, fun m g _ => reference_frame4 m g trivial,
    fun m g _ => Input.frame_word m g, fun m g _ => Input.frame m g,
    fun m g _ => Input.frame m g, reference_frame5, fun m g _ => reference_frame5 m g trivial,
    IdealRules.named_const.statement Cert.KernelIdeal.κ "mask" .f32 0xF149F2CA#32 ⊥ rfl, gradients, trivial, gradients2, trivial,
    IdealRules.named_const.statement Cert.Kernel4Ideal.κ "mask" .f32 0xF149F2CA#32 ⊥ rfl, outputs4, trivial, outputs5⟩

end Cert.Proof

end
